-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_act [hPre_finite_act : Cert.Pre_finite_act.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_act.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2))) = (fun _ => 1#1)

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWReferenceIdeal (m : (ℓ : Loc Cert.UpWReferenceIdeal.nD Cert.UpWReferenceIdeal.τ Cert.UpWReferenceIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXReferenceIdeal (m : (ℓ : Loc Cert.DownXReferenceIdeal.nD Cert.DownXReferenceIdeal.τ Cert.DownXReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_SqW (m : (ℓ : Loc Cert.SqW.nD Cert.SqW.τ Cert.SqW.sig) → Buf (Elt Bits) ℓ) : Prop :=
  True

def Pre_SqWIdeal (m : (ℓ : Loc Cert.SqWIdeal.nD Cert.SqWIdeal.τ Cert.SqWIdeal.sig) → Buf (Elt Ideal) ℓ) : Prop :=
  True

def Pre_SqWReferenceIdeal (m : (ℓ : Loc Cert.SqWReferenceIdeal.nD Cert.SqWReferenceIdeal.τ Cert.SqWReferenceIdeal.sig) → Buf (Elt Ideal) ℓ) : Prop :=
  True

def Pre_QW (m : (ℓ : Loc Cert.QW.nD Cert.QW.τ Cert.QW.sig) → Buf (Elt Bits) ℓ) : Prop :=
  True

def Pre_QWIdeal (m : (ℓ : Loc Cert.QWIdeal.nD Cert.QWIdeal.τ Cert.QWIdeal.sig) → Buf (Elt Ideal) ℓ) : Prop :=
  True

def Pre_QWReferenceIdeal (m : (ℓ : Loc Cert.QWReferenceIdeal.nD Cert.QWReferenceIdeal.τ Cert.QWReferenceIdeal.sig) → Buf (Elt Ideal) ℓ) : Prop :=
  True

def Pre_InWb (m : (ℓ : Loc Cert.InWb.nD Cert.InWb.τ Cert.InWb.sig) → Buf (Elt Bits) ℓ) : Prop :=
  True

def Pre_InWbIdeal (m : (ℓ : Loc Cert.InWbIdeal.nD Cert.InWbIdeal.τ Cert.InWbIdeal.sig) → Buf (Elt Ideal) ℓ) : Prop :=
  True

def Pre_InWbReferenceIdeal (m : (ℓ : Loc Cert.InWbReferenceIdeal.nD Cert.InWbReferenceIdeal.τ Cert.InWbReferenceIdeal.sig) → Buf (Elt Ideal) ℓ) : Prop :=
  True

def Pre_InWa (m : (ℓ : Loc Cert.InWa.nD Cert.InWa.τ Cert.InWa.sig) → Buf (Elt Bits) ℓ) : Prop :=
  True

def Pre_InWaIdeal (m : (ℓ : Loc Cert.InWaIdeal.nD Cert.InWaIdeal.τ Cert.InWaIdeal.sig) → Buf (Elt Ideal) ℓ) : Prop :=
  True

def Pre_InWaReferenceIdeal (m : (ℓ : Loc Cert.InWaReferenceIdeal.nD Cert.InWaReferenceIdeal.τ Cert.InWaReferenceIdeal.sig) → Buf (Elt Ideal) ℓ) : Prop :=
  True

def Pre_SqX (m : (ℓ : Loc Cert.SqX.nD Cert.SqX.τ Cert.SqX.sig) → Buf (Elt Bits) ℓ) : Prop :=
  True

def Pre_SqXIdeal (m : (ℓ : Loc Cert.SqXIdeal.nD Cert.SqXIdeal.τ Cert.SqXIdeal.sig) → Buf (Elt Ideal) ℓ) : Prop :=
  True

def Pre_SqXReferenceIdeal (m : (ℓ : Loc Cert.SqXReferenceIdeal.nD Cert.SqXReferenceIdeal.τ Cert.SqXReferenceIdeal.sig) → Buf (Elt Ideal) ℓ) : Prop :=
  True

def Pre_InXb (m : (ℓ : Loc Cert.InXb.nD Cert.InXb.τ Cert.InXb.sig) → Buf (Elt Bits) ℓ) : Prop :=
  True

def Pre_InXbIdeal (m : (ℓ : Loc Cert.InXbIdeal.nD Cert.InXbIdeal.τ Cert.InXbIdeal.sig) → Buf (Elt Ideal) ℓ) : Prop :=
  True

def Pre_InXbReferenceIdeal (m : (ℓ : Loc Cert.InXbReferenceIdeal.nD Cert.InXbReferenceIdeal.τ Cert.InXbReferenceIdeal.sig) → Buf (Elt Ideal) ℓ) : Prop :=
  True

def Pre_InXa (m : (ℓ : Loc Cert.InXa.nD Cert.InXa.τ Cert.InXa.sig) → Buf (Elt Bits) ℓ) : Prop :=
  True

def Pre_InXaIdeal (m : (ℓ : Loc Cert.InXaIdeal.nD Cert.InXaIdeal.τ Cert.InXaIdeal.sig) → Buf (Elt Ideal) ℓ) : Prop :=
  True

def Pre_InXaReferenceIdeal (m : (ℓ : Loc Cert.InXaReferenceIdeal.nD Cert.InXaReferenceIdeal.τ Cert.InXaReferenceIdeal.sig) → Buf (Elt Ideal) ℓ) : Prop :=
  True

def Pre_QX (m : (ℓ : Loc Cert.QX.nD Cert.QX.τ Cert.QX.sig) → Buf (Elt Bits) ℓ) : Prop :=
  True

def Pre_QXIdeal (m : (ℓ : Loc Cert.QXIdeal.nD Cert.QXIdeal.τ Cert.QXIdeal.sig) → Buf (Elt Ideal) ℓ) : Prop :=
  True

def Pre_QXReferenceIdeal (m : (ℓ : Loc Cert.QXReferenceIdeal.nD Cert.QXReferenceIdeal.τ Cert.QXReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_Inb (m : (ℓ : Loc Cert.Inb.nD Cert.Inb.τ Cert.Inb.sig) → Buf (Elt Bits) ℓ) : Prop :=
  True

def Pre_InbIdeal (m : (ℓ : Loc Cert.InbIdeal.nD Cert.InbIdeal.τ Cert.InbIdeal.sig) → Buf (Elt Ideal) ℓ) : Prop :=
  True

def Pre_InbReferenceIdeal (m : (ℓ : Loc Cert.InbReferenceIdeal.nD Cert.InbReferenceIdeal.τ Cert.InbReferenceIdeal.sig) → Buf (Elt Ideal) ℓ) : Prop :=
  True

def Pre_Ina (m : (ℓ : Loc Cert.Ina.nD Cert.Ina.τ Cert.Ina.sig) → Buf (Elt Bits) ℓ) : Prop :=
  True

def Pre_InaIdeal (m : (ℓ : Loc Cert.InaIdeal.nD Cert.InaIdeal.τ Cert.InaIdeal.sig) → Buf (Elt Ideal) ℓ) : Prop :=
  True

def Pre_InaReferenceIdeal (m : (ℓ : Loc Cert.InaReferenceIdeal.nD Cert.InaReferenceIdeal.τ Cert.InaReferenceIdeal.sig) → Buf (Elt Ideal) ℓ) : Prop :=
  True

def Pre_Qf (m : (ℓ : Loc Cert.Qf.nD Cert.Qf.τ Cert.Qf.sig) → Buf (Elt Bits) ℓ) : Prop :=
  True

def Pre_QfIdeal (m : (ℓ : Loc Cert.QfIdeal.nD Cert.QfIdeal.τ Cert.QfIdeal.sig) → Buf (Elt Ideal) ℓ) : Prop :=
  True

def Pre_QfReferenceIdeal (m : (ℓ : Loc Cert.QfReferenceIdeal.nD Cert.QfReferenceIdeal.τ Cert.QfReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownB (m : (ℓ : Loc Cert.DownB.nD Cert.DownB.τ Cert.DownB.sig) → Buf (Elt Bits) ℓ) : Prop :=
  True

def Pre_DownBIdeal (m : (ℓ : Loc Cert.DownBIdeal.nD Cert.DownBIdeal.τ Cert.DownBIdeal.sig) → Buf (Elt Ideal) ℓ) : Prop :=
  True

def Pre_DownBReferenceIdeal (m : (ℓ : Loc Cert.DownBReferenceIdeal.nD Cert.DownBReferenceIdeal.τ Cert.DownBReferenceIdeal.sig) → Buf (Elt Ideal) ℓ) : Prop :=
  True

def Pre_GluF (m : (ℓ : Loc Cert.GluF.nD Cert.GluF.τ Cert.GluF.sig) → Buf (Elt Bits) ℓ) : Prop :=
  True

def Pre_GluFIdeal (m : (ℓ : Loc Cert.GluFIdeal.nD Cert.GluFIdeal.τ Cert.GluFIdeal.sig) → Buf (Elt Ideal) ℓ) : Prop :=
  True

def Pre_GluFReferenceIdeal (m : (ℓ : Loc Cert.GluFReferenceIdeal.nD Cert.GluFReferenceIdeal.τ Cert.GluFReferenceIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWReferenceIdeal (m : (ℓ : Loc Cert.GluWReferenceIdeal.nD Cert.GluWReferenceIdeal.τ Cert.GluWReferenceIdeal.sig) → Buf (Elt Ideal) ℓ) : Prop :=
  True

def Pre_GluX (m : (ℓ : Loc Cert.GluX.nD Cert.GluX.τ Cert.GluX.sig) → Buf (Elt Bits) ℓ) : Prop :=
  True

def Pre_GluXIdeal (m : (ℓ : Loc Cert.GluXIdeal.nD Cert.GluXIdeal.τ Cert.GluXIdeal.sig) → Buf (Elt Ideal) ℓ) : Prop :=
  True

def Pre_GluXReferenceIdeal (m : (ℓ : Loc Cert.GluXReferenceIdeal.nD Cert.GluXReferenceIdeal.τ Cert.GluXReferenceIdeal.sig) → Buf (Elt Ideal) ℓ) : Prop :=
  True

def Pre_KvF (m : (ℓ : Loc Cert.KvF.nD Cert.KvF.τ Cert.KvF.sig) → Buf (Elt Bits) ℓ) : Prop :=
  True

def Pre_KvFIdeal (m : (ℓ : Loc Cert.KvFIdeal.nD Cert.KvFIdeal.τ Cert.KvFIdeal.sig) → Buf (Elt Ideal) ℓ) : Prop :=
  True

def Pre_KvFReferenceIdeal (m : (ℓ : Loc Cert.KvFReferenceIdeal.nD Cert.KvFReferenceIdeal.τ Cert.KvFReferenceIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWReferenceIdeal (m : (ℓ : Loc Cert.KvWReferenceIdeal.nD Cert.KvWReferenceIdeal.τ Cert.KvWReferenceIdeal.sig) → Buf (Elt Ideal) ℓ) : Prop :=
  True

def Pre_KvX (m : (ℓ : Loc Cert.KvX.nD Cert.KvX.τ Cert.KvX.sig) → Buf (Elt Bits) ℓ) : Prop :=
  True

def Pre_KvXIdeal (m : (ℓ : Loc Cert.KvXIdeal.nD Cert.KvXIdeal.τ Cert.KvXIdeal.sig) → Buf (Elt Ideal) ℓ) : Prop :=
  True

def Pre_KvXReferenceIdeal (m : (ℓ : Loc Cert.KvXReferenceIdeal.nD Cert.KvXReferenceIdeal.τ Cert.KvXReferenceIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFReferenceIdeal (m : (ℓ : Loc Cert.NormFReferenceIdeal.nD Cert.NormFReferenceIdeal.τ Cert.NormFReferenceIdeal.sig) → Buf (Elt Ideal) ℓ) : Prop :=
  True

def Pre_MemF (m : (ℓ : Loc Cert.MemF.nD Cert.MemF.τ Cert.MemF.sig) → Buf (Elt Bits) ℓ) : Prop :=
  True

def Pre_MemFIdeal (m : (ℓ : Loc Cert.MemFIdeal.nD Cert.MemFIdeal.τ Cert.MemFIdeal.sig) → Buf (Elt Ideal) ℓ) : Prop :=
  True

def Pre_MemFReferenceIdeal (m : (ℓ : Loc Cert.MemFReferenceIdeal.nD Cert.MemFReferenceIdeal.τ Cert.MemFReferenceIdeal.sig) → Buf (Elt Ideal) ℓ) : Prop :=
  True

def Pre_MemB (m : (ℓ : Loc Cert.MemB.nD Cert.MemB.τ Cert.MemB.sig) → Buf (Elt Bits) ℓ) : Prop :=
  True

def Pre_MemBIdeal (m : (ℓ : Loc Cert.MemBIdeal.nD Cert.MemBIdeal.τ Cert.MemBIdeal.sig) → Buf (Elt Ideal) ℓ) : Prop :=
  True

def Pre_MemBReferenceIdeal (m : (ℓ : Loc Cert.MemBReferenceIdeal.nD Cert.MemBReferenceIdeal.τ Cert.MemBReferenceIdeal.sig) → Buf (Elt Ideal) ℓ) : Prop :=
  True

def Pre_XaF (m : (ℓ : Loc Cert.XaF.nD Cert.XaF.τ Cert.XaF.sig) → Buf (Elt Bits) ℓ) : Prop :=
  True

def Pre_XaFIdeal (m : (ℓ : Loc Cert.XaFIdeal.nD Cert.XaFIdeal.τ Cert.XaFIdeal.sig) → Buf (Elt Ideal) ℓ) : Prop :=
  True

def Pre_XaFReferenceIdeal (m : (ℓ : Loc Cert.XaFReferenceIdeal.nD Cert.XaFReferenceIdeal.τ Cert.XaFReferenceIdeal.sig) → Buf (Elt Ideal) ℓ) : Prop :=
  True

def Pre_GluB (m : (ℓ : Loc Cert.GluB.nD Cert.GluB.τ Cert.GluB.sig) → Buf (Elt Bits) ℓ) : Prop :=
  True

def Pre_GluBIdeal (m : (ℓ : Loc Cert.GluBIdeal.nD Cert.GluBIdeal.τ Cert.GluBIdeal.sig) → Buf (Elt Ideal) ℓ) : Prop :=
  True

def Pre_GluBReferenceIdeal (m : (ℓ : Loc Cert.GluBReferenceIdeal.nD Cert.GluBReferenceIdeal.τ Cert.GluBReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_ActF (m : (ℓ : Loc Cert.ActF.nD Cert.ActF.τ Cert.ActF.sig) → Buf (Elt Bits) ℓ) : Prop :=
  True

def Pre_ActFIdeal (m : (ℓ : Loc Cert.ActFIdeal.nD Cert.ActFIdeal.τ Cert.ActFIdeal.sig) → Buf (Elt Ideal) ℓ) : Prop :=
  True

def Pre_ActFReferenceIdeal (m : (ℓ : Loc Cert.ActFReferenceIdeal.nD Cert.ActFReferenceIdeal.τ Cert.ActFReferenceIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFReferenceIdeal (m : (ℓ : Loc Cert.GateFReferenceIdeal.nD Cert.GateFReferenceIdeal.τ Cert.GateFReferenceIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFReferenceIdeal (m : (ℓ : Loc Cert.ConvFReferenceIdeal.nD Cert.ConvFReferenceIdeal.τ Cert.ConvFReferenceIdeal.sig) → Buf (Elt Ideal) ℓ) : Prop :=
  True

def Pre_GluA (m : (ℓ : Loc Cert.GluA.nD Cert.GluA.τ Cert.GluA.sig) → Buf (Elt Bits) ℓ) : Prop :=
  True

def Pre_GluAIdeal (m : (ℓ : Loc Cert.GluAIdeal.nD Cert.GluAIdeal.τ Cert.GluAIdeal.sig) → Buf (Elt Ideal) ℓ) : Prop :=
  True

def Pre_GluAReferenceIdeal (m : (ℓ : Loc Cert.GluAReferenceIdeal.nD Cert.GluAReferenceIdeal.τ Cert.GluAReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_ActReferenceIdeal_pre_finite_act [hActReferenceIdeal : Cert.ActReferenceIdeal.Facts] [hPre_finite_act : Cert.Pre_finite_act.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_act m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWReferenceIdeal [hUpWReferenceIdeal : Cert.UpWReferenceIdeal.Facts] : Prop :=
  ∀ (m : (ℓ : Loc Cert.UpWReferenceIdeal.nD Cert.UpWReferenceIdeal.τ Cert.UpWReferenceIdeal.sig) → Buf (Elt Ideal) ℓ) (g : Dev Cert.UpWReferenceIdeal.nD → PrngReg), Pre_UpWReferenceIdeal m →
    θ_run (Cert.UpWReferenceIdeal.defs (F := Ideal)) (onTc (τ := Cert.UpWReferenceIdeal.τ) (Cert.UpWReferenceIdeal.main (F := Ideal))) ⟨m, fun _ => 0, g⟩ (fun r => (∀ c : Dev Cert.UpWReferenceIdeal.nD,
      r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
      ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXReferenceIdeal [hDownXReferenceIdeal : Cert.DownXReferenceIdeal.Facts] : Prop :=
  ∀ (m : (ℓ : Loc Cert.DownXReferenceIdeal.nD Cert.DownXReferenceIdeal.τ Cert.DownXReferenceIdeal.sig) → Buf (Elt Ideal) ℓ) (g : Dev Cert.DownXReferenceIdeal.nD → PrngReg), Pre_DownXReferenceIdeal m →
    θ_run (Cert.DownXReferenceIdeal.defs (F := Ideal)) (onTc (τ := Cert.DownXReferenceIdeal.τ) (Cert.DownXReferenceIdeal.main (F := Ideal))) ⟨m, fun _ => 0, g⟩ (fun r => (∀ c : Dev Cert.DownXReferenceIdeal.nD,
      r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
      ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_SqW [hSqW : Cert.SqW.Facts] : Prop :=
  ∀ (m : (ℓ : Loc Cert.SqW.nD Cert.SqW.τ Cert.SqW.sig) → Buf (Elt Bits) ℓ) (g : Dev Cert.SqW.nD → PrngReg), Pre_SqW m →
    θ_run (Cert.SqW.defs (F := Bits)) (onTc (τ := Cert.SqW.τ) (Cert.SqW.main (F := Bits))) ⟨m, fun _ => 0, g⟩ (fun r => (∀ c : Dev Cert.SqW.nD,
      r.2.mem ((c.tc : Thread Cert.SqW.nD Cert.SqW.τ).loc Cert.SqW.main_arg0) = m ((c.tc : Thread Cert.SqW.nD Cert.SqW.τ).loc Cert.SqW.main_arg0)
      ∧ r.2.mem ((c.tc : Thread Cert.SqW.nD Cert.SqW.τ).loc Cert.SqW.main_arg1) = m ((c.tc : Thread Cert.SqW.nD Cert.SqW.τ).loc Cert.SqW.main_arg1))
      ∧ r.2.sem = fun _ => 0)

def quiescent_SqWIdeal [hSqWIdeal : Cert.SqWIdeal.Facts] : Prop :=
  ∀ (m : (ℓ : Loc Cert.SqWIdeal.nD Cert.SqWIdeal.τ Cert.SqWIdeal.sig) → Buf (Elt Ideal) ℓ) (g : Dev Cert.SqWIdeal.nD → PrngReg), Pre_SqWIdeal m →
    θ_run (Cert.SqWIdeal.defs (F := Ideal)) (onTc (τ := Cert.SqWIdeal.τ) (Cert.SqWIdeal.main (F := Ideal))) ⟨m, fun _ => 0, g⟩ (fun r => (∀ c : Dev Cert.SqWIdeal.nD,
      r.2.mem ((c.tc : Thread Cert.SqWIdeal.nD Cert.SqWIdeal.τ).loc Cert.SqWIdeal.main_arg0) = m ((c.tc : Thread Cert.SqWIdeal.nD Cert.SqWIdeal.τ).loc Cert.SqWIdeal.main_arg0)
      ∧ r.2.mem ((c.tc : Thread Cert.SqWIdeal.nD Cert.SqWIdeal.τ).loc Cert.SqWIdeal.main_arg1) = m ((c.tc : Thread Cert.SqWIdeal.nD Cert.SqWIdeal.τ).loc Cert.SqWIdeal.main_arg1))
      ∧ r.2.sem = fun _ => 0)

def quiescent_SqWReferenceIdeal [hSqWReferenceIdeal : Cert.SqWReferenceIdeal.Facts] : Prop :=
  ∀ (m : (ℓ : Loc Cert.SqWReferenceIdeal.nD Cert.SqWReferenceIdeal.τ Cert.SqWReferenceIdeal.sig) → Buf (Elt Ideal) ℓ) (g : Dev Cert.SqWReferenceIdeal.nD → PrngReg), Pre_SqWReferenceIdeal m →
    θ_run (Cert.SqWReferenceIdeal.defs (F := Ideal)) (onTc (τ := Cert.SqWReferenceIdeal.τ) (Cert.SqWReferenceIdeal.main (F := Ideal))) ⟨m, fun _ => 0, g⟩ (fun r => (∀ c : Dev Cert.SqWReferenceIdeal.nD,
      r.2.mem ((c.tc : Thread Cert.SqWReferenceIdeal.nD Cert.SqWReferenceIdeal.τ).loc Cert.SqWReferenceIdeal.main_arg0) = m ((c.tc : Thread Cert.SqWReferenceIdeal.nD Cert.SqWReferenceIdeal.τ).loc Cert.SqWReferenceIdeal.main_arg0)
      ∧ r.2.mem ((c.tc : Thread Cert.SqWReferenceIdeal.nD Cert.SqWReferenceIdeal.τ).loc Cert.SqWReferenceIdeal.main_arg1) = m ((c.tc : Thread Cert.SqWReferenceIdeal.nD Cert.SqWReferenceIdeal.τ).loc Cert.SqWReferenceIdeal.main_arg1))
      ∧ r.2.sem = fun _ => 0)

def quiescent_QW [hQW : Cert.QW.Facts] : Prop :=
  ∀ (m : (ℓ : Loc Cert.QW.nD Cert.QW.τ Cert.QW.sig) → Buf (Elt Bits) ℓ) (g : Dev Cert.QW.nD → PrngReg), Pre_QW m →
    θ_run (Cert.QW.defs (F := Bits)) (onTc (τ := Cert.QW.τ) (Cert.QW.main (F := Bits))) ⟨m, fun _ => 0, g⟩ (fun r => (∀ c : Dev Cert.QW.nD,
      r.2.mem ((c.tc : Thread Cert.QW.nD Cert.QW.τ).loc Cert.QW.main_arg0) = m ((c.tc : Thread Cert.QW.nD Cert.QW.τ).loc Cert.QW.main_arg0)
      ∧ r.2.mem ((c.tc : Thread Cert.QW.nD Cert.QW.τ).loc Cert.QW.main_arg1) = m ((c.tc : Thread Cert.QW.nD Cert.QW.τ).loc Cert.QW.main_arg1))
      ∧ r.2.sem = fun _ => 0)

def quiescent_QWIdeal [hQWIdeal : Cert.QWIdeal.Facts] : Prop :=
  ∀ (m : (ℓ : Loc Cert.QWIdeal.nD Cert.QWIdeal.τ Cert.QWIdeal.sig) → Buf (Elt Ideal) ℓ) (g : Dev Cert.QWIdeal.nD → PrngReg), Pre_QWIdeal m →
    θ_run (Cert.QWIdeal.defs (F := Ideal)) (onTc (τ := Cert.QWIdeal.τ) (Cert.QWIdeal.main (F := Ideal))) ⟨m, fun _ => 0, g⟩ (fun r => (∀ c : Dev Cert.QWIdeal.nD,
      r.2.mem ((c.tc : Thread Cert.QWIdeal.nD Cert.QWIdeal.τ).loc Cert.QWIdeal.main_arg0) = m ((c.tc : Thread Cert.QWIdeal.nD Cert.QWIdeal.τ).loc Cert.QWIdeal.main_arg0)
      ∧ r.2.mem ((c.tc : Thread Cert.QWIdeal.nD Cert.QWIdeal.τ).loc Cert.QWIdeal.main_arg1) = m ((c.tc : Thread Cert.QWIdeal.nD Cert.QWIdeal.τ).loc Cert.QWIdeal.main_arg1))
      ∧ r.2.sem = fun _ => 0)

def quiescent_QWReferenceIdeal [hQWReferenceIdeal : Cert.QWReferenceIdeal.Facts] : Prop :=
  ∀ (m : (ℓ : Loc Cert.QWReferenceIdeal.nD Cert.QWReferenceIdeal.τ Cert.QWReferenceIdeal.sig) → Buf (Elt Ideal) ℓ) (g : Dev Cert.QWReferenceIdeal.nD → PrngReg), Pre_QWReferenceIdeal m →
    θ_run (Cert.QWReferenceIdeal.defs (F := Ideal)) (onTc (τ := Cert.QWReferenceIdeal.τ) (Cert.QWReferenceIdeal.main (F := Ideal))) ⟨m, fun _ => 0, g⟩ (fun r => (∀ c : Dev Cert.QWReferenceIdeal.nD,
      r.2.mem ((c.tc : Thread Cert.QWReferenceIdeal.nD Cert.QWReferenceIdeal.τ).loc Cert.QWReferenceIdeal.main_arg0) = m ((c.tc : Thread Cert.QWReferenceIdeal.nD Cert.QWReferenceIdeal.τ).loc Cert.QWReferenceIdeal.main_arg0)
      ∧ r.2.mem ((c.tc : Thread Cert.QWReferenceIdeal.nD Cert.QWReferenceIdeal.τ).loc Cert.QWReferenceIdeal.main_arg1) = m ((c.tc : Thread Cert.QWReferenceIdeal.nD Cert.QWReferenceIdeal.τ).loc Cert.QWReferenceIdeal.main_arg1))
      ∧ r.2.sem = fun _ => 0)

def quiescent_InWb [hInWb : Cert.InWb.Facts] : Prop :=
  ∀ (m : (ℓ : Loc Cert.InWb.nD Cert.InWb.τ Cert.InWb.sig) → Buf (Elt Bits) ℓ) (g : Dev Cert.InWb.nD → PrngReg), Pre_InWb m →
    θ_run (Cert.InWb.defs (F := Bits)) (onTc (τ := Cert.InWb.τ) (Cert.InWb.main (F := Bits))) ⟨m, fun _ => 0, g⟩ (fun r => (∀ c : Dev Cert.InWb.nD,
      r.2.mem ((c.tc : Thread Cert.InWb.nD Cert.InWb.τ).loc Cert.InWb.main_arg0) = m ((c.tc : Thread Cert.InWb.nD Cert.InWb.τ).loc Cert.InWb.main_arg0)
      ∧ r.2.mem ((c.tc : Thread Cert.InWb.nD Cert.InWb.τ).loc Cert.InWb.main_arg1) = m ((c.tc : Thread Cert.InWb.nD Cert.InWb.τ).loc Cert.InWb.main_arg1))
      ∧ r.2.sem = fun _ => 0)

def quiescent_InWbIdeal [hInWbIdeal : Cert.InWbIdeal.Facts] : Prop :=
  ∀ (m : (ℓ : Loc Cert.InWbIdeal.nD Cert.InWbIdeal.τ Cert.InWbIdeal.sig) → Buf (Elt Ideal) ℓ) (g : Dev Cert.InWbIdeal.nD → PrngReg), Pre_InWbIdeal m →
    θ_run (Cert.InWbIdeal.defs (F := Ideal)) (onTc (τ := Cert.InWbIdeal.τ) (Cert.InWbIdeal.main (F := Ideal))) ⟨m, fun _ => 0, g⟩ (fun r => (∀ c : Dev Cert.InWbIdeal.nD,
      r.2.mem ((c.tc : Thread Cert.InWbIdeal.nD Cert.InWbIdeal.τ).loc Cert.InWbIdeal.main_arg0) = m ((c.tc : Thread Cert.InWbIdeal.nD Cert.InWbIdeal.τ).loc Cert.InWbIdeal.main_arg0)
      ∧ r.2.mem ((c.tc : Thread Cert.InWbIdeal.nD Cert.InWbIdeal.τ).loc Cert.InWbIdeal.main_arg1) = m ((c.tc : Thread Cert.InWbIdeal.nD Cert.InWbIdeal.τ).loc Cert.InWbIdeal.main_arg1))
      ∧ r.2.sem = fun _ => 0)

def quiescent_InWbReferenceIdeal [hInWbReferenceIdeal : Cert.InWbReferenceIdeal.Facts] : Prop :=
  ∀ (m : (ℓ : Loc Cert.InWbReferenceIdeal.nD Cert.InWbReferenceIdeal.τ Cert.InWbReferenceIdeal.sig) → Buf (Elt Ideal) ℓ) (g : Dev Cert.InWbReferenceIdeal.nD → PrngReg), Pre_InWbReferenceIdeal m →
    θ_run (Cert.InWbReferenceIdeal.defs (F := Ideal)) (onTc (τ := Cert.InWbReferenceIdeal.τ) (Cert.InWbReferenceIdeal.main (F := Ideal))) ⟨m, fun _ => 0, g⟩ (fun r => (∀ c : Dev Cert.InWbReferenceIdeal.nD,
      r.2.mem ((c.tc : Thread Cert.InWbReferenceIdeal.nD Cert.InWbReferenceIdeal.τ).loc Cert.InWbReferenceIdeal.main_arg0) = m ((c.tc : Thread Cert.InWbReferenceIdeal.nD Cert.InWbReferenceIdeal.τ).loc Cert.InWbReferenceIdeal.main_arg0)
      ∧ r.2.mem ((c.tc : Thread Cert.InWbReferenceIdeal.nD Cert.InWbReferenceIdeal.τ).loc Cert.InWbReferenceIdeal.main_arg1) = m ((c.tc : Thread Cert.InWbReferenceIdeal.nD Cert.InWbReferenceIdeal.τ).loc Cert.InWbReferenceIdeal.main_arg1))
      ∧ r.2.sem = fun _ => 0)

def quiescent_InWa [hInWa : Cert.InWa.Facts] : Prop :=
  ∀ (m : (ℓ : Loc Cert.InWa.nD Cert.InWa.τ Cert.InWa.sig) → Buf (Elt Bits) ℓ) (g : Dev Cert.InWa.nD → PrngReg), Pre_InWa m →
    θ_run (Cert.InWa.defs (F := Bits)) (onTc (τ := Cert.InWa.τ) (Cert.InWa.main (F := Bits))) ⟨m, fun _ => 0, g⟩ (fun r => (∀ c : Dev Cert.InWa.nD,
      r.2.mem ((c.tc : Thread Cert.InWa.nD Cert.InWa.τ).loc Cert.InWa.main_arg0) = m ((c.tc : Thread Cert.InWa.nD Cert.InWa.τ).loc Cert.InWa.main_arg0)
      ∧ r.2.mem ((c.tc : Thread Cert.InWa.nD Cert.InWa.τ).loc Cert.InWa.main_arg1) = m ((c.tc : Thread Cert.InWa.nD Cert.InWa.τ).loc Cert.InWa.main_arg1)
      ∧ r.2.mem ((c.tc : Thread Cert.InWa.nD Cert.InWa.τ).loc Cert.InWa.main_arg2) = m ((c.tc : Thread Cert.InWa.nD Cert.InWa.τ).loc Cert.InWa.main_arg2))
      ∧ r.2.sem = fun _ => 0)

def quiescent_InWaIdeal [hInWaIdeal : Cert.InWaIdeal.Facts] : Prop :=
  ∀ (m : (ℓ : Loc Cert.InWaIdeal.nD Cert.InWaIdeal.τ Cert.InWaIdeal.sig) → Buf (Elt Ideal) ℓ) (g : Dev Cert.InWaIdeal.nD → PrngReg), Pre_InWaIdeal m →
    θ_run (Cert.InWaIdeal.defs (F := Ideal)) (onTc (τ := Cert.InWaIdeal.τ) (Cert.InWaIdeal.main (F := Ideal))) ⟨m, fun _ => 0, g⟩ (fun r => (∀ c : Dev Cert.InWaIdeal.nD,
      r.2.mem ((c.tc : Thread Cert.InWaIdeal.nD Cert.InWaIdeal.τ).loc Cert.InWaIdeal.main_arg0) = m ((c.tc : Thread Cert.InWaIdeal.nD Cert.InWaIdeal.τ).loc Cert.InWaIdeal.main_arg0)
      ∧ r.2.mem ((c.tc : Thread Cert.InWaIdeal.nD Cert.InWaIdeal.τ).loc Cert.InWaIdeal.main_arg1) = m ((c.tc : Thread Cert.InWaIdeal.nD Cert.InWaIdeal.τ).loc Cert.InWaIdeal.main_arg1)
      ∧ r.2.mem ((c.tc : Thread Cert.InWaIdeal.nD Cert.InWaIdeal.τ).loc Cert.InWaIdeal.main_arg2) = m ((c.tc : Thread Cert.InWaIdeal.nD Cert.InWaIdeal.τ).loc Cert.InWaIdeal.main_arg2))
      ∧ r.2.sem = fun _ => 0)

def quiescent_InWaReferenceIdeal [hInWaReferenceIdeal : Cert.InWaReferenceIdeal.Facts] : Prop :=
  ∀ (m : (ℓ : Loc Cert.InWaReferenceIdeal.nD Cert.InWaReferenceIdeal.τ Cert.InWaReferenceIdeal.sig) → Buf (Elt Ideal) ℓ) (g : Dev Cert.InWaReferenceIdeal.nD → PrngReg), Pre_InWaReferenceIdeal m →
    θ_run (Cert.InWaReferenceIdeal.defs (F := Ideal)) (onTc (τ := Cert.InWaReferenceIdeal.τ) (Cert.InWaReferenceIdeal.main (F := Ideal))) ⟨m, fun _ => 0, g⟩ (fun r => (∀ c : Dev Cert.InWaReferenceIdeal.nD,
      r.2.mem ((c.tc : Thread Cert.InWaReferenceIdeal.nD Cert.InWaReferenceIdeal.τ).loc Cert.InWaReferenceIdeal.main_arg0) = m ((c.tc : Thread Cert.InWaReferenceIdeal.nD Cert.InWaReferenceIdeal.τ).loc Cert.InWaReferenceIdeal.main_arg0)
      ∧ r.2.mem ((c.tc : Thread Cert.InWaReferenceIdeal.nD Cert.InWaReferenceIdeal.τ).loc Cert.InWaReferenceIdeal.main_arg1) = m ((c.tc : Thread Cert.InWaReferenceIdeal.nD Cert.InWaReferenceIdeal.τ).loc Cert.InWaReferenceIdeal.main_arg1)
      ∧ r.2.mem ((c.tc : Thread Cert.InWaReferenceIdeal.nD Cert.InWaReferenceIdeal.τ).loc Cert.InWaReferenceIdeal.main_arg2) = m ((c.tc : Thread Cert.InWaReferenceIdeal.nD Cert.InWaReferenceIdeal.τ).loc Cert.InWaReferenceIdeal.main_arg2))
      ∧ r.2.sem = fun _ => 0)

def quiescent_SqX [hSqX : Cert.SqX.Facts] : Prop :=
  ∀ (m : (ℓ : Loc Cert.SqX.nD Cert.SqX.τ Cert.SqX.sig) → Buf (Elt Bits) ℓ) (g : Dev Cert.SqX.nD → PrngReg), Pre_SqX m →
    θ_run (Cert.SqX.defs (F := Bits)) (onTc (τ := Cert.SqX.τ) (Cert.SqX.main (F := Bits))) ⟨m, fun _ => 0, g⟩ (fun r => (∀ c : Dev Cert.SqX.nD,
      r.2.mem ((c.tc : Thread Cert.SqX.nD Cert.SqX.τ).loc Cert.SqX.main_arg0) = m ((c.tc : Thread Cert.SqX.nD Cert.SqX.τ).loc Cert.SqX.main_arg0)
      ∧ r.2.mem ((c.tc : Thread Cert.SqX.nD Cert.SqX.τ).loc Cert.SqX.main_arg1) = m ((c.tc : Thread Cert.SqX.nD Cert.SqX.τ).loc Cert.SqX.main_arg1))
      ∧ r.2.sem = fun _ => 0)

def quiescent_SqXIdeal [hSqXIdeal : Cert.SqXIdeal.Facts] : Prop :=
  ∀ (m : (ℓ : Loc Cert.SqXIdeal.nD Cert.SqXIdeal.τ Cert.SqXIdeal.sig) → Buf (Elt Ideal) ℓ) (g : Dev Cert.SqXIdeal.nD → PrngReg), Pre_SqXIdeal m →
    θ_run (Cert.SqXIdeal.defs (F := Ideal)) (onTc (τ := Cert.SqXIdeal.τ) (Cert.SqXIdeal.main (F := Ideal))) ⟨m, fun _ => 0, g⟩ (fun r => (∀ c : Dev Cert.SqXIdeal.nD,
      r.2.mem ((c.tc : Thread Cert.SqXIdeal.nD Cert.SqXIdeal.τ).loc Cert.SqXIdeal.main_arg0) = m ((c.tc : Thread Cert.SqXIdeal.nD Cert.SqXIdeal.τ).loc Cert.SqXIdeal.main_arg0)
      ∧ r.2.mem ((c.tc : Thread Cert.SqXIdeal.nD Cert.SqXIdeal.τ).loc Cert.SqXIdeal.main_arg1) = m ((c.tc : Thread Cert.SqXIdeal.nD Cert.SqXIdeal.τ).loc Cert.SqXIdeal.main_arg1))
      ∧ r.2.sem = fun _ => 0)

def quiescent_SqXReferenceIdeal [hSqXReferenceIdeal : Cert.SqXReferenceIdeal.Facts] : Prop :=
  ∀ (m : (ℓ : Loc Cert.SqXReferenceIdeal.nD Cert.SqXReferenceIdeal.τ Cert.SqXReferenceIdeal.sig) → Buf (Elt Ideal) ℓ) (g : Dev Cert.SqXReferenceIdeal.nD → PrngReg), Pre_SqXReferenceIdeal m →
    θ_run (Cert.SqXReferenceIdeal.defs (F := Ideal)) (onTc (τ := Cert.SqXReferenceIdeal.τ) (Cert.SqXReferenceIdeal.main (F := Ideal))) ⟨m, fun _ => 0, g⟩ (fun r => (∀ c : Dev Cert.SqXReferenceIdeal.nD,
      r.2.mem ((c.tc : Thread Cert.SqXReferenceIdeal.nD Cert.SqXReferenceIdeal.τ).loc Cert.SqXReferenceIdeal.main_arg0) = m ((c.tc : Thread Cert.SqXReferenceIdeal.nD Cert.SqXReferenceIdeal.τ).loc Cert.SqXReferenceIdeal.main_arg0)
      ∧ r.2.mem ((c.tc : Thread Cert.SqXReferenceIdeal.nD Cert.SqXReferenceIdeal.τ).loc Cert.SqXReferenceIdeal.main_arg1) = m ((c.tc : Thread Cert.SqXReferenceIdeal.nD Cert.SqXReferenceIdeal.τ).loc Cert.SqXReferenceIdeal.main_arg1))
      ∧ r.2.sem = fun _ => 0)

def quiescent_InXb [hInXb : Cert.InXb.Facts] : Prop :=
  ∀ (m : (ℓ : Loc Cert.InXb.nD Cert.InXb.τ Cert.InXb.sig) → Buf (Elt Bits) ℓ) (g : Dev Cert.InXb.nD → PrngReg), Pre_InXb m →
    θ_run (Cert.InXb.defs (F := Bits)) (onTc (τ := Cert.InXb.τ) (Cert.InXb.main (F := Bits))) ⟨m, fun _ => 0, g⟩ (fun r => (∀ c : Dev Cert.InXb.nD,
      r.2.mem ((c.tc : Thread Cert.InXb.nD Cert.InXb.τ).loc Cert.InXb.main_arg0) = m ((c.tc : Thread Cert.InXb.nD Cert.InXb.τ).loc Cert.InXb.main_arg0)
      ∧ r.2.mem ((c.tc : Thread Cert.InXb.nD Cert.InXb.τ).loc Cert.InXb.main_arg1) = m ((c.tc : Thread Cert.InXb.nD Cert.InXb.τ).loc Cert.InXb.main_arg1)
      ∧ r.2.mem ((c.tc : Thread Cert.InXb.nD Cert.InXb.τ).loc Cert.InXb.main_arg2) = m ((c.tc : Thread Cert.InXb.nD Cert.InXb.τ).loc Cert.InXb.main_arg2)
      ∧ r.2.mem ((c.tc : Thread Cert.InXb.nD Cert.InXb.τ).loc Cert.InXb.main_arg3) = m ((c.tc : Thread Cert.InXb.nD Cert.InXb.τ).loc Cert.InXb.main_arg3)
      ∧ r.2.mem ((c.tc : Thread Cert.InXb.nD Cert.InXb.τ).loc Cert.InXb.main_arg4) = m ((c.tc : Thread Cert.InXb.nD Cert.InXb.τ).loc Cert.InXb.main_arg4))
      ∧ r.2.sem = fun _ => 0)

def quiescent_InXbIdeal [hInXbIdeal : Cert.InXbIdeal.Facts] : Prop :=
  ∀ (m : (ℓ : Loc Cert.InXbIdeal.nD Cert.InXbIdeal.τ Cert.InXbIdeal.sig) → Buf (Elt Ideal) ℓ) (g : Dev Cert.InXbIdeal.nD → PrngReg), Pre_InXbIdeal m →
    θ_run (Cert.InXbIdeal.defs (F := Ideal)) (onTc (τ := Cert.InXbIdeal.τ) (Cert.InXbIdeal.main (F := Ideal))) ⟨m, fun _ => 0, g⟩ (fun r => (∀ c : Dev Cert.InXbIdeal.nD,
      r.2.mem ((c.tc : Thread Cert.InXbIdeal.nD Cert.InXbIdeal.τ).loc Cert.InXbIdeal.main_arg0) = m ((c.tc : Thread Cert.InXbIdeal.nD Cert.InXbIdeal.τ).loc Cert.InXbIdeal.main_arg0)
      ∧ r.2.mem ((c.tc : Thread Cert.InXbIdeal.nD Cert.InXbIdeal.τ).loc Cert.InXbIdeal.main_arg1) = m ((c.tc : Thread Cert.InXbIdeal.nD Cert.InXbIdeal.τ).loc Cert.InXbIdeal.main_arg1)
      ∧ r.2.mem ((c.tc : Thread Cert.InXbIdeal.nD Cert.InXbIdeal.τ).loc Cert.InXbIdeal.main_arg2) = m ((c.tc : Thread Cert.InXbIdeal.nD Cert.InXbIdeal.τ).loc Cert.InXbIdeal.main_arg2)
      ∧ r.2.mem ((c.tc : Thread Cert.InXbIdeal.nD Cert.InXbIdeal.τ).loc Cert.InXbIdeal.main_arg3) = m ((c.tc : Thread Cert.InXbIdeal.nD Cert.InXbIdeal.τ).loc Cert.InXbIdeal.main_arg3)
      ∧ r.2.mem ((c.tc : Thread Cert.InXbIdeal.nD Cert.InXbIdeal.τ).loc Cert.InXbIdeal.main_arg4) = m ((c.tc : Thread Cert.InXbIdeal.nD Cert.InXbIdeal.τ).loc Cert.InXbIdeal.main_arg4))
      ∧ r.2.sem = fun _ => 0)

def quiescent_InXbReferenceIdeal [hInXbReferenceIdeal : Cert.InXbReferenceIdeal.Facts] : Prop :=
  ∀ (m : (ℓ : Loc Cert.InXbReferenceIdeal.nD Cert.InXbReferenceIdeal.τ Cert.InXbReferenceIdeal.sig) → Buf (Elt Ideal) ℓ) (g : Dev Cert.InXbReferenceIdeal.nD → PrngReg), Pre_InXbReferenceIdeal m →
    θ_run (Cert.InXbReferenceIdeal.defs (F := Ideal)) (onTc (τ := Cert.InXbReferenceIdeal.τ) (Cert.InXbReferenceIdeal.main (F := Ideal))) ⟨m, fun _ => 0, g⟩ (fun r => (∀ c : Dev Cert.InXbReferenceIdeal.nD,
      r.2.mem ((c.tc : Thread Cert.InXbReferenceIdeal.nD Cert.InXbReferenceIdeal.τ).loc Cert.InXbReferenceIdeal.main_arg0) = m ((c.tc : Thread Cert.InXbReferenceIdeal.nD Cert.InXbReferenceIdeal.τ).loc Cert.InXbReferenceIdeal.main_arg0)
      ∧ r.2.mem ((c.tc : Thread Cert.InXbReferenceIdeal.nD Cert.InXbReferenceIdeal.τ).loc Cert.InXbReferenceIdeal.main_arg1) = m ((c.tc : Thread Cert.InXbReferenceIdeal.nD Cert.InXbReferenceIdeal.τ).loc Cert.InXbReferenceIdeal.main_arg1)
      ∧ r.2.mem ((c.tc : Thread Cert.InXbReferenceIdeal.nD Cert.InXbReferenceIdeal.τ).loc Cert.InXbReferenceIdeal.main_arg2) = m ((c.tc : Thread Cert.InXbReferenceIdeal.nD Cert.InXbReferenceIdeal.τ).loc Cert.InXbReferenceIdeal.main_arg2)
      ∧ r.2.mem ((c.tc : Thread Cert.InXbReferenceIdeal.nD Cert.InXbReferenceIdeal.τ).loc Cert.InXbReferenceIdeal.main_arg3) = m ((c.tc : Thread Cert.InXbReferenceIdeal.nD Cert.InXbReferenceIdeal.τ).loc Cert.InXbReferenceIdeal.main_arg3)
      ∧ r.2.mem ((c.tc : Thread Cert.InXbReferenceIdeal.nD Cert.InXbReferenceIdeal.τ).loc Cert.InXbReferenceIdeal.main_arg4) = m ((c.tc : Thread Cert.InXbReferenceIdeal.nD Cert.InXbReferenceIdeal.τ).loc Cert.InXbReferenceIdeal.main_arg4))
      ∧ r.2.sem = fun _ => 0)

def quiescent_InXa [hInXa : Cert.InXa.Facts] : Prop :=
  ∀ (m : (ℓ : Loc Cert.InXa.nD Cert.InXa.τ Cert.InXa.sig) → Buf (Elt Bits) ℓ) (g : Dev Cert.InXa.nD → PrngReg), Pre_InXa m →
    θ_run (Cert.InXa.defs (F := Bits)) (onTc (τ := Cert.InXa.τ) (Cert.InXa.main (F := Bits))) ⟨m, fun _ => 0, g⟩ (fun r => (∀ c : Dev Cert.InXa.nD,
      r.2.mem ((c.tc : Thread Cert.InXa.nD Cert.InXa.τ).loc Cert.InXa.main_arg0) = m ((c.tc : Thread Cert.InXa.nD Cert.InXa.τ).loc Cert.InXa.main_arg0)
      ∧ r.2.mem ((c.tc : Thread Cert.InXa.nD Cert.InXa.τ).loc Cert.InXa.main_arg1) = m ((c.tc : Thread Cert.InXa.nD Cert.InXa.τ).loc Cert.InXa.main_arg1)
      ∧ r.2.mem ((c.tc : Thread Cert.InXa.nD Cert.InXa.τ).loc Cert.InXa.main_arg2) = m ((c.tc : Thread Cert.InXa.nD Cert.InXa.τ).loc Cert.InXa.main_arg2)
      ∧ r.2.mem ((c.tc : Thread Cert.InXa.nD Cert.InXa.τ).loc Cert.InXa.main_arg3) = m ((c.tc : Thread Cert.InXa.nD Cert.InXa.τ).loc Cert.InXa.main_arg3)
      ∧ r.2.mem ((c.tc : Thread Cert.InXa.nD Cert.InXa.τ).loc Cert.InXa.main_arg4) = m ((c.tc : Thread Cert.InXa.nD Cert.InXa.τ).loc Cert.InXa.main_arg4))
      ∧ r.2.sem = fun _ => 0)

def quiescent_InXaIdeal [hInXaIdeal : Cert.InXaIdeal.Facts] : Prop :=
  ∀ (m : (ℓ : Loc Cert.InXaIdeal.nD Cert.InXaIdeal.τ Cert.InXaIdeal.sig) → Buf (Elt Ideal) ℓ) (g : Dev Cert.InXaIdeal.nD → PrngReg), Pre_InXaIdeal m →
    θ_run (Cert.InXaIdeal.defs (F := Ideal)) (onTc (τ := Cert.InXaIdeal.τ) (Cert.InXaIdeal.main (F := Ideal))) ⟨m, fun _ => 0, g⟩ (fun r => (∀ c : Dev Cert.InXaIdeal.nD,
      r.2.mem ((c.tc : Thread Cert.InXaIdeal.nD Cert.InXaIdeal.τ).loc Cert.InXaIdeal.main_arg0) = m ((c.tc : Thread Cert.InXaIdeal.nD Cert.InXaIdeal.τ).loc Cert.InXaIdeal.main_arg0)
      ∧ r.2.mem ((c.tc : Thread Cert.InXaIdeal.nD Cert.InXaIdeal.τ).loc Cert.InXaIdeal.main_arg1) = m ((c.tc : Thread Cert.InXaIdeal.nD Cert.InXaIdeal.τ).loc Cert.InXaIdeal.main_arg1)
      ∧ r.2.mem ((c.tc : Thread Cert.InXaIdeal.nD Cert.InXaIdeal.τ).loc Cert.InXaIdeal.main_arg2) = m ((c.tc : Thread Cert.InXaIdeal.nD Cert.InXaIdeal.τ).loc Cert.InXaIdeal.main_arg2)
      ∧ r.2.mem ((c.tc : Thread Cert.InXaIdeal.nD Cert.InXaIdeal.τ).loc Cert.InXaIdeal.main_arg3) = m ((c.tc : Thread Cert.InXaIdeal.nD Cert.InXaIdeal.τ).loc Cert.InXaIdeal.main_arg3)
      ∧ r.2.mem ((c.tc : Thread Cert.InXaIdeal.nD Cert.InXaIdeal.τ).loc Cert.InXaIdeal.main_arg4) = m ((c.tc : Thread Cert.InXaIdeal.nD Cert.InXaIdeal.τ).loc Cert.InXaIdeal.main_arg4))
      ∧ r.2.sem = fun _ => 0)

def quiescent_InXaReferenceIdeal [hInXaReferenceIdeal : Cert.InXaReferenceIdeal.Facts] : Prop :=
  ∀ (m : (ℓ : Loc Cert.InXaReferenceIdeal.nD Cert.InXaReferenceIdeal.τ Cert.InXaReferenceIdeal.sig) → Buf (Elt Ideal) ℓ) (g : Dev Cert.InXaReferenceIdeal.nD → PrngReg), Pre_InXaReferenceIdeal m →
    θ_run (Cert.InXaReferenceIdeal.defs (F := Ideal)) (onTc (τ := Cert.InXaReferenceIdeal.τ) (Cert.InXaReferenceIdeal.main (F := Ideal))) ⟨m, fun _ => 0, g⟩ (fun r => (∀ c : Dev Cert.InXaReferenceIdeal.nD,
      r.2.mem ((c.tc : Thread Cert.InXaReferenceIdeal.nD Cert.InXaReferenceIdeal.τ).loc Cert.InXaReferenceIdeal.main_arg0) = m ((c.tc : Thread Cert.InXaReferenceIdeal.nD Cert.InXaReferenceIdeal.τ).loc Cert.InXaReferenceIdeal.main_arg0)
      ∧ r.2.mem ((c.tc : Thread Cert.InXaReferenceIdeal.nD Cert.InXaReferenceIdeal.τ).loc Cert.InXaReferenceIdeal.main_arg1) = m ((c.tc : Thread Cert.InXaReferenceIdeal.nD Cert.InXaReferenceIdeal.τ).loc Cert.InXaReferenceIdeal.main_arg1)
      ∧ r.2.mem ((c.tc : Thread Cert.InXaReferenceIdeal.nD Cert.InXaReferenceIdeal.τ).loc Cert.InXaReferenceIdeal.main_arg2) = m ((c.tc : Thread Cert.InXaReferenceIdeal.nD Cert.InXaReferenceIdeal.τ).loc Cert.InXaReferenceIdeal.main_arg2)
      ∧ r.2.mem ((c.tc : Thread Cert.InXaReferenceIdeal.nD Cert.InXaReferenceIdeal.τ).loc Cert.InXaReferenceIdeal.main_arg3) = m ((c.tc : Thread Cert.InXaReferenceIdeal.nD Cert.InXaReferenceIdeal.τ).loc Cert.InXaReferenceIdeal.main_arg3)
      ∧ r.2.mem ((c.tc : Thread Cert.InXaReferenceIdeal.nD Cert.InXaReferenceIdeal.τ).loc Cert.InXaReferenceIdeal.main_arg4) = m ((c.tc : Thread Cert.InXaReferenceIdeal.nD Cert.InXaReferenceIdeal.τ).loc Cert.InXaReferenceIdeal.main_arg4))
      ∧ r.2.sem = fun _ => 0)

def quiescent_QX [hQX : Cert.QX.Facts] : Prop :=
  ∀ (m : (ℓ : Loc Cert.QX.nD Cert.QX.τ Cert.QX.sig) → Buf (Elt Bits) ℓ) (g : Dev Cert.QX.nD → PrngReg), Pre_QX m →
    θ_run (Cert.QX.defs (F := Bits)) (onTc (τ := Cert.QX.τ) (Cert.QX.main (F := Bits))) ⟨m, fun _ => 0, g⟩ (fun r => (∀ c : Dev Cert.QX.nD,
      r.2.mem ((c.tc : Thread Cert.QX.nD Cert.QX.τ).loc Cert.QX.main_arg0) = m ((c.tc : Thread Cert.QX.nD Cert.QX.τ).loc Cert.QX.main_arg0)
      ∧ r.2.mem ((c.tc : Thread Cert.QX.nD Cert.QX.τ).loc Cert.QX.main_arg1) = m ((c.tc : Thread Cert.QX.nD Cert.QX.τ).loc Cert.QX.main_arg1)
      ∧ r.2.mem ((c.tc : Thread Cert.QX.nD Cert.QX.τ).loc Cert.QX.main_arg2) = m ((c.tc : Thread Cert.QX.nD Cert.QX.τ).loc Cert.QX.main_arg2)
      ∧ r.2.mem ((c.tc : Thread Cert.QX.nD Cert.QX.τ).loc Cert.QX.main_arg3) = m ((c.tc : Thread Cert.QX.nD Cert.QX.τ).loc Cert.QX.main_arg3)
      ∧ r.2.mem ((c.tc : Thread Cert.QX.nD Cert.QX.τ).loc Cert.QX.main_arg4) = m ((c.tc : Thread Cert.QX.nD Cert.QX.τ).loc Cert.QX.main_arg4))
      ∧ r.2.sem = fun _ => 0)

def quiescent_QXIdeal [hQXIdeal : Cert.QXIdeal.Facts] : Prop :=
  ∀ (m : (ℓ : Loc Cert.QXIdeal.nD Cert.QXIdeal.τ Cert.QXIdeal.sig) → Buf (Elt Ideal) ℓ) (g : Dev Cert.QXIdeal.nD → PrngReg), Pre_QXIdeal m →
    θ_run (Cert.QXIdeal.defs (F := Ideal)) (onTc (τ := Cert.QXIdeal.τ) (Cert.QXIdeal.main (F := Ideal))) ⟨m, fun _ => 0, g⟩ (fun r => (∀ c : Dev Cert.QXIdeal.nD,
      r.2.mem ((c.tc : Thread Cert.QXIdeal.nD Cert.QXIdeal.τ).loc Cert.QXIdeal.main_arg0) = m ((c.tc : Thread Cert.QXIdeal.nD Cert.QXIdeal.τ).loc Cert.QXIdeal.main_arg0)
      ∧ r.2.mem ((c.tc : Thread Cert.QXIdeal.nD Cert.QXIdeal.τ).loc Cert.QXIdeal.main_arg1) = m ((c.tc : Thread Cert.QXIdeal.nD Cert.QXIdeal.τ).loc Cert.QXIdeal.main_arg1)
      ∧ r.2.mem ((c.tc : Thread Cert.QXIdeal.nD Cert.QXIdeal.τ).loc Cert.QXIdeal.main_arg2) = m ((c.tc : Thread Cert.QXIdeal.nD Cert.QXIdeal.τ).loc Cert.QXIdeal.main_arg2)
      ∧ r.2.mem ((c.tc : Thread Cert.QXIdeal.nD Cert.QXIdeal.τ).loc Cert.QXIdeal.main_arg3) = m ((c.tc : Thread Cert.QXIdeal.nD Cert.QXIdeal.τ).loc Cert.QXIdeal.main_arg3)
      ∧ r.2.mem ((c.tc : Thread Cert.QXIdeal.nD Cert.QXIdeal.τ).loc Cert.QXIdeal.main_arg4) = m ((c.tc : Thread Cert.QXIdeal.nD Cert.QXIdeal.τ).loc Cert.QXIdeal.main_arg4))
      ∧ r.2.sem = fun _ => 0)

def quiescent_QXReferenceIdeal [hQXReferenceIdeal : Cert.QXReferenceIdeal.Facts] : Prop :=
  ∀ (m : (ℓ : Loc Cert.QXReferenceIdeal.nD Cert.QXReferenceIdeal.τ Cert.QXReferenceIdeal.sig) → Buf (Elt Ideal) ℓ) (g : Dev Cert.QXReferenceIdeal.nD → PrngReg), Pre_QXReferenceIdeal m →
    θ_run (Cert.QXReferenceIdeal.defs (F := Ideal)) (onTc (τ := Cert.QXReferenceIdeal.τ) (Cert.QXReferenceIdeal.main (F := Ideal))) ⟨m, fun _ => 0, g⟩ (fun r => (∀ c : Dev Cert.QXReferenceIdeal.nD,
      r.2.mem ((c.tc : Thread Cert.QXReferenceIdeal.nD Cert.QXReferenceIdeal.τ).loc Cert.QXReferenceIdeal.main_arg0) = m ((c.tc : Thread Cert.QXReferenceIdeal.nD Cert.QXReferenceIdeal.τ).loc Cert.QXReferenceIdeal.main_arg0)
      ∧ r.2.mem ((c.tc : Thread Cert.QXReferenceIdeal.nD Cert.QXReferenceIdeal.τ).loc Cert.QXReferenceIdeal.main_arg1) = m ((c.tc : Thread Cert.QXReferenceIdeal.nD Cert.QXReferenceIdeal.τ).loc Cert.QXReferenceIdeal.main_arg1)
      ∧ r.2.mem ((c.tc : Thread Cert.QXReferenceIdeal.nD Cert.QXReferenceIdeal.τ).loc Cert.QXReferenceIdeal.main_arg2) = m ((c.tc : Thread Cert.QXReferenceIdeal.nD Cert.QXReferenceIdeal.τ).loc Cert.QXReferenceIdeal.main_arg2)
      ∧ r.2.mem ((c.tc : Thread Cert.QXReferenceIdeal.nD Cert.QXReferenceIdeal.τ).loc Cert.QXReferenceIdeal.main_arg3) = m ((c.tc : Thread Cert.QXReferenceIdeal.nD Cert.QXReferenceIdeal.τ).loc Cert.QXReferenceIdeal.main_arg3)
      ∧ r.2.mem ((c.tc : Thread Cert.QXReferenceIdeal.nD Cert.QXReferenceIdeal.τ).loc Cert.QXReferenceIdeal.main_arg4) = m ((c.tc : Thread Cert.QXReferenceIdeal.nD Cert.QXReferenceIdeal.τ).loc Cert.QXReferenceIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_Inb [hInb : Cert.Inb.Facts] : Prop :=
  ∀ (m : (ℓ : Loc Cert.Inb.nD Cert.Inb.τ Cert.Inb.sig) → Buf (Elt Bits) ℓ) (g : Dev Cert.Inb.nD → PrngReg), Pre_Inb m →
    θ_run (Cert.Inb.defs (F := Bits)) (onTc (τ := Cert.Inb.τ) (Cert.Inb.main (F := Bits))) ⟨m, fun _ => 0, g⟩ (fun r => (∀ c : Dev Cert.Inb.nD,
      r.2.mem ((c.tc : Thread Cert.Inb.nD Cert.Inb.τ).loc Cert.Inb.main_arg0) = m ((c.tc : Thread Cert.Inb.nD Cert.Inb.τ).loc Cert.Inb.main_arg0)
      ∧ r.2.mem ((c.tc : Thread Cert.Inb.nD Cert.Inb.τ).loc Cert.Inb.main_arg1) = m ((c.tc : Thread Cert.Inb.nD Cert.Inb.τ).loc Cert.Inb.main_arg1))
      ∧ r.2.sem = fun _ => 0)

def quiescent_InbIdeal [hInbIdeal : Cert.InbIdeal.Facts] : Prop :=
  ∀ (m : (ℓ : Loc Cert.InbIdeal.nD Cert.InbIdeal.τ Cert.InbIdeal.sig) → Buf (Elt Ideal) ℓ) (g : Dev Cert.InbIdeal.nD → PrngReg), Pre_InbIdeal m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1))
      ∧ r.2.sem = fun _ => 0)

def quiescent_Ina [hIna : Cert.Ina.Facts] : Prop :=
  ∀ (m : (ℓ : Loc Cert.Ina.nD Cert.Ina.τ Cert.Ina.sig) → Buf (Elt Bits) ℓ) (g : Dev Cert.Ina.nD → PrngReg), Pre_Ina m →
    θ_run (Cert.Ina.defs (F := Bits)) (onTc (τ := Cert.Ina.τ) (Cert.Ina.main (F := Bits))) ⟨m, fun _ => 0, g⟩ (fun r => (∀ c : Dev Cert.Ina.nD,
      r.2.mem ((c.tc : Thread Cert.Ina.nD Cert.Ina.τ).loc Cert.Ina.main_arg0) = m ((c.tc : Thread Cert.Ina.nD Cert.Ina.τ).loc Cert.Ina.main_arg0)
      ∧ r.2.mem ((c.tc : Thread Cert.Ina.nD Cert.Ina.τ).loc Cert.Ina.main_arg1) = m ((c.tc : Thread Cert.Ina.nD Cert.Ina.τ).loc Cert.Ina.main_arg1))
      ∧ r.2.sem = fun _ => 0)

def quiescent_InaIdeal [hInaIdeal : Cert.InaIdeal.Facts] : Prop :=
  ∀ (m : (ℓ : Loc Cert.InaIdeal.nD Cert.InaIdeal.τ Cert.InaIdeal.sig) → Buf (Elt Ideal) ℓ) (g : Dev Cert.InaIdeal.nD → PrngReg), Pre_InaIdeal m →
    θ_run (Cert.InaIdeal.defs (F := Ideal)) (onTc (τ := Cert.InaIdeal.τ) (Cert.InaIdeal.main (F := Ideal))) ⟨m, fun _ => 0, g⟩ (fun r => (∀ c : Dev Cert.InaIdeal.nD,
      r.2.mem ((c.tc : Thread Cert.InaIdeal.nD Cert.InaIdeal.τ).loc Cert.InaIdeal.main_arg0) = m ((c.tc : Thread Cert.InaIdeal.nD Cert.InaIdeal.τ).loc Cert.InaIdeal.main_arg0)
      ∧ r.2.mem ((c.tc : Thread Cert.InaIdeal.nD Cert.InaIdeal.τ).loc Cert.InaIdeal.main_arg1) = m ((c.tc : Thread Cert.InaIdeal.nD Cert.InaIdeal.τ).loc Cert.InaIdeal.main_arg1))
      ∧ r.2.sem = fun _ => 0)

def quiescent_InaReferenceIdeal [hInaReferenceIdeal : Cert.InaReferenceIdeal.Facts] : Prop :=
  ∀ (m : (ℓ : Loc Cert.InaReferenceIdeal.nD Cert.InaReferenceIdeal.τ Cert.InaReferenceIdeal.sig) → Buf (Elt Ideal) ℓ) (g : Dev Cert.InaReferenceIdeal.nD → PrngReg), Pre_InaReferenceIdeal m →
    θ_run (Cert.InaReferenceIdeal.defs (F := Ideal)) (onTc (τ := Cert.InaReferenceIdeal.τ) (Cert.InaReferenceIdeal.main (F := Ideal))) ⟨m, fun _ => 0, g⟩ (fun r => (∀ c : Dev Cert.InaReferenceIdeal.nD,
      r.2.mem ((c.tc : Thread Cert.InaReferenceIdeal.nD Cert.InaReferenceIdeal.τ).loc Cert.InaReferenceIdeal.main_arg0) = m ((c.tc : Thread Cert.InaReferenceIdeal.nD Cert.InaReferenceIdeal.τ).loc Cert.InaReferenceIdeal.main_arg0)
      ∧ r.2.mem ((c.tc : Thread Cert.InaReferenceIdeal.nD Cert.InaReferenceIdeal.τ).loc Cert.InaReferenceIdeal.main_arg1) = m ((c.tc : Thread Cert.InaReferenceIdeal.nD Cert.InaReferenceIdeal.τ).loc Cert.InaReferenceIdeal.main_arg1))
      ∧ r.2.sem = fun _ => 0)

def quiescent_Qf [hQf : Cert.Qf.Facts] : Prop :=
  ∀ (m : (ℓ : Loc Cert.Qf.nD Cert.Qf.τ Cert.Qf.sig) → Buf (Elt Bits) ℓ) (g : Dev Cert.Qf.nD → PrngReg), Pre_Qf m →
    θ_run (Cert.Qf.defs (F := Bits)) (onTc (τ := Cert.Qf.τ) (Cert.Qf.main (F := Bits))) ⟨m, fun _ => 0, g⟩ (fun r => (∀ c : Dev Cert.Qf.nD,
      r.2.mem ((c.tc : Thread Cert.Qf.nD Cert.Qf.τ).loc Cert.Qf.main_arg0) = m ((c.tc : Thread Cert.Qf.nD Cert.Qf.τ).loc Cert.Qf.main_arg0)
      ∧ r.2.mem ((c.tc : Thread Cert.Qf.nD Cert.Qf.τ).loc Cert.Qf.main_arg1) = m ((c.tc : Thread Cert.Qf.nD Cert.Qf.τ).loc Cert.Qf.main_arg1))
      ∧ r.2.sem = fun _ => 0)

def quiescent_QfIdeal [hQfIdeal : Cert.QfIdeal.Facts] : Prop :=
  ∀ (m : (ℓ : Loc Cert.QfIdeal.nD Cert.QfIdeal.τ Cert.QfIdeal.sig) → Buf (Elt Ideal) ℓ) (g : Dev Cert.QfIdeal.nD → PrngReg), Pre_QfIdeal m →
    θ_run (Cert.QfIdeal.defs (F := Ideal)) (onTc (τ := Cert.QfIdeal.τ) (Cert.QfIdeal.main (F := Ideal))) ⟨m, fun _ => 0, g⟩ (fun r => (∀ c : Dev Cert.QfIdeal.nD,
      r.2.mem ((c.tc : Thread Cert.QfIdeal.nD Cert.QfIdeal.τ).loc Cert.QfIdeal.main_arg0) = m ((c.tc : Thread Cert.QfIdeal.nD Cert.QfIdeal.τ).loc Cert.QfIdeal.main_arg0)
      ∧ r.2.mem ((c.tc : Thread Cert.QfIdeal.nD Cert.QfIdeal.τ).loc Cert.QfIdeal.main_arg1) = m ((c.tc : Thread Cert.QfIdeal.nD Cert.QfIdeal.τ).loc Cert.QfIdeal.main_arg1))
      ∧ r.2.sem = fun _ => 0)

def quiescent_QfReferenceIdeal [hQfReferenceIdeal : Cert.QfReferenceIdeal.Facts] : Prop :=
  ∀ (m : (ℓ : Loc Cert.QfReferenceIdeal.nD Cert.QfReferenceIdeal.τ Cert.QfReferenceIdeal.sig) → Buf (Elt Ideal) ℓ) (g : Dev Cert.QfReferenceIdeal.nD → PrngReg), Pre_QfReferenceIdeal m →
    θ_run (Cert.QfReferenceIdeal.defs (F := Ideal)) (onTc (τ := Cert.QfReferenceIdeal.τ) (Cert.QfReferenceIdeal.main (F := Ideal))) ⟨m, fun _ => 0, g⟩ (fun r => (∀ c : Dev Cert.QfReferenceIdeal.nD,
      r.2.mem ((c.tc : Thread Cert.QfReferenceIdeal.nD Cert.QfReferenceIdeal.τ).loc Cert.QfReferenceIdeal.main_arg0) = m ((c.tc : Thread Cert.QfReferenceIdeal.nD Cert.QfReferenceIdeal.τ).loc Cert.QfReferenceIdeal.main_arg0)
      ∧ r.2.mem ((c.tc : Thread Cert.QfReferenceIdeal.nD Cert.QfReferenceIdeal.τ).loc Cert.QfReferenceIdeal.main_arg1) = m ((c.tc : Thread Cert.QfReferenceIdeal.nD Cert.QfReferenceIdeal.τ).loc Cert.QfReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownB [hDownB : Cert.DownB.Facts] : Prop :=
  ∀ (m : (ℓ : Loc Cert.DownB.nD Cert.DownB.τ Cert.DownB.sig) → Buf (Elt Bits) ℓ) (g : Dev Cert.DownB.nD → PrngReg), Pre_DownB m →
    θ_run (Cert.DownB.defs (F := Bits)) (onTc (τ := Cert.DownB.τ) (Cert.DownB.main (F := Bits))) ⟨m, fun _ => 0, g⟩ (fun r => (∀ c : Dev Cert.DownB.nD,
      r.2.mem ((c.tc : Thread Cert.DownB.nD Cert.DownB.τ).loc Cert.DownB.main_arg0) = m ((c.tc : Thread Cert.DownB.nD Cert.DownB.τ).loc Cert.DownB.main_arg0)
      ∧ r.2.mem ((c.tc : Thread Cert.DownB.nD Cert.DownB.τ).loc Cert.DownB.main_arg1) = m ((c.tc : Thread Cert.DownB.nD Cert.DownB.τ).loc Cert.DownB.main_arg1)
      ∧ r.2.mem ((c.tc : Thread Cert.DownB.nD Cert.DownB.τ).loc Cert.DownB.main_arg2) = m ((c.tc : Thread Cert.DownB.nD Cert.DownB.τ).loc Cert.DownB.main_arg2))
      ∧ r.2.sem = fun _ => 0)

def quiescent_DownBIdeal [hDownBIdeal : Cert.DownBIdeal.Facts] : Prop :=
  ∀ (m : (ℓ : Loc Cert.DownBIdeal.nD Cert.DownBIdeal.τ Cert.DownBIdeal.sig) → Buf (Elt Ideal) ℓ) (g : Dev Cert.DownBIdeal.nD → PrngReg), Pre_DownBIdeal m →
    θ_run (Cert.DownBIdeal.defs (F := Ideal)) (onTc (τ := Cert.DownBIdeal.τ) (Cert.DownBIdeal.main (F := Ideal))) ⟨m, fun _ => 0, g⟩ (fun r => (∀ c : Dev Cert.DownBIdeal.nD,
      r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
      ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
      ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2))
      ∧ r.2.sem = fun _ => 0)

def quiescent_DownBReferenceIdeal [hDownBReferenceIdeal : Cert.DownBReferenceIdeal.Facts] : Prop :=
  ∀ (m : (ℓ : Loc Cert.DownBReferenceIdeal.nD Cert.DownBReferenceIdeal.τ Cert.DownBReferenceIdeal.sig) → Buf (Elt Ideal) ℓ) (g : Dev Cert.DownBReferenceIdeal.nD → PrngReg), Pre_DownBReferenceIdeal m →
    θ_run (Cert.DownBReferenceIdeal.defs (F := Ideal)) (onTc (τ := Cert.DownBReferenceIdeal.τ) (Cert.DownBReferenceIdeal.main (F := Ideal))) ⟨m, fun _ => 0, g⟩ (fun r => (∀ c : Dev Cert.DownBReferenceIdeal.nD,
      r.2.mem ((c.tc : Thread Cert.DownBReferenceIdeal.nD Cert.DownBReferenceIdeal.τ).loc Cert.DownBReferenceIdeal.main_arg0) = m ((c.tc : Thread Cert.DownBReferenceIdeal.nD Cert.DownBReferenceIdeal.τ).loc Cert.DownBReferenceIdeal.main_arg0)
      ∧ r.2.mem ((c.tc : Thread Cert.DownBReferenceIdeal.nD Cert.DownBReferenceIdeal.τ).loc Cert.DownBReferenceIdeal.main_arg1) = m ((c.tc : Thread Cert.DownBReferenceIdeal.nD Cert.DownBReferenceIdeal.τ).loc Cert.DownBReferenceIdeal.main_arg1)
      ∧ r.2.mem ((c.tc : Thread Cert.DownBReferenceIdeal.nD Cert.DownBReferenceIdeal.τ).loc Cert.DownBReferenceIdeal.main_arg2) = m ((c.tc : Thread Cert.DownBReferenceIdeal.nD Cert.DownBReferenceIdeal.τ).loc Cert.DownBReferenceIdeal.main_arg2))
      ∧ r.2.sem = fun _ => 0)

def quiescent_GluF [hGluF : Cert.GluF.Facts] : Prop :=
  ∀ (m : (ℓ : Loc Cert.GluF.nD Cert.GluF.τ Cert.GluF.sig) → Buf (Elt Bits) ℓ) (g : Dev Cert.GluF.nD → PrngReg), Pre_GluF m →
    θ_run (Cert.GluF.defs (F := Bits)) (onTc (τ := Cert.GluF.τ) (Cert.GluF.main (F := Bits))) ⟨m, fun _ => 0, g⟩ (fun r => (∀ c : Dev Cert.GluF.nD,
      r.2.mem ((c.tc : Thread Cert.GluF.nD Cert.GluF.τ).loc Cert.GluF.main_arg0) = m ((c.tc : Thread Cert.GluF.nD Cert.GluF.τ).loc Cert.GluF.main_arg0)
      ∧ r.2.mem ((c.tc : Thread Cert.GluF.nD Cert.GluF.τ).loc Cert.GluF.main_arg1) = m ((c.tc : Thread Cert.GluF.nD Cert.GluF.τ).loc Cert.GluF.main_arg1))
      ∧ r.2.sem = fun _ => 0)

def quiescent_GluFIdeal [hGluFIdeal : Cert.GluFIdeal.Facts] : Prop :=
  ∀ (m : (ℓ : Loc Cert.GluFIdeal.nD Cert.GluFIdeal.τ Cert.GluFIdeal.sig) → Buf (Elt Ideal) ℓ) (g : Dev Cert.GluFIdeal.nD → PrngReg), Pre_GluFIdeal m →
    θ_run (Cert.GluFIdeal.defs (F := Ideal)) (onTc (τ := Cert.GluFIdeal.τ) (Cert.GluFIdeal.main (F := Ideal))) ⟨m, fun _ => 0, g⟩ (fun r => (∀ c : Dev Cert.GluFIdeal.nD,
      r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
      ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1))
      ∧ r.2.sem = fun _ => 0)

def quiescent_GluFReferenceIdeal [hGluFReferenceIdeal : Cert.GluFReferenceIdeal.Facts] : Prop :=
  ∀ (m : (ℓ : Loc Cert.GluFReferenceIdeal.nD Cert.GluFReferenceIdeal.τ Cert.GluFReferenceIdeal.sig) → Buf (Elt Ideal) ℓ) (g : Dev Cert.GluFReferenceIdeal.nD → PrngReg), Pre_GluFReferenceIdeal m →
    θ_run (Cert.GluFReferenceIdeal.defs (F := Ideal)) (onTc (τ := Cert.GluFReferenceIdeal.τ) (Cert.GluFReferenceIdeal.main (F := Ideal))) ⟨m, fun _ => 0, g⟩ (fun r => (∀ c : Dev Cert.GluFReferenceIdeal.nD,
      r.2.mem ((c.tc : Thread Cert.GluFReferenceIdeal.nD Cert.GluFReferenceIdeal.τ).loc Cert.GluFReferenceIdeal.main_arg0) = m ((c.tc : Thread Cert.GluFReferenceIdeal.nD Cert.GluFReferenceIdeal.τ).loc Cert.GluFReferenceIdeal.main_arg0)
      ∧ r.2.mem ((c.tc : Thread Cert.GluFReferenceIdeal.nD Cert.GluFReferenceIdeal.τ).loc Cert.GluFReferenceIdeal.main_arg1) = m ((c.tc : Thread Cert.GluFReferenceIdeal.nD Cert.GluFReferenceIdeal.τ).loc Cert.GluFReferenceIdeal.main_arg1))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1))
      ∧ r.2.sem = fun _ => 0)

def quiescent_GluWReferenceIdeal [hGluWReferenceIdeal : Cert.GluWReferenceIdeal.Facts] : Prop :=
  ∀ (m : (ℓ : Loc Cert.GluWReferenceIdeal.nD Cert.GluWReferenceIdeal.τ Cert.GluWReferenceIdeal.sig) → Buf (Elt Ideal) ℓ) (g : Dev Cert.GluWReferenceIdeal.nD → PrngReg), Pre_GluWReferenceIdeal m →
    θ_run (Cert.GluWReferenceIdeal.defs (F := Ideal)) (onTc (τ := Cert.GluWReferenceIdeal.τ) (Cert.GluWReferenceIdeal.main (F := Ideal))) ⟨m, fun _ => 0, g⟩ (fun r => (∀ c : Dev Cert.GluWReferenceIdeal.nD,
      r.2.mem ((c.tc : Thread Cert.GluWReferenceIdeal.nD Cert.GluWReferenceIdeal.τ).loc Cert.GluWReferenceIdeal.main_arg0) = m ((c.tc : Thread Cert.GluWReferenceIdeal.nD Cert.GluWReferenceIdeal.τ).loc Cert.GluWReferenceIdeal.main_arg0)
      ∧ r.2.mem ((c.tc : Thread Cert.GluWReferenceIdeal.nD Cert.GluWReferenceIdeal.τ).loc Cert.GluWReferenceIdeal.main_arg1) = m ((c.tc : Thread Cert.GluWReferenceIdeal.nD Cert.GluWReferenceIdeal.τ).loc Cert.GluWReferenceIdeal.main_arg1))
      ∧ r.2.sem = fun _ => 0)

def quiescent_GluX [hGluX : Cert.GluX.Facts] : Prop :=
  ∀ (m : (ℓ : Loc Cert.GluX.nD Cert.GluX.τ Cert.GluX.sig) → Buf (Elt Bits) ℓ) (g : Dev Cert.GluX.nD → PrngReg), Pre_GluX m →
    θ_run (Cert.GluX.defs (F := Bits)) (onTc (τ := Cert.GluX.τ) (Cert.GluX.main (F := Bits))) ⟨m, fun _ => 0, g⟩ (fun r => (∀ c : Dev Cert.GluX.nD,
      r.2.mem ((c.tc : Thread Cert.GluX.nD Cert.GluX.τ).loc Cert.GluX.main_arg0) = m ((c.tc : Thread Cert.GluX.nD Cert.GluX.τ).loc Cert.GluX.main_arg0)
      ∧ r.2.mem ((c.tc : Thread Cert.GluX.nD Cert.GluX.τ).loc Cert.GluX.main_arg1) = m ((c.tc : Thread Cert.GluX.nD Cert.GluX.τ).loc Cert.GluX.main_arg1))
      ∧ r.2.sem = fun _ => 0)

def quiescent_GluXIdeal [hGluXIdeal : Cert.GluXIdeal.Facts] : Prop :=
  ∀ (m : (ℓ : Loc Cert.GluXIdeal.nD Cert.GluXIdeal.τ Cert.GluXIdeal.sig) → Buf (Elt Ideal) ℓ) (g : Dev Cert.GluXIdeal.nD → PrngReg), Pre_GluXIdeal m →
    θ_run (Cert.GluXIdeal.defs (F := Ideal)) (onTc (τ := Cert.GluXIdeal.τ) (Cert.GluXIdeal.main (F := Ideal))) ⟨m, fun _ => 0, g⟩ (fun r => (∀ c : Dev Cert.GluXIdeal.nD,
      r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
      ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1))
      ∧ r.2.sem = fun _ => 0)

def quiescent_GluXReferenceIdeal [hGluXReferenceIdeal : Cert.GluXReferenceIdeal.Facts] : Prop :=
  ∀ (m : (ℓ : Loc Cert.GluXReferenceIdeal.nD Cert.GluXReferenceIdeal.τ Cert.GluXReferenceIdeal.sig) → Buf (Elt Ideal) ℓ) (g : Dev Cert.GluXReferenceIdeal.nD → PrngReg), Pre_GluXReferenceIdeal m →
    θ_run (Cert.GluXReferenceIdeal.defs (F := Ideal)) (onTc (τ := Cert.GluXReferenceIdeal.τ) (Cert.GluXReferenceIdeal.main (F := Ideal))) ⟨m, fun _ => 0, g⟩ (fun r => (∀ c : Dev Cert.GluXReferenceIdeal.nD,
      r.2.mem ((c.tc : Thread Cert.GluXReferenceIdeal.nD Cert.GluXReferenceIdeal.τ).loc Cert.GluXReferenceIdeal.main_arg0) = m ((c.tc : Thread Cert.GluXReferenceIdeal.nD Cert.GluXReferenceIdeal.τ).loc Cert.GluXReferenceIdeal.main_arg0)
      ∧ r.2.mem ((c.tc : Thread Cert.GluXReferenceIdeal.nD Cert.GluXReferenceIdeal.τ).loc Cert.GluXReferenceIdeal.main_arg1) = m ((c.tc : Thread Cert.GluXReferenceIdeal.nD Cert.GluXReferenceIdeal.τ).loc Cert.GluXReferenceIdeal.main_arg1))
      ∧ r.2.sem = fun _ => 0)

def quiescent_KvF [hKvF : Cert.KvF.Facts] : Prop :=
  ∀ (m : (ℓ : Loc Cert.KvF.nD Cert.KvF.τ Cert.KvF.sig) → Buf (Elt Bits) ℓ) (g : Dev Cert.KvF.nD → PrngReg), Pre_KvF m →
    θ_run (Cert.KvF.defs (F := Bits)) (onTc (τ := Cert.KvF.τ) (Cert.KvF.main (F := Bits))) ⟨m, fun _ => 0, g⟩ (fun r => (∀ c : Dev Cert.KvF.nD,
      r.2.mem ((c.tc : Thread Cert.KvF.nD Cert.KvF.τ).loc Cert.KvF.main_arg0) = m ((c.tc : Thread Cert.KvF.nD Cert.KvF.τ).loc Cert.KvF.main_arg0)
      ∧ r.2.mem ((c.tc : Thread Cert.KvF.nD Cert.KvF.τ).loc Cert.KvF.main_arg1) = m ((c.tc : Thread Cert.KvF.nD Cert.KvF.τ).loc Cert.KvF.main_arg1))
      ∧ r.2.sem = fun _ => 0)

def quiescent_KvFIdeal [hKvFIdeal : Cert.KvFIdeal.Facts] : Prop :=
  ∀ (m : (ℓ : Loc Cert.KvFIdeal.nD Cert.KvFIdeal.τ Cert.KvFIdeal.sig) → Buf (Elt Ideal) ℓ) (g : Dev Cert.KvFIdeal.nD → PrngReg), Pre_KvFIdeal m →
    θ_run (Cert.KvFIdeal.defs (F := Ideal)) (onTc (τ := Cert.KvFIdeal.τ) (Cert.KvFIdeal.main (F := Ideal))) ⟨m, fun _ => 0, g⟩ (fun r => (∀ c : Dev Cert.KvFIdeal.nD,
      r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
      ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1))
      ∧ r.2.sem = fun _ => 0)

def quiescent_KvFReferenceIdeal [hKvFReferenceIdeal : Cert.KvFReferenceIdeal.Facts] : Prop :=
  ∀ (m : (ℓ : Loc Cert.KvFReferenceIdeal.nD Cert.KvFReferenceIdeal.τ Cert.KvFReferenceIdeal.sig) → Buf (Elt Ideal) ℓ) (g : Dev Cert.KvFReferenceIdeal.nD → PrngReg), Pre_KvFReferenceIdeal m →
    θ_run (Cert.KvFReferenceIdeal.defs (F := Ideal)) (onTc (τ := Cert.KvFReferenceIdeal.τ) (Cert.KvFReferenceIdeal.main (F := Ideal))) ⟨m, fun _ => 0, g⟩ (fun r => (∀ c : Dev Cert.KvFReferenceIdeal.nD,
      r.2.mem ((c.tc : Thread Cert.KvFReferenceIdeal.nD Cert.KvFReferenceIdeal.τ).loc Cert.KvFReferenceIdeal.main_arg0) = m ((c.tc : Thread Cert.KvFReferenceIdeal.nD Cert.KvFReferenceIdeal.τ).loc Cert.KvFReferenceIdeal.main_arg0)
      ∧ r.2.mem ((c.tc : Thread Cert.KvFReferenceIdeal.nD Cert.KvFReferenceIdeal.τ).loc Cert.KvFReferenceIdeal.main_arg1) = m ((c.tc : Thread Cert.KvFReferenceIdeal.nD Cert.KvFReferenceIdeal.τ).loc Cert.KvFReferenceIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWReferenceIdeal [hKvWReferenceIdeal : Cert.KvWReferenceIdeal.Facts] : Prop :=
  ∀ (m : (ℓ : Loc Cert.KvWReferenceIdeal.nD Cert.KvWReferenceIdeal.τ Cert.KvWReferenceIdeal.sig) → Buf (Elt Ideal) ℓ) (g : Dev Cert.KvWReferenceIdeal.nD → PrngReg), Pre_KvWReferenceIdeal m →
    θ_run (Cert.KvWReferenceIdeal.defs (F := Ideal)) (onTc (τ := Cert.KvWReferenceIdeal.τ) (Cert.KvWReferenceIdeal.main (F := Ideal))) ⟨m, fun _ => 0, g⟩ (fun r => (∀ c : Dev Cert.KvWReferenceIdeal.nD,
      r.2.mem ((c.tc : Thread Cert.KvWReferenceIdeal.nD Cert.KvWReferenceIdeal.τ).loc Cert.KvWReferenceIdeal.main_arg0) = m ((c.tc : Thread Cert.KvWReferenceIdeal.nD Cert.KvWReferenceIdeal.τ).loc Cert.KvWReferenceIdeal.main_arg0)
      ∧ r.2.mem ((c.tc : Thread Cert.KvWReferenceIdeal.nD Cert.KvWReferenceIdeal.τ).loc Cert.KvWReferenceIdeal.main_arg1) = m ((c.tc : Thread Cert.KvWReferenceIdeal.nD Cert.KvWReferenceIdeal.τ).loc Cert.KvWReferenceIdeal.main_arg1))
      ∧ r.2.sem = fun _ => 0)

def quiescent_KvX [hKvX : Cert.KvX.Facts] : Prop :=
  ∀ (m : (ℓ : Loc Cert.KvX.nD Cert.KvX.τ Cert.KvX.sig) → Buf (Elt Bits) ℓ) (g : Dev Cert.KvX.nD → PrngReg), Pre_KvX m →
    θ_run (Cert.KvX.defs (F := Bits)) (onTc (τ := Cert.KvX.τ) (Cert.KvX.main (F := Bits))) ⟨m, fun _ => 0, g⟩ (fun r => (∀ c : Dev Cert.KvX.nD,
      r.2.mem ((c.tc : Thread Cert.KvX.nD Cert.KvX.τ).loc Cert.KvX.main_arg0) = m ((c.tc : Thread Cert.KvX.nD Cert.KvX.τ).loc Cert.KvX.main_arg0)
      ∧ r.2.mem ((c.tc : Thread Cert.KvX.nD Cert.KvX.τ).loc Cert.KvX.main_arg1) = m ((c.tc : Thread Cert.KvX.nD Cert.KvX.τ).loc Cert.KvX.main_arg1))
      ∧ r.2.sem = fun _ => 0)

def quiescent_KvXIdeal [hKvXIdeal : Cert.KvXIdeal.Facts] : Prop :=
  ∀ (m : (ℓ : Loc Cert.KvXIdeal.nD Cert.KvXIdeal.τ Cert.KvXIdeal.sig) → Buf (Elt Ideal) ℓ) (g : Dev Cert.KvXIdeal.nD → PrngReg), Pre_KvXIdeal m →
    θ_run (Cert.KvXIdeal.defs (F := Ideal)) (onTc (τ := Cert.KvXIdeal.τ) (Cert.KvXIdeal.main (F := Ideal))) ⟨m, fun _ => 0, g⟩ (fun r => (∀ c : Dev Cert.KvXIdeal.nD,
      r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
      ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ r.2.sem = fun _ => 0)

def quiescent_KvXReferenceIdeal [hKvXReferenceIdeal : Cert.KvXReferenceIdeal.Facts] : Prop :=
  ∀ (m : (ℓ : Loc Cert.KvXReferenceIdeal.nD Cert.KvXReferenceIdeal.τ Cert.KvXReferenceIdeal.sig) → Buf (Elt Ideal) ℓ) (g : Dev Cert.KvXReferenceIdeal.nD → PrngReg), Pre_KvXReferenceIdeal m →
    θ_run (Cert.KvXReferenceIdeal.defs (F := Ideal)) (onTc (τ := Cert.KvXReferenceIdeal.τ) (Cert.KvXReferenceIdeal.main (F := Ideal))) ⟨m, fun _ => 0, g⟩ (fun r => (∀ c : Dev Cert.KvXReferenceIdeal.nD,
      r.2.mem ((c.tc : Thread Cert.KvXReferenceIdeal.nD Cert.KvXReferenceIdeal.τ).loc Cert.KvXReferenceIdeal.main_arg0) = m ((c.tc : Thread Cert.KvXReferenceIdeal.nD Cert.KvXReferenceIdeal.τ).loc Cert.KvXReferenceIdeal.main_arg0)
      ∧ r.2.mem ((c.tc : Thread Cert.KvXReferenceIdeal.nD Cert.KvXReferenceIdeal.τ).loc Cert.KvXReferenceIdeal.main_arg1) = m ((c.tc : Thread Cert.KvXReferenceIdeal.nD Cert.KvXReferenceIdeal.τ).loc Cert.KvXReferenceIdeal.main_arg1))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFReferenceIdeal [hNormFReferenceIdeal : Cert.NormFReferenceIdeal.Facts] : Prop :=
  ∀ (m : (ℓ : Loc Cert.NormFReferenceIdeal.nD Cert.NormFReferenceIdeal.τ Cert.NormFReferenceIdeal.sig) → Buf (Elt Ideal) ℓ) (g : Dev Cert.NormFReferenceIdeal.nD → PrngReg), Pre_NormFReferenceIdeal m →
    θ_run (Cert.NormFReferenceIdeal.defs (F := Ideal)) (onTc (τ := Cert.NormFReferenceIdeal.τ) (Cert.NormFReferenceIdeal.main (F := Ideal))) ⟨m, fun _ => 0, g⟩ (fun r => (∀ c : Dev Cert.NormFReferenceIdeal.nD,
      r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
      ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1))
      ∧ r.2.sem = fun _ => 0)

def quiescent_MemF [hMemF : Cert.MemF.Facts] : Prop :=
  ∀ (m : (ℓ : Loc Cert.MemF.nD Cert.MemF.τ Cert.MemF.sig) → Buf (Elt Bits) ℓ) (g : Dev Cert.MemF.nD → PrngReg), Pre_MemF m →
    θ_run (Cert.MemF.defs (F := Bits)) (onTc (τ := Cert.MemF.τ) (Cert.MemF.main (F := Bits))) ⟨m, fun _ => 0, g⟩ (fun r => (∀ c : Dev Cert.MemF.nD,
      r.2.mem ((c.tc : Thread Cert.MemF.nD Cert.MemF.τ).loc Cert.MemF.main_arg0) = m ((c.tc : Thread Cert.MemF.nD Cert.MemF.τ).loc Cert.MemF.main_arg0)
      ∧ r.2.mem ((c.tc : Thread Cert.MemF.nD Cert.MemF.τ).loc Cert.MemF.main_arg1) = m ((c.tc : Thread Cert.MemF.nD Cert.MemF.τ).loc Cert.MemF.main_arg1))
      ∧ r.2.sem = fun _ => 0)

def quiescent_MemFIdeal [hMemFIdeal : Cert.MemFIdeal.Facts] : Prop :=
  ∀ (m : (ℓ : Loc Cert.MemFIdeal.nD Cert.MemFIdeal.τ Cert.MemFIdeal.sig) → Buf (Elt Ideal) ℓ) (g : Dev Cert.MemFIdeal.nD → PrngReg), Pre_MemFIdeal m →
    θ_run (Cert.MemFIdeal.defs (F := Ideal)) (onTc (τ := Cert.MemFIdeal.τ) (Cert.MemFIdeal.main (F := Ideal))) ⟨m, fun _ => 0, g⟩ (fun r => (∀ c : Dev Cert.MemFIdeal.nD,
      r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
      ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ r.2.sem = fun _ => 0)

def quiescent_MemFReferenceIdeal [hMemFReferenceIdeal : Cert.MemFReferenceIdeal.Facts] : Prop :=
  ∀ (m : (ℓ : Loc Cert.MemFReferenceIdeal.nD Cert.MemFReferenceIdeal.τ Cert.MemFReferenceIdeal.sig) → Buf (Elt Ideal) ℓ) (g : Dev Cert.MemFReferenceIdeal.nD → PrngReg), Pre_MemFReferenceIdeal m →
    θ_run (Cert.MemFReferenceIdeal.defs (F := Ideal)) (onTc (τ := Cert.MemFReferenceIdeal.τ) (Cert.MemFReferenceIdeal.main (F := Ideal))) ⟨m, fun _ => 0, g⟩ (fun r => (∀ c : Dev Cert.MemFReferenceIdeal.nD,
      r.2.mem ((c.tc : Thread Cert.MemFReferenceIdeal.nD Cert.MemFReferenceIdeal.τ).loc Cert.MemFReferenceIdeal.main_arg0) = m ((c.tc : Thread Cert.MemFReferenceIdeal.nD Cert.MemFReferenceIdeal.τ).loc Cert.MemFReferenceIdeal.main_arg0)
      ∧ r.2.mem ((c.tc : Thread Cert.MemFReferenceIdeal.nD Cert.MemFReferenceIdeal.τ).loc Cert.MemFReferenceIdeal.main_arg1) = m ((c.tc : Thread Cert.MemFReferenceIdeal.nD Cert.MemFReferenceIdeal.τ).loc Cert.MemFReferenceIdeal.main_arg1))
      ∧ r.2.sem = fun _ => 0)

def quiescent_MemB [hMemB : Cert.MemB.Facts] : Prop :=
  ∀ (m : (ℓ : Loc Cert.MemB.nD Cert.MemB.τ Cert.MemB.sig) → Buf (Elt Bits) ℓ) (g : Dev Cert.MemB.nD → PrngReg), Pre_MemB m →
    θ_run (Cert.MemB.defs (F := Bits)) (onTc (τ := Cert.MemB.τ) (Cert.MemB.main (F := Bits))) ⟨m, fun _ => 0, g⟩ (fun r => (∀ c : Dev Cert.MemB.nD,
      r.2.mem ((c.tc : Thread Cert.MemB.nD Cert.MemB.τ).loc Cert.MemB.main_arg0) = m ((c.tc : Thread Cert.MemB.nD Cert.MemB.τ).loc Cert.MemB.main_arg0)
      ∧ r.2.mem ((c.tc : Thread Cert.MemB.nD Cert.MemB.τ).loc Cert.MemB.main_arg1) = m ((c.tc : Thread Cert.MemB.nD Cert.MemB.τ).loc Cert.MemB.main_arg1)
      ∧ r.2.mem ((c.tc : Thread Cert.MemB.nD Cert.MemB.τ).loc Cert.MemB.main_arg2) = m ((c.tc : Thread Cert.MemB.nD Cert.MemB.τ).loc Cert.MemB.main_arg2)
      ∧ r.2.mem ((c.tc : Thread Cert.MemB.nD Cert.MemB.τ).loc Cert.MemB.main_arg3) = m ((c.tc : Thread Cert.MemB.nD Cert.MemB.τ).loc Cert.MemB.main_arg3))
      ∧ r.2.sem = fun _ => 0)

def quiescent_MemBIdeal [hMemBIdeal : Cert.MemBIdeal.Facts] : Prop :=
  ∀ (m : (ℓ : Loc Cert.MemBIdeal.nD Cert.MemBIdeal.τ Cert.MemBIdeal.sig) → Buf (Elt Ideal) ℓ) (g : Dev Cert.MemBIdeal.nD → PrngReg), Pre_MemBIdeal m →
    θ_run (Cert.MemBIdeal.defs (F := Ideal)) (onTc (τ := Cert.MemBIdeal.τ) (Cert.MemBIdeal.main (F := Ideal))) ⟨m, fun _ => 0, g⟩ (fun r => (∀ c : Dev Cert.MemBIdeal.nD,
      r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
      ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
      ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2)
      ∧ r.2.mem ((c.tc : Thread Cert.MemBIdeal.nD Cert.MemBIdeal.τ).loc Cert.MemBIdeal.main_arg3) = m ((c.tc : Thread Cert.MemBIdeal.nD Cert.MemBIdeal.τ).loc Cert.MemBIdeal.main_arg3))
      ∧ r.2.sem = fun _ => 0)

def quiescent_MemBReferenceIdeal [hMemBReferenceIdeal : Cert.MemBReferenceIdeal.Facts] : Prop :=
  ∀ (m : (ℓ : Loc Cert.MemBReferenceIdeal.nD Cert.MemBReferenceIdeal.τ Cert.MemBReferenceIdeal.sig) → Buf (Elt Ideal) ℓ) (g : Dev Cert.MemBReferenceIdeal.nD → PrngReg), Pre_MemBReferenceIdeal m →
    θ_run (Cert.MemBReferenceIdeal.defs (F := Ideal)) (onTc (τ := Cert.MemBReferenceIdeal.τ) (Cert.MemBReferenceIdeal.main (F := Ideal))) ⟨m, fun _ => 0, g⟩ (fun r => (∀ c : Dev Cert.MemBReferenceIdeal.nD,
      r.2.mem ((c.tc : Thread Cert.MemBReferenceIdeal.nD Cert.MemBReferenceIdeal.τ).loc Cert.MemBReferenceIdeal.main_arg0) = m ((c.tc : Thread Cert.MemBReferenceIdeal.nD Cert.MemBReferenceIdeal.τ).loc Cert.MemBReferenceIdeal.main_arg0)
      ∧ r.2.mem ((c.tc : Thread Cert.MemBReferenceIdeal.nD Cert.MemBReferenceIdeal.τ).loc Cert.MemBReferenceIdeal.main_arg1) = m ((c.tc : Thread Cert.MemBReferenceIdeal.nD Cert.MemBReferenceIdeal.τ).loc Cert.MemBReferenceIdeal.main_arg1)
      ∧ r.2.mem ((c.tc : Thread Cert.MemBReferenceIdeal.nD Cert.MemBReferenceIdeal.τ).loc Cert.MemBReferenceIdeal.main_arg2) = m ((c.tc : Thread Cert.MemBReferenceIdeal.nD Cert.MemBReferenceIdeal.τ).loc Cert.MemBReferenceIdeal.main_arg2)
      ∧ r.2.mem ((c.tc : Thread Cert.MemBReferenceIdeal.nD Cert.MemBReferenceIdeal.τ).loc Cert.MemBReferenceIdeal.main_arg3) = m ((c.tc : Thread Cert.MemBReferenceIdeal.nD Cert.MemBReferenceIdeal.τ).loc Cert.MemBReferenceIdeal.main_arg3))
      ∧ r.2.sem = fun _ => 0)

def quiescent_XaF [hXaF : Cert.XaF.Facts] : Prop :=
  ∀ (m : (ℓ : Loc Cert.XaF.nD Cert.XaF.τ Cert.XaF.sig) → Buf (Elt Bits) ℓ) (g : Dev Cert.XaF.nD → PrngReg), Pre_XaF m →
    θ_run (Cert.XaF.defs (F := Bits)) (onTc (τ := Cert.XaF.τ) (Cert.XaF.main (F := Bits))) ⟨m, fun _ => 0, g⟩ (fun r => (∀ c : Dev Cert.XaF.nD,
      r.2.mem ((c.tc : Thread Cert.XaF.nD Cert.XaF.τ).loc Cert.XaF.main_arg0) = m ((c.tc : Thread Cert.XaF.nD Cert.XaF.τ).loc Cert.XaF.main_arg0)
      ∧ r.2.mem ((c.tc : Thread Cert.XaF.nD Cert.XaF.τ).loc Cert.XaF.main_arg1) = m ((c.tc : Thread Cert.XaF.nD Cert.XaF.τ).loc Cert.XaF.main_arg1))
      ∧ r.2.sem = fun _ => 0)

def quiescent_XaFIdeal [hXaFIdeal : Cert.XaFIdeal.Facts] : Prop :=
  ∀ (m : (ℓ : Loc Cert.XaFIdeal.nD Cert.XaFIdeal.τ Cert.XaFIdeal.sig) → Buf (Elt Ideal) ℓ) (g : Dev Cert.XaFIdeal.nD → PrngReg), Pre_XaFIdeal m →
    θ_run (Cert.XaFIdeal.defs (F := Ideal)) (onTc (τ := Cert.XaFIdeal.τ) (Cert.XaFIdeal.main (F := Ideal))) ⟨m, fun _ => 0, g⟩ (fun r => (∀ c : Dev Cert.XaFIdeal.nD,
      r.2.mem ((c.tc : Thread Cert.XaFIdeal.nD Cert.XaFIdeal.τ).loc Cert.XaFIdeal.main_arg0) = m ((c.tc : Thread Cert.XaFIdeal.nD Cert.XaFIdeal.τ).loc Cert.XaFIdeal.main_arg0)
      ∧ r.2.mem ((c.tc : Thread Cert.XaFIdeal.nD Cert.XaFIdeal.τ).loc Cert.XaFIdeal.main_arg1) = m ((c.tc : Thread Cert.XaFIdeal.nD Cert.XaFIdeal.τ).loc Cert.XaFIdeal.main_arg1))
      ∧ r.2.sem = fun _ => 0)

def quiescent_XaFReferenceIdeal [hXaFReferenceIdeal : Cert.XaFReferenceIdeal.Facts] : Prop :=
  ∀ (m : (ℓ : Loc Cert.XaFReferenceIdeal.nD Cert.XaFReferenceIdeal.τ Cert.XaFReferenceIdeal.sig) → Buf (Elt Ideal) ℓ) (g : Dev Cert.XaFReferenceIdeal.nD → PrngReg), Pre_XaFReferenceIdeal m →
    θ_run (Cert.XaFReferenceIdeal.defs (F := Ideal)) (onTc (τ := Cert.XaFReferenceIdeal.τ) (Cert.XaFReferenceIdeal.main (F := Ideal))) ⟨m, fun _ => 0, g⟩ (fun r => (∀ c : Dev Cert.XaFReferenceIdeal.nD,
      r.2.mem ((c.tc : Thread Cert.XaFReferenceIdeal.nD Cert.XaFReferenceIdeal.τ).loc Cert.XaFReferenceIdeal.main_arg0) = m ((c.tc : Thread Cert.XaFReferenceIdeal.nD Cert.XaFReferenceIdeal.τ).loc Cert.XaFReferenceIdeal.main_arg0)
      ∧ r.2.mem ((c.tc : Thread Cert.XaFReferenceIdeal.nD Cert.XaFReferenceIdeal.τ).loc Cert.XaFReferenceIdeal.main_arg1) = m ((c.tc : Thread Cert.XaFReferenceIdeal.nD Cert.XaFReferenceIdeal.τ).loc Cert.XaFReferenceIdeal.main_arg1))
      ∧ r.2.sem = fun _ => 0)

def quiescent_GluB [hGluB : Cert.GluB.Facts] : Prop :=
  ∀ (m : (ℓ : Loc Cert.GluB.nD Cert.GluB.τ Cert.GluB.sig) → Buf (Elt Bits) ℓ) (g : Dev Cert.GluB.nD → PrngReg), Pre_GluB m →
    θ_run (Cert.GluB.defs (F := Bits)) (onTc (τ := Cert.GluB.τ) (Cert.GluB.main (F := Bits))) ⟨m, fun _ => 0, g⟩ (fun r => (∀ c : Dev Cert.GluB.nD,
      r.2.mem ((c.tc : Thread Cert.GluB.nD Cert.GluB.τ).loc Cert.GluB.main_arg0) = m ((c.tc : Thread Cert.GluB.nD Cert.GluB.τ).loc Cert.GluB.main_arg0)
      ∧ r.2.mem ((c.tc : Thread Cert.GluB.nD Cert.GluB.τ).loc Cert.GluB.main_arg1) = m ((c.tc : Thread Cert.GluB.nD Cert.GluB.τ).loc Cert.GluB.main_arg1)
      ∧ r.2.mem ((c.tc : Thread Cert.GluB.nD Cert.GluB.τ).loc Cert.GluB.main_arg2) = m ((c.tc : Thread Cert.GluB.nD Cert.GluB.τ).loc Cert.GluB.main_arg2)
      ∧ r.2.mem ((c.tc : Thread Cert.GluB.nD Cert.GluB.τ).loc Cert.GluB.main_arg3) = m ((c.tc : Thread Cert.GluB.nD Cert.GluB.τ).loc Cert.GluB.main_arg3))
      ∧ r.2.sem = fun _ => 0)

def quiescent_GluBIdeal [hGluBIdeal : Cert.GluBIdeal.Facts] : Prop :=
  ∀ (m : (ℓ : Loc Cert.GluBIdeal.nD Cert.GluBIdeal.τ Cert.GluBIdeal.sig) → Buf (Elt Ideal) ℓ) (g : Dev Cert.GluBIdeal.nD → PrngReg), Pre_GluBIdeal m →
    θ_run (Cert.GluBIdeal.defs (F := Ideal)) (onTc (τ := Cert.GluBIdeal.τ) (Cert.GluBIdeal.main (F := Ideal))) ⟨m, fun _ => 0, g⟩ (fun r => (∀ c : Dev Cert.GluBIdeal.nD,
      r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
      ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
      ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2)
      ∧ r.2.mem ((c.tc : Thread Cert.GluBIdeal.nD Cert.GluBIdeal.τ).loc Cert.GluBIdeal.main_arg3) = m ((c.tc : Thread Cert.GluBIdeal.nD Cert.GluBIdeal.τ).loc Cert.GluBIdeal.main_arg3))
      ∧ r.2.sem = fun _ => 0)

def quiescent_GluBReferenceIdeal [hGluBReferenceIdeal : Cert.GluBReferenceIdeal.Facts] : Prop :=
  ∀ (m : (ℓ : Loc Cert.GluBReferenceIdeal.nD Cert.GluBReferenceIdeal.τ Cert.GluBReferenceIdeal.sig) → Buf (Elt Ideal) ℓ) (g : Dev Cert.GluBReferenceIdeal.nD → PrngReg), Pre_GluBReferenceIdeal m →
    θ_run (Cert.GluBReferenceIdeal.defs (F := Ideal)) (onTc (τ := Cert.GluBReferenceIdeal.τ) (Cert.GluBReferenceIdeal.main (F := Ideal))) ⟨m, fun _ => 0, g⟩ (fun r => (∀ c : Dev Cert.GluBReferenceIdeal.nD,
      r.2.mem ((c.tc : Thread Cert.GluBReferenceIdeal.nD Cert.GluBReferenceIdeal.τ).loc Cert.GluBReferenceIdeal.main_arg0) = m ((c.tc : Thread Cert.GluBReferenceIdeal.nD Cert.GluBReferenceIdeal.τ).loc Cert.GluBReferenceIdeal.main_arg0)
      ∧ r.2.mem ((c.tc : Thread Cert.GluBReferenceIdeal.nD Cert.GluBReferenceIdeal.τ).loc Cert.GluBReferenceIdeal.main_arg1) = m ((c.tc : Thread Cert.GluBReferenceIdeal.nD Cert.GluBReferenceIdeal.τ).loc Cert.GluBReferenceIdeal.main_arg1)
      ∧ r.2.mem ((c.tc : Thread Cert.GluBReferenceIdeal.nD Cert.GluBReferenceIdeal.τ).loc Cert.GluBReferenceIdeal.main_arg2) = m ((c.tc : Thread Cert.GluBReferenceIdeal.nD Cert.GluBReferenceIdeal.τ).loc Cert.GluBReferenceIdeal.main_arg2)
      ∧ r.2.mem ((c.tc : Thread Cert.GluBReferenceIdeal.nD Cert.GluBReferenceIdeal.τ).loc Cert.GluBReferenceIdeal.main_arg3) = m ((c.tc : Thread Cert.GluBReferenceIdeal.nD Cert.GluBReferenceIdeal.τ).loc Cert.GluBReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_ActF [hActF : Cert.ActF.Facts] : Prop :=
  ∀ (m : (ℓ : Loc Cert.ActF.nD Cert.ActF.τ Cert.ActF.sig) → Buf (Elt Bits) ℓ) (g : Dev Cert.ActF.nD → PrngReg), Pre_ActF m →
    θ_run (Cert.ActF.defs (F := Bits)) (onTc (τ := Cert.ActF.τ) (Cert.ActF.main (F := Bits))) ⟨m, fun _ => 0, g⟩ (fun r => (∀ c : Dev Cert.ActF.nD,
      r.2.mem ((c.tc : Thread Cert.ActF.nD Cert.ActF.τ).loc Cert.ActF.main_arg0) = m ((c.tc : Thread Cert.ActF.nD Cert.ActF.τ).loc Cert.ActF.main_arg0)
      ∧ r.2.mem ((c.tc : Thread Cert.ActF.nD Cert.ActF.τ).loc Cert.ActF.main_arg1) = m ((c.tc : Thread Cert.ActF.nD Cert.ActF.τ).loc Cert.ActF.main_arg1))
      ∧ r.2.sem = fun _ => 0)

def quiescent_ActFIdeal [hActFIdeal : Cert.ActFIdeal.Facts] : Prop :=
  ∀ (m : (ℓ : Loc Cert.ActFIdeal.nD Cert.ActFIdeal.τ Cert.ActFIdeal.sig) → Buf (Elt Ideal) ℓ) (g : Dev Cert.ActFIdeal.nD → PrngReg), Pre_ActFIdeal m →
    θ_run (Cert.ActFIdeal.defs (F := Ideal)) (onTc (τ := Cert.ActFIdeal.τ) (Cert.ActFIdeal.main (F := Ideal))) ⟨m, fun _ => 0, g⟩ (fun r => (∀ c : Dev Cert.ActFIdeal.nD,
      r.2.mem ((c.tc : Thread Cert.ActFIdeal.nD Cert.ActFIdeal.τ).loc Cert.ActFIdeal.main_arg0) = m ((c.tc : Thread Cert.ActFIdeal.nD Cert.ActFIdeal.τ).loc Cert.ActFIdeal.main_arg0)
      ∧ r.2.mem ((c.tc : Thread Cert.ActFIdeal.nD Cert.ActFIdeal.τ).loc Cert.ActFIdeal.main_arg1) = m ((c.tc : Thread Cert.ActFIdeal.nD Cert.ActFIdeal.τ).loc Cert.ActFIdeal.main_arg1))
      ∧ r.2.sem = fun _ => 0)

def quiescent_ActFReferenceIdeal [hActFReferenceIdeal : Cert.ActFReferenceIdeal.Facts] : Prop :=
  ∀ (m : (ℓ : Loc Cert.ActFReferenceIdeal.nD Cert.ActFReferenceIdeal.τ Cert.ActFReferenceIdeal.sig) → Buf (Elt Ideal) ℓ) (g : Dev Cert.ActFReferenceIdeal.nD → PrngReg), Pre_ActFReferenceIdeal m →
    θ_run (Cert.ActFReferenceIdeal.defs (F := Ideal)) (onTc (τ := Cert.ActFReferenceIdeal.τ) (Cert.ActFReferenceIdeal.main (F := Ideal))) ⟨m, fun _ => 0, g⟩ (fun r => (∀ c : Dev Cert.ActFReferenceIdeal.nD,
      r.2.mem ((c.tc : Thread Cert.ActFReferenceIdeal.nD Cert.ActFReferenceIdeal.τ).loc Cert.ActFReferenceIdeal.main_arg0) = m ((c.tc : Thread Cert.ActFReferenceIdeal.nD Cert.ActFReferenceIdeal.τ).loc Cert.ActFReferenceIdeal.main_arg0)
      ∧ r.2.mem ((c.tc : Thread Cert.ActFReferenceIdeal.nD Cert.ActFReferenceIdeal.τ).loc Cert.ActFReferenceIdeal.main_arg1) = m ((c.tc : Thread Cert.ActFReferenceIdeal.nD Cert.ActFReferenceIdeal.τ).loc Cert.ActFReferenceIdeal.main_arg1))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1)
      ∧ r.2.mem ((c.tc : Thread Cert.GateF.nD Cert.GateF.τ).loc Cert.GateF.main_arg2) = m ((c.tc : Thread Cert.GateF.nD Cert.GateF.τ).loc Cert.GateF.main_arg2))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
      ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2))
      ∧ r.2.sem = fun _ => 0)

def quiescent_GateFReferenceIdeal [hGateFReferenceIdeal : Cert.GateFReferenceIdeal.Facts] : Prop :=
  ∀ (m : (ℓ : Loc Cert.GateFReferenceIdeal.nD Cert.GateFReferenceIdeal.τ Cert.GateFReferenceIdeal.sig) → Buf (Elt Ideal) ℓ) (g : Dev Cert.GateFReferenceIdeal.nD → PrngReg), Pre_GateFReferenceIdeal m →
    θ_run (Cert.GateFReferenceIdeal.defs (F := Ideal)) (onTc (τ := Cert.GateFReferenceIdeal.τ) (Cert.GateFReferenceIdeal.main (F := Ideal))) ⟨m, fun _ => 0, g⟩ (fun r => (∀ c : Dev Cert.GateFReferenceIdeal.nD,
      r.2.mem ((c.tc : Thread Cert.GateFReferenceIdeal.nD Cert.GateFReferenceIdeal.τ).loc Cert.GateFReferenceIdeal.main_arg0) = m ((c.tc : Thread Cert.GateFReferenceIdeal.nD Cert.GateFReferenceIdeal.τ).loc Cert.GateFReferenceIdeal.main_arg0)
      ∧ r.2.mem ((c.tc : Thread Cert.GateFReferenceIdeal.nD Cert.GateFReferenceIdeal.τ).loc Cert.GateFReferenceIdeal.main_arg1) = m ((c.tc : Thread Cert.GateFReferenceIdeal.nD Cert.GateFReferenceIdeal.τ).loc Cert.GateFReferenceIdeal.main_arg1)
      ∧ r.2.mem ((c.tc : Thread Cert.GateFReferenceIdeal.nD Cert.GateFReferenceIdeal.τ).loc Cert.GateFReferenceIdeal.main_arg2) = m ((c.tc : Thread Cert.GateFReferenceIdeal.nD Cert.GateFReferenceIdeal.τ).loc Cert.GateFReferenceIdeal.main_arg2))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ r.2.sem = fun _ => 0)

def quiescent_ConvFReferenceIdeal [hConvFReferenceIdeal : Cert.ConvFReferenceIdeal.Facts] : Prop :=
  ∀ (m : (ℓ : Loc Cert.ConvFReferenceIdeal.nD Cert.ConvFReferenceIdeal.τ Cert.ConvFReferenceIdeal.sig) → Buf (Elt Ideal) ℓ) (g : Dev Cert.ConvFReferenceIdeal.nD → PrngReg), Pre_ConvFReferenceIdeal m →
    θ_run (Cert.ConvFReferenceIdeal.defs (F := Ideal)) (onTc (τ := Cert.ConvFReferenceIdeal.τ) (Cert.ConvFReferenceIdeal.main (F := Ideal))) ⟨m, fun _ => 0, g⟩ (fun r => (∀ c : Dev Cert.ConvFReferenceIdeal.nD,
      r.2.mem ((c.tc : Thread Cert.ConvFReferenceIdeal.nD Cert.ConvFReferenceIdeal.τ).loc Cert.ConvFReferenceIdeal.main_arg0) = m ((c.tc : Thread Cert.ConvFReferenceIdeal.nD Cert.ConvFReferenceIdeal.τ).loc Cert.ConvFReferenceIdeal.main_arg0)
      ∧ r.2.mem ((c.tc : Thread Cert.ConvFReferenceIdeal.nD Cert.ConvFReferenceIdeal.τ).loc Cert.ConvFReferenceIdeal.main_arg1) = m ((c.tc : Thread Cert.ConvFReferenceIdeal.nD Cert.ConvFReferenceIdeal.τ).loc Cert.ConvFReferenceIdeal.main_arg1))
      ∧ r.2.sem = fun _ => 0)

def quiescent_GluA [hGluA : Cert.GluA.Facts] : Prop :=
  ∀ (m : (ℓ : Loc Cert.GluA.nD Cert.GluA.τ Cert.GluA.sig) → Buf (Elt Bits) ℓ) (g : Dev Cert.GluA.nD → PrngReg), Pre_GluA m →
    θ_run (Cert.GluA.defs (F := Bits)) (onTc (τ := Cert.GluA.τ) (Cert.GluA.main (F := Bits))) ⟨m, fun _ => 0, g⟩ (fun r => (∀ c : Dev Cert.GluA.nD,
      r.2.mem ((c.tc : Thread Cert.GluA.nD Cert.GluA.τ).loc Cert.GluA.main_arg0) = m ((c.tc : Thread Cert.GluA.nD Cert.GluA.τ).loc Cert.GluA.main_arg0)
      ∧ r.2.mem ((c.tc : Thread Cert.GluA.nD Cert.GluA.τ).loc Cert.GluA.main_arg1) = m ((c.tc : Thread Cert.GluA.nD Cert.GluA.τ).loc Cert.GluA.main_arg1)
      ∧ r.2.mem ((c.tc : Thread Cert.GluA.nD Cert.GluA.τ).loc Cert.GluA.main_arg2) = m ((c.tc : Thread Cert.GluA.nD Cert.GluA.τ).loc Cert.GluA.main_arg2)
      ∧ r.2.mem ((c.tc : Thread Cert.GluA.nD Cert.GluA.τ).loc Cert.GluA.main_arg3) = m ((c.tc : Thread Cert.GluA.nD Cert.GluA.τ).loc Cert.GluA.main_arg3))
      ∧ r.2.sem = fun _ => 0)

def quiescent_GluAIdeal [hGluAIdeal : Cert.GluAIdeal.Facts] : Prop :=
  ∀ (m : (ℓ : Loc Cert.GluAIdeal.nD Cert.GluAIdeal.τ Cert.GluAIdeal.sig) → Buf (Elt Ideal) ℓ) (g : Dev Cert.GluAIdeal.nD → PrngReg), Pre_GluAIdeal m →
    θ_run (Cert.GluAIdeal.defs (F := Ideal)) (onTc (τ := Cert.GluAIdeal.τ) (Cert.GluAIdeal.main (F := Ideal))) ⟨m, fun _ => 0, g⟩ (fun r => (∀ c : Dev Cert.GluAIdeal.nD,
      r.2.mem ((c.tc : Thread Cert.GluAIdeal.nD Cert.GluAIdeal.τ).loc Cert.GluAIdeal.main_arg0) = m ((c.tc : Thread Cert.GluAIdeal.nD Cert.GluAIdeal.τ).loc Cert.GluAIdeal.main_arg0)
      ∧ r.2.mem ((c.tc : Thread Cert.GluAIdeal.nD Cert.GluAIdeal.τ).loc Cert.GluAIdeal.main_arg1) = m ((c.tc : Thread Cert.GluAIdeal.nD Cert.GluAIdeal.τ).loc Cert.GluAIdeal.main_arg1)
      ∧ r.2.mem ((c.tc : Thread Cert.GluAIdeal.nD Cert.GluAIdeal.τ).loc Cert.GluAIdeal.main_arg2) = m ((c.tc : Thread Cert.GluAIdeal.nD Cert.GluAIdeal.τ).loc Cert.GluAIdeal.main_arg2)
      ∧ r.2.mem ((c.tc : Thread Cert.GluAIdeal.nD Cert.GluAIdeal.τ).loc Cert.GluAIdeal.main_arg3) = m ((c.tc : Thread Cert.GluAIdeal.nD Cert.GluAIdeal.τ).loc Cert.GluAIdeal.main_arg3))
      ∧ r.2.sem = fun _ => 0)

def quiescent_GluAReferenceIdeal [hGluAReferenceIdeal : Cert.GluAReferenceIdeal.Facts] : Prop :=
  ∀ (m : (ℓ : Loc Cert.GluAReferenceIdeal.nD Cert.GluAReferenceIdeal.τ Cert.GluAReferenceIdeal.sig) → Buf (Elt Ideal) ℓ) (g : Dev Cert.GluAReferenceIdeal.nD → PrngReg), Pre_GluAReferenceIdeal m →
    θ_run (Cert.GluAReferenceIdeal.defs (F := Ideal)) (onTc (τ := Cert.GluAReferenceIdeal.τ) (Cert.GluAReferenceIdeal.main (F := Ideal))) ⟨m, fun _ => 0, g⟩ (fun r => (∀ c : Dev Cert.GluAReferenceIdeal.nD,
      r.2.mem ((c.tc : Thread Cert.GluAReferenceIdeal.nD Cert.GluAReferenceIdeal.τ).loc Cert.GluAReferenceIdeal.main_arg0) = m ((c.tc : Thread Cert.GluAReferenceIdeal.nD Cert.GluAReferenceIdeal.τ).loc Cert.GluAReferenceIdeal.main_arg0)
      ∧ r.2.mem ((c.tc : Thread Cert.GluAReferenceIdeal.nD Cert.GluAReferenceIdeal.τ).loc Cert.GluAReferenceIdeal.main_arg1) = m ((c.tc : Thread Cert.GluAReferenceIdeal.nD Cert.GluAReferenceIdeal.τ).loc Cert.GluAReferenceIdeal.main_arg1)
      ∧ r.2.mem ((c.tc : Thread Cert.GluAReferenceIdeal.nD Cert.GluAReferenceIdeal.τ).loc Cert.GluAReferenceIdeal.main_arg2) = m ((c.tc : Thread Cert.GluAReferenceIdeal.nD Cert.GluAReferenceIdeal.τ).loc Cert.GluAReferenceIdeal.main_arg2)
      ∧ r.2.mem ((c.tc : Thread Cert.GluAReferenceIdeal.nD Cert.GluAReferenceIdeal.τ).loc Cert.GluAReferenceIdeal.main_arg3) = m ((c.tc : Thread Cert.GluAReferenceIdeal.nD Cert.GluAReferenceIdeal.τ).loc Cert.GluAReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v42) = v0 c
          ∧ r.2.mem ((c.tc : Thread Cert.UpReferenceIdeal.nD Cert.UpReferenceIdeal.τ).loc Cert.UpReferenceIdeal.main_v43) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_Act_ActIdeal : Prop :=
  True

def algebraic_ActIdeal_ActReferenceIdeal_pre_finite_act [hActIdeal : Cert.ActIdeal.Facts] [hActReferenceIdeal : Cert.ActReferenceIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_finite_act m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)) (v3 : (c : Dev Cert.ActIdeal.nD) → Buf (Elt Ideal) ((c.tc : Thread Cert.ActIdeal.nD Cert.ActIdeal.τ).loc Cert.ActIdeal.main_v0_3)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_v0_3) = v3 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v67) = v0 c
          ∧ r.2.mem ((c.tc : Thread Cert.ActReferenceIdeal.nD Cert.ActReferenceIdeal.τ).loc Cert.ActReferenceIdeal.main_v68) = v1 c
          ∧ r.2.mem ((c.tc : Thread Cert.ActReferenceIdeal.nD Cert.ActReferenceIdeal.τ).loc Cert.ActReferenceIdeal.main_v69) = v2 c
          ∧ r.2.mem ((c.tc : Thread Cert.ActReferenceIdeal.nD Cert.ActReferenceIdeal.τ).loc Cert.ActReferenceIdeal.main_v70) = v3 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_UpW_UpWIdeal : Prop :=
  True

def algebraic_UpWIdeal_UpWReferenceIdeal [hUpWIdeal : Cert.UpWIdeal.Facts] [hUpWReferenceIdeal : Cert.UpWReferenceIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWReferenceIdeal.nD Cert.UpWReferenceIdeal.τ Cert.UpWReferenceIdeal.sig) → Buf (Elt Ideal) ℓ) (g' : Dev Cert.UpWReferenceIdeal.nD → PrngReg), Pre_UpWIdeal m →
    (∀ c : Dev Cert.UpWIdeal.nD,
      m' ((c.tc : Thread Cert.UpWReferenceIdeal.nD Cert.UpWReferenceIdeal.τ).loc Cert.UpWReferenceIdeal.main_arg0) = m ((c.tc : Thread Cert.UpWIdeal.nD Cert.UpWIdeal.τ).loc Cert.UpWIdeal.main_arg0)
      ∧ m' ((c.tc : Thread Cert.UpWReferenceIdeal.nD Cert.UpWReferenceIdeal.τ).loc Cert.UpWReferenceIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWReferenceIdeal.defs (F := Ideal)) (onTc (τ := Cert.UpWReferenceIdeal.τ) (Cert.UpWReferenceIdeal.main (F := Ideal))) ⟨m', fun _ => 0, g'⟩ (fun r => ∀ c : Dev Cert.UpWReferenceIdeal.nD,
          r.2.mem ((c.tc : Thread Cert.UpWReferenceIdeal.nD Cert.UpWReferenceIdeal.τ).loc Cert.UpWReferenceIdeal.main_v6) = v0 c
          ∧ r.2.mem ((c.tc : Thread Cert.UpWReferenceIdeal.nD Cert.UpWReferenceIdeal.τ).loc Cert.UpWReferenceIdeal.main_arg0) = m' ((c.tc : Thread Cert.UpWReferenceIdeal.nD Cert.UpWReferenceIdeal.τ).loc Cert.UpWReferenceIdeal.main_arg0)
          ∧ r.2.mem ((c.tc : Thread Cert.UpWReferenceIdeal.nD Cert.UpWReferenceIdeal.τ).loc Cert.UpWReferenceIdeal.main_arg1) = m' ((c.tc : Thread Cert.UpWReferenceIdeal.nD Cert.UpWReferenceIdeal.τ).loc Cert.UpWReferenceIdeal.main_arg1))

def preserves_DownX_DownXIdeal : Prop :=
  True

def algebraic_DownXIdeal_DownXReferenceIdeal [hDownXIdeal : Cert.DownXIdeal.Facts] [hDownXReferenceIdeal : Cert.DownXReferenceIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXReferenceIdeal.nD Cert.DownXReferenceIdeal.τ Cert.DownXReferenceIdeal.sig) → Buf (Elt Ideal) ℓ) (g' : Dev Cert.DownXReferenceIdeal.nD → PrngReg), Pre_DownXIdeal m →
    (∀ c : Dev Cert.DownXIdeal.nD,
      m' ((c.tc : Thread Cert.DownXReferenceIdeal.nD Cert.DownXReferenceIdeal.τ).loc Cert.DownXReferenceIdeal.main_arg0) = m ((c.tc : Thread Cert.DownXIdeal.nD Cert.DownXIdeal.τ).loc Cert.DownXIdeal.main_arg0)
      ∧ m' ((c.tc : Thread Cert.DownXReferenceIdeal.nD Cert.DownXReferenceIdeal.τ).loc Cert.DownXReferenceIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXReferenceIdeal.defs (F := Ideal)) (onTc (τ := Cert.DownXReferenceIdeal.τ) (Cert.DownXReferenceIdeal.main (F := Ideal))) ⟨m', fun _ => 0, g'⟩ (fun r => ∀ c : Dev Cert.DownXReferenceIdeal.nD,
          r.2.mem ((c.tc : Thread Cert.DownXReferenceIdeal.nD Cert.DownXReferenceIdeal.τ).loc Cert.DownXReferenceIdeal.main_v4) = v0 c
          ∧ r.2.mem ((c.tc : Thread Cert.DownXReferenceIdeal.nD Cert.DownXReferenceIdeal.τ).loc Cert.DownXReferenceIdeal.main_arg0) = m' ((c.tc : Thread Cert.DownXReferenceIdeal.nD Cert.DownXReferenceIdeal.τ).loc Cert.DownXReferenceIdeal.main_arg0)
          ∧ r.2.mem ((c.tc : Thread Cert.DownXReferenceIdeal.nD Cert.DownXReferenceIdeal.τ).loc Cert.DownXReferenceIdeal.main_arg1) = m' ((c.tc : Thread Cert.DownXReferenceIdeal.nD Cert.DownXReferenceIdeal.τ).loc Cert.DownXReferenceIdeal.main_arg1))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v5) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_SqW_SqWIdeal : Prop :=
  True

def algebraic_SqWIdeal_SqWReferenceIdeal [hSqWIdeal : Cert.SqWIdeal.Facts] [hSqWReferenceIdeal : Cert.SqWReferenceIdeal.Facts] : Prop :=
  ∀ (m : (ℓ : Loc Cert.SqWIdeal.nD Cert.SqWIdeal.τ Cert.SqWIdeal.sig) → Buf (Elt Ideal) ℓ) (g : Dev Cert.SqWIdeal.nD → PrngReg)
    (m' : (ℓ : Loc Cert.SqWReferenceIdeal.nD Cert.SqWReferenceIdeal.τ Cert.SqWReferenceIdeal.sig) → Buf (Elt Ideal) ℓ) (g' : Dev Cert.SqWReferenceIdeal.nD → PrngReg), Pre_SqWIdeal m →
    (∀ c : Dev Cert.SqWIdeal.nD,
      m' ((c.tc : Thread Cert.SqWReferenceIdeal.nD Cert.SqWReferenceIdeal.τ).loc Cert.SqWReferenceIdeal.main_arg0) = m ((c.tc : Thread Cert.SqWIdeal.nD Cert.SqWIdeal.τ).loc Cert.SqWIdeal.main_arg0)
      ∧ m' ((c.tc : Thread Cert.SqWReferenceIdeal.nD Cert.SqWReferenceIdeal.τ).loc Cert.SqWReferenceIdeal.main_arg1) = m ((c.tc : Thread Cert.SqWIdeal.nD Cert.SqWIdeal.τ).loc Cert.SqWIdeal.main_arg1)) →
    ∃ (v0 : (c : Dev Cert.SqWIdeal.nD) → Buf (Elt Ideal) ((c.tc : Thread Cert.SqWIdeal.nD Cert.SqWIdeal.τ).loc Cert.SqWIdeal.main_v0)),
      θ_run (Cert.SqWIdeal.defs (F := Ideal)) (onTc (τ := Cert.SqWIdeal.τ) (Cert.SqWIdeal.main (F := Ideal))) ⟨m, fun _ => 0, g⟩ (fun r => ∀ c : Dev Cert.SqWIdeal.nD,
          r.2.mem ((c.tc : Thread Cert.SqWIdeal.nD Cert.SqWIdeal.τ).loc Cert.SqWIdeal.main_v0) = v0 c
          ∧ r.2.mem ((c.tc : Thread Cert.SqWIdeal.nD Cert.SqWIdeal.τ).loc Cert.SqWIdeal.main_arg0) = m ((c.tc : Thread Cert.SqWIdeal.nD Cert.SqWIdeal.τ).loc Cert.SqWIdeal.main_arg0)
          ∧ r.2.mem ((c.tc : Thread Cert.SqWIdeal.nD Cert.SqWIdeal.τ).loc Cert.SqWIdeal.main_arg1) = m ((c.tc : Thread Cert.SqWIdeal.nD Cert.SqWIdeal.τ).loc Cert.SqWIdeal.main_arg1))
      ∧ θ_run (Cert.SqWReferenceIdeal.defs (F := Ideal)) (onTc (τ := Cert.SqWReferenceIdeal.τ) (Cert.SqWReferenceIdeal.main (F := Ideal))) ⟨m', fun _ => 0, g'⟩ (fun r => ∀ c : Dev Cert.SqWReferenceIdeal.nD,
          r.2.mem ((c.tc : Thread Cert.SqWReferenceIdeal.nD Cert.SqWReferenceIdeal.τ).loc Cert.SqWReferenceIdeal.main_v5) = v0 c
          ∧ r.2.mem ((c.tc : Thread Cert.SqWReferenceIdeal.nD Cert.SqWReferenceIdeal.τ).loc Cert.SqWReferenceIdeal.main_arg0) = m' ((c.tc : Thread Cert.SqWReferenceIdeal.nD Cert.SqWReferenceIdeal.τ).loc Cert.SqWReferenceIdeal.main_arg0)
          ∧ r.2.mem ((c.tc : Thread Cert.SqWReferenceIdeal.nD Cert.SqWReferenceIdeal.τ).loc Cert.SqWReferenceIdeal.main_arg1) = m' ((c.tc : Thread Cert.SqWReferenceIdeal.nD Cert.SqWReferenceIdeal.τ).loc Cert.SqWReferenceIdeal.main_arg1))

def preserves_QW_QWIdeal : Prop :=
  True

def algebraic_QWIdeal_QWReferenceIdeal [hQWIdeal : Cert.QWIdeal.Facts] [hQWReferenceIdeal : Cert.QWReferenceIdeal.Facts] : Prop :=
  ∀ (m : (ℓ : Loc Cert.QWIdeal.nD Cert.QWIdeal.τ Cert.QWIdeal.sig) → Buf (Elt Ideal) ℓ) (g : Dev Cert.QWIdeal.nD → PrngReg)
    (m' : (ℓ : Loc Cert.QWReferenceIdeal.nD Cert.QWReferenceIdeal.τ Cert.QWReferenceIdeal.sig) → Buf (Elt Ideal) ℓ) (g' : Dev Cert.QWReferenceIdeal.nD → PrngReg), Pre_QWIdeal m →
    (∀ c : Dev Cert.QWIdeal.nD,
      m' ((c.tc : Thread Cert.QWReferenceIdeal.nD Cert.QWReferenceIdeal.τ).loc Cert.QWReferenceIdeal.main_arg0) = m ((c.tc : Thread Cert.QWIdeal.nD Cert.QWIdeal.τ).loc Cert.QWIdeal.main_arg0)
      ∧ m' ((c.tc : Thread Cert.QWReferenceIdeal.nD Cert.QWReferenceIdeal.τ).loc Cert.QWReferenceIdeal.main_arg1) = m ((c.tc : Thread Cert.QWIdeal.nD Cert.QWIdeal.τ).loc Cert.QWIdeal.main_arg1)) →
    ∃ (v0 : (c : Dev Cert.QWIdeal.nD) → Buf (Elt Ideal) ((c.tc : Thread Cert.QWIdeal.nD Cert.QWIdeal.τ).loc Cert.QWIdeal.main_v0)),
      θ_run (Cert.QWIdeal.defs (F := Ideal)) (onTc (τ := Cert.QWIdeal.τ) (Cert.QWIdeal.main (F := Ideal))) ⟨m, fun _ => 0, g⟩ (fun r => ∀ c : Dev Cert.QWIdeal.nD,
          r.2.mem ((c.tc : Thread Cert.QWIdeal.nD Cert.QWIdeal.τ).loc Cert.QWIdeal.main_v0) = v0 c
          ∧ r.2.mem ((c.tc : Thread Cert.QWIdeal.nD Cert.QWIdeal.τ).loc Cert.QWIdeal.main_arg0) = m ((c.tc : Thread Cert.QWIdeal.nD Cert.QWIdeal.τ).loc Cert.QWIdeal.main_arg0)
          ∧ r.2.mem ((c.tc : Thread Cert.QWIdeal.nD Cert.QWIdeal.τ).loc Cert.QWIdeal.main_arg1) = m ((c.tc : Thread Cert.QWIdeal.nD Cert.QWIdeal.τ).loc Cert.QWIdeal.main_arg1))
      ∧ θ_run (Cert.QWReferenceIdeal.defs (F := Ideal)) (onTc (τ := Cert.QWReferenceIdeal.τ) (Cert.QWReferenceIdeal.main (F := Ideal))) ⟨m', fun _ => 0, g'⟩ (fun r => ∀ c : Dev Cert.QWReferenceIdeal.nD,
          r.2.mem ((c.tc : Thread Cert.QWReferenceIdeal.nD Cert.QWReferenceIdeal.τ).loc Cert.QWReferenceIdeal.main_v6) = v0 c
          ∧ r.2.mem ((c.tc : Thread Cert.QWReferenceIdeal.nD Cert.QWReferenceIdeal.τ).loc Cert.QWReferenceIdeal.main_arg0) = m' ((c.tc : Thread Cert.QWReferenceIdeal.nD Cert.QWReferenceIdeal.τ).loc Cert.QWReferenceIdeal.main_arg0)
          ∧ r.2.mem ((c.tc : Thread Cert.QWReferenceIdeal.nD Cert.QWReferenceIdeal.τ).loc Cert.QWReferenceIdeal.main_arg1) = m' ((c.tc : Thread Cert.QWReferenceIdeal.nD Cert.QWReferenceIdeal.τ).loc Cert.QWReferenceIdeal.main_arg1))

def preserves_InWb_InWbIdeal : Prop :=
  True

def algebraic_InWbIdeal_InWbReferenceIdeal [hInWbIdeal : Cert.InWbIdeal.Facts] [hInWbReferenceIdeal : Cert.InWbReferenceIdeal.Facts] : Prop :=
  ∀ (m : (ℓ : Loc Cert.InWbIdeal.nD Cert.InWbIdeal.τ Cert.InWbIdeal.sig) → Buf (Elt Ideal) ℓ) (g : Dev Cert.InWbIdeal.nD → PrngReg)
    (m' : (ℓ : Loc Cert.InWbReferenceIdeal.nD Cert.InWbReferenceIdeal.τ Cert.InWbReferenceIdeal.sig) → Buf (Elt Ideal) ℓ) (g' : Dev Cert.InWbReferenceIdeal.nD → PrngReg), Pre_InWbIdeal m →
    (∀ c : Dev Cert.InWbIdeal.nD,
      m' ((c.tc : Thread Cert.InWbReferenceIdeal.nD Cert.InWbReferenceIdeal.τ).loc Cert.InWbReferenceIdeal.main_arg0) = m ((c.tc : Thread Cert.InWbIdeal.nD Cert.InWbIdeal.τ).loc Cert.InWbIdeal.main_arg0)
      ∧ m' ((c.tc : Thread Cert.InWbReferenceIdeal.nD Cert.InWbReferenceIdeal.τ).loc Cert.InWbReferenceIdeal.main_arg1) = m ((c.tc : Thread Cert.InWbIdeal.nD Cert.InWbIdeal.τ).loc Cert.InWbIdeal.main_arg1)) →
    ∃ (v0 : (c : Dev Cert.InWbIdeal.nD) → Buf (Elt Ideal) ((c.tc : Thread Cert.InWbIdeal.nD Cert.InWbIdeal.τ).loc Cert.InWbIdeal.main_v0)),
      θ_run (Cert.InWbIdeal.defs (F := Ideal)) (onTc (τ := Cert.InWbIdeal.τ) (Cert.InWbIdeal.main (F := Ideal))) ⟨m, fun _ => 0, g⟩ (fun r => ∀ c : Dev Cert.InWbIdeal.nD,
          r.2.mem ((c.tc : Thread Cert.InWbIdeal.nD Cert.InWbIdeal.τ).loc Cert.InWbIdeal.main_v0) = v0 c
          ∧ r.2.mem ((c.tc : Thread Cert.InWbIdeal.nD Cert.InWbIdeal.τ).loc Cert.InWbIdeal.main_arg0) = m ((c.tc : Thread Cert.InWbIdeal.nD Cert.InWbIdeal.τ).loc Cert.InWbIdeal.main_arg0)
          ∧ r.2.mem ((c.tc : Thread Cert.InWbIdeal.nD Cert.InWbIdeal.τ).loc Cert.InWbIdeal.main_arg1) = m ((c.tc : Thread Cert.InWbIdeal.nD Cert.InWbIdeal.τ).loc Cert.InWbIdeal.main_arg1))
      ∧ θ_run (Cert.InWbReferenceIdeal.defs (F := Ideal)) (onTc (τ := Cert.InWbReferenceIdeal.τ) (Cert.InWbReferenceIdeal.main (F := Ideal))) ⟨m', fun _ => 0, g'⟩ (fun r => ∀ c : Dev Cert.InWbReferenceIdeal.nD,
          r.2.mem ((c.tc : Thread Cert.InWbReferenceIdeal.nD Cert.InWbReferenceIdeal.τ).loc Cert.InWbReferenceIdeal.main_v6) = v0 c
          ∧ r.2.mem ((c.tc : Thread Cert.InWbReferenceIdeal.nD Cert.InWbReferenceIdeal.τ).loc Cert.InWbReferenceIdeal.main_arg0) = m' ((c.tc : Thread Cert.InWbReferenceIdeal.nD Cert.InWbReferenceIdeal.τ).loc Cert.InWbReferenceIdeal.main_arg0)
          ∧ r.2.mem ((c.tc : Thread Cert.InWbReferenceIdeal.nD Cert.InWbReferenceIdeal.τ).loc Cert.InWbReferenceIdeal.main_arg1) = m' ((c.tc : Thread Cert.InWbReferenceIdeal.nD Cert.InWbReferenceIdeal.τ).loc Cert.InWbReferenceIdeal.main_arg1))

def preserves_InWa_InWaIdeal : Prop :=
  True

def algebraic_InWaIdeal_InWaReferenceIdeal [hInWaIdeal : Cert.InWaIdeal.Facts] [hInWaReferenceIdeal : Cert.InWaReferenceIdeal.Facts] : Prop :=
  ∀ (m : (ℓ : Loc Cert.InWaIdeal.nD Cert.InWaIdeal.τ Cert.InWaIdeal.sig) → Buf (Elt Ideal) ℓ) (g : Dev Cert.InWaIdeal.nD → PrngReg)
    (m' : (ℓ : Loc Cert.InWaReferenceIdeal.nD Cert.InWaReferenceIdeal.τ Cert.InWaReferenceIdeal.sig) → Buf (Elt Ideal) ℓ) (g' : Dev Cert.InWaReferenceIdeal.nD → PrngReg), Pre_InWaIdeal m →
    (∀ c : Dev Cert.InWaIdeal.nD,
      m' ((c.tc : Thread Cert.InWaReferenceIdeal.nD Cert.InWaReferenceIdeal.τ).loc Cert.InWaReferenceIdeal.main_arg0) = m ((c.tc : Thread Cert.InWaIdeal.nD Cert.InWaIdeal.τ).loc Cert.InWaIdeal.main_arg0)
      ∧ m' ((c.tc : Thread Cert.InWaReferenceIdeal.nD Cert.InWaReferenceIdeal.τ).loc Cert.InWaReferenceIdeal.main_arg1) = m ((c.tc : Thread Cert.InWaIdeal.nD Cert.InWaIdeal.τ).loc Cert.InWaIdeal.main_arg1)
      ∧ m' ((c.tc : Thread Cert.InWaReferenceIdeal.nD Cert.InWaReferenceIdeal.τ).loc Cert.InWaReferenceIdeal.main_arg2) = m ((c.tc : Thread Cert.InWaIdeal.nD Cert.InWaIdeal.τ).loc Cert.InWaIdeal.main_arg2)) →
    ∃ (v0 : (c : Dev Cert.InWaIdeal.nD) → Buf (Elt Ideal) ((c.tc : Thread Cert.InWaIdeal.nD Cert.InWaIdeal.τ).loc Cert.InWaIdeal.main_v0)),
      θ_run (Cert.InWaIdeal.defs (F := Ideal)) (onTc (τ := Cert.InWaIdeal.τ) (Cert.InWaIdeal.main (F := Ideal))) ⟨m, fun _ => 0, g⟩ (fun r => ∀ c : Dev Cert.InWaIdeal.nD,
          r.2.mem ((c.tc : Thread Cert.InWaIdeal.nD Cert.InWaIdeal.τ).loc Cert.InWaIdeal.main_v0) = v0 c
          ∧ r.2.mem ((c.tc : Thread Cert.InWaIdeal.nD Cert.InWaIdeal.τ).loc Cert.InWaIdeal.main_arg0) = m ((c.tc : Thread Cert.InWaIdeal.nD Cert.InWaIdeal.τ).loc Cert.InWaIdeal.main_arg0)
          ∧ r.2.mem ((c.tc : Thread Cert.InWaIdeal.nD Cert.InWaIdeal.τ).loc Cert.InWaIdeal.main_arg1) = m ((c.tc : Thread Cert.InWaIdeal.nD Cert.InWaIdeal.τ).loc Cert.InWaIdeal.main_arg1)
          ∧ r.2.mem ((c.tc : Thread Cert.InWaIdeal.nD Cert.InWaIdeal.τ).loc Cert.InWaIdeal.main_arg2) = m ((c.tc : Thread Cert.InWaIdeal.nD Cert.InWaIdeal.τ).loc Cert.InWaIdeal.main_arg2))
      ∧ θ_run (Cert.InWaReferenceIdeal.defs (F := Ideal)) (onTc (τ := Cert.InWaReferenceIdeal.τ) (Cert.InWaReferenceIdeal.main (F := Ideal))) ⟨m', fun _ => 0, g'⟩ (fun r => ∀ c : Dev Cert.InWaReferenceIdeal.nD,
          r.2.mem ((c.tc : Thread Cert.InWaReferenceIdeal.nD Cert.InWaReferenceIdeal.τ).loc Cert.InWaReferenceIdeal.main_v6) = v0 c
          ∧ r.2.mem ((c.tc : Thread Cert.InWaReferenceIdeal.nD Cert.InWaReferenceIdeal.τ).loc Cert.InWaReferenceIdeal.main_arg0) = m' ((c.tc : Thread Cert.InWaReferenceIdeal.nD Cert.InWaReferenceIdeal.τ).loc Cert.InWaReferenceIdeal.main_arg0)
          ∧ r.2.mem ((c.tc : Thread Cert.InWaReferenceIdeal.nD Cert.InWaReferenceIdeal.τ).loc Cert.InWaReferenceIdeal.main_arg1) = m' ((c.tc : Thread Cert.InWaReferenceIdeal.nD Cert.InWaReferenceIdeal.τ).loc Cert.InWaReferenceIdeal.main_arg1)
          ∧ r.2.mem ((c.tc : Thread Cert.InWaReferenceIdeal.nD Cert.InWaReferenceIdeal.τ).loc Cert.InWaReferenceIdeal.main_arg2) = m' ((c.tc : Thread Cert.InWaReferenceIdeal.nD Cert.InWaReferenceIdeal.τ).loc Cert.InWaReferenceIdeal.main_arg2))

def preserves_SqX_SqXIdeal : Prop :=
  True

def algebraic_SqXIdeal_SqXReferenceIdeal [hSqXIdeal : Cert.SqXIdeal.Facts] [hSqXReferenceIdeal : Cert.SqXReferenceIdeal.Facts] : Prop :=
  ∀ (m : (ℓ : Loc Cert.SqXIdeal.nD Cert.SqXIdeal.τ Cert.SqXIdeal.sig) → Buf (Elt Ideal) ℓ) (g : Dev Cert.SqXIdeal.nD → PrngReg)
    (m' : (ℓ : Loc Cert.SqXReferenceIdeal.nD Cert.SqXReferenceIdeal.τ Cert.SqXReferenceIdeal.sig) → Buf (Elt Ideal) ℓ) (g' : Dev Cert.SqXReferenceIdeal.nD → PrngReg), Pre_SqXIdeal m →
    (∀ c : Dev Cert.SqXIdeal.nD,
      m' ((c.tc : Thread Cert.SqXReferenceIdeal.nD Cert.SqXReferenceIdeal.τ).loc Cert.SqXReferenceIdeal.main_arg0) = m ((c.tc : Thread Cert.SqXIdeal.nD Cert.SqXIdeal.τ).loc Cert.SqXIdeal.main_arg0)
      ∧ m' ((c.tc : Thread Cert.SqXReferenceIdeal.nD Cert.SqXReferenceIdeal.τ).loc Cert.SqXReferenceIdeal.main_arg1) = m ((c.tc : Thread Cert.SqXIdeal.nD Cert.SqXIdeal.τ).loc Cert.SqXIdeal.main_arg1)) →
    ∃ (v0 : (c : Dev Cert.SqXIdeal.nD) → Buf (Elt Ideal) ((c.tc : Thread Cert.SqXIdeal.nD Cert.SqXIdeal.τ).loc Cert.SqXIdeal.main_v0)),
      θ_run (Cert.SqXIdeal.defs (F := Ideal)) (onTc (τ := Cert.SqXIdeal.τ) (Cert.SqXIdeal.main (F := Ideal))) ⟨m, fun _ => 0, g⟩ (fun r => ∀ c : Dev Cert.SqXIdeal.nD,
          r.2.mem ((c.tc : Thread Cert.SqXIdeal.nD Cert.SqXIdeal.τ).loc Cert.SqXIdeal.main_v0) = v0 c
          ∧ r.2.mem ((c.tc : Thread Cert.SqXIdeal.nD Cert.SqXIdeal.τ).loc Cert.SqXIdeal.main_arg0) = m ((c.tc : Thread Cert.SqXIdeal.nD Cert.SqXIdeal.τ).loc Cert.SqXIdeal.main_arg0)
          ∧ r.2.mem ((c.tc : Thread Cert.SqXIdeal.nD Cert.SqXIdeal.τ).loc Cert.SqXIdeal.main_arg1) = m ((c.tc : Thread Cert.SqXIdeal.nD Cert.SqXIdeal.τ).loc Cert.SqXIdeal.main_arg1))
      ∧ θ_run (Cert.SqXReferenceIdeal.defs (F := Ideal)) (onTc (τ := Cert.SqXReferenceIdeal.τ) (Cert.SqXReferenceIdeal.main (F := Ideal))) ⟨m', fun _ => 0, g'⟩ (fun r => ∀ c : Dev Cert.SqXReferenceIdeal.nD,
          r.2.mem ((c.tc : Thread Cert.SqXReferenceIdeal.nD Cert.SqXReferenceIdeal.τ).loc Cert.SqXReferenceIdeal.main_v3) = v0 c
          ∧ r.2.mem ((c.tc : Thread Cert.SqXReferenceIdeal.nD Cert.SqXReferenceIdeal.τ).loc Cert.SqXReferenceIdeal.main_arg0) = m' ((c.tc : Thread Cert.SqXReferenceIdeal.nD Cert.SqXReferenceIdeal.τ).loc Cert.SqXReferenceIdeal.main_arg0)
          ∧ r.2.mem ((c.tc : Thread Cert.SqXReferenceIdeal.nD Cert.SqXReferenceIdeal.τ).loc Cert.SqXReferenceIdeal.main_arg1) = m' ((c.tc : Thread Cert.SqXReferenceIdeal.nD Cert.SqXReferenceIdeal.τ).loc Cert.SqXReferenceIdeal.main_arg1))

def preserves_InXb_InXbIdeal : Prop :=
  True

def algebraic_InXbIdeal_InXbReferenceIdeal [hInXbIdeal : Cert.InXbIdeal.Facts] [hInXbReferenceIdeal : Cert.InXbReferenceIdeal.Facts] : Prop :=
  ∀ (m : (ℓ : Loc Cert.InXbIdeal.nD Cert.InXbIdeal.τ Cert.InXbIdeal.sig) → Buf (Elt Ideal) ℓ) (g : Dev Cert.InXbIdeal.nD → PrngReg)
    (m' : (ℓ : Loc Cert.InXbReferenceIdeal.nD Cert.InXbReferenceIdeal.τ Cert.InXbReferenceIdeal.sig) → Buf (Elt Ideal) ℓ) (g' : Dev Cert.InXbReferenceIdeal.nD → PrngReg), Pre_InXbIdeal m →
    (∀ c : Dev Cert.InXbIdeal.nD,
      m' ((c.tc : Thread Cert.InXbReferenceIdeal.nD Cert.InXbReferenceIdeal.τ).loc Cert.InXbReferenceIdeal.main_arg0) = m ((c.tc : Thread Cert.InXbIdeal.nD Cert.InXbIdeal.τ).loc Cert.InXbIdeal.main_arg0)
      ∧ m' ((c.tc : Thread Cert.InXbReferenceIdeal.nD Cert.InXbReferenceIdeal.τ).loc Cert.InXbReferenceIdeal.main_arg1) = m ((c.tc : Thread Cert.InXbIdeal.nD Cert.InXbIdeal.τ).loc Cert.InXbIdeal.main_arg1)
      ∧ m' ((c.tc : Thread Cert.InXbReferenceIdeal.nD Cert.InXbReferenceIdeal.τ).loc Cert.InXbReferenceIdeal.main_arg2) = m ((c.tc : Thread Cert.InXbIdeal.nD Cert.InXbIdeal.τ).loc Cert.InXbIdeal.main_arg2)
      ∧ m' ((c.tc : Thread Cert.InXbReferenceIdeal.nD Cert.InXbReferenceIdeal.τ).loc Cert.InXbReferenceIdeal.main_arg3) = m ((c.tc : Thread Cert.InXbIdeal.nD Cert.InXbIdeal.τ).loc Cert.InXbIdeal.main_arg3)
      ∧ m' ((c.tc : Thread Cert.InXbReferenceIdeal.nD Cert.InXbReferenceIdeal.τ).loc Cert.InXbReferenceIdeal.main_arg4) = m ((c.tc : Thread Cert.InXbIdeal.nD Cert.InXbIdeal.τ).loc Cert.InXbIdeal.main_arg4)) →
    ∃ (v0 : (c : Dev Cert.InXbIdeal.nD) → Buf (Elt Ideal) ((c.tc : Thread Cert.InXbIdeal.nD Cert.InXbIdeal.τ).loc Cert.InXbIdeal.main_v1_0)) (v1 : (c : Dev Cert.InXbIdeal.nD) → Buf (Elt Ideal) ((c.tc : Thread Cert.InXbIdeal.nD Cert.InXbIdeal.τ).loc Cert.InXbIdeal.main_v1_1)),
      θ_run (Cert.InXbIdeal.defs (F := Ideal)) (onTc (τ := Cert.InXbIdeal.τ) (Cert.InXbIdeal.main (F := Ideal))) ⟨m, fun _ => 0, g⟩ (fun r => ∀ c : Dev Cert.InXbIdeal.nD,
          r.2.mem ((c.tc : Thread Cert.InXbIdeal.nD Cert.InXbIdeal.τ).loc Cert.InXbIdeal.main_v1_0) = v0 c
          ∧ r.2.mem ((c.tc : Thread Cert.InXbIdeal.nD Cert.InXbIdeal.τ).loc Cert.InXbIdeal.main_v1_1) = v1 c
          ∧ r.2.mem ((c.tc : Thread Cert.InXbIdeal.nD Cert.InXbIdeal.τ).loc Cert.InXbIdeal.main_arg0) = m ((c.tc : Thread Cert.InXbIdeal.nD Cert.InXbIdeal.τ).loc Cert.InXbIdeal.main_arg0)
          ∧ r.2.mem ((c.tc : Thread Cert.InXbIdeal.nD Cert.InXbIdeal.τ).loc Cert.InXbIdeal.main_arg1) = m ((c.tc : Thread Cert.InXbIdeal.nD Cert.InXbIdeal.τ).loc Cert.InXbIdeal.main_arg1)
          ∧ r.2.mem ((c.tc : Thread Cert.InXbIdeal.nD Cert.InXbIdeal.τ).loc Cert.InXbIdeal.main_arg2) = m ((c.tc : Thread Cert.InXbIdeal.nD Cert.InXbIdeal.τ).loc Cert.InXbIdeal.main_arg2)
          ∧ r.2.mem ((c.tc : Thread Cert.InXbIdeal.nD Cert.InXbIdeal.τ).loc Cert.InXbIdeal.main_arg3) = m ((c.tc : Thread Cert.InXbIdeal.nD Cert.InXbIdeal.τ).loc Cert.InXbIdeal.main_arg3)
          ∧ r.2.mem ((c.tc : Thread Cert.InXbIdeal.nD Cert.InXbIdeal.τ).loc Cert.InXbIdeal.main_arg4) = m ((c.tc : Thread Cert.InXbIdeal.nD Cert.InXbIdeal.τ).loc Cert.InXbIdeal.main_arg4))
      ∧ θ_run (Cert.InXbReferenceIdeal.defs (F := Ideal)) (onTc (τ := Cert.InXbReferenceIdeal.τ) (Cert.InXbReferenceIdeal.main (F := Ideal))) ⟨m', fun _ => 0, g'⟩ (fun r => ∀ c : Dev Cert.InXbReferenceIdeal.nD,
          r.2.mem ((c.tc : Thread Cert.InXbReferenceIdeal.nD Cert.InXbReferenceIdeal.τ).loc Cert.InXbReferenceIdeal.main_v40) = v0 c
          ∧ r.2.mem ((c.tc : Thread Cert.InXbReferenceIdeal.nD Cert.InXbReferenceIdeal.τ).loc Cert.InXbReferenceIdeal.main_v41) = v1 c
          ∧ r.2.mem ((c.tc : Thread Cert.InXbReferenceIdeal.nD Cert.InXbReferenceIdeal.τ).loc Cert.InXbReferenceIdeal.main_arg0) = m' ((c.tc : Thread Cert.InXbReferenceIdeal.nD Cert.InXbReferenceIdeal.τ).loc Cert.InXbReferenceIdeal.main_arg0)
          ∧ r.2.mem ((c.tc : Thread Cert.InXbReferenceIdeal.nD Cert.InXbReferenceIdeal.τ).loc Cert.InXbReferenceIdeal.main_arg1) = m' ((c.tc : Thread Cert.InXbReferenceIdeal.nD Cert.InXbReferenceIdeal.τ).loc Cert.InXbReferenceIdeal.main_arg1)
          ∧ r.2.mem ((c.tc : Thread Cert.InXbReferenceIdeal.nD Cert.InXbReferenceIdeal.τ).loc Cert.InXbReferenceIdeal.main_arg2) = m' ((c.tc : Thread Cert.InXbReferenceIdeal.nD Cert.InXbReferenceIdeal.τ).loc Cert.InXbReferenceIdeal.main_arg2)
          ∧ r.2.mem ((c.tc : Thread Cert.InXbReferenceIdeal.nD Cert.InXbReferenceIdeal.τ).loc Cert.InXbReferenceIdeal.main_arg3) = m' ((c.tc : Thread Cert.InXbReferenceIdeal.nD Cert.InXbReferenceIdeal.τ).loc Cert.InXbReferenceIdeal.main_arg3)
          ∧ r.2.mem ((c.tc : Thread Cert.InXbReferenceIdeal.nD Cert.InXbReferenceIdeal.τ).loc Cert.InXbReferenceIdeal.main_arg4) = m' ((c.tc : Thread Cert.InXbReferenceIdeal.nD Cert.InXbReferenceIdeal.τ).loc Cert.InXbReferenceIdeal.main_arg4))

def preserves_InXa_InXaIdeal : Prop :=
  True

def algebraic_InXaIdeal_InXaReferenceIdeal [hInXaIdeal : Cert.InXaIdeal.Facts] [hInXaReferenceIdeal : Cert.InXaReferenceIdeal.Facts] : Prop :=
  ∀ (m : (ℓ : Loc Cert.InXaIdeal.nD Cert.InXaIdeal.τ Cert.InXaIdeal.sig) → Buf (Elt Ideal) ℓ) (g : Dev Cert.InXaIdeal.nD → PrngReg)
    (m' : (ℓ : Loc Cert.InXaReferenceIdeal.nD Cert.InXaReferenceIdeal.τ Cert.InXaReferenceIdeal.sig) → Buf (Elt Ideal) ℓ) (g' : Dev Cert.InXaReferenceIdeal.nD → PrngReg), Pre_InXaIdeal m →
    (∀ c : Dev Cert.InXaIdeal.nD,
      m' ((c.tc : Thread Cert.InXaReferenceIdeal.nD Cert.InXaReferenceIdeal.τ).loc Cert.InXaReferenceIdeal.main_arg0) = m ((c.tc : Thread Cert.InXaIdeal.nD Cert.InXaIdeal.τ).loc Cert.InXaIdeal.main_arg0)
      ∧ m' ((c.tc : Thread Cert.InXaReferenceIdeal.nD Cert.InXaReferenceIdeal.τ).loc Cert.InXaReferenceIdeal.main_arg1) = m ((c.tc : Thread Cert.InXaIdeal.nD Cert.InXaIdeal.τ).loc Cert.InXaIdeal.main_arg1)
      ∧ m' ((c.tc : Thread Cert.InXaReferenceIdeal.nD Cert.InXaReferenceIdeal.τ).loc Cert.InXaReferenceIdeal.main_arg2) = m ((c.tc : Thread Cert.InXaIdeal.nD Cert.InXaIdeal.τ).loc Cert.InXaIdeal.main_arg2)
      ∧ m' ((c.tc : Thread Cert.InXaReferenceIdeal.nD Cert.InXaReferenceIdeal.τ).loc Cert.InXaReferenceIdeal.main_arg3) = m ((c.tc : Thread Cert.InXaIdeal.nD Cert.InXaIdeal.τ).loc Cert.InXaIdeal.main_arg3)
      ∧ m' ((c.tc : Thread Cert.InXaReferenceIdeal.nD Cert.InXaReferenceIdeal.τ).loc Cert.InXaReferenceIdeal.main_arg4) = m ((c.tc : Thread Cert.InXaIdeal.nD Cert.InXaIdeal.τ).loc Cert.InXaIdeal.main_arg4)) →
    ∃ (v0 : (c : Dev Cert.InXaIdeal.nD) → Buf (Elt Ideal) ((c.tc : Thread Cert.InXaIdeal.nD Cert.InXaIdeal.τ).loc Cert.InXaIdeal.main_v1_0)) (v1 : (c : Dev Cert.InXaIdeal.nD) → Buf (Elt Ideal) ((c.tc : Thread Cert.InXaIdeal.nD Cert.InXaIdeal.τ).loc Cert.InXaIdeal.main_v1_1)),
      θ_run (Cert.InXaIdeal.defs (F := Ideal)) (onTc (τ := Cert.InXaIdeal.τ) (Cert.InXaIdeal.main (F := Ideal))) ⟨m, fun _ => 0, g⟩ (fun r => ∀ c : Dev Cert.InXaIdeal.nD,
          r.2.mem ((c.tc : Thread Cert.InXaIdeal.nD Cert.InXaIdeal.τ).loc Cert.InXaIdeal.main_v1_0) = v0 c
          ∧ r.2.mem ((c.tc : Thread Cert.InXaIdeal.nD Cert.InXaIdeal.τ).loc Cert.InXaIdeal.main_v1_1) = v1 c
          ∧ r.2.mem ((c.tc : Thread Cert.InXaIdeal.nD Cert.InXaIdeal.τ).loc Cert.InXaIdeal.main_arg0) = m ((c.tc : Thread Cert.InXaIdeal.nD Cert.InXaIdeal.τ).loc Cert.InXaIdeal.main_arg0)
          ∧ r.2.mem ((c.tc : Thread Cert.InXaIdeal.nD Cert.InXaIdeal.τ).loc Cert.InXaIdeal.main_arg1) = m ((c.tc : Thread Cert.InXaIdeal.nD Cert.InXaIdeal.τ).loc Cert.InXaIdeal.main_arg1)
          ∧ r.2.mem ((c.tc : Thread Cert.InXaIdeal.nD Cert.InXaIdeal.τ).loc Cert.InXaIdeal.main_arg2) = m ((c.tc : Thread Cert.InXaIdeal.nD Cert.InXaIdeal.τ).loc Cert.InXaIdeal.main_arg2)
          ∧ r.2.mem ((c.tc : Thread Cert.InXaIdeal.nD Cert.InXaIdeal.τ).loc Cert.InXaIdeal.main_arg3) = m ((c.tc : Thread Cert.InXaIdeal.nD Cert.InXaIdeal.τ).loc Cert.InXaIdeal.main_arg3)
          ∧ r.2.mem ((c.tc : Thread Cert.InXaIdeal.nD Cert.InXaIdeal.τ).loc Cert.InXaIdeal.main_arg4) = m ((c.tc : Thread Cert.InXaIdeal.nD Cert.InXaIdeal.τ).loc Cert.InXaIdeal.main_arg4))
      ∧ θ_run (Cert.InXaReferenceIdeal.defs (F := Ideal)) (onTc (τ := Cert.InXaReferenceIdeal.τ) (Cert.InXaReferenceIdeal.main (F := Ideal))) ⟨m', fun _ => 0, g'⟩ (fun r => ∀ c : Dev Cert.InXaReferenceIdeal.nD,
          r.2.mem ((c.tc : Thread Cert.InXaReferenceIdeal.nD Cert.InXaReferenceIdeal.τ).loc Cert.InXaReferenceIdeal.main_v40) = v0 c
          ∧ r.2.mem ((c.tc : Thread Cert.InXaReferenceIdeal.nD Cert.InXaReferenceIdeal.τ).loc Cert.InXaReferenceIdeal.main_v41) = v1 c
          ∧ r.2.mem ((c.tc : Thread Cert.InXaReferenceIdeal.nD Cert.InXaReferenceIdeal.τ).loc Cert.InXaReferenceIdeal.main_arg0) = m' ((c.tc : Thread Cert.InXaReferenceIdeal.nD Cert.InXaReferenceIdeal.τ).loc Cert.InXaReferenceIdeal.main_arg0)
          ∧ r.2.mem ((c.tc : Thread Cert.InXaReferenceIdeal.nD Cert.InXaReferenceIdeal.τ).loc Cert.InXaReferenceIdeal.main_arg1) = m' ((c.tc : Thread Cert.InXaReferenceIdeal.nD Cert.InXaReferenceIdeal.τ).loc Cert.InXaReferenceIdeal.main_arg1)
          ∧ r.2.mem ((c.tc : Thread Cert.InXaReferenceIdeal.nD Cert.InXaReferenceIdeal.τ).loc Cert.InXaReferenceIdeal.main_arg2) = m' ((c.tc : Thread Cert.InXaReferenceIdeal.nD Cert.InXaReferenceIdeal.τ).loc Cert.InXaReferenceIdeal.main_arg2)
          ∧ r.2.mem ((c.tc : Thread Cert.InXaReferenceIdeal.nD Cert.InXaReferenceIdeal.τ).loc Cert.InXaReferenceIdeal.main_arg3) = m' ((c.tc : Thread Cert.InXaReferenceIdeal.nD Cert.InXaReferenceIdeal.τ).loc Cert.InXaReferenceIdeal.main_arg3)
          ∧ r.2.mem ((c.tc : Thread Cert.InXaReferenceIdeal.nD Cert.InXaReferenceIdeal.τ).loc Cert.InXaReferenceIdeal.main_arg4) = m' ((c.tc : Thread Cert.InXaReferenceIdeal.nD Cert.InXaReferenceIdeal.τ).loc Cert.InXaReferenceIdeal.main_arg4))

def preserves_QX_QXIdeal : Prop :=
  True

def algebraic_QXIdeal_QXReferenceIdeal [hQXIdeal : Cert.QXIdeal.Facts] [hQXReferenceIdeal : Cert.QXReferenceIdeal.Facts] : Prop :=
  ∀ (m : (ℓ : Loc Cert.QXIdeal.nD Cert.QXIdeal.τ Cert.QXIdeal.sig) → Buf (Elt Ideal) ℓ) (g : Dev Cert.QXIdeal.nD → PrngReg)
    (m' : (ℓ : Loc Cert.QXReferenceIdeal.nD Cert.QXReferenceIdeal.τ Cert.QXReferenceIdeal.sig) → Buf (Elt Ideal) ℓ) (g' : Dev Cert.QXReferenceIdeal.nD → PrngReg), Pre_QXIdeal m →
    (∀ c : Dev Cert.QXIdeal.nD,
      m' ((c.tc : Thread Cert.QXReferenceIdeal.nD Cert.QXReferenceIdeal.τ).loc Cert.QXReferenceIdeal.main_arg0) = m ((c.tc : Thread Cert.QXIdeal.nD Cert.QXIdeal.τ).loc Cert.QXIdeal.main_arg0)
      ∧ m' ((c.tc : Thread Cert.QXReferenceIdeal.nD Cert.QXReferenceIdeal.τ).loc Cert.QXReferenceIdeal.main_arg1) = m ((c.tc : Thread Cert.QXIdeal.nD Cert.QXIdeal.τ).loc Cert.QXIdeal.main_arg1)
      ∧ m' ((c.tc : Thread Cert.QXReferenceIdeal.nD Cert.QXReferenceIdeal.τ).loc Cert.QXReferenceIdeal.main_arg2) = m ((c.tc : Thread Cert.QXIdeal.nD Cert.QXIdeal.τ).loc Cert.QXIdeal.main_arg2)
      ∧ m' ((c.tc : Thread Cert.QXReferenceIdeal.nD Cert.QXReferenceIdeal.τ).loc Cert.QXReferenceIdeal.main_arg3) = m ((c.tc : Thread Cert.QXIdeal.nD Cert.QXIdeal.τ).loc Cert.QXIdeal.main_arg3)
      ∧ m' ((c.tc : Thread Cert.QXReferenceIdeal.nD Cert.QXReferenceIdeal.τ).loc Cert.QXReferenceIdeal.main_arg4) = m ((c.tc : Thread Cert.QXIdeal.nD Cert.QXIdeal.τ).loc Cert.QXIdeal.main_arg4)) →
    ∃ (v0 : (c : Dev Cert.QXIdeal.nD) → Buf (Elt Ideal) ((c.tc : Thread Cert.QXIdeal.nD Cert.QXIdeal.τ).loc Cert.QXIdeal.main_v1_0)) (v1 : (c : Dev Cert.QXIdeal.nD) → Buf (Elt Ideal) ((c.tc : Thread Cert.QXIdeal.nD Cert.QXIdeal.τ).loc Cert.QXIdeal.main_v1_1)),
      θ_run (Cert.QXIdeal.defs (F := Ideal)) (onTc (τ := Cert.QXIdeal.τ) (Cert.QXIdeal.main (F := Ideal))) ⟨m, fun _ => 0, g⟩ (fun r => ∀ c : Dev Cert.QXIdeal.nD,
          r.2.mem ((c.tc : Thread Cert.QXIdeal.nD Cert.QXIdeal.τ).loc Cert.QXIdeal.main_v1_0) = v0 c
          ∧ r.2.mem ((c.tc : Thread Cert.QXIdeal.nD Cert.QXIdeal.τ).loc Cert.QXIdeal.main_v1_1) = v1 c
          ∧ r.2.mem ((c.tc : Thread Cert.QXIdeal.nD Cert.QXIdeal.τ).loc Cert.QXIdeal.main_arg0) = m ((c.tc : Thread Cert.QXIdeal.nD Cert.QXIdeal.τ).loc Cert.QXIdeal.main_arg0)
          ∧ r.2.mem ((c.tc : Thread Cert.QXIdeal.nD Cert.QXIdeal.τ).loc Cert.QXIdeal.main_arg1) = m ((c.tc : Thread Cert.QXIdeal.nD Cert.QXIdeal.τ).loc Cert.QXIdeal.main_arg1)
          ∧ r.2.mem ((c.tc : Thread Cert.QXIdeal.nD Cert.QXIdeal.τ).loc Cert.QXIdeal.main_arg2) = m ((c.tc : Thread Cert.QXIdeal.nD Cert.QXIdeal.τ).loc Cert.QXIdeal.main_arg2)
          ∧ r.2.mem ((c.tc : Thread Cert.QXIdeal.nD Cert.QXIdeal.τ).loc Cert.QXIdeal.main_arg3) = m ((c.tc : Thread Cert.QXIdeal.nD Cert.QXIdeal.τ).loc Cert.QXIdeal.main_arg3)
          ∧ r.2.mem ((c.tc : Thread Cert.QXIdeal.nD Cert.QXIdeal.τ).loc Cert.QXIdeal.main_arg4) = m ((c.tc : Thread Cert.QXIdeal.nD Cert.QXIdeal.τ).loc Cert.QXIdeal.main_arg4))
      ∧ θ_run (Cert.QXReferenceIdeal.defs (F := Ideal)) (onTc (τ := Cert.QXReferenceIdeal.τ) (Cert.QXReferenceIdeal.main (F := Ideal))) ⟨m', fun _ => 0, g'⟩ (fun r => ∀ c : Dev Cert.QXReferenceIdeal.nD,
          r.2.mem ((c.tc : Thread Cert.QXReferenceIdeal.nD Cert.QXReferenceIdeal.τ).loc Cert.QXReferenceIdeal.main_v40) = v0 c
          ∧ r.2.mem ((c.tc : Thread Cert.QXReferenceIdeal.nD Cert.QXReferenceIdeal.τ).loc Cert.QXReferenceIdeal.main_v41) = v1 c
          ∧ r.2.mem ((c.tc : Thread Cert.QXReferenceIdeal.nD Cert.QXReferenceIdeal.τ).loc Cert.QXReferenceIdeal.main_arg0) = m' ((c.tc : Thread Cert.QXReferenceIdeal.nD Cert.QXReferenceIdeal.τ).loc Cert.QXReferenceIdeal.main_arg0)
          ∧ r.2.mem ((c.tc : Thread Cert.QXReferenceIdeal.nD Cert.QXReferenceIdeal.τ).loc Cert.QXReferenceIdeal.main_arg1) = m' ((c.tc : Thread Cert.QXReferenceIdeal.nD Cert.QXReferenceIdeal.τ).loc Cert.QXReferenceIdeal.main_arg1)
          ∧ r.2.mem ((c.tc : Thread Cert.QXReferenceIdeal.nD Cert.QXReferenceIdeal.τ).loc Cert.QXReferenceIdeal.main_arg2) = m' ((c.tc : Thread Cert.QXReferenceIdeal.nD Cert.QXReferenceIdeal.τ).loc Cert.QXReferenceIdeal.main_arg2)
          ∧ r.2.mem ((c.tc : Thread Cert.QXReferenceIdeal.nD Cert.QXReferenceIdeal.τ).loc Cert.QXReferenceIdeal.main_arg3) = m' ((c.tc : Thread Cert.QXReferenceIdeal.nD Cert.QXReferenceIdeal.τ).loc Cert.QXReferenceIdeal.main_arg3)
          ∧ r.2.mem ((c.tc : Thread Cert.QXReferenceIdeal.nD Cert.QXReferenceIdeal.τ).loc Cert.QXReferenceIdeal.main_arg4) = m' ((c.tc : Thread Cert.QXReferenceIdeal.nD Cert.QXReferenceIdeal.τ).loc Cert.QXReferenceIdeal.main_arg4))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v3) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_Inb_InbIdeal : Prop :=
  True

def algebraic_InbIdeal_InbReferenceIdeal [hInbIdeal : Cert.InbIdeal.Facts] [hInbReferenceIdeal : Cert.InbReferenceIdeal.Facts] : Prop :=
  ∀ (m : (ℓ : Loc Cert.InbIdeal.nD Cert.InbIdeal.τ Cert.InbIdeal.sig) → Buf (Elt Ideal) ℓ) (g : Dev Cert.InbIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbIdeal m →
    (∀ c : Dev Cert.InbIdeal.nD,
      m' ((c.tc : Thread Cert.InbReferenceIdeal.nD Cert.InbReferenceIdeal.τ).loc Cert.InbReferenceIdeal.main_arg0) = m ((c.tc : Thread Cert.InbIdeal.nD Cert.InbIdeal.τ).loc Cert.InbIdeal.main_arg0)
      ∧ m' ((c.tc : Thread Cert.InbReferenceIdeal.nD Cert.InbReferenceIdeal.τ).loc Cert.InbReferenceIdeal.main_arg1) = m ((c.tc : Thread Cert.InbIdeal.nD Cert.InbIdeal.τ).loc Cert.InbIdeal.main_arg1)) →
    ∃ (v0 : (c : Dev Cert.InbIdeal.nD) → Buf (Elt Ideal) ((c.tc : Thread Cert.InbIdeal.nD Cert.InbIdeal.τ).loc Cert.InbIdeal.main_v0)),
      θ_run (Cert.InbIdeal.defs (F := Ideal)) (onTc (τ := Cert.InbIdeal.τ) (Cert.InbIdeal.main (F := Ideal))) ⟨m, fun _ => 0, g⟩ (fun r => ∀ c : Dev Cert.InbIdeal.nD,
          r.2.mem ((c.tc : Thread Cert.InbIdeal.nD Cert.InbIdeal.τ).loc Cert.InbIdeal.main_v0) = v0 c
          ∧ r.2.mem ((c.tc : Thread Cert.InbIdeal.nD Cert.InbIdeal.τ).loc Cert.InbIdeal.main_arg0) = m ((c.tc : Thread Cert.InbIdeal.nD Cert.InbIdeal.τ).loc Cert.InbIdeal.main_arg0)
          ∧ r.2.mem ((c.tc : Thread Cert.InbIdeal.nD Cert.InbIdeal.τ).loc Cert.InbIdeal.main_arg1) = m ((c.tc : Thread Cert.InbIdeal.nD Cert.InbIdeal.τ).loc Cert.InbIdeal.main_arg1))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v2) = v0 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1))

def preserves_Ina_InaIdeal : Prop :=
  True

def algebraic_InaIdeal_InaReferenceIdeal [hInaIdeal : Cert.InaIdeal.Facts] [hInaReferenceIdeal : Cert.InaReferenceIdeal.Facts] : Prop :=
  ∀ (m : (ℓ : Loc Cert.InaIdeal.nD Cert.InaIdeal.τ Cert.InaIdeal.sig) → Buf (Elt Ideal) ℓ) (g : Dev Cert.InaIdeal.nD → PrngReg)
    (m' : (ℓ : Loc Cert.InaReferenceIdeal.nD Cert.InaReferenceIdeal.τ Cert.InaReferenceIdeal.sig) → Buf (Elt Ideal) ℓ) (g' : Dev Cert.InaReferenceIdeal.nD → PrngReg), Pre_InaIdeal m →
    (∀ c : Dev Cert.InaIdeal.nD,
      m' ((c.tc : Thread Cert.InaReferenceIdeal.nD Cert.InaReferenceIdeal.τ).loc Cert.InaReferenceIdeal.main_arg0) = m ((c.tc : Thread Cert.InaIdeal.nD Cert.InaIdeal.τ).loc Cert.InaIdeal.main_arg0)
      ∧ m' ((c.tc : Thread Cert.InaReferenceIdeal.nD Cert.InaReferenceIdeal.τ).loc Cert.InaReferenceIdeal.main_arg1) = m ((c.tc : Thread Cert.InaIdeal.nD Cert.InaIdeal.τ).loc Cert.InaIdeal.main_arg1)) →
    ∃ (v0 : (c : Dev Cert.InaIdeal.nD) → Buf (Elt Ideal) ((c.tc : Thread Cert.InaIdeal.nD Cert.InaIdeal.τ).loc Cert.InaIdeal.main_v0)),
      θ_run (Cert.InaIdeal.defs (F := Ideal)) (onTc (τ := Cert.InaIdeal.τ) (Cert.InaIdeal.main (F := Ideal))) ⟨m, fun _ => 0, g⟩ (fun r => ∀ c : Dev Cert.InaIdeal.nD,
          r.2.mem ((c.tc : Thread Cert.InaIdeal.nD Cert.InaIdeal.τ).loc Cert.InaIdeal.main_v0) = v0 c
          ∧ r.2.mem ((c.tc : Thread Cert.InaIdeal.nD Cert.InaIdeal.τ).loc Cert.InaIdeal.main_arg0) = m ((c.tc : Thread Cert.InaIdeal.nD Cert.InaIdeal.τ).loc Cert.InaIdeal.main_arg0)
          ∧ r.2.mem ((c.tc : Thread Cert.InaIdeal.nD Cert.InaIdeal.τ).loc Cert.InaIdeal.main_arg1) = m ((c.tc : Thread Cert.InaIdeal.nD Cert.InaIdeal.τ).loc Cert.InaIdeal.main_arg1))
      ∧ θ_run (Cert.InaReferenceIdeal.defs (F := Ideal)) (onTc (τ := Cert.InaReferenceIdeal.τ) (Cert.InaReferenceIdeal.main (F := Ideal))) ⟨m', fun _ => 0, g'⟩ (fun r => ∀ c : Dev Cert.InaReferenceIdeal.nD,
          r.2.mem ((c.tc : Thread Cert.InaReferenceIdeal.nD Cert.InaReferenceIdeal.τ).loc Cert.InaReferenceIdeal.main_v2) = v0 c
          ∧ r.2.mem ((c.tc : Thread Cert.InaReferenceIdeal.nD Cert.InaReferenceIdeal.τ).loc Cert.InaReferenceIdeal.main_arg0) = m' ((c.tc : Thread Cert.InaReferenceIdeal.nD Cert.InaReferenceIdeal.τ).loc Cert.InaReferenceIdeal.main_arg0)
          ∧ r.2.mem ((c.tc : Thread Cert.InaReferenceIdeal.nD Cert.InaReferenceIdeal.τ).loc Cert.InaReferenceIdeal.main_arg1) = m' ((c.tc : Thread Cert.InaReferenceIdeal.nD Cert.InaReferenceIdeal.τ).loc Cert.InaReferenceIdeal.main_arg1))

def preserves_Qf_QfIdeal : Prop :=
  True

def algebraic_QfIdeal_QfReferenceIdeal [hQfIdeal : Cert.QfIdeal.Facts] [hQfReferenceIdeal : Cert.QfReferenceIdeal.Facts] : Prop :=
  ∀ (m : (ℓ : Loc Cert.QfIdeal.nD Cert.QfIdeal.τ Cert.QfIdeal.sig) → Buf (Elt Ideal) ℓ) (g : Dev Cert.QfIdeal.nD → PrngReg)
    (m' : (ℓ : Loc Cert.QfReferenceIdeal.nD Cert.QfReferenceIdeal.τ Cert.QfReferenceIdeal.sig) → Buf (Elt Ideal) ℓ) (g' : Dev Cert.QfReferenceIdeal.nD → PrngReg), Pre_QfIdeal m →
    (∀ c : Dev Cert.QfIdeal.nD,
      m' ((c.tc : Thread Cert.QfReferenceIdeal.nD Cert.QfReferenceIdeal.τ).loc Cert.QfReferenceIdeal.main_arg0) = m ((c.tc : Thread Cert.QfIdeal.nD Cert.QfIdeal.τ).loc Cert.QfIdeal.main_arg0)
      ∧ m' ((c.tc : Thread Cert.QfReferenceIdeal.nD Cert.QfReferenceIdeal.τ).loc Cert.QfReferenceIdeal.main_arg1) = m ((c.tc : Thread Cert.QfIdeal.nD Cert.QfIdeal.τ).loc Cert.QfIdeal.main_arg1)) →
    ∃ (v0 : (c : Dev Cert.QfIdeal.nD) → Buf (Elt Ideal) ((c.tc : Thread Cert.QfIdeal.nD Cert.QfIdeal.τ).loc Cert.QfIdeal.main_v0)),
      θ_run (Cert.QfIdeal.defs (F := Ideal)) (onTc (τ := Cert.QfIdeal.τ) (Cert.QfIdeal.main (F := Ideal))) ⟨m, fun _ => 0, g⟩ (fun r => ∀ c : Dev Cert.QfIdeal.nD,
          r.2.mem ((c.tc : Thread Cert.QfIdeal.nD Cert.QfIdeal.τ).loc Cert.QfIdeal.main_v0) = v0 c
          ∧ r.2.mem ((c.tc : Thread Cert.QfIdeal.nD Cert.QfIdeal.τ).loc Cert.QfIdeal.main_arg0) = m ((c.tc : Thread Cert.QfIdeal.nD Cert.QfIdeal.τ).loc Cert.QfIdeal.main_arg0)
          ∧ r.2.mem ((c.tc : Thread Cert.QfIdeal.nD Cert.QfIdeal.τ).loc Cert.QfIdeal.main_arg1) = m ((c.tc : Thread Cert.QfIdeal.nD Cert.QfIdeal.τ).loc Cert.QfIdeal.main_arg1))
      ∧ θ_run (Cert.QfReferenceIdeal.defs (F := Ideal)) (onTc (τ := Cert.QfReferenceIdeal.τ) (Cert.QfReferenceIdeal.main (F := Ideal))) ⟨m', fun _ => 0, g'⟩ (fun r => ∀ c : Dev Cert.QfReferenceIdeal.nD,
          r.2.mem ((c.tc : Thread Cert.QfReferenceIdeal.nD Cert.QfReferenceIdeal.τ).loc Cert.QfReferenceIdeal.main_v3) = v0 c
          ∧ r.2.mem ((c.tc : Thread Cert.QfReferenceIdeal.nD Cert.QfReferenceIdeal.τ).loc Cert.QfReferenceIdeal.main_arg0) = m' ((c.tc : Thread Cert.QfReferenceIdeal.nD Cert.QfReferenceIdeal.τ).loc Cert.QfReferenceIdeal.main_arg0)
          ∧ r.2.mem ((c.tc : Thread Cert.QfReferenceIdeal.nD Cert.QfReferenceIdeal.τ).loc Cert.QfReferenceIdeal.main_arg1) = m' ((c.tc : Thread Cert.QfReferenceIdeal.nD Cert.QfReferenceIdeal.τ).loc Cert.QfReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v17) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v17) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_DownB_DownBIdeal : Prop :=
  True

def algebraic_DownBIdeal_DownBReferenceIdeal [hDownBIdeal : Cert.DownBIdeal.Facts] [hDownBReferenceIdeal : Cert.DownBReferenceIdeal.Facts] : Prop :=
  ∀ (m : (ℓ : Loc Cert.DownBIdeal.nD Cert.DownBIdeal.τ Cert.DownBIdeal.sig) → Buf (Elt Ideal) ℓ) (g : Dev Cert.DownBIdeal.nD → PrngReg)
    (m' : (ℓ : Loc Cert.DownBReferenceIdeal.nD Cert.DownBReferenceIdeal.τ Cert.DownBReferenceIdeal.sig) → Buf (Elt Ideal) ℓ) (g' : Dev Cert.DownBReferenceIdeal.nD → PrngReg), Pre_DownBIdeal m →
    (∀ c : Dev Cert.DownBIdeal.nD,
      m' ((c.tc : Thread Cert.DownBReferenceIdeal.nD Cert.DownBReferenceIdeal.τ).loc Cert.DownBReferenceIdeal.main_arg0) = m ((c.tc : Thread Cert.DownBIdeal.nD Cert.DownBIdeal.τ).loc Cert.DownBIdeal.main_arg0)
      ∧ m' ((c.tc : Thread Cert.DownBReferenceIdeal.nD Cert.DownBReferenceIdeal.τ).loc Cert.DownBReferenceIdeal.main_arg1) = m ((c.tc : Thread Cert.DownBIdeal.nD Cert.DownBIdeal.τ).loc Cert.DownBIdeal.main_arg1)
      ∧ m' ((c.tc : Thread Cert.DownBReferenceIdeal.nD Cert.DownBReferenceIdeal.τ).loc Cert.DownBReferenceIdeal.main_arg2) = m ((c.tc : Thread Cert.DownBIdeal.nD Cert.DownBIdeal.τ).loc Cert.DownBIdeal.main_arg2)) →
    ∃ (v0 : (c : Dev Cert.DownBIdeal.nD) → Buf (Elt Ideal) ((c.tc : Thread Cert.DownBIdeal.nD Cert.DownBIdeal.τ).loc Cert.DownBIdeal.main_v0)),
      θ_run (Cert.DownBIdeal.defs (F := Ideal)) (onTc (τ := Cert.DownBIdeal.τ) (Cert.DownBIdeal.main (F := Ideal))) ⟨m, fun _ => 0, g⟩ (fun r => ∀ c : Dev Cert.DownBIdeal.nD,
          r.2.mem ((c.tc : Thread Cert.DownBIdeal.nD Cert.DownBIdeal.τ).loc Cert.DownBIdeal.main_v0) = v0 c
          ∧ r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
          ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
          ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2))
      ∧ θ_run (Cert.DownBReferenceIdeal.defs (F := Ideal)) (onTc (τ := Cert.DownBReferenceIdeal.τ) (Cert.DownBReferenceIdeal.main (F := Ideal))) ⟨m', fun _ => 0, g'⟩ (fun r => ∀ c : Dev Cert.DownBReferenceIdeal.nD,
          r.2.mem ((c.tc : Thread Cert.DownBReferenceIdeal.nD Cert.DownBReferenceIdeal.τ).loc Cert.DownBReferenceIdeal.main_v3) = v0 c
          ∧ r.2.mem ((c.tc : Thread Cert.DownBReferenceIdeal.nD Cert.DownBReferenceIdeal.τ).loc Cert.DownBReferenceIdeal.main_arg0) = m' ((c.tc : Thread Cert.DownBReferenceIdeal.nD Cert.DownBReferenceIdeal.τ).loc Cert.DownBReferenceIdeal.main_arg0)
          ∧ r.2.mem ((c.tc : Thread Cert.DownBReferenceIdeal.nD Cert.DownBReferenceIdeal.τ).loc Cert.DownBReferenceIdeal.main_arg1) = m' ((c.tc : Thread Cert.DownBReferenceIdeal.nD Cert.DownBReferenceIdeal.τ).loc Cert.DownBReferenceIdeal.main_arg1)
          ∧ r.2.mem ((c.tc : Thread Cert.DownBReferenceIdeal.nD Cert.DownBReferenceIdeal.τ).loc Cert.DownBReferenceIdeal.main_arg2) = m' ((c.tc : Thread Cert.DownBReferenceIdeal.nD Cert.DownBReferenceIdeal.τ).loc Cert.DownBReferenceIdeal.main_arg2))

def preserves_GluF_GluFIdeal : Prop :=
  True

def algebraic_GluFIdeal_GluFReferenceIdeal [hGluFIdeal : Cert.GluFIdeal.Facts] [hGluFReferenceIdeal : Cert.GluFReferenceIdeal.Facts] : Prop :=
  ∀ (m : (ℓ : Loc Cert.GluFIdeal.nD Cert.GluFIdeal.τ Cert.GluFIdeal.sig) → Buf (Elt Ideal) ℓ) (g : Dev Cert.GluFIdeal.nD → PrngReg)
    (m' : (ℓ : Loc Cert.GluFReferenceIdeal.nD Cert.GluFReferenceIdeal.τ Cert.GluFReferenceIdeal.sig) → Buf (Elt Ideal) ℓ) (g' : Dev Cert.GluFReferenceIdeal.nD → PrngReg), Pre_GluFIdeal m →
    (∀ c : Dev Cert.GluFIdeal.nD,
      m' ((c.tc : Thread Cert.GluFReferenceIdeal.nD Cert.GluFReferenceIdeal.τ).loc Cert.GluFReferenceIdeal.main_arg0) = m ((c.tc : Thread Cert.GluFIdeal.nD Cert.GluFIdeal.τ).loc Cert.GluFIdeal.main_arg0)
      ∧ m' ((c.tc : Thread Cert.GluFReferenceIdeal.nD Cert.GluFReferenceIdeal.τ).loc Cert.GluFReferenceIdeal.main_arg1) = m ((c.tc : Thread Cert.GluFIdeal.nD Cert.GluFIdeal.τ).loc Cert.GluFIdeal.main_arg1)) →
    ∃ (v0 : (c : Dev Cert.GluFIdeal.nD) → Buf (Elt Ideal) ((c.tc : Thread Cert.GluFIdeal.nD Cert.GluFIdeal.τ).loc Cert.GluFIdeal.main_v0)),
      θ_run (Cert.GluFIdeal.defs (F := Ideal)) (onTc (τ := Cert.GluFIdeal.τ) (Cert.GluFIdeal.main (F := Ideal))) ⟨m, fun _ => 0, g⟩ (fun r => ∀ c : Dev Cert.GluFIdeal.nD,
          r.2.mem ((c.tc : Thread Cert.GluFIdeal.nD Cert.GluFIdeal.τ).loc Cert.GluFIdeal.main_v0) = v0 c
          ∧ r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
          ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1))
      ∧ θ_run (Cert.GluFReferenceIdeal.defs (F := Ideal)) (onTc (τ := Cert.GluFReferenceIdeal.τ) (Cert.GluFReferenceIdeal.main (F := Ideal))) ⟨m', fun _ => 0, g'⟩ (fun r => ∀ c : Dev Cert.GluFReferenceIdeal.nD,
          r.2.mem ((c.tc : Thread Cert.GluFReferenceIdeal.nD Cert.GluFReferenceIdeal.τ).loc Cert.GluFReferenceIdeal.main_v2) = v0 c
          ∧ r.2.mem ((c.tc : Thread Cert.GluFReferenceIdeal.nD Cert.GluFReferenceIdeal.τ).loc Cert.GluFReferenceIdeal.main_arg0) = m' ((c.tc : Thread Cert.GluFReferenceIdeal.nD Cert.GluFReferenceIdeal.τ).loc Cert.GluFReferenceIdeal.main_arg0)
          ∧ r.2.mem ((c.tc : Thread Cert.GluFReferenceIdeal.nD Cert.GluFReferenceIdeal.τ).loc Cert.GluFReferenceIdeal.main_arg1) = m' ((c.tc : Thread Cert.GluFReferenceIdeal.nD Cert.GluFReferenceIdeal.τ).loc Cert.GluFReferenceIdeal.main_arg1))

def preserves_GluW_GluWIdeal : Prop :=
  True

def algebraic_GluWIdeal_GluWReferenceIdeal [hGluWIdeal : Cert.GluWIdeal.Facts] [hGluWReferenceIdeal : Cert.GluWReferenceIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWReferenceIdeal.nD Cert.GluWReferenceIdeal.τ Cert.GluWReferenceIdeal.sig) → Buf (Elt Ideal) ℓ) (g' : Dev Cert.GluWReferenceIdeal.nD → PrngReg), Pre_GluWIdeal m →
    (∀ c : Dev Cert.GluWIdeal.nD,
      m' ((c.tc : Thread Cert.GluWReferenceIdeal.nD Cert.GluWReferenceIdeal.τ).loc Cert.GluWReferenceIdeal.main_arg0) = m ((c.tc : Thread Cert.GluWIdeal.nD Cert.GluWIdeal.τ).loc Cert.GluWIdeal.main_arg0)
      ∧ m' ((c.tc : Thread Cert.GluWReferenceIdeal.nD Cert.GluWReferenceIdeal.τ).loc Cert.GluWReferenceIdeal.main_arg1) = m ((c.tc : Thread Cert.GluWIdeal.nD Cert.GluWIdeal.τ).loc Cert.GluWIdeal.main_arg1)) →
    ∃ (v0 : (c : Dev Cert.GluWIdeal.nD) → Buf (Elt Ideal) ((c.tc : Thread Cert.GluWIdeal.nD Cert.GluWIdeal.τ).loc Cert.GluWIdeal.main_v0)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v0) = v0 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1))
      ∧ θ_run (Cert.GluWReferenceIdeal.defs (F := Ideal)) (onTc (τ := Cert.GluWReferenceIdeal.τ) (Cert.GluWReferenceIdeal.main (F := Ideal))) ⟨m', fun _ => 0, g'⟩ (fun r => ∀ c : Dev Cert.GluWReferenceIdeal.nD,
          r.2.mem ((c.tc : Thread Cert.GluWReferenceIdeal.nD Cert.GluWReferenceIdeal.τ).loc Cert.GluWReferenceIdeal.main_v6) = v0 c
          ∧ r.2.mem ((c.tc : Thread Cert.GluWReferenceIdeal.nD Cert.GluWReferenceIdeal.τ).loc Cert.GluWReferenceIdeal.main_arg0) = m' ((c.tc : Thread Cert.GluWReferenceIdeal.nD Cert.GluWReferenceIdeal.τ).loc Cert.GluWReferenceIdeal.main_arg0)
          ∧ r.2.mem ((c.tc : Thread Cert.GluWReferenceIdeal.nD Cert.GluWReferenceIdeal.τ).loc Cert.GluWReferenceIdeal.main_arg1) = m' ((c.tc : Thread Cert.GluWReferenceIdeal.nD Cert.GluWReferenceIdeal.τ).loc Cert.GluWReferenceIdeal.main_arg1))

def preserves_GluX_GluXIdeal : Prop :=
  True

def algebraic_GluXIdeal_GluXReferenceIdeal [hGluXIdeal : Cert.GluXIdeal.Facts] [hGluXReferenceIdeal : Cert.GluXReferenceIdeal.Facts] : Prop :=
  ∀ (m : (ℓ : Loc Cert.GluXIdeal.nD Cert.GluXIdeal.τ Cert.GluXIdeal.sig) → Buf (Elt Ideal) ℓ) (g : Dev Cert.GluXIdeal.nD → PrngReg)
    (m' : (ℓ : Loc Cert.GluXReferenceIdeal.nD Cert.GluXReferenceIdeal.τ Cert.GluXReferenceIdeal.sig) → Buf (Elt Ideal) ℓ) (g' : Dev Cert.GluXReferenceIdeal.nD → PrngReg), Pre_GluXIdeal m →
    (∀ c : Dev Cert.GluXIdeal.nD,
      m' ((c.tc : Thread Cert.GluXReferenceIdeal.nD Cert.GluXReferenceIdeal.τ).loc Cert.GluXReferenceIdeal.main_arg0) = m ((c.tc : Thread Cert.GluXIdeal.nD Cert.GluXIdeal.τ).loc Cert.GluXIdeal.main_arg0)
      ∧ m' ((c.tc : Thread Cert.GluXReferenceIdeal.nD Cert.GluXReferenceIdeal.τ).loc Cert.GluXReferenceIdeal.main_arg1) = m ((c.tc : Thread Cert.GluXIdeal.nD Cert.GluXIdeal.τ).loc Cert.GluXIdeal.main_arg1)) →
    ∃ (v0 : (c : Dev Cert.GluXIdeal.nD) → Buf (Elt Ideal) ((c.tc : Thread Cert.GluXIdeal.nD Cert.GluXIdeal.τ).loc Cert.GluXIdeal.main_v0)),
      θ_run (Cert.GluXIdeal.defs (F := Ideal)) (onTc (τ := Cert.GluXIdeal.τ) (Cert.GluXIdeal.main (F := Ideal))) ⟨m, fun _ => 0, g⟩ (fun r => ∀ c : Dev Cert.GluXIdeal.nD,
          r.2.mem ((c.tc : Thread Cert.GluXIdeal.nD Cert.GluXIdeal.τ).loc Cert.GluXIdeal.main_v0) = v0 c
          ∧ r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
          ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1))
      ∧ θ_run (Cert.GluXReferenceIdeal.defs (F := Ideal)) (onTc (τ := Cert.GluXReferenceIdeal.τ) (Cert.GluXReferenceIdeal.main (F := Ideal))) ⟨m', fun _ => 0, g'⟩ (fun r => ∀ c : Dev Cert.GluXReferenceIdeal.nD,
          r.2.mem ((c.tc : Thread Cert.GluXReferenceIdeal.nD Cert.GluXReferenceIdeal.τ).loc Cert.GluXReferenceIdeal.main_v4) = v0 c
          ∧ r.2.mem ((c.tc : Thread Cert.GluXReferenceIdeal.nD Cert.GluXReferenceIdeal.τ).loc Cert.GluXReferenceIdeal.main_arg0) = m' ((c.tc : Thread Cert.GluXReferenceIdeal.nD Cert.GluXReferenceIdeal.τ).loc Cert.GluXReferenceIdeal.main_arg0)
          ∧ r.2.mem ((c.tc : Thread Cert.GluXReferenceIdeal.nD Cert.GluXReferenceIdeal.τ).loc Cert.GluXReferenceIdeal.main_arg1) = m' ((c.tc : Thread Cert.GluXReferenceIdeal.nD Cert.GluXReferenceIdeal.τ).loc Cert.GluXReferenceIdeal.main_arg1))

def preserves_KvF_KvFIdeal : Prop :=
  True

def algebraic_KvFIdeal_KvFReferenceIdeal [hKvFIdeal : Cert.KvFIdeal.Facts] [hKvFReferenceIdeal : Cert.KvFReferenceIdeal.Facts] : Prop :=
  ∀ (m : (ℓ : Loc Cert.KvFIdeal.nD Cert.KvFIdeal.τ Cert.KvFIdeal.sig) → Buf (Elt Ideal) ℓ) (g : Dev Cert.KvFIdeal.nD → PrngReg)
    (m' : (ℓ : Loc Cert.KvFReferenceIdeal.nD Cert.KvFReferenceIdeal.τ Cert.KvFReferenceIdeal.sig) → Buf (Elt Ideal) ℓ) (g' : Dev Cert.KvFReferenceIdeal.nD → PrngReg), Pre_KvFIdeal m →
    (∀ c : Dev Cert.KvFIdeal.nD,
      m' ((c.tc : Thread Cert.KvFReferenceIdeal.nD Cert.KvFReferenceIdeal.τ).loc Cert.KvFReferenceIdeal.main_arg0) = m ((c.tc : Thread Cert.KvFIdeal.nD Cert.KvFIdeal.τ).loc Cert.KvFIdeal.main_arg0)
      ∧ m' ((c.tc : Thread Cert.KvFReferenceIdeal.nD Cert.KvFReferenceIdeal.τ).loc Cert.KvFReferenceIdeal.main_arg1) = m ((c.tc : Thread Cert.KvFIdeal.nD Cert.KvFIdeal.τ).loc Cert.KvFIdeal.main_arg1)) →
    ∃ (v0 : (c : Dev Cert.KvFIdeal.nD) → Buf (Elt Ideal) ((c.tc : Thread Cert.KvFIdeal.nD Cert.KvFIdeal.τ).loc Cert.KvFIdeal.main_v0)),
      θ_run (Cert.KvFIdeal.defs (F := Ideal)) (onTc (τ := Cert.KvFIdeal.τ) (Cert.KvFIdeal.main (F := Ideal))) ⟨m, fun _ => 0, g⟩ (fun r => ∀ c : Dev Cert.KvFIdeal.nD,
          r.2.mem ((c.tc : Thread Cert.KvFIdeal.nD Cert.KvFIdeal.τ).loc Cert.KvFIdeal.main_v0) = v0 c
          ∧ r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
          ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1))
      ∧ θ_run (Cert.KvFReferenceIdeal.defs (F := Ideal)) (onTc (τ := Cert.KvFReferenceIdeal.τ) (Cert.KvFReferenceIdeal.main (F := Ideal))) ⟨m', fun _ => 0, g'⟩ (fun r => ∀ c : Dev Cert.KvFReferenceIdeal.nD,
          r.2.mem ((c.tc : Thread Cert.KvFReferenceIdeal.nD Cert.KvFReferenceIdeal.τ).loc Cert.KvFReferenceIdeal.main_v3) = v0 c
          ∧ r.2.mem ((c.tc : Thread Cert.KvFReferenceIdeal.nD Cert.KvFReferenceIdeal.τ).loc Cert.KvFReferenceIdeal.main_arg0) = m' ((c.tc : Thread Cert.KvFReferenceIdeal.nD Cert.KvFReferenceIdeal.τ).loc Cert.KvFReferenceIdeal.main_arg0)
          ∧ r.2.mem ((c.tc : Thread Cert.KvFReferenceIdeal.nD Cert.KvFReferenceIdeal.τ).loc Cert.KvFReferenceIdeal.main_arg1) = m' ((c.tc : Thread Cert.KvFReferenceIdeal.nD Cert.KvFReferenceIdeal.τ).loc Cert.KvFReferenceIdeal.main_arg1))

def preserves_KvW_KvWIdeal : Prop :=
  True

def algebraic_KvWIdeal_KvWReferenceIdeal [hKvWIdeal : Cert.KvWIdeal.Facts] [hKvWReferenceIdeal : Cert.KvWReferenceIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWReferenceIdeal.nD Cert.KvWReferenceIdeal.τ Cert.KvWReferenceIdeal.sig) → Buf (Elt Ideal) ℓ) (g' : Dev Cert.KvWReferenceIdeal.nD → PrngReg), Pre_KvWIdeal m →
    (∀ c : Dev Cert.KvWIdeal.nD,
      m' ((c.tc : Thread Cert.KvWReferenceIdeal.nD Cert.KvWReferenceIdeal.τ).loc Cert.KvWReferenceIdeal.main_arg0) = m ((c.tc : Thread Cert.KvWIdeal.nD Cert.KvWIdeal.τ).loc Cert.KvWIdeal.main_arg0)
      ∧ m' ((c.tc : Thread Cert.KvWReferenceIdeal.nD Cert.KvWReferenceIdeal.τ).loc Cert.KvWReferenceIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWReferenceIdeal.defs (F := Ideal)) (onTc (τ := Cert.KvWReferenceIdeal.τ) (Cert.KvWReferenceIdeal.main (F := Ideal))) ⟨m', fun _ => 0, g'⟩ (fun r => ∀ c : Dev Cert.KvWReferenceIdeal.nD,
          r.2.mem ((c.tc : Thread Cert.KvWReferenceIdeal.nD Cert.KvWReferenceIdeal.τ).loc Cert.KvWReferenceIdeal.main_v5) = v0 c
          ∧ r.2.mem ((c.tc : Thread Cert.KvWReferenceIdeal.nD Cert.KvWReferenceIdeal.τ).loc Cert.KvWReferenceIdeal.main_arg0) = m' ((c.tc : Thread Cert.KvWReferenceIdeal.nD Cert.KvWReferenceIdeal.τ).loc Cert.KvWReferenceIdeal.main_arg0)
          ∧ r.2.mem ((c.tc : Thread Cert.KvWReferenceIdeal.nD Cert.KvWReferenceIdeal.τ).loc Cert.KvWReferenceIdeal.main_arg1) = m' ((c.tc : Thread Cert.KvWReferenceIdeal.nD Cert.KvWReferenceIdeal.τ).loc Cert.KvWReferenceIdeal.main_arg1))

def preserves_KvX_KvXIdeal : Prop :=
  True

def algebraic_KvXIdeal_KvXReferenceIdeal [hKvXIdeal : Cert.KvXIdeal.Facts] [hKvXReferenceIdeal : Cert.KvXReferenceIdeal.Facts] : Prop :=
  ∀ (m : (ℓ : Loc Cert.KvXIdeal.nD Cert.KvXIdeal.τ Cert.KvXIdeal.sig) → Buf (Elt Ideal) ℓ) (g : Dev Cert.KvXIdeal.nD → PrngReg)
    (m' : (ℓ : Loc Cert.KvXReferenceIdeal.nD Cert.KvXReferenceIdeal.τ Cert.KvXReferenceIdeal.sig) → Buf (Elt Ideal) ℓ) (g' : Dev Cert.KvXReferenceIdeal.nD → PrngReg), Pre_KvXIdeal m →
    (∀ c : Dev Cert.KvXIdeal.nD,
      m' ((c.tc : Thread Cert.KvXReferenceIdeal.nD Cert.KvXReferenceIdeal.τ).loc Cert.KvXReferenceIdeal.main_arg0) = m ((c.tc : Thread Cert.KvXIdeal.nD Cert.KvXIdeal.τ).loc Cert.KvXIdeal.main_arg0)
      ∧ m' ((c.tc : Thread Cert.KvXReferenceIdeal.nD Cert.KvXReferenceIdeal.τ).loc Cert.KvXReferenceIdeal.main_arg1) = m ((c.tc : Thread Cert.KvXIdeal.nD Cert.KvXIdeal.τ).loc Cert.KvXIdeal.main_arg1)) →
    ∃ (v0 : (c : Dev Cert.KvXIdeal.nD) → Buf (Elt Ideal) ((c.tc : Thread Cert.KvXIdeal.nD Cert.KvXIdeal.τ).loc Cert.KvXIdeal.main_v0)),
      θ_run (Cert.KvXIdeal.defs (F := Ideal)) (onTc (τ := Cert.KvXIdeal.τ) (Cert.KvXIdeal.main (F := Ideal))) ⟨m, fun _ => 0, g⟩ (fun r => ∀ c : Dev Cert.KvXIdeal.nD,
          r.2.mem ((c.tc : Thread Cert.KvXIdeal.nD Cert.KvXIdeal.τ).loc Cert.KvXIdeal.main_v0) = v0 c
          ∧ r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
          ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ θ_run (Cert.KvXReferenceIdeal.defs (F := Ideal)) (onTc (τ := Cert.KvXReferenceIdeal.τ) (Cert.KvXReferenceIdeal.main (F := Ideal))) ⟨m', fun _ => 0, g'⟩ (fun r => ∀ c : Dev Cert.KvXReferenceIdeal.nD,
          r.2.mem ((c.tc : Thread Cert.KvXReferenceIdeal.nD Cert.KvXReferenceIdeal.τ).loc Cert.KvXReferenceIdeal.main_v3) = v0 c
          ∧ r.2.mem ((c.tc : Thread Cert.KvXReferenceIdeal.nD Cert.KvXReferenceIdeal.τ).loc Cert.KvXReferenceIdeal.main_arg0) = m' ((c.tc : Thread Cert.KvXReferenceIdeal.nD Cert.KvXReferenceIdeal.τ).loc Cert.KvXReferenceIdeal.main_arg0)
          ∧ r.2.mem ((c.tc : Thread Cert.KvXReferenceIdeal.nD Cert.KvXReferenceIdeal.τ).loc Cert.KvXReferenceIdeal.main_arg1) = m' ((c.tc : Thread Cert.KvXReferenceIdeal.nD Cert.KvXReferenceIdeal.τ).loc Cert.KvXReferenceIdeal.main_arg1))

def preserves_NormF_NormFIdeal : Prop :=
  True

def algebraic_NormFIdeal_NormFReferenceIdeal [hNormFIdeal : Cert.NormFIdeal.Facts] [hNormFReferenceIdeal : Cert.NormFReferenceIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFReferenceIdeal.nD Cert.NormFReferenceIdeal.τ Cert.NormFReferenceIdeal.sig) → Buf (Elt Ideal) ℓ) (g' : Dev Cert.NormFReferenceIdeal.nD → PrngReg), Pre_NormFIdeal m →
    (∀ c : Dev Cert.NormFIdeal.nD,
      m' ((c.tc : Thread Cert.NormFReferenceIdeal.nD Cert.NormFReferenceIdeal.τ).loc Cert.NormFReferenceIdeal.main_arg0) = m ((c.tc : Thread Cert.NormFIdeal.nD Cert.NormFIdeal.τ).loc Cert.NormFIdeal.main_arg0)
      ∧ m' ((c.tc : Thread Cert.NormFReferenceIdeal.nD Cert.NormFReferenceIdeal.τ).loc Cert.NormFReferenceIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFReferenceIdeal.defs (F := Ideal)) (onTc (τ := Cert.NormFReferenceIdeal.τ) (Cert.NormFReferenceIdeal.main (F := Ideal))) ⟨m', fun _ => 0, g'⟩ (fun r => ∀ c : Dev Cert.NormFReferenceIdeal.nD,
          r.2.mem ((c.tc : Thread Cert.NormFReferenceIdeal.nD Cert.NormFReferenceIdeal.τ).loc Cert.NormFReferenceIdeal.main_v13) = v0 c
          ∧ r.2.mem ((c.tc : Thread Cert.NormFReferenceIdeal.nD Cert.NormFReferenceIdeal.τ).loc Cert.NormFReferenceIdeal.main_arg0) = m' ((c.tc : Thread Cert.NormFReferenceIdeal.nD Cert.NormFReferenceIdeal.τ).loc Cert.NormFReferenceIdeal.main_arg0)
          ∧ r.2.mem ((c.tc : Thread Cert.NormFReferenceIdeal.nD Cert.NormFReferenceIdeal.τ).loc Cert.NormFReferenceIdeal.main_arg1) = m' ((c.tc : Thread Cert.NormFReferenceIdeal.nD Cert.NormFReferenceIdeal.τ).loc Cert.NormFReferenceIdeal.main_arg1))

def preserves_MemF_MemFIdeal : Prop :=
  True

def algebraic_MemFIdeal_MemFReferenceIdeal [hMemFIdeal : Cert.MemFIdeal.Facts] [hMemFReferenceIdeal : Cert.MemFReferenceIdeal.Facts] : Prop :=
  ∀ (m : (ℓ : Loc Cert.MemFIdeal.nD Cert.MemFIdeal.τ Cert.MemFIdeal.sig) → Buf (Elt Ideal) ℓ) (g : Dev Cert.MemFIdeal.nD → PrngReg)
    (m' : (ℓ : Loc Cert.MemFReferenceIdeal.nD Cert.MemFReferenceIdeal.τ Cert.MemFReferenceIdeal.sig) → Buf (Elt Ideal) ℓ) (g' : Dev Cert.MemFReferenceIdeal.nD → PrngReg), Pre_MemFIdeal m →
    (∀ c : Dev Cert.MemFIdeal.nD,
      m' ((c.tc : Thread Cert.MemFReferenceIdeal.nD Cert.MemFReferenceIdeal.τ).loc Cert.MemFReferenceIdeal.main_arg0) = m ((c.tc : Thread Cert.MemFIdeal.nD Cert.MemFIdeal.τ).loc Cert.MemFIdeal.main_arg0)
      ∧ m' ((c.tc : Thread Cert.MemFReferenceIdeal.nD Cert.MemFReferenceIdeal.τ).loc Cert.MemFReferenceIdeal.main_arg1) = m ((c.tc : Thread Cert.MemFIdeal.nD Cert.MemFIdeal.τ).loc Cert.MemFIdeal.main_arg1)) →
    ∃ (v0 : (c : Dev Cert.MemFIdeal.nD) → Buf (Elt Ideal) ((c.tc : Thread Cert.MemFIdeal.nD Cert.MemFIdeal.τ).loc Cert.MemFIdeal.main_v1)),
      θ_run (Cert.MemFIdeal.defs (F := Ideal)) (onTc (τ := Cert.MemFIdeal.τ) (Cert.MemFIdeal.main (F := Ideal))) ⟨m, fun _ => 0, g⟩ (fun r => ∀ c : Dev Cert.MemFIdeal.nD,
          r.2.mem ((c.tc : Thread Cert.MemFIdeal.nD Cert.MemFIdeal.τ).loc Cert.MemFIdeal.main_v1) = v0 c
          ∧ r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
          ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ θ_run (Cert.MemFReferenceIdeal.defs (F := Ideal)) (onTc (τ := Cert.MemFReferenceIdeal.τ) (Cert.MemFReferenceIdeal.main (F := Ideal))) ⟨m', fun _ => 0, g'⟩ (fun r => ∀ c : Dev Cert.MemFReferenceIdeal.nD,
          r.2.mem ((c.tc : Thread Cert.MemFReferenceIdeal.nD Cert.MemFReferenceIdeal.τ).loc Cert.MemFReferenceIdeal.main_v13) = v0 c
          ∧ r.2.mem ((c.tc : Thread Cert.MemFReferenceIdeal.nD Cert.MemFReferenceIdeal.τ).loc Cert.MemFReferenceIdeal.main_arg0) = m' ((c.tc : Thread Cert.MemFReferenceIdeal.nD Cert.MemFReferenceIdeal.τ).loc Cert.MemFReferenceIdeal.main_arg0)
          ∧ r.2.mem ((c.tc : Thread Cert.MemFReferenceIdeal.nD Cert.MemFReferenceIdeal.τ).loc Cert.MemFReferenceIdeal.main_arg1) = m' ((c.tc : Thread Cert.MemFReferenceIdeal.nD Cert.MemFReferenceIdeal.τ).loc Cert.MemFReferenceIdeal.main_arg1))

def preserves_MemB_MemBIdeal : Prop :=
  True

def algebraic_MemBIdeal_MemBReferenceIdeal [hMemBIdeal : Cert.MemBIdeal.Facts] [hMemBReferenceIdeal : Cert.MemBReferenceIdeal.Facts] : Prop :=
  ∀ (m : (ℓ : Loc Cert.MemBIdeal.nD Cert.MemBIdeal.τ Cert.MemBIdeal.sig) → Buf (Elt Ideal) ℓ) (g : Dev Cert.MemBIdeal.nD → PrngReg)
    (m' : (ℓ : Loc Cert.MemBReferenceIdeal.nD Cert.MemBReferenceIdeal.τ Cert.MemBReferenceIdeal.sig) → Buf (Elt Ideal) ℓ) (g' : Dev Cert.MemBReferenceIdeal.nD → PrngReg), Pre_MemBIdeal m →
    (∀ c : Dev Cert.MemBIdeal.nD,
      m' ((c.tc : Thread Cert.MemBReferenceIdeal.nD Cert.MemBReferenceIdeal.τ).loc Cert.MemBReferenceIdeal.main_arg0) = m ((c.tc : Thread Cert.MemBIdeal.nD Cert.MemBIdeal.τ).loc Cert.MemBIdeal.main_arg0)
      ∧ m' ((c.tc : Thread Cert.MemBReferenceIdeal.nD Cert.MemBReferenceIdeal.τ).loc Cert.MemBReferenceIdeal.main_arg1) = m ((c.tc : Thread Cert.MemBIdeal.nD Cert.MemBIdeal.τ).loc Cert.MemBIdeal.main_arg1)
      ∧ m' ((c.tc : Thread Cert.MemBReferenceIdeal.nD Cert.MemBReferenceIdeal.τ).loc Cert.MemBReferenceIdeal.main_arg2) = m ((c.tc : Thread Cert.MemBIdeal.nD Cert.MemBIdeal.τ).loc Cert.MemBIdeal.main_arg2)
      ∧ m' ((c.tc : Thread Cert.MemBReferenceIdeal.nD Cert.MemBReferenceIdeal.τ).loc Cert.MemBReferenceIdeal.main_arg3) = m ((c.tc : Thread Cert.MemBIdeal.nD Cert.MemBIdeal.τ).loc Cert.MemBIdeal.main_arg3)) →
    ∃ (v0 : (c : Dev Cert.MemBIdeal.nD) → Buf (Elt Ideal) ((c.tc : Thread Cert.MemBIdeal.nD Cert.MemBIdeal.τ).loc Cert.MemBIdeal.main_v1_0)) (v1 : (c : Dev Cert.MemBIdeal.nD) → Buf (Elt Ideal) ((c.tc : Thread Cert.MemBIdeal.nD Cert.MemBIdeal.τ).loc Cert.MemBIdeal.main_v1_1)),
      θ_run (Cert.MemBIdeal.defs (F := Ideal)) (onTc (τ := Cert.MemBIdeal.τ) (Cert.MemBIdeal.main (F := Ideal))) ⟨m, fun _ => 0, g⟩ (fun r => ∀ c : Dev Cert.MemBIdeal.nD,
          r.2.mem ((c.tc : Thread Cert.MemBIdeal.nD Cert.MemBIdeal.τ).loc Cert.MemBIdeal.main_v1_0) = v0 c
          ∧ r.2.mem ((c.tc : Thread Cert.MemBIdeal.nD Cert.MemBIdeal.τ).loc Cert.MemBIdeal.main_v1_1) = v1 c
          ∧ r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
          ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
          ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2)
          ∧ r.2.mem ((c.tc : Thread Cert.MemBIdeal.nD Cert.MemBIdeal.τ).loc Cert.MemBIdeal.main_arg3) = m ((c.tc : Thread Cert.MemBIdeal.nD Cert.MemBIdeal.τ).loc Cert.MemBIdeal.main_arg3))
      ∧ θ_run (Cert.MemBReferenceIdeal.defs (F := Ideal)) (onTc (τ := Cert.MemBReferenceIdeal.τ) (Cert.MemBReferenceIdeal.main (F := Ideal))) ⟨m', fun _ => 0, g'⟩ (fun r => ∀ c : Dev Cert.MemBReferenceIdeal.nD,
          r.2.mem ((c.tc : Thread Cert.MemBReferenceIdeal.nD Cert.MemBReferenceIdeal.τ).loc Cert.MemBReferenceIdeal.main_v36) = v0 c
          ∧ r.2.mem ((c.tc : Thread Cert.MemBReferenceIdeal.nD Cert.MemBReferenceIdeal.τ).loc Cert.MemBReferenceIdeal.main_v37) = v1 c
          ∧ r.2.mem ((c.tc : Thread Cert.MemBReferenceIdeal.nD Cert.MemBReferenceIdeal.τ).loc Cert.MemBReferenceIdeal.main_arg0) = m' ((c.tc : Thread Cert.MemBReferenceIdeal.nD Cert.MemBReferenceIdeal.τ).loc Cert.MemBReferenceIdeal.main_arg0)
          ∧ r.2.mem ((c.tc : Thread Cert.MemBReferenceIdeal.nD Cert.MemBReferenceIdeal.τ).loc Cert.MemBReferenceIdeal.main_arg1) = m' ((c.tc : Thread Cert.MemBReferenceIdeal.nD Cert.MemBReferenceIdeal.τ).loc Cert.MemBReferenceIdeal.main_arg1)
          ∧ r.2.mem ((c.tc : Thread Cert.MemBReferenceIdeal.nD Cert.MemBReferenceIdeal.τ).loc Cert.MemBReferenceIdeal.main_arg2) = m' ((c.tc : Thread Cert.MemBReferenceIdeal.nD Cert.MemBReferenceIdeal.τ).loc Cert.MemBReferenceIdeal.main_arg2)
          ∧ r.2.mem ((c.tc : Thread Cert.MemBReferenceIdeal.nD Cert.MemBReferenceIdeal.τ).loc Cert.MemBReferenceIdeal.main_arg3) = m' ((c.tc : Thread Cert.MemBReferenceIdeal.nD Cert.MemBReferenceIdeal.τ).loc Cert.MemBReferenceIdeal.main_arg3))

def preserves_XaF_XaFIdeal : Prop :=
  True

def algebraic_XaFIdeal_XaFReferenceIdeal [hXaFIdeal : Cert.XaFIdeal.Facts] [hXaFReferenceIdeal : Cert.XaFReferenceIdeal.Facts] : Prop :=
  ∀ (m : (ℓ : Loc Cert.XaFIdeal.nD Cert.XaFIdeal.τ Cert.XaFIdeal.sig) → Buf (Elt Ideal) ℓ) (g : Dev Cert.XaFIdeal.nD → PrngReg)
    (m' : (ℓ : Loc Cert.XaFReferenceIdeal.nD Cert.XaFReferenceIdeal.τ Cert.XaFReferenceIdeal.sig) → Buf (Elt Ideal) ℓ) (g' : Dev Cert.XaFReferenceIdeal.nD → PrngReg), Pre_XaFIdeal m →
    (∀ c : Dev Cert.XaFIdeal.nD,
      m' ((c.tc : Thread Cert.XaFReferenceIdeal.nD Cert.XaFReferenceIdeal.τ).loc Cert.XaFReferenceIdeal.main_arg0) = m ((c.tc : Thread Cert.XaFIdeal.nD Cert.XaFIdeal.τ).loc Cert.XaFIdeal.main_arg0)
      ∧ m' ((c.tc : Thread Cert.XaFReferenceIdeal.nD Cert.XaFReferenceIdeal.τ).loc Cert.XaFReferenceIdeal.main_arg1) = m ((c.tc : Thread Cert.XaFIdeal.nD Cert.XaFIdeal.τ).loc Cert.XaFIdeal.main_arg1)) →
    ∃ (v0 : (c : Dev Cert.XaFIdeal.nD) → Buf (Elt Ideal) ((c.tc : Thread Cert.XaFIdeal.nD Cert.XaFIdeal.τ).loc Cert.XaFIdeal.main_v0)),
      θ_run (Cert.XaFIdeal.defs (F := Ideal)) (onTc (τ := Cert.XaFIdeal.τ) (Cert.XaFIdeal.main (F := Ideal))) ⟨m, fun _ => 0, g⟩ (fun r => ∀ c : Dev Cert.XaFIdeal.nD,
          r.2.mem ((c.tc : Thread Cert.XaFIdeal.nD Cert.XaFIdeal.τ).loc Cert.XaFIdeal.main_v0) = v0 c
          ∧ r.2.mem ((c.tc : Thread Cert.XaFIdeal.nD Cert.XaFIdeal.τ).loc Cert.XaFIdeal.main_arg0) = m ((c.tc : Thread Cert.XaFIdeal.nD Cert.XaFIdeal.τ).loc Cert.XaFIdeal.main_arg0)
          ∧ r.2.mem ((c.tc : Thread Cert.XaFIdeal.nD Cert.XaFIdeal.τ).loc Cert.XaFIdeal.main_arg1) = m ((c.tc : Thread Cert.XaFIdeal.nD Cert.XaFIdeal.τ).loc Cert.XaFIdeal.main_arg1))
      ∧ θ_run (Cert.XaFReferenceIdeal.defs (F := Ideal)) (onTc (τ := Cert.XaFReferenceIdeal.τ) (Cert.XaFReferenceIdeal.main (F := Ideal))) ⟨m', fun _ => 0, g'⟩ (fun r => ∀ c : Dev Cert.XaFReferenceIdeal.nD,
          r.2.mem ((c.tc : Thread Cert.XaFReferenceIdeal.nD Cert.XaFReferenceIdeal.τ).loc Cert.XaFReferenceIdeal.main_v25) = v0 c
          ∧ r.2.mem ((c.tc : Thread Cert.XaFReferenceIdeal.nD Cert.XaFReferenceIdeal.τ).loc Cert.XaFReferenceIdeal.main_arg0) = m' ((c.tc : Thread Cert.XaFReferenceIdeal.nD Cert.XaFReferenceIdeal.τ).loc Cert.XaFReferenceIdeal.main_arg0)
          ∧ r.2.mem ((c.tc : Thread Cert.XaFReferenceIdeal.nD Cert.XaFReferenceIdeal.τ).loc Cert.XaFReferenceIdeal.main_arg1) = m' ((c.tc : Thread Cert.XaFReferenceIdeal.nD Cert.XaFReferenceIdeal.τ).loc Cert.XaFReferenceIdeal.main_arg1))

def preserves_GluB_GluBIdeal : Prop :=
  True

def algebraic_GluBIdeal_GluBReferenceIdeal [hGluBIdeal : Cert.GluBIdeal.Facts] [hGluBReferenceIdeal : Cert.GluBReferenceIdeal.Facts] : Prop :=
  ∀ (m : (ℓ : Loc Cert.GluBIdeal.nD Cert.GluBIdeal.τ Cert.GluBIdeal.sig) → Buf (Elt Ideal) ℓ) (g : Dev Cert.GluBIdeal.nD → PrngReg)
    (m' : (ℓ : Loc Cert.GluBReferenceIdeal.nD Cert.GluBReferenceIdeal.τ Cert.GluBReferenceIdeal.sig) → Buf (Elt Ideal) ℓ) (g' : Dev Cert.GluBReferenceIdeal.nD → PrngReg), Pre_GluBIdeal m →
    (∀ c : Dev Cert.GluBIdeal.nD,
      m' ((c.tc : Thread Cert.GluBReferenceIdeal.nD Cert.GluBReferenceIdeal.τ).loc Cert.GluBReferenceIdeal.main_arg0) = m ((c.tc : Thread Cert.GluBIdeal.nD Cert.GluBIdeal.τ).loc Cert.GluBIdeal.main_arg0)
      ∧ m' ((c.tc : Thread Cert.GluBReferenceIdeal.nD Cert.GluBReferenceIdeal.τ).loc Cert.GluBReferenceIdeal.main_arg1) = m ((c.tc : Thread Cert.GluBIdeal.nD Cert.GluBIdeal.τ).loc Cert.GluBIdeal.main_arg1)
      ∧ m' ((c.tc : Thread Cert.GluBReferenceIdeal.nD Cert.GluBReferenceIdeal.τ).loc Cert.GluBReferenceIdeal.main_arg2) = m ((c.tc : Thread Cert.GluBIdeal.nD Cert.GluBIdeal.τ).loc Cert.GluBIdeal.main_arg2)
      ∧ m' ((c.tc : Thread Cert.GluBReferenceIdeal.nD Cert.GluBReferenceIdeal.τ).loc Cert.GluBReferenceIdeal.main_arg3) = m ((c.tc : Thread Cert.GluBIdeal.nD Cert.GluBIdeal.τ).loc Cert.GluBIdeal.main_arg3)) →
    ∃ (v0 : (c : Dev Cert.GluBIdeal.nD) → Buf (Elt Ideal) ((c.tc : Thread Cert.GluBIdeal.nD Cert.GluBIdeal.τ).loc Cert.GluBIdeal.main_v0_0)) (v1 : (c : Dev Cert.GluBIdeal.nD) → Buf (Elt Ideal) ((c.tc : Thread Cert.GluBIdeal.nD Cert.GluBIdeal.τ).loc Cert.GluBIdeal.main_v0_1)) (v2 : (c : Dev Cert.GluBIdeal.nD) → Buf (Elt Ideal) ((c.tc : Thread Cert.GluBIdeal.nD Cert.GluBIdeal.τ).loc Cert.GluBIdeal.main_v0_2)),
      θ_run (Cert.GluBIdeal.defs (F := Ideal)) (onTc (τ := Cert.GluBIdeal.τ) (Cert.GluBIdeal.main (F := Ideal))) ⟨m, fun _ => 0, g⟩ (fun r => ∀ c : Dev Cert.GluBIdeal.nD,
          r.2.mem ((c.tc : Thread Cert.GluBIdeal.nD Cert.GluBIdeal.τ).loc Cert.GluBIdeal.main_v0_0) = v0 c
          ∧ r.2.mem ((c.tc : Thread Cert.GluBIdeal.nD Cert.GluBIdeal.τ).loc Cert.GluBIdeal.main_v0_1) = v1 c
          ∧ r.2.mem ((c.tc : Thread Cert.GluBIdeal.nD Cert.GluBIdeal.τ).loc Cert.GluBIdeal.main_v0_2) = v2 c
          ∧ r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
          ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
          ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2)
          ∧ r.2.mem ((c.tc : Thread Cert.GluBIdeal.nD Cert.GluBIdeal.τ).loc Cert.GluBIdeal.main_arg3) = m ((c.tc : Thread Cert.GluBIdeal.nD Cert.GluBIdeal.τ).loc Cert.GluBIdeal.main_arg3))
      ∧ θ_run (Cert.GluBReferenceIdeal.defs (F := Ideal)) (onTc (τ := Cert.GluBReferenceIdeal.τ) (Cert.GluBReferenceIdeal.main (F := Ideal))) ⟨m', fun _ => 0, g'⟩ (fun r => ∀ c : Dev Cert.GluBReferenceIdeal.nD,
          r.2.mem ((c.tc : Thread Cert.GluBReferenceIdeal.nD Cert.GluBReferenceIdeal.τ).loc Cert.GluBReferenceIdeal.main_v31) = v0 c
          ∧ r.2.mem ((c.tc : Thread Cert.GluBReferenceIdeal.nD Cert.GluBReferenceIdeal.τ).loc Cert.GluBReferenceIdeal.main_v27) = v1 c
          ∧ r.2.mem ((c.tc : Thread Cert.GluBReferenceIdeal.nD Cert.GluBReferenceIdeal.τ).loc Cert.GluBReferenceIdeal.main_v30) = v2 c
          ∧ r.2.mem ((c.tc : Thread Cert.GluBReferenceIdeal.nD Cert.GluBReferenceIdeal.τ).loc Cert.GluBReferenceIdeal.main_arg0) = m' ((c.tc : Thread Cert.GluBReferenceIdeal.nD Cert.GluBReferenceIdeal.τ).loc Cert.GluBReferenceIdeal.main_arg0)
          ∧ r.2.mem ((c.tc : Thread Cert.GluBReferenceIdeal.nD Cert.GluBReferenceIdeal.τ).loc Cert.GluBReferenceIdeal.main_arg1) = m' ((c.tc : Thread Cert.GluBReferenceIdeal.nD Cert.GluBReferenceIdeal.τ).loc Cert.GluBReferenceIdeal.main_arg1)
          ∧ r.2.mem ((c.tc : Thread Cert.GluBReferenceIdeal.nD Cert.GluBReferenceIdeal.τ).loc Cert.GluBReferenceIdeal.main_arg2) = m' ((c.tc : Thread Cert.GluBReferenceIdeal.nD Cert.GluBReferenceIdeal.τ).loc Cert.GluBReferenceIdeal.main_arg2)
          ∧ r.2.mem ((c.tc : Thread Cert.GluBReferenceIdeal.nD Cert.GluBReferenceIdeal.τ).loc Cert.GluBReferenceIdeal.main_arg3) = m' ((c.tc : Thread Cert.GluBReferenceIdeal.nD Cert.GluBReferenceIdeal.τ).loc Cert.GluBReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_ActF_ActFIdeal : Prop :=
  True

def algebraic_ActFIdeal_ActFReferenceIdeal [hActFIdeal : Cert.ActFIdeal.Facts] [hActFReferenceIdeal : Cert.ActFReferenceIdeal.Facts] : Prop :=
  ∀ (m : (ℓ : Loc Cert.ActFIdeal.nD Cert.ActFIdeal.τ Cert.ActFIdeal.sig) → Buf (Elt Ideal) ℓ) (g : Dev Cert.ActFIdeal.nD → PrngReg)
    (m' : (ℓ : Loc Cert.ActFReferenceIdeal.nD Cert.ActFReferenceIdeal.τ Cert.ActFReferenceIdeal.sig) → Buf (Elt Ideal) ℓ) (g' : Dev Cert.ActFReferenceIdeal.nD → PrngReg), Pre_ActFIdeal m →
    (∀ c : Dev Cert.ActFIdeal.nD,
      m' ((c.tc : Thread Cert.ActFReferenceIdeal.nD Cert.ActFReferenceIdeal.τ).loc Cert.ActFReferenceIdeal.main_arg0) = m ((c.tc : Thread Cert.ActFIdeal.nD Cert.ActFIdeal.τ).loc Cert.ActFIdeal.main_arg0)
      ∧ m' ((c.tc : Thread Cert.ActFReferenceIdeal.nD Cert.ActFReferenceIdeal.τ).loc Cert.ActFReferenceIdeal.main_arg1) = m ((c.tc : Thread Cert.ActFIdeal.nD Cert.ActFIdeal.τ).loc Cert.ActFIdeal.main_arg1)) →
    ∃ (v0 : (c : Dev Cert.ActFIdeal.nD) → Buf (Elt Ideal) ((c.tc : Thread Cert.ActFIdeal.nD Cert.ActFIdeal.τ).loc Cert.ActFIdeal.main_v0)),
      θ_run (Cert.ActFIdeal.defs (F := Ideal)) (onTc (τ := Cert.ActFIdeal.τ) (Cert.ActFIdeal.main (F := Ideal))) ⟨m, fun _ => 0, g⟩ (fun r => ∀ c : Dev Cert.ActFIdeal.nD,
          r.2.mem ((c.tc : Thread Cert.ActFIdeal.nD Cert.ActFIdeal.τ).loc Cert.ActFIdeal.main_v0) = v0 c
          ∧ r.2.mem ((c.tc : Thread Cert.ActFIdeal.nD Cert.ActFIdeal.τ).loc Cert.ActFIdeal.main_arg0) = m ((c.tc : Thread Cert.ActFIdeal.nD Cert.ActFIdeal.τ).loc Cert.ActFIdeal.main_arg0)
          ∧ r.2.mem ((c.tc : Thread Cert.ActFIdeal.nD Cert.ActFIdeal.τ).loc Cert.ActFIdeal.main_arg1) = m ((c.tc : Thread Cert.ActFIdeal.nD Cert.ActFIdeal.τ).loc Cert.ActFIdeal.main_arg1))
      ∧ θ_run (Cert.ActFReferenceIdeal.defs (F := Ideal)) (onTc (τ := Cert.ActFReferenceIdeal.τ) (Cert.ActFReferenceIdeal.main (F := Ideal))) ⟨m', fun _ => 0, g'⟩ (fun r => ∀ c : Dev Cert.ActFReferenceIdeal.nD,
          r.2.mem ((c.tc : Thread Cert.ActFReferenceIdeal.nD Cert.ActFReferenceIdeal.τ).loc Cert.ActFReferenceIdeal.main_v27) = v0 c
          ∧ r.2.mem ((c.tc : Thread Cert.ActFReferenceIdeal.nD Cert.ActFReferenceIdeal.τ).loc Cert.ActFReferenceIdeal.main_arg0) = m' ((c.tc : Thread Cert.ActFReferenceIdeal.nD Cert.ActFReferenceIdeal.τ).loc Cert.ActFReferenceIdeal.main_arg0)
          ∧ r.2.mem ((c.tc : Thread Cert.ActFReferenceIdeal.nD Cert.ActFReferenceIdeal.τ).loc Cert.ActFReferenceIdeal.main_arg1) = m' ((c.tc : Thread Cert.ActFReferenceIdeal.nD Cert.ActFReferenceIdeal.τ).loc Cert.ActFReferenceIdeal.main_arg1))

def preserves_GateF_GateFIdeal : Prop :=
  True

def algebraic_GateFIdeal_GateFReferenceIdeal [hGateFIdeal : Cert.GateFIdeal.Facts] [hGateFReferenceIdeal : Cert.GateFReferenceIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFReferenceIdeal.nD Cert.GateFReferenceIdeal.τ Cert.GateFReferenceIdeal.sig) → Buf (Elt Ideal) ℓ) (g' : Dev Cert.GateFReferenceIdeal.nD → PrngReg), Pre_GateFIdeal m →
    (∀ c : Dev Cert.GateFIdeal.nD,
      m' ((c.tc : Thread Cert.GateFReferenceIdeal.nD Cert.GateFReferenceIdeal.τ).loc Cert.GateFReferenceIdeal.main_arg0) = m ((c.tc : Thread Cert.GateFIdeal.nD Cert.GateFIdeal.τ).loc Cert.GateFIdeal.main_arg0)
      ∧ m' ((c.tc : Thread Cert.GateFReferenceIdeal.nD Cert.GateFReferenceIdeal.τ).loc Cert.GateFReferenceIdeal.main_arg1) = m ((c.tc : Thread Cert.GateFIdeal.nD Cert.GateFIdeal.τ).loc Cert.GateFIdeal.main_arg1)
      ∧ m' ((c.tc : Thread Cert.GateFReferenceIdeal.nD Cert.GateFReferenceIdeal.τ).loc Cert.GateFReferenceIdeal.main_arg2) = m ((c.tc : Thread Cert.GateFIdeal.nD Cert.GateFIdeal.τ).loc Cert.GateFIdeal.main_arg2)) →
    ∃ (v0 : (c : Dev Cert.GateFIdeal.nD) → Buf (Elt Ideal) ((c.tc : Thread Cert.GateFIdeal.nD Cert.GateFIdeal.τ).loc Cert.GateFIdeal.main_v0_0)) (v1 : (c : Dev Cert.GateFIdeal.nD) → Buf (Elt Ideal) ((c.tc : Thread Cert.GateFIdeal.nD Cert.GateFIdeal.τ).loc Cert.GateFIdeal.main_v0_1)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v0_0) = v0 c
          ∧ r.2.mem ((c.tc : Thread Cert.GateFIdeal.nD Cert.GateFIdeal.τ).loc Cert.GateFIdeal.main_v0_1) = v1 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
          ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2))
      ∧ θ_run (Cert.GateFReferenceIdeal.defs (F := Ideal)) (onTc (τ := Cert.GateFReferenceIdeal.τ) (Cert.GateFReferenceIdeal.main (F := Ideal))) ⟨m', fun _ => 0, g'⟩ (fun r => ∀ c : Dev Cert.GateFReferenceIdeal.nD,
          r.2.mem ((c.tc : Thread Cert.GateFReferenceIdeal.nD Cert.GateFReferenceIdeal.τ).loc Cert.GateFReferenceIdeal.main_v13) = v0 c
          ∧ r.2.mem ((c.tc : Thread Cert.GateFReferenceIdeal.nD Cert.GateFReferenceIdeal.τ).loc Cert.GateFReferenceIdeal.main_v20) = v1 c
          ∧ r.2.mem ((c.tc : Thread Cert.GateFReferenceIdeal.nD Cert.GateFReferenceIdeal.τ).loc Cert.GateFReferenceIdeal.main_arg0) = m' ((c.tc : Thread Cert.GateFReferenceIdeal.nD Cert.GateFReferenceIdeal.τ).loc Cert.GateFReferenceIdeal.main_arg0)
          ∧ r.2.mem ((c.tc : Thread Cert.GateFReferenceIdeal.nD Cert.GateFReferenceIdeal.τ).loc Cert.GateFReferenceIdeal.main_arg1) = m' ((c.tc : Thread Cert.GateFReferenceIdeal.nD Cert.GateFReferenceIdeal.τ).loc Cert.GateFReferenceIdeal.main_arg1)
          ∧ r.2.mem ((c.tc : Thread Cert.GateFReferenceIdeal.nD Cert.GateFReferenceIdeal.τ).loc Cert.GateFReferenceIdeal.main_arg2) = m' ((c.tc : Thread Cert.GateFReferenceIdeal.nD Cert.GateFReferenceIdeal.τ).loc Cert.GateFReferenceIdeal.main_arg2))

def preserves_ConvF_ConvFIdeal : Prop :=
  True

def algebraic_ConvFIdeal_ConvFReferenceIdeal [hConvFIdeal : Cert.ConvFIdeal.Facts] [hConvFReferenceIdeal : Cert.ConvFReferenceIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFReferenceIdeal.nD Cert.ConvFReferenceIdeal.τ Cert.ConvFReferenceIdeal.sig) → Buf (Elt Ideal) ℓ) (g' : Dev Cert.ConvFReferenceIdeal.nD → PrngReg), Pre_ConvFIdeal m →
    (∀ c : Dev Cert.ConvFIdeal.nD,
      m' ((c.tc : Thread Cert.ConvFReferenceIdeal.nD Cert.ConvFReferenceIdeal.τ).loc Cert.ConvFReferenceIdeal.main_arg0) = m ((c.tc : Thread Cert.ConvFIdeal.nD Cert.ConvFIdeal.τ).loc Cert.ConvFIdeal.main_arg0)
      ∧ m' ((c.tc : Thread Cert.ConvFReferenceIdeal.nD Cert.ConvFReferenceIdeal.τ).loc Cert.ConvFReferenceIdeal.main_arg1) = m ((c.tc : Thread Cert.ConvFIdeal.nD Cert.ConvFIdeal.τ).loc Cert.ConvFIdeal.main_arg1)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ θ_run (Cert.ConvFReferenceIdeal.defs (F := Ideal)) (onTc (τ := Cert.ConvFReferenceIdeal.τ) (Cert.ConvFReferenceIdeal.main (F := Ideal))) ⟨m', fun _ => 0, g'⟩ (fun r => ∀ c : Dev Cert.ConvFReferenceIdeal.nD,
          r.2.mem ((c.tc : Thread Cert.ConvFReferenceIdeal.nD Cert.ConvFReferenceIdeal.τ).loc Cert.ConvFReferenceIdeal.main_v56) = v0 c
          ∧ r.2.mem ((c.tc : Thread Cert.ConvFReferenceIdeal.nD Cert.ConvFReferenceIdeal.τ).loc Cert.ConvFReferenceIdeal.main_arg0) = m' ((c.tc : Thread Cert.ConvFReferenceIdeal.nD Cert.ConvFReferenceIdeal.τ).loc Cert.ConvFReferenceIdeal.main_arg0)
          ∧ r.2.mem ((c.tc : Thread Cert.ConvFReferenceIdeal.nD Cert.ConvFReferenceIdeal.τ).loc Cert.ConvFReferenceIdeal.main_arg1) = m' ((c.tc : Thread Cert.ConvFReferenceIdeal.nD Cert.ConvFReferenceIdeal.τ).loc Cert.ConvFReferenceIdeal.main_arg1))

def preserves_GluA_GluAIdeal : Prop :=
  True

def algebraic_GluAIdeal_GluAReferenceIdeal [hGluAIdeal : Cert.GluAIdeal.Facts] [hGluAReferenceIdeal : Cert.GluAReferenceIdeal.Facts] : Prop :=
  ∀ (m : (ℓ : Loc Cert.GluAIdeal.nD Cert.GluAIdeal.τ Cert.GluAIdeal.sig) → Buf (Elt Ideal) ℓ) (g : Dev Cert.GluAIdeal.nD → PrngReg)
    (m' : (ℓ : Loc Cert.GluAReferenceIdeal.nD Cert.GluAReferenceIdeal.τ Cert.GluAReferenceIdeal.sig) → Buf (Elt Ideal) ℓ) (g' : Dev Cert.GluAReferenceIdeal.nD → PrngReg), Pre_GluAIdeal m →
    (∀ c : Dev Cert.GluAIdeal.nD,
      m' ((c.tc : Thread Cert.GluAReferenceIdeal.nD Cert.GluAReferenceIdeal.τ).loc Cert.GluAReferenceIdeal.main_arg0) = m ((c.tc : Thread Cert.GluAIdeal.nD Cert.GluAIdeal.τ).loc Cert.GluAIdeal.main_arg0)
      ∧ m' ((c.tc : Thread Cert.GluAReferenceIdeal.nD Cert.GluAReferenceIdeal.τ).loc Cert.GluAReferenceIdeal.main_arg1) = m ((c.tc : Thread Cert.GluAIdeal.nD Cert.GluAIdeal.τ).loc Cert.GluAIdeal.main_arg1)
      ∧ m' ((c.tc : Thread Cert.GluAReferenceIdeal.nD Cert.GluAReferenceIdeal.τ).loc Cert.GluAReferenceIdeal.main_arg2) = m ((c.tc : Thread Cert.GluAIdeal.nD Cert.GluAIdeal.τ).loc Cert.GluAIdeal.main_arg2)
      ∧ m' ((c.tc : Thread Cert.GluAReferenceIdeal.nD Cert.GluAReferenceIdeal.τ).loc Cert.GluAReferenceIdeal.main_arg3) = m ((c.tc : Thread Cert.GluAIdeal.nD Cert.GluAIdeal.τ).loc Cert.GluAIdeal.main_arg3)) →
    ∃ (v0 : (c : Dev Cert.GluAIdeal.nD) → Buf (Elt Ideal) ((c.tc : Thread Cert.GluAIdeal.nD Cert.GluAIdeal.τ).loc Cert.GluAIdeal.main_v0)),
      θ_run (Cert.GluAIdeal.defs (F := Ideal)) (onTc (τ := Cert.GluAIdeal.τ) (Cert.GluAIdeal.main (F := Ideal))) ⟨m, fun _ => 0, g⟩ (fun r => ∀ c : Dev Cert.GluAIdeal.nD,
          r.2.mem ((c.tc : Thread Cert.GluAIdeal.nD Cert.GluAIdeal.τ).loc Cert.GluAIdeal.main_v0) = v0 c
          ∧ r.2.mem ((c.tc : Thread Cert.GluAIdeal.nD Cert.GluAIdeal.τ).loc Cert.GluAIdeal.main_arg0) = m ((c.tc : Thread Cert.GluAIdeal.nD Cert.GluAIdeal.τ).loc Cert.GluAIdeal.main_arg0)
          ∧ r.2.mem ((c.tc : Thread Cert.GluAIdeal.nD Cert.GluAIdeal.τ).loc Cert.GluAIdeal.main_arg1) = m ((c.tc : Thread Cert.GluAIdeal.nD Cert.GluAIdeal.τ).loc Cert.GluAIdeal.main_arg1)
          ∧ r.2.mem ((c.tc : Thread Cert.GluAIdeal.nD Cert.GluAIdeal.τ).loc Cert.GluAIdeal.main_arg2) = m ((c.tc : Thread Cert.GluAIdeal.nD Cert.GluAIdeal.τ).loc Cert.GluAIdeal.main_arg2)
          ∧ r.2.mem ((c.tc : Thread Cert.GluAIdeal.nD Cert.GluAIdeal.τ).loc Cert.GluAIdeal.main_arg3) = m ((c.tc : Thread Cert.GluAIdeal.nD Cert.GluAIdeal.τ).loc Cert.GluAIdeal.main_arg3))
      ∧ θ_run (Cert.GluAReferenceIdeal.defs (F := Ideal)) (onTc (τ := Cert.GluAReferenceIdeal.τ) (Cert.GluAReferenceIdeal.main (F := Ideal))) ⟨m', fun _ => 0, g'⟩ (fun r => ∀ c : Dev Cert.GluAReferenceIdeal.nD,
          r.2.mem ((c.tc : Thread Cert.GluAReferenceIdeal.nD Cert.GluAReferenceIdeal.τ).loc Cert.GluAReferenceIdeal.main_v24) = v0 c
          ∧ r.2.mem ((c.tc : Thread Cert.GluAReferenceIdeal.nD Cert.GluAReferenceIdeal.τ).loc Cert.GluAReferenceIdeal.main_arg0) = m' ((c.tc : Thread Cert.GluAReferenceIdeal.nD Cert.GluAReferenceIdeal.τ).loc Cert.GluAReferenceIdeal.main_arg0)
          ∧ r.2.mem ((c.tc : Thread Cert.GluAReferenceIdeal.nD Cert.GluAReferenceIdeal.τ).loc Cert.GluAReferenceIdeal.main_arg1) = m' ((c.tc : Thread Cert.GluAReferenceIdeal.nD Cert.GluAReferenceIdeal.τ).loc Cert.GluAReferenceIdeal.main_arg1)
          ∧ r.2.mem ((c.tc : Thread Cert.GluAReferenceIdeal.nD Cert.GluAReferenceIdeal.τ).loc Cert.GluAReferenceIdeal.main_arg2) = m' ((c.tc : Thread Cert.GluAReferenceIdeal.nD Cert.GluAReferenceIdeal.τ).loc Cert.GluAReferenceIdeal.main_arg2)
          ∧ r.2.mem ((c.tc : Thread Cert.GluAReferenceIdeal.nD Cert.GluAReferenceIdeal.τ).loc Cert.GluAReferenceIdeal.main_arg3) = m' ((c.tc : Thread Cert.GluAReferenceIdeal.nD Cert.GluAReferenceIdeal.τ).loc Cert.GluAReferenceIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hAct : Cert.Act.Facts) (hActIdeal : Cert.ActIdeal.Facts) (hActReferenceIdeal : Cert.ActReferenceIdeal.Facts) (hUpW : Cert.UpW.Facts) (hUpWIdeal : Cert.UpWIdeal.Facts) (hUpWReferenceIdeal : Cert.UpWReferenceIdeal.Facts) (hDownX : Cert.DownX.Facts) (hDownXIdeal : Cert.DownXIdeal.Facts) (hDownXReferenceIdeal : Cert.DownXReferenceIdeal.Facts) (hDownW : Cert.DownW.Facts) (hDownWIdeal : Cert.DownWIdeal.Facts) (hDownWReferenceIdeal : Cert.DownWReferenceIdeal.Facts) (hSqW : Cert.SqW.Facts) (hSqWIdeal : Cert.SqWIdeal.Facts) (hSqWReferenceIdeal : Cert.SqWReferenceIdeal.Facts) (hQW : Cert.QW.Facts) (hQWIdeal : Cert.QWIdeal.Facts) (hQWReferenceIdeal : Cert.QWReferenceIdeal.Facts) (hInWb : Cert.InWb.Facts) (hInWbIdeal : Cert.InWbIdeal.Facts) (hInWbReferenceIdeal : Cert.InWbReferenceIdeal.Facts) (hInWa : Cert.InWa.Facts) (hInWaIdeal : Cert.InWaIdeal.Facts) (hInWaReferenceIdeal : Cert.InWaReferenceIdeal.Facts) (hSqX : Cert.SqX.Facts) (hSqXIdeal : Cert.SqXIdeal.Facts) (hSqXReferenceIdeal : Cert.SqXReferenceIdeal.Facts) (hInXb : Cert.InXb.Facts) (hInXbIdeal : Cert.InXbIdeal.Facts) (hInXbReferenceIdeal : Cert.InXbReferenceIdeal.Facts) (hInXa : Cert.InXa.Facts) (hInXaIdeal : Cert.InXaIdeal.Facts) (hInXaReferenceIdeal : Cert.InXaReferenceIdeal.Facts) (hQX : Cert.QX.Facts) (hQXIdeal : Cert.QXIdeal.Facts) (hQXReferenceIdeal : Cert.QXReferenceIdeal.Facts) (hFfnUp : Cert.FfnUp.Facts) (hFfnUpIdeal : Cert.FfnUpIdeal.Facts) (hFfnUpReferenceIdeal : Cert.FfnUpReferenceIdeal.Facts) (hInb : Cert.Inb.Facts) (hInbIdeal : Cert.InbIdeal.Facts) (hInbReferenceIdeal : Cert.InbReferenceIdeal.Facts) (hIna : Cert.Ina.Facts) (hInaIdeal : Cert.InaIdeal.Facts) (hInaReferenceIdeal : Cert.InaReferenceIdeal.Facts) (hQf : Cert.Qf.Facts) (hQfIdeal : Cert.QfIdeal.Facts) (hQfReferenceIdeal : Cert.QfReferenceIdeal.Facts) (hOut : Cert.Out.Facts) (hOutIdeal : Cert.OutIdeal.Facts) (hOutReferenceIdeal : Cert.OutReferenceIdeal.Facts) (hDown : Cert.Down.Facts) (hDownIdeal : Cert.DownIdeal.Facts) (hDownReferenceIdeal : Cert.DownReferenceIdeal.Facts) (hDownB : Cert.DownB.Facts) (hDownBIdeal : Cert.DownBIdeal.Facts) (hDownBReferenceIdeal : Cert.DownBReferenceIdeal.Facts) (hGluF : Cert.GluF.Facts) (hGluFIdeal : Cert.GluFIdeal.Facts) (hGluFReferenceIdeal : Cert.GluFReferenceIdeal.Facts) (hGluW : Cert.GluW.Facts) (hGluWIdeal : Cert.GluWIdeal.Facts) (hGluWReferenceIdeal : Cert.GluWReferenceIdeal.Facts) (hGluX : Cert.GluX.Facts) (hGluXIdeal : Cert.GluXIdeal.Facts) (hGluXReferenceIdeal : Cert.GluXReferenceIdeal.Facts) (hKvF : Cert.KvF.Facts) (hKvFIdeal : Cert.KvFIdeal.Facts) (hKvFReferenceIdeal : Cert.KvFReferenceIdeal.Facts) (hKvW : Cert.KvW.Facts) (hKvWIdeal : Cert.KvWIdeal.Facts) (hKvWReferenceIdeal : Cert.KvWReferenceIdeal.Facts) (hKvX : Cert.KvX.Facts) (hKvXIdeal : Cert.KvXIdeal.Facts) (hKvXReferenceIdeal : Cert.KvXReferenceIdeal.Facts) (hNormF : Cert.NormF.Facts) (hNormFIdeal : Cert.NormFIdeal.Facts) (hNormFReferenceIdeal : Cert.NormFReferenceIdeal.Facts) (hMemF : Cert.MemF.Facts) (hMemFIdeal : Cert.MemFIdeal.Facts) (hMemFReferenceIdeal : Cert.MemFReferenceIdeal.Facts) (hMemB : Cert.MemB.Facts) (hMemBIdeal : Cert.MemBIdeal.Facts) (hMemBReferenceIdeal : Cert.MemBReferenceIdeal.Facts) (hXaF : Cert.XaF.Facts) (hXaFIdeal : Cert.XaFIdeal.Facts) (hXaFReferenceIdeal : Cert.XaFReferenceIdeal.Facts) (hGluB : Cert.GluB.Facts) (hGluBIdeal : Cert.GluBIdeal.Facts) (hGluBReferenceIdeal : Cert.GluBReferenceIdeal.Facts) (hLoss : Cert.Loss.Facts) (hLossIdeal : Cert.LossIdeal.Facts) (hLossReferenceIdeal : Cert.LossReferenceIdeal.Facts) (hActF : Cert.ActF.Facts) (hActFIdeal : Cert.ActFIdeal.Facts) (hActFReferenceIdeal : Cert.ActFReferenceIdeal.Facts) (hGateF : Cert.GateF.Facts) (hGateFIdeal : Cert.GateFIdeal.Facts) (hGateFReferenceIdeal : Cert.GateFReferenceIdeal.Facts) (hConvF : Cert.ConvF.Facts) (hConvFIdeal : Cert.ConvFIdeal.Facts) (hConvFReferenceIdeal : Cert.ConvFReferenceIdeal.Facts) (hGluA : Cert.GluA.Facts) (hGluAIdeal : Cert.GluAIdeal.Facts) (hGluAReferenceIdeal : Cert.GluAReferenceIdeal.Facts) (hPre_finite_scores : Cert.Pre_finite_scores.Facts) (hPre_finite_act : Cert.Pre_finite_act.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Up (hUp := hUp)
    ∧ quiescent_UpIdeal (hUpIdeal := hUpIdeal)
    ∧ quiescent_UpReferenceIdeal (hUpReferenceIdeal := hUpReferenceIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActReferenceIdeal (hActReferenceIdeal := hActReferenceIdeal)
    ∧ quiescent_ActReferenceIdeal_pre_finite_act (hActReferenceIdeal := hActReferenceIdeal) (hPre_finite_act := hPre_finite_act)
    ∧ quiescent_UpW (hUpW := hUpW)
    ∧ quiescent_UpWIdeal (hUpWIdeal := hUpWIdeal)
    ∧ quiescent_UpWReferenceIdeal (hUpWReferenceIdeal := hUpWReferenceIdeal)
    ∧ quiescent_DownX (hDownX := hDownX)
    ∧ quiescent_DownXIdeal (hDownXIdeal := hDownXIdeal)
    ∧ quiescent_DownXReferenceIdeal (hDownXReferenceIdeal := hDownXReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_SqW (hSqW := hSqW)
    ∧ quiescent_SqWIdeal (hSqWIdeal := hSqWIdeal)
    ∧ quiescent_SqWReferenceIdeal (hSqWReferenceIdeal := hSqWReferenceIdeal)
    ∧ quiescent_QW (hQW := hQW)
    ∧ quiescent_QWIdeal (hQWIdeal := hQWIdeal)
    ∧ quiescent_QWReferenceIdeal (hQWReferenceIdeal := hQWReferenceIdeal)
    ∧ quiescent_InWb (hInWb := hInWb)
    ∧ quiescent_InWbIdeal (hInWbIdeal := hInWbIdeal)
    ∧ quiescent_InWbReferenceIdeal (hInWbReferenceIdeal := hInWbReferenceIdeal)
    ∧ quiescent_InWa (hInWa := hInWa)
    ∧ quiescent_InWaIdeal (hInWaIdeal := hInWaIdeal)
    ∧ quiescent_InWaReferenceIdeal (hInWaReferenceIdeal := hInWaReferenceIdeal)
    ∧ quiescent_SqX (hSqX := hSqX)
    ∧ quiescent_SqXIdeal (hSqXIdeal := hSqXIdeal)
    ∧ quiescent_SqXReferenceIdeal (hSqXReferenceIdeal := hSqXReferenceIdeal)
    ∧ quiescent_InXb (hInXb := hInXb)
    ∧ quiescent_InXbIdeal (hInXbIdeal := hInXbIdeal)
    ∧ quiescent_InXbReferenceIdeal (hInXbReferenceIdeal := hInXbReferenceIdeal)
    ∧ quiescent_InXa (hInXa := hInXa)
    ∧ quiescent_InXaIdeal (hInXaIdeal := hInXaIdeal)
    ∧ quiescent_InXaReferenceIdeal (hInXaReferenceIdeal := hInXaReferenceIdeal)
    ∧ quiescent_QX (hQX := hQX)
    ∧ quiescent_QXIdeal (hQXIdeal := hQXIdeal)
    ∧ quiescent_QXReferenceIdeal (hQXReferenceIdeal := hQXReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_Inb (hInb := hInb)
    ∧ quiescent_InbIdeal (hInbIdeal := hInbIdeal)
    ∧ quiescent_InbReferenceIdeal (hInbReferenceIdeal := hInbReferenceIdeal)
    ∧ quiescent_Ina (hIna := hIna)
    ∧ quiescent_InaIdeal (hInaIdeal := hInaIdeal)
    ∧ quiescent_InaReferenceIdeal (hInaReferenceIdeal := hInaReferenceIdeal)
    ∧ quiescent_Qf (hQf := hQf)
    ∧ quiescent_QfIdeal (hQfIdeal := hQfIdeal)
    ∧ quiescent_QfReferenceIdeal (hQfReferenceIdeal := hQfReferenceIdeal)
    ∧ quiescent_Out (hOut := hOut)
    ∧ quiescent_OutIdeal (hOutIdeal := hOutIdeal)
    ∧ quiescent_OutReferenceIdeal (hOutReferenceIdeal := hOutReferenceIdeal)
    ∧ quiescent_Down (hDown := hDown)
    ∧ quiescent_DownIdeal (hDownIdeal := hDownIdeal)
    ∧ quiescent_DownReferenceIdeal (hDownReferenceIdeal := hDownReferenceIdeal)
    ∧ quiescent_DownB (hDownB := hDownB)
    ∧ quiescent_DownBIdeal (hDownBIdeal := hDownBIdeal)
    ∧ quiescent_DownBReferenceIdeal (hDownBReferenceIdeal := hDownBReferenceIdeal)
    ∧ quiescent_GluF (hGluF := hGluF)
    ∧ quiescent_GluFIdeal (hGluFIdeal := hGluFIdeal)
    ∧ quiescent_GluFReferenceIdeal (hGluFReferenceIdeal := hGluFReferenceIdeal)
    ∧ quiescent_GluW (hGluW := hGluW)
    ∧ quiescent_GluWIdeal (hGluWIdeal := hGluWIdeal)
    ∧ quiescent_GluWReferenceIdeal (hGluWReferenceIdeal := hGluWReferenceIdeal)
    ∧ quiescent_GluX (hGluX := hGluX)
    ∧ quiescent_GluXIdeal (hGluXIdeal := hGluXIdeal)
    ∧ quiescent_GluXReferenceIdeal (hGluXReferenceIdeal := hGluXReferenceIdeal)
    ∧ quiescent_KvF (hKvF := hKvF)
    ∧ quiescent_KvFIdeal (hKvFIdeal := hKvFIdeal)
    ∧ quiescent_KvFReferenceIdeal (hKvFReferenceIdeal := hKvFReferenceIdeal)
    ∧ quiescent_KvW (hKvW := hKvW)
    ∧ quiescent_KvWIdeal (hKvWIdeal := hKvWIdeal)
    ∧ quiescent_KvWReferenceIdeal (hKvWReferenceIdeal := hKvWReferenceIdeal)
    ∧ quiescent_KvX (hKvX := hKvX)
    ∧ quiescent_KvXIdeal (hKvXIdeal := hKvXIdeal)
    ∧ quiescent_KvXReferenceIdeal (hKvXReferenceIdeal := hKvXReferenceIdeal)
    ∧ quiescent_NormF (hNormF := hNormF)
    ∧ quiescent_NormFIdeal (hNormFIdeal := hNormFIdeal)
    ∧ quiescent_NormFReferenceIdeal (hNormFReferenceIdeal := hNormFReferenceIdeal)
    ∧ quiescent_MemF (hMemF := hMemF)
    ∧ quiescent_MemFIdeal (hMemFIdeal := hMemFIdeal)
    ∧ quiescent_MemFReferenceIdeal (hMemFReferenceIdeal := hMemFReferenceIdeal)
    ∧ quiescent_MemB (hMemB := hMemB)
    ∧ quiescent_MemBIdeal (hMemBIdeal := hMemBIdeal)
    ∧ quiescent_MemBReferenceIdeal (hMemBReferenceIdeal := hMemBReferenceIdeal)
    ∧ quiescent_XaF (hXaF := hXaF)
    ∧ quiescent_XaFIdeal (hXaFIdeal := hXaFIdeal)
    ∧ quiescent_XaFReferenceIdeal (hXaFReferenceIdeal := hXaFReferenceIdeal)
    ∧ quiescent_GluB (hGluB := hGluB)
    ∧ quiescent_GluBIdeal (hGluBIdeal := hGluBIdeal)
    ∧ quiescent_GluBReferenceIdeal (hGluBReferenceIdeal := hGluBReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_ActF (hActF := hActF)
    ∧ quiescent_ActFIdeal (hActFIdeal := hActFIdeal)
    ∧ quiescent_ActFReferenceIdeal (hActFReferenceIdeal := hActFReferenceIdeal)
    ∧ quiescent_GateF (hGateF := hGateF)
    ∧ quiescent_GateFIdeal (hGateFIdeal := hGateFIdeal)
    ∧ quiescent_GateFReferenceIdeal (hGateFReferenceIdeal := hGateFReferenceIdeal)
    ∧ quiescent_ConvF (hConvF := hConvF)
    ∧ quiescent_ConvFIdeal (hConvFIdeal := hConvFIdeal)
    ∧ quiescent_ConvFReferenceIdeal (hConvFReferenceIdeal := hConvFReferenceIdeal)
    ∧ quiescent_GluA (hGluA := hGluA)
    ∧ quiescent_GluAIdeal (hGluAIdeal := hGluAIdeal)
    ∧ quiescent_GluAReferenceIdeal (hGluAReferenceIdeal := hGluAReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Up_UpIdeal
    ∧ algebraic_UpIdeal_UpReferenceIdeal (hUpIdeal := hUpIdeal) (hUpReferenceIdeal := hUpReferenceIdeal)
    ∧ preserves_Act_ActIdeal
    ∧ algebraic_ActIdeal_ActReferenceIdeal_pre_finite_act (hActIdeal := hActIdeal) (hActReferenceIdeal := hActReferenceIdeal) (hPre_finite_act := hPre_finite_act)
    ∧ preserves_UpW_UpWIdeal
    ∧ algebraic_UpWIdeal_UpWReferenceIdeal (hUpWIdeal := hUpWIdeal) (hUpWReferenceIdeal := hUpWReferenceIdeal)
    ∧ preserves_DownX_DownXIdeal
    ∧ algebraic_DownXIdeal_DownXReferenceIdeal (hDownXIdeal := hDownXIdeal) (hDownXReferenceIdeal := hDownXReferenceIdeal)
    ∧ preserves_DownW_DownWIdeal
    ∧ algebraic_DownWIdeal_DownWReferenceIdeal (hDownWIdeal := hDownWIdeal) (hDownWReferenceIdeal := hDownWReferenceIdeal)
    ∧ preserves_SqW_SqWIdeal
    ∧ algebraic_SqWIdeal_SqWReferenceIdeal (hSqWIdeal := hSqWIdeal) (hSqWReferenceIdeal := hSqWReferenceIdeal)
    ∧ preserves_QW_QWIdeal
    ∧ algebraic_QWIdeal_QWReferenceIdeal (hQWIdeal := hQWIdeal) (hQWReferenceIdeal := hQWReferenceIdeal)
    ∧ preserves_InWb_InWbIdeal
    ∧ algebraic_InWbIdeal_InWbReferenceIdeal (hInWbIdeal := hInWbIdeal) (hInWbReferenceIdeal := hInWbReferenceIdeal)
    ∧ preserves_InWa_InWaIdeal
    ∧ algebraic_InWaIdeal_InWaReferenceIdeal (hInWaIdeal := hInWaIdeal) (hInWaReferenceIdeal := hInWaReferenceIdeal)
    ∧ preserves_SqX_SqXIdeal
    ∧ algebraic_SqXIdeal_SqXReferenceIdeal (hSqXIdeal := hSqXIdeal) (hSqXReferenceIdeal := hSqXReferenceIdeal)
    ∧ preserves_InXb_InXbIdeal
    ∧ algebraic_InXbIdeal_InXbReferenceIdeal (hInXbIdeal := hInXbIdeal) (hInXbReferenceIdeal := hInXbReferenceIdeal)
    ∧ preserves_InXa_InXaIdeal
    ∧ algebraic_InXaIdeal_InXaReferenceIdeal (hInXaIdeal := hInXaIdeal) (hInXaReferenceIdeal := hInXaReferenceIdeal)
    ∧ preserves_QX_QXIdeal
    ∧ algebraic_QXIdeal_QXReferenceIdeal (hQXIdeal := hQXIdeal) (hQXReferenceIdeal := hQXReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_Inb_InbIdeal
    ∧ algebraic_InbIdeal_InbReferenceIdeal (hInbIdeal := hInbIdeal) (hInbReferenceIdeal := hInbReferenceIdeal)
    ∧ preserves_Ina_InaIdeal
    ∧ algebraic_InaIdeal_InaReferenceIdeal (hInaIdeal := hInaIdeal) (hInaReferenceIdeal := hInaReferenceIdeal)
    ∧ preserves_Qf_QfIdeal
    ∧ algebraic_QfIdeal_QfReferenceIdeal (hQfIdeal := hQfIdeal) (hQfReferenceIdeal := hQfReferenceIdeal)
    ∧ preserves_Out_OutIdeal
    ∧ algebraic_OutIdeal_OutReferenceIdeal (hOutIdeal := hOutIdeal) (hOutReferenceIdeal := hOutReferenceIdeal)
    ∧ preserves_Down_DownIdeal
    ∧ algebraic_DownIdeal_DownReferenceIdeal (hDownIdeal := hDownIdeal) (hDownReferenceIdeal := hDownReferenceIdeal)
    ∧ preserves_DownB_DownBIdeal
    ∧ algebraic_DownBIdeal_DownBReferenceIdeal (hDownBIdeal := hDownBIdeal) (hDownBReferenceIdeal := hDownBReferenceIdeal)
    ∧ preserves_GluF_GluFIdeal
    ∧ algebraic_GluFIdeal_GluFReferenceIdeal (hGluFIdeal := hGluFIdeal) (hGluFReferenceIdeal := hGluFReferenceIdeal)
    ∧ preserves_GluW_GluWIdeal
    ∧ algebraic_GluWIdeal_GluWReferenceIdeal (hGluWIdeal := hGluWIdeal) (hGluWReferenceIdeal := hGluWReferenceIdeal)
    ∧ preserves_GluX_GluXIdeal
    ∧ algebraic_GluXIdeal_GluXReferenceIdeal (hGluXIdeal := hGluXIdeal) (hGluXReferenceIdeal := hGluXReferenceIdeal)
    ∧ preserves_KvF_KvFIdeal
    ∧ algebraic_KvFIdeal_KvFReferenceIdeal (hKvFIdeal := hKvFIdeal) (hKvFReferenceIdeal := hKvFReferenceIdeal)
    ∧ preserves_KvW_KvWIdeal
    ∧ algebraic_KvWIdeal_KvWReferenceIdeal (hKvWIdeal := hKvWIdeal) (hKvWReferenceIdeal := hKvWReferenceIdeal)
    ∧ preserves_KvX_KvXIdeal
    ∧ algebraic_KvXIdeal_KvXReferenceIdeal (hKvXIdeal := hKvXIdeal) (hKvXReferenceIdeal := hKvXReferenceIdeal)
    ∧ preserves_NormF_NormFIdeal
    ∧ algebraic_NormFIdeal_NormFReferenceIdeal (hNormFIdeal := hNormFIdeal) (hNormFReferenceIdeal := hNormFReferenceIdeal)
    ∧ preserves_MemF_MemFIdeal
    ∧ algebraic_MemFIdeal_MemFReferenceIdeal (hMemFIdeal := hMemFIdeal) (hMemFReferenceIdeal := hMemFReferenceIdeal)
    ∧ preserves_MemB_MemBIdeal
    ∧ algebraic_MemBIdeal_MemBReferenceIdeal (hMemBIdeal := hMemBIdeal) (hMemBReferenceIdeal := hMemBReferenceIdeal)
    ∧ preserves_XaF_XaFIdeal
    ∧ algebraic_XaFIdeal_XaFReferenceIdeal (hXaFIdeal := hXaFIdeal) (hXaFReferenceIdeal := hXaFReferenceIdeal)
    ∧ preserves_GluB_GluBIdeal
    ∧ algebraic_GluBIdeal_GluBReferenceIdeal (hGluBIdeal := hGluBIdeal) (hGluBReferenceIdeal := hGluBReferenceIdeal)
    ∧ preserves_Loss_LossIdeal
    ∧ algebraic_LossIdeal_LossReferenceIdeal (hLossIdeal := hLossIdeal) (hLossReferenceIdeal := hLossReferenceIdeal)
    ∧ preserves_ActF_ActFIdeal
    ∧ algebraic_ActFIdeal_ActFReferenceIdeal (hActFIdeal := hActFIdeal) (hActFReferenceIdeal := hActFReferenceIdeal)
    ∧ preserves_GateF_GateFIdeal
    ∧ algebraic_GateFIdeal_GateFReferenceIdeal (hGateFIdeal := hGateFIdeal) (hGateFReferenceIdeal := hGateFReferenceIdeal)
    ∧ preserves_ConvF_ConvFIdeal
    ∧ algebraic_ConvFIdeal_ConvFReferenceIdeal (hConvFIdeal := hConvFIdeal) (hConvFReferenceIdeal := hConvFReferenceIdeal)
    ∧ preserves_GluA_GluAIdeal
    ∧ algebraic_GluAIdeal_GluAReferenceIdeal (hGluAIdeal := hGluAIdeal) (hGluAReferenceIdeal := hGluAReferenceIdeal)
-- ==== Pre_finite_act.lean ====
abbrev S4096x5632 : Shape := ⟨2, ![4096, 5632]⟩
abbrev S3x5632 : Shape := ⟨2, ![3, 5632]⟩
abbrev S4096x2816 : Shape := ⟨2, ![4096, 2816]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x5632 .bf16) (main_arg1 : FVec F S3x5632 .f32) (main_arg2 : FVec F S4096x2816 .bf16) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S3x5632 .f32 := Host.absf main_arg1
  let main_cst_0 : FVec F S_ .f32 := constant S_ .f32 0x7F800000#32
  let main_v6 : FVec F S3x5632 .f32 := broadcastInDim S3x5632 ![] bcast_S_S3x5632 main_cst_0
  let main_v7 : IVec S3x5632 1 := cmpf .olt main_v5 main_v6
  let main_c_1 : IVec S_ 1 := constantI S_ 1 1#1
  let main_v8 : IVec S_ 1 := (fun x v => Host.reduce IntOp.andi x v reducesTo_S3x5632_S_d0_1 h_S_) main_v7 main_c_1
  let main_v9 : IVec S_ 1 := andi main_v4 main_v8
  let main_v10 : FVec F S4096x2816 .f32 := (extf .f32 · bitsLt_bf16_f32) main_arg2
  let main_v11 : FVec F S4096x2816 .f32 := Host.absf main_v10
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v9 main_v14
  main_v15
-- ==== Pre_finite_scores.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x2048 .bf16) (main_arg2 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S4096x1024, .f32⟩
  | .hbm, ⟨4, _⟩ => ⟨S256x2048, .f32⟩
  | .hbm, ⟨5, _⟩ => ⟨S1x4096x4x256, .f32⟩
  | .hbm, ⟨6, _⟩ => ⟨S1x256x2048, .f32⟩
  | .hbm, ⟨7, _⟩ => ⟨S1x256x1024, .f32⟩
  | .hbm, ⟨8, _⟩ => ⟨S1x256x1024, .f32⟩
  | .hbm, ⟨9, _⟩ => ⟨S1x256x4x256, .f32⟩
  | .hbm, ⟨10, _⟩ => ⟨S1x256x4x256, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x256x4096, .f32⟩
  | .hbm, ⟨54, _⟩ => ⟨S1x4096x4x256, .f32⟩
  | .hbm, ⟨55, _⟩ => ⟨S4096x1024, .f32⟩
  | .hbm, ⟨56, _⟩ => ⟨S1x4096x4x256, .f32⟩
  | .hbm, ⟨57, _⟩ => ⟨S1x4x256x4096, .f32⟩
  | .hbm, ⟨58, _⟩ => ⟨S1x4x4096x256, .f32⟩
  | .hbm, ⟨59, _⟩ => ⟨S1x4x256x256, .f32⟩
  | .hbm, ⟨60, _⟩ => ⟨S1x256x4x256, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x1, .f32⟩
  | .hbm, ⟨68, _⟩ => ⟨S1x4x4096x256, .f32⟩
  | .hbm, ⟨69, _⟩ => ⟨S1x4x4096x256, .f32⟩
  | .hbm, ⟨70, _⟩ => ⟨S_, .f32⟩
  | .hbm, ⟨71, _⟩ => ⟨S4x4096, .f32⟩
  | .hbm, ⟨72, _⟩ => ⟨S1x4x4096, .f32⟩
  | .hbm, ⟨73, _⟩ => ⟨S1x4x4096x256, .f32⟩
  | .hbm, ⟨74, _⟩ => ⟨S1x4x4096x256, .f32⟩
  | .hbm, ⟨75, _⟩ => ⟨S1x4x4096x256, .f32⟩
  | .hbm, ⟨76, _⟩ => ⟨S_, .f32⟩
  | .hbm, ⟨77, _⟩ => ⟨S1x4x4096x256, .f32⟩
  | .hbm, ⟨78, _⟩ => ⟨S1x4x4096x256, .f32⟩
  | .hbm, ⟨79, _⟩ => ⟨S1x4x256x256, .f32⟩
  | .hbm, ⟨80, _⟩ => ⟨S1x256x4x256, .f32⟩
  | .hbm, ⟨81, _⟩ => ⟨S1x4x4096x256, .f32⟩
  | .hbm, ⟨82, _⟩ => ⟨S1x4096x4x256, .f32⟩
  | .hbm, ⟨83, _⟩ => ⟨S1x256x1024, .f32⟩
  | .hbm, ⟨84, _⟩ => ⟨S1x256x1024, .f32⟩
  | .hbm, ⟨85, _⟩ => ⟨S1x256x2048, .f32⟩
  | .hbm, ⟨86, _⟩ => ⟨S256x2048, .f32⟩
  | .hbm, ⟨87, _⟩ => ⟨S4096x1024, .f32⟩
  | .hbm, ⟨88, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Up.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond8 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpReferenceIdeal.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x5632, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Act.lean ====
abbrev S4096x5632 : Shape := ⟨2, ![4096, 5632]⟩
abbrev S3x5632 : Shape := ⟨2, ![3, 5632]⟩
abbrev S4096x2816 : Shape := ⟨2, ![4096, 2816]⟩
abbrev S3x2816 : Shape := ⟨2, ![3, 2816]⟩
abbrev S4096x128 : Shape := ⟨2, ![4096, 128]⟩
abbrev S3x128 : Shape := ⟨2, ![3, 128]⟩
abbrev S8x128 : Shape := ⟨2, ![8, 128]⟩
abbrev S4088x128 : Shape := ⟨2, ![4088, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S3x2816, .f32⟩
  | .hbm, ⟨6, _⟩ => ⟨S3x2816, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S3x128, .f32⟩
  | .local _ .vmem, ⟨15, _⟩ => ⟨S3x128, .f32⟩
  | .local _ .vmem, ⟨16, _⟩ => ⟨S3x128, .f32⟩
  | .local _ .vmem, ⟨17, _⟩ => ⟨S3x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ActReferenceIdeal.lean ====
abbrev S4096x5632 : Shape := ⟨2, ![4096, 5632]⟩
abbrev S3x5632 : Shape := ⟨2, ![3, 5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S3x2816 : Shape := ⟨2, ![3, 2816]⟩

abbrev nBuf : Space → Nat
  | .hbm => 103
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S4096x2816, .bf16⟩
  | .hbm, ⟨3, _⟩ => ⟨S4096x5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x5632, .f32⟩
  | .hbm, ⟨54, _⟩ => ⟨S_, .f32⟩
  | .hbm, ⟨55, _⟩ => ⟨S5632, .f32⟩
  | .hbm, ⟨56, _⟩ => ⟨S1x5632, .f32⟩
  | .hbm, ⟨57, _⟩ => ⟨S4096x5632, .f32⟩
  | .hbm, ⟨58, _⟩ => ⟨S4096x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S3x5632, .f32⟩
  | .hbm, ⟨64, _⟩ => ⟨S_, .f32⟩
  | .hbm, ⟨65, _⟩ => ⟨S4098x5632, .f32⟩
  | .hbm, ⟨66, _⟩ => ⟨S4096x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S4096x5632, .f32⟩
  | .hbm, ⟨71, _⟩ => ⟨S4096x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S3x5632, .f32⟩
  | .hbm, ⟨77, _⟩ => ⟨S3x5632, .f32⟩
  | .hbm, ⟨78, _⟩ => ⟨S_, .f32⟩
  | .hbm, ⟨79, _⟩ => ⟨S4098x5632, .f32⟩
  | .hbm, ⟨80, _⟩ => ⟨S4098x5632, .f32⟩
  | .hbm, ⟨81, _⟩ => ⟨S4096x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S4096x5632, .f32⟩
  | .hbm, ⟨86, _⟩ => ⟨S4096x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S_, .f32⟩
  | .hbm, ⟨94, _⟩ => ⟨S4098x5632, .f32⟩
  | .hbm, ⟨95, _⟩ => ⟨S4098x5632, .f32⟩
  | .hbm, ⟨96, _⟩ => ⟨S2x5632, .f32⟩
  | .hbm, ⟨97, _⟩ => ⟨S4096x5632, .f32⟩
  | .hbm, ⟨98, _⟩ => ⟨S4096x5632, .bf16⟩
  | .hbm, ⟨99, _⟩ => ⟨S4096x2816, .bf16⟩
  | .hbm, ⟨100, _⟩ => ⟨S4096x2816, .bf16⟩
  | .hbm, ⟨101, _⟩ => ⟨S3x2816, .f32⟩
  | .hbm, ⟨102, _⟩ => ⟨S3x2816, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v26_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v26_1 : Ref sig .tc := ⟨.hbm, 42, rfl⟩
abbrev main_v26_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== UpW.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownX.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownW.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SqW.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SqWReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QW.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QWReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWb.lean ====
abbrev S4096x1024 : Shape := ⟨2, ![4096, 1024]⟩
abbrev S4096x4224 : Shape := ⟨2, ![4096, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S1024x4224, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWbReferenceIdeal.lean ====
abbrev S4096x1024 : Shape := ⟨2, ![4096, 1024]⟩
abbrev S4096x4224 : Shape := ⟨2, ![4096, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S_, .f32⟩
  | .hbm, ⟨3, _⟩ => ⟨S1024x4224, .f32⟩
  | .hbm, ⟨4, _⟩ => ⟨S4096x1024, .f32⟩
  | .hbm, ⟨5, _⟩ => ⟨S4096x4224, .f32⟩
  | .hbm, ⟨6, _⟩ => ⟨S4096x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWa.lean ====
abbrev S4096x1024 : Shape := ⟨2, ![4096, 1024]⟩
abbrev S4096x2560 : Shape := ⟨2, ![4096, 2560]⟩
abbrev S8x128 : Shape := ⟨2, ![8, 128]⟩
abbrev S1024x2560 : Shape := ⟨2, ![1024, 2560]⟩
abbrev S1024x1024 : Shape := ⟨2, ![1024, 1024]⟩
abbrev S1024x1280 : Shape := ⟨2, ![1024, 1280]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S8x128, .f32⟩
  | .hbm, ⟨3, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S8x128, .f32⟩
  | .local _ .vmem, ⟨5, _⟩ => ⟨S1024x1280, .bf16⟩
  | .local _ .vmem, ⟨6, _⟩ => ⟨S1024x1280, .bf16⟩
  | .local _ .vmem, ⟨7, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InWaReferenceIdeal.lean ====
abbrev S4096x1024 : Shape := ⟨2, ![4096, 1024]⟩
abbrev S4096x2560 : Shape := ⟨2, ![4096, 2560]⟩
abbrev S8x128 : Shape := ⟨2, ![8, 128]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S8x128, .f32⟩
  | .hbm, ⟨3, _⟩ => ⟨S_, .f32⟩
  | .hbm, ⟨4, _⟩ => ⟨S1024x2560, .f32⟩
  | .hbm, ⟨5, _⟩ => ⟨S4096x1024, .f32⟩
  | .hbm, ⟨6, _⟩ => ⟨S4096x2560, .f32⟩
  | .hbm, ⟨7, _⟩ => ⟨S4096x2560, .f32⟩
  | .hbm, ⟨8, _⟩ => ⟨S2560x1024, .f32⟩
  | .hbm, ⟨9, _⟩ => ⟨S1024x2560, .f32⟩
  | .hbm, ⟨10, _⟩ => ⟨S1024x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SqX.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqXReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InXb.lean ====
abbrev S4096x4224 : Shape := ⟨2, ![4096, 4224]⟩
abbrev S1024x4224 : Shape := ⟨2, ![1024, 4224]⟩
abbrev S4096x1024 : Shape := ⟨2, ![4096, 1024]⟩
abbrev S1024 : Shape := ⟨1, ![1024]⟩
abbrev S1x1024 : Shape := ⟨2, ![1, 1024]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 3], ![false, false]⟩

def k0_cond5 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_4 : BitVec 32 := 0#32
  let v12 : BitVec 1 := Scalar.cmpi .ne v11 c0_i32_4
  v12

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InXbReferenceIdeal.lean ====
abbrev S4096x4224 : Shape := ⟨2, ![4096, 4224]⟩
abbrev S1024x4224 : Shape := ⟨2, ![1024, 4224]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x4224, .f32⟩
  | .hbm, ⟨26, _⟩ => ⟨S4096x4224, .f32⟩
  | .hbm, ⟨27, _⟩ => ⟨S4096x4224, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InXa.lean ====
abbrev S4096x2560 : Shape := ⟨2, ![4096, 2560]⟩
abbrev S1024x2560 : Shape := ⟨2, ![1024, 2560]⟩
abbrev S4096x1024 : Shape := ⟨2, ![4096, 1024]⟩
abbrev S1024 : Shape := ⟨1, ![1024]⟩
abbrev S1x1024 : Shape := ⟨2, ![1, 1024]⟩
abbrev S1024x1280 : Shape := ⟨2, ![1024, 1280]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_cond5 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_4 : BitVec 32 := 0#32
  let v12 : BitVec 1 := Scalar.cmpi .ne v11 c0_i32_4
  v12

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InXaReferenceIdeal.lean ====
abbrev S4096x2560 : Shape := ⟨2, ![4096, 2560]⟩
abbrev S1024x2560 : Shape := ⟨2, ![1024, 2560]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2560, .f32⟩
  | .hbm, ⟨26, _⟩ => ⟨S4096x2560, .f32⟩
  | .hbm, ⟨27, _⟩ => ⟨S4096x2560, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== QX.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== QXReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Inb.lean ====
abbrev S4096x1024 : Shape := ⟨2, ![4096, 1024]⟩
abbrev S1024x4224 : Shape := ⟨2, ![1024, 4224]⟩
abbrev S4096x4224 : Shape := ⟨2, ![4096, 4224]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InbReferenceIdeal.lean ====
abbrev S4096x1024 : Shape := ⟨2, ![4096, 1024]⟩
abbrev S1024x4224 : Shape := ⟨2, ![1024, 4224]⟩
abbrev S4096x4224 : Shape := ⟨2, ![4096, 4224]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x1024, .f32⟩
  | .hbm, ⟨3, _⟩ => ⟨S1024x4224, .f32⟩
  | .hbm, ⟨4, _⟩ => ⟨S4096x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ina.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InaReferenceIdeal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qf.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QfReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DownB.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownBReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluF.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluFReferenceIdeal.lean ====
abbrev S4096x512 : Shape := ⟨2, ![4096, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S512x512, .f32⟩
  | .hbm, ⟨4, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluW.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluWReferenceIdeal.lean ====
abbrev S4096x512 : Shape := ⟨2, ![4096, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluX.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluXReferenceIdeal.lean ====
abbrev S4096x512 : Shape := ⟨2, ![4096, 512]⟩
abbrev S512x512 : Shape := ⟨2, ![512, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S512x512, .f32⟩
  | .hbm, ⟨6, _⟩ => ⟨S4096x512, .f32⟩
  | .hbm, ⟨7, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvF.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvFReferenceIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvW.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .bf16⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWReferenceIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvX.lean ====
abbrev S256x2048 : Shape := ⟨2, ![256, 2048]⟩
abbrev S1024x2048 : Shape := ⟨2, ![1024, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvXReferenceIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S_, .f32⟩
  | .hbm, ⟨3, _⟩ => ⟨S256x1024, .f32⟩
  | .hbm, ⟨4, _⟩ => ⟨S1024x2048, .f32⟩
  | .hbm, ⟨5, _⟩ => ⟨S256x2048, .f32⟩
  | .hbm, ⟨6, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormF.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemF.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemFReferenceIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemB.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemBReferenceIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== XaF.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XaFReferenceIdeal.lean ====
abbrev S4096x1024 : Shape := ⟨2, ![4096, 1024]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S1x4096x4x256, .f32⟩
  | .hbm, ⟨5, _⟩ => ⟨S1x256x2048, .f32⟩
  | .hbm, ⟨6, _⟩ => ⟨S1x256x1024, .f32⟩
  | .hbm, ⟨7, _⟩ => ⟨S1x256x1024, .f32⟩
  | .hbm, ⟨8, _⟩ => ⟨S1x256x4x256, .f32⟩
  | .hbm, ⟨9, _⟩ => ⟨S1x256x4x256, .f32⟩
  | .hbm, ⟨10, _⟩ => ⟨S1x4x4096x256, .f32⟩
  | .hbm, ⟨11, _⟩ => ⟨S_, .f32⟩
  | .hbm, ⟨12, _⟩ => ⟨S1x4x4096x256, .f32⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .f32⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S1x4x4096x1, .f32⟩
  | .hbm, ⟨26, _⟩ => ⟨S1x4x4096x256, .f32⟩
  | .hbm, ⟨27, _⟩ => ⟨S1x4x4096x256, .f32⟩
  | .hbm, ⟨28, _⟩ => ⟨S1x4x256x4096, .f32⟩
  | .hbm, ⟨29, _⟩ => ⟨S1x4096x4x256, .f32⟩
  | .hbm, ⟨30, _⟩ => ⟨S4096x1024, .f32⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== GluB.lean ====
abbrev S4096x1024 : Shape := ⟨2, ![4096, 1024]⟩
abbrev S4096x512 : Shape := ⟨2, ![4096, 512]⟩
abbrev S1x512 : Shape := ⟨2, ![1, 512]⟩
abbrev S512x512 : Shape := ⟨2, ![512, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .bf16⟩
  | .hbm, ⟨5, _⟩ => ⟨S4096x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluBReferenceIdeal.lean ====
abbrev S4096x1024 : Shape := ⟨2, ![4096, 1024]⟩
abbrev S4096x512 : Shape := ⟨2, ![4096, 512]⟩
abbrev S1x512 : Shape := ⟨2, ![1, 512]⟩
abbrev S_ : Shape := ⟨0, ![]⟩
abbrev S512 : Shape := ⟨1, ![512]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x128, .f32⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== ActF.lean ====
abbrev S4096x5632 : Shape := ⟨2, ![4096, 5632]⟩
abbrev S3x5632 : Shape := ⟨2, ![3, 5632]⟩
abbrev S4096x2816 : Shape := ⟨2, ![4096, 2816]⟩
abbrev S4096x128 : Shape := ⟨2, ![4096, 128]⟩
abbrev S3x128 : Shape := ⟨2, ![3, 128]⟩
abbrev S16x128 : Shape := ⟨2, ![16, 128]⟩
abbrev S512x128 : Shape := ⟨2, ![512, 128]⟩
abbrev S528x128 : Shape := ⟨2, ![528, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S4096x2816, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let c16_i32 : BitVec 32 := 16#32
  let v3 : BitVec 32 := Scalar.subi v2 c16_i32
  let c0_i32_1 : BitVec 32 := 0#32
  let v4 : BitVec 32 := Scalar.maxsi v3 c0_i32_1
  v4
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let c16_i32 : BitVec 32 := 16#32
  let v3 : BitVec 32 := Scalar.subi v2 c16_i32
  let c0_i32_1 : BitVec 32 := 0#32
  let v4 : BitVec 32 := Scalar.maxsi v3 c0_i32_1
  let v5 : BitVec 32 := v4
  let v7 : Index := Scalar.indexCast v5
  let c0 : Index := 0#32
  ![v7.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v12 : Index := Scalar.indexCast v2
  let c0_3 : Index := 0#32
  ![v12.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActFReferenceIdeal.lean ====
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S4096x5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S4096x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== GateF.lean ====
abbrev S4096x4224 : Shape := ⟨2, ![4096, 4224]⟩
abbrev S1x1024 : Shape := ⟨2, ![1, 1024]⟩
abbrev S4096x1024 : Shape := ⟨2, ![4096, 1024]⟩
abbrev S512x128 : Shape := ⟨2, ![512, 128]⟩
abbrev S512x1024 : Shape := ⟨2, ![512, 1024]⟩
abbrev S512x1 : Shape := ⟨2, ![512, 1]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S4096x4224, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFReferenceIdeal.lean ====
abbrev S4096x4224 : Shape := ⟨2, ![4096, 4224]⟩
abbrev S1x1024 : Shape := ⟨2, ![1, 1024]⟩
abbrev S4096x8 : Shape := ⟨2, ![4096, 8]⟩
abbrev S4096x8x1 : Shape := ⟨3, ![4096, 8, 1]⟩
abbrev S4096x8x128 : Shape := ⟨3, ![4096, 8, 128]⟩
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S1x1024, .f32⟩
  | .hbm, ⟨2, _⟩ => ⟨S1x1024, .f32⟩
  | .hbm, ⟨3, _⟩ => ⟨S4096x8, .f32⟩
  | .hbm, ⟨4, _⟩ => ⟨S4096x8x1, .f32⟩
  | .hbm, ⟨5, _⟩ => ⟨S4096x8x128, .f32⟩
  | .hbm, ⟨6, _⟩ => ⟨S4096x1024, .f32⟩
  | .hbm, ⟨7, _⟩ => ⟨S4096x8, .f32⟩
  | .hbm, ⟨8, _⟩ => ⟨S4096x8x1, .f32⟩
  | .hbm, ⟨9, _⟩ => ⟨S4096x8x128, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .i1⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== ConvF.lean ====
abbrev S4096x4224 : Shape := ⟨2, ![4096, 4224]⟩
abbrev S4x3072 : Shape := ⟨2, ![4, 3072]⟩
abbrev S4096x3072 : Shape := ⟨2, ![4096, 3072]⟩
abbrev S4096x128 : Shape := ⟨2, ![4096, 128]⟩
abbrev S4x128 : Shape := ⟨2, ![4, 128]⟩
abbrev S8x128 : Shape := ⟨2, ![8, 128]⟩
abbrev S4088x128 : Shape := ⟨2, ![4088, 128]⟩
abbrev S1x128 : Shape := ⟨2, ![1, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x4224, .f32⟩
  | .hbm, ⟨1, _⟩ => ⟨S4x3072, .f32⟩
  | .hbm, ⟨2, _⟩ => ⟨S4096x3072, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFReferenceIdeal.lean ====
abbrev S4096x4224 : Shape := ⟨2, ![4096, 4224]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x1024 : Shape := ⟨2, ![4096, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S4x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S4096x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x8x128, .f32⟩
  | .hbm, ⟨46, _⟩ => ⟨S4096x8x128, .f32⟩
  | .hbm, ⟨47, _⟩ => ⟨S_, .f32⟩
  | .hbm, ⟨48, _⟩ => ⟨S4096x8, .f32⟩
  | .hbm, ⟨49, _⟩ => ⟨S4096x8x1, .f32⟩
  | .hbm, ⟨50, _⟩ => ⟨S_, .f32⟩
  | .hbm, ⟨51, _⟩ => ⟨S4096x8x1, .f32⟩
  | .hbm, ⟨52, _⟩ => ⟨S4096x8x1, .f32⟩
  | .hbm, ⟨53, _⟩ => ⟨S4096x8x1, .f32⟩
  | .hbm, ⟨54, _⟩ => ⟨S4096x8x128, .f32⟩
  | .hbm, ⟨55, _⟩ => ⟨S4096x8x128, .f32⟩
  | .hbm, ⟨56, _⟩ => ⟨S_, .f32⟩
  | .hbm, ⟨57, _⟩ => ⟨S4096x8x128, .f32⟩
  | .hbm, ⟨58, _⟩ => ⟨S4096x8x128, .f32⟩
  | .hbm, ⟨59, _⟩ => ⟨S4096x8x128, .f32⟩
  | .hbm, ⟨60, _⟩ => ⟨S4096x8x128, .f32⟩
  | .hbm, ⟨61, _⟩ => ⟨S_, .f32⟩
  | .hbm, ⟨62, _⟩ => ⟨S4096x8, .f32⟩
  | .hbm, ⟨63, _⟩ => ⟨S4096x8x1, .f32⟩
  | .hbm, ⟨64, _⟩ => ⟨S_, .f32⟩
  | .hbm, ⟨65, _⟩ => ⟨S4096x8x1, .f32⟩
  | .hbm, ⟨66, _⟩ => ⟨S4096x8x1, .f32⟩
  | .hbm, ⟨67, _⟩ => ⟨S4096x8x1, .f32⟩
  | .hbm, ⟨68, _⟩ => ⟨S4096x8x128, .f32⟩
  | .hbm, ⟨69, _⟩ => ⟨S4096x8x128, .f32⟩
  | .hbm, ⟨70, _⟩ => ⟨S4096x1024, .f32⟩
  | .hbm, ⟨71, _⟩ => ⟨S4096x1024, .f32⟩
  | .hbm, ⟨72, _⟩ => ⟨S4096x3072, .f32⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== GluA.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S4096x1024, .bf16⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluAReferenceIdeal.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S4096x1024, .bf16⟩
  | .hbm, ⟨4, _⟩ => ⟨S4096x512, .bf16⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .bf16⟩
  | .hbm, ⟨34, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.XAttn.Spec.lean ====
/- The gradient of cross-attention for one query row, written over the extended reals: scores, their
   exponentials, probabilities, and the gradient of the scores. Everything a block or the whole array
   computes is stated through these few functions. -/
module

public import Idealize.ShloMosaic.Lib.Pointwise

@[expose] public section

noncomputable section

open Idealize.ShloMosaic

namespace Cert.XAttn

/-- The factor the scores are multiplied by (one over the square root of the head's width). -/
def scale : EReal := Ideal.ofBits .f32 0x3D800000#32

/-- What a row's maximum starts from. -/
def low : EReal := Ideal.ofBits .f32 0xFF800000#32

variable {D J : ℕ}

/-- The scaled score of a query row `x` against key `j`. -/
def score (x : Fin D → EReal) (k : Fin J → Fin D → EReal) (j : Fin J) : EReal := (∑ d, x d * k j d) * scale

/-- The largest score of the row. -/
def top (x : Fin D → EReal) (k : Fin J → Fin D → EReal) : EReal := Finset.univ.fold max low (score x k)

/-- The exponential of a score less the row's largest. -/
def expo (x : Fin D → EReal) (k : Fin J → Fin D → EReal) (j : Fin J) : EReal := Ideal.exp (score x k j - top x k)

/-- The sum of a row's exponentials. -/
def mass (x : Fin D → EReal) (k : Fin J → Fin D → EReal) : EReal := ∑ j, expo x k j

/-- The probability a row gives to key `j`. -/
def prob (x : Fin D → EReal) (k : Fin J → Fin D → EReal) (j : Fin J) : EReal := Ideal.div (expo x k j) (mass x k)

/-- The gradient of the probability of key `j`: the output's gradient `g` against value `j`. -/
def dprob (g : Fin D → EReal) (v : Fin J → Fin D → EReal) (j : Fin J) : EReal := ∑ d, g d * v j d

/-- The gradient of the score of key `j` as the kernel computes it: probability times (gradient of the probability
    less the row's mean of it), times the scale. -/
def dscore (x : Fin D → EReal) (k v : Fin J → Fin D → EReal) (g : Fin D → EReal) (j : Fin J) : EReal :=
  prob x k j * (dprob g v j - ∑ l, prob x k l * dprob g v l) * scale

/-- The gradient of the score of key `j` as the softmax's own derivative spells it: the quotient's two partial derivatives,
    times the exponential, times the scale. -/
def rscore (x : Fin D → EReal) (k v : Fin J → Fin D → EReal) (g : Fin D → EReal) (j : Fin J) : EReal :=
  (Ideal.div (dprob g v j) (mass x k)
      + -(∑ l, dprob g v l * Ideal.div 1 (mass x k * mass x k) * expo x k l))
    * expo x k j * scale

/-- The row's largest score is not below what the maximum starts from. -/
theorem low_le_top (x : Fin D → EReal) (k : Fin J → Fin D → EReal) : max low (top x k) = top x k :=
  max_eq_right (Finset.le_fold_max _ |>.mpr (.inl le_rfl))

/-! ## The gradients of arrays of rows: four heads of width 256, keys in the first 1024 columns of the key and value
array and values in the others -/

/-- Entry `n` of row `r` of a matrix (`n` taken modulo the number of columns, so that no bound has to be carried). -/
def entry {α : Type} {R C : ℕ} [NeZero C] (X : Shape.Idx ⟨2, ![R, C]⟩ → α) (r : Fin R) (n : ℕ) : α :=
  X (ix2 r ⟨n % C, Nat.mod_lt _ (NeZero.pos C)⟩)

/-- An entry at a column in range. -/
theorem entry_eq {α : Type} {R C : ℕ} [NeZero C] (X : Shape.Idx ⟨2, ![R, C]⟩ → α) (r : Fin R) (n : ℕ) (h : n < C) :
    entry X r n = X (ix2 r ⟨n, h⟩) := by
  unfold entry
  congr 2; apply Fin.ext; exact Nat.mod_eq_of_lt h

variable {N : ℕ} (Q : Shape.Idx ⟨2, ![N, 1024]⟩ → EReal) (KV : Shape.Idx ⟨2, ![256, 2048]⟩ → EReal)
  (G : Shape.Idx ⟨2, ![N, 1024]⟩ → EReal)

/-- Head `h`'s part of row `i`. -/
def headRow (X : Shape.Idx ⟨2, ![N, 1024]⟩ → EReal) (i : Fin N) (h : ℕ) (d : Fin 256) : EReal := entry X i (256 * h + d.val)

/-- Head `h`'s keys. -/
def keys (h : ℕ) (j : Fin 256) (d : Fin 256) : EReal := entry KV j (256 * h + d.val)

/-- Head `h`'s values. -/
def vals (h : ℕ) (j : Fin 256) (d : Fin 256) : EReal := entry KV j (1024 + 256 * h + d.val)

/-- Row `i`'s probability of key `j` in head `h`. -/
def probAt (i : Fin N) (h : ℕ) (j : Fin 256) : EReal := prob (headRow Q i h) (keys KV h) j

/-- The gradient of row `i`'s score of key `j` in head `h`. -/
def dscoreAt (i : Fin N) (h : ℕ) (j : Fin 256) : EReal := dscore (headRow Q i h) (keys KV h) (vals KV h) (headRow G i h) j

/-- A head's row at a column written as the reference writes it. -/
theorem headRow_eq (X : Shape.Idx ⟨2, ![N, 1024]⟩ → EReal) (i : Fin N) (h : Fin 4) (d : Fin 256) (hlt : h.val * 256 + d.val < 1024) :
    X (ix2 i ⟨h.val * 256 + d.val, hlt⟩) = headRow X i h.val d := by
  unfold headRow entry
  congr 2; apply Fin.ext; show (h.val * 256 + d.val : ℕ) = (256 * h.val + d.val) % 1024; omega

/-- A head's keys at a column written as the reference writes it. -/
theorem keys_eq (j : Fin 256) (h : Fin 4) (d : Fin 256) (hlt : h.val * 256 + d.val < 2048) :
    KV (ix2 j ⟨h.val * 256 + d.val, hlt⟩) = keys KV h.val j d := by
  unfold keys entry
  congr 2; apply Fin.ext; show (h.val * 256 + d.val : ℕ) = (256 * h.val + d.val) % 2048; omega

/-- A head's values at a column written as the reference writes it. -/
theorem vals_eq (j : Fin 256) (h : Fin 4) (d : Fin 256) (hlt : 1024 + (h.val * 256 + d.val) < 2048) :
    KV (ix2 j ⟨1024 + (h.val * 256 + d.val), hlt⟩) = vals KV h.val j d := by
  unfold vals entry
  congr 2; apply Fin.ext; show (1024 + (h.val * 256 + d.val) : ℕ) = (1024 + 256 * h.val + d.val) % 2048; omega

/-- The gradient of the queries at row `i`, column `n`. -/
def dqAt (i : Fin N) (n : ℕ) : EReal := ∑ j : Fin 256, dscoreAt Q KV G i (n / 256) j * entry KV j n

/-- The gradient of the keys at key `j`, column `n`. -/
def dkAt (j : Fin 256) (n : ℕ) : EReal := ∑ i : Fin N, dscoreAt Q KV G i (n / 256) j * entry Q i n

/-- The gradient of the values at key `j`, column `n`. -/
def dvAt (j : Fin 256) (n : ℕ) : EReal := ∑ i : Fin N, probAt Q KV i (n / 256) j * entry G i n

/-- The gradient of the key and value array: keys in the first 1024 columns, values in the others. -/
def dkvAt (j : Fin 256) (n : ℕ) : EReal := if n < 1024 then dkAt Q KV G j n else dvAt Q KV G j (n - 1024)

end Cert.XAttn

end
-- ==== Proof.XAttn.Pay.lean ====
/- What each payload of the cross-attention kernel's body is at an index: the four heads' probabilities, score
   gradients, query gradients and the sums added to the key and value gradients. -/
module

public import proofs.«01_k».proof.Proof.Gen.KernelIdeal.Skeleton
public import proofs.«01_k».proof.Proof.XAttn.Spec
public import Idealize.ShloMosaic.Lib.Pointwise

@[expose] public section

set_option maxRecDepth 16384

noncomputable section

open Idealize.ShloMosaic Idealize.ShloMosaic.TcCoe Idealize.SL.Sem

namespace Cert.KernelIdeal.XAttn

open Cert.KernelIdeal Cert.KernelIdeal.Gen Cert.XAttn

variable (x : Vec Ideal S512x256 .bf16) (k v : Vec Ideal S256x256 .bf16) (g : Vec Ideal S512x256 .f32)

variable (a : Vec Ideal S256x256 .f32)

/-- Head 0's probabilities. -/
theorem prob0 (r : Fin 512) (j : Fin 256) :
    k0_pay2 x k (ix2 r j) = prob (fun d => x (ix2 r d)) (fun j d => k (ix2 j d)) j := by
  pointwise [k0_pay2, k0_pay3, k0_pay4, k0_pay5, k0_pay6, k0_pay7, prob, mass, expo, top, score, scale, low]

/-- Head 0's score gradients. -/
theorem dscore0 (r : Fin 512) (j : Fin 256) :
    k0_pay3 x k v g (ix2 r j)
      = dscore (fun d => x (ix2 r d)) (fun j d => k (ix2 j d)) (fun j d => v (ix2 j d)) (fun d => g (ix2 r d)) j := by
  pointwise [k0_pay2, k0_pay3, k0_pay4, k0_pay5, k0_pay6, k0_pay7, dscore, dprob, prob, mass, expo, top, score, scale, low]

/-- Head 0's query gradients. -/
theorem dq0 (r : Fin 512) (d : Fin 256) :
    k0_pay4 x k v g (ix2 r d)
      = ∑ j, dscore (fun d => x (ix2 r d)) (fun j d => k (ix2 j d)) (fun j d => v (ix2 j d)) (fun d => g (ix2 r d)) j * k (ix2 j d) := by
  pointwise [k0_pay2, k0_pay3, k0_pay4, k0_pay5, k0_pay6, k0_pay7, dscore, dprob, prob, mass, expo, top, score, scale, low]

/-- What head 0 adds to the key gradients. -/
theorem dk0 (j d : Fin 256) :
    k0_pay6 x (k0_pay3 x k v g) (k0_pay5 a) (ix2 j d)
      = a (ix2 j d) + ∑ r, dscore (fun d => x (ix2 r d)) (fun j d => k (ix2 j d)) (fun j d => v (ix2 j d)) (fun d => g (ix2 r d)) j * x (ix2 r d) := by
  pointwise [k0_pay2, k0_pay3, k0_pay4, k0_pay5, k0_pay6, k0_pay7, dscore, dprob, prob, mass, expo, top, score, scale, low]

/-- What head 0 adds to the value gradients. -/
theorem dv0 (j d : Fin 256) :
    k0_pay7 g (k0_pay2 x k) a (ix2 j d)
      = a (ix2 j d) + ∑ r, prob (fun d => x (ix2 r d)) (fun j d => k (ix2 j d)) j * g (ix2 r d) := by
  pointwise [k0_pay2, k0_pay3, k0_pay4, k0_pay5, k0_pay6, k0_pay7, prob, mass, expo, top, score, scale, low]

/-- Head 1's probabilities. -/
theorem prob1 (r : Fin 512) (j : Fin 256) :
    k0_pay8 x k (ix2 r j) = prob (fun d => x (ix2 r d)) (fun j d => k (ix2 j d)) j := by
  pointwise [k0_pay8, k0_pay9, k0_pay10, k0_pay11, k0_pay12, k0_pay13, prob, mass, expo, top, score, scale, low]

/-- Head 1's score gradients. -/
theorem dscore1 (r : Fin 512) (j : Fin 256) :
    k0_pay10 (k0_pay9 x k v g) (FloatOps.ofBits .f32 1031798784#32) (ix2 r j)
      = dscore (fun d => x (ix2 r d)) (fun j d => k (ix2 j d)) (fun j d => v (ix2 j d)) (fun d => g (ix2 r d)) j := by
  pointwise [k0_pay8, k0_pay9, k0_pay10, k0_pay11, k0_pay12, k0_pay13, dscore, dprob, prob, mass, expo, top, score, scale, low]

/-- Head 1's query gradients. -/
theorem dq1 (r : Fin 512) (d : Fin 256) :
    k0_pay11 k (k0_pay9 x k v g) (FloatOps.ofBits .f32 1031798784#32) (ix2 r d)
      = ∑ j, dscore (fun d => x (ix2 r d)) (fun j d => k (ix2 j d)) (fun j d => v (ix2 j d)) (fun d => g (ix2 r d)) j * k (ix2 j d) := by
  pointwise [k0_pay8, k0_pay9, k0_pay10, k0_pay11, k0_pay12, k0_pay13, dscore, dprob, prob, mass, expo, top, score, scale, low]

/-- What head 1 adds to the key gradients. -/
theorem dk1 (j d : Fin 256) :
    k0_pay12 x (k0_pay9 x k v g) (FloatOps.ofBits .f32 1031798784#32) a (ix2 j d)
      = a (ix2 j d) + ∑ r, dscore (fun d => x (ix2 r d)) (fun j d => k (ix2 j d)) (fun j d => v (ix2 j d)) (fun d => g (ix2 r d)) j * x (ix2 r d) := by
  pointwise [k0_pay8, k0_pay9, k0_pay10, k0_pay11, k0_pay12, k0_pay13, dscore, dprob, prob, mass, expo, top, score, scale, low]

/-- What head 1 adds to the value gradients. -/
theorem dv1 (j d : Fin 256) :
    k0_pay13 g (k0_pay8 x k) a (ix2 j d)
      = a (ix2 j d) + ∑ r, prob (fun d => x (ix2 r d)) (fun j d => k (ix2 j d)) j * g (ix2 r d) := by
  pointwise [k0_pay8, k0_pay9, k0_pay10, k0_pay11, k0_pay12, k0_pay13, prob, mass, expo, top, score, scale, low]

/-- Head 2's probabilities. -/
theorem prob2 (r : Fin 512) (j : Fin 256) :
    k0_pay16 (k0_pay14 x k) (k0_pay15 x k) (ix2 r j) = prob (fun d => x (ix2 r d)) (fun j d => k (ix2 j d)) j := by
  pointwise [k0_pay14, k0_pay15, k0_pay16, k0_pay17, k0_pay18, k0_pay19, k0_pay20, prob, mass, expo, top, score, scale, low]

/-- Head 2's score gradients. -/
theorem dscore2 (r : Fin 512) (j : Fin 256) :
    k0_pay17 v g (k0_pay14 x k) (k0_pay15 x k) (ix2 r j)
      = dscore (fun d => x (ix2 r d)) (fun j d => k (ix2 j d)) (fun j d => v (ix2 j d)) (fun d => g (ix2 r d)) j := by
  pointwise [k0_pay14, k0_pay15, k0_pay16, k0_pay17, k0_pay18, k0_pay19, k0_pay20, dscore, dprob, prob, mass, expo, top, score, scale, low]

/-- Head 2's query gradients. -/
theorem dq2 (r : Fin 512) (d : Fin 256) :
    k0_pay18 k v g (k0_pay14 x k) (k0_pay15 x k) (ix2 r d)
      = ∑ j, dscore (fun d => x (ix2 r d)) (fun j d => k (ix2 j d)) (fun j d => v (ix2 j d)) (fun d => g (ix2 r d)) j * k (ix2 j d) := by
  pointwise [k0_pay14, k0_pay15, k0_pay16, k0_pay17, k0_pay18, k0_pay19, k0_pay20, dscore, dprob, prob, mass, expo, top, score, scale, low]

/-- What head 2 adds to the key gradients. -/
theorem dk2 (j d : Fin 256) :
    k0_pay19 x v g (k0_pay14 x k) (k0_pay15 x k) a (ix2 j d)
      = a (ix2 j d) + ∑ r, dscore (fun d => x (ix2 r d)) (fun j d => k (ix2 j d)) (fun j d => v (ix2 j d)) (fun d => g (ix2 r d)) j * x (ix2 r d) := by
  pointwise [k0_pay14, k0_pay15, k0_pay16, k0_pay17, k0_pay18, k0_pay19, k0_pay20, dscore, dprob, prob, mass, expo, top, score, scale, low]

/-- What head 2 adds to the value gradients. -/
theorem dv2 (j d : Fin 256) :
    k0_pay20 g (k0_pay14 x k) (k0_pay15 x k) a (ix2 j d)
      = a (ix2 j d) + ∑ r, prob (fun d => x (ix2 r d)) (fun j d => k (ix2 j d)) j * g (ix2 r d) := by
  pointwise [k0_pay14, k0_pay15, k0_pay16, k0_pay17, k0_pay18, k0_pay19, k0_pay20, prob, mass, expo, top, score, scale, low]

/-- Head 3's probabilities. -/
theorem prob3 (r : Fin 512) (j : Fin 256) :
    k0_pay21 x k (ix2 r j) = prob (fun d => x (ix2 r d)) (fun j d => k (ix2 j d)) j := by
  pointwise [k0_pay21, k0_pay22, k0_pay23, k0_pay24, k0_pay25, prob, mass, expo, top, score, scale, low]

/-- Head 3's score gradients. -/
theorem dscore3 (r : Fin 512) (j : Fin 256) :
    k0_pay22 x k v g (ix2 r j)
      = dscore (fun d => x (ix2 r d)) (fun j d => k (ix2 j d)) (fun j d => v (ix2 j d)) (fun d => g (ix2 r d)) j := by
  pointwise [k0_pay21, k0_pay22, k0_pay23, k0_pay24, k0_pay25, dscore, dprob, prob, mass, expo, top, score, scale, low]

/-- Head 3's query gradients. -/
theorem dq3 (r : Fin 512) (d : Fin 256) :
    k0_pay23 x k v g (ix2 r d)
      = ∑ j, dscore (fun d => x (ix2 r d)) (fun j d => k (ix2 j d)) (fun j d => v (ix2 j d)) (fun d => g (ix2 r d)) j * k (ix2 j d) := by
  pointwise [k0_pay21, k0_pay22, k0_pay23, k0_pay24, k0_pay25, dscore, dprob, prob, mass, expo, top, score, scale, low]

/-- What head 3 adds to the key gradients. -/
theorem dk3 (j d : Fin 256) :
    k0_pay24 x k v g a (ix2 j d)
      = a (ix2 j d) + ∑ r, dscore (fun d => x (ix2 r d)) (fun j d => k (ix2 j d)) (fun j d => v (ix2 j d)) (fun d => g (ix2 r d)) j * x (ix2 r d) := by
  pointwise [k0_pay21, k0_pay22, k0_pay23, k0_pay24, k0_pay25, dscore, dprob, prob, mass, expo, top, score, scale, low]

/-- What head 3 adds to the value gradients. -/
theorem dv3 (j d : Fin 256) :
    k0_pay25 x k g a (ix2 j d)
      = a (ix2 j d) + ∑ r, prob (fun d => x (ix2 r d)) (fun j d => k (ix2 j d)) j * g (ix2 r d) := by
  pointwise [k0_pay21, k0_pay22, k0_pay23, k0_pay24, k0_pay25, prob, mass, expo, top, score, scale, low]

end Cert.KernelIdeal.XAttn

end
-- ==== Proof.XAttn.Block.lean ====
/- What one grid point of the cross-attention gradient leaves in its two output blocks: the query gradients of its
   rows, and the key and value gradients carried so far plus what its rows add. -/
module

public import proofs.«01_k».proof.Proof.Gen.KernelIdeal.Value
public import proofs.«01_k».proof.Proof.XAttn.Pay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.XAttn

open Cert.KernelIdeal Cert.KernelIdeal.Gen Cert.XAttn

/-- A load of columns `o` to `o + 256` of a matrix, at an index: the matrix's entry `o` columns further on. -/
theorem ld_cols {R C : ℕ} [NeZero C] {e : EltTy} (X : Vec Ideal ⟨2, ![R, C]⟩ e) (o : ℕ) (inb)
    (r : Fin R) (d : Fin 256) :
    View.ld X (Rect.unit ![0, o] ![R, 256] inb) (ix2 r d) = entry X r (o + d.val) := by
  have h := inb 1
  have h2 : o + d.val < C := by
    have : o + 256 ≤ C := h
    omega
  unfold entry
  rw [View.ld_unit_apply_of (i := ix2 r ⟨(o + d.val) % C, Nat.mod_lt _ (NeZero.pos C)⟩)]
  intro a
  match a with
  | ⟨0, _⟩ => simp [ix2]
  | ⟨1, _⟩ => simp [ix2, Nat.mod_eq_of_lt h2]

section Pieces

variable (X0 X2 : Shape.Idx ⟨2, ![512, 1024]⟩ → EReal) (X1 : Shape.Idx ⟨2, ![256, 2048]⟩ → EReal)
  (h o1 o2 : ℕ) (ho1 : o1 = 256 * h) (ho2 : o2 = 1024 + 256 * h)
  (x g : Fin 512 → Fin 256 → EReal) (k v : Fin 256 → Fin 256 → EReal)
  (hx : ∀ i d, x i d = entry X0 i (o1 + d.val)) (hk : ∀ j d, k j d = entry X1 j (o1 + d.val))
  (hv : ∀ j d, v j d = entry X1 j (o2 + d.val)) (hg : ∀ i d, g i d = entry X2 i (o1 + d.val))

include ho1 ho2 hx hk hv hg

/-- One head's query gradients are the block's at the head's columns. -/
theorem dq_piece (a r : Fin 512) (b : Fin 256) (n : ℕ) (hr : r.val = a.val) (hn : n = o1 + b.val) :
    (∑ j : Fin 256, dscore (x a) k v (g a) j * k j b) = dqAt X0 X1 X2 r n := by
  obtain rfl : r = a := Fin.ext hr
  obtain rfl : x = fun i d => entry X0 i (o1 + d.val) := funext fun i => funext (hx i)
  obtain rfl : k = fun i d => entry X1 i (o1 + d.val) := funext fun i => funext (hk i)
  obtain rfl : v = fun i d => entry X1 i (o2 + d.val) := funext fun i => funext (hv i)
  obtain rfl : g = fun i d => entry X2 i (o1 + d.val) := funext fun i => funext (hg i)
  have hq : n / 256 = h := by omega
  subst ho1 ho2 hn
  unfold dqAt; rw [hq]; rfl

/-- One head's part of the key gradients is the block's at the head's columns. -/
theorem dk_piece (a j : Fin 256) (b : Fin 256) (n : ℕ) (hj : j.val = a.val) (hn : n = o1 + b.val) (hlt : n < 1024) :
    (∑ i : Fin 512, dscore (x i) k v (g i) a * x i b) = dkvAt X0 X1 X2 j n := by
  obtain rfl : j = a := Fin.ext hj
  obtain rfl : x = fun i d => entry X0 i (o1 + d.val) := funext fun i => funext (hx i)
  obtain rfl : k = fun i d => entry X1 i (o1 + d.val) := funext fun i => funext (hk i)
  obtain rfl : v = fun i d => entry X1 i (o2 + d.val) := funext fun i => funext (hv i)
  obtain rfl : g = fun i d => entry X2 i (o1 + d.val) := funext fun i => funext (hg i)
  have hq : n / 256 = h := by omega
  subst ho1 ho2 hn
  unfold dkvAt; rw [if_pos hlt]; unfold dkAt; rw [hq]; rfl

omit hv in
/-- One head's part of the value gradients is the block's at the head's columns, 1024 further on. -/
theorem dv_piece (a j : Fin 256) (b : Fin 256) (n : ℕ) (hj : j.val = a.val) (hn : n = o2 + b.val) :
    (∑ i : Fin 512, prob (x i) k a * g i b) = dkvAt X0 X1 X2 j n := by
  obtain rfl : j = a := Fin.ext hj
  obtain rfl : x = fun i d => entry X0 i (o1 + d.val) := funext fun i => funext (hx i)
  obtain rfl : k = fun i d => entry X1 i (o1 + d.val) := funext fun i => funext (hk i)
  obtain rfl : g = fun i d => entry X2 i (o1 + d.val) := funext fun i => funext (hg i)
  have hq : (n - 1024) / 256 = h := by omega
  have hb : 256 * h + b.val = n - 1024 := by omega
  subst ho1 ho2
  unfold dkvAt; rw [if_neg (by omega)]; unfold dvAt; rw [hq, ← hb]; rfl

end Pieces

/-! ## The heads' payloads over the loads of the blocks -/

/-- A load of a 256-column tile at an index is the array at the place it stands at. -/
theorem ld_prev (X : Vec Ideal S256x2048 .f32) (o : ℕ) (inb) (a b : Fin 256) (j : Fin 256) (n : Fin 2048)
    (hj : j.val = a.val) (hn : n.val = o + b.val) :
    View.ld X (Rect.unit ![0, o] ![256, 256] inb) (ix2 a b) = X (ix2 j n) := by
  refine View.ld_unit_apply_of _ _ _ _ _ _ fun a => ?_
  match a with
  | ⟨0, _⟩ => simp [ix2, hj]
  | ⟨1, _⟩ => simp [ix2, hn]

section Heads

variable (X0 : Vec Ideal S512x1024 .bf16) (X1 : Vec Ideal S256x2048 .bf16) (X2 : Vec Ideal S512x1024 .f32) (P : Vec Ideal S256x2048 .f32)

/-- Head 0's query gradients. -/
theorem dq_head0 (a r : Fin 512) (b : Fin 256) (n : ℕ) (hr : r.val = a.val) (hn : n = 0 + b.val) :
    k0_pay4 (View.ld X0 (Rect.unit ![0, 0] ![512, 256] inb_S512x1024_S512x256_0_0)) (View.ld X1 (Rect.unit ![0, 0] ![256, 256] inb_S256x2048_S256x256_0_0)) (View.ld X1 (Rect.unit ![0, 1024] ![256, 256] inb_S256x2048_S256x256_0_1024)) (View.ld X2 (Rect.unit ![0, 0] ![512, 256] inb_S512x1024_S512x256_0_0)) (ix2 a b) = dqAt X0 X1 X2 r n :=
  (dq0 _ _ _ _ a b).trans (dq_piece X0 X2 X1 0 0 1024 rfl rfl _ _ _ _ (fun i d => ld_cols X0 _ _ i d) (fun i d => ld_cols X1 _ _ i d) (fun i d => ld_cols X1 _ _ i d) (fun i d => ld_cols X2 _ _ i d) a r b n hr hn)

/-- Head 0's key gradients, over what was there. -/
theorem dk_head0 (a j : Fin 256) (b : Fin 256) (n : Fin 2048) (hj : j.val = a.val) (hn : n.val = 0 + b.val) :
    k0_pay6 (View.ld X0 (Rect.unit ![0, 0] ![512, 256] inb_S512x1024_S512x256_0_0)) (k0_pay3 (View.ld X0 (Rect.unit ![0, 0] ![512, 256] inb_S512x1024_S512x256_0_0)) (View.ld X1 (Rect.unit ![0, 0] ![256, 256] inb_S256x2048_S256x256_0_0)) (View.ld X1 (Rect.unit ![0, 1024] ![256, 256] inb_S256x2048_S256x256_0_1024)) (View.ld X2 (Rect.unit ![0, 0] ![512, 256] inb_S512x1024_S512x256_0_0))) (k0_pay5 (View.ld P (Rect.unit ![0, 0] ![256, 256] inb_S256x2048_S256x256_0_0))) (ix2 a b) = P (ix2 j n) + dkvAt X0 X1 X2 j n.val :=
  (dk0 _ _ _ _ _ a b).trans (congrArg₂ (· + ·) (ld_prev P 0 _ a b j n hj hn)
    (dk_piece X0 X2 X1 0 0 1024 rfl rfl _ _ _ _ (fun i d => ld_cols X0 _ _ i d) (fun i d => ld_cols X1 _ _ i d) (fun i d => ld_cols X1 _ _ i d) (fun i d => ld_cols X2 _ _ i d) a j b n.val hj hn (by omega)))

/-- Head 0's value gradients, over what was there. -/
theorem dv_head0 (a j : Fin 256) (b : Fin 256) (n : Fin 2048) (hj : j.val = a.val) (hn : n.val = 1024 + b.val) :
    k0_pay7 (View.ld X2 (Rect.unit ![0, 0] ![512, 256] inb_S512x1024_S512x256_0_0)) (k0_pay2 (View.ld X0 (Rect.unit ![0, 0] ![512, 256] inb_S512x1024_S512x256_0_0)) (View.ld X1 (Rect.unit ![0, 0] ![256, 256] inb_S256x2048_S256x256_0_0))) (View.ld P (Rect.unit ![0, 1024] ![256, 256] inb_S256x2048_S256x256_0_1024)) (ix2 a b) = P (ix2 j n) + dkvAt X0 X1 X2 j n.val :=
  (dv0 _ _ _ _ a b).trans (congrArg₂ (· + ·) (ld_prev P 1024 _ a b j n hj hn)
    (dv_piece X0 X2 X1 0 0 1024 rfl rfl _ _ _ (fun i d => ld_cols X0 _ _ i d) (fun i d => ld_cols X1 _ _ i d) (fun i d => ld_cols X2 _ _ i d) a j b n.val hj hn))

/-- Head 1's query gradients. -/
theorem dq_head1 (a r : Fin 512) (b : Fin 256) (n : ℕ) (hr : r.val = a.val) (hn : n = 256 + b.val) :
    k0_pay11 (View.ld X1 (Rect.unit ![0, 256] ![256, 256] inb_S256x2048_S256x256_0_256)) (k0_pay9 (View.ld X0 (Rect.unit ![0, 256] ![512, 256] inb_S512x1024_S512x256_0_256)) (View.ld X1 (Rect.unit ![0, 256] ![256, 256] inb_S256x2048_S256x256_0_256)) (View.ld X1 (Rect.unit ![0, 1280] ![256, 256] inb_S256x2048_S256x256_0_1280)) (View.ld X2 (Rect.unit ![0, 256] ![512, 256] inb_S512x1024_S512x256_0_256))) (FloatOps.ofBits .f32 1031798784#32) (ix2 a b) = dqAt X0 X1 X2 r n :=
  (dq1 _ _ _ _ a b).trans (dq_piece X0 X2 X1 1 256 1280 rfl rfl _ _ _ _ (fun i d => ld_cols X0 _ _ i d) (fun i d => ld_cols X1 _ _ i d) (fun i d => ld_cols X1 _ _ i d) (fun i d => ld_cols X2 _ _ i d) a r b n hr hn)

/-- Head 1's key gradients, over what was there. -/
theorem dk_head1 (a j : Fin 256) (b : Fin 256) (n : Fin 2048) (hj : j.val = a.val) (hn : n.val = 256 + b.val) :
    k0_pay12 (View.ld X0 (Rect.unit ![0, 256] ![512, 256] inb_S512x1024_S512x256_0_256)) (k0_pay9 (View.ld X0 (Rect.unit ![0, 256] ![512, 256] inb_S512x1024_S512x256_0_256)) (View.ld X1 (Rect.unit ![0, 256] ![256, 256] inb_S256x2048_S256x256_0_256)) (View.ld X1 (Rect.unit ![0, 1280] ![256, 256] inb_S256x2048_S256x256_0_1280)) (View.ld X2 (Rect.unit ![0, 256] ![512, 256] inb_S512x1024_S512x256_0_256))) (FloatOps.ofBits .f32 1031798784#32) (View.ld P (Rect.unit ![0, 256] ![256, 256] inb_S256x2048_S256x256_0_256)) (ix2 a b) = P (ix2 j n) + dkvAt X0 X1 X2 j n.val :=
  (dk1 _ _ _ _ _ a b).trans (congrArg₂ (· + ·) (ld_prev P 256 _ a b j n hj hn)
    (dk_piece X0 X2 X1 1 256 1280 rfl rfl _ _ _ _ (fun i d => ld_cols X0 _ _ i d) (fun i d => ld_cols X1 _ _ i d) (fun i d => ld_cols X1 _ _ i d) (fun i d => ld_cols X2 _ _ i d) a j b n.val hj hn (by omega)))

/-- Head 1's value gradients, over what was there. -/
theorem dv_head1 (a j : Fin 256) (b : Fin 256) (n : Fin 2048) (hj : j.val = a.val) (hn : n.val = 1280 + b.val) :
    k0_pay13 (View.ld X2 (Rect.unit ![0, 256] ![512, 256] inb_S512x1024_S512x256_0_256)) (k0_pay8 (View.ld X0 (Rect.unit ![0, 256] ![512, 256] inb_S512x1024_S512x256_0_256)) (View.ld X1 (Rect.unit ![0, 256] ![256, 256] inb_S256x2048_S256x256_0_256))) (View.ld P (Rect.unit ![0, 1280] ![256, 256] inb_S256x2048_S256x256_0_1280)) (ix2 a b) = P (ix2 j n) + dkvAt X0 X1 X2 j n.val :=
  (dv1 _ _ _ _ a b).trans (congrArg₂ (· + ·) (ld_prev P 1280 _ a b j n hj hn)
    (dv_piece X0 X2 X1 1 256 1280 rfl rfl _ _ _ (fun i d => ld_cols X0 _ _ i d) (fun i d => ld_cols X1 _ _ i d) (fun i d => ld_cols X2 _ _ i d) a j b n.val hj hn))

/-- Head 2's query gradients. -/
theorem dq_head2 (a r : Fin 512) (b : Fin 256) (n : ℕ) (hr : r.val = a.val) (hn : n = 512 + b.val) :
    k0_pay18 (View.ld X1 (Rect.unit ![0, 512] ![256, 256] inb_S256x2048_S256x256_0_512)) (View.ld X1 (Rect.unit ![0, 1536] ![256, 256] inb_S256x2048_S256x256_0_1536)) (View.ld X2 (Rect.unit ![0, 512] ![512, 256] inb_S512x1024_S512x256_0_512)) (k0_pay14 (View.ld X0 (Rect.unit ![0, 512] ![512, 256] inb_S512x1024_S512x256_0_512)) (View.ld X1 (Rect.unit ![0, 512] ![256, 256] inb_S256x2048_S256x256_0_512))) (k0_pay15 (View.ld X0 (Rect.unit ![0, 512] ![512, 256] inb_S512x1024_S512x256_0_512)) (View.ld X1 (Rect.unit ![0, 512] ![256, 256] inb_S256x2048_S256x256_0_512))) (ix2 a b) = dqAt X0 X1 X2 r n :=
  (dq2 _ _ _ _ a b).trans (dq_piece X0 X2 X1 2 512 1536 rfl rfl _ _ _ _ (fun i d => ld_cols X0 _ _ i d) (fun i d => ld_cols X1 _ _ i d) (fun i d => ld_cols X1 _ _ i d) (fun i d => ld_cols X2 _ _ i d) a r b n hr hn)

/-- Head 2's key gradients, over what was there. -/
theorem dk_head2 (a j : Fin 256) (b : Fin 256) (n : Fin 2048) (hj : j.val = a.val) (hn : n.val = 512 + b.val) :
    k0_pay19 (View.ld X0 (Rect.unit ![0, 512] ![512, 256] inb_S512x1024_S512x256_0_512)) (View.ld X1 (Rect.unit ![0, 1536] ![256, 256] inb_S256x2048_S256x256_0_1536)) (View.ld X2 (Rect.unit ![0, 512] ![512, 256] inb_S512x1024_S512x256_0_512)) (k0_pay14 (View.ld X0 (Rect.unit ![0, 512] ![512, 256] inb_S512x1024_S512x256_0_512)) (View.ld X1 (Rect.unit ![0, 512] ![256, 256] inb_S256x2048_S256x256_0_512))) (k0_pay15 (View.ld X0 (Rect.unit ![0, 512] ![512, 256] inb_S512x1024_S512x256_0_512)) (View.ld X1 (Rect.unit ![0, 512] ![256, 256] inb_S256x2048_S256x256_0_512))) (View.ld P (Rect.unit ![0, 512] ![256, 256] inb_S256x2048_S256x256_0_512)) (ix2 a b) = P (ix2 j n) + dkvAt X0 X1 X2 j n.val :=
  (dk2 _ _ _ _ _ a b).trans (congrArg₂ (· + ·) (ld_prev P 512 _ a b j n hj hn)
    (dk_piece X0 X2 X1 2 512 1536 rfl rfl _ _ _ _ (fun i d => ld_cols X0 _ _ i d) (fun i d => ld_cols X1 _ _ i d) (fun i d => ld_cols X1 _ _ i d) (fun i d => ld_cols X2 _ _ i d) a j b n.val hj hn (by omega)))

/-- Head 2's value gradients, over what was there. -/
theorem dv_head2 (a j : Fin 256) (b : Fin 256) (n : Fin 2048) (hj : j.val = a.val) (hn : n.val = 1536 + b.val) :
    k0_pay20 (View.ld X2 (Rect.unit ![0, 512] ![512, 256] inb_S512x1024_S512x256_0_512)) (k0_pay14 (View.ld X0 (Rect.unit ![0, 512] ![512, 256] inb_S512x1024_S512x256_0_512)) (View.ld X1 (Rect.unit ![0, 512] ![256, 256] inb_S256x2048_S256x256_0_512))) (k0_pay15 (View.ld X0 (Rect.unit ![0, 512] ![512, 256] inb_S512x1024_S512x256_0_512)) (View.ld X1 (Rect.unit ![0, 512] ![256, 256] inb_S256x2048_S256x256_0_512))) (View.ld P (Rect.unit ![0, 1536] ![256, 256] inb_S256x2048_S256x256_0_1536)) (ix2 a b) = P (ix2 j n) + dkvAt X0 X1 X2 j n.val :=
  (dv2 _ _ _ _ a b).trans (congrArg₂ (· + ·) (ld_prev P 1536 _ a b j n hj hn)
    (dv_piece X0 X2 X1 2 512 1536 rfl rfl _ _ _ (fun i d => ld_cols X0 _ _ i d) (fun i d => ld_cols X1 _ _ i d) (fun i d => ld_cols X2 _ _ i d) a j b n.val hj hn))

/-- Head 3's query gradients. -/
theorem dq_head3 (a r : Fin 512) (b : Fin 256) (n : ℕ) (hr : r.val = a.val) (hn : n = 768 + b.val) :
    k0_pay23 (View.ld X0 (Rect.unit ![0, 768] ![512, 256] inb_S512x1024_S512x256_0_768)) (View.ld X1 (Rect.unit ![0, 768] ![256, 256] inb_S256x2048_S256x256_0_768)) (View.ld X1 (Rect.unit ![0, 1792] ![256, 256] inb_S256x2048_S256x256_0_1792)) (View.ld X2 (Rect.unit ![0, 768] ![512, 256] inb_S512x1024_S512x256_0_768)) (ix2 a b) = dqAt X0 X1 X2 r n :=
  (dq3 _ _ _ _ a b).trans (dq_piece X0 X2 X1 3 768 1792 rfl rfl _ _ _ _ (fun i d => ld_cols X0 _ _ i d) (fun i d => ld_cols X1 _ _ i d) (fun i d => ld_cols X1 _ _ i d) (fun i d => ld_cols X2 _ _ i d) a r b n hr hn)

/-- Head 3's key gradients, over what was there. -/
theorem dk_head3 (a j : Fin 256) (b : Fin 256) (n : Fin 2048) (hj : j.val = a.val) (hn : n.val = 768 + b.val) :
    k0_pay24 (View.ld X0 (Rect.unit ![0, 768] ![512, 256] inb_S512x1024_S512x256_0_768)) (View.ld X1 (Rect.unit ![0, 768] ![256, 256] inb_S256x2048_S256x256_0_768)) (View.ld X1 (Rect.unit ![0, 1792] ![256, 256] inb_S256x2048_S256x256_0_1792)) (View.ld X2 (Rect.unit ![0, 768] ![512, 256] inb_S512x1024_S512x256_0_768)) (View.ld P (Rect.unit ![0, 768] ![256, 256] inb_S256x2048_S256x256_0_768)) (ix2 a b) = P (ix2 j n) + dkvAt X0 X1 X2 j n.val :=
  (dk3 _ _ _ _ _ a b).trans (congrArg₂ (· + ·) (ld_prev P 768 _ a b j n hj hn)
    (dk_piece X0 X2 X1 3 768 1792 rfl rfl _ _ _ _ (fun i d => ld_cols X0 _ _ i d) (fun i d => ld_cols X1 _ _ i d) (fun i d => ld_cols X1 _ _ i d) (fun i d => ld_cols X2 _ _ i d) a j b n.val hj hn (by omega)))

/-- Head 3's value gradients, over what was there. -/
theorem dv_head3 (a j : Fin 256) (b : Fin 256) (n : Fin 2048) (hj : j.val = a.val) (hn : n.val = 1792 + b.val) :
    k0_pay25 (View.ld X0 (Rect.unit ![0, 768] ![512, 256] inb_S512x1024_S512x256_0_768)) (View.ld X1 (Rect.unit ![0, 768] ![256, 256] inb_S256x2048_S256x256_0_768)) (View.ld X2 (Rect.unit ![0, 768] ![512, 256] inb_S512x1024_S512x256_0_768)) (View.ld P (Rect.unit ![0, 1792] ![256, 256] inb_S256x2048_S256x256_0_1792)) (ix2 a b) = P (ix2 j n) + dkvAt X0 X1 X2 j n.val :=
  (dv3 _ _ _ _ a b).trans (congrArg₂ (· + ·) (ld_prev P 1792 _ a b j n hj hn)
    (dv_piece X0 X2 X1 3 768 1792 rfl rfl _ _ _ (fun i d => ld_cols X0 _ _ i d) (fun i d => ld_cols X1 _ _ i d) (fun i d => ld_cols X2 _ _ i d) a j b n.val hj hn))

end Heads

end Cert.KernelIdeal.XAttn

end
-- ==== Proof.XAttn.Left.lean ====
/- What a grid point of the cross-attention gradient leaves in its two output blocks, point by point. -/
module

public import proofs.«01_k».proof.Proof.Gen.KernelIdeal.Value
public import proofs.«01_k».proof.Proof.XAttn.Block
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.XAttn

open Cert.KernelIdeal Cert.KernelIdeal.Gen Cert.XAttn

/-- A function of a rank-two index, at the index rebuilt from its coordinates. -/
theorem at_ix2 {R C : ℕ} {α : Type} (f : Shape.Idx ⟨2, ![R, C]⟩ → α) (x : Shape.Idx ⟨2, ![R, C]⟩) {v : α}
    (h : f (ix2 (x 0) (x 1)) = v) : f x = v := by
  rw [eq_ix2 x]; exact h

/-- Where some of the newer stores holds an index, the older stores do not matter there. -/
theorem canon_newer {Val : EltTy → Type} [∀ e, Nonempty (Val e)] {S : Shape} {e : EltTy} (L' : List (View.Piece Val S e)) :
    ∀ (L : List (View.Piece Val S e)) (y : S.Idx), (∃ q ∈ L, y ∈ q.1.set) → View.canon (L ++ L') y = View.canon L y
  | [], y, h => by obtain ⟨q, hq, _⟩ := h; cases hq
  | q :: L, y, h => by
    by_cases hm : y ∈ q.1.set
    · obtain ⟨x, rfl⟩ := q.1.exists_idx_of_mem hm
      exact (View.canon_cons_emb q.1 q.2 (L ++ L') x).trans (View.canon_cons_emb q.1 q.2 L x).symm
    · rw [List.cons_append, View.canon_cons_of_not_mem _ _ hm, View.canon_cons_of_not_mem _ _ hm]
      refine canon_newer L' L y ?_
      obtain ⟨p, hp, hy⟩ := h
      cases hp with
      | head => exact absurd hy hm
      | tail _ hp => exact ⟨p, hp, hy⟩

variable (m : (ℓ : Loc nD τ sig) → Buf (Elt Ideal) ℓ)

/-- The query gradients a point leaves in its block: row `r`, column `n`. -/
theorem left_dq (c : Dev nD) (t : Fin cfg0.N) (y : S512x1024.Idx) (r : Fin 512) (n : ℕ) (hy0 : (y 0 : ℕ) = r.val) (hy1 : (y 1 : ℕ) = n) :
    (outsAt0 m c t.val t.isLt).1 y = dqAt (N := 512) (iblk m c 0 t) (iblk m c 1 t) (iblk m c 2 t) r n := by
  by_cases h0 : t.val % 8 = 0
  · rw [outsAt0_A m c t h0]; frame_out
    canon_tiles x h
    · exact at_ix2 _ x (dq_head3 _ _ _ (x 0) _ (x 1) _ (by omega) (by omega))
    · exact at_ix2 _ x (dq_head2 _ _ _ (x 0) _ (x 1) _ (by omega) (by omega))
    · exact at_ix2 _ x (dq_head1 _ _ _ (x 0) _ (x 1) _ (by omega) (by omega))
    · exact at_ix2 _ x (dq_head0 _ _ _ (x 0) _ (x 1) _ (by omega) (by omega))
  · rw [outsAt0_B m c t h0]; frame_out
    canon_tiles x h
    · exact at_ix2 _ x (dq_head3 _ _ _ (x 0) _ (x 1) _ (by omega) (by omega))
    · exact at_ix2 _ x (dq_head2 _ _ _ (x 0) _ (x 1) _ (by omega) (by omega))
    · exact at_ix2 _ x (dq_head1 _ _ _ (x 0) _ (x 1) _ (by omega) (by omega))
    · exact at_ix2 _ x (dq_head0 _ _ _ (x 0) _ (x 1) _ (by omega) (by omega))

/-- At a point that carries the key and value gradients on: what it leaves is what it found plus its rows' part. -/
theorem left_dkv_step (c : Dev nD) (t : Fin cfg0.N) (h0 : ¬t.val % 8 = 0) (y : S256x2048.Idx) (j : Fin 256) (n : Fin 2048)
    (hy0 : (y 0 : ℕ) = j.val) (hy1 : (y 1 : ℕ) = n.val) :
    (outsAt0 m c t.val t.isLt).2 y
      = (outsAt0 m c (t.val - 1) (Nat.lt_of_le_of_lt (Nat.sub_le _ _) t.isLt)).2 (ix2 j n)
        + dkvAt (N := 512) (iblk m c 0 t) (iblk m c 1 t) (iblk m c 2 t) j n.val := by
  rw [outsAt0_B m c t h0]; frame_out
  canon_tiles x h
  · exact at_ix2 _ x (dv_head3 _ _ _ _ (x 0) _ (x 1) _ (by omega) (by omega))
  · exact at_ix2 _ x (dk_head3 _ _ _ _ (x 0) _ (x 1) _ (by omega) (by omega))
  · exact at_ix2 _ x (dv_head2 _ _ _ _ (x 0) _ (x 1) _ (by omega) (by omega))
  · exact at_ix2 _ x (dk_head2 _ _ _ _ (x 0) _ (x 1) _ (by omega) (by omega))
  · exact at_ix2 _ x (dv_head1 _ _ _ _ (x 0) _ (x 1) _ (by omega) (by omega))
  · exact at_ix2 _ x (dk_head1 _ _ _ _ (x 0) _ (x 1) _ (by omega) (by omega))
  · exact at_ix2 _ x (dv_head0 _ _ _ _ (x 0) _ (x 1) _ (by omega) (by omega))
  · exact at_ix2 _ x (dk_head0 _ _ _ _ (x 0) _ (x 1) _ (by omega) (by omega))

/-- The block of zeros the first point starts from. -/
theorem zeros (y : S256x2048.Idx) : k0_pay1 (F := Ideal) y = 0 := by pointwise [k0_pay1]

/-- At the first point: the key and value gradients of its rows, over a block of zeros. -/
theorem left_dkv_first (c : Dev nD) (t : Fin cfg0.N) (h0 : t.val % 8 = 0) (y : S256x2048.Idx) (j : Fin 256) (n : Fin 2048)
    (hy0 : (y 0 : ℕ) = j.val) (hy1 : (y 1 : ℕ) = n.val) :
    (outsAt0 m c t.val t.isLt).2 y
      = k0_pay1 (F := Ideal) (ix2 j n) + dkvAt (N := 512) (iblk m c 0 t) (iblk m c 1 t) (iblk m c 2 t) j n.val := by
  rw [outsAt0_A m c t h0]; frame_open
  simp (disch := decide) only [↓ View.readCov_skip, ↓ View.readCov_cons_toLoadRect, ↓ View.readCov_fill]
  frame_out
  refine (canon_newer [_] [_, _, _, _, _, _, _, _] y ?_).trans ?_
  · exact View.cover_of_tiledL (s := S256x2048) _ ![256, 256] (by sl_kernel_rfl) y
  canon_tiles x h
  · exact at_ix2 _ x (dv_head3 _ _ _ _ (x 0) _ (x 1) _ (by omega) (by omega))
  · exact at_ix2 _ x (dk_head3 _ _ _ _ (x 0) _ (x 1) _ (by omega) (by omega))
  · exact at_ix2 _ x (dv_head2 _ _ _ _ (x 0) _ (x 1) _ (by omega) (by omega))
  · exact at_ix2 _ x (dk_head2 _ _ _ _ (x 0) _ (x 1) _ (by omega) (by omega))
  · exact at_ix2 _ x (dv_head1 _ _ _ _ (x 0) _ (x 1) _ (by omega) (by omega))
  · exact at_ix2 _ x (dk_head1 _ _ _ _ (x 0) _ (x 1) _ (by omega) (by omega))
  · exact at_ix2 _ x (dv_head0 _ _ _ _ (x 0) _ (x 1) _ (by omega) (by omega))
  · exact at_ix2 _ x (dk_head0 _ _ _ _ (x 0) _ (x 1) _ (by omega) (by omega))

end Cert.KernelIdeal.XAttn

end
-- ==== Proof.XAttn.Arrays.lean ====
/- The two result arrays of the cross-attention gradient after the run: every row's query gradients, and the key and
   value gradients summed over all rows. -/
module

public import proofs.«01_k».proof.Proof.Gen.KernelIdeal.Value
public import proofs.«01_k».proof.Proof.XAttn.Left
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.XAttn

open Cert.KernelIdeal Cert.KernelIdeal.Gen Cert.XAttn

section Rows

variable {N M : ℕ} (X X2 : Shape.Idx ⟨2, ![N, 1024]⟩ → EReal) (Y Y2 : Shape.Idx ⟨2, ![M, 1024]⟩ → EReal)
  (KV : Shape.Idx ⟨2, ![256, 2048]⟩ → EReal)

/-- Rows that agree have equal probabilities. -/
theorem probAt_row (r : Fin N) (i : Fin M) (hx : ∀ n, entry X r n = entry Y i n) (h : ℕ) (j : Fin 256) :
    probAt X KV r h j = probAt Y KV i h j := by
  unfold probAt
  rw [show headRow X r h = headRow Y i h from funext fun d => hx _]

/-- Rows that agree have equal score gradients. -/
theorem dscoreAt_row (r : Fin N) (i : Fin M) (hx : ∀ n, entry X r n = entry Y i n) (hg : ∀ n, entry X2 r n = entry Y2 i n)
    (h : ℕ) (j : Fin 256) : dscoreAt X KV X2 r h j = dscoreAt Y KV Y2 i h j := by
  unfold dscoreAt
  rw [show headRow X r h = headRow Y i h from funext fun d => hx _, show headRow X2 r h = headRow Y2 i h from funext fun d => hg _]

/-- Rows that agree have equal query gradients. -/
theorem dqAt_row (r : Fin N) (i : Fin M) (hx : ∀ n, entry X r n = entry Y i n) (hg : ∀ n, entry X2 r n = entry Y2 i n)
    (n : ℕ) : dqAt X KV X2 r n = dqAt Y KV Y2 i n := by
  unfold dqAt
  exact Finset.sum_congr rfl fun j _ => by rw [dscoreAt_row X X2 Y Y2 KV r i hx hg]

end Rows

/-- The key and value gradients of all rows are the sums of those of `J` blocks of `N` rows. -/
theorem dkvAt_blocks {J N M : ℕ} (hM : J * N = M) (X X2 : Fin J → Shape.Idx ⟨2, ![N, 1024]⟩ → EReal)
    (Y Y2 : Shape.Idx ⟨2, ![M, 1024]⟩ → EReal) (KV : Shape.Idx ⟨2, ![256, 2048]⟩ → EReal)
    (hx : ∀ (s : Fin J) (r : Fin N) (i : Fin M), i.val = s.val * N + r.val → ∀ n, entry (X s) r n = entry Y i n)
    (hg : ∀ (s : Fin J) (r : Fin N) (i : Fin M), i.val = s.val * N + r.val → ∀ n, entry (X2 s) r n = entry Y2 i n)
    (j : Fin 256) (n : ℕ) : (∑ s : Fin J, dkvAt (X s) KV (X2 s) j n) = dkvAt Y KV Y2 j n := by
  subst hM
  unfold dkvAt
  by_cases hn : n < 1024
  · simp only [if_pos hn]
    unfold dkAt
    refine Fin.sum_mul_add_congr fun s k hl => ?_
    rw [dscoreAt_row (X s) (X2 s) Y Y2 KV k ⟨s.val * N + k.val, hl⟩ (hx s k _ rfl) (hg s k _ rfl), hx s k ⟨s.val * N + k.val, hl⟩ rfl]
  · simp only [if_neg hn]
    unfold dvAt
    refine Fin.sum_mul_add_congr fun s k hl => ?_
    rw [probAt_row (X s) Y KV k ⟨s.val * N + k.val, hl⟩ (hx s k _ rfl), hg s k ⟨s.val * N + k.val, hl⟩ rfl]

variable (m : (ℓ : Loc nD τ sig) → Buf (Elt Ideal) ℓ)

/-- Where every window's block stands: the row blocks at the point's number, the other arrays whole. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The kernel's query array. -/
abbrev Qarr (c : Dev nD) : FVec Ideal S4096x1024 .bf16 := m ((c : Thread nD τ).loc main_arg0)
/-- The kernel's key and value array. -/
abbrev KVarr (c : Dev nD) : FVec Ideal S256x2048 .bf16 := m ((c : Thread nD τ).loc main_arg1)
/-- The kernel's gradient of the attention's output. -/
abbrev Garr (c : Dev nD) : FVec Ideal S4096x1024 .f32 := m ((c : Thread nD τ).loc main_arg2)

/-- A query block's rows are the array's. -/
theorem blk_q (c : Dev nD) (t : Fin cfg0.N) (r : Fin 512) (i : Fin 4096) (hi : i.val = t.val * 512 + r.val) (n : ℕ) :
    entry (show FVec Ideal S512x1024 .bf16 from iblk m c 0 t) r n = entry (Qarr m c) i n := by
  unfold entry
  blk_ext [iblk, V, idx t]

/-- A block of the output's gradient holds the array's rows. -/
theorem blk_g (c : Dev nD) (t : Fin cfg0.N) (r : Fin 512) (i : Fin 4096) (hi : i.val = t.val * 512 + r.val) (n : ℕ) :
    entry (show FVec Ideal S512x1024 .f32 from iblk m c 2 t) r n = entry (Garr m c) i n := by
  unfold entry
  blk_ext [iblk, V, idx t]

/-- The key and value block is the whole array. -/
theorem blk_kv (c : Dev nD) (t : Fin cfg0.N) : (show FVec Ideal S256x2048 .bf16 from iblk m c 1 t) = KVarr m c := by
  funext y
  blk_ext [iblk, V, idx t]

/-- After the run the first result holds every row's query gradients. -/
theorem final_dq (c : Dev nD) : (dats m 0 c).arrAt 3 (cfgs 0).N
    = fun i : S4096x1024.Idx => dqAt (N := 4096) (Qarr m c) (KVarr m c) (Garr m c) (i 0) (i 1 : ℕ) := by
  refine (dats m 0 c).arrAt_eq_of_covers 3 _ (by decide +kernel) fun t _ y => ?_
  have ht : t.val < 8 := lt_of_lt_of_eq t.isLt N_0
  have hy : (y 0 : ℕ) < 512 := (y 0).isLt
  have hlt : t.val * 512 + (y 0 : ℕ) < 4096 := by omega
  blk_simp [idx t]
  rw [after0_3, left_dq m c t y (y 0) (y 1 : ℕ) rfl rfl]
  refine (congrArg (fun K => dqAt _ K _ _ _) (blk_kv m c t)).trans ?_
  refine (dqAt_row _ _ (Qarr m c) (Garr m c) _ _ ⟨t.val * 512 + (y 0 : ℕ), hlt⟩ (blk_q m c t _ _ rfl) (blk_g m c t _ _ rfl) _).trans ?_
  have e0 : (⟨t.val * 512 + (y 0 : ℕ), hlt⟩ : Fin 4096) = (win0_3.blk t).view.emb y 0 := Fin.ext (by blk_simp [idx t])
  rw [e0]

/-- After the run the second result holds the key and value gradients summed over all rows. -/
theorem final_dkv (c : Dev nD) : (dats m 0 c).arrAt 4 (cfgs 0).N
    = fun i : S256x2048.Idx => dkvAt (N := 4096) (Qarr m c) (KVarr m c) (Garr m c) (i 0) (i 1 : ℕ) := by
  refine (dats m 0 c).arrAt_eq_of_after_last 4 t0_7 (by decide +kernel) _ fun j => ?_
  blk_simp [idx t0_7]
  rw [after0_4, Pipeline.eq_sum_fin_of_reset_step_apply_last (fun n h => (outsAt0 m c n h).2) 8 (fun _ => 0)
    (fun p j => dkvAt (N := 512) (iblk m c 0 p) (iblk m c 1 p) (iblk m c 2 p) (j 0) (j 1 : ℕ))
    (fun t h j => by
      refine (left_dkv_first m c t h j (j 0) (j 1) rfl rfl).trans ?_
      rw [zeros])
    (fun t h j => by
      refine (left_dkv_step m c t h j (j 0) (j 1) rfl rfl).trans ?_
      rw [← eq_ix2 j])
    (le_of_eq N_0) t0_7 rfl j, zero_add]
  have hM : cfg0.N * 512 = 4096 := congrArg (· * 512) N_0
  refine (Fin.sum_fin_congr fun p => congrArg (fun K => dkvAt _ K _ _ _) (blk_kv m c p)).trans ?_
  exact dkvAt_blocks hM (fun p => iblk m c 0 p) (fun p => iblk m c 2 p) (Qarr m c) (Garr m c) (KVarr m c)
    (fun s r i hi n => blk_q m c s r i hi n) (fun s r i hi n => blk_g m c s r i hi n) (j 0) (j 1 : ℕ)

end Cert.KernelIdeal.XAttn

end
-- ==== Proof.XAttn.Ref.lean ====
/- The reference's intermediate arrays at an index, in the words of one query row's attention. -/
module

public import proofs.«01_k».proof.Proof.Gen.ReferenceIdeal.Read
public import proofs.«01_k».proof.Proof.XAttn.Spec
public import Idealize.ShloMosaic.Lib.Pointwise

@[expose] public section

set_option maxRecDepth 16384

noncomputable section

open Idealize.ShloMosaic Idealize.ShloMosaic.TcCoe Idealize.SL.Sem

namespace Cert.ReferenceIdeal.XAttn

open Cert.ReferenceIdeal Cert.ReferenceIdeal.Gen Cert.ReferenceIdeal.Read Cert.XAttn

variable (Q : FVec Ideal S4096x1024 .bf16) (KV : FVec Ideal S256x2048 .bf16) (G : FVec Ideal S4096x1024 .f32)

/-- The scaled scores. -/
theorem score_at (h : Fin 4) (i : Fin 4096) (j : Fin 256) :
    val_main_v10 (F := Ideal) Q KV (ix4 0 h i j) = score (headRow (N := 4096) Q i h.val) (keys KV h.val) j := by
  pointwise [val_main_v10, val_main_v9, val_main_cst, val_main_v8, val_main_v6, val_main_v4, val_main_v3, val_main_v1,
    val_main_v2, val_main_v0, score, scale]
  exact congrArg (· * _) (Finset.sum_congr rfl fun d _ => congrArg₂ (· * ·) (headRow_eq _ _ _ _ _) (keys_eq _ _ _ _ _))

/-- The rows' largest scores. -/
theorem top_at (h : Fin 4) (i : Fin 4096) :
    val_main_v11 (F := Ideal) Q KV (ix3 0 h i) = top (headRow (N := 4096) Q i h.val) (keys KV h.val) := by
  pointwise [val_main_v11, val_main_cst_0, top, low]
  exact congrArg (fun f => Finset.fold max _ f Finset.univ) (funext fun j => score_at Q KV h i j)

/-- The rows' largest scores once more, after the maximum with minus infinity. -/
theorem capped_at (h : Fin 4) (i : Fin 4096) :
    val_main_v18 (F := Ideal) Q KV (ix3 0 h i) = top (headRow (N := 4096) Q i h.val) (keys KV h.val) := by
  rw [val_main_v18_apply]
  refine (congrArg₂ max ?_ (top_at Q KV h i)).trans (low_le_top _ _)
  rw [low]
  pointwise [val_main_v17, val_main_cst_2]

/-- The exponentials. -/
theorem expo_at (h : Fin 4) (i : Fin 4096) (j : Fin 256) :
    val_main_v31 (F := Ideal) Q KV (ix4 0 h i j) = expo (headRow (N := 4096) Q i h.val) (keys KV h.val) j := by
  rw [expo, ← capped_at, ← score_at]
  pointwise [val_main_v31, val_main_v30, val_main_v29, val_main_v28]

/-- The sums of the exponentials. -/
theorem mass_at (h : Fin 4) (i : Fin 4096) :
    val_main_v33 (F := Ideal) Q KV (ix4 0 h i 0) = mass (headRow (N := 4096) Q i h.val) (keys KV h.val) := by
  pointwise [val_main_v33, val_main_v32, val_main_cst_8, mass]
  exact Finset.sum_congr rfl fun j _ => expo_at Q KV h i j

/-- The probabilities. -/
theorem prob_at (h : Fin 4) (i : Fin 4096) (j : Fin 256) :
    val_main_v35 (F := Ideal) Q KV (ix4 0 h i j) = prob (headRow (N := 4096) Q i h.val) (keys KV h.val) j := by
  rw [prob, ← expo_at, ← mass_at]
  pointwise [val_main_v35, val_main_v34]

/-- The gradients of the probabilities. -/
theorem dprob_at (h : Fin 4) (i : Fin 4096) (j : Fin 256) :
    val_main_v44 (F := Ideal) KV G (ix4 0 h i j) = dprob (headRow (N := 4096) G i h.val) (vals KV h.val) j := by
  pointwise [val_main_v44, val_main_v43, val_main_v42, val_main_v7, val_main_v5, val_main_v3, val_main_v1, dprob]
  exact Finset.sum_congr rfl fun d _ => congrArg₂ (· * ·) (headRow_eq _ _ _ _ _) (vals_eq _ _ _ _ _)

/-- The sum over two axes of one element each is that element. -/
theorem units_at (u : FVec Ideal S1x4x4096x1 .f32) (h : Fin 4) (i : Fin 4096) :
    Ideal.hostReduceAdd reducesTo_S1x4x4096x1_S4x4096_d0_3 u 0 (ix2 h i) = u (ix4 0 h i 0) := by
  show 0 + ∑ y ∈ Finset.univ.filter (fun y => Shape.ReducesTo.drop reducesTo_S1x4x4096x1_S4x4096_d0_3 y = ix2 h i), u y = _
  rw [zero_add, Finset.sum_filter_eq_sum_of_fiber _ (fun _ : Unit => ix4 0 h i 0) (fun _ _ _ => rfl) ?_]
  · exact Fintype.sum_unique _
  · intro y
    constructor
    · intro e
      refine ⟨(), ?_⟩
      funext a; apply Fin.ext
      match a with
      | ⟨0, _⟩ => exact (Nat.lt_one_iff.mp (y 0).isLt).symm
      | ⟨1, _⟩ => exact (congrArg Fin.val (congrFun e 0)).symm
      | ⟨2, _⟩ => exact (congrArg Fin.val (congrFun e 1)).symm
      | ⟨3, _⟩ => exact (Nat.lt_one_iff.mp (y 3).isLt).symm
    · rintro ⟨_, rfl⟩
      funext b; apply Fin.ext
      match b with
      | ⟨0, _⟩ => rfl
      | ⟨1, _⟩ => rfl

/-- The gradients of the scores. -/
theorem rscore_at (h : Fin 4) (i : Fin 4096) (j : Fin 256) :
    val_main_v61 (F := Ideal) Q KV G (ix4 0 h i j)
      = rscore (headRow (N := 4096) Q i h.val) (keys KV h.val) (vals KV h.val) (headRow (N := 4096) G i h.val) j := by
  rw [rscore, scale]
  simp only [← expo_at, ← mass_at, ← dprob_at]
  pointwise [val_main_v61, val_main_v60, val_main_cst_12, val_main_v59, val_main_v58, val_main_v57, val_main_v56, val_main_v55,
    val_main_cst_11, val_main_v54, val_main_v53, val_main_v52, val_main_v51, val_main_v50, val_main_cst_10, val_main_v49, val_main_v48,
    val_main_v47, val_main_v38, val_main_v37, val_main_cst_9, val_main_v36]
  rw [units_at]
  pointwise []

/-- The first result: the query gradients. -/
theorem dq_at (i : Fin 4096) (n : Fin 1024) :
    val_main_v71 (F := Ideal) Q KV G (ix2 i n)
      = ∑ j : Fin 256, rscore (headRow (N := 4096) Q i (n.val / 256)) (keys KV (n.val / 256)) (vals KV (n.val / 256))
          (headRow (N := 4096) G i (n.val / 256)) j * entry KV j n.val := by
  pointwise [val_main_v71, val_main_v70, val_main_v65, val_main_v64, val_main_v6, val_main_v4, val_main_v3, val_main_v1]
  refine Finset.sum_congr rfl fun j _ => ?_
  rw [rscore_at, entry_eq]

/-- The second result: the key and value gradients. -/
theorem dkv_at (j : Fin 256) (n : Fin 2048) :
    val_main_v69 (F := Ideal) Q KV G (ix2 j n)
      = if n.val < 1024 then
          ∑ i : Fin 4096, rscore (headRow (N := 4096) Q i (n.val / 256)) (keys KV (n.val / 256)) (vals KV (n.val / 256))
            (headRow (N := 4096) G i (n.val / 256)) j * entry (R := 4096) Q i n.val
        else ∑ i : Fin 4096, prob (headRow (N := 4096) Q i ((n.val - 1024) / 256)) (keys KV ((n.val - 1024) / 256)) j
            * entry (R := 4096) G i (n.val - 1024) := by
  pointwise [val_main_v69, val_main_v68, val_main_v67, val_main_v66, val_main_v63, val_main_v62, val_main_v46, val_main_v45,
    val_main_v43, val_main_v42, val_main_v2, val_main_v0]
  split
  · refine Finset.sum_congr rfl fun i _ => ?_
    rw [rscore_at]
    refine congrArg (_ * ·) ((congrArg (fun z => Q (ix2 i z)) (Fin.ext ?_)).trans (entry_eq _ _ _ (by omega)).symm)
    show n.val / 256 * 256 + n.val % 256 = n.val
    omega
  · refine Finset.sum_congr rfl fun i _ => ?_
    rw [prob_at, mul_comm]
    refine congrArg (_ * ·) ((congrArg (fun z => G (ix2 i z)) (Fin.ext ?_)).trans (entry_eq _ _ _ (by omega)).symm)
    show (n.val - 1024) / 256 * 256 + (n.val - 1024) % 256 = n.val - 1024
    omega

end Cert.ReferenceIdeal.XAttn

end
-- ==== Proof.Common.Reals.lean ====
/- Extended reals that are real numbers, and the distributive law for a non-negative real factor. -/
module

public import Idealize.ShloMosaic.Lib.Pointwise

@[expose] public section

open Idealize.ShloMosaic

namespace Cert.Common

/-- The extended real `x` is a real number. -/
def IsReal (x : EReal) : Prop := ∃ r : ℝ, x = (r : EReal)

/-- What lies strictly between the infinities is real. -/
theorem isReal_of_lt {x : EReal} (hb : ⊥ < x) (ht : x < ⊤) : IsReal x := by
  induction x with
  | bot => exact absurd hb (lt_irrefl _)
  | top => exact absurd ht (lt_irrefl _)
  | coe r => exact ⟨r, rfl⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of real numbers, taken among the extended reals. -/
theorem sum_coe {ι : Type*} (s : Finset ι) (r : ι → ℝ) : ∑ i ∈ s, (r i : EReal) = ((∑ i ∈ s, r i : ℝ) : EReal) := by
  classical
  induction s using Finset.induction_on with
  | empty => simp
  | insert a s h ih => rw [Finset.sum_insert h, Finset.sum_insert h, ih, EReal.coe_add]

/-- A finite sum of reals is real. -/
theorem IsReal.sum {ι : Type*} {s : Finset ι} {f : ι → EReal} (h : ∀ i, IsReal (f i)) : IsReal (∑ i ∈ s, f i) := by
  choose r hr using h
  exact ⟨∑ i ∈ s, r i, by rw [← sum_coe]; exact Finset.sum_congr rfl fun i _ => hr i⟩

/-- A non-negative real factor distributes over any finite sum. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h,
      EReal.left_distrib_of_nonneg_of_ne_top (EReal.coe_nonneg.mpr hc) (EReal.coe_ne_top c), ih]

/-- A non-negative real factor distributes over any difference. -/
theorem coe_mul_sub {c : ℝ} (hc : 0 ≤ c) (x y : EReal) : (c : EReal) * (x - y) = c * x + -((c : EReal) * y) := by
  rw [sub_eq_add_neg, EReal.left_distrib_of_nonneg_of_ne_top (EReal.coe_nonneg.mpr hc) (EReal.coe_ne_top c), mul_neg]

/-- The largest of finitely many reals, none left out, is real. -/
theorem isReal_fold_max {J : ℕ} (f : Fin J → EReal) (j0 : Fin J) (h : ∀ j, IsReal (f j)) :
    IsReal (Finset.univ.fold max ⊥ f) := by
  apply isReal_of_lt
  · rw [Finset.lt_fold_max]
    obtain ⟨r, hr⟩ := h j0
    exact .inr ⟨j0, Finset.mem_univ _, by rw [hr]; exact EReal.bot_lt_coe r⟩
  · rw [Finset.fold_max_lt]
    refine ⟨bot_lt_top, fun j _ => ?_⟩
    obtain ⟨r, hr⟩ := h j
    rw [hr]; exact EReal.coe_lt_top r

/-- A number whose magnitude compares below plus infinity is real. -/
theorem isReal_of_cmp {x : EReal} (h : Ideal.cmp .olt (max x (-x)) (Ideal.ofBits .f32 0x7F800000#32) = 1#1) : IsReal x := by
  have hi : Ideal.ofBits .f32 0x7F800000#32 = ⊤ := by simp [Ideal.ofBits, Ideal.ieee]
  have hlt : max x (-x) < ⊤ := by
    by_contra hn
    rw [hi] at h
    simp [Ideal.cmp, hn] at h
  induction x with
  | bot => simp at hlt
  | top => simp at hlt
  | coe r => exact ⟨r, rfl⟩

end Cert.Common
-- ==== Proof.XAttn.Grad.lean ====
/- For a row with finite scores the two spellings of the softmax's derivative agree: the kernel's, which multiplies
   by the probabilities, and the quotient rule's. -/
module

public import proofs.«01_k».proof.Proof.Common.Reals
public import proofs.«01_k».proof.Proof.XAttn.Spec

@[expose] public section

open Idealize.ShloMosaic Cert.Common

namespace Cert.XAttn

variable {D J : ℕ} {x : Fin D → EReal} {k : Fin J → Fin D → EReal}

/-- The scale is a sixteenth. -/
theorem scale_eq : scale = ((1 / 16 : ℝ) : EReal) := by
  simp [scale, Ideal.ofBits, Ideal.ieee, -EReal.coe_mul, -EReal.coe_neg]; norm_num

/-- A row's maximum starts from minus infinity. -/
theorem low_eq : low = ⊥ := by
  simp [low, Ideal.ofBits, Ideal.ieee]

/-- A finite row has finite scores. -/
theorem score_real (hx : ∀ d, IsReal (x d)) (hk : ∀ j d, IsReal (k j d)) (j : Fin J) : IsReal (score x k j) :=
  (IsReal.sum fun d => (hx d).mul (hk j d)).mul ⟨_, scale_eq⟩

/-- A finite row's largest score is finite. -/
theorem top_real (hx : ∀ d, IsReal (x d)) (hk : ∀ j d, IsReal (k j d)) (j0 : Fin J) : IsReal (top x k) := by
  unfold top; rw [low_eq]; exact isReal_fold_max _ j0 (score_real hx hk)

/-- A finite row's exponentials are positive reals. -/
theorem expo_real (hx : ∀ d, IsReal (x d)) (hk : ∀ j d, IsReal (k j d)) (j : Fin J) :
    ∃ r : ℝ, 0 < r ∧ expo x k j = (r : EReal) := by
  obtain ⟨s, hs⟩ := score_real hx hk j
  obtain ⟨t, ht⟩ := top_real hx hk j
  exact ⟨Real.exp (s - t), Real.exp_pos _, by unfold expo; rw [hs, ht, ← EReal.coe_sub, Ideal.exp_coe]⟩

/-- A finite row's exponentials have a positive real sum. -/
theorem mass_real (hx : ∀ d, IsReal (x d)) (hk : ∀ j d, IsReal (k j d)) (j0 : Fin J) :
    ∃ r : ℝ, 0 < r ∧ mass x k = (r : EReal) := by
  choose e he using expo_real hx hk
  exact ⟨∑ j, e j, Finset.sum_pos (fun j _ => (he j).1) ⟨j0, Finset.mem_univ _⟩, by
    rw [← sum_coe]; exact Finset.sum_congr rfl fun j _ => (he j).2⟩

/-- The quotient rule's gradient of a score is the kernel's, whatever the values and the incoming gradient. -/
theorem rscore_eq (hx : ∀ d, IsReal (x d)) (hk : ∀ j d, IsReal (k j d)) (v : Fin J → Fin D → EReal) (g : Fin D → EReal)
    (j : Fin J) : rscore x k v g j = dscore x k v g j := by
  obtain ⟨L, hL, hm⟩ := mass_real hx hk j
  have hc : (0 : ℝ) ≤ 1 / L := (one_div_pos.mpr hL).le
  have hp : ∀ l, prob x k l = expo x k l * ((1 / L : ℝ) : EReal) := fun l => by
    rw [prob, hm, Ideal.div_coe hL.ne']
  have hq : ∀ l, dprob g v l * Ideal.div 1 (mass x k * mass x k) * expo x k l
      = ((1 / L : ℝ) : EReal) * (prob x k l * dprob g v l) := fun l => by
    rw [hp, hm, ← EReal.coe_mul, Ideal.div_coe (mul_pos hL hL).ne', one_mul,
      show (1 / (L * L) : ℝ) = 1 / L * (1 / L) by field_simp, EReal.coe_mul]
    ac_rfl
  unfold rscore dscore
  simp only [hq]
  rw [← coe_mul_sum _ hc, hp j, hm, Ideal.div_coe hL.ne', mul_comm (dprob g v j), ← coe_mul_sub hc]
  ac_rfl

end Cert.XAttn
-- ==== Proof.XAttn.Meet.lean ====
/- The attention's two programs meet: with finite queries and keys, the reference's results are the arrays the kernel leaves. -/
module

public import proofs.«01_k».proof.Proof.XAttn.Ref
public import proofs.«01_k».proof.Proof.XAttn.Grad

@[expose] public section

open Idealize.ShloMosaic Cert.Common Cert.XAttn

namespace Cert.ReferenceIdeal.XAttn

open Cert.ReferenceIdeal Cert.ReferenceIdeal.Read

variable (Q : FVec Ideal S4096x1024 .bf16) (KV : FVec Ideal S256x2048 .bf16) (G : FVec Ideal S4096x1024 .f32)
  (hq : ∀ (i : Fin 4096) (n : Fin 1024), IsReal (Q (ix2 i n))) (hk : ∀ (j : Fin 256) (n : Fin 2048), n.val < 1024 → IsReal (KV (ix2 j n)))
include hq hk

/-- With finite queries and keys the reference's score gradients are the kernel's, in each of the four heads. -/
theorem score_meet (i : Fin 4096) (h : ℕ) (hh : h < 4) (j : Fin 256) :
    rscore (headRow (N := 4096) Q i h) (keys KV h) (vals KV h) (headRow (N := 4096) G i h) j = dscoreAt (N := 4096) Q KV G i h j := by
  refine rscore_eq (fun d => hq _ _) (fun l d => ?_) _ _ _
  unfold keys
  rw [entry_eq _ _ _ (by omega)]
  exact hk _ _ (by show 256 * h + d.val < 1024; omega)

/-- The first result. -/
theorem dq_meet : val_main_v71 (F := Ideal) Q KV G = fun i : S4096x1024.Idx => dqAt (N := 4096) Q KV G (i 0) (i 1 : ℕ) := by
  funext i
  rw [eq_ix2 i]
  refine (dq_at Q KV G (i 0) (i 1)).trans (Finset.sum_congr rfl fun j _ => congrArg (· * _) ?_)
  exact score_meet Q KV G hq hk _ _ (by have := (i 1).isLt; change (i 1).val < 1024 at this; show (i 1).val / 256 < 4; omega) _

/-- The second result. -/
theorem dkv_meet : val_main_v69 (F := Ideal) Q KV G = fun i : S256x2048.Idx => dkvAt (N := 4096) Q KV G (i 0) (i 1 : ℕ) := by
  funext i
  rw [eq_ix2 i]
  refine (dkv_at Q KV G (i 0) (i 1)).trans ?_
  show _ = dkvAt (N := 4096) Q KV G (i 0) (i 1 : ℕ)
  unfold dkvAt
  split
  · refine Finset.sum_congr rfl fun r _ => congrArg (· * _) ?_
    exact score_meet Q KV G hq hk _ _ (by omega) _
  · rfl

end Cert.ReferenceIdeal.XAttn
-- ==== Proof.XAttn.Finite.lean ====
/- What the precondition says of the attention's arguments: the queries and the keys are real numbers. -/
module

public import proofs.«01_k».proof.Pre_finite_scores
public import proofs.«01_k».proof.Proof.Common.Reals
public import proofs.«01_k».proof.Proof.XAttn.Spec
public import Idealize.ShloMosaic.Lib.ReduceAll

@[expose] public section

open Idealize.ShloMosaic Cert.Common

namespace Cert.Pre_finite_scores

/-- The side conditions of the precondition's operations. -/
theorem proven : Cert.Pre_finite_scores.Facts :=
  { bitsLt_bf16_f32 := by decide, bcast_S_S4096x1024 := by decide, reducesTo_S4096x1024_S_d0_1 := by decide, h_S_ := by decide,
    slices_S256x2048_S256x1024_0_0 := by decide, bcast_S_S256x1024 := by decide, reducesTo_S256x1024_S_d0_1 := by decide }

variable [Facts]
variable {Q : FVec Ideal S4096x1024 .bf16} {KV : FVec Ideal S256x2048 .bf16} {G : FVec Ideal S4096x1024 .f32}

/-- Under the precondition every query and every key is real. -/
theorem reals (h : fn (F := Ideal) Q KV G = fun _ => 1#1) :
    (∀ i : Fin 4096, ∀ n : Fin 1024, IsReal (Q (ix2 i n))) ∧ ∀ (j : Fin 256) (n : Fin 2048), n.val < 1024 → IsReal (KV (ix2 j n)) := by
  have h0 := congrFun h ix0
  dsimp only [fn] at h0
  have hsub : Subsingleton S_.Idx := ⟨fun a b => funext fun k => k.elim0⟩
  obtain ⟨ha, hb⟩ := IntOp.andi_eq_one.mp h0
  refine ⟨fun i n => ?_, fun j n hn => ?_⟩
  · exact isReal_of_cmp (Host.reduce_andi_all _ _ _ _ _ ha (ix2 i n))
  · have e := Host.reduce_andi_all _ _ _ _ _ hb (ix2 j ⟨n.val, hn⟩)
    have hs : extractStridedSlice S256x1024 ![0, 0] KV Facts.slices_S256x2048_S256x1024_0_0 (ix2 j ⟨n.val, hn⟩) = KV (ix2 j n) := by
      pointwise []
    exact hs ▸ isReal_of_cmp e

end Cert.Pre_finite_scores
-- ==== Proof.Up.Left.lean ====
/- What a grid point of the normed product's gradient leaves in its accumulator and its two output blocks. -/
module

public import proofs.«01_k».proof.Proof.Gen.UpIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Up

open Cert.UpIdeal Cert.UpIdeal.Gen

variable (m : (ℓ : Loc nD τ sig) → Buf (Elt Ideal) ℓ)

/-- At the first column block of a row block the accumulator holds that block's product. -/
theorem acc_first (c : Dev nD) (t : Fin cfg0.N) (h : t.val % 4 = 0) :
    (outsAt0 m c t.val t.isLt).2.2 = k0_pay3 (iblk m c 0 t) (iblk m c 2 t) := by
  by_cases h0 : t.val % 32 = 0
  · rw [outsAt0_A m c t h0 (by omega) h (by omega) (by omega) (by omega)]; frame_out
  · rw [outsAt0_E m c t h0 (by omega) h (by omega) (by omega) (by omega)]; frame_out

/-- At the second column block the first operand's other product is added. -/
theorem acc_step (c : Dev nD) (t : Fin cfg0.N) (h : t.val % 4 = 1) :
    (outsAt0 m c t.val t.isLt).2.2 = k0_pay4 (iblk m c 0 t) (iblk m c 2 t)
      ((outsAt0 m c (t.val - 1) (Nat.lt_of_le_of_lt (Nat.sub_le _ _) t.isLt)).2.2) := by
  rw [outsAt0_B m c t (by omega) (by omega) (by omega) (by omega) (by omega) (by omega)]; frame_out
  exact congrArg _ (read_unread_whole _ _ _)

/-- At the last two column blocks the second operand's products are added. -/
theorem acc_other (c : Dev nD) (t : Fin cfg0.N) (h : 2 ≤ t.val % 4) :
    (outsAt0 m c t.val t.isLt).2.2 = k0_pay7 (iblk m c 1 t) (iblk m c 2 t)
      ((outsAt0 m c (t.val - 1) (Nat.lt_of_le_of_lt (Nat.sub_le _ _) t.isLt)).2.2) := by
  by_cases h3 : t.val % 4 = 3
  · rw [outsAt0_D m c t (by omega) (by omega) h h3 (by omega) (by omega)]; frame_out
    exact congrArg _ (read_unread_whole _ _ _)
  · rw [outsAt0_C m c t (by omega) (by omega) h h3 (by omega) (by omega)]; frame_out
    exact congrArg _ (read_unread_whole _ _ _)

/-- At the last column block the accumulated sum is finished into the rows' gradient. -/
theorem dx_last (c : Dev nD) (t : Fin cfg0.N) (h : t.val % 4 = 3) :
    (outsAt0 m c t.val t.isLt).1
      = k0_pay11 ((outsAt0 m c t.val t.isLt).2.2) (iblk m c 3 t) (iblk m c 4 t) (iblk m c 5 t) := by
  rw [outsAt0_D m c t (by omega) (by omega) (by omega) h (by omega) (by omega)]; frame_out

/-- At the first point of all the gain's gradient is zero. -/
theorem dg_first (c : Dev nD) (t : Fin cfg0.N) (h : t.val % 32 = 0) :
    (outsAt0 m c t.val t.isLt).2.1 = k0_pay1 (F := Ideal) := by
  rw [outsAt0_A m c t h (by omega) (by omega) (by omega) (by omega) (by omega)]; frame_out

/-- At a point that is not its row block's last the gain's gradient stays. -/
theorem dg_keep (c : Dev nD) (t : Fin cfg0.N) (h0 : ¬t.val % 32 = 0) (h : ¬t.val % 4 = 3) :
    (outsAt0 m c t.val t.isLt).2.1 = (outsAt0 m c (t.val - 1) (Nat.lt_of_le_of_lt (Nat.sub_le _ _) t.isLt)).2.1 := by
  by_cases h1 : t.val % 4 ≤ 1
  · by_cases h2 : t.val % 4 = 0
    · rw [outsAt0_E m c t h0 h1 h2 (by omega) (by omega) h]; rfl
    · rw [outsAt0_B m c t h0 h1 h2 (by omega) (by omega) h]; rfl
  · rw [outsAt0_C m c t h0 h1 (by omega) h (by omega) (by omega)]; rfl

/-- At a row block's last point its rows' part is added to the gain's gradient. -/
theorem dg_last (c : Dev nD) (t : Fin cfg0.N) (h : t.val % 4 = 3) :
    (outsAt0 m c t.val t.isLt).2.1
      = k0_pay10 ((outsAt0 m c t.val t.isLt).2.2) (iblk m c 3 t)
          ((outsAt0 m c (t.val - 1) (Nat.lt_of_le_of_lt (Nat.sub_le _ _) t.isLt)).2.1) := by
  rw [outsAt0_D m c t (by omega) (by omega) (by omega) h (by omega) (by omega)]; frame_out

end Cert.UpIdeal.Up

end
-- ==== Proof.Common.Norm.lean ====
/- The gradient of the root-mean-square norm of one row over the extended reals: the shape the kernel computes it in,
   the shape the norm's own derivative has, and that the two are equal for every row. -/
module

public import proofs.«01_k».proof.Proof.Common.Reals
public import Idealize.ShloMosaic.Lib.Pointwise

@[expose] public section

noncomputable section

open Idealize.ShloMosaic

namespace Cert.Common

/-- The width of a row. -/
def width : EReal := Ideal.ofBits .f32 0x44800000#32

/-- What is added to the mean square. -/
def tiny : EReal := Ideal.ofBits .f32 0x358637BD#32

/-- Minus one half, the exponent of the reciprocal square root. -/
def minusHalf : EReal := Ideal.ofBits .f32 0xBF000000#32

variable {K : ℕ}

/-- The mean square of a row, and a little more. -/
def square (x : Fin K → EReal) : EReal := Ideal.div (∑ e, x e * x e) width + tiny

/-- One over the root of it. -/
def rootInv (x : Fin K → EReal) : EReal := Ideal.rsqrt (square x)

/-- The row's gradient as the kernel computes it, over the gradient `h` of the normed row, the gain `g`, the row `x`
    and what is added to it. -/
def normGrad (h g x : Fin K → EReal) (res : EReal) (d : Fin K) : EReal :=
  res + rootInv x * (h d * g d - x d * rootInv x * Ideal.div (∑ e, h e * g e * (x e * rootInv x)) width)

/-- The gradient that reaches every entry of the row through the mean square. -/
def through (h g x : Fin K → EReal) : EReal :=
  Ideal.div ((∑ e, x e * (h e * g e)) * (minusHalf * Ideal.div (rootInv x) (square x))) width

/-- The row's gradient as the norm's own derivative spells it. -/
def normGradRef (h g x : Fin K → EReal) (res : EReal) (d : Fin K) : EReal :=
  res + h d * g d * rootInv x + x d * through h g x + through h g x * x d

theorem width_eq : width = ((1024 : ℝ) : EReal) := by
  simp [width, Ideal.ofBits, Ideal.ieee, -EReal.coe_mul, -EReal.coe_neg]; norm_num

theorem minusHalf_eq : minusHalf = ((-(1 / 2) : ℝ) : EReal) := by
  simp [minusHalf, Ideal.ofBits, Ideal.ieee, -EReal.coe_mul, -EReal.coe_neg]; norm_num

/-- What is added is a positive real. -/
theorem tiny_pos : ∃ e : ℝ, 0 < e ∧ tiny = e := by
  refine ⟨(8796093 : ℝ) / 8796093022208, by norm_num, ?_⟩
  simp [tiny, Ideal.ofBits, Ideal.ieee, -EReal.coe_mul, -EReal.coe_neg]; norm_num

/-- Division by the width is a product with a real. -/
theorem div_width (y : EReal) : Ideal.div y width = y * ((1 / 1024 : ℝ) : EReal) := by
  rw [width_eq, Ideal.div_coe (by norm_num)]

/-- No square is negative. -/
theorem zero_le_mul_self (x : EReal) : 0 ≤ x * x := by
  rcases le_total 0 x with h | h
  · exact EReal.mul_nonneg_iff.mpr (.inl ⟨h, h⟩)
  · exact EReal.mul_nonneg_iff.mpr (.inr ⟨h, h⟩)

/-- The mean square is infinite or a positive real. -/
theorem square_cases (x : Fin K → EReal) : square x = ⊤ ∨ ∃ v : ℝ, 0 < v ∧ square x = v := by
  obtain ⟨e, he, hte⟩ := tiny_pos
  have h0 : 0 ≤ Ideal.div (∑ e, x e * x e) width := by
    rw [div_width]
    exact EReal.mul_nonneg (Finset.sum_nonneg fun e _ => zero_le_mul_self _) (EReal.coe_nonneg.mpr (by norm_num))
  unfold square
  rw [hte]
  generalize Ideal.div (∑ e, x e * x e) width = u at h0
  induction u with
  | bot => exact absurd h0 (by simp)
  | top => exact .inl (by simp)
  | coe u =>
    refine .inr ⟨u + e, ?_, (EReal.coe_add u e).symm⟩
    have := EReal.coe_nonneg.mp h0
    linarith

/-- The two shapes of the row's gradient are one. -/
theorem normGrad_eq (h g x : Fin K → EReal) (res : EReal) (d : Fin K) : normGrad h g x res d = normGradRef h g x res d := by
  rcases square_cases x with hv | ⟨v, hv, hsq⟩
  · have hi : rootInv x = 0 := by rw [rootInv, hv]; rfl
    have ht : through h g x = 0 := by
      unfold through
      rw [hi, div_width, show Ideal.div 0 (square x) = 0 from by rw [hv]; simp [Ideal.div]]
      simp
    unfold normGrad normGradRef
    rw [ht, hi]
    simp
  · obtain ⟨r, hr, hi⟩ : ∃ r : ℝ, 0 < r ∧ rootInv x = r ∧ r * r * v = 1 := by
      refine ⟨(Real.sqrt v)⁻¹, by positivity, ?_, ?_⟩
      · rw [rootInv, hsq, Ideal.rsqrt_coe, if_neg (by linarith), if_neg (by linarith)]
      · have := Real.mul_self_sqrt hv.le
        field_simp
        nlinarith
    obtain ⟨hi, hrv⟩ := hi
    have hq : Ideal.div (rootInv x) (square x) = ((r * r * r : ℝ) : EReal) := by
      rw [hi, hsq, Ideal.div_coe hv.ne', ← EReal.coe_mul]
      congr 1
      field_simp
      nlinarith
    unfold normGrad normGradRef through
    rw [hq, hi, minusHalf_eq, div_width, div_width, coe_mul_sub hr.le,
      show (∑ e, h e * g e * (x e * (r : EReal))) = r * ∑ e, x e * (h e * g e) from by
        rw [coe_mul_sum _ hr.le]
        exact Finset.sum_congr rfl fun e _ => by ac_rfl]
    generalize (∑ e, x e * (h e * g e)) = S
    rw [add_assoc, add_assoc]
    refine congrArg (res + ·) (congrArg₂ (· + ·) (mul_comm _ _) ?_)
    have two (y : EReal) : y + y = ((2 : ℝ) : EReal) * y := by
      rw [show ((2 : ℝ) : EReal) = 1 + 1 from by norm_cast, EReal.right_distrib_of_nonneg zero_le_one zero_le_one, one_mul]
    rw [mul_comm (S * _ * _) (x d), two]
    have e1 : (r : EReal) * (x d * r * (r * S * ((1 / 1024 : ℝ) : EReal))) = ((r * r * r * (1 / 1024) : ℝ) : EReal) * (x d * S) := by
      simp only [EReal.coe_mul]; ac_rfl
    have e2 : ((2 : ℝ) : EReal) * (x d * (S * (((-(1 / 2) : ℝ) : EReal) * ((r * r * r : ℝ) : EReal)) * ((1 / 1024 : ℝ) : EReal)))
        = ((2 * (-(1 / 2) * (r * r * r)) * (1 / 1024) : ℝ) : EReal) * (x d * S) := by
      rw [EReal.coe_mul (2 * _), EReal.coe_mul 2, EReal.coe_mul (-(1 / 2))]; ac_rfl
    rw [e1, e2, ← EReal.neg_mul, ← EReal.coe_neg]
    congr 2
    ring

end Cert.Common

end
-- ==== Proof.Up.Spec.lean ====
/- The gradient of a root-mean-square norm followed by a product with a matrix, for arrays of rows: the gradient of
   the normed rows, of the rows and of the gain. -/
module

public import proofs.«01_k».proof.Proof.Common.Norm
public import proofs.«01_k».proof.Proof.XAttn.Spec

@[expose] public section

noncomputable section

open Idealize.ShloMosaic

namespace Cert.Up

open Cert.Common Cert.XAttn

variable {N : ℕ} (A B : Shape.Idx ⟨2, ![N, 2816]⟩ → EReal) (W : Shape.Idx ⟨2, ![1024, 5632]⟩ → EReal)
  (X R : Shape.Idx ⟨2, ![N, 1024]⟩ → EReal) (g : Fin 1024 → EReal)

/-- Column `n` of row `i` of the product's gradient: the first half from `A`, the second from `B`. -/
def both (i : Fin N) (n : ℕ) : EReal := if n < 2816 then entry A i n else entry B i (n - 2816)

/-- The gradient of the normed row: the product's gradient against the matrix's row. -/
def back (i : Fin N) (d : Fin 1024) : EReal := ∑ n : Fin 5632, both A B i n.val * entry W d n.val

/-- Row `i` of a matrix. -/
def row (i : Fin N) (d : Fin 1024) : EReal := X (ix2 i d)

/-- The gradient of the rows. -/
def dxAt (i : Fin N) (d : Fin 1024) : EReal := normGrad (back A B W i) g (row X i) (R (ix2 i d)) d

/-- The gradient of the gain. -/
def dgAt (d : Fin 1024) : EReal := ∑ i : Fin N, back A B W i d * (X (ix2 i d) * rootInv (row X i))

end Cert.Up

end
-- ==== Proof.Up.Pay.lean ====
/- What each payload of the normed product's gradient kernel is at an index. -/
module

public import proofs.«01_k».proof.Proof.Gen.UpIdeal.Skeleton
public import proofs.«01_k».proof.Proof.Up.Spec

@[expose] public section

set_option maxRecDepth 16384

noncomputable section

open Idealize.ShloMosaic Idealize.ShloMosaic.TcCoe Idealize.SL.Sem

namespace Cert.UpIdeal.Up

open Cert.UpIdeal Cert.UpIdeal.Gen Cert.Up Cert.Common

variable (y : Vec Ideal S512x1408 .bf16) (w : Vec Ideal S1024x1408 .bf16) (a x res : Vec Ideal S512x1024 .f32)
  (g o : Vec Ideal S1x1024 .f32)

/-- The first column block's product. -/
theorem part_first (r : Fin 512) (d : Fin 1024) :
    k0_pay3 y w (ix2 r d) = ∑ n : Fin 1408, y (ix2 r n) * w (ix2 d n) := by
  pointwise [k0_pay3, k0_pay2]

/-- A later column block of the first operand: its product added to the sum so far. -/
theorem part_step (r : Fin 512) (d : Fin 1024) :
    k0_pay4 y w a (ix2 r d) = a (ix2 r d) + ∑ n : Fin 1408, y (ix2 r n) * w (ix2 d n) := by
  pointwise [k0_pay4, k0_pay2]

/-- A column block of the second operand: its product added to the sum so far. -/
theorem part_other (r : Fin 512) (d : Fin 1024) :
    k0_pay7 y w a (ix2 r d) = a (ix2 r d) + ∑ n : Fin 1408, y (ix2 r n) * w (ix2 d n) := by
  pointwise [k0_pay7, k0_pay5]

/-- One over the root of a row's mean square. -/
theorem inv_at (r : Fin 512) : k0_pay8 x (ix2 r 0) = rootInv (row (N := 512) x r) := by
  pointwise [k0_pay8, rootInv, square, width, tiny, row]

/-- The normed row without its gain. -/
theorem normed_at (r : Fin 512) (d : Fin 1024) : k0_pay9 x (ix2 r d) = row (N := 512) x r d * rootInv (row (N := 512) x r) := by
  rw [← inv_at]
  pointwise [k0_pay9, row]

/-- The gain's gradient: what was there and the block's rows' part. -/
theorem gain_at (d : Fin 1024) :
    k0_pay10 a x o (ix2 0 d) = o (ix2 0 d) + ∑ r : Fin 512, a (ix2 r d) * (row (N := 512) x r d * rootInv (row (N := 512) x r)) := by
  simp only [← normed_at]
  pointwise [k0_pay10]

/-- The rows' gradient. -/
theorem grad_at (r : Fin 512) (d : Fin 1024) :
    k0_pay11 a x g res (ix2 r d)
      = normGrad (fun e => a (ix2 r e)) (fun e => g (ix2 0 e)) (row (N := 512) x r) (res (ix2 r d)) d := by
  unfold normGrad
  pointwise [k0_pay11, width]
  simp only [normed_at, inv_at]

end Cert.UpIdeal.Up

end
-- ==== Proof.Up.Arrays.lean ====
/- The two result arrays of the normed product's gradient after the run: the rows' gradient and the gain's. -/
module

public import proofs.«01_k».proof.Proof.Up.Left
public import proofs.«01_k».proof.Proof.Up.Pay

@[expose] public section

set_option maxRecDepth 16384

noncomputable section

open Idealize.ShloMosaic Idealize.ShloMosaic.TcCoe Idealize.SL.Sem
open Idealize.ShloMosaic.Pipeline (Dat)

namespace Cert.UpIdeal.Up

open Cert.UpIdeal Cert.UpIdeal.Gen Cert.Up Cert.Common Cert.XAttn

variable (m : (ℓ : Loc nD τ sig) → Buf (Elt Ideal) ℓ)

/-- Where every window's block stands: a row block for four points, in which the first operand's two column blocks are
    read at the first two and the second operand's at the last two. -/
theorem idx : ∀ t : Fin cfg0.N, win0_0.index t = ![t.val / 4, min (t.val % 4) 1] ∧ win0_1.index t = ![t.val / 4, t.val % 4 - 2]
    ∧ win0_2.index t = ![0, t.val % 4] ∧ win0_3.index t = ![t.val / 4, 0] ∧ win0_4.index t = ![0, 0]
    ∧ win0_5.index t = ![t.val / 4, 0] ∧ win0_6.index t = ![t.val / 4, 0] ∧ win0_7.index t = ![0, 0] :=
  (by decide +kernel : ∀ t : Fin grid0.N, _)

/-- The first half of the product's gradient. -/
abbrev Aarr (c : Dev nD) : FVec Ideal S4096x2816 .bf16 := m ((c : Thread nD τ).loc main_arg0)
/-- The second half of the product's gradient. -/
abbrev Barr (c : Dev nD) : FVec Ideal S4096x2816 .bf16 := m ((c : Thread nD τ).loc main_arg1)
/-- The matrix. -/
abbrev Warr (c : Dev nD) : FVec Ideal S1024x5632 .bf16 := m ((c : Thread nD τ).loc main_arg2)
/-- The rows. -/
abbrev Xarr (c : Dev nD) : FVec Ideal S4096x1024 .f32 := m ((c : Thread nD τ).loc main_arg3)
/-- The gain. -/
abbrev garr (c : Dev nD) : FVec Ideal S1024 .f32 := m ((c : Thread nD τ).loc main_arg4)
/-- What is added to the rows' gradient. -/
abbrev Rarr (c : Dev nD) : FVec Ideal S4096x1024 .f32 := m ((c : Thread nD τ).loc main_arg5)

/-- The first operand's block. -/
theorem blk_a (c : Dev nD) (t : Fin cfg0.N) (ht : t.val % 4 ≤ 1) (r : Fin 512) (n : Fin 1408) (i : Fin 4096)
    (hi : i.val = t.val / 4 * 512 + r.val) :
    (show FVec Ideal S512x1408 .bf16 from iblk m c 0 t) (ix2 r n) = both (Aarr m c) (Barr m c) i (t.val % 4 * 1408 + n.val) := by
  have hm : min (t.val % 4) 1 = t.val % 4 := by omega
  unfold both
  rw [if_pos (by omega), entry_eq _ _ _ (by omega)]
  blk_ext [iblk, V, idx t]

/-- The second operand's block. -/
theorem blk_b (c : Dev nD) (t : Fin cfg0.N) (ht : 2 ≤ t.val % 4) (r : Fin 512) (n : Fin 1408) (i : Fin 4096)
    (hi : i.val = t.val / 4 * 512 + r.val) :
    (show FVec Ideal S512x1408 .bf16 from iblk m c 1 t) (ix2 r n) = both (Aarr m c) (Barr m c) i (t.val % 4 * 1408 + n.val) := by
  unfold both
  rw [if_neg (by omega), entry_eq _ _ _ (by omega)]
  blk_ext [iblk, V, idx t]

/-- The matrix's block. -/
theorem blk_w (c : Dev nD) (t : Fin cfg0.N) (d : Fin 1024) (n : Fin 1408) :
    (show FVec Ideal S1024x1408 .bf16 from iblk m c 2 t) (ix2 d n) = entry (Warr m c) d (t.val % 4 * 1408 + n.val) := by
  rw [entry_eq _ _ _ (by omega)]
  blk_ext [iblk, V, idx t]

/-- The block of rows. -/
theorem blk_x (c : Dev nD) (t : Fin cfg0.N) (r : Fin 512) (d : Fin 1024) (i : Fin 4096) (hi : i.val = t.val / 4 * 512 + r.val) :
    (show FVec Ideal S512x1024 .f32 from iblk m c 3 t) (ix2 r d) = Xarr m c (ix2 i d) := by
  blk_ext [iblk, V, idx t]

/-- The block of what is added. -/
theorem blk_r (c : Dev nD) (t : Fin cfg0.N) (r : Fin 512) (d : Fin 1024) (i : Fin 4096) (hi : i.val = t.val / 4 * 512 + r.val) :
    (show FVec Ideal S512x1024 .f32 from iblk m c 5 t) (ix2 r d) = Rarr m c (ix2 i d) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 4 t) (ix2 0 d) = garr m c (ix1 d) := by
  have h : (show FVec Ideal S1x1024 .f32 from iblk m c 4 t) (ix2 0 d) = (show FVec Ideal S1x1024 .f32 from V m c main_v0) (ix2 0 d) := by
    blk_ext [iblk, idx t]
  rw [h, gain_row]
  pointwise []

/-- The part of the normed row's gradient that comes from column block `s`. -/
def piece (c : Dev nD) (s : ℕ) (i : Fin 4096) (d : Fin 1024) : EReal :=
  ∑ n : Fin 1408, both (Aarr m c) (Barr m c) i (s * 1408 + n.val) * entry (Warr m c) d (s * 1408 + n.val)

/-- The four column blocks make up the normed row's gradient. -/
theorem pieces (c : Dev nD) (i : Fin 4096) (d : Fin 1024) :
    piece m c 0 i d + piece m c 1 i d + piece m c 2 i d + piece m c 3 i d = back (Aarr m c) (Barr m c) (Warr m c) i d := by
  have h := Fin.sum_univ_four (fun s : Fin 4 => piece m c s.val i d)
  refine h.symm.trans ?_
  unfold back piece
  exact Fin.sum_mul_add_congr (S := 4) (n := 1408) fun s k hl => rfl

/-- The first operand's block against the matrix's. -/
theorem piece_a (c : Dev nD) (t : Fin cfg0.N) (ht : t.val % 4 ≤ 1) (r : Fin 512) (d : Fin 1024) (i : Fin 4096)
    (hi : i.val = t.val / 4 * 512 + r.val) :
    (∑ n : Fin 1408, (show FVec Ideal S512x1408 .bf16 from iblk m c 0 t) (ix2 r n)
      * (show FVec Ideal S1024x1408 .bf16 from iblk m c 2 t) (ix2 d n)) = piece m c (t.val % 4) i d :=
  Finset.sum_congr rfl fun n _ => congrArg₂ (· * ·) (blk_a m c t ht r n i hi) (blk_w m c t d n)

/-- The second operand's block against the matrix's. -/
theorem piece_b (c : Dev nD) (t : Fin cfg0.N) (ht : 2 ≤ t.val % 4) (r : Fin 512) (d : Fin 1024) (i : Fin 4096)
    (hi : i.val = t.val / 4 * 512 + r.val) :
    (∑ n : Fin 1408, (show FVec Ideal S512x1408 .bf16 from iblk m c 1 t) (ix2 r n)
      * (show FVec Ideal S1024x1408 .bf16 from iblk m c 2 t) (ix2 d n)) = piece m c (t.val % 4) i d :=
  Finset.sum_congr rfl fun n _ => congrArg₂ (· * ·) (blk_b m c t ht r n i hi) (blk_w m c t d n)

/-- The accumulator after the first column block. -/
theorem sum_one (c : Dev nD) (t : Fin cfg0.N) (h : t.val % 4 = 0) (r : Fin 512) (d : Fin 1024) (i : Fin 4096)
    (hi : i.val = t.val / 4 * 512 + r.val) :
    (outsAt0 m c t.val t.isLt).2.2 (ix2 r d) = piece m c 0 i d := by
  rw [acc_first m c t h]
  refine (part_first _ _ r d).trans ?_
  refine (piece_a m c t (by omega) r d i hi).trans ?_
  rw [h]

/-- The accumulator after the second column block. -/
theorem sum_two (c : Dev nD) (t : Fin cfg0.N) (h : t.val % 4 = 1) (r : Fin 512) (d : Fin 1024) (i : Fin 4096)
    (hi : i.val = t.val / 4 * 512 + r.val) :
    (outsAt0 m c t.val t.isLt).2.2 (ix2 r d) = piece m c 0 i d + piece m c 1 i d := by
  rw [acc_step m c t h]
  refine (part_step _ _ _ r d).trans (congrArg₂ (· + ·) ?_ ?_)
  · exact sum_one m c ⟨t.val - 1, Nat.lt_of_le_of_lt (Nat.sub_le _ _) t.isLt⟩ (show (t.val - 1) % 4 = 0 by omega) r d i
      (show i.val = (t.val - 1) / 4 * 512 + r.val by omega)
  · refine (piece_a m c t (by omega) r d i hi).trans ?_
    rw [h]

/-- The accumulator after the third column block. -/
theorem sum_three (c : Dev nD) (t : Fin cfg0.N) (h : t.val % 4 = 2) (r : Fin 512) (d : Fin 1024) (i : Fin 4096)
    (hi : i.val = t.val / 4 * 512 + r.val) :
    (outsAt0 m c t.val t.isLt).2.2 (ix2 r d) = piece m c 0 i d + piece m c 1 i d + piece m c 2 i d := by
  rw [acc_other m c t (by omega)]
  refine (part_other _ _ _ r d).trans (congrArg₂ (· + ·) ?_ ?_)
  · exact sum_two m c ⟨t.val - 1, Nat.lt_of_le_of_lt (Nat.sub_le _ _) t.isLt⟩ (show (t.val - 1) % 4 = 1 by omega) r d i
      (show i.val = (t.val - 1) / 4 * 512 + r.val by omega)
  · refine (piece_b m c t (by omega) r d i hi).trans ?_
    rw [h]

/-- The accumulator after the last column block is the normed row's gradient. -/
theorem sum_all (c : Dev nD) (t : Fin cfg0.N) (h : t.val % 4 = 3) (r : Fin 512) (d : Fin 1024) (i : Fin 4096)
    (hi : i.val = t.val / 4 * 512 + r.val) :
    (outsAt0 m c t.val t.isLt).2.2 (ix2 r d) = back (Aarr m c) (Barr m c) (Warr m c) i d := by
  rw [acc_other m c t (by omega)]
  refine (part_other _ _ _ r d).trans ((congrArg₂ (· + ·) ?_ ?_).trans (pieces m c i d))
  · exact sum_three m c ⟨t.val - 1, Nat.lt_of_le_of_lt (Nat.sub_le _ _) t.isLt⟩ (show (t.val - 1) % 4 = 2 by omega) r d i
      (show i.val = (t.val - 1) / 4 * 512 + r.val by omega)
  · refine (piece_b m c t (by omega) r d i hi).trans ?_
    rw [h]

/-- A block's row is the array's. -/
theorem row_blk (c : Dev nD) (t : Fin cfg0.N) (r : Fin 512) (i : Fin 4096) (hi : i.val = t.val / 4 * 512 + r.val) :
    row (N := 512) (show FVec Ideal S512x1024 .f32 from iblk m c 3 t) r = row (N := 4096) (Xarr m c) i :=
  funext fun d => blk_x m c t r d i hi

/-- A block of the rows' gradient that is written out holds the gradient of its rows. -/
theorem dx_blk (c : Dev nD) (t : Fin cfg0.N) (h : t.val % 4 = 3) (r : Fin 512) (d : Fin 1024) (i : Fin 4096)
    (hi : i.val = t.val / 4 * 512 + r.val) :
    (outsAt0 m c t.val t.isLt).1 (ix2 r d)
      = dxAt (Aarr m c) (Barr m c) (Warr m c) (Xarr m c) (Rarr m c) (fun e => garr m c (ix1 e)) i d := by
  rw [dx_last m c t h]
  refine (grad_at _ _ _ _ r d).trans ?_
  unfold dxAt
  rw [show (fun e => (outsAt0 m c t.val t.isLt).2.2 (ix2 r e)) = back (Aarr m c) (Barr m c) (Warr m c) i from
    funext fun e => sum_all m c t h r e i hi, row_blk m c t r i hi]
  exact congrArg₂ (fun g z => normGrad _ g _ z _) (funext fun e => blk_g m c t e) (blk_r m c t r d i hi)

/-- After the run the first result holds every row's gradient. -/
theorem final_dx (c : Dev nD) : (dats m 0 c).arrAt 6 (cfgs 0).N
    = fun i : S4096x1024.Idx => dxAt (Aarr m c) (Barr m c) (Warr m c) (Xarr m c) (Rarr m c) (fun e => garr m c (ix1 e)) (i 0) (i 1) := by
  have hf : ∀ t : Fin cfg0.N, (cfg0.win 6).flush t = true → t.val % 4 = 3 := by decide +kernel
  refine (dats m 0 c).arrAt_eq_of_covers 6 _ (by decide +kernel) fun t hfl y => ?_
  have h3 := hf t hfl
  have ht : t.val < 32 := lt_of_lt_of_eq t.isLt N_0
  have hy : (y 0 : ℕ) < 512 := (y 0).isLt
  have hlt : t.val / 4 * 512 + (y 0 : ℕ) < 4096 := by omega
  blk_simp [idx t]
  rw [after0_6, eq_ix2 y, dx_blk m c t h3 (y 0) (y 1) ⟨t.val / 4 * 512 + (y 0 : ℕ), hlt⟩ rfl]
  have e0 : (⟨t.val / 4 * 512 + (y 0 : ℕ), hlt⟩ : Fin 4096) = (win0_6.blk t).view.emb (ix2 (y 0) (y 1)) 0 :=
    Fin.ext (by blk_simp [idx t])
  have e1 : (y 1 : Fin 1024) = (win0_6.blk t).view.emb (ix2 (y 0) (y 1)) 1 := Fin.ext (by blk_simp [idx t])
  exact congrArg₂ (dxAt (Aarr m c) (Barr m c) (Warr m c) (Xarr m c) (Rarr m c) (fun e => garr m c (ix1 e))) e0 e1

/-- Row `n`'s part of the gain's gradient. -/
def gainRow (c : Dev nD) (d : Fin 1024) (n : ℕ) : EReal :=
  if h : n < 4096 then back (Aarr m c) (Barr m c) (Warr m c) ⟨n, h⟩ d
    * (Xarr m c (ix2 ⟨n, h⟩ d) * rootInv (row (N := 4096) (Xarr m c) ⟨n, h⟩)) else 0

/-- Point `p`'s part of the gain's gradient: its rows' parts at a row block's last point, nothing elsewhere. -/
def gainPart (c : Dev nD) (d : Fin 1024) (p : ℕ) : EReal :=
  if p % 4 = 3 then ∑ r : Fin 512, gainRow m c d (p / 4 * 512 + r.val) else 0

/-- The gain's gradient at its first point is zero. -/
theorem zeros (j : S1x1024.Idx) : k0_pay1 (F := Ideal) j = 0 := by
  pointwise [k0_pay1]

/-- A point adds its part to the gain's gradient. -/
theorem gain_step (c : Dev nD) (t : Fin cfg0.N) (h : ¬t.val % 32 = 0) (d : Fin 1024) :
    (outsAt0 m c t.val t.isLt).2.1 (ix2 0 d)
      = (outsAt0 m c (t.val - 1) (Nat.lt_of_le_of_lt (Nat.sub_le _ _) t.isLt)).2.1 (ix2 0 d) + gainPart m c d t.val := by
  have ht : t.val < 32 := lt_of_lt_of_eq t.isLt N_0
  unfold gainPart
  by_cases h3 : t.val % 4 = 3
  · rw [dg_last m c t h3, if_pos h3]
    refine (gain_at _ _ _ d).trans (congrArg _ (Finset.sum_congr rfl fun r _ => ?_))
    have hlt : t.val / 4 * 512 + r.val < 4096 := by omega
    unfold gainRow
    rw [dif_pos hlt, sum_all m c t h3 r d ⟨_, hlt⟩ rfl, row_blk m c t r ⟨_, hlt⟩ rfl]
    rfl
  · rw [dg_keep m c t h h3, if_neg h3, add_zero]

/-- All the points' parts together are the sum over all rows. -/
theorem gain_sum (c : Dev nD) (d : Fin 1024) :
    (∑ p : Fin 32, gainPart m c d p.val) = dgAt (Aarr m c) (Barr m c) (Warr m c) (Xarr m c) d := by
  have h1 : (∑ s : Fin 8, ∑ k : Fin 4, gainPart m c d (s.val * 4 + k.val)) = ∑ p : Fin 32, gainPart m c d p.val :=
    Fin.sum_mul_add_congr (S := 8) (n := 4) fun s k hl => rfl
  rw [← h1]
  have h2 : ∀ s : Fin 8, (∑ k : Fin 4, gainPart m c d (s.val * 4 + k.val))
      = ∑ r : Fin 512, gainRow m c d (s.val * 512 + r.val) := fun s => by
    rw [Fin.sum_univ_four]
    have e : ∀ k : Fin 4, ¬k.val = 3 → gainPart m c d (s.val * 4 + k.val) = 0 := fun k hk => if_neg (by omega)
    rw [e 0 (by decide), e 1 (by decide), e 2 (by decide), add_zero, add_zero, zero_add]
    refine (if_pos (show (s.val * 4 + 3) % 4 = 3 by omega)).trans (Finset.sum_congr rfl fun r _ => congrArg (gainRow m c d) ?_)
    show (s.val * 4 + 3) / 4 * 512 + r.val = _
    omega
  simp only [h2]
  unfold dgAt
  refine Fin.sum_mul_add_congr (S := 8) (n := 512) fun s k hl => ?_
  unfold gainRow
  rw [dif_pos hl]

/-- The last grid point. -/
def lastPt : Fin cfg0.N := ⟨31, lt_of_lt_of_eq (by decide) N_0.symm⟩

/-- After the run the second result holds the gain's gradient. -/
theorem final_dg (c : Dev nD) : (dats m 0 c).arrAt 7 (cfgs 0).N
    = fun i : S1x1024.Idx => dgAt (Aarr m c) (Barr m c) (Warr m c) (Xarr m c) (i 1) := by
  refine (dats m 0 c).arrAt_eq_of_after_last 7 lastPt (by decide +kernel) _ fun j => ?_
  blk_simp [idx lastPt]
  rw [after0_7, Pipeline.eq_sum_fin_of_reset_step_apply_last (fun n h => (outsAt0 m c n h).2.1) 32 (fun _ => 0)
    (fun p j => gainPart m c (j 1) p.val)
    (fun t h j => by
      rw [dg_first m c t h, zeros]
      unfold gainPart
      rw [if_neg (by omega), add_zero])
    (fun t h j => by
      have e : j = ix2 0 (j 1) := by rw [eq_ix2 j]; exact congrArg (fun a => ix2 a _) (Subsingleton.elim _ _)
      rw [e]
      exact gain_step m c t h (j 1))
    (le_of_eq N_0) lastPt rfl j, zero_add]
  exact gain_sum m c (j 1)

end Cert.UpIdeal.Up

end
-- ==== Proof.Up.Ref.lean ====
/- The reference's intermediate arrays at an index, in the words of the norm's gradient on one row. -/
module

public import proofs.«01_k».proof.Proof.Gen.UpReferenceIdeal.Read
public import proofs.«01_k».proof.Proof.Up.Spec
public import Idealize.ShloMosaic.Lib.Pointwise

@[expose] public section

set_option maxRecDepth 16384

noncomputable section

open Idealize.ShloMosaic Idealize.ShloMosaic.TcCoe Idealize.SL.Sem

namespace Cert.UpReferenceIdeal.Up

open Cert.UpReferenceIdeal Cert.UpReferenceIdeal.Gen Cert.UpReferenceIdeal.Read Cert.Up Cert.Common Cert.XAttn

variable (A B : FVec Ideal S4096x2816 .bf16) (W : FVec Ideal S1024x5632 .bf16) (X : FVec Ideal S4096x1024 .f32)
  (g : FVec Ideal S1024 .f32) (R : FVec Ideal S4096x1024 .f32)

/-- The mean square and a little more. -/
theorem square_at (i : Fin 4096) : val_main_v9 (F := Ideal) X (ix2 i 0) = square (row (N := 4096) X i) := by
  pointwise [val_main_v9, val_main_v8, val_main_cst_1, val_main_v7, val_main_v6, val_main_cst_0, val_main_v5, val_main_v4, val_main_cst,
    val_main_v3, square, width, tiny, row]

/-- One over its root. -/
theorem rootInv_at (i : Fin 4096) : val_main_v10 (F := Ideal) X (ix2 i 0) = rootInv (row (N := 4096) X i) := by
  unfold rootInv
  rw [← square_at]
  pointwise [val_main_v10]

/-- The two halves of the product's gradient side by side. -/
theorem both_at (i : Fin 4096) (n : Fin 5632) : val_main_v2 (F := Ideal) A B (ix2 i n) = both (N := 4096) A B i n.val := by
  unfold both
  by_cases h : n.val < 2816
  · rw [if_pos h, entry_eq _ _ _ h]
    pointwise [val_main_v2, val_main_v0, val_main_v1]
    exact dif_pos h
  · rw [if_neg h, entry_eq _ _ _ (by omega)]
    pointwise [val_main_v2, val_main_v0, val_main_v1]
    exact dif_neg h

/-- The normed row's gradient. -/
theorem back_at (i : Fin 4096) (d : Fin 1024) : val_main_v21 (F := Ideal) A B W (ix2 i d) = back (N := 4096) A B W i d := by
  unfold back
  simp only [← both_at]
  pointwise [val_main_v21, val_main_v19]
  exact Finset.sum_congr rfl fun n _ => congrArg _ (entry_eq _ _ _ _).symm

/-- The gain's gradient. -/
theorem dg_at (d : Fin 1024) : val_main_v43 (F := Ideal) A B W X (ix2 0 d) = dgAt (N := 4096) A B W X d := by
  unfold dgAt
  simp only [← rootInv_at, ← back_at]
  pointwise [val_main_v43, val_main_v27, val_main_cst_4, val_main_v24, val_main_v23, val_main_cst_3, val_main_v22, val_main_v15, val_main_v14]
  refine (Fin.sum_univ_one _).trans (Finset.sum_congr rfl fun i _ => ?_)
  exact mul_comm (G := EReal) _ _

/-- The gradient through the mean square. -/
theorem through_at (i : Fin 4096) (d : Fin 1024) : val_main_v38 (F := Ideal) A B W X g (ix2 i d)
    = through (back (N := 4096) A B W i) (fun e => g (ix1 e)) (row (N := 4096) X i) := by
  unfold through
  simp only [← rootInv_at, ← square_at, ← back_at]
  pointwise [val_main_v38, val_main_v37, val_main_cst_7, val_main_v36, val_main_v35, val_main_cst_6, val_main_v34, val_main_v13, val_main_v12,
    val_main_cst_2, val_main_v11, val_main_v30, val_main_v29, val_main_cst_5, val_main_v28, val_main_v26, val_main_v25, val_main_v16,
    row, width, minusHalf]
  exact Fin.sum_univ_one _

/-- The rows' gradient. -/
theorem dx_at (i : Fin 4096) (d : Fin 1024) : val_main_v42 (F := Ideal) A B W X g R (ix2 i d)
    = dxAt (N := 4096) A B W X R (fun e => g (ix1 e)) i d := by
  unfold dxAt
  rw [normGrad_eq]
  unfold normGradRef
  rw [← rootInv_at, ← back_at, ← through_at A B W X g i d]
  pointwise [val_main_v42, val_main_v41, val_main_v40, val_main_v39, val_main_v33, val_main_v32, val_main_v31, val_main_v26, val_main_v25,
    val_main_v16, row]

/-- The first result: the rows' gradient. -/
theorem dx_meet : val_main_v42 (F := Ideal) A B W X g R
    = fun i : S4096x1024.Idx => dxAt (N := 4096) A B W X R (fun e => g (ix1 e)) (i 0) (i 1) := by
  funext i
  rw [eq_ix2 i]
  exact dx_at A B W X g R (i 0) (i 1)

/-- The second result: the gain's gradient. -/
theorem dg_meet : val_main_v43 (F := Ideal) A B W X = fun i : S1x1024.Idx => dgAt (N := 4096) A B W X (i 1) := by
  funext i
  have e : i = ix2 0 (i 1) := by rw [eq_ix2 i]; exact congrArg (fun a => ix2 a _) (Subsingleton.elim _ _)
  rw [e]
  exact dg_at A B W X (i 1)

end Cert.UpReferenceIdeal.Up

end
-- ==== Proof.Act.Spec.lean ====
/- The gradient of a gated activation behind a causal convolution of three taps, for one column of the gate and one of
   the value: the convolution, its gradients and the gate's. -/
module

public import proofs.«01_k».proof.Proof.Common.Reals

@[expose] public section

noncomputable section

open Idealize.ShloMosaic

namespace Cert.Act

open Cert.Common

/-- A column moved down by `k` rows, zero above. -/
def before (k : ℕ) (x : Fin 4096 → EReal) (r : Fin 4096) : EReal :=
  if h : k ≤ r.val then x ⟨r.val - k, lt_of_le_of_lt (Nat.sub_le _ _) r.isLt⟩ else 0

/-- A column moved up by `k` rows, zero below. -/
def behind (k : ℕ) (y : Fin 4096 → EReal) (r : Fin 4096) : EReal :=
  if h : r.val + k < 4096 then y ⟨r.val + k, h⟩ else 0

/-- The convolution: every row and the two before it, each by its tap. -/
def conv (w : Fin 3 → EReal) (x : Fin 4096 → EReal) (r : Fin 4096) : EReal :=
  w 0 * before 2 x r + w 1 * before 1 x r + w 2 * x r

/-- The convolution's gradient: every row and the two behind it, each by its tap. -/
def convGrad (w : Fin 3 → EReal) (y : Fin 4096 → EReal) (r : Fin 4096) : EReal :=
  w 2 * y r + w 0 * behind 2 y r + w 1 * behind 1 y r

/-- A tap's gradient: the sum over all rows of the gradient by the row the tap met. -/
def tapGrad (k : ℕ) (x y : Fin 4096 → EReal) : EReal := ∑ r : Fin 4096, y r * before k x r

/-- One half. -/
def half : EReal := Ideal.ofBits .f32 0x3F000000#32
/-- One. -/
def one : EReal := Ideal.ofBits .f32 0x3F800000#32

/-- The logistic function through the hyperbolic tangent. -/
def sigm (z : EReal) : EReal := half * Ideal.tanh (half * z) + half

/-- The value's gradient. -/
def valGrad (d g : EReal) : EReal := d * g * sigm g

/-- The gate's gradient. -/
def gateGrad (d g u : EReal) : EReal := d * u * (sigm g * (one + g * (one - sigm g)))

/-- The value's gradient in every row. -/
def valCol (wg : Fin 3 → EReal) (g d : Fin 4096 → EReal) (r : Fin 4096) : EReal := valGrad (d r) (conv wg g r)

/-- The gate's gradient in every row. -/
def gateCol (wu wg : Fin 3 → EReal) (u g d : Fin 4096 → EReal) (r : Fin 4096) : EReal :=
  gateGrad (d r) (conv wg g r) (conv wu u r)

/-- A column of a matrix. -/
def col {M N : ℕ} (x : Shape.Idx ⟨2, ![M, N]⟩ → EReal) (n : Fin N) (i : Fin M) : EReal := x (ix2 i n)

/-- A column's place in the first half. -/
def low (n : Fin 2816) : Fin 5632 := ⟨n.val, by omega⟩
/-- A column's place in the second half. -/
def high (n : Fin 2816) : Fin 5632 := ⟨n.val + 2816, by omega⟩
/-- A column of the first half. -/
def uCol {M : ℕ} (x : Shape.Idx ⟨2, ![M, 5632]⟩ → EReal) (n : Fin 2816) (i : Fin M) : EReal := x (ix2 i (low n))
/-- A column of the second half. -/
def gCol {M : ℕ} (x : Shape.Idx ⟨2, ![M, 5632]⟩ → EReal) (n : Fin 2816) (i : Fin M) : EReal := x (ix2 i (high n))

variable (P : Shape.Idx ⟨2, ![4096, 5632]⟩ → EReal) (C : Shape.Idx ⟨2, ![3, 5632]⟩ → EReal) (D : Shape.Idx ⟨2, ![4096, 2816]⟩ → EReal)

/-- The value's input gradient. -/
def duAt (i : Fin 4096) (n : Fin 2816) : EReal := convGrad (uCol C n) (valCol (gCol C n) (gCol P n) (col D n)) i
/-- The gate's input gradient. -/
def dgAt (i : Fin 4096) (n : Fin 2816) : EReal := convGrad (gCol C n) (gateCol (uCol C n) (gCol C n) (uCol P n) (gCol P n) (col D n)) i
/-- The gradient of the value's tap `j`. -/
def dwuAt (j : Fin 3) (n : Fin 2816) : EReal := tapGrad (2 - j.val) (uCol P n) (valCol (gCol C n) (gCol P n) (col D n))
/-- The gradient of the gate's tap `j`. -/
def dwgAt (j : Fin 3) (n : Fin 2816) : EReal :=
  tapGrad (2 - j.val) (gCol P n) (gateCol (uCol C n) (gCol C n) (uCol P n) (gCol P n) (col D n))

end Cert.Act

end
-- ==== Proof.Act.Pay.lean ====
/- What each payload of the gated activation's gradient kernel is at an index. -/
module

public import proofs.«01_k».proof.Proof.Gen.ActIdeal.Skeleton
public import proofs.«01_k».proof.Proof.Act.Spec
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ActIdeal.Act

open Cert.ActIdeal Cert.ActIdeal.Gen Cert.Act

/-- A rotation along the rows at an index. -/
theorem rot (v : FVec Ideal S4096x128 .f32) (n : BitVec 32) (k : ℕ) (hk : n.toNat = k) (h : S4096x128.Rotates 0 none)
    (r q : Fin 4096) (b : Fin 128) (hq : q.val = (r.val + 4096 - k % 4096) % 4096) :
    dynamicRotate 0 n none v h (ix2 r b) = v (ix2 q b) := by
  refine dynamicRotate_apply 0 n v h _ _ fun a => ?_
  match a with
  | ⟨0, _⟩ => subst hk; exact hq
  | ⟨1, _⟩ => rfl

/-- A selection by a comparison from below with a small number. -/
theorem sel_ge (k : Fin 3) (r : ℕ) (hr : r < 8) (a b : EReal) :
    Scalar.select (IntOp.cmpi CmpIPredicate.sge (BitVec.ofNat 32 r) (BitVec.ofNat 32 k.val)) a b = if k.val ≤ r then a else b := by
  have h : ∀ (k : Fin 3) (r : Fin 8), IntOp.cmpi CmpIPredicate.sge (BitVec.ofNat 32 r.val) (BitVec.ofNat 32 k.val)
      = if k.val ≤ r.val then 1#1 else 0#1 := by decide
  have h' := h k ⟨r, hr⟩
  dsimp only at h'
  rw [h']
  split <;> rfl

/-- A selection by a comparison from above with a small number. -/
theorem sel_lt (k : Fin 8) (r : ℕ) (hr : r < 8) (a b : EReal) :
    Scalar.select (IntOp.cmpi CmpIPredicate.slt (BitVec.ofNat 32 r) (BitVec.ofNat 32 k.val)) a b = if r < k.val then a else b := by
  have h : ∀ (k r : Fin 8), IntOp.cmpi CmpIPredicate.slt (BitVec.ofNat 32 r.val) (BitVec.ofNat 32 k.val)
      = if r.val < k.val then 1#1 else 0#1 := by decide
  have h' := h k ⟨r, hr⟩
  dsimp only at h'
  rw [h']
  split <;> rfl

/-- Moving a column down, in two pieces. -/
theorem down_pieces (k : ℕ) (hk3 : k < 3) (x : Fin 4096 → EReal) (R : Fin 4096 → EReal) (r : Fin 4096)
    (hR : ∀ h : k ≤ r.val, R r = x ⟨r.val - k, lt_of_le_of_lt (Nat.sub_le _ _) r.isLt⟩) :
    (if h : r.val < 8 then Scalar.select (IntOp.cmpi CmpIPredicate.sge (BitVec.ofNat 32 r.val) (BitVec.ofNat 32 k)) (R r) 0
      else R r) = before k x r := by
  unfold before
  by_cases h : r.val < 8
  · rw [dif_pos h, sel_ge ⟨k, hk3⟩ r.val h]
    by_cases hk : k ≤ r.val
    · rw [if_pos hk, dif_pos hk, hR hk]
    · rw [if_neg hk, dif_neg hk]
  · have hk : k ≤ r.val := by omega
    rw [dif_neg h, dif_pos hk, hR hk]

/-- Moving a column up, in two pieces. -/
theorem up_pieces (k j : ℕ) (hk3 : k < 3) (hj8 : j < 8) (hj : j + k = 8) (y : Fin 4096 → EReal) (R : Fin 4096 → EReal) (r : Fin 4096)
    (hR : ∀ h : r.val + k < 4096, R r = y ⟨r.val + k, h⟩) (q : ¬r.val < 4088 → Fin 4096) (hq : ∀ h, q h = r) :
    (if h : r.val < 4088 then R r
      else Scalar.select (IntOp.cmpi CmpIPredicate.slt (BitVec.ofNat 32 (r.val - 4088)) (BitVec.ofNat 32 j)) (R (q h)) 0)
      = behind k y r := by
  unfold behind
  by_cases h : r.val < 4088
  · have hk : r.val + k < 4096 := by omega
    rw [dif_pos h, dif_pos hk, hR hk]
  · rw [dif_neg h, hq, sel_lt ⟨j, hj8⟩ _ (by omega)]
    by_cases hk : r.val + k < 4096
    · rw [if_pos (by dsimp only; omega), dif_pos hk, hR hk]
    · rw [if_neg (by dsimp only; omega), dif_neg hk]

/-- The value's rows moved down by two. -/
theorem down2_at (x : Vec Ideal S4096x128 .bf16) (r : Fin 4096) (b : Fin 128) :
    k0_pay5 x (ix2 r b) = before 2 (fun i => x (ix2 i b)) r := by
  unfold k0_pay5
  generalize hR : dynamicRotate 0 2#32 none (k0_pay3 x) rotates_S4096x128_d0 = R
  have hq : ∀ h : 2 ≤ r.val, R (ix2 r b) = x (ix2 ⟨r.val - 2, lt_of_le_of_lt (Nat.sub_le _ _) r.isLt⟩ b) := fun h => by
    rw [← hR, rot _ 2#32 2 rfl _ r ⟨r.val - 2, lt_of_le_of_lt (Nat.sub_le _ _) r.isLt⟩ b (by dsimp only; omega)]
    pointwise [k0_pay3]
  pointwise []
  by_cases h : r.val < 8
  · rw [dif_pos h]
    refine Eq.trans ?_ (down_pieces 2 (by decide) (fun i => x (ix2 i b)) (fun i => R (ix2 i b)) r hq)
    rw [dif_pos h]
  · rw [dif_neg h]
    refine Eq.trans ?_ (down_pieces 2 (by decide) (fun i => x (ix2 i b)) (fun i => R (ix2 i b)) r hq)
    rw [dif_neg h]
    exact congrArg (fun i => R (ix2 i b)) (Fin.ext (by dsimp only; omega))

/-- The value's rows moved down by one. -/
theorem down1_at (x : Vec Ideal S4096x128 .bf16) (r : Fin 4096) (b : Fin 128) :
    k0_pay6 x (ix2 r b) = before 1 (fun i => x (ix2 i b)) r := by
  unfold k0_pay6
  generalize hR : dynamicRotate 0 1#32 none (k0_pay3 x) rotates_S4096x128_d0 = R
  have hq : ∀ h : 1 ≤ r.val, R (ix2 r b) = x (ix2 ⟨r.val - 1, lt_of_le_of_lt (Nat.sub_le _ _) r.isLt⟩ b) := fun h => by
    rw [← hR, rot _ 1#32 1 rfl _ r ⟨r.val - 1, lt_of_le_of_lt (Nat.sub_le _ _) r.isLt⟩ b (by dsimp only; omega)]
    pointwise [k0_pay3]
  pointwise []
  by_cases h : r.val < 8
  · rw [dif_pos h]
    refine Eq.trans ?_ (down_pieces 1 (by decide) (fun i => x (ix2 i b)) (fun i => R (ix2 i b)) r hq)
    rw [dif_pos h]
  · rw [dif_neg h]
    refine Eq.trans ?_ (down_pieces 1 (by decide) (fun i => x (ix2 i b)) (fun i => R (ix2 i b)) r hq)
    rw [dif_neg h]
    exact congrArg (fun i => R (ix2 i b)) (Fin.ext (by dsimp only; omega))

/-- The gate's rows moved down by two. -/
theorem down2_gate (x : Vec Ideal S4096x128 .bf16) (r : Fin 4096) (b : Fin 128) :
    k0_pay7 x (ix2 r b) = before 2 (fun i => x (ix2 i b)) r := down2_at x r b

/-- The gate's rows moved down by one. -/
theorem down1_gate (x : Vec Ideal S4096x128 .bf16) (r : Fin 4096) (b : Fin 128) :
    k0_pay8 x (ix2 r b) = before 1 (fun i => x (ix2 i b)) r := down1_at x r b

/-- The first two parts of a convolution's gradient. -/
theorem back_two (y : FVec Ideal S4096x128 .f32) (w2 w0 : Vec Ideal S1x128 .f32) (r : Fin 4096) (b : Fin 128) :
    k0_pay20 y w2 w0 (ix2 r b) = w2 (ix2 0 b) * y (ix2 r b) + w0 (ix2 0 b) * behind 2 (fun i => y (ix2 i b)) r := by
  unfold k0_pay20
  generalize hR : dynamicRotate 0 4094#32 none y rotates_S4096x128_d0 = R
  have hq : ∀ h : r.val + 2 < 4096, R (ix2 r b) = y (ix2 ⟨r.val + 2, h⟩ b) := fun h => by
    rw [← hR, rot _ 4094#32 4094 rfl _ r ⟨r.val + 2, h⟩ b (by dsimp only; omega)]
  rw [← up_pieces 2 6 (by decide) (by decide) rfl (fun i => y (ix2 i b)) (fun i => R (ix2 i b)) r hq (fun h => ⟨4088 + (r.val - 4088), by omega⟩)
    (fun h => Fin.ext (by dsimp only; omega))]
  pointwise []

/-- The third part of a convolution's gradient. -/
theorem back_three (y a : FVec Ideal S4096x128 .f32) (w1 : Vec Ideal S1x128 .f32) (r : Fin 4096) (b : Fin 128) :
    k0_pay2 a w1 (k0_pay23 y) (k0_pay24 y) (ix2 r b) = a (ix2 r b) + w1 (ix2 0 b) * behind 1 (fun i => y (ix2 i b)) r := by
  have hq : ∀ h : r.val + 1 < 4096, k0_pay22 y (ix2 r b) = y (ix2 ⟨r.val + 1, h⟩ b) := fun h =>
    rot _ 4095#32 4095 rfl rotates_S4096x128_d0 r ⟨r.val + 1, h⟩ b (by dsimp only; omega)
  unfold k0_pay2 k0_pay23 k0_pay24
  generalize k0_pay22 y = R at hq ⊢
  rw [← up_pieces 1 7 (by decide) (by decide) rfl (fun i => y (ix2 i b)) (fun i => R (ix2 i b)) r hq (fun h => ⟨4088 + (r.val - 4088), by omega⟩)
    (fun h => Fin.ext (by dsimp only; omega))]
  pointwise []

/-- The whole of a convolution's gradient. -/
theorem back_all (y : FVec Ideal S4096x128 .f32) (w0 w1 w2 : Vec Ideal S1x128 .f32) (r : Fin 4096) (b : Fin 128) :
    k0_pay16 y w2 w0 w1 (ix2 r b) = w2 (ix2 0 b) * y (ix2 r b) + w0 (ix2 0 b) * behind 2 (fun i => y (ix2 i b)) r
      + w1 (ix2 0 b) * behind 1 (fun i => y (ix2 i b)) r := by
  have e : k0_pay18 (k0_pay16 y w2 w0 w1) = k0_pay2 (k0_pay20 y w2 w0) w1 (k0_pay23 y) (k0_pay24 y) := rfl
  have h := congrFun e (ix2 r b)
  rw [back_three, back_two] at h
  exact h

/-- The convolution of the gate. -/
theorem gate_at (v3 v30 v39 : FVec Ideal S4096x128 .f32) (w0 w1 w2 : Vec Ideal S1x128 .f32) (r : Fin 4096) (b : Fin 128) :
    k0_pay9 v3 v30 v39 w0 w1 w2 (ix2 r b)
      = w0 (ix2 0 b) * v30 (ix2 r b) + w1 (ix2 0 b) * v39 (ix2 r b) + w2 (ix2 0 b) * v3 (ix2 r b) := by
  pointwise [k0_pay9]

/-- The gate's logistic function. -/
theorem sigm_at (v3 v30 v39 : FVec Ideal S4096x128 .f32) (w0 w1 w2 : Vec Ideal S1x128 .f32) (r : Fin 4096) (b : Fin 128) :
    k0_pay10 v3 v30 v39 w0 w1 w2 (ix2 r b) = sigm (k0_pay9 v3 v30 v39 w0 w1 w2 (ix2 r b)) := by
  generalize hg : k0_pay9 v3 v30 v39 w0 w1 w2 = g
  unfold k0_pay10
  rw [hg]
  pointwise [sigm, half]

/-- The value's gradient. -/
theorem val_at (v3 v30 v39 : FVec Ideal S4096x128 .f32) (w0 w1 w2 : Vec Ideal S1x128 .f32) (d : Vec Ideal S4096x128 .bf16)
    (r : Fin 4096) (b : Fin 128) :
    k0_pay12 v3 v30 v39 w0 w1 w2 d (ix2 r b) = valGrad (d (ix2 r b)) (k0_pay9 v3 v30 v39 w0 w1 w2 (ix2 r b)) := by
  unfold valGrad
  rw [← sigm_at]
  pointwise [k0_pay12, k0_pay11]

/-- The gate's gradient. -/
theorem gateGrad_at (v1 v3 v12 v21 v30 v39 : FVec Ideal S4096x128 .f32) (u0 u1 u2 w0 w1 w2 : Vec Ideal S1x128 .f32)
    (d : Vec Ideal S4096x128 .bf16) (r : Fin 4096) (b : Fin 128) :
    k0_pay13 v1 v3 v12 v21 v30 v39 u0 u1 u2 w0 w1 w2 d (ix2 r b) = gateGrad (d (ix2 r b)) (k0_pay9 v3 v30 v39 w0 w1 w2 (ix2 r b))
      (u0 (ix2 0 b) * v12 (ix2 r b) + u1 (ix2 0 b) * v21 (ix2 r b) + u2 (ix2 0 b) * v1 (ix2 r b)) := by
  unfold gateGrad
  rw [← sigm_at]
  pointwise [k0_pay13, k0_pay11, one]

/-- A tap's gradient. -/
theorem tap_at (v3 v80 : FVec Ideal S4096x128 .f32) (b : Fin 128) :
    k0_pay1 v3 v80 (ix2 0 b) = ∑ r : Fin 4096, v80 (ix2 r b) * v3 (ix2 r b) := by
  pointwise [k0_pay1]

end Cert.ActIdeal.Act

end
-- ==== Proof.Act.Left.lean ====
/- What a grid point of the gated activation's gradient leaves in its four output blocks. -/
module

public import proofs.«01_k».proof.Proof.Gen.ActIdeal.Value
public import proofs.«01_k».proof.Proof.Act.Pay
public import Idealize.ShloMosaic.Lib.Pipeline.ValueKit

@[expose] public section

set_option maxRecDepth 16384

noncomputable section

open Idealize.ShloMosaic Idealize.ShloMosaic.TcCoe Idealize.SL.Sem

namespace Cert.ActIdeal.Act

open Cert.ActIdeal Cert.ActIdeal.Gen Cert.Act

variable (x0 x1 : Vec Ideal S4096x128 .bf16) (x2 x3 : Vec Ideal S3x128 .f32) (x4 : Vec Ideal S4096x128 .bf16)

/-- A load of the whole block. -/
theorem whole (x : Vec Ideal S4096x128 .bf16) : View.ld x r0_0 = x := by
  refine View.ld_unit_zero ?_ _ x
  funext a
  match a with
  | ⟨0, _⟩ => rfl
  | ⟨1, _⟩ => rfl

/-- The first tap's row. -/
theorem tap0 (w : Vec Ideal S3x128 .f32) (b : Fin 128) : View.ld w r0_1 (ix2 0 b) = w (ix2 0 b) :=
  congrArg w (funext fun a => match a with
    | ⟨0, _⟩ => rfl
    | ⟨1, _⟩ => Fin.ext (show 0 + 1 * b.val = b.val by omega))

/-- The second tap's row. -/
theorem tap1 (w : Vec Ideal S3x128 .f32) (b : Fin 128) : View.ld w r0_2 (ix2 0 b) = w (ix2 1 b) :=
  congrArg w (funext fun a => match a with
    | ⟨0, _⟩ => rfl
    | ⟨1, _⟩ => Fin.ext (show 0 + 1 * b.val = b.val by omega))

/-- The third tap's row. -/
theorem tap2 (w : Vec Ideal S3x128 .f32) (b : Fin 128) : View.ld w r0_3 (ix2 0 b) = w (ix2 2 b) :=
  congrArg w (funext fun a => match a with
    | ⟨0, _⟩ => rfl
    | ⟨1, _⟩ => Fin.ext (show 0 + 1 * b.val = b.val by omega))

/-- The gate's convolution in a block. -/
theorem gate_blk (r : Fin 4096) (b : Fin 128) :
    k0_pay9 (k0_pay26 x0 x1 x2 x3 x4) (k0_pay29 x0 x1 x2 x3 x4) (k0_pay30 x0 x1 x2 x3 x4) (View.ld x3 r0_1) (View.ld x3 r0_2)
      (View.ld x3 r0_3) (ix2 r b) = conv (col (M := 3) (N := 128) x3 b) (col (M := 4096) (N := 128) x1 b) r := by
  rw [gate_at, tap0, tap1, tap2]
  unfold k0_pay29 k0_pay30 k0_pay26
  rw [whole, down2_gate, down1_gate]
  rfl

/-- The value's gradient in a block. -/
theorem val_blk (r : Fin 4096) (b : Fin 128) : k0_pay31 x0 x1 x2 x3 x4 (ix2 r b)
    = valCol (col (M := 3) (N := 128) x3 b) (col (M := 4096) (N := 128) x1 b) (col (M := 4096) (N := 128) x4 b) r := by
  unfold k0_pay31 valCol
  rw [val_at, gate_blk, whole]
  rfl

/-- The gate's gradient in a block. -/
theorem gateGrad_blk (r : Fin 4096) (b : Fin 128) : k0_pay32 x0 x1 x2 x3 x4 (ix2 r b)
    = gateCol (col (M := 3) (N := 128) x2 b) (col (M := 3) (N := 128) x3 b) (col (M := 4096) (N := 128) x0 b)
        (col (M := 4096) (N := 128) x1 b) (col (M := 4096) (N := 128) x4 b) r := by
  unfold k0_pay32 gateCol
  rw [gateGrad_at, gate_blk, whole, tap0, tap1, tap2]
  unfold k0_pay27 k0_pay28 k0_pay25
  rw [whole, down2_at, down1_at]
  rfl

/-- The value's input gradient a point leaves. -/
theorem left_du (r : Fin 4096) (b : Fin 128) : out0_5 x0 x1 x2 x3 x4 (ix2 r b)
    = convGrad (col (M := 3) (N := 128) x2 b)
        (valCol (col (M := 3) (N := 128) x3 b) (col (M := 4096) (N := 128) x1 b) (col (M := 4096) (N := 128) x4 b)) r := by
  have e : out0_5 x0 x1 x2 x3 x4
      = k0_pay18 (k0_pay16 (k0_pay31 x0 x1 x2 x3 x4) (View.ld x2 r0_3) (View.ld x2 r0_1) (View.ld x2 r0_2)) := by
    unfold out0_5
    refine View.canon_unit_zero ?_ _ _
    funext a
    match a with
    | ⟨0, _⟩ => rfl
    | ⟨1, _⟩ => rfl
  rw [e]
  refine (back_all (k0_pay31 x0 x1 x2 x3 x4) (View.ld x2 r0_1) (View.ld x2 r0_2) (View.ld x2 r0_3) r b).trans ?_
  rw [tap0, tap1, tap2]
  simp only [val_blk]
  rfl

/-- The gate's input gradient a point leaves. -/
theorem left_dg (r : Fin 4096) (b : Fin 128) : out0_6 x0 x1 x2 x3 x4 (ix2 r b)
    = convGrad (col (M := 3) (N := 128) x3 b)
        (gateCol (col (M := 3) (N := 128) x2 b) (col (M := 3) (N := 128) x3 b) (col (M := 4096) (N := 128) x0 b)
          (col (M := 4096) (N := 128) x1 b) (col (M := 4096) (N := 128) x4 b)) r := by
  have e : out0_6 x0 x1 x2 x3 x4
      = k0_pay2 (k0_pay20 (k0_pay32 x0 x1 x2 x3 x4) (View.ld x3 r0_3) (View.ld x3 r0_1)) (View.ld x3 r0_2)
          (k0_pay23 (k0_pay32 x0 x1 x2 x3 x4)) (k0_pay24 (k0_pay32 x0 x1 x2 x3 x4)) := by
    unfold out0_6
    refine View.canon_unit_zero ?_ _ _
    funext a
    match a with
    | ⟨0, _⟩ => rfl
    | ⟨1, _⟩ => rfl
  rw [e, back_three, back_two, tap0, tap1, tap2]
  simp only [gateGrad_blk]
  rfl

/-- A column not moved at all. -/
theorem before_zero (x : Fin 4096 → EReal) (r : Fin 4096) : before 0 x r = x r := dif_pos (Nat.zero_le _)

/-- A tap's gradient from the row it met. -/
theorem tap_sum (v y : FVec Ideal S4096x128 .f32) (k : ℕ) (x : Fin 4096 → EReal) (z : Fin 4096 → EReal) (b : Fin 128)
    (hv : ∀ r : Fin 4096, v (ix2 r b) = before k x r) (hy : ∀ r : Fin 4096, y (ix2 r b) = z r) :
    k0_pay1 v y (ix2 0 b) = tapGrad k x z :=
  (tap_at v y b).trans (Finset.sum_congr rfl fun r _ => by rw [hv, hy])

/-- An index of a block of one row. -/
theorem one_row (x : S1x128.Idx) (b : Fin 128) (h : (x 1 : ℕ) = b.val) : x = ix2 0 b :=
  funext fun a => match a with
    | ⟨0, _⟩ => Subsingleton.elim (α := Fin 1) _ _
    | ⟨1, _⟩ => Fin.ext h

/-- The value's taps' gradients a point leaves. -/
theorem left_dwu (y : S3x128.Idx) (j : Fin 3) (b : Fin 128) (hj : (y 0 : ℕ) = j.val) (hb : (y 1 : ℕ) = b.val) :
    out0_7 x0 x1 x2 x3 x4 y = tapGrad (2 - j.val) (col (M := 4096) (N := 128) x0 b)
      (valCol (col (M := 3) (N := 128) x3 b) (col (M := 4096) (N := 128) x1 b) (col (M := 4096) (N := 128) x4 b)) := by
  unfold out0_7
  canon_tiles x h
  · rw [one_row x b (by omega), show 2 - j.val = 0 by omega]
    exact tap_sum (k0_pay25 x0 x1 x2 x3 x4) _ 0 _ _ b (fun r => by
      unfold k0_pay25; rw [whole, before_zero]; rfl) fun r => val_blk x0 x1 x2 x3 x4 r b
  · rw [one_row x b (by omega), show 2 - j.val = 1 by omega]
    exact tap_sum (k0_pay28 x0 x1 x2 x3 x4) _ 1 _ _ b (fun r => by
      unfold k0_pay28; rw [whole, down1_at]; rfl) fun r => val_blk x0 x1 x2 x3 x4 r b
  · rw [one_row x b (by omega), show 2 - j.val = 2 by omega]
    exact tap_sum (k0_pay27 x0 x1 x2 x3 x4) _ 2 _ _ b (fun r => by
      unfold k0_pay27; rw [whole, down2_at]; rfl) fun r => val_blk x0 x1 x2 x3 x4 r b

/-- The gate's taps' gradients a point leaves. -/
theorem left_dwg (y : S3x128.Idx) (j : Fin 3) (b : Fin 128) (hj : (y 0 : ℕ) = j.val) (hb : (y 1 : ℕ) = b.val) :
    out0_8 x0 x1 x2 x3 x4 y = tapGrad (2 - j.val) (col (M := 4096) (N := 128) x1 b)
      (gateCol (col (M := 3) (N := 128) x2 b) (col (M := 3) (N := 128) x3 b) (col (M := 4096) (N := 128) x0 b)
        (col (M := 4096) (N := 128) x1 b) (col (M := 4096) (N := 128) x4 b)) := by
  unfold out0_8
  canon_tiles x h
  · rw [one_row x b (by omega), show 2 - j.val = 0 by omega]
    exact tap_sum (k0_pay26 x0 x1 x2 x3 x4) _ 0 _ _ b (fun r => by
      unfold k0_pay26; rw [whole, before_zero]; rfl) fun r => gateGrad_blk x0 x1 x2 x3 x4 r b
  · rw [one_row x b (by omega), show 2 - j.val = 1 by omega]
    exact tap_sum (k0_pay30 x0 x1 x2 x3 x4) _ 1 _ _ b (fun r => by
      unfold k0_pay30; rw [whole, down1_gate]; rfl) fun r => gateGrad_blk x0 x1 x2 x3 x4 r b
  · rw [one_row x b (by omega), show 2 - j.val = 2 by omega]
    exact tap_sum (k0_pay29 x0 x1 x2 x3 x4) _ 2 _ _ b (fun r => by
      unfold k0_pay29; rw [whole, down2_gate]; rfl) fun r => gateGrad_blk x0 x1 x2 x3 x4 r b

end Cert.ActIdeal.Act

end
-- ==== Proof.Act.Arrays.lean ====
/- The four result arrays of the gated activation's gradient after the run. -/
module

public import proofs.«01_k».proof.Proof.Act.Left

@[expose] public section

set_option maxRecDepth 16384

noncomputable section

open Idealize.ShloMosaic Idealize.ShloMosaic.TcCoe Idealize.SL.Sem
open Idealize.ShloMosaic.Pipeline (Dat)

namespace Cert.ActIdeal.Act

open Cert.ActIdeal Cert.ActIdeal.Gen Cert.Act

variable (m : (ℓ : Loc nD τ sig) → Buf (Elt Ideal) ℓ)

/-- Where every window's block stands: 128 columns of the value, and the same columns of the gate, which stands behind it. -/
theorem idx : ∀ t : Fin cfg0.N, win0_0.index t = ![0, t.val] ∧ win0_1.index t = ![0, t.val + 22] ∧ win0_2.index t = ![0, t.val]
    ∧ win0_3.index t = ![0, t.val + 22] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- The value and the gate before the convolution, side by side. -/
abbrev Parr (c : Dev nD) : FVec Ideal S4096x5632 .bf16 := m ((c : Thread nD τ).loc main_arg0)
/-- The taps of both. -/
abbrev Carr (c : Dev nD) : FVec Ideal S3x5632 .f32 := m ((c : Thread nD τ).loc main_arg1)
/-- The gradient of the activation. -/
abbrev Darr (c : Dev nD) : FVec Ideal S4096x2816 .bf16 := m ((c : Thread nD τ).loc main_arg2)

/-- A column of the value's block. -/
theorem blk_u (c : Dev nD) (t : Fin cfg0.N) (b : Fin 128) (n : Fin 2816) (hn : n.val = t.val * 128 + b.val) :
    col (M := 4096) (N := 128) (iblk m c 0 t) b = uCol (Parr m c) n := by
  funext r
  show (show FVec Ideal S4096x128 .bf16 from iblk m c 0 t) (ix2 r b) = Parr m c (ix2 r (low n))
  have h : (low n).val = t.val * 128 + b.val := hn
  blk_ext [iblk, V, idx t]

/-- A column of the gate's block. -/
theorem blk_g (c : Dev nD) (t : Fin cfg0.N) (b : Fin 128) (n : Fin 2816) (hn : n.val = t.val * 128 + b.val) :
    col (M := 4096) (N := 128) (iblk m c 1 t) b = gCol (Parr m c) n := by
  funext r
  show (show FVec Ideal S4096x128 .bf16 from iblk m c 1 t) (ix2 r b) = Parr m c (ix2 r (high n))
  have h : (high n).val = (t.val + 22) * 128 + b.val := by show n.val + 2816 = _; omega
  blk_ext [iblk, V, idx t]

/-- The value's taps. -/
theorem blk_wu (c : Dev nD) (t : Fin cfg0.N) (b : Fin 128) (n : Fin 2816) (hn : n.val = t.val * 128 + b.val) :
    col (M := 3) (N := 128) (iblk m c 2 t) b = uCol (Carr m c) n := by
  funext r
  show (show FVec Ideal S3x128 .f32 from iblk m c 2 t) (ix2 r b) = Carr m c (ix2 r (low n))
  have h : (low n).val = t.val * 128 + b.val := hn
  blk_ext [iblk, V, idx t]

/-- The gate's taps. -/
theorem blk_wg (c : Dev nD) (t : Fin cfg0.N) (b : Fin 128) (n : Fin 2816) (hn : n.val = t.val * 128 + b.val) :
    col (M := 3) (N := 128) (iblk m c 3 t) b = gCol (Carr m c) n := by
  funext r
  show (show FVec Ideal S3x128 .f32 from iblk m c 3 t) (ix2 r b) = Carr m c (ix2 r (high n))
  have h : (high n).val = (t.val + 22) * 128 + b.val := by show n.val + 2816 = _; omega
  blk_ext [iblk, V, idx t]

/-- A column of the activation's gradient's block. -/
theorem blk_d (c : Dev nD) (t : Fin cfg0.N) (b : Fin 128) (n : Fin 2816) (hn : n.val = t.val * 128 + b.val) :
    col (M := 4096) (N := 128) (iblk m c 4 t) b = col (M := 4096) (N := 2816) (Darr m c) n := by
  funext r
  show (show FVec Ideal S4096x128 .bf16 from iblk m c 4 t) (ix2 r b) = Darr m c (ix2 r n)
  blk_ext [iblk, V, idx t]

/-- After the run the first result holds the value's input gradient. -/
theorem final_du (c : Dev nD) : (dats m 0 c).arrAt 5 (cfgs 0).N
    = fun i : S4096x2816.Idx => duAt (Parr m c) (Carr m c) (Darr m c) (i 0) (i 1) := by
  refine (dats m 0 c).arrAt_eq_of_covers 5 _ (by decide +kernel) fun t hfl y => ?_
  have ht : t.val < 22 := lt_of_lt_of_eq t.isLt N_0
  have hy : (y 1 : ℕ) < 128 := (y 1).isLt
  have hlt : t.val * 128 + (y 1 : ℕ) < 2816 := by omega
  blk_simp [idx t]
  rw [after0_5, eq_ix2 y]
  refine (left_du _ _ _ _ _ (y 0) (y 1)).trans ?_
  rw [blk_wu m c t (y 1) ⟨_, hlt⟩ rfl, blk_wg m c t (y 1) ⟨_, hlt⟩ rfl, blk_g m c t (y 1) ⟨_, hlt⟩ rfl,
    blk_d m c t (y 1) ⟨_, hlt⟩ rfl]
  have e0 : (y 0 : Fin 4096) = (win0_5.blk t).view.emb (ix2 (y 0) (y 1)) 0 := Fin.ext (by blk_simp [idx t])
  have e1 : (⟨t.val * 128 + (y 1 : ℕ), hlt⟩ : Fin 2816) = (win0_5.blk t).view.emb (ix2 (y 0) (y 1)) 1 :=
    Fin.ext (by blk_simp [idx t])
  exact congrArg₂ (duAt (Parr m c) (Carr m c) (Darr m c)) e0 e1

/-- After the run the second result holds the gate's input gradient. -/
theorem final_dg (c : Dev nD) : (dats m 0 c).arrAt 6 (cfgs 0).N
    = fun i : S4096x2816.Idx => dgAt (Parr m c) (Carr m c) (Darr m c) (i 0) (i 1) := by
  refine (dats m 0 c).arrAt_eq_of_covers 6 _ (by decide +kernel) fun t hfl y => ?_
  have ht : t.val < 22 := lt_of_lt_of_eq t.isLt N_0
  have hy : (y 1 : ℕ) < 128 := (y 1).isLt
  have hlt : t.val * 128 + (y 1 : ℕ) < 2816 := by omega
  blk_simp [idx t]
  rw [after0_6, eq_ix2 y]
  refine (left_dg _ _ _ _ _ (y 0) (y 1)).trans ?_
  rw [blk_wu m c t (y 1) ⟨_, hlt⟩ rfl, blk_wg m c t (y 1) ⟨_, hlt⟩ rfl, blk_g m c t (y 1) ⟨_, hlt⟩ rfl,
    blk_u m c t (y 1) ⟨_, hlt⟩ rfl, blk_d m c t (y 1) ⟨_, hlt⟩ rfl]
  have e0 : (y 0 : Fin 4096) = (win0_6.blk t).view.emb (ix2 (y 0) (y 1)) 0 := Fin.ext (by blk_simp [idx t])
  have e1 : (⟨t.val * 128 + (y 1 : ℕ), hlt⟩ : Fin 2816) = (win0_6.blk t).view.emb (ix2 (y 0) (y 1)) 1 :=
    Fin.ext (by blk_simp [idx t])
  exact congrArg₂ (dgAt (Parr m c) (Carr m c) (Darr m c)) e0 e1

/-- After the run the third result holds the value's taps' gradients. -/
theorem final_dwu (c : Dev nD) : (dats m 0 c).arrAt 7 (cfgs 0).N
    = fun i : S3x2816.Idx => dwuAt (Parr m c) (Carr m c) (Darr m c) (i 0) (i 1) := by
  refine (dats m 0 c).arrAt_eq_of_covers 7 _ (by decide +kernel) fun t hfl y => ?_
  have ht : t.val < 22 := lt_of_lt_of_eq t.isLt N_0
  have hy : (y 1 : ℕ) < 128 := (y 1).isLt
  have hlt : t.val * 128 + (y 1 : ℕ) < 2816 := by omega
  blk_simp [idx t]
  rw [after0_7]
  refine (left_dwu _ _ _ _ _ y (y 0) (y 1) rfl rfl).trans ?_
  rw [blk_wg m c t (y 1) ⟨_, hlt⟩ rfl, blk_g m c t (y 1) ⟨_, hlt⟩ rfl,
    blk_u m c t (y 1) ⟨_, hlt⟩ rfl, blk_d m c t (y 1) ⟨_, hlt⟩ rfl]
  have e0 : (y 0 : Fin 3) = (win0_7.blk t).view.emb y 0 := Fin.ext (by blk_simp [idx t])
  have e1 : (⟨t.val * 128 + (y 1 : ℕ), hlt⟩ : Fin 2816) = (win0_7.blk t).view.emb y 1 :=
    Fin.ext (by blk_simp [idx t])
  exact congrArg₂ (dwuAt (Parr m c) (Carr m c) (Darr m c)) e0 e1

/-- After the run the fourth result holds the gate's taps' gradients. -/
theorem final_dwg (c : Dev nD) : (dats m 0 c).arrAt 8 (cfgs 0).N
    = fun i : S3x2816.Idx => dwgAt (Parr m c) (Carr m c) (Darr m c) (i 0) (i 1) := by
  refine (dats m 0 c).arrAt_eq_of_covers 8 _ (by decide +kernel) fun t hfl y => ?_
  have ht : t.val < 22 := lt_of_lt_of_eq t.isLt N_0
  have hy : (y 1 : ℕ) < 128 := (y 1).isLt
  have hlt : t.val * 128 + (y 1 : ℕ) < 2816 := by omega
  blk_simp [idx t]
  rw [after0_8]
  refine (left_dwg _ _ _ _ _ y (y 0) (y 1) rfl rfl).trans ?_
  rw [blk_wu m c t (y 1) ⟨_, hlt⟩ rfl, blk_wg m c t (y 1) ⟨_, hlt⟩ rfl, blk_g m c t (y 1) ⟨_, hlt⟩ rfl,
    blk_u m c t (y 1) ⟨_, hlt⟩ rfl, blk_d m c t (y 1) ⟨_, hlt⟩ rfl]
  have e0 : (y 0 : Fin 3) = (win0_8.blk t).view.emb y 0 := Fin.ext (by blk_simp [idx t])
  have e1 : (⟨t.val * 128 + (y 1 : ℕ), hlt⟩ : Fin 2816) = (win0_8.blk t).view.emb y 1 :=
    Fin.ext (by blk_simp [idx t])
  exact congrArg₂ (dwgAt (Parr m c) (Carr m c) (Darr m c)) e0 e1

end Cert.ActIdeal.Act

end
-- ==== Proof.Act.Real.lean ====
/- The gated activation's gradient for real numbers: the two spellings of the logistic function and of the gate's
   gradient agree. -/
module

public import proofs.«01_k».proof.Proof.Act.Spec
public import Mathlib.Analysis.SpecialFunctions.Trigonometric.DerivHyp

@[expose] public section

noncomputable section

open Idealize.ShloMosaic

namespace Cert.Act

open Cert.Common

/-- The logistic function through the exponential. -/
def logi (z : EReal) : EReal := Ideal.div 1 (1 + Ideal.exp (-z))

/-- The number one half. -/
theorem half_eq : half = ((1 / 2 : ℝ) : EReal) := by
  simp [half, Ideal.ofBits, Ideal.ieee, -EReal.coe_mul, -EReal.coe_neg]
  norm_num

/-- The number one. -/
theorem one_eq : one = ((1 : ℝ) : EReal) := by
  simp [one, Ideal.ofBits, Ideal.ieee, -EReal.coe_mul, -EReal.coe_neg]
  try norm_num

/-- The logistic function among the reals, two ways. -/
theorem logistic_real (x : ℝ) : 1 / 2 * Real.tanh (1 / 2 * x) + 1 / 2 = 1 / (1 + Real.exp (-x)) := by
  have h : Real.exp (-x) = Real.exp (-(1 / 2 * x)) / Real.exp (1 / 2 * x) := by rw [← Real.exp_sub]; congr 1; ring
  rw [Real.tanh_eq_sinh_div_cosh, Real.sinh_eq, Real.cosh_eq, h]
  have h1 := Real.exp_pos (1 / 2 * x)
  have h2 := Real.exp_pos (-(1 / 2 * x))
  generalize Real.exp (1 / 2 * x) = a at *
  generalize Real.exp (-(1 / 2 * x)) = b at *
  have h3 : a + b ≠ 0 := by positivity
  field_simp
  ring

/-- The logistic function of a real number, through the hyperbolic tangent. -/
theorem sigm_coe (x : ℝ) : sigm (x : EReal) = ((1 / (1 + Real.exp (-x)) : ℝ) : EReal) := by
  unfold sigm
  rw [half_eq, ← EReal.coe_mul, Ideal.tanh_coe, ← EReal.coe_mul, ← EReal.coe_add, logistic_real]

/-- The logistic function of a real number, through the exponential. -/
theorem logi_coe (x : ℝ) : logi (x : EReal) = ((1 / (1 + Real.exp (-x)) : ℝ) : EReal) := by
  unfold logi
  have h : 1 + Real.exp (-x) ≠ 0 := by positivity
  rw [← EReal.coe_neg, Ideal.exp_coe, ← EReal.coe_one, ← EReal.coe_add, Ideal.div_coe h, EReal.coe_one, one_mul]

/-- A moved column of reals is real. -/
theorem before_real (k : ℕ) {x : Fin 4096 → EReal} (hx : ∀ i, IsReal (x i)) (r : Fin 4096) : IsReal (before k x r) := by
  unfold before
  split
  · exact hx _
  · exact ⟨0, rfl⟩

/-- A convolution of reals is real. -/
theorem conv_real {w : Fin 3 → EReal} {x : Fin 4096 → EReal} (hw : ∀ k, IsReal (w k)) (hx : ∀ i, IsReal (x i)) (r : Fin 4096) :
    IsReal (conv w x r) :=
  (((hw 0).mul (before_real 2 hx r)).add ((hw 1).mul (before_real 1 hx r))).add ((hw 2).mul (hx r))

/-- The value's gradient, as the reference orders it. -/
theorem valGrad_eq {d g : EReal} (hg : IsReal g) : g * logi g * d = valGrad d g := by
  obtain ⟨x, rfl⟩ := hg
  unfold valGrad
  rw [sigm_coe, logi_coe]
  generalize ((x : ℝ) : EReal) = a
  generalize ((1 / (1 + Real.exp (-x)) : ℝ) : EReal) = b
  ac_rfl

/-- The gate's gradient, as the reference splits it. -/
theorem gateGrad_eq {d g u : EReal} (hd : IsReal d) (hg : IsReal g) (hu : IsReal u) :
    d * u * logi g + g * (d * u) * (logi g * (1 - logi g)) = gateGrad d g u := by
  obtain ⟨d, rfl⟩ := hd
  obtain ⟨x, rfl⟩ := hg
  obtain ⟨u, rfl⟩ := hu
  unfold gateGrad
  rw [sigm_coe, logi_coe, one_eq]
  generalize 1 / (1 + Real.exp (-x)) = s
  rw [← EReal.coe_one]
  simp only [← EReal.coe_mul, ← EReal.coe_add, ← EReal.coe_sub]
  exact congrArg _ (by ring)

end Cert.Act

end
-- ==== Proof.Act.Ref.lean ====
/- The reference of the gated activation's gradient at an index. -/
module

public import proofs.«01_k».proof.Proof.Gen.ActReferenceIdeal.Read
public import proofs.«01_k».proof.Proof.Act.Real
public import Idealize.ShloMosaic.Lib.Pointwise

@[expose] public section

set_option maxRecDepth 16384

noncomputable section

open Idealize.ShloMosaic Idealize.ShloMosaic.TcCoe Idealize.SL.Sem

namespace Cert.ActReferenceIdeal.Act

open Cert.ActReferenceIdeal Cert.ActReferenceIdeal.Gen Cert.ActReferenceIdeal.Read Cert.Act Cert.Common

variable (P : FVec Ideal S4096x5632 .bf16) (C : FVec Ideal S3x5632 .f32) (D : FVec Ideal S4096x2816 .bf16)

/-- The rows moved down by two. -/
theorem down2 (i : Fin 4096) (n : Fin 5632) :
    val_main_v4 (F := Ideal) P (ix2 i n) = before 2 (fun r => P (ix2 r n)) i := by
  pointwise [val_main_v4, val_main_v2, val_main_v1, val_main_v0, val_main_cst]
  unfold before
  by_cases h : i.val < 2
  · rw [dif_pos h, dif_neg (by omega)]
  · rw [dif_neg h, dif_pos (by omega)]

/-- The rows moved down by one. -/
theorem down1 (i : Fin 4096) (n : Fin 5632) :
    val_main_v10 (F := Ideal) P (ix2 i n) = before 1 (fun r => P (ix2 r n)) i := by
  pointwise [val_main_v10, val_main_v2, val_main_v1, val_main_v0, val_main_cst]
  unfold before
  by_cases h : 1 ≤ i.val
  · rw [dif_neg (by omega), dif_pos h]
    exact congrArg (fun r => P (ix2 r n)) (Fin.ext (by dsimp only; omega))
  · rw [dif_pos (by omega), dif_neg h]

/-- The rows themselves. -/
theorem down0 (i : Fin 4096) (n : Fin 5632) :
    val_main_v17 (F := Ideal) P (ix2 i n) = P (ix2 i n) := by
  pointwise [val_main_v17, val_main_v2, val_main_v1, val_main_v0, val_main_cst]

/-- The convolution. -/
theorem conv_at (i : Fin 4096) (n : Fin 5632) :
    val_main_v23 (F := Ideal) P C (ix2 i n) = conv (fun k => C (ix2 k n)) (fun r => P (ix2 r n)) i := by
  unfold conv
  rw [← down2, ← down1]
  refine Eq.trans ?_ (congrArg (fun t => C (ix2 0 n) * val_main_v4 (F := Ideal) P (ix2 i n) + C (ix2 1 n) * val_main_v10 (F := Ideal) P (ix2 i n)
    + C (ix2 2 n) * t) (down0 P i n))
  beta_reduce
  pointwise [val_main_v23, val_main_v22, val_main_v21, val_main_v20, val_main_v19, val_main_v18, val_main_v16, val_main_v15, val_main_v14,
    val_main_v13, val_main_v12, val_main_v11, val_main_v9, val_main_v8, val_main_v7, val_main_v6, val_main_v5]
  rw [mul_comm (G := EReal) (C (ix2 0 n)), mul_comm (G := EReal) (C (ix2 1 n)), mul_comm (G := EReal) (C (ix2 2 n))]

/-- The convolution's gradient. -/
theorem back_at (i : Fin 4096) (n : Fin 5632) :
    val_main_v66 (F := Ideal) P C D (ix2 i n)
      = convGrad (fun k => C (ix2 k n)) (fun r => val_main_v32 (F := Ideal) P C D (ix2 r n)) i := by
  pointwise [val_main_v66, val_main_v65, val_main_v63, val_main_v62, val_main_cst_11, val_main_cst_12, val_main_v57, val_main_v56, val_main_v7,
    val_main_v6, val_main_v5, val_main_v52, val_main_v51, val_main_cst_8, val_main_v46, val_main_v45, val_main_v13,
    val_main_v12, val_main_v11, val_main_v41, val_main_cst_4, val_main_v37, val_main_v36, val_main_v20, val_main_v19, val_main_v18]
  generalize val_main_v32 (F := Ideal) P C D = Y
  unfold convGrad
  have e2 : (if h : 2 + i.val < 4096 then Y (ix2 ⟨2 + i.val, h⟩ n) * C (ix2 0 n) else 0)
      = C (ix2 0 n) * behind 2 (fun r => Y (ix2 r n)) i := by
    unfold behind
    by_cases h : 2 + i.val < 4096
    · rw [dif_pos h, dif_pos (by omega), mul_comm (G := EReal)]
      exact congrArg (fun r => C (ix2 0 n) * Y (ix2 r n)) (Fin.ext (by dsimp only; omega))
    · rw [dif_neg h, dif_neg (by omega)]
      exact (mul_zero (M₀ := EReal) _).symm
  have e1 : (if h : 1 ≤ 2 + i.val ∧ 2 + i.val - 1 < 4096 then Y (ix2 ⟨2 + i.val - 1, h.2⟩ n) * C (ix2 1 n) else 0)
      = C (ix2 1 n) * behind 1 (fun r => Y (ix2 r n)) i := by
    unfold behind
    by_cases h : 1 ≤ 2 + i.val ∧ 2 + i.val - 1 < 4096
    · rw [dif_pos h, dif_pos (by omega), mul_comm (G := EReal)]
      exact congrArg (fun r => C (ix2 1 n) * Y (ix2 r n)) (Fin.ext (by dsimp only; omega))
    · rw [dif_neg h, dif_neg (by omega)]
      exact (mul_zero (M₀ := EReal) _).symm
  refine (congrArg₂ (· + ·) (congrArg₂ (· + ·) (mul_comm (G := EReal) _ _) e1) e2).trans ?_
  exact add_right_comm (G := EReal) _ _ _

/-- The taps' gradients. -/
theorem tap_at (j : Fin 3) (n : Fin 5632) :
    val_main_v61 (F := Ideal) P C D (ix2 j n)
      = tapGrad (2 - j.val) (fun r => P (ix2 r n)) (fun r => val_main_v32 (F := Ideal) P C D (ix2 r n)) := by
  have e2 : ∀ r, val_main_v17 (F := Ideal) P (ix2 r n) = before 0 (fun r => P (ix2 r n)) r := fun r =>
    (down0 P r n).trans (by unfold before; rw [dif_pos (Nat.zero_le _)]; rfl)
  have flat : ∀ k : ℕ, ∀ Y : FVec Ideal S4096x5632 .f32,
      (∑ _x : Fin 1, ∑ x : Fin 4096, before k (fun r => P (ix2 r n)) x * Y (ix2 x n))
        = tapGrad k (fun r => P (ix2 r n)) (fun r => Y (ix2 r n)) := fun k Y =>
    (Fin.sum_univ_one _).trans (Finset.sum_congr rfl fun x _ => mul_comm (G := EReal) _ _)
  pointwise [val_main_v61, val_main_v60, val_main_cst_11, val_main_v59, val_main_v58, val_main_cst_10, val_main_v55, val_main_v54,
    val_main_cst_9, val_main_v53, val_main_v50, val_main_v49, val_main_cst_7, val_main_v48, val_main_v47, val_main_cst_6, val_main_v44,
    val_main_v43, val_main_cst_5, val_main_v42, val_main_v40, val_main_cst_3, val_main_v39, val_main_v38, val_main_cst_2, val_main_v35,
    val_main_v34, val_main_cst_1, val_main_v33]
  simp only [e2, down1, down2]
  generalize val_main_v32 (F := Ideal) P C D = Y
  rw [flat, flat, flat]
  obtain rfl | rfl | rfl : j = 0 ∨ j = 1 ∨ j = 2 := by omega
  · rw [dif_neg (by decide), dif_neg (by decide), dif_pos (by decide), zero_add, zero_add]
    rfl
  · rw [dif_neg (by decide), dif_pos (by decide), dif_neg (by decide), zero_add, add_zero]
    rfl
  · rw [dif_pos (by decide), dif_neg (by decide), dif_neg (by decide), add_zero, add_zero]
    rfl

/-- The value's gradient. -/
theorem val_at (i : Fin 4096) (n : Fin 2816) : val_main_v32 (F := Ideal) P C D (ix2 i (low n))
    = val_main_v25 (F := Ideal) P C (ix2 i n) * logi (val_main_v25 (F := Ideal) P C (ix2 i n)) * D (ix2 i n) := by
  pointwise [val_main_v32, val_main_v29, val_main_v28, val_main_v26_0, val_main_v26_2, val_main_call0_v4, val_main_call0_cst_0,
    val_main_call0_v3, val_main_call0_v2, val_main_call0_cst, val_main_call0_v1, val_main_call0_v0, logi]
  exact dif_pos n.isLt

/-- A column of the second half is not in the first. -/
theorem high_ge (n : Fin 2816) : ¬(high n).val < 2816 := Nat.not_lt.mpr (Nat.le_add_left _ _)

/-- A column of the second half, counted from there. -/
theorem high_sub (n : Fin 2816) (h : (high n).val - 2816 < 2816) : (⟨(high n).val - 2816, h⟩ : Fin 2816) = n :=
  Fin.ext (Nat.add_sub_cancel _ _)

/-- The gate's gradient. -/
theorem gate_at (i : Fin 4096) (n : Fin 2816) : val_main_v32 (F := Ideal) P C D (ix2 i (high n))
    = D (ix2 i n) * val_main_v24 (F := Ideal) P C (ix2 i n) * logi (val_main_v25 (F := Ideal) P C (ix2 i n)) +
      val_main_v25 (F := Ideal) P C (ix2 i n) * (D (ix2 i n) * val_main_v24 (F := Ideal) P C (ix2 i n)) *
        (logi (val_main_v25 (F := Ideal) P C (ix2 i n)) * (1 - logi (val_main_v25 (F := Ideal) P C (ix2 i n)))) := by
  pointwise [val_main_v32, val_main_v31, val_main_call1_v2, val_main_call1_v1, val_main_call1_v0, val_main_v30, val_main_v28,
    val_main_v26_1, val_main_v26_2, val_main_call0_v4, val_main_call0_cst_0, val_main_call0_v7, val_main_call0_v6, val_main_call0_cst_1,
    val_main_call0_v3, val_main_call0_v2, val_main_call0_cst, val_main_call0_v1, val_main_call0_v0, logi]
  refine (dif_neg (high_ge n)).trans ?_
  rw [high_sub]

/-- The value's convolution. -/
theorem value_conv (i : Fin 4096) (n : Fin 2816) :
    val_main_v24 (F := Ideal) P C (ix2 i n) = conv (uCol (M := 3) C n) (uCol (M := 4096) P n) i := by
  refine Eq.trans ?_ (conv_at P C i (low n))
  pointwise [val_main_v24]
  rfl

/-- The gate's convolution. -/
theorem gate_conv (i : Fin 4096) (n : Fin 2816) :
    val_main_v25 (F := Ideal) P C (ix2 i n) = conv (gCol (M := 3) C n) (gCol (M := 4096) P n) i := by
  refine Eq.trans ?_ (conv_at P C i (high n))
  pointwise [val_main_v25]
  exact congrArg (fun r => val_main_v23 (F := Ideal) P C (ix2 i r)) (Fin.ext (Nat.add_comm _ _))

variable (hP : ∀ (i : Fin 4096) (n : Fin 5632), IsReal (P (ix2 i n))) (hC : ∀ (i : Fin 3) (n : Fin 5632), IsReal (C (ix2 i n)))
  (hD : ∀ (i : Fin 4096) (n : Fin 2816), IsReal (D (ix2 i n)))

include hP hC

/-- The value's gradient is the kernel's. -/
theorem val_col (n : Fin 2816) : (fun r => val_main_v32 (F := Ideal) P C D (ix2 r (low n)))
    = valCol (gCol (M := 3) C n) (gCol (M := 4096) P n) (col (M := 4096) (N := 2816) D n) := by
  funext r
  rw [val_at, gate_conv]
  exact valGrad_eq (conv_real (fun k => hC k _) (fun i => hP i _) r)

include hD

/-- The gate's gradient is the kernel's. -/
theorem gate_col (n : Fin 2816) : (fun r => val_main_v32 (F := Ideal) P C D (ix2 r (high n)))
    = gateCol (uCol (M := 3) C n) (gCol (M := 3) C n) (uCol (M := 4096) P n) (gCol (M := 4096) P n) (col (M := 4096) (N := 2816) D n) := by
  funext r
  rw [gate_at, gate_conv, value_conv]
  exact gateGrad_eq (hD r n) (conv_real (fun k => hC k _) (fun i => hP i _) r) (conv_real (fun k => hC k _) (fun i => hP i _) r)

omit hD

/-- The first result. -/
theorem du_meet : val_main_v67 (F := Ideal) P C D = fun i : S4096x2816.Idx => duAt P C D (i 0) (i 1) := by
  funext i
  rw [eq_ix2 i]
  generalize i 0 = r
  generalize i 1 = n
  show val_main_v67 (F := Ideal) P C D (ix2 r n) = duAt P C D r n
  unfold duAt
  rw [← val_col P C D hP hC n]
  refine Eq.trans ?_ (back_at P C D r (low n))
  pointwise [val_main_v67]
  rfl

/-- The third result. -/
theorem dwu_meet : val_main_v69 (F := Ideal) P C D = fun i : S3x2816.Idx => dwuAt P C D (i 0) (i 1) := by
  funext i
  rw [eq_ix2 i]
  generalize i 0 = j
  generalize i 1 = n
  show val_main_v69 (F := Ideal) P C D (ix2 j n) = dwuAt P C D j n
  unfold dwuAt
  rw [← val_col P C D hP hC n]
  refine Eq.trans ?_ (tap_at P C D j (low n))
  pointwise [val_main_v69]
  rfl

include hD

/-- The second result. -/
theorem dg_meet : val_main_v68 (F := Ideal) P C D = fun i : S4096x2816.Idx => dgAt P C D (i 0) (i 1) := by
  funext i
  rw [eq_ix2 i]
  generalize i 0 = r
  generalize i 1 = n
  show val_main_v68 (F := Ideal) P C D (ix2 r n) = dgAt P C D r n
  unfold dgAt
  rw [← gate_col P C D hP hC hD n]
  refine Eq.trans ?_ (back_at P C D r (high n))
  pointwise [val_main_v68]
  exact congrArg (fun k => val_main_v66 (F := Ideal) P C D (ix2 r k)) (Fin.ext (Nat.add_comm _ _))

/-- The fourth result. -/
theorem dwg_meet : val_main_v70 (F := Ideal) P C D = fun i : S3x2816.Idx => dwgAt P C D (i 0) (i 1) := by
  funext i
  rw [eq_ix2 i]
  generalize i 0 = j
  generalize i 1 = n
  show val_main_v70 (F := Ideal) P C D (ix2 j n) = dwgAt P C D j n
  unfold dwgAt
  rw [← gate_col P C D hP hC hD n]
  refine Eq.trans ?_ (tap_at P C D j (high n))
  pointwise [val_main_v70]
  exact congrArg (fun k => val_main_v61 (F := Ideal) P C D (ix2 j k)) (Fin.ext (Nat.add_comm _ _))

end Cert.ActReferenceIdeal.Act

end
-- ==== Proof.Act.Finite.lean ====
/- What the precondition says of the gated activation's arguments: they are real numbers. -/
module

public import proofs.«01_k».proof.Pre_finite_act
public import proofs.«01_k».proof.Proof.Common.Reals
public import proofs.«01_k».proof.Proof.Act.Spec
public import Idealize.ShloMosaic.Lib.ReduceAll

@[expose] public section

open Idealize.ShloMosaic Cert.Common

namespace Cert.Pre_finite_act

/-- The side conditions of the precondition's operations. -/
theorem proven : Cert.Pre_finite_act.Facts :=
  { bitsLt_bf16_f32 := by decide, bcast_S_S4096x5632 := by decide, reducesTo_S4096x5632_S_d0_1 := by decide, h_S_ := by decide,
    bcast_S_S3x5632 := by decide, reducesTo_S3x5632_S_d0_1 := by decide, bcast_S_S4096x2816 := by decide,
    reducesTo_S4096x2816_S_d0_1 := by decide }

variable [Facts]
variable {P : FVec Ideal S4096x5632 .bf16} {C : FVec Ideal S3x5632 .f32} {D : FVec Ideal S4096x2816 .bf16}

/-- Under the precondition every argument is real. -/
theorem reals (h : fn (F := Ideal) P C D = fun _ => 1#1) :
    (∀ (i : Fin 4096) (n : Fin 5632), IsReal (P (ix2 i n))) ∧ (∀ (i : Fin 3) (n : Fin 5632), IsReal (C (ix2 i n)))
      ∧ ∀ (i : Fin 4096) (n : Fin 2816), IsReal (D (ix2 i n)) := by
  have h0 := congrFun h ix0
  dsimp only [fn] at h0
  have hsub : Subsingleton S_.Idx := ⟨fun a b => funext fun k => k.elim0⟩
  obtain ⟨hab, hc⟩ := IntOp.andi_eq_one.mp h0
  obtain ⟨ha, hb⟩ := IntOp.andi_eq_one.mp hab
  exact ⟨fun i n => isReal_of_cmp (Host.reduce_andi_all _ _ _ _ _ ha (ix2 i n)),
    fun i n => isReal_of_cmp (Host.reduce_andi_all _ _ _ _ _ hb (ix2 i n)),
    fun i n => isReal_of_cmp (Host.reduce_andi_all _ _ _ _ _ hc (ix2 i n))⟩

end Cert.Pre_finite_act
-- ==== Proof.UpW.Left.lean ====
/- What a grid point of the gradient of the feed-forward block's first matrix leaves in its accumulator and its output block. -/
module

public import proofs.«01_k».proof.Proof.Gen.UpWIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpWIdeal.Prod

open Cert.UpWIdeal Cert.UpWIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  rw [outsAt0_C m c t (by omega) (by omega) h]; frame_out

end Cert.UpWIdeal.Prod

end
-- ==== Proof.UpW.Pay.lean ====
/- What each payload of the gradient of the feed-forward block's first matrix is at an index. -/
module

public import proofs.«01_k».proof.Proof.Gen.UpWIdeal.Skeleton
public import Idealize.ShloMosaic.Lib.Pointwise

@[expose] public section

set_option maxRecDepth 16384

noncomputable section

open Idealize.ShloMosaic Idealize.ShloMosaic.TcCoe Idealize.SL.Sem

namespace Cert.UpWIdeal.Prod

open Cert.UpWIdeal Cert.UpWIdeal.Gen

variable (x : Vec Ideal S1024x1024 .bf16) (y : Vec Ideal S1024x1408 .bf16) (s : Vec Ideal S1024x1408 .f32)

/-- The first block of rows' product. -/
theorem part_first (a : Fin 1024) (b : Fin 1408) :
    k0_pay2 x y (ix2 a b) = ∑ k : Fin 1024, x (ix2 k a) * y (ix2 k b) := by
  pointwise [k0_pay2, k0_pay1]

/-- A later block of rows: its product added to the sum so far. -/
theorem part_step (a : Fin 1024) (b : Fin 1408) :
    k0_pay3 x y s (ix2 a b) = s (ix2 a b) + ∑ k : Fin 1024, x (ix2 k a) * y (ix2 k b) := by
  pointwise [k0_pay3, k0_pay1]

/-- The output block is the sum. -/
theorem out_at (a : Fin 1024) (b : Fin 1408) : k0_pay4 s (ix2 a b) = s (ix2 a b) := by
  pointwise [k0_pay4]

end Cert.UpWIdeal.Prod

end
-- ==== Proof.Common.Product.lean ====
/- The product of one matrix's columns with another's, the sum over 4096 rows, and its four blocks of rows. -/
module

public import Idealize.ShloMosaic.Lib.Pointwise
public import Idealize.ShloMosaic.Lib.Pipeline.ValueKit

@[expose] public section

noncomputable section

open Idealize.ShloMosaic

namespace Cert.Common

variable {A B : ℕ} (X : Shape.Idx ⟨2, ![4096, A]⟩ → EReal) (Y : Shape.Idx ⟨2, ![4096, B]⟩ → EReal)

/-- Row `n`'s part of the product of column `a` with column `b`. -/
def rowPart (a : Fin A) (b : Fin B) (n : ℕ) : EReal :=
  if h : n < 4096 then X (ix2 ⟨n, h⟩ a) * Y (ix2 ⟨n, h⟩ b) else 0

/-- Column `a` of the first matrix against column `b` of the second. -/
def colProd (a : Fin A) (b : Fin B) : EReal := ∑ i : Fin 4096, X (ix2 i a) * Y (ix2 i b)

/-- The part of a block of 1024 rows. -/
def rowsPart (s : ℕ) (a : Fin A) (b : Fin B) : EReal := ∑ k : Fin 1024, rowPart X Y a b (s * 1024 + k.val)

/-- The four blocks of rows make up the whole. -/
theorem rowsPart_sum (a : Fin A) (b : Fin B) :
    rowsPart X Y 0 a b + rowsPart X Y 1 a b + rowsPart X Y 2 a b + rowsPart X Y 3 a b = colProd X Y a b := by
  have h := Fin.sum_univ_four (fun s : Fin 4 => rowsPart X Y s.val a b)
  refine h.symm.trans ?_
  unfold colProd rowsPart
  refine Fin.sum_mul_add_congr (S := 4) (n := 1024) fun s k hl => ?_
  unfold rowPart
  rw [dif_pos hl]

/-- Where a block of rows stands in the array. -/
theorem rowPart_eq (a : Fin A) (b : Fin B) (n : ℕ) (h : n < 4096) :
    rowPart X Y a b n = X (ix2 ⟨n, h⟩ a) * Y (ix2 ⟨n, h⟩ b) := dif_pos h

/-- Row `a` of one matrix against row `b` of another. -/
def rowProd {K M N : ℕ} (X : Shape.Idx ⟨2, ![M, K]⟩ → EReal) (Y : Shape.Idx ⟨2, ![N, K]⟩ → EReal) (a : Fin M) (b : Fin N) : EReal :=
  ∑ k : Fin K, X (ix2 a k) * Y (ix2 b k)

/-- Row `a` of one matrix against column `b` of another. -/
def matProd {K M N : ℕ} (X : Shape.Idx ⟨2, ![M, K]⟩ → EReal) (Y : Shape.Idx ⟨2, ![K, N]⟩ → EReal) (a : Fin M) (b : Fin N) : EReal :=
  ∑ k : Fin K, X (ix2 a k) * Y (ix2 k b)

/-- Place `n`'s part of the product of two rows. -/
def alongRow {K M N : ℕ} (X : Shape.Idx ⟨2, ![M, K]⟩ → EReal) (Y : Shape.Idx ⟨2, ![N, K]⟩ → EReal) (a : Fin M) (b : Fin N) (n : ℕ) : EReal :=
  if h : n < K then X (ix2 a ⟨n, h⟩) * Y (ix2 b ⟨n, h⟩) else 0

/-- Place `n`'s part of the product of a row and a column. -/
def alongCol {K M N : ℕ} (X : Shape.Idx ⟨2, ![M, K]⟩ → EReal) (Y : Shape.Idx ⟨2, ![K, N]⟩ → EReal) (a : Fin M) (b : Fin N) (n : ℕ) : EReal :=
  if h : n < K then X (ix2 a ⟨n, h⟩) * Y (ix2 ⟨n, h⟩ b) else 0

/-- Columns against columns: entry `(a, b)` sums over the rows. -/
def colDot {K A B : ℕ} (X : Shape.Idx ⟨2, ![K, A]⟩ → EReal) (Y : Shape.Idx ⟨2, ![K, B]⟩ → EReal) (a : Fin A) (b : Fin B) : EReal :=
  ∑ k : Fin K, X (ix2 k a) * Y (ix2 k b)

end Cert.Common

end
-- ==== Proof.UpW.Arrays.lean ====
/- The result array of the gradient of the feed-forward block's first matrix after the run. -/
module

public import proofs.«01_k».proof.Proof.UpW.Left
public import proofs.«01_k».proof.Proof.UpW.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.UpWIdeal.Prod

open Cert.UpWIdeal Cert.UpWIdeal.Gen Cert.Common

variable (m : (ℓ : Loc nD τ sig) → Buf (Elt Ideal) ℓ)

/-- Where every window's block stands: an output block for four points, one for each block of rows. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The first matrix. -/
abbrev Xarr (c : Dev nD) : FVec Ideal S4096x1024 .bf16 := m ((c : Thread nD τ).loc main_arg0)
/-- The second matrix. -/
abbrev Yarr (c : Dev nD) : FVec Ideal S4096x2816 .bf16 := m ((c : Thread nD τ).loc main_arg1)

/-- The first matrix's block. -/
theorem blk_x (c : Dev nD) (t : Fin cfg0.N) (k : Fin 1024) (a : Fin 1024) (i : Fin 4096) (hi : i.val = t.val % 4 * 1024 + k.val)
    (p : Fin 1024) (hp : p.val = 0 + a.val) :
    (show FVec Ideal S1024x1024 .bf16 from iblk m c 0 t) (ix2 k a) = Xarr m c (ix2 i p) := by
  blk_ext [iblk, V, idx t]

/-- The second matrix's block. -/
theorem blk_y (c : Dev nD) (t : Fin cfg0.N) (k : Fin 1024) (b : Fin 1408) (i : Fin 4096) (hi : i.val = t.val % 4 * 1024 + k.val)
    (q : Fin 2816) (hq : q.val = t.val / 4 * 1408 + b.val) :
    (show FVec Ideal S1024x1408 .bf16 from iblk m c 1 t) (ix2 k b) = Yarr m c (ix2 i q) := by
  blk_ext [iblk, V, idx t]

/-- The two blocks' product is the rows' part. -/
theorem part (c : Dev nD) (t : Fin cfg0.N) (a : Fin 1024) (b : Fin 1408) (p : Fin 1024) (hp : p.val = 0 + a.val)
    (q : Fin 2816) (hq : q.val = t.val / 4 * 1408 + b.val) (s : ℕ) (hs : t.val % 4 = s) :
    (∑ k : Fin 1024, (show FVec Ideal S1024x1024 .bf16 from iblk m c 0 t) (ix2 k a)
      * (show FVec Ideal S1024x1408 .bf16 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 1024) (b : Fin 1408) (p : Fin 1024)
    (hp : p.val = 0 + a.val) (q : Fin 2816) (hq : q.val = t.val / 4 * 1408 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 1024) (b : Fin 1408) (p : Fin 1024)
    (hp : p.val = 0 + a.val) (q : Fin 2816) (hq : q.val = t.val / 4 * 1408 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 1024) (b : Fin 1408) (p : Fin 1024)
    (hp : p.val = 0 + a.val) (q : Fin 2816) (hq : q.val = t.val / 4 * 1408 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 1024) (b : Fin 1408) (p : Fin 1024)
    (hp : p.val = 0 + a.val) (q : Fin 2816) (hq : q.val = t.val / 4 * 1408 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 2 (cfgs 0).N
    = fun i : S1024x2816.Idx => colProd (Xarr m c) (Yarr m c) (i 0) (i 1) := by
  have hf : ∀ t : Fin cfg0.N, (cfg0.win 2).flush t = true → t.val % 4 = 3 := by decide +kernel
  refine (dats m 0 c).arrAt_eq_of_covers 2 _ (by decide +kernel) fun t hfl y => ?_
  have h3 := hf t hfl
  have ht : t.val < 8 := lt_of_lt_of_eq t.isLt N_0
  have hy0 : (y 0 : ℕ) < 1024 := (y 0).isLt
  have hy1 : (y 1 : ℕ) < 1408 := (y 1).isLt
  have hp : 0 + (y 0 : ℕ) < 1024 := by omega
  have hq : t.val / 4 * 1408 + (y 1 : ℕ) < 2816 := by omega
  blk_simp [idx t]
  rw [after0_2, eq_ix2 y, out_last m c t h3]
  refine (out_at _ (y 0) (y 1)).trans ((sum_all m c t h3 (y 0) (y 1) ⟨_, hp⟩ rfl ⟨_, hq⟩ rfl).trans ?_)
  have e0 : (⟨0 + (y 0 : ℕ), hp⟩ : Fin 1024) = (win0_2.blk t).view.emb (ix2 (y 0) (y 1)) 0 :=
    Fin.ext (by blk_simp [idx t])
  have e1 : (⟨t.val / 4 * 1408 + (y 1 : ℕ), hq⟩ : Fin 2816) = (win0_2.blk t).view.emb (ix2 (y 0) (y 1)) 1 :=
    Fin.ext (by blk_simp [idx t])
  exact congrArg₂ (colProd (Xarr m c) (Yarr m c)) e0 e1

end Cert.UpWIdeal.Prod

end
-- ==== Proof.UpW.Ref.lean ====
/- The reference of the gradient of the feed-forward block's first matrix at an index. -/
module

public import proofs.«01_k».proof.Proof.Gen.UpWReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.UpWReferenceIdeal.Prod

open Cert.UpWReferenceIdeal Cert.UpWReferenceIdeal.Gen Cert.UpWReferenceIdeal.Read Cert.Common

/-- The reference's result is the product. -/
theorem meet (X : FVec Ideal S4096x1024 .bf16) (Y : FVec Ideal S4096x2816 .bf16) : val_main_v6 (F := Ideal) X Y
    = fun i : S1024x2816.Idx => colProd (A := 1024) (B := 2816) X Y (i 0) (i 1) := by
  funext i
  rw [eq_ix2 i]
  generalize i 0 = p
  generalize i 1 = q
  show val_main_v6 (F := Ideal) X Y (ix2 p q) = colProd X Y p q
  pointwise [val_main_v6, val_main_v5, val_main_v4, val_main_v3, val_main_v1, colProd]
  exact Finset.sum_congr rfl fun k _ => mul_comm (G := EReal) _ _

end Cert.UpWReferenceIdeal.Prod

end
-- ==== Proof.DownX.Arrays.lean ====
/- The result array of the gradient of the feed-forward block's activation after the run: rows against rows. -/
module

public import proofs.«01_k».proof.Proof.Gen.DownXIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownXIdeal.Prod

open Cert.DownXIdeal Cert.DownXIdeal.Gen Cert.Common

variable (m : (ℓ : Loc nD τ sig) → Buf (Elt Ideal) ℓ)

/-- A block of rows against a block of the matrix's rows. -/
theorem prod_at (x : Vec Ideal S1024x1024 .f32) (y : Vec Ideal S1408x1024 .bf16) (a : Fin 1024) (b : Fin 1408) :
    k0_pay1 x y (ix2 a b) = ∑ k : Fin 1024, x (ix2 a k) * y (ix2 b k) := by
  pointwise [k0_pay1]

/-- Where every window's block stands. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The rows. -/
abbrev Xarr (c : Dev nD) : FVec Ideal S4096x1024 .f32 := m ((c : Thread nD τ).loc main_arg0)
/-- The matrix. -/
abbrev Yarr (c : Dev nD) : FVec Ideal S2816x1024 .bf16 := m ((c : Thread nD τ).loc main_arg1)

/-- The rows' block. -/
theorem blk_x (c : Dev nD) (t : Fin cfg0.N) (a : Fin 1024) (k : Fin 1024) (p : Fin 4096) (hp : p.val = t.val / 2 * 1024 + a.val) :
    (show FVec Ideal S1024x1024 .f32 from iblk m c 0 t) (ix2 a k) = Xarr m c (ix2 p k) := by
  blk_ext [iblk, V, idx t]

/-- The matrix's block. -/
theorem blk_y (c : Dev nD) (t : Fin cfg0.N) (b : Fin 1408) (k : Fin 1024) (q : Fin 2816) (hq : q.val = t.val % 2 * 1408 + b.val) :
    (show FVec Ideal S1408x1024 .bf16 from iblk m c 1 t) (ix2 b k) = Yarr m c (ix2 q k) := by
  blk_ext [iblk, V, idx t]

/-- What a point writes out: its rows against the matrix's. -/
theorem out_at (c : Dev nD) (t : Fin cfg0.N) (a : Fin 1024) (b : Fin 1408) (p : Fin 4096) (hp : p.val = t.val / 2 * 1024 + a.val)
    (q : Fin 2816) (hq : q.val = t.val % 2 * 1408 + b.val) :
    out0_2 (iblk m c 0 t) (iblk m c 1 t) (ix2 a b) = rowProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x2816.Idx => rowProd (Xarr m c) (Yarr m c) (i 0) (i 1) := by
  refine (dats m 0 c).arrAt_eq_of_covers 2 _ (by decide +kernel) fun t hfl y => ?_
  have ht : t.val < 8 := lt_of_lt_of_eq t.isLt N_0
  have hy0 : (y 0 : ℕ) < 1024 := (y 0).isLt
  have hy1 : (y 1 : ℕ) < 1408 := (y 1).isLt
  have hp : t.val / 2 * 1024 + (y 0 : ℕ) < 4096 := by omega
  have hq : t.val % 2 * 1408 + (y 1 : ℕ) < 2816 := by omega
  blk_simp [idx t]
  rw [after0_2, eq_ix2 y]
  refine (out_at m c t (y 0) (y 1) ⟨_, hp⟩ rfl ⟨_, hq⟩ rfl).trans ?_
  have e0 : (⟨t.val / 2 * 1024 + (y 0 : ℕ), hp⟩ : Fin 4096) = (win0_2.blk t).view.emb (ix2 (y 0) (y 1)) 0 :=
    Fin.ext (by blk_simp [idx t])
  have e1 : (⟨t.val % 2 * 1408 + (y 1 : ℕ), hq⟩ : Fin 2816) = (win0_2.blk t).view.emb (ix2 (y 0) (y 1)) 1 :=
    Fin.ext (by blk_simp [idx t])
  exact congrArg₂ (rowProd (Xarr m c) (Yarr m c)) e0 e1

end Cert.DownXIdeal.Prod

end
-- ==== Proof.DownX.Ref.lean ====
/- The reference of the gradient of the feed-forward block's activation at an index. -/
module

public import proofs.«01_k».proof.Proof.Gen.DownXReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.DownXReferenceIdeal.Prod

open Cert.DownXReferenceIdeal Cert.DownXReferenceIdeal.Gen Cert.DownXReferenceIdeal.Read Cert.Common

/-- The reference's result is the product. -/
theorem meet (X : FVec Ideal S4096x1024 .f32) (Y : FVec Ideal S2816x1024 .bf16) : val_main_v4 (F := Ideal) X Y
    = fun i : S4096x2816.Idx => rowProd (M := 4096) (N := 2816) X Y (i 0) (i 1) := by
  funext i
  rw [eq_ix2 i]
  generalize i 0 = p
  generalize i 1 = q
  show val_main_v4 (F := Ideal) X Y (ix2 p q) = rowProd X Y p q
  pointwise [val_main_v4, val_main_v3, val_main_v1, rowProd]

end Cert.DownXReferenceIdeal.Prod

end
-- ==== Proof.DownW.Left.lean ====
/- What a grid point of the gradient of the feed-forward block's last matrix leaves in its accumulator and its output block. -/
module

public import proofs.«01_k».proof.Proof.Gen.DownWIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownWIdeal.Prod

open Cert.DownWIdeal Cert.DownWIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  rw [outsAt0_C m c t (by omega) (by omega) h]; frame_out

end Cert.DownWIdeal.Prod

end
-- ==== Proof.DownW.Pay.lean ====
/- What each payload of the gradient of the feed-forward block's last matrix is at an index. -/
module

public import proofs.«01_k».proof.Proof.Gen.DownWIdeal.Skeleton
public import Idealize.ShloMosaic.Lib.Pointwise

@[expose] public section

set_option maxRecDepth 16384

noncomputable section

open Idealize.ShloMosaic Idealize.ShloMosaic.TcCoe Idealize.SL.Sem

namespace Cert.DownWIdeal.Prod

open Cert.DownWIdeal Cert.DownWIdeal.Gen

variable (x : Vec Ideal S1024x1408 .bf16) (y : Vec Ideal S1024x1024 .f32) (s : Vec Ideal S1408x1024 .f32)

/-- The first block of rows' product. -/
theorem part_first (a : Fin 1408) (b : Fin 1024) :
    k0_pay2 x y (ix2 a b) = ∑ k : Fin 1024, x (ix2 k a) * y (ix2 k b) := by
  pointwise [k0_pay2, k0_pay1]

/-- A later block of rows: its product added to the sum so far. -/
theorem part_step (a : Fin 1408) (b : Fin 1024) :
    k0_pay3 x y s (ix2 a b) = s (ix2 a b) + ∑ k : Fin 1024, x (ix2 k a) * y (ix2 k b) := by
  pointwise [k0_pay3, k0_pay1]

/-- The output block is the sum. -/
theorem out_at (a : Fin 1408) (b : Fin 1024) : k0_pay4 s (ix2 a b) = s (ix2 a b) := by
  pointwise [k0_pay4]

end Cert.DownWIdeal.Prod

end
-- ==== Proof.DownW.Arrays.lean ====
/- The result array of the gradient of the feed-forward block's last matrix after the run. -/
module

public import proofs.«01_k».proof.Proof.DownW.Left
public import proofs.«01_k».proof.Proof.DownW.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.DownWIdeal.Prod

open Cert.DownWIdeal Cert.DownWIdeal.Gen Cert.Common

variable (m : (ℓ : Loc nD τ sig) → Buf (Elt Ideal) ℓ)

/-- Where every window's block stands: an output block for four points, one for each block of rows. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The first matrix. -/
abbrev Xarr (c : Dev nD) : FVec Ideal S4096x2816 .bf16 := m ((c : Thread nD τ).loc main_arg0)
/-- The second matrix. -/
abbrev Yarr (c : Dev nD) : FVec Ideal S4096x1024 .f32 := m ((c : Thread nD τ).loc main_arg1)

/-- The first matrix's block. -/
theorem blk_x (c : Dev nD) (t : Fin cfg0.N) (k : Fin 1024) (a : Fin 1408) (i : Fin 4096) (hi : i.val = t.val % 4 * 1024 + k.val)
    (p : Fin 2816) (hp : p.val = t.val / 4 * 1408 + a.val) :
    (show FVec Ideal S1024x1408 .bf16 from iblk m c 0 t) (ix2 k a) = Xarr m c (ix2 i p) := by
  blk_ext [iblk, V, idx t]

/-- The second matrix's block. -/
theorem blk_y (c : Dev nD) (t : Fin cfg0.N) (k : Fin 1024) (b : Fin 1024) (i : Fin 4096) (hi : i.val = t.val % 4 * 1024 + k.val)
    (q : Fin 1024) (hq : q.val = 0 + b.val) :
    (show FVec Ideal S1024x1024 .f32 from iblk m c 1 t) (ix2 k b) = Yarr m c (ix2 i q) := by
  blk_ext [iblk, V, idx t]

/-- The two blocks' product is the rows' part. -/
theorem part (c : Dev nD) (t : Fin cfg0.N) (a : Fin 1408) (b : Fin 1024) (p : Fin 2816) (hp : p.val = t.val / 4 * 1408 + a.val)
    (q : Fin 1024) (hq : q.val = 0 + b.val) (s : ℕ) (hs : t.val % 4 = s) :
    (∑ k : Fin 1024, (show FVec Ideal S1024x1408 .bf16 from iblk m c 0 t) (ix2 k a)
      * (show FVec Ideal S1024x1024 .f32 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 1408) (b : Fin 1024) (p : Fin 2816)
    (hp : p.val = t.val / 4 * 1408 + a.val) (q : Fin 1024) (hq : q.val = 0 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 1408) (b : Fin 1024) (p : Fin 2816)
    (hp : p.val = t.val / 4 * 1408 + a.val) (q : Fin 1024) (hq : q.val = 0 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 1408) (b : Fin 1024) (p : Fin 2816)
    (hp : p.val = t.val / 4 * 1408 + a.val) (q : Fin 1024) (hq : q.val = 0 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 1408) (b : Fin 1024) (p : Fin 2816)
    (hp : p.val = t.val / 4 * 1408 + a.val) (q : Fin 1024) (hq : q.val = 0 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 2 (cfgs 0).N
    = fun i : S2816x1024.Idx => colProd (Xarr m c) (Yarr m c) (i 0) (i 1) := by
  have hf : ∀ t : Fin cfg0.N, (cfg0.win 2).flush t = true → t.val % 4 = 3 := by decide +kernel
  refine (dats m 0 c).arrAt_eq_of_covers 2 _ (by decide +kernel) fun t hfl y => ?_
  have h3 := hf t hfl
  have ht : t.val < 8 := lt_of_lt_of_eq t.isLt N_0
  have hy0 : (y 0 : ℕ) < 1408 := (y 0).isLt
  have hy1 : (y 1 : ℕ) < 1024 := (y 1).isLt
  have hp : t.val / 4 * 1408 + (y 0 : ℕ) < 2816 := by omega
  have hq : 0 + (y 1 : ℕ) < 1024 := by omega
  blk_simp [idx t]
  rw [after0_2, eq_ix2 y, out_last m c t h3]
  refine (out_at _ (y 0) (y 1)).trans ((sum_all m c t h3 (y 0) (y 1) ⟨_, hp⟩ rfl ⟨_, hq⟩ rfl).trans ?_)
  have e0 : (⟨t.val / 4 * 1408 + (y 0 : ℕ), hp⟩ : Fin 2816) = (win0_2.blk t).view.emb (ix2 (y 0) (y 1)) 0 :=
    Fin.ext (by blk_simp [idx t])
  have e1 : (⟨0 + (y 1 : ℕ), hq⟩ : Fin 1024) = (win0_2.blk t).view.emb (ix2 (y 0) (y 1)) 1 :=
    Fin.ext (by blk_simp [idx t])
  exact congrArg₂ (colProd (Xarr m c) (Yarr m c)) e0 e1

end Cert.DownWIdeal.Prod

end
-- ==== Proof.DownW.Ref.lean ====
/- The reference of the gradient of the feed-forward block's last matrix at an index. -/
module

public import proofs.«01_k».proof.Proof.Gen.DownWReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.DownWReferenceIdeal.Prod

open Cert.DownWReferenceIdeal Cert.DownWReferenceIdeal.Gen Cert.DownWReferenceIdeal.Read Cert.Common

/-- The reference's result is the product. -/
theorem meet (X : FVec Ideal S4096x2816 .bf16) (Y : FVec Ideal S4096x1024 .f32) : val_main_v5 (F := Ideal) X Y
    = fun i : S2816x1024.Idx => colProd (A := 2816) (B := 1024) X Y (i 0) (i 1) := by
  funext i
  rw [eq_ix2 i]
  generalize i 0 = p
  generalize i 1 = q
  show val_main_v5 (F := Ideal) X Y (ix2 p q) = colProd X Y p q
  pointwise [val_main_v5, val_main_v4, val_main_v3, val_main_v1, colProd]
  exact Finset.sum_congr rfl fun k _ => mul_comm (G := EReal) _ _

end Cert.DownWReferenceIdeal.Prod

end
-- ==== Proof.SqW.Left.lean ====
/- What a grid point of the gradient of an output matrix leaves in its accumulator and its output block. -/
module

public import proofs.«01_k».proof.Proof.Gen.SqWIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SqWIdeal.Prod

open Cert.SqWIdeal Cert.SqWIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  have hn : t.val < 4 := lt_of_lt_of_eq t.isLt N_0
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  have hn : t.val < 4 := lt_of_lt_of_eq t.isLt N_0
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  have hn : t.val < 4 := lt_of_lt_of_eq t.isLt N_0
  rw [outsAt0_C m c t (by omega) (by omega) h]; frame_out

end Cert.SqWIdeal.Prod

end
-- ==== Proof.SqW.Pay.lean ====
/- What each payload of the gradient of an output matrix is at an index. -/
module

public import proofs.«01_k».proof.Proof.Gen.SqWIdeal.Skeleton
public import Idealize.ShloMosaic.Lib.Pointwise

@[expose] public section

set_option maxRecDepth 16384

noncomputable section

open Idealize.ShloMosaic Idealize.ShloMosaic.TcCoe Idealize.SL.Sem

namespace Cert.SqWIdeal.Prod

open Cert.SqWIdeal Cert.SqWIdeal.Gen

variable (x : Vec Ideal S1024x1024 .bf16) (y : Vec Ideal S1024x1024 .f32) (s : Vec Ideal S1024x1024 .f32)

/-- The first block of rows' product. -/
theorem part_first (a : Fin 1024) (b : Fin 1024) :
    k0_pay2 x y (ix2 a b) = ∑ k : Fin 1024, x (ix2 k a) * y (ix2 k b) := by
  pointwise [k0_pay2, k0_pay1]

/-- A later block of rows: its product added to the sum so far. -/
theorem part_step (a : Fin 1024) (b : Fin 1024) :
    k0_pay3 x y s (ix2 a b) = s (ix2 a b) + ∑ k : Fin 1024, x (ix2 k a) * y (ix2 k b) := by
  pointwise [k0_pay3, k0_pay1]

/-- The output block is the sum. -/
theorem out_at (a : Fin 1024) (b : Fin 1024) : k0_pay4 s (ix2 a b) = s (ix2 a b) := by
  pointwise [k0_pay4]

end Cert.SqWIdeal.Prod

end
-- ==== Proof.SqW.Arrays.lean ====
/- The result array of the gradient of an output matrix after the run. -/
module

public import proofs.«01_k».proof.Proof.SqW.Left
public import proofs.«01_k».proof.Proof.SqW.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.SqWIdeal.Prod

open Cert.SqWIdeal Cert.SqWIdeal.Gen Cert.Common

variable (m : (ℓ : Loc nD τ sig) → Buf (Elt Ideal) ℓ)

/-- Where every window's block stands: an output block for four points, one for each block of rows. -/
theorem idx : ∀ t : Fin cfg0.N, win0_0.index t = ![t.val % 4, 0] ∧ win0_1.index t = ![t.val % 4, 0] ∧ win0_2.index t = ![0, 0] :=
  (by decide +kernel : ∀ t : Fin grid0.N, _)

/-- The first matrix. -/
abbrev Xarr (c : Dev nD) : FVec Ideal S4096x1024 .bf16 := m ((c : Thread nD τ).loc main_arg0)
/-- The second matrix. -/
abbrev Yarr (c : Dev nD) : FVec Ideal S4096x1024 .f32 := m ((c : Thread nD τ).loc main_arg1)

/-- The first matrix's block. -/
theorem blk_x (c : Dev nD) (t : Fin cfg0.N) (k : Fin 1024) (a : Fin 1024) (i : Fin 4096) (hi : i.val = t.val % 4 * 1024 + k.val)
    (p : Fin 1024) (hp : p.val = 0 + a.val) :
    (show FVec Ideal S1024x1024 .bf16 from iblk m c 0 t) (ix2 k a) = Xarr m c (ix2 i p) := by
  blk_ext [iblk, V, idx t]

/-- The second matrix's block. -/
theorem blk_y (c : Dev nD) (t : Fin cfg0.N) (k : Fin 1024) (b : Fin 1024) (i : Fin 4096) (hi : i.val = t.val % 4 * 1024 + k.val)
    (q : Fin 1024) (hq : q.val = 0 + b.val) :
    (show FVec Ideal S1024x1024 .f32 from iblk m c 1 t) (ix2 k b) = Yarr m c (ix2 i q) := by
  blk_ext [iblk, V, idx t]

/-- The two blocks' product is the rows' part. -/
theorem part (c : Dev nD) (t : Fin cfg0.N) (a : Fin 1024) (b : Fin 1024) (p : Fin 1024) (hp : p.val = 0 + a.val)
    (q : Fin 1024) (hq : q.val = 0 + b.val) (s : ℕ) (hs : t.val % 4 = s) :
    (∑ k : Fin 1024, (show FVec Ideal S1024x1024 .bf16 from iblk m c 0 t) (ix2 k a)
      * (show FVec Ideal S1024x1024 .f32 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 1024) (b : Fin 1024) (p : Fin 1024)
    (hp : p.val = 0 + a.val) (q : Fin 1024) (hq : q.val = 0 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 1024) (b : Fin 1024) (p : Fin 1024)
    (hp : p.val = 0 + a.val) (q : Fin 1024) (hq : q.val = 0 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 1024) (b : Fin 1024) (p : Fin 1024)
    (hp : p.val = 0 + a.val) (q : Fin 1024) (hq : q.val = 0 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 1024) (b : Fin 1024) (p : Fin 1024)
    (hp : p.val = 0 + a.val) (q : Fin 1024) (hq : q.val = 0 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 2 (cfgs 0).N
    = fun i : S1024x1024.Idx => colProd (Xarr m c) (Yarr m c) (i 0) (i 1) := by
  have hf : ∀ t : Fin cfg0.N, (cfg0.win 2).flush t = true → t.val % 4 = 3 := by decide +kernel
  refine (dats m 0 c).arrAt_eq_of_covers 2 _ (by decide +kernel) fun t hfl y => ?_
  have h3 := hf t hfl
  have ht : t.val < 4 := lt_of_lt_of_eq t.isLt N_0
  have hy0 : (y 0 : ℕ) < 1024 := (y 0).isLt
  have hy1 : (y 1 : ℕ) < 1024 := (y 1).isLt
  have hp : 0 + (y 0 : ℕ) < 1024 := by omega
  have hq : 0 + (y 1 : ℕ) < 1024 := by omega
  blk_simp [idx t]
  rw [after0_2, eq_ix2 y, out_last m c t h3]
  refine (out_at _ (y 0) (y 1)).trans ((sum_all m c t h3 (y 0) (y 1) ⟨_, hp⟩ rfl ⟨_, hq⟩ rfl).trans ?_)
  have e0 : (⟨0 + (y 0 : ℕ), hp⟩ : Fin 1024) = (win0_2.blk t).view.emb (ix2 (y 0) (y 1)) 0 :=
    Fin.ext (by blk_simp [idx t])
  have e1 : (⟨0 + (y 1 : ℕ), hq⟩ : Fin 1024) = (win0_2.blk t).view.emb (ix2 (y 0) (y 1)) 1 :=
    Fin.ext (by blk_simp [idx t])
  exact congrArg₂ (colProd (Xarr m c) (Yarr m c)) e0 e1

end Cert.SqWIdeal.Prod

end
-- ==== Proof.SqW.Ref.lean ====
/- The reference of the gradient of an output matrix at an index. -/
module

public import proofs.«01_k».proof.Proof.Gen.SqWReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.SqWReferenceIdeal.Prod

open Cert.SqWReferenceIdeal Cert.SqWReferenceIdeal.Gen Cert.SqWReferenceIdeal.Read Cert.Common

/-- The reference's result is the product. -/
theorem meet (X : FVec Ideal S4096x1024 .bf16) (Y : FVec Ideal S4096x1024 .f32) : val_main_v5 (F := Ideal) X Y
    = fun i : S1024x1024.Idx => colProd (A := 1024) (B := 1024) X Y (i 0) (i 1) := by
  funext i
  rw [eq_ix2 i]
  generalize i 0 = p
  generalize i 1 = q
  show val_main_v5 (F := Ideal) X Y (ix2 p q) = colProd X Y p q
  pointwise [val_main_cst, val_main_v0, val_main_v1, val_main_v2, val_main_v3, val_main_v4, val_main_v5, colProd]
  exact Finset.sum_congr rfl fun k _ => mul_comm (G := EReal) _ _

end Cert.SqWReferenceIdeal.Prod

end
-- ==== Proof.QW.Left.lean ====
/- What a grid point of the gradient of the query matrix leaves in its accumulator and its output block. -/
module

public import proofs.«01_k».proof.Proof.Gen.QWIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QWIdeal.Prod

open Cert.QWIdeal Cert.QWIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  have hn : t.val < 4 := lt_of_lt_of_eq t.isLt N_0
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  have hn : t.val < 4 := lt_of_lt_of_eq t.isLt N_0
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  have hn : t.val < 4 := lt_of_lt_of_eq t.isLt N_0
  rw [outsAt0_C m c t (by omega) (by omega) h]; frame_out

end Cert.QWIdeal.Prod

end
-- ==== Proof.QW.Pay.lean ====
/- What each payload of the gradient of the query matrix is at an index. -/
module

public import proofs.«01_k».proof.Proof.Gen.QWIdeal.Skeleton
public import Idealize.ShloMosaic.Lib.Pointwise

@[expose] public section

set_option maxRecDepth 16384

noncomputable section

open Idealize.ShloMosaic Idealize.ShloMosaic.TcCoe Idealize.SL.Sem

namespace Cert.QWIdeal.Prod

open Cert.QWIdeal Cert.QWIdeal.Gen

variable (x : Vec Ideal S1024x1024 .bf16) (y : Vec Ideal S1024x1024 .bf16) (s : Vec Ideal S1024x1024 .f32)

/-- The first block of rows' product. -/
theorem part_first (a : Fin 1024) (b : Fin 1024) :
    k0_pay2 x y (ix2 a b) = ∑ k : Fin 1024, x (ix2 k a) * y (ix2 k b) := by
  pointwise [k0_pay2, k0_pay1]

/-- A later block of rows: its product added to the sum so far. -/
theorem part_step (a : Fin 1024) (b : Fin 1024) :
    k0_pay3 x y s (ix2 a b) = s (ix2 a b) + ∑ k : Fin 1024, x (ix2 k a) * y (ix2 k b) := by
  pointwise [k0_pay3, k0_pay1]

/-- The output block is the sum. -/
theorem out_at (a : Fin 1024) (b : Fin 1024) : k0_pay4 s (ix2 a b) = s (ix2 a b) := by
  pointwise [k0_pay4]

end Cert.QWIdeal.Prod

end
-- ==== Proof.QW.Arrays.lean ====
/- The result array of the gradient of the query matrix after the run. -/
module

public import proofs.«01_k».proof.Proof.QW.Left
public import proofs.«01_k».proof.Proof.QW.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.QWIdeal.Prod

open Cert.QWIdeal Cert.QWIdeal.Gen Cert.Common

variable (m : (ℓ : Loc nD τ sig) → Buf (Elt Ideal) ℓ)

/-- Where every window's block stands: an output block for four points, one for each block of rows. -/
theorem idx : ∀ t : Fin cfg0.N, win0_0.index t = ![t.val % 4, 0] ∧ win0_1.index t = ![t.val % 4, 0] ∧ win0_2.index t = ![0, 0] :=
  (by decide +kernel : ∀ t : Fin grid0.N, _)

/-- The first matrix. -/
abbrev Xarr (c : Dev nD) : FVec Ideal S4096x1024 .bf16 := m ((c : Thread nD τ).loc main_arg0)
/-- The second matrix. -/
abbrev Yarr (c : Dev nD) : FVec Ideal S4096x1024 .bf16 := m ((c : Thread nD τ).loc main_arg1)

/-- The first matrix's block. -/
theorem blk_x (c : Dev nD) (t : Fin cfg0.N) (k : Fin 1024) (a : Fin 1024) (i : Fin 4096) (hi : i.val = t.val % 4 * 1024 + k.val)
    (p : Fin 1024) (hp : p.val = 0 + a.val) :
    (show FVec Ideal S1024x1024 .bf16 from iblk m c 0 t) (ix2 k a) = Xarr m c (ix2 i p) := by
  blk_ext [iblk, V, idx t]

/-- The second matrix's block. -/
theorem blk_y (c : Dev nD) (t : Fin cfg0.N) (k : Fin 1024) (b : Fin 1024) (i : Fin 4096) (hi : i.val = t.val % 4 * 1024 + k.val)
    (q : Fin 1024) (hq : q.val = 0 + b.val) :
    (show FVec Ideal S1024x1024 .bf16 from iblk m c 1 t) (ix2 k b) = Yarr m c (ix2 i q) := by
  blk_ext [iblk, V, idx t]

/-- The two blocks' product is the rows' part. -/
theorem part (c : Dev nD) (t : Fin cfg0.N) (a : Fin 1024) (b : Fin 1024) (p : Fin 1024) (hp : p.val = 0 + a.val)
    (q : Fin 1024) (hq : q.val = 0 + b.val) (s : ℕ) (hs : t.val % 4 = s) :
    (∑ k : Fin 1024, (show FVec Ideal S1024x1024 .bf16 from iblk m c 0 t) (ix2 k a)
      * (show FVec Ideal S1024x1024 .bf16 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 1024) (b : Fin 1024) (p : Fin 1024)
    (hp : p.val = 0 + a.val) (q : Fin 1024) (hq : q.val = 0 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 1024) (b : Fin 1024) (p : Fin 1024)
    (hp : p.val = 0 + a.val) (q : Fin 1024) (hq : q.val = 0 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 1024) (b : Fin 1024) (p : Fin 1024)
    (hp : p.val = 0 + a.val) (q : Fin 1024) (hq : q.val = 0 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 1024) (b : Fin 1024) (p : Fin 1024)
    (hp : p.val = 0 + a.val) (q : Fin 1024) (hq : q.val = 0 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 2 (cfgs 0).N
    = fun i : S1024x1024.Idx => colProd (Xarr m c) (Yarr m c) (i 0) (i 1) := by
  have hf : ∀ t : Fin cfg0.N, (cfg0.win 2).flush t = true → t.val % 4 = 3 := by decide +kernel
  refine (dats m 0 c).arrAt_eq_of_covers 2 _ (by decide +kernel) fun t hfl y => ?_
  have h3 := hf t hfl
  have ht : t.val < 4 := lt_of_lt_of_eq t.isLt N_0
  have hy0 : (y 0 : ℕ) < 1024 := (y 0).isLt
  have hy1 : (y 1 : ℕ) < 1024 := (y 1).isLt
  have hp : 0 + (y 0 : ℕ) < 1024 := by omega
  have hq : 0 + (y 1 : ℕ) < 1024 := by omega
  blk_simp [idx t]
  rw [after0_2, eq_ix2 y, out_last m c t h3]
  refine (out_at _ (y 0) (y 1)).trans ((sum_all m c t h3 (y 0) (y 1) ⟨_, hp⟩ rfl ⟨_, hq⟩ rfl).trans ?_)
  have e0 : (⟨0 + (y 0 : ℕ), hp⟩ : Fin 1024) = (win0_2.blk t).view.emb (ix2 (y 0) (y 1)) 0 :=
    Fin.ext (by blk_simp [idx t])
  have e1 : (⟨0 + (y 1 : ℕ), hq⟩ : Fin 1024) = (win0_2.blk t).view.emb (ix2 (y 0) (y 1)) 1 :=
    Fin.ext (by blk_simp [idx t])
  exact congrArg₂ (colProd (Xarr m c) (Yarr m c)) e0 e1

end Cert.QWIdeal.Prod

end
-- ==== Proof.QW.Ref.lean ====
/- The reference of the gradient of the query matrix at an index. -/
module

public import proofs.«01_k».proof.Proof.Gen.QWReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.QWReferenceIdeal.Prod

open Cert.QWReferenceIdeal Cert.QWReferenceIdeal.Gen Cert.QWReferenceIdeal.Read Cert.Common

/-- The reference's result is the product. -/
theorem meet (X : FVec Ideal S4096x1024 .bf16) (Y : FVec Ideal S4096x1024 .bf16) : val_main_v6 (F := Ideal) X Y
    = fun i : S1024x1024.Idx => colProd (A := 1024) (B := 1024) X Y (i 0) (i 1) := by
  funext i
  rw [eq_ix2 i]
  generalize i 0 = p
  generalize i 1 = q
  show val_main_v6 (F := Ideal) X Y (ix2 p q) = colProd X Y p q
  pointwise [val_main_cst, val_main_v0, val_main_v1, val_main_v2, val_main_v3, val_main_v4, val_main_v5, val_main_v6, colProd]
  exact Finset.sum_congr rfl fun k _ => mul_comm (G := EReal) _ _

end Cert.QWReferenceIdeal.Prod

end
-- ==== Proof.InWb.Left.lean ====
/- What a grid point of the gradient of the second layer's input matrix leaves in its accumulator and its output block. -/
module

public import proofs.«01_k».proof.Proof.Gen.InWbIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InWbIdeal.Prod

open Cert.InWbIdeal Cert.InWbIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  have hn : t.val < 12 := lt_of_lt_of_eq t.isLt N_0
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  have hn : t.val < 12 := lt_of_lt_of_eq t.isLt N_0
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  have hn : t.val < 12 := lt_of_lt_of_eq t.isLt N_0
  rw [outsAt0_C m c t (by omega) (by omega) h]; frame_out

end Cert.InWbIdeal.Prod

end
-- ==== Proof.InWb.Pay.lean ====
/- What each payload of the gradient of the second layer's input matrix is at an index. -/
module

public import proofs.«01_k».proof.Proof.Gen.InWbIdeal.Skeleton
public import Idealize.ShloMosaic.Lib.Pointwise

@[expose] public section

set_option maxRecDepth 16384

noncomputable section

open Idealize.ShloMosaic Idealize.ShloMosaic.TcCoe Idealize.SL.Sem

namespace Cert.InWbIdeal.Prod

open Cert.InWbIdeal Cert.InWbIdeal.Gen

variable (x : Vec Ideal S1024x1024 .bf16) (y : Vec Ideal S1024x1408 .bf16) (s : Vec Ideal S1024x1408 .f32)

/-- The first block of rows' product. -/
theorem part_first (a : Fin 1024) (b : Fin 1408) :
    k0_pay2 x y (ix2 a b) = ∑ k : Fin 1024, x (ix2 k a) * y (ix2 k b) := by
  pointwise [k0_pay2, k0_pay1]

/-- A later block of rows: its product added to the sum so far. -/
theorem part_step (a : Fin 1024) (b : Fin 1408) :
    k0_pay3 x y s (ix2 a b) = s (ix2 a b) + ∑ k : Fin 1024, x (ix2 k a) * y (ix2 k b) := by
  pointwise [k0_pay3, k0_pay1]

/-- The output block is the sum. -/
theorem out_at (a : Fin 1024) (b : Fin 1408) : k0_pay4 s (ix2 a b) = s (ix2 a b) := by
  pointwise [k0_pay4]

end Cert.InWbIdeal.Prod

end
-- ==== Proof.InWb.Arrays.lean ====
/- The result array of the gradient of the second layer's input matrix after the run. -/
module

public import proofs.«01_k».proof.Proof.InWb.Left
public import proofs.«01_k».proof.Proof.InWb.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.InWbIdeal.Prod

open Cert.InWbIdeal Cert.InWbIdeal.Gen Cert.Common

variable (m : (ℓ : Loc nD τ sig) → Buf (Elt Ideal) ℓ)

/-- Where every window's block stands: an output block for four points, one for each block of rows. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The first matrix. -/
abbrev Xarr (c : Dev nD) : FVec Ideal S4096x1024 .bf16 := m ((c : Thread nD τ).loc main_arg0)
/-- The second matrix. -/
abbrev Yarr (c : Dev nD) : FVec Ideal S4096x4224 .bf16 := m ((c : Thread nD τ).loc main_arg1)

/-- The first matrix's block. -/
theorem blk_x (c : Dev nD) (t : Fin cfg0.N) (k : Fin 1024) (a : Fin 1024) (i : Fin 4096) (hi : i.val = t.val % 4 * 1024 + k.val)
    (p : Fin 1024) (hp : p.val = 0 + a.val) :
    (show FVec Ideal S1024x1024 .bf16 from iblk m c 0 t) (ix2 k a) = Xarr m c (ix2 i p) := by
  blk_ext [iblk, V, idx t]

/-- The second matrix's block. -/
theorem blk_y (c : Dev nD) (t : Fin cfg0.N) (k : Fin 1024) (b : Fin 1408) (i : Fin 4096) (hi : i.val = t.val % 4 * 1024 + k.val)
    (q : Fin 4224) (hq : q.val = t.val / 4 * 1408 + b.val) :
    (show FVec Ideal S1024x1408 .bf16 from iblk m c 1 t) (ix2 k b) = Yarr m c (ix2 i q) := by
  blk_ext [iblk, V, idx t]

/-- The two blocks' product is the rows' part. -/
theorem part (c : Dev nD) (t : Fin cfg0.N) (a : Fin 1024) (b : Fin 1408) (p : Fin 1024) (hp : p.val = 0 + a.val)
    (q : Fin 4224) (hq : q.val = t.val / 4 * 1408 + b.val) (s : ℕ) (hs : t.val % 4 = s) :
    (∑ k : Fin 1024, (show FVec Ideal S1024x1024 .bf16 from iblk m c 0 t) (ix2 k a)
      * (show FVec Ideal S1024x1408 .bf16 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 1024) (b : Fin 1408) (p : Fin 1024)
    (hp : p.val = 0 + a.val) (q : Fin 4224) (hq : q.val = t.val / 4 * 1408 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 1024) (b : Fin 1408) (p : Fin 1024)
    (hp : p.val = 0 + a.val) (q : Fin 4224) (hq : q.val = t.val / 4 * 1408 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 1024) (b : Fin 1408) (p : Fin 1024)
    (hp : p.val = 0 + a.val) (q : Fin 4224) (hq : q.val = t.val / 4 * 1408 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 1024) (b : Fin 1408) (p : Fin 1024)
    (hp : p.val = 0 + a.val) (q : Fin 4224) (hq : q.val = t.val / 4 * 1408 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 2 (cfgs 0).N
    = fun i : S1024x4224.Idx => colProd (Xarr m c) (Yarr m c) (i 0) (i 1) := by
  have hf : ∀ t : Fin cfg0.N, (cfg0.win 2).flush t = true → t.val % 4 = 3 := by decide +kernel
  refine (dats m 0 c).arrAt_eq_of_covers 2 _ (by decide +kernel) fun t hfl y => ?_
  have h3 := hf t hfl
  have ht : t.val < 12 := lt_of_lt_of_eq t.isLt N_0
  have hy0 : (y 0 : ℕ) < 1024 := (y 0).isLt
  have hy1 : (y 1 : ℕ) < 1408 := (y 1).isLt
  have hp : 0 + (y 0 : ℕ) < 1024 := by omega
  have hq : t.val / 4 * 1408 + (y 1 : ℕ) < 4224 := by omega
  blk_simp [idx t]
  rw [after0_2, eq_ix2 y, out_last m c t h3]
  refine (out_at _ (y 0) (y 1)).trans ((sum_all m c t h3 (y 0) (y 1) ⟨_, hp⟩ rfl ⟨_, hq⟩ rfl).trans ?_)
  have e0 : (⟨0 + (y 0 : ℕ), hp⟩ : Fin 1024) = (win0_2.blk t).view.emb (ix2 (y 0) (y 1)) 0 :=
    Fin.ext (by blk_simp [idx t])
  have e1 : (⟨t.val / 4 * 1408 + (y 1 : ℕ), hq⟩ : Fin 4224) = (win0_2.blk t).view.emb (ix2 (y 0) (y 1)) 1 :=
    Fin.ext (by blk_simp [idx t])
  exact congrArg₂ (colProd (Xarr m c) (Yarr m c)) e0 e1

end Cert.InWbIdeal.Prod

end
-- ==== Proof.InWb.Ref.lean ====
/- The reference of the gradient of the second layer's input matrix at an index. -/
module

public import proofs.«01_k».proof.Proof.Gen.InWbReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.InWbReferenceIdeal.Prod

open Cert.InWbReferenceIdeal Cert.InWbReferenceIdeal.Gen Cert.InWbReferenceIdeal.Read Cert.Common

/-- The reference's result is the product. -/
theorem meet (X : FVec Ideal S4096x1024 .bf16) (Y : FVec Ideal S4096x4224 .bf16) : val_main_v6 (F := Ideal) X Y
    = fun i : S1024x4224.Idx => colProd (A := 1024) (B := 4224) X Y (i 0) (i 1) := by
  funext i
  rw [eq_ix2 i]
  generalize i 0 = p
  generalize i 1 = q
  show val_main_v6 (F := Ideal) X Y (ix2 p q) = colProd X Y p q
  pointwise [val_main_cst, val_main_v0, val_main_v1, val_main_v2, val_main_v3, val_main_v4, val_main_v5, val_main_v6, colProd]
  exact Finset.sum_congr rfl fun k _ => mul_comm (G := EReal) _ _

end Cert.InWbReferenceIdeal.Prod

end
-- ==== Proof.InWa.Left.lean ====
/- What a grid point of the gradient of the first layer's input matrix leaves in its accumulator and its output block. -/
module

public import proofs.«01_k».proof.Proof.Gen.InWaIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InWaIdeal.Prod

open Cert.InWaIdeal Cert.InWaIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  have hn : t.val < 8 := lt_of_lt_of_eq t.isLt N_0
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  have hn : t.val < 8 := lt_of_lt_of_eq t.isLt N_0
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  have hn : t.val < 8 := lt_of_lt_of_eq t.isLt N_0
  rw [outsAt0_C m c t (by omega) (by omega) h]; frame_out

end Cert.InWaIdeal.Prod

end
-- ==== Proof.InWa.Pay.lean ====
/- What each payload of the gradient of the first layer's input matrix is at an index. -/
module

public import proofs.«01_k».proof.Proof.Gen.InWaIdeal.Skeleton
public import Idealize.ShloMosaic.Lib.Pointwise

@[expose] public section

set_option maxRecDepth 16384

noncomputable section

open Idealize.ShloMosaic Idealize.ShloMosaic.TcCoe Idealize.SL.Sem

namespace Cert.InWaIdeal.Prod

open Cert.InWaIdeal Cert.InWaIdeal.Gen

variable (x : Vec Ideal S1024x1024 .bf16) (y : Vec Ideal S1024x1280 .bf16) (s : Vec Ideal S1024x1280 .f32)

/-- The first block of rows' product. -/
theorem part_first (a : Fin 1024) (b : Fin 1280) :
    k0_pay2 x y (ix2 a b) = ∑ k : Fin 1024, x (ix2 k a) * y (ix2 k b) := by
  pointwise [k0_pay2, k0_pay1]

/-- A later block of rows: its product added to the sum so far. -/
theorem part_step (a : Fin 1024) (b : Fin 1280) :
    k0_pay3 x y s (ix2 a b) = s (ix2 a b) + ∑ k : Fin 1024, x (ix2 k a) * y (ix2 k b) := by
  pointwise [k0_pay3, k0_pay1]

/-- The output block is the sum. -/
theorem out_at (a : Fin 1024) (b : Fin 1280) : k0_pay4 s (ix2 a b) = s (ix2 a b) := by
  pointwise [k0_pay4]

end Cert.InWaIdeal.Prod

end
-- ==== Proof.InWa.Arrays.lean ====
/- The result array of the gradient of the first layer's input matrix after the run. -/
module

public import proofs.«01_k».proof.Proof.InWa.Left
public import proofs.«01_k».proof.Proof.InWa.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.InWaIdeal.Prod

open Cert.InWaIdeal Cert.InWaIdeal.Gen Cert.Common

variable (m : (ℓ : Loc nD τ sig) → Buf (Elt Ideal) ℓ)

/-- Where every window's block stands: an output block for four points, one for each block of rows. -/
theorem idx : ∀ t : Fin cfg0.N, win0_0.index t = ![t.val % 4, 0] ∧ win0_1.index t = ![t.val % 4, t.val / 4] ∧ win0_3.index t = ![0, t.val / 4] :=
  (by decide +kernel : ∀ t : Fin grid0.N, _)

/-- The first matrix. -/
abbrev Xarr (c : Dev nD) : FVec Ideal S4096x1024 .bf16 := m ((c : Thread nD τ).loc main_arg0)
/-- The second matrix. -/
abbrev Yarr (c : Dev nD) : FVec Ideal S4096x2560 .bf16 := m ((c : Thread nD τ).loc main_arg1)

/-- The first matrix's block. -/
theorem blk_x (c : Dev nD) (t : Fin cfg0.N) (k : Fin 1024) (a : Fin 1024) (i : Fin 4096) (hi : i.val = t.val % 4 * 1024 + k.val)
    (p : Fin 1024) (hp : p.val = 0 + a.val) :
    (show FVec Ideal S1024x1024 .bf16 from iblk m c 0 t) (ix2 k a) = Xarr m c (ix2 i p) := by
  blk_ext [iblk, V, idx t]

/-- The second matrix's block. -/
theorem blk_y (c : Dev nD) (t : Fin cfg0.N) (k : Fin 1024) (b : Fin 1280) (i : Fin 4096) (hi : i.val = t.val % 4 * 1024 + k.val)
    (q : Fin 2560) (hq : q.val = t.val / 4 * 1280 + b.val) :
    (show FVec Ideal S1024x1280 .bf16 from iblk m c 1 t) (ix2 k b) = Yarr m c (ix2 i q) := by
  blk_ext [iblk, V, idx t]

/-- The two blocks' product is the rows' part. -/
theorem part (c : Dev nD) (t : Fin cfg0.N) (a : Fin 1024) (b : Fin 1280) (p : Fin 1024) (hp : p.val = 0 + a.val)
    (q : Fin 2560) (hq : q.val = t.val / 4 * 1280 + b.val) (s : ℕ) (hs : t.val % 4 = s) :
    (∑ k : Fin 1024, (show FVec Ideal S1024x1024 .bf16 from iblk m c 0 t) (ix2 k a)
      * (show FVec Ideal S1024x1280 .bf16 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 1024) (b : Fin 1280) (p : Fin 1024)
    (hp : p.val = 0 + a.val) (q : Fin 2560) (hq : q.val = t.val / 4 * 1280 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 1024) (b : Fin 1280) (p : Fin 1024)
    (hp : p.val = 0 + a.val) (q : Fin 2560) (hq : q.val = t.val / 4 * 1280 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 1024) (b : Fin 1280) (p : Fin 1024)
    (hp : p.val = 0 + a.val) (q : Fin 2560) (hq : q.val = t.val / 4 * 1280 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 1024) (b : Fin 1280) (p : Fin 1024)
    (hp : p.val = 0 + a.val) (q : Fin 2560) (hq : q.val = t.val / 4 * 1280 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 3 (cfgs 0).N
    = fun i : S1024x2560.Idx => colProd (Xarr m c) (Yarr m c) (i 0) (i 1) := by
  have hf : ∀ t : Fin cfg0.N, (cfg0.win 3).flush t = true → t.val % 4 = 3 := by decide +kernel
  refine (dats m 0 c).arrAt_eq_of_covers 3 _ (by decide +kernel) fun t hfl y => ?_
  have h3 := hf t hfl
  have ht : t.val < 8 := lt_of_lt_of_eq t.isLt N_0
  have hy0 : (y 0 : ℕ) < 1024 := (y 0).isLt
  have hy1 : (y 1 : ℕ) < 1280 := (y 1).isLt
  have hp : 0 + (y 0 : ℕ) < 1024 := by omega
  have hq : t.val / 4 * 1280 + (y 1 : ℕ) < 2560 := by omega
  blk_simp [idx t]
  rw [after0_3, eq_ix2 y, out_last m c t h3]
  refine (out_at _ (y 0) (y 1)).trans ((sum_all m c t h3 (y 0) (y 1) ⟨_, hp⟩ rfl ⟨_, hq⟩ rfl).trans ?_)
  have e0 : (⟨0 + (y 0 : ℕ), hp⟩ : Fin 1024) = (win0_3.blk t).view.emb (ix2 (y 0) (y 1)) 0 :=
    Fin.ext (by blk_simp [idx t])
  have e1 : (⟨t.val / 4 * 1280 + (y 1 : ℕ), hq⟩ : Fin 2560) = (win0_3.blk t).view.emb (ix2 (y 0) (y 1)) 1 :=
    Fin.ext (by blk_simp [idx t])
  exact congrArg₂ (colProd (Xarr m c) (Yarr m c)) e0 e1

end Cert.InWaIdeal.Prod

end
-- ==== Proof.InWa.Ref.lean ====
/- The reference of the gradient of the first layer's input matrix at an index. -/
module

public import proofs.«01_k».proof.Proof.Gen.InWaReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.InWaReferenceIdeal.Prod

open Cert.InWaReferenceIdeal Cert.InWaReferenceIdeal.Gen Cert.InWaReferenceIdeal.Read Cert.Common

/-- The reference's result is the product. -/
theorem meet (X : FVec Ideal S4096x1024 .bf16) (Y : FVec Ideal S4096x2560 .bf16) : val_main_v6 (F := Ideal) X Y
    = fun i : S1024x2560.Idx => colProd (A := 1024) (B := 2560) X Y (i 0) (i 1) := by
  funext i
  rw [eq_ix2 i]
  generalize i 0 = p
  generalize i 1 = q
  show val_main_v6 (F := Ideal) X Y (ix2 p q) = colProd X Y p q
  pointwise [val_main_cst, val_main_v0, val_main_v1, val_main_v2, val_main_v3, val_main_v4, val_main_v5, val_main_v6, colProd]
  exact Finset.sum_congr rfl fun k _ => mul_comm (G := EReal) _ _

end Cert.InWaReferenceIdeal.Prod

end
-- ==== Proof.SqX.Arrays.lean ====
/- The result array of the gradient through an output matrix after the run. -/
module

public import proofs.«01_k».proof.Proof.Gen.SqXIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SqXIdeal.Prod

open Cert.SqXIdeal Cert.SqXIdeal.Gen Cert.Common

variable (m : (ℓ : Loc nD τ sig) → Buf (Elt Ideal) ℓ)

/-- The product of two blocks. -/
theorem prod_at (x : Vec Ideal S1024x1024 .f32) (y : Vec Ideal S1024x1024 .bf16) (a : Fin 1024) (b : Fin 1024) :
    k0_pay1 x y (ix2 a b) = ∑ k : Fin 1024, x (ix2 a k) * y (ix2 b k) := by
  pointwise [k0_pay1]

/-- Where every window's block stands. -/
theorem idx : ∀ t : Fin cfg0.N, win0_0.index t = ![t.val, 0] ∧ win0_1.index t = ![0, 0] ∧ win0_2.index t = ![t.val, 0] :=
  (by decide +kernel : ∀ t : Fin grid0.N, _)

/-- The rows. -/
abbrev Xarr (c : Dev nD) : FVec Ideal S4096x1024 .f32 := m ((c : Thread nD τ).loc main_arg0)
/-- The matrix. -/
abbrev Yarr (c : Dev nD) : FVec Ideal S1024x1024 .bf16 := m ((c : Thread nD τ).loc main_arg1)

/-- The rows' block. -/
theorem blk_x (c : Dev nD) (t : Fin cfg0.N) (a : Fin 1024) (k : Fin 1024) (p : Fin 4096) (hp : p.val = t.val * 1024 + a.val) :
    (show FVec Ideal S1024x1024 .f32 from iblk m c 0 t) (ix2 a k) = Xarr m c (ix2 p k) := by
  blk_ext [iblk, V, idx t]

/-- The matrix's block. -/
theorem blk_y (c : Dev nD) (t : Fin cfg0.N) (b : Fin 1024) (k : Fin 1024) (q : Fin 1024) (hq : q.val = 0 + b.val) :
    (show FVec Ideal S1024x1024 .bf16 from iblk m c 1 t) (ix2 b k) = Yarr m c (ix2 q k) := by
  blk_ext [iblk, V, idx t]

/-- What a point writes out. -/
theorem out_at (c : Dev nD) (t : Fin cfg0.N) (a : Fin 1024) (b : Fin 1024) (p : Fin 4096) (hp : p.val = t.val * 1024 + a.val)
    (q : Fin 1024) (hq : q.val = 0 + b.val) :
    out0_2 (iblk m c 0 t) (iblk m c 1 t) (ix2 a b) = rowProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x1024.Idx => rowProd (Xarr m c) (Yarr m c) (i 0) (i 1) := by
  refine (dats m 0 c).arrAt_eq_of_covers 2 _ (by decide +kernel) fun t hfl y => ?_
  have ht : t.val < 4 := lt_of_lt_of_eq t.isLt N_0
  have hy0 : (y 0 : ℕ) < 1024 := (y 0).isLt
  have hy1 : (y 1 : ℕ) < 1024 := (y 1).isLt
  have hp : t.val * 1024 + (y 0 : ℕ) < 4096 := by omega
  have hq : 0 + (y 1 : ℕ) < 1024 := by omega
  blk_simp [idx t]
  rw [after0_2, eq_ix2 y]
  refine (out_at m c t (y 0) (y 1) ⟨_, hp⟩ rfl ⟨_, hq⟩ rfl).trans ?_
  have e0 : (⟨t.val * 1024 + (y 0 : ℕ), hp⟩ : Fin 4096) = (win0_2.blk t).view.emb (ix2 (y 0) (y 1)) 0 :=
    Fin.ext (by blk_simp [idx t])
  have e1 : (⟨0 + (y 1 : ℕ), hq⟩ : Fin 1024) = (win0_2.blk t).view.emb (ix2 (y 0) (y 1)) 1 :=
    Fin.ext (by blk_simp [idx t])
  exact congrArg₂ (rowProd (Xarr m c) (Yarr m c)) e0 e1

end Cert.SqXIdeal.Prod

end
-- ==== Proof.SqX.Ref.lean ====
/- The reference of the gradient through an output matrix at an index. -/
module

public import proofs.«01_k».proof.Proof.Gen.SqXReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.SqXReferenceIdeal.Prod

open Cert.SqXReferenceIdeal Cert.SqXReferenceIdeal.Gen Cert.SqXReferenceIdeal.Read Cert.Common

/-- The reference's result is the product. -/
theorem meet (X : FVec Ideal S4096x1024 .f32) (Y : FVec Ideal S1024x1024 .bf16) : val_main_v3 (F := Ideal) X Y
    = fun i : S4096x1024.Idx => rowProd (M := 4096) (N := 1024) X Y (i 0) (i 1) := by
  funext i
  rw [eq_ix2 i]
  generalize i 0 = p
  generalize i 1 = q
  show val_main_v3 (F := Ideal) X Y (ix2 p q) = rowProd X Y p q
  pointwise [val_main_cst, val_main_v0, val_main_v1, val_main_v2, val_main_v3, rowProd]

end Cert.SqXReferenceIdeal.Prod

end
-- ==== Proof.Common.Residual.lean ====
/- A residual branch's end: the product added to the stream, and the norm that follows; and the gradient of a norm
   followed by a product. -/
module

public import proofs.«01_k».proof.Proof.Common.Norm
public import proofs.«01_k».proof.Proof.Common.Product

@[expose] public section

noncomputable section

open Idealize.ShloMosaic

namespace Cert.Common

variable {K M : ℕ}

/-- Row `i` of a matrix. -/
def line {N : ℕ} (X : Shape.Idx ⟨2, ![M, N]⟩ → EReal) (i : Fin M) (d : Fin N) : EReal := X (ix2 i d)

/-- A row with its norm taken. -/
def normed (x g : Fin 1024 → EReal) (d : Fin 1024) : EReal := x d * rootInv x * g d

/-- The stream and the branch's product. -/
def added (X : Shape.Idx ⟨2, ![M, K]⟩ → EReal) (W : Shape.Idx ⟨2, ![K, 1024]⟩ → EReal) (R : Shape.Idx ⟨2, ![M, 1024]⟩ → EReal)
    (i : Fin M) (d : Fin 1024) : EReal := matProd X W i d + R (ix2 i d)

variable (Y : Shape.Idx ⟨2, ![M, K]⟩ → EReal) (W : Shape.Idx ⟨2, ![1024, K]⟩ → EReal) (X R : Shape.Idx ⟨2, ![M, 1024]⟩ → EReal)
  (g : Fin 1024 → EReal)

/-- The gradient of the rows before the norm. -/
def rowsGrad (i : Fin M) (d : Fin 1024) : EReal := normGrad (rowProd Y W i) g (line X i) (R (ix2 i d)) d

/-- The gradient of the gain. -/
def gainGrad (d : Fin 1024) : EReal := ∑ i : Fin M, rowProd Y W i d * (X (ix2 i d) * rootInv (line X i))

end Cert.Common

end
-- ==== Proof.InXb.Left.lean ====
/- What each payload of the gradient through the second layer's input product and its norm is at an index, and what a grid point leaves. -/
module

public import proofs.«01_k».proof.Proof.Gen.InXbIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InXbIdeal.Prod

open Cert.InXbIdeal Cert.InXbIdeal.Gen Cert.Common

variable (m : (ℓ : Loc nD τ sig) → Buf (Elt Ideal) ℓ)

section

variable (y : Vec Ideal S1024x1408 .bf16) (w : Vec Ideal S1024x1408 .bf16) (a x res : Vec Ideal S1024x1024 .f32)
  (g o : Vec Ideal S1x1024 .f32)

/-- The first column block's product. -/
theorem part_first (r : Fin 1024) (d : Fin 1024) :
    k0_pay3 y w (ix2 r d) = ∑ n : Fin 1408, y (ix2 r n) * w (ix2 d n) := by
  pointwise [k0_pay3, k0_pay2]

/-- A later column block: its product added to the sum so far. -/
theorem part_step (r : Fin 1024) (d : Fin 1024) :
    k0_pay4 y w a (ix2 r d) = a (ix2 r d) + ∑ n : Fin 1408, y (ix2 r n) * w (ix2 d n) := by
  pointwise [k0_pay4, k0_pay2]

/-- One over the root of a row's mean square. -/
theorem inv_at (r : Fin 1024) : k0_pay5 x (ix2 r 0) = rootInv (line (M := 1024) x r) := by
  pointwise [k0_pay5, rootInv, square, width, tiny, line]

/-- The normed row without its gain. -/
theorem normed_at (r : Fin 1024) (d : Fin 1024) : k0_pay6 x (ix2 r d) = line (M := 1024) x r d * rootInv (line (M := 1024) x r) := by
  rw [← inv_at]
  pointwise [k0_pay6, line]

/-- The gain's gradient: what was there and the block's rows' part. -/
theorem gain_at (d : Fin 1024) :
    k0_pay7 a x o (ix2 0 d) = o (ix2 0 d) + ∑ r : Fin 1024, a (ix2 r d) * (line (M := 1024) x r d * rootInv (line (M := 1024) x r)) := by
  simp only [← normed_at]
  pointwise [k0_pay7]

/-- The rows' gradient. -/
theorem grad_at (r : Fin 1024) (d : Fin 1024) :
    k0_pay8 a x g res (ix2 r d)
      = normGrad (fun e => a (ix2 r e)) (fun e => g (ix2 0 e)) (line (M := 1024) x r) (res (ix2 r d)) d := by
  unfold normGrad
  pointwise [k0_pay8, width]
  simp only [normed_at, inv_at]

end

/-- At the first column block of a row block the accumulator holds that block's product. -/
theorem acc_first (c : Dev nD) (t : Fin cfg0.N) (h : t.val % 3 = 0) :
    (outsAt0 m c t.val t.isLt).2.2 = k0_pay3 (iblk m c 0 t) (iblk m c 1 t) := by
  by_cases h0 : t.val % 12 = 0
  · rw [outsAt0_A m c t h0 (by omega) (by omega) (by omega)]; frame_out
  · rw [outsAt0_D m c t h0 (by omega) (by omega) (by omega)]; frame_out

/-- At a later column block its product is added. -/
theorem acc_step (c : Dev nD) (t : Fin cfg0.N) (h : ¬t.val % 3 = 0) :
    (outsAt0 m c t.val t.isLt).2.2 = k0_pay4 (iblk m c 0 t) (iblk m c 1 t)
      ((outsAt0 m c (t.val - 1) (Nat.lt_of_le_of_lt (Nat.sub_le _ _) t.isLt)).2.2) := by
  by_cases h3 : t.val % 3 = 2
  · rw [outsAt0_C m c t (by omega) (by omega) (by omega) h3]; frame_out
    exact congrArg _ (read_unread_whole _ _ _)
  · rw [outsAt0_B m c t (by omega) (by omega) (by omega) h3]; frame_out
    exact congrArg _ (read_unread_whole _ _ _)

/-- At the last column block the accumulated sum is finished into the rows' gradient. -/
theorem dx_last (c : Dev nD) (t : Fin cfg0.N) (h : t.val % 3 = 2) :
    (outsAt0 m c t.val t.isLt).1
      = k0_pay8 ((outsAt0 m c t.val t.isLt).2.2) (iblk m c 2 t) (iblk m c 3 t) (iblk m c 4 t) := by
  rw [outsAt0_C m c t (by omega) (by omega) (by omega) (by omega)]; frame_out

/-- At the first point of all the gain's gradient is zero. -/
theorem dg_first (c : Dev nD) (t : Fin cfg0.N) (h : t.val % 12 = 0) :
    (outsAt0 m c t.val t.isLt).2.1 = k0_pay1 (F := Ideal) := by
  rw [outsAt0_A m c t h (by omega) (by omega) (by omega)]; frame_out

/-- At a point that is not its row block's last the gain's gradient stays. -/
theorem dg_keep (c : Dev nD) (t : Fin cfg0.N) (h0 : ¬t.val % 12 = 0) (h : ¬t.val % 3 = 2) :
    (outsAt0 m c t.val t.isLt).2.1 = (outsAt0 m c (t.val - 1) (Nat.lt_of_le_of_lt (Nat.sub_le _ _) t.isLt)).2.1 := by
  by_cases h2 : t.val % 3 = 0
  · rw [outsAt0_D m c t h0 h2 (by omega) (by omega)]; rfl
  · rw [outsAt0_B m c t h0 h2 (by omega) h]; rfl

/-- At a row block's last point its rows' part is added to the gain's gradient. -/
theorem dg_last (c : Dev nD) (t : Fin cfg0.N) (h : t.val % 3 = 2) :
    (outsAt0 m c t.val t.isLt).2.1
      = k0_pay7 ((outsAt0 m c t.val t.isLt).2.2) (iblk m c 2 t)
          ((outsAt0 m c (t.val - 1) (Nat.lt_of_le_of_lt (Nat.sub_le _ _) t.isLt)).2.1) := by
  rw [outsAt0_C m c t (by omega) (by omega) (by omega) (by omega)]; frame_out

end Cert.InXbIdeal.Prod

end
-- ==== Proof.InXb.Arrays.lean ====
/- The two result arrays of the gradient through the second layer's input product and its norm after the run. -/
module

public import proofs.«01_k».proof.Proof.InXb.Left

@[expose] public section

set_option maxRecDepth 16384

noncomputable section

open Idealize.ShloMosaic Idealize.ShloMosaic.TcCoe Idealize.SL.Sem
open Idealize.ShloMosaic.Pipeline (Dat)

namespace Cert.InXbIdeal.Prod

open Cert.InXbIdeal Cert.InXbIdeal.Gen Cert.Common

variable (m : (ℓ : Loc nD τ sig) → Buf (Elt Ideal) ℓ)

/-- Where every window's block stands. -/
theorem idx : ∀ t : Fin cfg0.N, win0_0.index t = ![t.val / 3, t.val % 3] ∧ win0_1.index t = ![0, t.val % 3] ∧ win0_2.index t = ![t.val / 3, 0]
    ∧ win0_3.index t = ![0, 0] ∧ win0_4.index t = ![t.val / 3, 0] ∧ win0_5.index t = ![t.val / 3, 0] ∧ win0_6.index t = ![0, 0] :=
  (by decide +kernel : ∀ t : Fin grid0.N, _)

/-- The product's gradient. -/
abbrev Yarr (c : Dev nD) : FVec Ideal S4096x4224 .bf16 := m ((c : Thread nD τ).loc main_arg0)
/-- The matrix. -/
abbrev Warr (c : Dev nD) : FVec Ideal S1024x4224 .bf16 := m ((c : Thread nD τ).loc main_arg1)
/-- The rows. -/
abbrev Xarr (c : Dev nD) : FVec Ideal S4096x1024 .f32 := m ((c : Thread nD τ).loc main_arg2)
/-- The gain. -/
abbrev garr (c : Dev nD) : FVec Ideal S1024 .f32 := m ((c : Thread nD τ).loc main_arg3)
/-- What is added to the rows' gradient. -/
abbrev Rarr (c : Dev nD) : FVec Ideal S4096x1024 .f32 := m ((c : Thread nD τ).loc main_arg4)

/-- The block of the product's gradient. -/
theorem blk_y (c : Dev nD) (t : Fin cfg0.N) (r : Fin 1024) (k : Fin 1408) (i : Fin 4096) (hi : i.val = t.val / 3 * 1024 + r.val)
    (n : Fin 4224) (hn : n.val = t.val % 3 * 1408 + k.val) :
    (show FVec Ideal S1024x1408 .bf16 from iblk m c 0 t) (ix2 r k) = Yarr m c (ix2 i n) := by
  blk_ext [iblk, V, idx t]

/-- The matrix's block. -/
theorem blk_w (c : Dev nD) (t : Fin cfg0.N) (d : Fin 1024) (k : Fin 1408) (n : Fin 4224) (hn : n.val = t.val % 3 * 1408 + k.val) :
    (show FVec Ideal S1024x1408 .bf16 from iblk m c 1 t) (ix2 d k) = Warr m c (ix2 d n) := by
  blk_ext [iblk, V, idx t]

/-- The block of rows. -/
theorem blk_x (c : Dev nD) (t : Fin cfg0.N) (r d : Fin 1024) (i : Fin 4096) (hi : i.val = t.val / 3 * 1024 + r.val) :
    (show FVec Ideal S1024x1024 .f32 from iblk m c 2 t) (ix2 r d) = Xarr m c (ix2 i d) := by
  blk_ext [iblk, V, idx t]

/-- The block of what is added. -/
theorem blk_r (c : Dev nD) (t : Fin cfg0.N) (r d : Fin 1024) (i : Fin 4096) (hi : i.val = t.val / 3 * 1024 + r.val) :
    (show FVec Ideal S1024x1024 .f32 from iblk m c 4 t) (ix2 r d) = Rarr m c (ix2 i d) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 3 t) (ix2 0 d) = garr m c (ix1 d) := by
  have h : (show FVec Ideal S1x1024 .f32 from iblk m c 3 t) (ix2 0 d) = (show FVec Ideal S1x1024 .f32 from V m c main_v0) (ix2 0 d) := by
    blk_ext [iblk, idx t]
  rw [h, gain_row]
  pointwise []

/-- A block's row is the array's. -/
theorem row_blk (c : Dev nD) (t : Fin cfg0.N) (r : Fin 1024) (i : Fin 4096) (hi : i.val = t.val / 3 * 1024 + r.val) :
    line (M := 1024) (show FVec Ideal S1024x1024 .f32 from iblk m c 2 t) r = line (M := 4096) (Xarr m c) i :=
  funext fun d => blk_x m c t r d i hi

/-- The part of the normed row's gradient that comes from column block `s`. -/
def piece (c : Dev nD) (s : ℕ) (i : Fin 4096) (d : Fin 1024) : EReal :=
  ∑ k : Fin 1408, alongRow (Yarr m c) (Warr m c) i d (s * 1408 + k.val)

/-- The column blocks make up the normed row's gradient. -/
theorem pieces (c : Dev nD) (i : Fin 4096) (d : Fin 1024) :
    piece m c 0 i d + piece m c 1 i d + piece m c 2 i d = rowProd (Yarr m c) (Warr m c) i d := by
  have h := Fin.sum_univ_three (fun s : Fin 3 => piece m c s.val i d)
  refine h.symm.trans ?_
  unfold rowProd piece
  refine Fin.sum_mul_add_congr (S := 3) (n := 1408) fun s k hl => ?_
  unfold alongRow
  rw [dif_pos hl]

/-- A block of the product's gradient against the matrix's. -/
theorem piece_at (c : Dev nD) (t : Fin cfg0.N) (r d : Fin 1024) (i : Fin 4096) (hi : i.val = t.val / 3 * 1024 + r.val) (s : ℕ)
    (hs : t.val % 3 = s) :
    (∑ k : Fin 1408, (show FVec Ideal S1024x1408 .bf16 from iblk m c 0 t) (ix2 r k)
      * (show FVec Ideal S1024x1408 .bf16 from iblk m c 1 t) (ix2 d k)) = piece m c s i d := by
  unfold piece
  refine Finset.sum_congr rfl fun k _ => ?_
  have hk : s * 1408 + k.val < 4224 := by omega
  unfold alongRow
  rw [dif_pos hk]
  exact congrArg₂ (· * ·) (blk_y m c t r k i hi ⟨_, hk⟩ (by rw [hs])) (blk_w m c t d k ⟨_, hk⟩ (by rw [hs]))

/-- The accumulator after the first column block. -/
theorem sum_0 (c : Dev nD) (t : Fin cfg0.N) (h : t.val % 3 = 0) (r d : Fin 1024) (i : Fin 4096) (hi : i.val = t.val / 3 * 1024 + r.val) :
    (outsAt0 m c t.val t.isLt).2.2 (ix2 r d) = piece m c 0 i d := by
  rw [acc_first m c t h]
  exact (part_first _ _ r d).trans (piece_at m c t r d i hi 0 h)

/-- The accumulator after column block 1. -/
theorem sum_1 (c : Dev nD) (t : Fin cfg0.N) (h : t.val % 3 = 1) (r d : Fin 1024) (i : Fin 4096) (hi : i.val = t.val / 3 * 1024 + r.val) :
    (outsAt0 m c t.val t.isLt).2.2 (ix2 r d) = piece m c 0 i d + piece m c 1 i d := by
  rw [acc_step m c t (by omega)]
  refine (part_step _ _ _ r d).trans (congrArg₂ (· + ·) ?_ (piece_at m c t r d i hi 1 h))
  exact sum_0 m c ⟨t.val - 1, Nat.lt_of_le_of_lt (Nat.sub_le _ _) t.isLt⟩ (show (t.val - 1) % 3 = 0 by omega) r d i
    (show i.val = (t.val - 1) / 3 * 1024 + r.val by omega)

/-- The accumulator after column block 2. -/
theorem sum_2 (c : Dev nD) (t : Fin cfg0.N) (h : t.val % 3 = 2) (r d : Fin 1024) (i : Fin 4096) (hi : i.val = t.val / 3 * 1024 + r.val) :
    (outsAt0 m c t.val t.isLt).2.2 (ix2 r d) = piece m c 0 i d + piece m c 1 i d + piece m c 2 i d := by
  rw [acc_step m c t (by omega)]
  refine (part_step _ _ _ r d).trans (congrArg₂ (· + ·) ?_ (piece_at m c t r d i hi 2 h))
  exact sum_1 m c ⟨t.val - 1, Nat.lt_of_le_of_lt (Nat.sub_le _ _) t.isLt⟩ (show (t.val - 1) % 3 = 1 by omega) r d i
    (show i.val = (t.val - 1) / 3 * 1024 + r.val by omega)

/-- The accumulator after the last column block is the normed row's gradient. -/
theorem sum_all (c : Dev nD) (t : Fin cfg0.N) (h : t.val % 3 = 2) (r d : Fin 1024) (i : Fin 4096) (hi : i.val = t.val / 3 * 1024 + r.val) :
    (outsAt0 m c t.val t.isLt).2.2 (ix2 r d) = rowProd (Yarr m c) (Warr m c) i d :=
  (sum_2 m c t h r d i hi).trans (pieces m c i d)

/-- A block of the rows' gradient that is written out holds the gradient of its rows. -/
theorem dx_blk (c : Dev nD) (t : Fin cfg0.N) (h : t.val % 3 = 2) (r d : Fin 1024) (i : Fin 4096) (hi : i.val = t.val / 3 * 1024 + r.val) :
    (outsAt0 m c t.val t.isLt).1 (ix2 r d) = rowsGrad (Yarr m c) (Warr m c) (Xarr m c) (Rarr m c) (fun e => garr m c (ix1 e)) i d := by
  rw [dx_last m c t h]
  refine (grad_at _ _ _ _ r d).trans ?_
  unfold rowsGrad
  rw [show (fun e => (outsAt0 m c t.val t.isLt).2.2 (ix2 r e)) = rowProd (Yarr m c) (Warr m c) i from
    funext fun e => sum_all m c t h r e i hi, row_blk m c t r i hi]
  exact congrArg₂ (fun g z => normGrad _ g _ z _) (funext fun e => blk_g m c t e) (blk_r m c t r d i hi)

/-- After the run the first result holds every row's gradient. -/
theorem final_dx (c : Dev nD) : (dats m 0 c).arrAt 5 (cfgs 0).N
    = fun i : S4096x1024.Idx => rowsGrad (Yarr m c) (Warr m c) (Xarr m c) (Rarr m c) (fun e => garr m c (ix1 e)) (i 0) (i 1) := by
  have hf : ∀ t : Fin cfg0.N, (cfg0.win 5).flush t = true → t.val % 3 = 2 := by decide +kernel
  refine (dats m 0 c).arrAt_eq_of_covers 5 _ (by decide +kernel) fun t hfl y => ?_
  have h3 := hf t hfl
  have ht : t.val < 12 := lt_of_lt_of_eq t.isLt N_0
  have hy : (y 0 : ℕ) < 1024 := (y 0).isLt
  have hlt : t.val / 3 * 1024 + (y 0 : ℕ) < 4096 := by omega
  blk_simp [idx t]
  rw [after0_5, eq_ix2 y, dx_blk m c t h3 (y 0) (y 1) ⟨t.val / 3 * 1024 + (y 0 : ℕ), hlt⟩ rfl]
  have e0 : (⟨t.val / 3 * 1024 + (y 0 : ℕ), hlt⟩ : Fin 4096) = (win0_5.blk t).view.emb (ix2 (y 0) (y 1)) 0 :=
    Fin.ext (by blk_simp [idx t])
  have e1 : (y 1 : Fin 1024) = (win0_5.blk t).view.emb (ix2 (y 0) (y 1)) 1 := Fin.ext (by blk_simp [idx t])
  exact congrArg₂ (rowsGrad (Yarr m c) (Warr m c) (Xarr m c) (Rarr m c) (fun e => garr m c (ix1 e))) e0 e1

/-- Row `n`'s part of the gain's gradient. -/
def gainRow (c : Dev nD) (d : Fin 1024) (n : ℕ) : EReal :=
  if h : n < 4096 then rowProd (Yarr m c) (Warr m c) ⟨n, h⟩ d
    * (Xarr m c (ix2 ⟨n, h⟩ d) * rootInv (line (M := 4096) (Xarr m c) ⟨n, h⟩)) else 0

/-- Point `p`'s part of the gain's gradient: its rows' parts at a row block's last point, nothing elsewhere. -/
def gainPart (c : Dev nD) (d : Fin 1024) (p : ℕ) : EReal :=
  if p % 3 = 2 then ∑ r : Fin 1024, gainRow m c d (p / 3 * 1024 + r.val) else 0

/-- The gain's gradient starts from zero. -/
theorem zeros (j : S1x1024.Idx) : k0_pay1 (F := Ideal) j = 0 := by
  pointwise [k0_pay1]

/-- A point adds its part to the gain's gradient. -/
theorem gain_step (c : Dev nD) (t : Fin cfg0.N) (h : ¬t.val % 12 = 0) (d : Fin 1024) :
    (outsAt0 m c t.val t.isLt).2.1 (ix2 0 d)
      = (outsAt0 m c (t.val - 1) (Nat.lt_of_le_of_lt (Nat.sub_le _ _) t.isLt)).2.1 (ix2 0 d) + gainPart m c d t.val := by
  have ht : t.val < 12 := lt_of_lt_of_eq t.isLt N_0
  unfold gainPart
  by_cases h3 : t.val % 3 = 2
  · rw [dg_last m c t h3, if_pos h3]
    refine (gain_at _ _ _ d).trans (congrArg _ (Finset.sum_congr rfl fun r _ => ?_))
    have hlt : t.val / 3 * 1024 + r.val < 4096 := by omega
    unfold gainRow
    rw [dif_pos hlt, sum_all m c t h3 r d ⟨_, hlt⟩ rfl, row_blk m c t r ⟨_, hlt⟩ rfl]
    rfl
  · rw [dg_keep m c t h h3, if_neg h3, add_zero]

/-- All the points' parts together are the sum over all rows. -/
theorem gain_sum (c : Dev nD) (d : Fin 1024) :
    (∑ p : Fin 12, gainPart m c d p.val) = gainGrad (Yarr m c) (Warr m c) (Xarr m c) d := by
  have h1 : (∑ s : Fin 4, ∑ k : Fin 3, gainPart m c d (s.val * 3 + k.val)) = ∑ p : Fin 12, gainPart m c d p.val :=
    Fin.sum_mul_add_congr (S := 4) (n := 3) fun s k hl => rfl
  rw [← h1]
  have h2 : ∀ s : Fin 4, (∑ k : Fin 3, gainPart m c d (s.val * 3 + k.val))
      = ∑ r : Fin 1024, gainRow m c d (s.val * 1024 + r.val) := fun s => by
    rw [Fin.sum_univ_three]
    have e : ∀ k : Fin 3, ¬k.val = 2 → gainPart m c d (s.val * 3 + k.val) = 0 := fun k hk => if_neg (by omega)
    rw [e 0 (by decide), e 1 (by decide), add_zero, zero_add]
    refine (if_pos (show (s.val * 3 + 2) % 3 = 2 by omega)).trans (Finset.sum_congr rfl fun r _ => congrArg (gainRow m c d) ?_)
    show (s.val * 3 + 2) / 3 * 1024 + r.val = _
    omega
  simp only [h2]
  unfold gainGrad
  refine Fin.sum_mul_add_congr (S := 4) (n := 1024) fun s k hl => ?_
  unfold gainRow
  rw [dif_pos hl]

/-- The last grid point. -/
def lastPt : Fin cfg0.N := ⟨11, lt_of_lt_of_eq (by decide) N_0.symm⟩

/-- After the run the second result holds the gain's gradient. -/
theorem final_dg (c : Dev nD) : (dats m 0 c).arrAt 6 (cfgs 0).N
    = fun i : S1x1024.Idx => gainGrad (Yarr m c) (Warr m c) (Xarr m c) (i 1) := by
  refine (dats m 0 c).arrAt_eq_of_after_last 6 lastPt (by decide +kernel) _ fun j => ?_
  blk_simp [idx lastPt]
  rw [after0_6, Pipeline.eq_sum_fin_of_reset_step_apply_last (fun n h => (outsAt0 m c n h).2.1) 12 (fun _ => 0)
    (fun p j => gainPart m c (j 1) p.val)
    (fun t h j => by
      rw [dg_first m c t h, zeros]
      unfold gainPart
      rw [if_neg (by omega), add_zero])
    (fun t h j => by
      have e : j = ix2 0 (j 1) := by rw [eq_ix2 j]; exact congrArg (fun a => ix2 a _) (Subsingleton.elim _ _)
      rw [e]
      exact gain_step m c t h (j 1))
    (le_of_eq N_0) lastPt rfl j, zero_add]
  exact gain_sum m c (j 1)

end Cert.InXbIdeal.Prod

end
-- ==== Proof.InXb.Ref.lean ====
/- The reference of the gradient through the second layer's input product and its norm at an index. -/
module

public import proofs.«01_k».proof.Proof.Gen.InXbReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.InXbReferenceIdeal.Prod

open Cert.InXbReferenceIdeal Cert.InXbReferenceIdeal.Gen Cert.InXbReferenceIdeal.Read Cert.Common

variable (Y : FVec Ideal S4096x4224 .bf16) (W : FVec Ideal S1024x4224 .bf16) (X : FVec Ideal S4096x1024 .f32)
  (g : FVec Ideal S1024 .f32) (R : FVec Ideal S4096x1024 .f32)

/-- The mean square and a little more. -/
theorem square_at (i : Fin 4096) : val_main_v6 (F := Ideal) X (ix2 i 0) = square (line (M := 4096) X i) := by
  pointwise [val_main_v6, val_main_v5, val_main_cst_1, val_main_v4, val_main_v3, val_main_cst_0, val_main_v2, val_main_v1, val_main_cst,
    val_main_v0, square, width, tiny, line]

/-- One over its root. -/
theorem rootInv_at (i : Fin 4096) : val_main_v7 (F := Ideal) X (ix2 i 0) = rootInv (line (M := 4096) X i) := by
  unfold rootInv
  rw [← square_at]
  pointwise [val_main_v7]

/-- The normed row's gradient. -/
theorem back_at (i : Fin 4096) (d : Fin 1024) : val_main_v19 (F := Ideal) Y W (ix2 i d) = rowProd (M := 4096) Y W i d := by
  unfold rowProd
  pointwise [val_main_v19, val_main_v18, val_main_v16]

/-- The gain's gradient. -/
theorem dg_at (d : Fin 1024) : val_main_v41 (F := Ideal) Y W X (ix2 0 d) = gainGrad (M := 4096) Y W X d := by
  unfold gainGrad
  simp only [← rootInv_at, ← back_at]
  pointwise [val_main_v41, val_main_v25, val_main_cst_4, val_main_v22, val_main_v21, val_main_cst_3, val_main_v20, val_main_v12, val_main_v11]
  refine (Fin.sum_univ_one _).trans (Finset.sum_congr rfl fun i _ => ?_)
  exact mul_comm (G := EReal) _ _

/-- The gradient through the mean square. -/
theorem through_at (i : Fin 4096) (d : Fin 1024) : val_main_v36 (F := Ideal) Y W X g (ix2 i d)
    = through (rowProd (M := 4096) Y W i) (fun e => g (ix1 e)) (line (M := 4096) X i) := by
  unfold through
  simp only [← rootInv_at, ← square_at, ← back_at]
  pointwise [val_main_v36, val_main_v35, val_main_cst_7, val_main_v34, val_main_v33, val_main_cst_6, val_main_v32, val_main_v10, val_main_v9,
    val_main_cst_2, val_main_v8, val_main_v28, val_main_v27, val_main_cst_5, val_main_v26, val_main_v24, val_main_v23, val_main_v13,
    line, width, minusHalf]
  exact Fin.sum_univ_one _

/-- The rows' gradient. -/
theorem dx_at (i : Fin 4096) (d : Fin 1024) : val_main_v40 (F := Ideal) Y W X g R (ix2 i d)
    = rowsGrad (M := 4096) Y W X R (fun e => g (ix1 e)) i d := by
  unfold rowsGrad
  rw [normGrad_eq]
  unfold normGradRef
  rw [← rootInv_at, ← back_at, ← through_at Y W X g i d]
  pointwise [val_main_v40, val_main_v39, val_main_v38, val_main_v37, val_main_v31, val_main_v30, val_main_v29, val_main_v24, val_main_v23,
    val_main_v13, line]

/-- The first result: the rows' gradient. -/
theorem dx_meet : val_main_v40 (F := Ideal) Y W X g R
    = fun i : S4096x1024.Idx => rowsGrad (M := 4096) Y W X R (fun e => g (ix1 e)) (i 0) (i 1) := by
  funext i
  rw [eq_ix2 i]
  exact dx_at Y W X g R (i 0) (i 1)

/-- The second result: the gain's gradient. -/
theorem dg_meet : val_main_v41 (F := Ideal) Y W X = fun i : S1x1024.Idx => gainGrad (M := 4096) Y W X (i 1) := by
  funext i
  have e : i = ix2 0 (i 1) := by rw [eq_ix2 i]; exact congrArg (fun a => ix2 a _) (Subsingleton.elim _ _)
  rw [e]
  exact dg_at Y W X (i 1)

end Cert.InXbReferenceIdeal.Prod

end
-- ==== Proof.InXa.Left.lean ====
/- What each payload of the gradient through the first layer's input product and its norm is at an index, and what a grid point leaves. -/
module

public import proofs.«01_k».proof.Proof.Gen.InXaIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InXaIdeal.Prod

open Cert.InXaIdeal Cert.InXaIdeal.Gen Cert.Common

variable (m : (ℓ : Loc nD τ sig) → Buf (Elt Ideal) ℓ)

section

variable (y : Vec Ideal S1024x1280 .bf16) (w : Vec Ideal S1024x1280 .bf16) (a x res : Vec Ideal S1024x1024 .f32)
  (g o : Vec Ideal S1x1024 .f32)

/-- The first column block's product. -/
theorem part_first (r : Fin 1024) (d : Fin 1024) :
    k0_pay3 y w (ix2 r d) = ∑ n : Fin 1280, y (ix2 r n) * w (ix2 d n) := by
  pointwise [k0_pay3, k0_pay2]

/-- A later column block: its product added to the sum so far. -/
theorem part_step (r : Fin 1024) (d : Fin 1024) :
    k0_pay4 y w a (ix2 r d) = a (ix2 r d) + ∑ n : Fin 1280, y (ix2 r n) * w (ix2 d n) := by
  pointwise [k0_pay4, k0_pay2]

/-- One over the root of a row's mean square. -/
theorem inv_at (r : Fin 1024) : k0_pay5 x (ix2 r 0) = rootInv (line (M := 1024) x r) := by
  pointwise [k0_pay5, rootInv, square, width, tiny, line]

/-- The normed row without its gain. -/
theorem normed_at (r : Fin 1024) (d : Fin 1024) : k0_pay6 x (ix2 r d) = line (M := 1024) x r d * rootInv (line (M := 1024) x r) := by
  rw [← inv_at]
  pointwise [k0_pay6, line]

/-- The gain's gradient: what was there and the block's rows' part. -/
theorem gain_at (d : Fin 1024) :
    k0_pay7 a x o (ix2 0 d) = o (ix2 0 d) + ∑ r : Fin 1024, a (ix2 r d) * (line (M := 1024) x r d * rootInv (line (M := 1024) x r)) := by
  simp only [← normed_at]
  pointwise [k0_pay7]

/-- The rows' gradient. -/
theorem grad_at (r : Fin 1024) (d : Fin 1024) :
    k0_pay8 a x g res (ix2 r d)
      = normGrad (fun e => a (ix2 r e)) (fun e => g (ix2 0 e)) (line (M := 1024) x r) (res (ix2 r d)) d := by
  unfold normGrad
  pointwise [k0_pay8, width]
  simp only [normed_at, inv_at]

end

/-- At the first column block of a row block the accumulator holds that block's product. -/
theorem acc_first (c : Dev nD) (t : Fin cfg0.N) (h : t.val % 2 = 0) :
    (outsAt0 m c t.val t.isLt).2.2 = k0_pay3 (iblk m c 0 t) (iblk m c 1 t) := by
  by_cases h0 : t.val % 8 = 0
  · rw [outsAt0_A m c t h0 (by omega) (by omega) (by omega)]; frame_out
  · rw [outsAt0_C m c t h0 (by omega) (by omega) (by omega)]; frame_out

/-- At a later column block its product is added. -/
theorem acc_step (c : Dev nD) (t : Fin cfg0.N) (h : ¬t.val % 2 = 0) :
    (outsAt0 m c t.val t.isLt).2.2 = k0_pay4 (iblk m c 0 t) (iblk m c 1 t)
      ((outsAt0 m c (t.val - 1) (Nat.lt_of_le_of_lt (Nat.sub_le _ _) t.isLt)).2.2) := by
  rw [outsAt0_B m c t (by omega) (by omega) (by omega) (by omega)]; frame_out
  exact congrArg _ (read_unread_whole _ _ _)

/-- At the last column block the accumulated sum is finished into the rows' gradient. -/
theorem dx_last (c : Dev nD) (t : Fin cfg0.N) (h : t.val % 2 = 1) :
    (outsAt0 m c t.val t.isLt).1
      = k0_pay8 ((outsAt0 m c t.val t.isLt).2.2) (iblk m c 2 t) (iblk m c 3 t) (iblk m c 4 t) := by
  rw [outsAt0_B m c t (by omega) (by omega) (by omega) (by omega)]; frame_out

/-- At the first point of all the gain's gradient is zero. -/
theorem dg_first (c : Dev nD) (t : Fin cfg0.N) (h : t.val % 8 = 0) :
    (outsAt0 m c t.val t.isLt).2.1 = k0_pay1 (F := Ideal) := by
  rw [outsAt0_A m c t h (by omega) (by omega) (by omega)]; frame_out

/-- At a point that is not its row block's last the gain's gradient stays. -/
theorem dg_keep (c : Dev nD) (t : Fin cfg0.N) (h0 : ¬t.val % 8 = 0) (h : ¬t.val % 2 = 1) :
    (outsAt0 m c t.val t.isLt).2.1 = (outsAt0 m c (t.val - 1) (Nat.lt_of_le_of_lt (Nat.sub_le _ _) t.isLt)).2.1 := by
  rw [outsAt0_C m c t h0 (by omega) (by omega) (by omega)]; rfl

/-- At a row block's last point its rows' part is added to the gain's gradient. -/
theorem dg_last (c : Dev nD) (t : Fin cfg0.N) (h : t.val % 2 = 1) :
    (outsAt0 m c t.val t.isLt).2.1
      = k0_pay7 ((outsAt0 m c t.val t.isLt).2.2) (iblk m c 2 t)
          ((outsAt0 m c (t.val - 1) (Nat.lt_of_le_of_lt (Nat.sub_le _ _) t.isLt)).2.1) := by
  rw [outsAt0_B m c t (by omega) (by omega) (by omega) (by omega)]; frame_out

end Cert.InXaIdeal.Prod

end
-- ==== Proof.InXa.Arrays.lean ====
/- The two result arrays of the gradient through the first layer's input product and its norm after the run. -/
module

public import proofs.«01_k».proof.Proof.InXa.Left

@[expose] public section

set_option maxRecDepth 16384

noncomputable section

open Idealize.ShloMosaic Idealize.ShloMosaic.TcCoe Idealize.SL.Sem
open Idealize.ShloMosaic.Pipeline (Dat)

namespace Cert.InXaIdeal.Prod

open Cert.InXaIdeal Cert.InXaIdeal.Gen Cert.Common

variable (m : (ℓ : Loc nD τ sig) → Buf (Elt Ideal) ℓ)

/-- Where every window's block stands. -/
theorem idx : ∀ t : Fin cfg0.N, win0_0.index t = ![t.val / 2, t.val % 2] ∧ win0_1.index t = ![0, t.val % 2] ∧ win0_2.index t = ![t.val / 2, 0]
    ∧ win0_3.index t = ![0, 0] ∧ win0_4.index t = ![t.val / 2, 0] ∧ win0_5.index t = ![t.val / 2, 0] ∧ win0_6.index t = ![0, 0] :=
  (by decide +kernel : ∀ t : Fin grid0.N, _)

/-- The product's gradient. -/
abbrev Yarr (c : Dev nD) : FVec Ideal S4096x2560 .bf16 := m ((c : Thread nD τ).loc main_arg0)
/-- The matrix. -/
abbrev Warr (c : Dev nD) : FVec Ideal S1024x2560 .bf16 := m ((c : Thread nD τ).loc main_arg1)
/-- The rows. -/
abbrev Xarr (c : Dev nD) : FVec Ideal S4096x1024 .f32 := m ((c : Thread nD τ).loc main_arg2)
/-- The gain. -/
abbrev garr (c : Dev nD) : FVec Ideal S1024 .f32 := m ((c : Thread nD τ).loc main_arg3)
/-- What is added to the rows' gradient. -/
abbrev Rarr (c : Dev nD) : FVec Ideal S4096x1024 .f32 := m ((c : Thread nD τ).loc main_arg4)

/-- The block of the product's gradient. -/
theorem blk_y (c : Dev nD) (t : Fin cfg0.N) (r : Fin 1024) (k : Fin 1280) (i : Fin 4096) (hi : i.val = t.val / 2 * 1024 + r.val)
    (n : Fin 2560) (hn : n.val = t.val % 2 * 1280 + k.val) :
    (show FVec Ideal S1024x1280 .bf16 from iblk m c 0 t) (ix2 r k) = Yarr m c (ix2 i n) := by
  blk_ext [iblk, V, idx t]

/-- The matrix's block. -/
theorem blk_w (c : Dev nD) (t : Fin cfg0.N) (d : Fin 1024) (k : Fin 1280) (n : Fin 2560) (hn : n.val = t.val % 2 * 1280 + k.val) :
    (show FVec Ideal S1024x1280 .bf16 from iblk m c 1 t) (ix2 d k) = Warr m c (ix2 d n) := by
  blk_ext [iblk, V, idx t]

/-- The block of rows. -/
theorem blk_x (c : Dev nD) (t : Fin cfg0.N) (r d : Fin 1024) (i : Fin 4096) (hi : i.val = t.val / 2 * 1024 + r.val) :
    (show FVec Ideal S1024x1024 .f32 from iblk m c 2 t) (ix2 r d) = Xarr m c (ix2 i d) := by
  blk_ext [iblk, V, idx t]

/-- The block of what is added. -/
theorem blk_r (c : Dev nD) (t : Fin cfg0.N) (r d : Fin 1024) (i : Fin 4096) (hi : i.val = t.val / 2 * 1024 + r.val) :
    (show FVec Ideal S1024x1024 .f32 from iblk m c 4 t) (ix2 r d) = Rarr m c (ix2 i d) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 3 t) (ix2 0 d) = garr m c (ix1 d) := by
  have h : (show FVec Ideal S1x1024 .f32 from iblk m c 3 t) (ix2 0 d) = (show FVec Ideal S1x1024 .f32 from V m c main_v0) (ix2 0 d) := by
    blk_ext [iblk, idx t]
  rw [h, gain_row]
  pointwise []

/-- A block's row is the array's. -/
theorem row_blk (c : Dev nD) (t : Fin cfg0.N) (r : Fin 1024) (i : Fin 4096) (hi : i.val = t.val / 2 * 1024 + r.val) :
    line (M := 1024) (show FVec Ideal S1024x1024 .f32 from iblk m c 2 t) r = line (M := 4096) (Xarr m c) i :=
  funext fun d => blk_x m c t r d i hi

/-- The part of the normed row's gradient that comes from column block `s`. -/
def piece (c : Dev nD) (s : ℕ) (i : Fin 4096) (d : Fin 1024) : EReal :=
  ∑ k : Fin 1280, alongRow (Yarr m c) (Warr m c) i d (s * 1280 + k.val)

/-- The column blocks make up the normed row's gradient. -/
theorem pieces (c : Dev nD) (i : Fin 4096) (d : Fin 1024) :
    piece m c 0 i d + piece m c 1 i d = rowProd (Yarr m c) (Warr m c) i d := by
  have h := Fin.sum_univ_two (fun s : Fin 2 => piece m c s.val i d)
  refine h.symm.trans ?_
  unfold rowProd piece
  refine Fin.sum_mul_add_congr (S := 2) (n := 1280) fun s k hl => ?_
  unfold alongRow
  rw [dif_pos hl]

/-- A block of the product's gradient against the matrix's. -/
theorem piece_at (c : Dev nD) (t : Fin cfg0.N) (r d : Fin 1024) (i : Fin 4096) (hi : i.val = t.val / 2 * 1024 + r.val) (s : ℕ)
    (hs : t.val % 2 = s) :
    (∑ k : Fin 1280, (show FVec Ideal S1024x1280 .bf16 from iblk m c 0 t) (ix2 r k)
      * (show FVec Ideal S1024x1280 .bf16 from iblk m c 1 t) (ix2 d k)) = piece m c s i d := by
  unfold piece
  refine Finset.sum_congr rfl fun k _ => ?_
  have hk : s * 1280 + k.val < 2560 := by omega
  unfold alongRow
  rw [dif_pos hk]
  exact congrArg₂ (· * ·) (blk_y m c t r k i hi ⟨_, hk⟩ (by rw [hs])) (blk_w m c t d k ⟨_, hk⟩ (by rw [hs]))

/-- The accumulator after the first column block. -/
theorem sum_0 (c : Dev nD) (t : Fin cfg0.N) (h : t.val % 2 = 0) (r d : Fin 1024) (i : Fin 4096) (hi : i.val = t.val / 2 * 1024 + r.val) :
    (outsAt0 m c t.val t.isLt).2.2 (ix2 r d) = piece m c 0 i d := by
  rw [acc_first m c t h]
  exact (part_first _ _ r d).trans (piece_at m c t r d i hi 0 h)

/-- The accumulator after column block 1. -/
theorem sum_1 (c : Dev nD) (t : Fin cfg0.N) (h : t.val % 2 = 1) (r d : Fin 1024) (i : Fin 4096) (hi : i.val = t.val / 2 * 1024 + r.val) :
    (outsAt0 m c t.val t.isLt).2.2 (ix2 r d) = piece m c 0 i d + piece m c 1 i d := by
  rw [acc_step m c t (by omega)]
  refine (part_step _ _ _ r d).trans (congrArg₂ (· + ·) ?_ (piece_at m c t r d i hi 1 h))
  exact sum_0 m c ⟨t.val - 1, Nat.lt_of_le_of_lt (Nat.sub_le _ _) t.isLt⟩ (show (t.val - 1) % 2 = 0 by omega) r d i
    (show i.val = (t.val - 1) / 2 * 1024 + r.val by omega)

/-- The accumulator after the last column block is the normed row's gradient. -/
theorem sum_all (c : Dev nD) (t : Fin cfg0.N) (h : t.val % 2 = 1) (r d : Fin 1024) (i : Fin 4096) (hi : i.val = t.val / 2 * 1024 + r.val) :
    (outsAt0 m c t.val t.isLt).2.2 (ix2 r d) = rowProd (Yarr m c) (Warr m c) i d :=
  (sum_1 m c t h r d i hi).trans (pieces m c i d)

/-- A block of the rows' gradient that is written out holds the gradient of its rows. -/
theorem dx_blk (c : Dev nD) (t : Fin cfg0.N) (h : t.val % 2 = 1) (r d : Fin 1024) (i : Fin 4096) (hi : i.val = t.val / 2 * 1024 + r.val) :
    (outsAt0 m c t.val t.isLt).1 (ix2 r d) = rowsGrad (Yarr m c) (Warr m c) (Xarr m c) (Rarr m c) (fun e => garr m c (ix1 e)) i d := by
  rw [dx_last m c t h]
  refine (grad_at _ _ _ _ r d).trans ?_
  unfold rowsGrad
  rw [show (fun e => (outsAt0 m c t.val t.isLt).2.2 (ix2 r e)) = rowProd (Yarr m c) (Warr m c) i from
    funext fun e => sum_all m c t h r e i hi, row_blk m c t r i hi]
  exact congrArg₂ (fun g z => normGrad _ g _ z _) (funext fun e => blk_g m c t e) (blk_r m c t r d i hi)

/-- After the run the first result holds every row's gradient. -/
theorem final_dx (c : Dev nD) : (dats m 0 c).arrAt 5 (cfgs 0).N
    = fun i : S4096x1024.Idx => rowsGrad (Yarr m c) (Warr m c) (Xarr m c) (Rarr m c) (fun e => garr m c (ix1 e)) (i 0) (i 1) := by
  have hf : ∀ t : Fin cfg0.N, (cfg0.win 5).flush t = true → t.val % 2 = 1 := by decide +kernel
  refine (dats m 0 c).arrAt_eq_of_covers 5 _ (by decide +kernel) fun t hfl y => ?_
  have h3 := hf t hfl
  have ht : t.val < 8 := lt_of_lt_of_eq t.isLt N_0
  have hy : (y 0 : ℕ) < 1024 := (y 0).isLt
  have hlt : t.val / 2 * 1024 + (y 0 : ℕ) < 4096 := by omega
  blk_simp [idx t]
  rw [after0_5, eq_ix2 y, dx_blk m c t h3 (y 0) (y 1) ⟨t.val / 2 * 1024 + (y 0 : ℕ), hlt⟩ rfl]
  have e0 : (⟨t.val / 2 * 1024 + (y 0 : ℕ), hlt⟩ : Fin 4096) = (win0_5.blk t).view.emb (ix2 (y 0) (y 1)) 0 :=
    Fin.ext (by blk_simp [idx t])
  have e1 : (y 1 : Fin 1024) = (win0_5.blk t).view.emb (ix2 (y 0) (y 1)) 1 := Fin.ext (by blk_simp [idx t])
  exact congrArg₂ (rowsGrad (Yarr m c) (Warr m c) (Xarr m c) (Rarr m c) (fun e => garr m c (ix1 e))) e0 e1

/-- Row `n`'s part of the gain's gradient. -/
def gainRow (c : Dev nD) (d : Fin 1024) (n : ℕ) : EReal :=
  if h : n < 4096 then rowProd (Yarr m c) (Warr m c) ⟨n, h⟩ d
    * (Xarr m c (ix2 ⟨n, h⟩ d) * rootInv (line (M := 4096) (Xarr m c) ⟨n, h⟩)) else 0

/-- Point `p`'s part of the gain's gradient: its rows' parts at a row block's last point, nothing elsewhere. -/
def gainPart (c : Dev nD) (d : Fin 1024) (p : ℕ) : EReal :=
  if p % 2 = 1 then ∑ r : Fin 1024, gainRow m c d (p / 2 * 1024 + r.val) else 0

/-- The gain's gradient starts from zero. -/
theorem zeros (j : S1x1024.Idx) : k0_pay1 (F := Ideal) j = 0 := by
  pointwise [k0_pay1]

/-- A point adds its part to the gain's gradient. -/
theorem gain_step (c : Dev nD) (t : Fin cfg0.N) (h : ¬t.val % 8 = 0) (d : Fin 1024) :
    (outsAt0 m c t.val t.isLt).2.1 (ix2 0 d)
      = (outsAt0 m c (t.val - 1) (Nat.lt_of_le_of_lt (Nat.sub_le _ _) t.isLt)).2.1 (ix2 0 d) + gainPart m c d t.val := by
  have ht : t.val < 8 := lt_of_lt_of_eq t.isLt N_0
  unfold gainPart
  by_cases h3 : t.val % 2 = 1
  · rw [dg_last m c t h3, if_pos h3]
    refine (gain_at _ _ _ d).trans (congrArg _ (Finset.sum_congr rfl fun r _ => ?_))
    have hlt : t.val / 2 * 1024 + r.val < 4096 := by omega
    unfold gainRow
    rw [dif_pos hlt, sum_all m c t h3 r d ⟨_, hlt⟩ rfl, row_blk m c t r ⟨_, hlt⟩ rfl]
    rfl
  · rw [dg_keep m c t h h3, if_neg h3, add_zero]

/-- All the points' parts together are the sum over all rows. -/
theorem gain_sum (c : Dev nD) (d : Fin 1024) :
    (∑ p : Fin 8, gainPart m c d p.val) = gainGrad (Yarr m c) (Warr m c) (Xarr m c) d := by
  have h1 : (∑ s : Fin 4, ∑ k : Fin 2, gainPart m c d (s.val * 2 + k.val)) = ∑ p : Fin 8, gainPart m c d p.val :=
    Fin.sum_mul_add_congr (S := 4) (n := 2) fun s k hl => rfl
  rw [← h1]
  have h2 : ∀ s : Fin 4, (∑ k : Fin 2, gainPart m c d (s.val * 2 + k.val))
      = ∑ r : Fin 1024, gainRow m c d (s.val * 1024 + r.val) := fun s => by
    rw [Fin.sum_univ_two]
    have e : ∀ k : Fin 2, ¬k.val = 1 → gainPart m c d (s.val * 2 + k.val) = 0 := fun k hk => if_neg (by omega)
    rw [e 0 (by decide), zero_add]
    refine (if_pos (show (s.val * 2 + 1) % 2 = 1 by omega)).trans (Finset.sum_congr rfl fun r _ => congrArg (gainRow m c d) ?_)
    show (s.val * 2 + 1) / 2 * 1024 + r.val = _
    omega
  simp only [h2]
  unfold gainGrad
  refine Fin.sum_mul_add_congr (S := 4) (n := 1024) fun s k hl => ?_
  unfold gainRow
  rw [dif_pos hl]

/-- The last grid point. -/
def lastPt : Fin cfg0.N := ⟨7, lt_of_lt_of_eq (by decide) N_0.symm⟩

/-- After the run the second result holds the gain's gradient. -/
theorem final_dg (c : Dev nD) : (dats m 0 c).arrAt 6 (cfgs 0).N
    = fun i : S1x1024.Idx => gainGrad (Yarr m c) (Warr m c) (Xarr m c) (i 1) := by
  refine (dats m 0 c).arrAt_eq_of_after_last 6 lastPt (by decide +kernel) _ fun j => ?_
  blk_simp [idx lastPt]
  rw [after0_6, Pipeline.eq_sum_fin_of_reset_step_apply_last (fun n h => (outsAt0 m c n h).2.1) 8 (fun _ => 0)
    (fun p j => gainPart m c (j 1) p.val)
    (fun t h j => by
      rw [dg_first m c t h, zeros]
      unfold gainPart
      rw [if_neg (by omega), add_zero])
    (fun t h j => by
      have e : j = ix2 0 (j 1) := by rw [eq_ix2 j]; exact congrArg (fun a => ix2 a _) (Subsingleton.elim _ _)
      rw [e]
      exact gain_step m c t h (j 1))
    (le_of_eq N_0) lastPt rfl j, zero_add]
  exact gain_sum m c (j 1)

end Cert.InXaIdeal.Prod

end
-- ==== Proof.InXa.Ref.lean ====
/- The reference of the gradient through the first layer's input product and its norm at an index. -/
module

public import proofs.«01_k».proof.Proof.Gen.InXaReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.InXaReferenceIdeal.Prod

open Cert.InXaReferenceIdeal Cert.InXaReferenceIdeal.Gen Cert.InXaReferenceIdeal.Read Cert.Common

variable (Y : FVec Ideal S4096x2560 .bf16) (W : FVec Ideal S1024x2560 .bf16) (X : FVec Ideal S4096x1024 .f32)
  (g : FVec Ideal S1024 .f32) (R : FVec Ideal S4096x1024 .f32)

/-- The mean square and a little more. -/
theorem square_at (i : Fin 4096) : val_main_v6 (F := Ideal) X (ix2 i 0) = square (line (M := 4096) X i) := by
  pointwise [val_main_v6, val_main_v5, val_main_cst_1, val_main_v4, val_main_v3, val_main_cst_0, val_main_v2, val_main_v1, val_main_cst,
    val_main_v0, square, width, tiny, line]

/-- One over its root. -/
theorem rootInv_at (i : Fin 4096) : val_main_v7 (F := Ideal) X (ix2 i 0) = rootInv (line (M := 4096) X i) := by
  unfold rootInv
  rw [← square_at]
  pointwise [val_main_v7]

/-- The normed row's gradient. -/
theorem back_at (i : Fin 4096) (d : Fin 1024) : val_main_v19 (F := Ideal) Y W (ix2 i d) = rowProd (M := 4096) Y W i d := by
  unfold rowProd
  pointwise [val_main_v19, val_main_v18, val_main_v16]

/-- The gain's gradient. -/
theorem dg_at (d : Fin 1024) : val_main_v41 (F := Ideal) Y W X (ix2 0 d) = gainGrad (M := 4096) Y W X d := by
  unfold gainGrad
  simp only [← rootInv_at, ← back_at]
  pointwise [val_main_v41, val_main_v25, val_main_cst_4, val_main_v22, val_main_v21, val_main_cst_3, val_main_v20, val_main_v12, val_main_v11]
  refine (Fin.sum_univ_one _).trans (Finset.sum_congr rfl fun i _ => ?_)
  exact mul_comm (G := EReal) _ _

/-- The gradient through the mean square. -/
theorem through_at (i : Fin 4096) (d : Fin 1024) : val_main_v36 (F := Ideal) Y W X g (ix2 i d)
    = through (rowProd (M := 4096) Y W i) (fun e => g (ix1 e)) (line (M := 4096) X i) := by
  unfold through
  simp only [← rootInv_at, ← square_at, ← back_at]
  pointwise [val_main_v36, val_main_v35, val_main_cst_7, val_main_v34, val_main_v33, val_main_cst_6, val_main_v32, val_main_v10, val_main_v9,
    val_main_cst_2, val_main_v8, val_main_v28, val_main_v27, val_main_cst_5, val_main_v26, val_main_v24, val_main_v23, val_main_v13,
    line, width, minusHalf]
  exact Fin.sum_univ_one _

/-- The rows' gradient. -/
theorem dx_at (i : Fin 4096) (d : Fin 1024) : val_main_v40 (F := Ideal) Y W X g R (ix2 i d)
    = rowsGrad (M := 4096) Y W X R (fun e => g (ix1 e)) i d := by
  unfold rowsGrad
  rw [normGrad_eq]
  unfold normGradRef
  rw [← rootInv_at, ← back_at, ← through_at Y W X g i d]
  pointwise [val_main_v40, val_main_v39, val_main_v38, val_main_v37, val_main_v31, val_main_v30, val_main_v29, val_main_v24, val_main_v23,
    val_main_v13, line]

/-- The first result: the rows' gradient. -/
theorem dx_meet : val_main_v40 (F := Ideal) Y W X g R
    = fun i : S4096x1024.Idx => rowsGrad (M := 4096) Y W X R (fun e => g (ix1 e)) (i 0) (i 1) := by
  funext i
  rw [eq_ix2 i]
  exact dx_at Y W X g R (i 0) (i 1)

/-- The second result: the gain's gradient. -/
theorem dg_meet : val_main_v41 (F := Ideal) Y W X = fun i : S1x1024.Idx => gainGrad (M := 4096) Y W X (i 1) := by
  funext i
  have e : i = ix2 0 (i 1) := by rw [eq_ix2 i]; exact congrArg (fun a => ix2 a _) (Subsingleton.elim _ _)
  rw [e]
  exact dg_at Y W X (i 1)

end Cert.InXaReferenceIdeal.Prod

end
-- ==== Proof.QX.Left.lean ====
/- What each payload of the gradient through the query product and its norm is at an index, and what a grid point leaves. -/
module

public import proofs.«01_k».proof.Proof.Gen.QXIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QXIdeal.Prod

open Cert.QXIdeal Cert.QXIdeal.Gen Cert.Common

variable (m : (ℓ : Loc nD τ sig) → Buf (Elt Ideal) ℓ)

section

variable (y : Vec Ideal S1024x1024 .bf16) (w : Vec Ideal S1024x1024 .bf16) (x res : Vec Ideal S1024x1024 .f32)
  (g o : Vec Ideal S1x1024 .f32)

/-- The product. -/
theorem part_at (r : Fin 1024) (d : Fin 1024) :
    k0_pay3 y w (ix2 r d) = ∑ n : Fin 1024, y (ix2 r n) * w (ix2 d n) := by
  pointwise [k0_pay3]

/-- One over the root of a row's mean square. -/
theorem inv_at (r : Fin 1024) : k0_pay4 x (ix2 r 0) = rootInv (line (M := 1024) x r) := by
  pointwise [k0_pay4, rootInv, square, width, tiny, line]

/-- The normed row without its gain. -/
theorem normed_at (r : Fin 1024) (d : Fin 1024) : k0_pay5 x (ix2 r d) = line (M := 1024) x r d * rootInv (line (M := 1024) x r) := by
  rw [← inv_at]
  pointwise [k0_pay5, line]

/-- The gain's gradient: what was there and the block's rows' part. -/
theorem gain_at (d : Fin 1024) :
    k0_pay6 y w x o (ix2 0 d) = o (ix2 0 d) + ∑ r : Fin 1024, k0_pay3 y w (ix2 r d) * (line (M := 1024) x r d * rootInv (line (M := 1024) x r)) := by
  simp only [← normed_at]
  pointwise [k0_pay6]

/-- The rows' gradient. -/
theorem grad_at (r : Fin 1024) (d : Fin 1024) :
    k0_pay1 (k0_pay4 x) (k0_pay5 x) (k0_pay7 y w g) res (k0_pay8 y w x g) (ix2 r d)
      = normGrad (fun e => k0_pay3 y w (ix2 r e)) (fun e => g (ix2 0 e)) (line (M := 1024) x r) (res (ix2 r d)) d := by
  unfold normGrad
  pointwise [k0_pay1, k0_pay7, k0_pay8, width]
  simp only [normed_at, inv_at]

end

/-- The rows' gradient at a point. -/
theorem dx_last (c : Dev nD) (t : Fin cfg0.N) :
    (outsAt0 m c t.val t.isLt).1 = k0_pay1 (k0_pay4 (iblk m c 2 t)) (k0_pay5 (iblk m c 2 t))
      (k0_pay7 (iblk m c 0 t) (iblk m c 1 t) (iblk m c 3 t)) (iblk m c 4 t)
      (k0_pay8 (iblk m c 0 t) (iblk m c 1 t) (iblk m c 2 t) (iblk m c 3 t)) := by
  have hn : t.val < 4 := lt_of_lt_of_eq t.isLt N_0
  by_cases h : t.val % 4 = 0
  · rw [outsAt0_A m c t h]; frame_out
  · rw [outsAt0_B m c t h]; frame_out

/-- At the first point the gain's gradient starts from zero. -/
theorem dg_first (c : Dev nD) (t : Fin cfg0.N) (h : t.val % 4 = 0) :
    (outsAt0 m c t.val t.isLt).2 = k0_pay6 (iblk m c 0 t) (iblk m c 1 t) (iblk m c 2 t) (k0_pay2 (F := Ideal)) := by
  rw [outsAt0_A m c t h]; frame_out

/-- At a later point its rows' part is added. -/
theorem dg_last (c : Dev nD) (t : Fin cfg0.N) (h : ¬t.val % 4 = 0) :
    (outsAt0 m c t.val t.isLt).2 = k0_pay6 (iblk m c 0 t) (iblk m c 1 t) (iblk m c 2 t)
      ((outsAt0 m c (t.val - 1) (Nat.lt_of_le_of_lt (Nat.sub_le _ _) t.isLt)).2) := by
  rw [outsAt0_B m c t h]; frame_out

end Cert.QXIdeal.Prod

end
-- ==== Proof.QX.Arrays.lean ====
/- The two result arrays of the gradient through the query product and its norm after the run. -/
module

public import proofs.«01_k».proof.Proof.QX.Left

@[expose] public section

set_option maxRecDepth 16384

noncomputable section

open Idealize.ShloMosaic Idealize.ShloMosaic.TcCoe Idealize.SL.Sem
open Idealize.ShloMosaic.Pipeline (Dat)

namespace Cert.QXIdeal.Prod

open Cert.QXIdeal Cert.QXIdeal.Gen Cert.Common

variable (m : (ℓ : Loc nD τ sig) → Buf (Elt Ideal) ℓ)

/-- Where every window's block stands. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The product's gradient. -/
abbrev Yarr (c : Dev nD) : FVec Ideal S4096x1024 .bf16 := m ((c : Thread nD τ).loc main_arg0)
/-- The matrix. -/
abbrev Warr (c : Dev nD) : FVec Ideal S1024x1024 .bf16 := m ((c : Thread nD τ).loc main_arg1)
/-- The rows. -/
abbrev Xarr (c : Dev nD) : FVec Ideal S4096x1024 .f32 := m ((c : Thread nD τ).loc main_arg2)
/-- The gain. -/
abbrev garr (c : Dev nD) : FVec Ideal S1024 .f32 := m ((c : Thread nD τ).loc main_arg3)
/-- What is added to the rows' gradient. -/
abbrev Rarr (c : Dev nD) : FVec Ideal S4096x1024 .f32 := m ((c : Thread nD τ).loc main_arg4)

/-- The block of the product's gradient. -/
theorem blk_y (c : Dev nD) (t : Fin cfg0.N) (r : Fin 1024) (k : Fin 1024) (i : Fin 4096) (hi : i.val = t.val * 1024 + r.val)
    (n : Fin 1024) (hn : n.val = 0 * 1024 + k.val) :
    (show FVec Ideal S1024x1024 .bf16 from iblk m c 0 t) (ix2 r k) = Yarr m c (ix2 i n) := by
  blk_ext [iblk, V, idx t]

/-- The matrix's block. -/
theorem blk_w (c : Dev nD) (t : Fin cfg0.N) (d : Fin 1024) (k : Fin 1024) (n : Fin 1024) (hn : n.val = 0 * 1024 + k.val) :
    (show FVec Ideal S1024x1024 .bf16 from iblk m c 1 t) (ix2 d k) = Warr m c (ix2 d n) := by
  blk_ext [iblk, V, idx t]

/-- The block of rows. -/
theorem blk_x (c : Dev nD) (t : Fin cfg0.N) (r d : Fin 1024) (i : Fin 4096) (hi : i.val = t.val * 1024 + r.val) :
    (show FVec Ideal S1024x1024 .f32 from iblk m c 2 t) (ix2 r d) = Xarr m c (ix2 i d) := by
  blk_ext [iblk, V, idx t]

/-- The block of what is added. -/
theorem blk_r (c : Dev nD) (t : Fin cfg0.N) (r d : Fin 1024) (i : Fin 4096) (hi : i.val = t.val * 1024 + r.val) :
    (show FVec Ideal S1024x1024 .f32 from iblk m c 4 t) (ix2 r d) = Rarr m c (ix2 i d) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 3 t) (ix2 0 d) = garr m c (ix1 d) := by
  have h : (show FVec Ideal S1x1024 .f32 from iblk m c 3 t) (ix2 0 d) = (show FVec Ideal S1x1024 .f32 from V m c main_v0) (ix2 0 d) := by
    blk_ext [iblk, idx t]
  rw [h, gain_row]
  pointwise []

/-- A block's row is the array's. -/
theorem row_blk (c : Dev nD) (t : Fin cfg0.N) (r : Fin 1024) (i : Fin 4096) (hi : i.val = t.val * 1024 + r.val) :
    line (M := 1024) (show FVec Ideal S1024x1024 .f32 from iblk m c 2 t) r = line (M := 4096) (Xarr m c) i :=
  funext fun d => blk_x m c t r d i hi

/-- A point's product. -/
theorem sum_all (c : Dev nD) (t : Fin cfg0.N) (r d : Fin 1024) (i : Fin 4096) (hi : i.val = t.val * 1024 + r.val) :
    k0_pay3 (iblk m c 0 t) (iblk m c 1 t) (ix2 r d) = rowProd (Yarr m c) (Warr m c) i d :=
  (part_at _ _ r d).trans (Finset.sum_congr rfl fun k _ =>
    congrArg₂ (· * ·) (blk_y m c t r k i hi k (by omega)) (blk_w m c t d k k (by omega)))

/-- A block of the rows' gradient that is written out holds the gradient of its rows. -/
theorem dx_blk (c : Dev nD) (t : Fin cfg0.N) (r d : Fin 1024) (i : Fin 4096) (hi : i.val = t.val * 1024 + r.val) :
    (outsAt0 m c t.val t.isLt).1 (ix2 r d) = rowsGrad (Yarr m c) (Warr m c) (Xarr m c) (Rarr m c) (fun e => garr m c (ix1 e)) i d := by
  rw [dx_last m c t]
  refine (grad_at _ _ _ _ _ r d).trans ?_
  unfold rowsGrad
  rw [show (fun e => k0_pay3 (iblk m c 0 t) (iblk m c 1 t) (ix2 r e)) = rowProd (Yarr m c) (Warr m c) i from
    funext fun e => sum_all m c t r e i hi, row_blk m c t r i hi]
  exact congrArg₂ (fun g z => normGrad _ g _ z _) (funext fun e => blk_g m c t e) (blk_r m c t r d i hi)

/-- After the run the first result holds every row's gradient. -/
theorem final_dx (c : Dev nD) : (dats m 0 c).arrAt 5 (cfgs 0).N
    = fun i : S4096x1024.Idx => rowsGrad (Yarr m c) (Warr m c) (Xarr m c) (Rarr m c) (fun e => garr m c (ix1 e)) (i 0) (i 1) := by
  refine (dats m 0 c).arrAt_eq_of_covers 5 _ (by decide +kernel) fun t hfl y => ?_
  have ht : t.val < 4 := lt_of_lt_of_eq t.isLt N_0
  have hy : (y 0 : ℕ) < 1024 := (y 0).isLt
  have hlt : t.val * 1024 + (y 0 : ℕ) < 4096 := by omega
  blk_simp [idx t]
  rw [after0_5, eq_ix2 y, dx_blk m c t (y 0) (y 1) ⟨t.val * 1024 + (y 0 : ℕ), hlt⟩ rfl]
  have e0 : (⟨t.val * 1024 + (y 0 : ℕ), hlt⟩ : Fin 4096) = (win0_5.blk t).view.emb (ix2 (y 0) (y 1)) 0 :=
    Fin.ext (by blk_simp [idx t])
  have e1 : (y 1 : Fin 1024) = (win0_5.blk t).view.emb (ix2 (y 0) (y 1)) 1 := Fin.ext (by blk_simp [idx t])
  exact congrArg₂ (rowsGrad (Yarr m c) (Warr m c) (Xarr m c) (Rarr m c) (fun e => garr m c (ix1 e))) e0 e1

/-- Row `n`'s part of the gain's gradient. -/
def gainRow (c : Dev nD) (d : Fin 1024) (n : ℕ) : EReal :=
  if h : n < 4096 then rowProd (Yarr m c) (Warr m c) ⟨n, h⟩ d
    * (Xarr m c (ix2 ⟨n, h⟩ d) * rootInv (line (M := 4096) (Xarr m c) ⟨n, h⟩)) else 0

/-- Point `p`'s part of the gain's gradient. -/
def gainPart (c : Dev nD) (d : Fin 1024) (p : ℕ) : EReal := ∑ r : Fin 1024, gainRow m c d (p * 1024 + r.val)

/-- The gain's gradient starts from zero. -/
theorem zeros (j : S1x1024.Idx) : k0_pay2 (F := Ideal) j = 0 := by
  pointwise [k0_pay2]

/-- A point's rows' part. -/
theorem part_gain (c : Dev nD) (t : Fin cfg0.N) (d : Fin 1024) :
    (∑ r : Fin 1024, k0_pay3 (iblk m c 0 t) (iblk m c 1 t) (ix2 r d)
      * (line (M := 1024) (iblk m c 2 t) r d * rootInv (line (M := 1024) (iblk m c 2 t) r))) = gainPart m c d t.val := by
  have ht : t.val < 4 := lt_of_lt_of_eq t.isLt N_0
  refine Finset.sum_congr rfl fun r _ => ?_
  have hlt : t.val * 1024 + r.val < 4096 := by omega
  unfold gainRow
  rw [dif_pos hlt, sum_all m c t r d ⟨_, hlt⟩ rfl]
  refine congrArg _ ?_
  exact congrArg (fun x => x d * rootInv x) (row_blk m c t r ⟨_, hlt⟩ rfl)

/-- A point adds its part to the gain's gradient. -/
theorem gain_step (c : Dev nD) (t : Fin cfg0.N) (h : ¬t.val % 4 = 0) (d : Fin 1024) :
    (outsAt0 m c t.val t.isLt).2 (ix2 0 d)
      = (outsAt0 m c (t.val - 1) (Nat.lt_of_le_of_lt (Nat.sub_le _ _) t.isLt)).2 (ix2 0 d) + gainPart m c d t.val := by
  rw [dg_last m c t h]
  exact (gain_at _ _ _ _ d).trans (congrArg _ (part_gain m c t d))

/-- All the points' parts together are the sum over all rows. -/
theorem gain_sum (c : Dev nD) (d : Fin 1024) :
    (∑ p : Fin 4, gainPart m c d p.val) = gainGrad (Yarr m c) (Warr m c) (Xarr m c) d := by
  unfold gainGrad gainPart
  refine Fin.sum_mul_add_congr (S := 4) (n := 1024) fun s k hl => ?_
  unfold gainRow
  rw [dif_pos hl]

/-- The last grid point. -/
def lastPt : Fin cfg0.N := ⟨3, lt_of_lt_of_eq (by decide) N_0.symm⟩

/-- After the run the second result holds the gain's gradient. -/
theorem final_dg (c : Dev nD) : (dats m 0 c).arrAt 6 (cfgs 0).N
    = fun i : S1x1024.Idx => gainGrad (Yarr m c) (Warr m c) (Xarr m c) (i 1) := by
  refine (dats m 0 c).arrAt_eq_of_after_last 6 lastPt (by decide +kernel) _ fun j => ?_
  blk_simp [idx lastPt]
  rw [after0_6, Pipeline.eq_sum_fin_of_reset_step_apply_last (fun n h => (outsAt0 m c n h).2) 4 (fun _ => 0)
    (fun p j => gainPart m c (j 1) p.val)
    (fun t h j => by
      rw [dg_first m c t h]
      have e : j = ix2 0 (j 1) := by rw [eq_ix2 j]; exact congrArg (fun a => ix2 a _) (Subsingleton.elim _ _)
      rw [e]
      refine (gain_at _ _ _ _ (j 1)).trans ?_
      rw [zeros, part_gain m c t (j 1)]
      rfl)
    (fun t h j => by
      have e : j = ix2 0 (j 1) := by rw [eq_ix2 j]; exact congrArg (fun a => ix2 a _) (Subsingleton.elim _ _)
      rw [e]
      exact gain_step m c t h (j 1))
    (le_of_eq N_0) lastPt rfl j, zero_add]
  exact gain_sum m c (j 1)

end Cert.QXIdeal.Prod

end
-- ==== Proof.QX.Ref.lean ====
/- The reference of the gradient through the query product and its norm at an index. -/
module

public import proofs.«01_k».proof.Proof.Gen.QXReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.QXReferenceIdeal.Prod

open Cert.QXReferenceIdeal Cert.QXReferenceIdeal.Gen Cert.QXReferenceIdeal.Read Cert.Common

variable (Y : FVec Ideal S4096x1024 .bf16) (W : FVec Ideal S1024x1024 .bf16) (X : FVec Ideal S4096x1024 .f32)
  (g : FVec Ideal S1024 .f32) (R : FVec Ideal S4096x1024 .f32)

/-- The mean square and a little more. -/
theorem square_at (i : Fin 4096) : val_main_v6 (F := Ideal) X (ix2 i 0) = square (line (M := 4096) X i) := by
  pointwise [val_main_v6, val_main_v5, val_main_cst_1, val_main_v4, val_main_v3, val_main_cst_0, val_main_v2, val_main_v1, val_main_cst,
    val_main_v0, square, width, tiny, line]

/-- One over its root. -/
theorem rootInv_at (i : Fin 4096) : val_main_v7 (F := Ideal) X (ix2 i 0) = rootInv (line (M := 4096) X i) := by
  unfold rootInv
  rw [← square_at]
  pointwise [val_main_v7]

/-- The normed row's gradient. -/
theorem back_at (i : Fin 4096) (d : Fin 1024) : val_main_v19 (F := Ideal) Y W (ix2 i d) = rowProd (M := 4096) Y W i d := by
  unfold rowProd
  pointwise [val_main_v19, val_main_v18, val_main_v16]

/-- The gain's gradient. -/
theorem dg_at (d : Fin 1024) : val_main_v41 (F := Ideal) Y W X (ix2 0 d) = gainGrad (M := 4096) Y W X d := by
  unfold gainGrad
  simp only [← rootInv_at, ← back_at]
  pointwise [val_main_v41, val_main_v25, val_main_cst_4, val_main_v22, val_main_v21, val_main_cst_3, val_main_v20, val_main_v12, val_main_v11]
  refine (Fin.sum_univ_one _).trans (Finset.sum_congr rfl fun i _ => ?_)
  exact mul_comm (G := EReal) _ _

/-- The gradient through the mean square. -/
theorem through_at (i : Fin 4096) (d : Fin 1024) : val_main_v36 (F := Ideal) Y W X g (ix2 i d)
    = through (rowProd (M := 4096) Y W i) (fun e => g (ix1 e)) (line (M := 4096) X i) := by
  unfold through
  simp only [← rootInv_at, ← square_at, ← back_at]
  pointwise [val_main_v36, val_main_v35, val_main_cst_7, val_main_v34, val_main_v33, val_main_cst_6, val_main_v32, val_main_v10, val_main_v9,
    val_main_cst_2, val_main_v8, val_main_v28, val_main_v27, val_main_cst_5, val_main_v26, val_main_v24, val_main_v23, val_main_v13,
    line, width, minusHalf]
  exact Fin.sum_univ_one _

/-- The rows' gradient. -/
theorem dx_at (i : Fin 4096) (d : Fin 1024) : val_main_v40 (F := Ideal) Y W X g R (ix2 i d)
    = rowsGrad (M := 4096) Y W X R (fun e => g (ix1 e)) i d := by
  unfold rowsGrad
  rw [normGrad_eq]
  unfold normGradRef
  rw [← rootInv_at, ← back_at, ← through_at Y W X g i d]
  pointwise [val_main_v40, val_main_v39, val_main_v38, val_main_v37, val_main_v31, val_main_v30, val_main_v29, val_main_v24, val_main_v23,
    val_main_v13, line]

/-- The first result: the rows' gradient. -/
theorem dx_meet : val_main_v40 (F := Ideal) Y W X g R
    = fun i : S4096x1024.Idx => rowsGrad (M := 4096) Y W X R (fun e => g (ix1 e)) (i 0) (i 1) := by
  funext i
  rw [eq_ix2 i]
  exact dx_at Y W X g R (i 0) (i 1)

/-- The second result: the gain's gradient. -/
theorem dg_meet : val_main_v41 (F := Ideal) Y W X = fun i : S1x1024.Idx => gainGrad (M := 4096) Y W X (i 1) := by
  funext i
  have e : i = ix2 0 (i 1) := by rw [eq_ix2 i]; exact congrArg (fun a => ix2 a _) (Subsingleton.elim _ _)
  rw [e]
  exact dg_at Y W X (i 1)

end Cert.QXReferenceIdeal.Prod

end
-- ==== Proof.FfnUp.Arrays.lean ====
/- The result array of the feed-forward block's first product after the run. -/
module

public import proofs.«01_k».proof.Proof.Gen.FfnUpIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUpIdeal.Prod

open Cert.FfnUpIdeal Cert.FfnUpIdeal.Gen Cert.Common

variable (m : (ℓ : Loc nD τ sig) → Buf (Elt Ideal) ℓ)

/-- The product of two blocks. -/
theorem prod_at (x : Vec Ideal S1024x1024 .bf16) (y : Vec Ideal S1024x1408 .bf16) (a : Fin 1024) (b : Fin 1408) :
    k0_pay1 x y (ix2 a b) = ∑ k : Fin 1024, x (ix2 a k) * y (ix2 k b) := by
  pointwise [k0_pay1]

/-- Where every window's block stands. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The rows. -/
abbrev Xarr (c : Dev nD) : FVec Ideal S4096x1024 .bf16 := m ((c : Thread nD τ).loc main_arg0)
/-- The matrix. -/
abbrev Yarr (c : Dev nD) : FVec Ideal S1024x5632 .bf16 := m ((c : Thread nD τ).loc main_arg1)

/-- The rows' block. -/
theorem blk_x (c : Dev nD) (t : Fin cfg0.N) (a : Fin 1024) (k : Fin 1024) (p : Fin 4096) (hp : p.val = t.val / 4 * 1024 + a.val) :
    (show FVec Ideal S1024x1024 .bf16 from iblk m c 0 t) (ix2 a k) = Xarr m c (ix2 p k) := by
  blk_ext [iblk, V, idx t]

/-- The matrix's block. -/
theorem blk_y (c : Dev nD) (t : Fin cfg0.N) (b : Fin 1408) (k : Fin 1024) (q : Fin 5632) (hq : q.val = t.val % 4 * 1408 + b.val) :
    (show FVec Ideal S1024x1408 .bf16 from iblk m c 1 t) (ix2 k b) = Yarr m c (ix2 k q) := by
  blk_ext [iblk, V, idx t]

/-- What a point writes out. -/
theorem out_at (c : Dev nD) (t : Fin cfg0.N) (a : Fin 1024) (b : Fin 1408) (p : Fin 4096) (hp : p.val = t.val / 4 * 1024 + a.val)
    (q : Fin 5632) (hq : q.val = t.val % 4 * 1408 + b.val) :
    out0_2 (iblk m c 0 t) (iblk m c 1 t) (ix2 a b) = matProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x5632.Idx => matProd (Xarr m c) (Yarr m c) (i 0) (i 1) := by
  refine (dats m 0 c).arrAt_eq_of_covers 2 _ (by decide +kernel) fun t hfl y => ?_
  have ht : t.val < 16 := lt_of_lt_of_eq t.isLt N_0
  have hy0 : (y 0 : ℕ) < 1024 := (y 0).isLt
  have hy1 : (y 1 : ℕ) < 1408 := (y 1).isLt
  have hp : t.val / 4 * 1024 + (y 0 : ℕ) < 4096 := by omega
  have hq : t.val % 4 * 1408 + (y 1 : ℕ) < 5632 := by omega
  blk_simp [idx t]
  rw [after0_2, eq_ix2 y]
  refine (out_at m c t (y 0) (y 1) ⟨_, hp⟩ rfl ⟨_, hq⟩ rfl).trans ?_
  have e0 : (⟨t.val / 4 * 1024 + (y 0 : ℕ), hp⟩ : Fin 4096) = (win0_2.blk t).view.emb (ix2 (y 0) (y 1)) 0 :=
    Fin.ext (by blk_simp [idx t])
  have e1 : (⟨t.val % 4 * 1408 + (y 1 : ℕ), hq⟩ : Fin 5632) = (win0_2.blk t).view.emb (ix2 (y 0) (y 1)) 1 :=
    Fin.ext (by blk_simp [idx t])
  exact congrArg₂ (matProd (Xarr m c) (Yarr m c)) e0 e1

end Cert.FfnUpIdeal.Prod

end
-- ==== Proof.FfnUp.Ref.lean ====
/- The reference of the feed-forward block's first product at an index. -/
module

public import proofs.«01_k».proof.Proof.Gen.FfnUpReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.FfnUpReferenceIdeal.Prod

open Cert.FfnUpReferenceIdeal Cert.FfnUpReferenceIdeal.Gen Cert.FfnUpReferenceIdeal.Read Cert.Common

/-- The reference's result is the product. -/
theorem meet (X : FVec Ideal S4096x1024 .bf16) (Y : FVec Ideal S1024x5632 .bf16) : val_main_v3 (F := Ideal) X Y
    = fun i : S4096x5632.Idx => matProd (M := 4096) (N := 5632) X Y (i 0) (i 1) := by
  funext i
  rw [eq_ix2 i]
  generalize i 0 = p
  generalize i 1 = q
  show val_main_v3 (F := Ideal) X Y (ix2 p q) = matProd X Y p q
  pointwise [val_main_v0, val_main_v1, val_main_v2, val_main_v3, matProd]

end Cert.FfnUpReferenceIdeal.Prod

end
-- ==== Proof.Inb.Arrays.lean ====
/- The result array of the second layer's input product after the run. -/
module

public import proofs.«01_k».proof.Proof.Gen.InbIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InbIdeal.Prod

open Cert.InbIdeal Cert.InbIdeal.Gen Cert.Common

variable (m : (ℓ : Loc nD τ sig) → Buf (Elt Ideal) ℓ)

/-- The product of two blocks. -/
theorem prod_at (x : Vec Ideal S1024x1024 .bf16) (y : Vec Ideal S1024x1408 .bf16) (a : Fin 1024) (b : Fin 1408) :
    k0_pay1 x y (ix2 a b) = ∑ k : Fin 1024, x (ix2 a k) * y (ix2 k b) := by
  pointwise [k0_pay1]

/-- Where every window's block stands. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The rows. -/
abbrev Xarr (c : Dev nD) : FVec Ideal S4096x1024 .bf16 := m ((c : Thread nD τ).loc main_arg0)
/-- The matrix. -/
abbrev Yarr (c : Dev nD) : FVec Ideal S1024x4224 .bf16 := m ((c : Thread nD τ).loc main_arg1)

/-- The rows' block. -/
theorem blk_x (c : Dev nD) (t : Fin cfg0.N) (a : Fin 1024) (k : Fin 1024) (p : Fin 4096) (hp : p.val = t.val / 3 * 1024 + a.val) :
    (show FVec Ideal S1024x1024 .bf16 from iblk m c 0 t) (ix2 a k) = Xarr m c (ix2 p k) := by
  blk_ext [iblk, V, idx t]

/-- The matrix's block. -/
theorem blk_y (c : Dev nD) (t : Fin cfg0.N) (b : Fin 1408) (k : Fin 1024) (q : Fin 4224) (hq : q.val = t.val % 3 * 1408 + b.val) :
    (show FVec Ideal S1024x1408 .bf16 from iblk m c 1 t) (ix2 k b) = Yarr m c (ix2 k q) := by
  blk_ext [iblk, V, idx t]

/-- What a point writes out. -/
theorem out_at (c : Dev nD) (t : Fin cfg0.N) (a : Fin 1024) (b : Fin 1408) (p : Fin 4096) (hp : p.val = t.val / 3 * 1024 + a.val)
    (q : Fin 4224) (hq : q.val = t.val % 3 * 1408 + b.val) :
    out0_2 (iblk m c 0 t) (iblk m c 1 t) (ix2 a b) = matProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x4224.Idx => matProd (Xarr m c) (Yarr m c) (i 0) (i 1) := by
  refine (dats m 0 c).arrAt_eq_of_covers 2 _ (by decide +kernel) fun t hfl y => ?_
  have ht : t.val < 12 := lt_of_lt_of_eq t.isLt N_0
  have hy0 : (y 0 : ℕ) < 1024 := (y 0).isLt
  have hy1 : (y 1 : ℕ) < 1408 := (y 1).isLt
  have hp : t.val / 3 * 1024 + (y 0 : ℕ) < 4096 := by omega
  have hq : t.val % 3 * 1408 + (y 1 : ℕ) < 4224 := by omega
  blk_simp [idx t]
  rw [after0_2, eq_ix2 y]
  refine (out_at m c t (y 0) (y 1) ⟨_, hp⟩ rfl ⟨_, hq⟩ rfl).trans ?_
  have e0 : (⟨t.val / 3 * 1024 + (y 0 : ℕ), hp⟩ : Fin 4096) = (win0_2.blk t).view.emb (ix2 (y 0) (y 1)) 0 :=
    Fin.ext (by blk_simp [idx t])
  have e1 : (⟨t.val % 3 * 1408 + (y 1 : ℕ), hq⟩ : Fin 4224) = (win0_2.blk t).view.emb (ix2 (y 0) (y 1)) 1 :=
    Fin.ext (by blk_simp [idx t])
  exact congrArg₂ (matProd (Xarr m c) (Yarr m c)) e0 e1

end Cert.InbIdeal.Prod

end
-- ==== Proof.Inb.Ref.lean ====
/- The reference of the second layer's input product at an index. -/
module

public import proofs.«01_k».proof.Proof.Gen.InbReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.InbReferenceIdeal.Prod

open Cert.InbReferenceIdeal Cert.InbReferenceIdeal.Gen Cert.InbReferenceIdeal.Read Cert.Common

/-- The reference's result is the product. -/
theorem meet (X : FVec Ideal S4096x1024 .bf16) (Y : FVec Ideal S1024x4224 .bf16) : val_main_v2 (F := Ideal) X Y
    = fun i : S4096x4224.Idx => matProd (M := 4096) (N := 4224) X Y (i 0) (i 1) := by
  funext i
  rw [eq_ix2 i]
  generalize i 0 = p
  generalize i 1 = q
  show val_main_v2 (F := Ideal) X Y (ix2 p q) = matProd X Y p q
  pointwise [val_main_v0, val_main_v1, val_main_v2, matProd]

end Cert.InbReferenceIdeal.Prod

end
-- ==== Proof.Ina.Arrays.lean ====
/- The result array of the first layer's input product after the run. -/
module

public import proofs.«01_k».proof.Proof.Gen.InaIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InaIdeal.Prod

open Cert.InaIdeal Cert.InaIdeal.Gen Cert.Common

variable (m : (ℓ : Loc nD τ sig) → Buf (Elt Ideal) ℓ)

/-- The product of two blocks. -/
theorem prod_at (x : Vec Ideal S1024x1024 .bf16) (y : Vec Ideal S1024x1280 .bf16) (a : Fin 1024) (b : Fin 1280) :
    k0_pay1 x y (ix2 a b) = ∑ k : Fin 1024, x (ix2 a k) * y (ix2 k b) := by
  pointwise [k0_pay1]

/-- Where every window's block stands. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The rows. -/
abbrev Xarr (c : Dev nD) : FVec Ideal S4096x1024 .bf16 := m ((c : Thread nD τ).loc main_arg0)
/-- The matrix. -/
abbrev Yarr (c : Dev nD) : FVec Ideal S1024x2560 .bf16 := m ((c : Thread nD τ).loc main_arg1)

/-- The rows' block. -/
theorem blk_x (c : Dev nD) (t : Fin cfg0.N) (a : Fin 1024) (k : Fin 1024) (p : Fin 4096) (hp : p.val = t.val / 2 * 1024 + a.val) :
    (show FVec Ideal S1024x1024 .bf16 from iblk m c 0 t) (ix2 a k) = Xarr m c (ix2 p k) := by
  blk_ext [iblk, V, idx t]

/-- The matrix's block. -/
theorem blk_y (c : Dev nD) (t : Fin cfg0.N) (b : Fin 1280) (k : Fin 1024) (q : Fin 2560) (hq : q.val = t.val % 2 * 1280 + b.val) :
    (show FVec Ideal S1024x1280 .bf16 from iblk m c 1 t) (ix2 k b) = Yarr m c (ix2 k q) := by
  blk_ext [iblk, V, idx t]

/-- What a point writes out. -/
theorem out_at (c : Dev nD) (t : Fin cfg0.N) (a : Fin 1024) (b : Fin 1280) (p : Fin 4096) (hp : p.val = t.val / 2 * 1024 + a.val)
    (q : Fin 2560) (hq : q.val = t.val % 2 * 1280 + b.val) :
    out0_2 (iblk m c 0 t) (iblk m c 1 t) (ix2 a b) = matProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x2560.Idx => matProd (Xarr m c) (Yarr m c) (i 0) (i 1) := by
  refine (dats m 0 c).arrAt_eq_of_covers 2 _ (by decide +kernel) fun t hfl y => ?_
  have ht : t.val < 8 := lt_of_lt_of_eq t.isLt N_0
  have hy0 : (y 0 : ℕ) < 1024 := (y 0).isLt
  have hy1 : (y 1 : ℕ) < 1280 := (y 1).isLt
  have hp : t.val / 2 * 1024 + (y 0 : ℕ) < 4096 := by omega
  have hq : t.val % 2 * 1280 + (y 1 : ℕ) < 2560 := by omega
  blk_simp [idx t]
  rw [after0_2, eq_ix2 y]
  refine (out_at m c t (y 0) (y 1) ⟨_, hp⟩ rfl ⟨_, hq⟩ rfl).trans ?_
  have e0 : (⟨t.val / 2 * 1024 + (y 0 : ℕ), hp⟩ : Fin 4096) = (win0_2.blk t).view.emb (ix2 (y 0) (y 1)) 0 :=
    Fin.ext (by blk_simp [idx t])
  have e1 : (⟨t.val % 2 * 1280 + (y 1 : ℕ), hq⟩ : Fin 2560) = (win0_2.blk t).view.emb (ix2 (y 0) (y 1)) 1 :=
    Fin.ext (by blk_simp [idx t])
  exact congrArg₂ (matProd (Xarr m c) (Yarr m c)) e0 e1

end Cert.InaIdeal.Prod

end
-- ==== Proof.Ina.Ref.lean ====
/- The reference of the first layer's input product at an index. -/
module

public import proofs.«01_k».proof.Proof.Gen.InaReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.InaReferenceIdeal.Prod

open Cert.InaReferenceIdeal Cert.InaReferenceIdeal.Gen Cert.InaReferenceIdeal.Read Cert.Common

/-- The reference's result is the product. -/
theorem meet (X : FVec Ideal S4096x1024 .bf16) (Y : FVec Ideal S1024x2560 .bf16) : val_main_v2 (F := Ideal) X Y
    = fun i : S4096x2560.Idx => matProd (M := 4096) (N := 2560) X Y (i 0) (i 1) := by
  funext i
  rw [eq_ix2 i]
  generalize i 0 = p
  generalize i 1 = q
  show val_main_v2 (F := Ideal) X Y (ix2 p q) = matProd X Y p q
  pointwise [val_main_v0, val_main_v1, val_main_v2, matProd]

end Cert.InaReferenceIdeal.Prod

end
-- ==== Proof.Qf.Arrays.lean ====
/- The result array of the query product after the run. -/
module

public import proofs.«01_k».proof.Proof.Gen.QfIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QfIdeal.Prod

open Cert.QfIdeal Cert.QfIdeal.Gen Cert.Common

variable (m : (ℓ : Loc nD τ sig) → Buf (Elt Ideal) ℓ)

/-- The product of two blocks. -/
theorem prod_at (x : Vec Ideal S1024x1024 .bf16) (y : Vec Ideal S1024x1024 .bf16) (a : Fin 1024) (b : Fin 1024) :
    k0_pay1 x y (ix2 a b) = ∑ k : Fin 1024, x (ix2 a k) * y (ix2 k b) := by
  pointwise [k0_pay1]

/-- Where every window's block stands. -/
theorem idx : ∀ t : Fin cfg0.N, win0_0.index t = ![t.val, 0] ∧ win0_1.index t = ![0, 0] ∧ win0_2.index t = ![t.val, 0] :=
  (by decide +kernel : ∀ t : Fin grid0.N, _)

/-- The rows. -/
abbrev Xarr (c : Dev nD) : FVec Ideal S4096x1024 .bf16 := m ((c : Thread nD τ).loc main_arg0)
/-- The matrix. -/
abbrev Yarr (c : Dev nD) : FVec Ideal S1024x1024 .bf16 := m ((c : Thread nD τ).loc main_arg1)

/-- The rows' block. -/
theorem blk_x (c : Dev nD) (t : Fin cfg0.N) (a : Fin 1024) (k : Fin 1024) (p : Fin 4096) (hp : p.val = t.val * 1024 + a.val) :
    (show FVec Ideal S1024x1024 .bf16 from iblk m c 0 t) (ix2 a k) = Xarr m c (ix2 p k) := by
  blk_ext [iblk, V, idx t]

/-- The matrix's block. -/
theorem blk_y (c : Dev nD) (t : Fin cfg0.N) (b : Fin 1024) (k : Fin 1024) (q : Fin 1024) (hq : q.val = 0 + b.val) :
    (show FVec Ideal S1024x1024 .bf16 from iblk m c 1 t) (ix2 k b) = Yarr m c (ix2 k q) := by
  blk_ext [iblk, V, idx t]

/-- What a point writes out. -/
theorem out_at (c : Dev nD) (t : Fin cfg0.N) (a : Fin 1024) (b : Fin 1024) (p : Fin 4096) (hp : p.val = t.val * 1024 + a.val)
    (q : Fin 1024) (hq : q.val = 0 + b.val) :
    out0_2 (iblk m c 0 t) (iblk m c 1 t) (ix2 a b) = matProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x1024.Idx => matProd (Xarr m c) (Yarr m c) (i 0) (i 1) := by
  refine (dats m 0 c).arrAt_eq_of_covers 2 _ (by decide +kernel) fun t hfl y => ?_
  have ht : t.val < 4 := lt_of_lt_of_eq t.isLt N_0
  have hy0 : (y 0 : ℕ) < 1024 := (y 0).isLt
  have hy1 : (y 1 : ℕ) < 1024 := (y 1).isLt
  have hp : t.val * 1024 + (y 0 : ℕ) < 4096 := by omega
  have hq : 0 + (y 1 : ℕ) < 1024 := by omega
  blk_simp [idx t]
  rw [after0_2, eq_ix2 y]
  refine (out_at m c t (y 0) (y 1) ⟨_, hp⟩ rfl ⟨_, hq⟩ rfl).trans ?_
  have e0 : (⟨t.val * 1024 + (y 0 : ℕ), hp⟩ : Fin 4096) = (win0_2.blk t).view.emb (ix2 (y 0) (y 1)) 0 :=
    Fin.ext (by blk_simp [idx t])
  have e1 : (⟨0 + (y 1 : ℕ), hq⟩ : Fin 1024) = (win0_2.blk t).view.emb (ix2 (y 0) (y 1)) 1 :=
    Fin.ext (by blk_simp [idx t])
  exact congrArg₂ (matProd (Xarr m c) (Yarr m c)) e0 e1

end Cert.QfIdeal.Prod

end
-- ==== Proof.Qf.Ref.lean ====
/- The reference of the query product at an index. -/
module

public import proofs.«01_k».proof.Proof.Gen.QfReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.QfReferenceIdeal.Prod

open Cert.QfReferenceIdeal Cert.QfReferenceIdeal.Gen Cert.QfReferenceIdeal.Read Cert.Common

/-- The reference's result is the product. -/
theorem meet (X : FVec Ideal S4096x1024 .bf16) (Y : FVec Ideal S1024x1024 .bf16) : val_main_v3 (F := Ideal) X Y
    = fun i : S4096x1024.Idx => matProd (M := 4096) (N := 1024) X Y (i 0) (i 1) := by
  funext i
  rw [eq_ix2 i]
  generalize i 0 = p
  generalize i 1 = q
  show val_main_v3 (F := Ideal) X Y (ix2 p q) = matProd X Y p q
  pointwise [val_main_v0, val_main_v1, val_main_v2, val_main_v3, matProd]

end Cert.QfReferenceIdeal.Prod

end
-- ==== Proof.Out.Arrays.lean ====
/- The two result arrays of a residual branch's output product with its norm after the run. -/
module

public import proofs.«01_k».proof.Proof.Gen.OutIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutIdeal.Prod

open Cert.OutIdeal Cert.OutIdeal.Gen Cert.Common

variable (m : (ℓ : Loc nD τ sig) → Buf (Elt Ideal) ℓ)

section

variable (x : Vec Ideal S1024x1024 .bf16) (w : Vec Ideal S1024x1024 .bf16) (r : Vec Ideal S1024x1024 .f32) (g : Vec Ideal S1x1024 .f32)

/-- The stream's block. -/
theorem sum_at (a b : Fin 1024) : k0_pay1 x w r (ix2 a b) = (∑ k : Fin 1024, x (ix2 a k) * w (ix2 k b)) + r (ix2 a b) := by
  pointwise [k0_pay1]

/-- The normed block. -/
theorem normed_at (a b : Fin 1024) :
    k0_pay2 x w r g (ix2 a b) = normed (fun d => k0_pay1 x w r (ix2 a d)) (fun d => g (ix2 0 d)) b := by
  unfold normed
  pointwise [k0_pay2, rootInv, square, width, tiny]

end

/-- Where every window's block stands. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The rows. -/
abbrev Xarr (c : Dev nD) : FVec Ideal S4096x1024 .bf16 := m ((c : Thread nD τ).loc main_arg0)
/-- The matrix. -/
abbrev Warr (c : Dev nD) : FVec Ideal S1024x1024 .bf16 := m ((c : Thread nD τ).loc main_arg1)
/-- The stream. -/
abbrev Rarr (c : Dev nD) : FVec Ideal S4096x1024 .f32 := m ((c : Thread nD τ).loc main_arg2)
/-- The gain. -/
abbrev garr (c : Dev nD) : FVec Ideal S1024 .f32 := m ((c : Thread nD τ).loc main_arg3)

/-- The stream's block. -/
theorem blk_r (c : Dev nD) (t : Fin cfg0.N) (a b : Fin 1024) (i : Fin 4096) (hi : i.val = t.val * 1024 + a.val) :
    (show FVec Ideal S1024x1024 .f32 from iblk m c 2 t) (ix2 a b) = Rarr m c (ix2 i b) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 3 t) (ix2 0 d) = garr m c (ix1 d) := by
  have h : (show FVec Ideal S1x1024 .f32 from iblk m c 3 t) (ix2 0 d) = (show FVec Ideal S1x1024 .f32 from V m c main_v0) (ix2 0 d) := by
    blk_ext [iblk, idx t]
  rw [h, gain_row]
  pointwise []

/-- The rows' block. -/
theorem blk_x (c : Dev nD) (t : Fin cfg0.N) (a : Fin 1024) (k : Fin 1024) (i : Fin 4096) (hi : i.val = t.val * 1024 + a.val) :
    (show FVec Ideal S1024x1024 .bf16 from iblk m c 0 t) (ix2 a k) = Xarr m c (ix2 i k) := by
  blk_ext [iblk, V, idx t]

/-- The matrix's block. -/
theorem blk_w (c : Dev nD) (t : Fin cfg0.N) (k : Fin 1024) (b : Fin 1024) :
    (show FVec Ideal S1024x1024 .bf16 from iblk m c 1 t) (ix2 k b) = Warr m c (ix2 k b) := by
  blk_ext [iblk, V, idx t]

/-- The stream's block is the branch added to the stream. -/
theorem sum_blk (c : Dev nD) (t : Fin cfg0.N) (a b : Fin 1024) (i : Fin 4096) (hi : i.val = t.val * 1024 + a.val) :
    k0_pay1 (iblk m c 0 t) (iblk m c 1 t) (iblk m c 2 t) (ix2 a b) = added (Xarr m c) (Warr m c) (Rarr m c) i b :=
  (sum_at _ _ _ a b).trans (congrArg₂ (· + ·) (Finset.sum_congr rfl fun k _ =>
    congrArg₂ (· * ·) (blk_x m c t a k i hi) (blk_w m c t k b)) (blk_r m c t a b i hi))

/-- The first output block. -/
theorem first_blk (c : Dev nD) (t : Fin cfg0.N) (a b : Fin 1024) (i : Fin 4096) (hi : i.val = t.val * 1024 + a.val) :
    out0_4 (iblk m c 0 t) (iblk m c 1 t) (iblk m c 2 t) (iblk m c 3 t) (ix2 a b) = added (Xarr m c) (Warr m c) (Rarr m c) i b := by
  have e : out0_4 (iblk m c 0 t) (iblk m c 1 t) (iblk m c 2 t) (iblk m c 3 t) = k0_pay1 (iblk m c 0 t) (iblk m c 1 t) (iblk m c 2 t) := by
    frame_out
  rw [e]
  exact sum_blk m c t a b i hi

/-- The second output block. -/
theorem second_blk (c : Dev nD) (t : Fin cfg0.N) (a b : Fin 1024) (i : Fin 4096) (hi : i.val = t.val * 1024 + a.val) :
    out0_5 (iblk m c 0 t) (iblk m c 1 t) (iblk m c 2 t) (iblk m c 3 t) (ix2 a b)
      = normed (added (Xarr m c) (Warr m c) (Rarr m c) i) (fun d => garr m c (ix1 d)) b := by
  have e : out0_5 (iblk m c 0 t) (iblk m c 1 t) (iblk m c 2 t) (iblk m c 3 t)
      = k0_pay2 (iblk m c 0 t) (iblk m c 1 t) (iblk m c 2 t) (iblk m c 3 t) := by frame_out
  rw [e]
  refine (normed_at _ _ _ _ a b).trans ?_
  exact congrArg₂ (fun x g => normed x g b) (funext fun d => sum_blk m c t a d i hi) (funext fun d => blk_g m c t d)

/-- After the run the first result holds the stream. -/
theorem final_sum (c : Dev nD) : (dats m 0 c).arrAt 4 (cfgs 0).N
    = fun i : S4096x1024.Idx => added (Xarr m c) (Warr m c) (Rarr m c) (i 0) (i 1) := by
  refine (dats m 0 c).arrAt_eq_of_covers 4 _ (by decide +kernel) fun t hfl y => ?_
  have ht : t.val < 4 := lt_of_lt_of_eq t.isLt N_0
  have hy : (y 0 : ℕ) < 1024 := (y 0).isLt
  have hp : t.val * 1024 + (y 0 : ℕ) < 4096 := by omega
  blk_simp [idx t]
  rw [after0_4, eq_ix2 y]
  refine (first_blk m c t (y 0) (y 1) ⟨_, hp⟩ rfl).trans ?_
  have e0 : (⟨t.val * 1024 + (y 0 : ℕ), hp⟩ : Fin 4096) = (win0_4.blk t).view.emb (ix2 (y 0) (y 1)) 0 :=
    Fin.ext (by blk_simp [idx t])
  have e1 : (y 1 : Fin 1024) = (win0_4.blk t).view.emb (ix2 (y 0) (y 1)) 1 := Fin.ext (by blk_simp [idx t])
  exact congrArg₂ (added (Xarr m c) (Warr m c) (Rarr m c)) e0 e1

/-- After the run the second result holds the normed stream. -/
theorem final_normed (c : Dev nD) : (dats m 0 c).arrAt 5 (cfgs 0).N
    = fun i : S4096x1024.Idx => normed (added (Xarr m c) (Warr m c) (Rarr m c) (i 0)) (fun d => garr m c (ix1 d)) (i 1) := by
  refine (dats m 0 c).arrAt_eq_of_covers 5 _ (by decide +kernel) fun t hfl y => ?_
  have ht : t.val < 4 := lt_of_lt_of_eq t.isLt N_0
  have hy : (y 0 : ℕ) < 1024 := (y 0).isLt
  have hp : t.val * 1024 + (y 0 : ℕ) < 4096 := by omega
  blk_simp [idx t]
  rw [after0_5, eq_ix2 y]
  refine (second_blk m c t (y 0) (y 1) ⟨_, hp⟩ rfl).trans ?_
  have e0 : (⟨t.val * 1024 + (y 0 : ℕ), hp⟩ : Fin 4096) = (win0_5.blk t).view.emb (ix2 (y 0) (y 1)) 0 :=
    Fin.ext (by blk_simp [idx t])
  have e1 : (y 1 : Fin 1024) = (win0_5.blk t).view.emb (ix2 (y 0) (y 1)) 1 := Fin.ext (by blk_simp [idx t])
  exact congrArg₂ ((fun i => normed (added (Xarr m c) (Warr m c) (Rarr m c) i) (fun d => garr m c (ix1 d)))) e0 e1

end Cert.OutIdeal.Prod

end
-- ==== Proof.Out.Ref.lean ====
/- The reference of a residual branch's output product with its norm at an index. -/
module

public import proofs.«01_k».proof.Proof.Gen.OutReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.OutReferenceIdeal.Prod

open Cert.OutReferenceIdeal Cert.OutReferenceIdeal.Gen Cert.OutReferenceIdeal.Read Cert.Common

variable (X : FVec Ideal S4096x1024 .bf16) (W : FVec Ideal S1024x1024 .bf16) (R : FVec Ideal S4096x1024 .f32) (g : FVec Ideal S1024 .f32)

/-- The stream at an index. -/
theorem sum_at (i : Fin 4096) (d : Fin 1024) : val_main_v3 (F := Ideal) X W R (ix2 i d) = added (M := 4096) X W R i d := by
  unfold added matProd
  pointwise [val_main_v3, val_main_v2, val_main_v1, val_main_v0]
  exact add_comm (G := EReal) _ _

/-- The normed stream at an index. -/
theorem normed_at (i : Fin 4096) (d : Fin 1024) : val_main_v17 (F := Ideal) X W R g (ix2 i d)
    = normed (added (M := 4096) X W R i) (fun d => g (ix1 d)) d := by
  rw [show added (M := 4096) X W R i = fun d => val_main_v3 (F := Ideal) X W R (ix2 i d) from funext fun d => (sum_at X W R i d).symm]
  unfold normed
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1, rootInv, square, width, tiny]

/-- The first result: the stream. -/
theorem sum_meet : val_main_v3 (F := Ideal) X W R = fun i : S4096x1024.Idx => added (M := 4096) X W R (i 0) (i 1) := by
  funext i
  rw [eq_ix2 i]
  exact sum_at X W R (i 0) (i 1)

/-- The second result: the normed stream. -/
theorem normed_meet : val_main_v17 (F := Ideal) X W R g
    = fun i : S4096x1024.Idx => normed (added (M := 4096) X W R (i 0)) (fun d => g (ix1 d)) (i 1) := by
  funext i
  rw [eq_ix2 i]
  exact normed_at X W R g (i 0) (i 1)

end Cert.OutReferenceIdeal.Prod

end
-- ==== Proof.Down.Arrays.lean ====
/- The two result arrays of the feed-forward block's last product with its norm after the run. -/
module

public import proofs.«01_k».proof.Proof.Gen.DownIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownIdeal.Prod

open Cert.DownIdeal Cert.DownIdeal.Gen Cert.Common

variable (m : (ℓ : Loc nD τ sig) → Buf (Elt Ideal) ℓ)

section

variable (x : Vec Ideal S1024x1408 .bf16) (w : Vec Ideal S1408x1024 .bf16) (s r : Vec Ideal S1024x1024 .f32) (g : Vec Ideal S1x1024 .f32)

/-- The first block's product. -/
theorem part_first (a b : Fin 1024) : k0_pay2 x w (ix2 a b) = ∑ k : Fin 1408, x (ix2 a k) * w (ix2 k b) := by
  pointwise [k0_pay2, k0_pay1]

/-- A later block's product, added. -/
theorem part_step (a b : Fin 1024) : k0_pay3 x w s (ix2 a b) = s (ix2 a b) + ∑ k : Fin 1408, x (ix2 a k) * w (ix2 k b) := by
  pointwise [k0_pay3, k0_pay1]

/-- The stream's block. -/
theorem sum_at (a b : Fin 1024) : k0_pay4 s r (ix2 a b) = s (ix2 a b) + r (ix2 a b) := by
  pointwise [k0_pay4]

/-- The normed block. -/
theorem normed_at (a b : Fin 1024) :
    k0_pay5 s r g (ix2 a b) = normed (fun d => k0_pay4 s r (ix2 a d)) (fun d => g (ix2 0 d)) b := by
  unfold normed
  pointwise [k0_pay5, rootInv, square, width, tiny]

end

/-- At the first block the accumulator holds that block's product. -/
theorem acc_first (c : Dev nD) (t : Fin cfg0.N) (h : t.val % 2 = 0) :
    (outsAt0 m c t.val t.isLt).2.2 = k0_pay2 (iblk m c 0 t) (iblk m c 1 t) := by
  rw [outsAt0_A m c t h (by omega) (by omega)]; frame_out

/-- At the last block its product is added. -/
theorem acc_last (c : Dev nD) (t : Fin cfg0.N) (h : t.val % 2 = 1) :
    (outsAt0 m c t.val t.isLt).2.2 = k0_pay3 (iblk m c 0 t) (iblk m c 1 t)
      ((outsAt0 m c (t.val - 1) (Nat.lt_of_le_of_lt (Nat.sub_le _ _) t.isLt)).2.2) := by
  rw [outsAt0_B m c t (by omega) h h]; frame_out
  exact congrArg _ (read_unread_whole _ _ _)

/-- At the last block the stream is added to the accumulator. -/
theorem sum_last (c : Dev nD) (t : Fin cfg0.N) (h : t.val % 2 = 1) :
    (outsAt0 m c t.val t.isLt).1 = k0_pay4 ((outsAt0 m c t.val t.isLt).2.2) (iblk m c 2 t) := by
  rw [outsAt0_B m c t (by omega) h h]; frame_out

/-- At the last block the norm is taken. -/
theorem normed_last (c : Dev nD) (t : Fin cfg0.N) (h : t.val % 2 = 1) :
    (outsAt0 m c t.val t.isLt).2.1 = k0_pay5 ((outsAt0 m c t.val t.isLt).2.2) (iblk m c 2 t) (iblk m c 3 t) := by
  rw [outsAt0_B m c t (by omega) h h]; frame_out

/-- Where every window's block stands. -/
theorem idx : ∀ t : Fin cfg0.N, win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0] :=
  (by decide +kernel : ∀ t : Fin grid0.N, _)

/-- The rows. -/
abbrev Xarr (c : Dev nD) : FVec Ideal S4096x2816 .bf16 := m ((c : Thread nD τ).loc main_arg0)
/-- The matrix. -/
abbrev Warr (c : Dev nD) : FVec Ideal S2816x1024 .bf16 := m ((c : Thread nD τ).loc main_arg1)
/-- The stream. -/
abbrev Rarr (c : Dev nD) : FVec Ideal S4096x1024 .f32 := m ((c : Thread nD τ).loc main_arg2)
/-- The gain. -/
abbrev garr (c : Dev nD) : FVec Ideal S1024 .f32 := m ((c : Thread nD τ).loc main_arg3)

/-- The stream's block. -/
theorem blk_r (c : Dev nD) (t : Fin cfg0.N) (a b : Fin 1024) (i : Fin 4096) (hi : i.val = t.val / 2 * 1024 + a.val) :
    (show FVec Ideal S1024x1024 .f32 from iblk m c 2 t) (ix2 a b) = Rarr m c (ix2 i b) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 3 t) (ix2 0 d) = garr m c (ix1 d) := by
  have h : (show FVec Ideal S1x1024 .f32 from iblk m c 3 t) (ix2 0 d) = (show FVec Ideal S1x1024 .f32 from V m c main_v0) (ix2 0 d) := by
    blk_ext [iblk, idx t]
  rw [h, gain_row]
  pointwise []

/-- The rows' block. -/
theorem blk_x (c : Dev nD) (t : Fin cfg0.N) (a : Fin 1024) (k : Fin 1408) (i : Fin 4096) (hi : i.val = t.val / 2 * 1024 + a.val)
    (n : Fin 2816) (hn : n.val = t.val % 2 * 1408 + k.val) :
    (show FVec Ideal S1024x1408 .bf16 from iblk m c 0 t) (ix2 a k) = Xarr m c (ix2 i n) := by
  blk_ext [iblk, V, idx t]

/-- The matrix's block. -/
theorem blk_w (c : Dev nD) (t : Fin cfg0.N) (k : Fin 1408) (b : Fin 1024) (n : Fin 2816) (hn : n.val = t.val % 2 * 1408 + k.val) :
    (show FVec Ideal S1408x1024 .bf16 from iblk m c 1 t) (ix2 k b) = Warr m c (ix2 n b) := by
  blk_ext [iblk, V, idx t]

/-- The part of the product that comes from block `s`. -/
def piece (c : Dev nD) (s : ℕ) (i : Fin 4096) (b : Fin 1024) : EReal :=
  ∑ k : Fin 1408, alongCol (Xarr m c) (Warr m c) i b (s * 1408 + k.val)

/-- The two blocks make up the product. -/
theorem pieces (c : Dev nD) (i : Fin 4096) (b : Fin 1024) :
    piece m c 0 i b + piece m c 1 i b = matProd (Xarr m c) (Warr m c) i b := by
  have h := Fin.sum_univ_two (fun s : Fin 2 => piece m c s.val i b)
  refine h.symm.trans ?_
  unfold matProd piece
  refine Fin.sum_mul_add_congr (S := 2) (n := 1408) fun s k hl => ?_
  unfold alongCol
  rw [dif_pos hl]

/-- A block of rows against a block of the matrix. -/
theorem piece_at (c : Dev nD) (t : Fin cfg0.N) (a b : Fin 1024) (i : Fin 4096) (hi : i.val = t.val / 2 * 1024 + a.val) (s : ℕ)
    (hs : t.val % 2 = s) :
    (∑ k : Fin 1408, (show FVec Ideal S1024x1408 .bf16 from iblk m c 0 t) (ix2 a k)
      * (show FVec Ideal S1408x1024 .bf16 from iblk m c 1 t) (ix2 k b)) = piece m c s i b := by
  unfold piece
  refine Finset.sum_congr rfl fun k _ => ?_
  have hk : s * 1408 + k.val < 2816 := by omega
  unfold alongCol
  rw [dif_pos hk]
  exact congrArg₂ (· * ·) (blk_x m c t a k i hi ⟨_, hk⟩ (by rw [hs])) (blk_w m c t k b ⟨_, hk⟩ (by rw [hs]))

/-- The accumulator at the last block is the product. -/
theorem sum_all (c : Dev nD) (t : Fin cfg0.N) (h : t.val % 2 = 1) (a b : Fin 1024) (i : Fin 4096) (hi : i.val = t.val / 2 * 1024 + a.val) :
    (outsAt0 m c t.val t.isLt).2.2 (ix2 a b) = matProd (Xarr m c) (Warr m c) i b := by
  rw [acc_last m c t h]
  refine (part_step _ _ _ a b).trans ((congrArg₂ (· + ·) ?_ (piece_at m c t a b i hi 1 h)).trans (pieces m c i b))
  have hp : (t.val - 1) % 2 = 0 := by omega
  have hq : i.val = (t.val - 1) / 2 * 1024 + a.val := by omega
  have e := acc_first m c ⟨t.val - 1, Nat.lt_of_le_of_lt (Nat.sub_le _ _) t.isLt⟩ hp
  refine (congrFun e (ix2 a b)).trans ((part_first _ _ a b).trans ?_)
  exact piece_at m c ⟨t.val - 1, Nat.lt_of_le_of_lt (Nat.sub_le _ _) t.isLt⟩ a b i hq 0 hp

/-- The first output block. -/
theorem first_blk (c : Dev nD) (t : Fin cfg0.N) (h : t.val % 2 = 1) (a b : Fin 1024) (i : Fin 4096) (hi : i.val = t.val / 2 * 1024 + a.val) :
    (outsAt0 m c t.val t.isLt).1 (ix2 a b) = added (Xarr m c) (Warr m c) (Rarr m c) i b := by
  rw [sum_last m c t h]
  exact (sum_at _ _ a b).trans (congrArg₂ (· + ·) (sum_all m c t h a b i hi) (blk_r m c t a b i hi))

/-- The second output block. -/
theorem second_blk (c : Dev nD) (t : Fin cfg0.N) (h : t.val % 2 = 1) (a b : Fin 1024) (i : Fin 4096) (hi : i.val = t.val / 2 * 1024 + a.val) :
    (outsAt0 m c t.val t.isLt).2.1 (ix2 a b)
      = normed (added (Xarr m c) (Warr m c) (Rarr m c) i) (fun d => garr m c (ix1 d)) b := by
  rw [normed_last m c t h]
  refine (normed_at _ _ _ a b).trans ?_
  rw [← sum_last m c t h]
  exact congrArg₂ (fun x g => normed x g b) (funext fun d => first_blk m c t h a d i hi) (funext fun d => blk_g m c t d)

/-- After the run the first result holds the stream. -/
theorem final_sum (c : Dev nD) : (dats m 0 c).arrAt 4 (cfgs 0).N
    = fun i : S4096x1024.Idx => added (Xarr m c) (Warr m c) (Rarr m c) (i 0) (i 1) := by
  have hf : ∀ t : Fin cfg0.N, (cfg0.win 4).flush t = true → t.val % 2 = 1 := by decide +kernel
  refine (dats m 0 c).arrAt_eq_of_covers 4 _ (by decide +kernel) fun t hfl y => ?_
  have h3 := hf t hfl
  have ht : t.val < 8 := lt_of_lt_of_eq t.isLt N_0
  have hy : (y 0 : ℕ) < 1024 := (y 0).isLt
  have hp : t.val / 2 * 1024 + (y 0 : ℕ) < 4096 := by omega
  blk_simp [idx t]
  rw [after0_4, eq_ix2 y]
  refine (first_blk m c t h3 (y 0) (y 1) ⟨_, hp⟩ rfl).trans ?_
  have e0 : (⟨t.val / 2 * 1024 + (y 0 : ℕ), hp⟩ : Fin 4096) = (win0_4.blk t).view.emb (ix2 (y 0) (y 1)) 0 :=
    Fin.ext (by blk_simp [idx t])
  have e1 : (y 1 : Fin 1024) = (win0_4.blk t).view.emb (ix2 (y 0) (y 1)) 1 := Fin.ext (by blk_simp [idx t])
  exact congrArg₂ (added (Xarr m c) (Warr m c) (Rarr m c)) e0 e1

/-- After the run the second result holds the normed stream. -/
theorem final_normed (c : Dev nD) : (dats m 0 c).arrAt 5 (cfgs 0).N
    = fun i : S4096x1024.Idx => normed (added (Xarr m c) (Warr m c) (Rarr m c) (i 0)) (fun d => garr m c (ix1 d)) (i 1) := by
  have hf : ∀ t : Fin cfg0.N, (cfg0.win 5).flush t = true → t.val % 2 = 1 := by decide +kernel
  refine (dats m 0 c).arrAt_eq_of_covers 5 _ (by decide +kernel) fun t hfl y => ?_
  have h3 := hf t hfl
  have ht : t.val < 8 := lt_of_lt_of_eq t.isLt N_0
  have hy : (y 0 : ℕ) < 1024 := (y 0).isLt
  have hp : t.val / 2 * 1024 + (y 0 : ℕ) < 4096 := by omega
  blk_simp [idx t]
  rw [after0_5, eq_ix2 y]
  refine (second_blk m c t h3 (y 0) (y 1) ⟨_, hp⟩ rfl).trans ?_
  have e0 : (⟨t.val / 2 * 1024 + (y 0 : ℕ), hp⟩ : Fin 4096) = (win0_5.blk t).view.emb (ix2 (y 0) (y 1)) 0 :=
    Fin.ext (by blk_simp [idx t])
  have e1 : (y 1 : Fin 1024) = (win0_5.blk t).view.emb (ix2 (y 0) (y 1)) 1 := Fin.ext (by blk_simp [idx t])
  exact congrArg₂ ((fun i => normed (added (Xarr m c) (Warr m c) (Rarr m c) i) (fun d => garr m c (ix1 d)))) e0 e1

end Cert.DownIdeal.Prod

end
-- ==== Proof.Down.Ref.lean ====
/- The reference of the feed-forward block's last product with its norm at an index. -/
module

public import proofs.«01_k».proof.Proof.Gen.DownReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.DownReferenceIdeal.Prod

open Cert.DownReferenceIdeal Cert.DownReferenceIdeal.Gen Cert.DownReferenceIdeal.Read Cert.Common

variable (X : FVec Ideal S4096x2816 .bf16) (W : FVec Ideal S2816x1024 .bf16) (R : FVec Ideal S4096x1024 .f32) (g : FVec Ideal S1024 .f32)

/-- The stream at an index. -/
theorem sum_at (i : Fin 4096) (d : Fin 1024) : val_main_v3 (F := Ideal) X W R (ix2 i d) = added (M := 4096) X W R i d := by
  unfold added matProd
  pointwise [val_main_v3, val_main_v2, val_main_v1, val_main_v0]
  exact add_comm (G := EReal) _ _

/-- The normed stream at an index. -/
theorem normed_at (i : Fin 4096) (d : Fin 1024) : val_main_v17 (F := Ideal) X W R g (ix2 i d)
    = normed (added (M := 4096) X W R i) (fun d => g (ix1 d)) d := by
  rw [show added (M := 4096) X W R i = fun d => val_main_v3 (F := Ideal) X W R (ix2 i d) from funext fun d => (sum_at X W R i d).symm]
  unfold normed
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1, rootInv, square, width, tiny]

/-- The first result: the stream. -/
theorem sum_meet : val_main_v3 (F := Ideal) X W R = fun i : S4096x1024.Idx => added (M := 4096) X W R (i 0) (i 1) := by
  funext i
  rw [eq_ix2 i]
  exact sum_at X W R (i 0) (i 1)

/-- The second result: the normed stream. -/
theorem normed_meet : val_main_v17 (F := Ideal) X W R g
    = fun i : S4096x1024.Idx => normed (added (M := 4096) X W R (i 0)) (fun d => g (ix1 d)) (i 1) := by
  funext i
  rw [eq_ix2 i]
  exact normed_at X W R g (i 0) (i 1)

end Cert.DownReferenceIdeal.Prod

end
-- ==== Proof.DownB.Arrays.lean ====
/- The result array of the last layer's product and sum after the run. -/
module

public import proofs.«01_k».proof.Proof.Gen.DownBIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownBIdeal.Prod

open Cert.DownBIdeal Cert.DownBIdeal.Gen Cert.Common

variable (m : (ℓ : Loc nD τ sig) → Buf (Elt Ideal) ℓ)

section

variable (x : Vec Ideal S1024x1408 .bf16) (w : Vec Ideal S1408x1024 .bf16) (s r : Vec Ideal S1024x1024 .f32)

/-- The first block's product. -/
theorem part_first (a b : Fin 1024) : k0_pay2 x w (ix2 a b) = ∑ k : Fin 1408, x (ix2 a k) * w (ix2 k b) := by
  pointwise [k0_pay2, k0_pay1]

/-- A later block's product, added. -/
theorem part_step (a b : Fin 1024) : k0_pay3 x w s (ix2 a b) = s (ix2 a b) + ∑ k : Fin 1408, x (ix2 a k) * w (ix2 k b) := by
  pointwise [k0_pay3, k0_pay1]

/-- The stream's block. -/
theorem sum_at (a b : Fin 1024) : k0_pay4 s r (ix2 a b) = s (ix2 a b) + r (ix2 a b) := by
  pointwise [k0_pay4]

end

/-- At the first block the accumulator holds that block's product. -/
theorem acc_first (c : Dev nD) (t : Fin cfg0.N) (h : t.val % 2 = 0) :
    (outsAt0 m c t.val t.isLt).2 = k0_pay2 (iblk m c 0 t) (iblk m c 1 t) := by
  rw [outsAt0_A m c t h (by omega) (by omega)]; frame_out

/-- At the last block its product is added. -/
theorem acc_last (c : Dev nD) (t : Fin cfg0.N) (h : t.val % 2 = 1) :
    (outsAt0 m c t.val t.isLt).2 = k0_pay3 (iblk m c 0 t) (iblk m c 1 t)
      ((outsAt0 m c (t.val - 1) (Nat.lt_of_le_of_lt (Nat.sub_le _ _) t.isLt)).2) := by
  rw [outsAt0_B m c t (by omega) h h]; frame_out
  exact congrArg _ (read_unread_whole _ _ _)

/-- At the last block the stream is added to the accumulator. -/
theorem sum_last (c : Dev nD) (t : Fin cfg0.N) (h : t.val % 2 = 1) :
    (outsAt0 m c t.val t.isLt).1 = k0_pay4 ((outsAt0 m c t.val t.isLt).2) (iblk m c 2 t) := by
  rw [outsAt0_B m c t (by omega) h h]; frame_out

/-- Where every window's block stands. -/
theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The rows. -/
abbrev Xarr (c : Dev nD) : FVec Ideal S4096x2816 .bf16 := m ((c : Thread nD τ).loc main_arg0)
/-- The matrix. -/
abbrev Warr (c : Dev nD) : FVec Ideal S2816x1024 .bf16 := m ((c : Thread nD τ).loc main_arg1)
/-- The stream. -/
abbrev Rarr (c : Dev nD) : FVec Ideal S4096x1024 .f32 := m ((c : Thread nD τ).loc main_arg2)
/-- The stream's block. -/
theorem blk_r (c : Dev nD) (t : Fin cfg0.N) (a b : Fin 1024) (i : Fin 4096) (hi : i.val = t.val / 2 * 1024 + a.val) :
    (show FVec Ideal S1024x1024 .f32 from iblk m c 2 t) (ix2 a b) = Rarr m c (ix2 i b) := by
  blk_ext [iblk, V, idx t]

/-- The rows' block. -/
theorem blk_x (c : Dev nD) (t : Fin cfg0.N) (a : Fin 1024) (k : Fin 1408) (i : Fin 4096) (hi : i.val = t.val / 2 * 1024 + a.val)
    (n : Fin 2816) (hn : n.val = t.val % 2 * 1408 + k.val) :
    (show FVec Ideal S1024x1408 .bf16 from iblk m c 0 t) (ix2 a k) = Xarr m c (ix2 i n) := by
  blk_ext [iblk, V, idx t]

/-- The matrix's block. -/
theorem blk_w (c : Dev nD) (t : Fin cfg0.N) (k : Fin 1408) (b : Fin 1024) (n : Fin 2816) (hn : n.val = t.val % 2 * 1408 + k.val) :
    (show FVec Ideal S1408x1024 .bf16 from iblk m c 1 t) (ix2 k b) = Warr m c (ix2 n b) := by
  blk_ext [iblk, V, idx t]

/-- The part of the product that comes from block `s`. -/
def piece (c : Dev nD) (s : ℕ) (i : Fin 4096) (b : Fin 1024) : EReal :=
  ∑ k : Fin 1408, alongCol (Xarr m c) (Warr m c) i b (s * 1408 + k.val)

/-- The two blocks make up the product. -/
theorem pieces (c : Dev nD) (i : Fin 4096) (b : Fin 1024) :
    piece m c 0 i b + piece m c 1 i b = matProd (Xarr m c) (Warr m c) i b := by
  have h := Fin.sum_univ_two (fun s : Fin 2 => piece m c s.val i b)
  refine h.symm.trans ?_
  unfold matProd piece
  refine Fin.sum_mul_add_congr (S := 2) (n := 1408) fun s k hl => ?_
  unfold alongCol
  rw [dif_pos hl]

/-- A block of rows against a block of the matrix. -/
theorem piece_at (c : Dev nD) (t : Fin cfg0.N) (a b : Fin 1024) (i : Fin 4096) (hi : i.val = t.val / 2 * 1024 + a.val) (s : ℕ)
    (hs : t.val % 2 = s) :
    (∑ k : Fin 1408, (show FVec Ideal S1024x1408 .bf16 from iblk m c 0 t) (ix2 a k)
      * (show FVec Ideal S1408x1024 .bf16 from iblk m c 1 t) (ix2 k b)) = piece m c s i b := by
  unfold piece
  refine Finset.sum_congr rfl fun k _ => ?_
  have hk : s * 1408 + k.val < 2816 := by omega
  unfold alongCol
  rw [dif_pos hk]
  exact congrArg₂ (· * ·) (blk_x m c t a k i hi ⟨_, hk⟩ (by rw [hs])) (blk_w m c t k b ⟨_, hk⟩ (by rw [hs]))

/-- The accumulator at the last block is the product. -/
theorem sum_all (c : Dev nD) (t : Fin cfg0.N) (h : t.val % 2 = 1) (a b : Fin 1024) (i : Fin 4096) (hi : i.val = t.val / 2 * 1024 + a.val) :
    (outsAt0 m c t.val t.isLt).2 (ix2 a b) = matProd (Xarr m c) (Warr m c) i b := by
  rw [acc_last m c t h]
  refine (part_step _ _ _ a b).trans ((congrArg₂ (· + ·) ?_ (piece_at m c t a b i hi 1 h)).trans (pieces m c i b))
  have hp : (t.val - 1) % 2 = 0 := by omega
  have hq : i.val = (t.val - 1) / 2 * 1024 + a.val := by omega
  have e := acc_first m c ⟨t.val - 1, Nat.lt_of_le_of_lt (Nat.sub_le _ _) t.isLt⟩ hp
  refine (congrFun e (ix2 a b)).trans ((part_first _ _ a b).trans ?_)
  exact piece_at m c ⟨t.val - 1, Nat.lt_of_le_of_lt (Nat.sub_le _ _) t.isLt⟩ a b i hq 0 hp

/-- The output block. -/
theorem first_blk (c : Dev nD) (t : Fin cfg0.N) (h : t.val % 2 = 1) (a b : Fin 1024) (i : Fin 4096) (hi : i.val = t.val / 2 * 1024 + a.val) :
    (outsAt0 m c t.val t.isLt).1 (ix2 a b) = added (Xarr m c) (Warr m c) (Rarr m c) i b := by
  rw [sum_last m c t h]
  exact (sum_at _ _ a b).trans (congrArg₂ (· + ·) (sum_all m c t h a b i hi) (blk_r m c t a b i hi))

/-- After the run the result holds the stream. -/
theorem final (c : Dev nD) : (dats m 0 c).arrAt 3 (cfgs 0).N
    = fun i : S4096x1024.Idx => added (Xarr m c) (Warr m c) (Rarr m c) (i 0) (i 1) := by
  have hf : ∀ t : Fin cfg0.N, (cfg0.win 3).flush t = true → t.val % 2 = 1 := by decide +kernel
  refine (dats m 0 c).arrAt_eq_of_covers 3 _ (by decide +kernel) fun t hfl y => ?_
  have h3 := hf t hfl
  have ht : t.val < 8 := lt_of_lt_of_eq t.isLt N_0
  have hy : (y 0 : ℕ) < 1024 := (y 0).isLt
  have hp : t.val / 2 * 1024 + (y 0 : ℕ) < 4096 := by omega
  blk_simp [idx t]
  rw [after0_3, eq_ix2 y]
  refine (first_blk m c t h3 (y 0) (y 1) ⟨_, hp⟩ rfl).trans ?_
  have e0 : (⟨t.val / 2 * 1024 + (y 0 : ℕ), hp⟩ : Fin 4096) = (win0_3.blk t).view.emb (ix2 (y 0) (y 1)) 0 :=
    Fin.ext (by blk_simp [idx t])
  have e1 : (y 1 : Fin 1024) = (win0_3.blk t).view.emb (ix2 (y 0) (y 1)) 1 := Fin.ext (by blk_simp [idx t])
  exact congrArg₂ (added (Xarr m c) (Warr m c) (Rarr m c)) e0 e1

end Cert.DownBIdeal.Prod

end
-- ==== Proof.DownB.Ref.lean ====
/- The reference of the last layer's product and sum at an index. -/
module

public import proofs.«01_k».proof.Proof.Gen.DownBReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.DownBReferenceIdeal.Prod

open Cert.DownBReferenceIdeal Cert.DownBReferenceIdeal.Gen Cert.DownBReferenceIdeal.Read Cert.Common

/-- The reference's result is the product and the sum. -/
theorem meet (X : FVec Ideal S4096x2816 .bf16) (Y : FVec Ideal S2816x1024 .bf16) (R : FVec Ideal S4096x1024 .f32) : val_main_v3 (F := Ideal) X Y R
    = fun i : S4096x1024.Idx => added X Y R (i 0) (i 1) := by
  funext i
  rw [eq_ix2 i]
  generalize i 0 = p
  generalize i 1 = q
  show val_main_v3 (F := Ideal) X Y R (ix2 p q) = added X Y R p q
  pointwise [val_main_v0, val_main_v1, val_main_v2, val_main_v3, added, matProd]
  exact add_comm (G := EReal) _ _

end Cert.DownBReferenceIdeal.Prod

end
-- ==== Proof.GluF.Arrays.lean ====
/- The result array of the gate's product after the run. -/
module

public import proofs.«01_k».proof.Proof.Gen.GluFIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GluFIdeal.Prod

open Cert.GluFIdeal Cert.GluFIdeal.Gen Cert.Common

variable (m : (ℓ : Loc nD τ sig) → Buf (Elt Ideal) ℓ)

/-- The product of two blocks. -/
theorem prod_at (x : Vec Ideal S1024x512 .bf16) (y : Vec Ideal S512x512 .bf16) (a : Fin 1024) (b : Fin 512) :
    k0_pay1 x y (ix2 a b) = ∑ k : Fin 512, x (ix2 a k) * y (ix2 k b) := by
  pointwise [k0_pay1]

/-- Where every window's block stands. -/
theorem idx : ∀ t : Fin cfg0.N, win0_0.index t = ![t.val, 0] ∧ win0_1.index t = ![0, 0] ∧ win0_2.index t = ![t.val, 0] :=
  (by decide +kernel : ∀ t : Fin grid0.N, _)

/-- The rows. -/
abbrev Xarr (c : Dev nD) : FVec Ideal S4096x512 .bf16 := m ((c : Thread nD τ).loc main_arg0)
/-- The matrix. -/
abbrev Yarr (c : Dev nD) : FVec Ideal S512x512 .bf16 := m ((c : Thread nD τ).loc main_arg1)

/-- The rows' block. -/
theorem blk_x (c : Dev nD) (t : Fin cfg0.N) (a : Fin 1024) (k : Fin 512) (p : Fin 4096) (hp : p.val = t.val * 1024 + a.val) :
    (show FVec Ideal S1024x512 .bf16 from iblk m c 0 t) (ix2 a k) = Xarr m c (ix2 p k) := by
  blk_ext [iblk, V, idx t]

/-- The matrix's block. -/
theorem blk_y (c : Dev nD) (t : Fin cfg0.N) (b : Fin 512) (k : Fin 512) (q : Fin 512) (hq : q.val = 0 + b.val) :
    (show FVec Ideal S512x512 .bf16 from iblk m c 1 t) (ix2 k b) = Yarr m c (ix2 k q) := by
  blk_ext [iblk, V, idx t]

/-- What a point writes out. -/
theorem out_at (c : Dev nD) (t : Fin cfg0.N) (a : Fin 1024) (b : Fin 512) (p : Fin 4096) (hp : p.val = t.val * 1024 + a.val)
    (q : Fin 512) (hq : q.val = 0 + b.val) :
    out0_2 (iblk m c 0 t) (iblk m c 1 t) (ix2 a b) = matProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x512.Idx => matProd (Xarr m c) (Yarr m c) (i 0) (i 1) := by
  refine (dats m 0 c).arrAt_eq_of_covers 2 _ (by decide +kernel) fun t hfl y => ?_
  have ht : t.val < 4 := lt_of_lt_of_eq t.isLt N_0
  have hy0 : (y 0 : ℕ) < 1024 := (y 0).isLt
  have hy1 : (y 1 : ℕ) < 512 := (y 1).isLt
  have hp : t.val * 1024 + (y 0 : ℕ) < 4096 := by omega
  have hq : 0 + (y 1 : ℕ) < 512 := by omega
  blk_simp [idx t]
  rw [after0_2, eq_ix2 y]
  refine (out_at m c t (y 0) (y 1) ⟨_, hp⟩ rfl ⟨_, hq⟩ rfl).trans ?_
  have e0 : (⟨t.val * 1024 + (y 0 : ℕ), hp⟩ : Fin 4096) = (win0_2.blk t).view.emb (ix2 (y 0) (y 1)) 0 :=
    Fin.ext (by blk_simp [idx t])
  have e1 : (⟨0 + (y 1 : ℕ), hq⟩ : Fin 512) = (win0_2.blk t).view.emb (ix2 (y 0) (y 1)) 1 :=
    Fin.ext (by blk_simp [idx t])
  exact congrArg₂ (matProd (Xarr m c) (Yarr m c)) e0 e1

end Cert.GluFIdeal.Prod

end
-- ==== Proof.GluF.Ref.lean ====
/- The reference of the gate's product at an index. -/
module

public import proofs.«01_k».proof.Proof.Gen.GluFReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.GluFReferenceIdeal.Prod

open Cert.GluFReferenceIdeal Cert.GluFReferenceIdeal.Gen Cert.GluFReferenceIdeal.Read Cert.Common

/-- The reference's result is the product. -/
theorem meet (X : FVec Ideal S4096x512 .bf16) (Y : FVec Ideal S512x512 .bf16) : val_main_v2 (F := Ideal) X Y
    = fun i : S4096x512.Idx => matProd (M := 4096) (N := 512) X Y (i 0) (i 1) := by
  funext i
  rw [eq_ix2 i]
  generalize i 0 = p
  generalize i 1 = q
  show val_main_v2 (F := Ideal) X Y (ix2 p q) = matProd X Y p q
  pointwise [val_main_v0, val_main_v1, val_main_v2, matProd]

end Cert.GluFReferenceIdeal.Prod

end
-- ==== Proof.GluW.Left.lean ====
/- What a grid point of the gradient of the gate's matrix leaves in its accumulator and its output block. -/
module

public import proofs.«01_k».proof.Proof.Gen.GluWIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GluWIdeal.Prod

open Cert.GluWIdeal Cert.GluWIdeal.Gen

variable (m : (ℓ : Loc nD τ sig) → Buf (Elt Ideal) ℓ)

/-- At the first block of rows the accumulator holds that block's product. -/
theorem acc_first (c : Dev nD) (t : Fin cfg0.N) (h : t.val % 4 = 0) :
    (outsAt0 m c t.val t.isLt).2 = k0_pay2 (iblk m c 0 t) (iblk m c 1 t) := by
  have hn : t.val < 4 := lt_of_lt_of_eq t.isLt N_0
  rw [outsAt0_A m c t h (by omega) (by omega)]; frame_out

/-- At a later block of rows its product is added. -/
theorem acc_step (c : Dev nD) (t : Fin cfg0.N) (h : ¬t.val % 4 = 0) :
    (outsAt0 m c t.val t.isLt).2 = k0_pay3 (iblk m c 0 t) (iblk m c 1 t)
      ((outsAt0 m c (t.val - 1) (Nat.lt_of_le_of_lt (Nat.sub_le _ _) t.isLt)).2) := by
  have hn : t.val < 4 := lt_of_lt_of_eq t.isLt N_0
  by_cases h3 : t.val % 4 = 3
  · rw [outsAt0_C m c t h (by omega) h3]; frame_out
    exact congrArg _ (read_unread_whole _ _ _)
  · rw [outsAt0_B m c t h (by omega) h3]; frame_out
    exact congrArg _ (read_unread_whole _ _ _)

/-- At the last block of rows the accumulator is the output block. -/
theorem out_last (c : Dev nD) (t : Fin cfg0.N) (h : t.val % 4 = 3) :
    (outsAt0 m c t.val t.isLt).1 = k0_pay4 ((outsAt0 m c t.val t.isLt).2) := by
  have hn : t.val < 4 := lt_of_lt_of_eq t.isLt N_0
  rw [outsAt0_C m c t (by omega) (by omega) h]; frame_out

end Cert.GluWIdeal.Prod

end
-- ==== Proof.GluW.Pay.lean ====
/- What each payload of the gradient of the gate's matrix is at an index. -/
module

public import proofs.«01_k».proof.Proof.Gen.GluWIdeal.Skeleton
public import Idealize.ShloMosaic.Lib.Pointwise

@[expose] public section

set_option maxRecDepth 16384

noncomputable section

open Idealize.ShloMosaic Idealize.ShloMosaic.TcCoe Idealize.SL.Sem

namespace Cert.GluWIdeal.Prod

open Cert.GluWIdeal Cert.GluWIdeal.Gen

variable (x : Vec Ideal S1024x512 .bf16) (y : Vec Ideal S1024x512 .bf16) (s : Vec Ideal S512x512 .f32)

/-- The first block of rows' product. -/
theorem part_first (a : Fin 512) (b : Fin 512) :
    k0_pay2 x y (ix2 a b) = ∑ k : Fin 1024, x (ix2 k a) * y (ix2 k b) := by
  pointwise [k0_pay2, k0_pay1]

/-- A later block of rows: its product added to the sum so far. -/
theorem part_step (a : Fin 512) (b : Fin 512) :
    k0_pay3 x y s (ix2 a b) = s (ix2 a b) + ∑ k : Fin 1024, x (ix2 k a) * y (ix2 k b) := by
  pointwise [k0_pay3, k0_pay1]

/-- The output block is the sum. -/
theorem out_at (a : Fin 512) (b : Fin 512) : k0_pay4 s (ix2 a b) = s (ix2 a b) := by
  pointwise [k0_pay4]

end Cert.GluWIdeal.Prod

end
-- ==== Proof.GluW.Arrays.lean ====
/- The result array of the gradient of the gate's matrix after the run. -/
module

public import proofs.«01_k».proof.Proof.GluW.Left
public import proofs.«01_k».proof.Proof.GluW.Pay
public import proofs.«01_k».proof.Proof.Common.Product

@[expose] public section

set_option maxRecDepth 16384

noncomputable section

open Idealize.ShloMosaic Idealize.ShloMosaic.TcCoe Idealize.SL.Sem
open Idealize.ShloMosaic.Pipeline (Dat)

namespace Cert.GluWIdeal.Prod

open Cert.GluWIdeal Cert.GluWIdeal.Gen Cert.Common

variable (m : (ℓ : Loc nD τ sig) → Buf (Elt Ideal) ℓ)

/-- Where every window's block stands: an output block for four points, one for each block of rows. -/
theorem idx : ∀ t : Fin cfg0.N, win0_0.index t = ![t.val % 4, 0] ∧ win0_1.index t = ![t.val % 4, 0] ∧ win0_2.index t = ![0, 0] :=
  (by decide +kernel : ∀ t : Fin grid0.N, _)

/-- The first matrix. -/
abbrev Xarr (c : Dev nD) : FVec Ideal S4096x512 .bf16 := m ((c : Thread nD τ).loc main_arg0)
/-- The second matrix. -/
abbrev Yarr (c : Dev nD) : FVec Ideal S4096x512 .bf16 := m ((c : Thread nD τ).loc main_arg1)

/-- The first matrix's block. -/
theorem blk_x (c : Dev nD) (t : Fin cfg0.N) (k : Fin 1024) (a : Fin 512) (i : Fin 4096) (hi : i.val = t.val % 4 * 1024 + k.val)
    (p : Fin 512) (hp : p.val = 0 + a.val) :
    (show FVec Ideal S1024x512 .bf16 from iblk m c 0 t) (ix2 k a) = Xarr m c (ix2 i p) := by
  blk_ext [iblk, V, idx t]

/-- The second matrix's block. -/
theorem blk_y (c : Dev nD) (t : Fin cfg0.N) (k : Fin 1024) (b : Fin 512) (i : Fin 4096) (hi : i.val = t.val % 4 * 1024 + k.val)
    (q : Fin 512) (hq : q.val = 0 + b.val) :
    (show FVec Ideal S1024x512 .bf16 from iblk m c 1 t) (ix2 k b) = Yarr m c (ix2 i q) := by
  blk_ext [iblk, V, idx t]

/-- The two blocks' product is the rows' part. -/
theorem part (c : Dev nD) (t : Fin cfg0.N) (a : Fin 512) (b : Fin 512) (p : Fin 512) (hp : p.val = 0 + a.val)
    (q : Fin 512) (hq : q.val = 0 + b.val) (s : ℕ) (hs : t.val % 4 = s) :
    (∑ k : Fin 1024, (show FVec Ideal S1024x512 .bf16 from iblk m c 0 t) (ix2 k a)
      * (show FVec Ideal S1024x512 .bf16 from iblk m c 1 t) (ix2 k b)) = rowsPart (Xarr m c) (Yarr m c) s p q := by
  unfold rowsPart
  refine Finset.sum_congr rfl fun k _ => ?_
  have hk : s * 1024 + k.val < 4096 := by omega
  rw [rowPart_eq _ _ _ _ _ hk]
  exact congrArg₂ (· * ·) (blk_x m c t k a ⟨_, hk⟩ (by rw [hs]) p hp) (blk_y m c t k b ⟨_, hk⟩ (by rw [hs]) q hq)

/-- The accumulator after the first block of rows. -/
theorem sum_one (c : Dev nD) (t : Fin cfg0.N) (h : t.val % 4 = 0) (a : Fin 512) (b : Fin 512) (p : Fin 512)
    (hp : p.val = 0 + a.val) (q : Fin 512) (hq : q.val = 0 + b.val) :
    (outsAt0 m c t.val t.isLt).2 (ix2 a b) = rowsPart (Xarr m c) (Yarr m c) 0 p q := by
  rw [acc_first m c t h]
  exact (part_first _ _ a b).trans (part m c t a b p hp q hq 0 h)

/-- The accumulator after the second block of rows. -/
theorem sum_two (c : Dev nD) (t : Fin cfg0.N) (h : t.val % 4 = 1) (a : Fin 512) (b : Fin 512) (p : Fin 512)
    (hp : p.val = 0 + a.val) (q : Fin 512) (hq : q.val = 0 + b.val) :
    (outsAt0 m c t.val t.isLt).2 (ix2 a b)
      = rowsPart (Xarr m c) (Yarr m c) 0 p q + rowsPart (Xarr m c) (Yarr m c) 1 p q := by
  rw [acc_step m c t (by omega)]
  refine (part_step _ _ _ a b).trans (congrArg₂ (· + ·) ?_ (part m c t a b p hp q hq 1 h))
  exact sum_one m c ⟨t.val - 1, Nat.lt_of_le_of_lt (Nat.sub_le _ _) t.isLt⟩ (show (t.val - 1) % 4 = 0 by omega) a b p
    (by try dsimp only
        omega) q (by try dsimp only
                     omega)

/-- The accumulator after the third block of rows. -/
theorem sum_three (c : Dev nD) (t : Fin cfg0.N) (h : t.val % 4 = 2) (a : Fin 512) (b : Fin 512) (p : Fin 512)
    (hp : p.val = 0 + a.val) (q : Fin 512) (hq : q.val = 0 + b.val) :
    (outsAt0 m c t.val t.isLt).2 (ix2 a b)
      = rowsPart (Xarr m c) (Yarr m c) 0 p q + rowsPart (Xarr m c) (Yarr m c) 1 p q + rowsPart (Xarr m c) (Yarr m c) 2 p q := by
  rw [acc_step m c t (by omega)]
  refine (part_step _ _ _ a b).trans (congrArg₂ (· + ·) ?_ (part m c t a b p hp q hq 2 h))
  exact sum_two m c ⟨t.val - 1, Nat.lt_of_le_of_lt (Nat.sub_le _ _) t.isLt⟩ (show (t.val - 1) % 4 = 1 by omega) a b p
    (by try dsimp only
        omega) q (by try dsimp only
                     omega)

/-- The accumulator after the last block of rows is the sum over all rows. -/
theorem sum_all (c : Dev nD) (t : Fin cfg0.N) (h : t.val % 4 = 3) (a : Fin 512) (b : Fin 512) (p : Fin 512)
    (hp : p.val = 0 + a.val) (q : Fin 512) (hq : q.val = 0 + b.val) :
    (outsAt0 m c t.val t.isLt).2 (ix2 a b) = colProd (Xarr m c) (Yarr m c) p q := by
  rw [acc_step m c t (by omega)]
  refine (part_step _ _ _ a b).trans ((congrArg₂ (· + ·) ?_ (part m c t a b p hp q hq 3 h)).trans (rowsPart_sum _ _ p q))
  exact sum_three m c ⟨t.val - 1, Nat.lt_of_le_of_lt (Nat.sub_le _ _) t.isLt⟩ (show (t.val - 1) % 4 = 2 by omega) a b p
    (by try dsimp only
        omega) q (by try dsimp only
                     omega)

/-- After the run the result holds the product. -/
theorem final (c : Dev nD) : (dats m 0 c).arrAt 2 (cfgs 0).N
    = fun i : S512x512.Idx => colProd (Xarr m c) (Yarr m c) (i 0) (i 1) := by
  have hf : ∀ t : Fin cfg0.N, (cfg0.win 2).flush t = true → t.val % 4 = 3 := by decide +kernel
  refine (dats m 0 c).arrAt_eq_of_covers 2 _ (by decide +kernel) fun t hfl y => ?_
  have h3 := hf t hfl
  have ht : t.val < 4 := lt_of_lt_of_eq t.isLt N_0
  have hy0 : (y 0 : ℕ) < 512 := (y 0).isLt
  have hy1 : (y 1 : ℕ) < 512 := (y 1).isLt
  have hp : 0 + (y 0 : ℕ) < 512 := by omega
  have hq : 0 + (y 1 : ℕ) < 512 := by omega
  blk_simp [idx t]
  rw [after0_2, eq_ix2 y, out_last m c t h3]
  refine (out_at _ (y 0) (y 1)).trans ((sum_all m c t h3 (y 0) (y 1) ⟨_, hp⟩ rfl ⟨_, hq⟩ rfl).trans ?_)
  have e0 : (⟨0 + (y 0 : ℕ), hp⟩ : Fin 512) = (win0_2.blk t).view.emb (ix2 (y 0) (y 1)) 0 :=
    Fin.ext (by blk_simp [idx t])
  have e1 : (⟨0 + (y 1 : ℕ), hq⟩ : Fin 512) = (win0_2.blk t).view.emb (ix2 (y 0) (y 1)) 1 :=
    Fin.ext (by blk_simp [idx t])
  exact congrArg₂ (colProd (Xarr m c) (Yarr m c)) e0 e1

end Cert.GluWIdeal.Prod

end
-- ==== Proof.GluW.Ref.lean ====
/- The reference of the gradient of the gate's matrix at an index. -/
module

public import proofs.«01_k».proof.Proof.Gen.GluWReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.GluWReferenceIdeal.Prod

open Cert.GluWReferenceIdeal Cert.GluWReferenceIdeal.Gen Cert.GluWReferenceIdeal.Read Cert.Common

/-- The reference's result is the product. -/
theorem meet (X : FVec Ideal S4096x512 .bf16) (Y : FVec Ideal S4096x512 .bf16) : val_main_v6 (F := Ideal) X Y
    = fun i : S512x512.Idx => colProd (A := 512) (B := 512) X Y (i 0) (i 1) := by
  funext i
  rw [eq_ix2 i]
  generalize i 0 = p
  generalize i 1 = q
  show val_main_v6 (F := Ideal) X Y (ix2 p q) = colProd X Y p q
  pointwise [val_main_cst, val_main_v0, val_main_v1, val_main_v2, val_main_v3, val_main_v4, val_main_v5, val_main_v6, colProd]
  exact Finset.sum_congr rfl fun k _ => mul_comm (G := EReal) _ _

end Cert.GluWReferenceIdeal.Prod

end
-- ==== Proof.GluX.Arrays.lean ====
/- The result array of the gradient through the gate's product after the run. -/
module

public import proofs.«01_k».proof.Proof.Gen.GluXIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GluXIdeal.Prod

open Cert.GluXIdeal Cert.GluXIdeal.Gen Cert.Common

variable (m : (ℓ : Loc nD τ sig) → Buf (Elt Ideal) ℓ)

/-- The product of two blocks. -/
theorem prod_at (x : Vec Ideal S1024x512 .bf16) (y : Vec Ideal S512x512 .bf16) (a : Fin 1024) (b : Fin 512) :
    k0_pay1 x y (ix2 a b) = ∑ k : Fin 512, x (ix2 a k) * y (ix2 b k) := by
  pointwise [k0_pay1]

/-- Where every window's block stands. -/
theorem idx : ∀ t : Fin cfg0.N, win0_0.index t = ![t.val, 0] ∧ win0_1.index t = ![0, 0] ∧ win0_2.index t = ![t.val, 0] :=
  (by decide +kernel : ∀ t : Fin grid0.N, _)

/-- The rows. -/
abbrev Xarr (c : Dev nD) : FVec Ideal S4096x512 .bf16 := m ((c : Thread nD τ).loc main_arg0)
/-- The matrix. -/
abbrev Yarr (c : Dev nD) : FVec Ideal S512x512 .bf16 := m ((c : Thread nD τ).loc main_arg1)

/-- The rows' block. -/
theorem blk_x (c : Dev nD) (t : Fin cfg0.N) (a : Fin 1024) (k : Fin 512) (p : Fin 4096) (hp : p.val = t.val * 1024 + a.val) :
    (show FVec Ideal S1024x512 .bf16 from iblk m c 0 t) (ix2 a k) = Xarr m c (ix2 p k) := by
  blk_ext [iblk, V, idx t]

/-- The matrix's block. -/
theorem blk_y (c : Dev nD) (t : Fin cfg0.N) (b : Fin 512) (k : Fin 512) (q : Fin 512) (hq : q.val = 0 + b.val) :
    (show FVec Ideal S512x512 .bf16 from iblk m c 1 t) (ix2 b k) = Yarr m c (ix2 q k) := by
  blk_ext [iblk, V, idx t]

/-- What a point writes out. -/
theorem out_at (c : Dev nD) (t : Fin cfg0.N) (a : Fin 1024) (b : Fin 512) (p : Fin 4096) (hp : p.val = t.val * 1024 + a.val)
    (q : Fin 512) (hq : q.val = 0 + b.val) :
    out0_2 (iblk m c 0 t) (iblk m c 1 t) (ix2 a b) = rowProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S4096x512.Idx => rowProd (Xarr m c) (Yarr m c) (i 0) (i 1) := by
  refine (dats m 0 c).arrAt_eq_of_covers 2 _ (by decide +kernel) fun t hfl y => ?_
  have ht : t.val < 4 := lt_of_lt_of_eq t.isLt N_0
  have hy0 : (y 0 : ℕ) < 1024 := (y 0).isLt
  have hy1 : (y 1 : ℕ) < 512 := (y 1).isLt
  have hp : t.val * 1024 + (y 0 : ℕ) < 4096 := by omega
  have hq : 0 + (y 1 : ℕ) < 512 := by omega
  blk_simp [idx t]
  rw [after0_2, eq_ix2 y]
  refine (out_at m c t (y 0) (y 1) ⟨_, hp⟩ rfl ⟨_, hq⟩ rfl).trans ?_
  have e0 : (⟨t.val * 1024 + (y 0 : ℕ), hp⟩ : Fin 4096) = (win0_2.blk t).view.emb (ix2 (y 0) (y 1)) 0 :=
    Fin.ext (by blk_simp [idx t])
  have e1 : (⟨0 + (y 1 : ℕ), hq⟩ : Fin 512) = (win0_2.blk t).view.emb (ix2 (y 0) (y 1)) 1 :=
    Fin.ext (by blk_simp [idx t])
  exact congrArg₂ (rowProd (Xarr m c) (Yarr m c)) e0 e1

end Cert.GluXIdeal.Prod

end
-- ==== Proof.GluX.Ref.lean ====
/- The reference of the gradient through the gate's product at an index. -/
module

public import proofs.«01_k».proof.Proof.Gen.GluXReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.GluXReferenceIdeal.Prod

open Cert.GluXReferenceIdeal Cert.GluXReferenceIdeal.Gen Cert.GluXReferenceIdeal.Read Cert.Common

/-- The reference's result is the product. -/
theorem meet (X : FVec Ideal S4096x512 .bf16) (Y : FVec Ideal S512x512 .bf16) : val_main_v4 (F := Ideal) X Y
    = fun i : S4096x512.Idx => rowProd (M := 4096) (N := 512) X Y (i 0) (i 1) := by
  funext i
  rw [eq_ix2 i]
  generalize i 0 = p
  generalize i 1 = q
  show val_main_v4 (F := Ideal) X Y (ix2 p q) = rowProd X Y p q
  pointwise [val_main_cst, val_main_v0, val_main_v1, val_main_v2, val_main_v3, val_main_v4, rowProd]

end Cert.GluXReferenceIdeal.Prod

end
-- ==== Proof.KvF.Arrays.lean ====
/- The result array of the product that makes the keys and values after the run. -/
module

public import proofs.«01_k».proof.Proof.Gen.KvFIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvFIdeal.Prod

open Cert.KvFIdeal Cert.KvFIdeal.Gen Cert.Common

variable (m : (ℓ : Loc nD τ sig) → Buf (Elt Ideal) ℓ)

/-- The product of two blocks. -/
theorem prod_at (x : Vec Ideal S256x1024 .bf16) (y : Vec Ideal S1024x1024 .bf16) (a : Fin 256) (b : Fin 1024) :
    k0_pay1 x y (ix2 a b) = ∑ k : Fin 1024, x (ix2 a k) * y (ix2 k b) := by
  pointwise [k0_pay1]

/-- Where every window's block stands. -/
theorem idx : ∀ t : Fin cfg0.N, win0_0.index t = ![0, 0] ∧ win0_1.index t = ![0, t.val] ∧ win0_2.index t = ![0, t.val] :=
  (by decide +kernel : ∀ t : Fin grid0.N, _)

/-- The rows. -/
abbrev Xarr (c : Dev nD) : FVec Ideal S256x1024 .bf16 := m ((c : Thread nD τ).loc main_arg0)
/-- The matrix. -/
abbrev Yarr (c : Dev nD) : FVec Ideal S1024x2048 .bf16 := m ((c : Thread nD τ).loc main_arg1)

/-- The rows' block. -/
theorem blk_x (c : Dev nD) (t : Fin cfg0.N) (a : Fin 256) (k : Fin 1024) (p : Fin 256) (hp : p.val = 0 + a.val) :
    (show FVec Ideal S256x1024 .bf16 from iblk m c 0 t) (ix2 a k) = Xarr m c (ix2 p k) := by
  blk_ext [iblk, V, idx t]

/-- The matrix's block. -/
theorem blk_y (c : Dev nD) (t : Fin cfg0.N) (b : Fin 1024) (k : Fin 1024) (q : Fin 2048) (hq : q.val = t.val * 1024 + b.val) :
    (show FVec Ideal S1024x1024 .bf16 from iblk m c 1 t) (ix2 k b) = Yarr m c (ix2 k q) := by
  blk_ext [iblk, V, idx t]

/-- What a point writes out. -/
theorem out_at (c : Dev nD) (t : Fin cfg0.N) (a : Fin 256) (b : Fin 1024) (p : Fin 256) (hp : p.val = 0 + a.val)
    (q : Fin 2048) (hq : q.val = t.val * 1024 + b.val) :
    out0_2 (iblk m c 0 t) (iblk m c 1 t) (ix2 a b) = matProd (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S256x2048.Idx => matProd (Xarr m c) (Yarr m c) (i 0) (i 1) := by
  refine (dats m 0 c).arrAt_eq_of_covers 2 _ (by decide +kernel) fun t hfl y => ?_
  have ht : t.val < 2 := lt_of_lt_of_eq t.isLt N_0
  have hy0 : (y 0 : ℕ) < 256 := (y 0).isLt
  have hy1 : (y 1 : ℕ) < 1024 := (y 1).isLt
  have hp : 0 + (y 0 : ℕ) < 256 := by omega
  have hq : t.val * 1024 + (y 1 : ℕ) < 2048 := by omega
  blk_simp [idx t]
  rw [after0_2, eq_ix2 y]
  refine (out_at m c t (y 0) (y 1) ⟨_, hp⟩ rfl ⟨_, hq⟩ rfl).trans ?_
  have e0 : (⟨0 + (y 0 : ℕ), hp⟩ : Fin 256) = (win0_2.blk t).view.emb (ix2 (y 0) (y 1)) 0 :=
    Fin.ext (by blk_simp [idx t])
  have e1 : (⟨t.val * 1024 + (y 1 : ℕ), hq⟩ : Fin 2048) = (win0_2.blk t).view.emb (ix2 (y 0) (y 1)) 1 :=
    Fin.ext (by blk_simp [idx t])
  exact congrArg₂ (matProd (Xarr m c) (Yarr m c)) e0 e1

end Cert.KvFIdeal.Prod

end
-- ==== Proof.KvF.Ref.lean ====
/- The reference of the product that makes the keys and values at an index. -/
module

public import proofs.«01_k».proof.Proof.Gen.KvFReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.KvFReferenceIdeal.Prod

open Cert.KvFReferenceIdeal Cert.KvFReferenceIdeal.Gen Cert.KvFReferenceIdeal.Read Cert.Common

/-- The reference's result is the product. -/
theorem meet (X : FVec Ideal S256x1024 .bf16) (Y : FVec Ideal S1024x2048 .bf16) : val_main_v3 (F := Ideal) X Y
    = fun i : S256x2048.Idx => matProd (M := 256) (N := 2048) X Y (i 0) (i 1) := by
  funext i
  rw [eq_ix2 i]
  generalize i 0 = p
  generalize i 1 = q
  show val_main_v3 (F := Ideal) X Y (ix2 p q) = matProd X Y p q
  pointwise [val_main_v0, val_main_v1, val_main_v2, val_main_v3, matProd]

end Cert.KvFReferenceIdeal.Prod

end
-- ==== Proof.KvW.Arrays.lean ====
/- The result array of the gradient of the keys' and values' matrix after the run. -/
module

public import proofs.«01_k».proof.Proof.Gen.KvWIdeal.Value
public import proofs.«01_k».proof.Proof.Common.Product
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvWIdeal.Prod

open Cert.KvWIdeal Cert.KvWIdeal.Gen Cert.Common

variable (m : (ℓ : Loc nD τ sig) → Buf (Elt Ideal) ℓ)

/-- The product of two blocks. -/
theorem prod_at (x : Vec Ideal S256x1024 .bf16) (y : Vec Ideal S256x1024 .f32) (a : Fin 1024) (b : Fin 1024) :
    k0_pay1 x y (ix2 a b) = ∑ k : Fin 256, x (ix2 k a) * y (ix2 k b) := by
  pointwise [k0_pay1]

/-- Where every window's block stands. -/
theorem idx : ∀ t : Fin cfg0.N, win0_0.index t = ![0, 0] ∧ win0_1.index t = ![0, t.val] ∧ win0_2.index t = ![0, t.val] :=
  (by decide +kernel : ∀ t : Fin grid0.N, _)

/-- The rows. -/
abbrev Xarr (c : Dev nD) : FVec Ideal S256x1024 .bf16 := m ((c : Thread nD τ).loc main_arg0)
/-- The matrix. -/
abbrev Yarr (c : Dev nD) : FVec Ideal S256x2048 .f32 := m ((c : Thread nD τ).loc main_arg1)

/-- The rows' block. -/
theorem blk_x (c : Dev nD) (t : Fin cfg0.N) (a : Fin 1024) (k : Fin 256) (p : Fin 1024) (hp : p.val = 0 + a.val) :
    (show FVec Ideal S256x1024 .bf16 from iblk m c 0 t) (ix2 k a) = Xarr m c (ix2 k p) := by
  blk_ext [iblk, V, idx t]

/-- The matrix's block. -/
theorem blk_y (c : Dev nD) (t : Fin cfg0.N) (b : Fin 1024) (k : Fin 256) (q : Fin 2048) (hq : q.val = t.val * 1024 + b.val) :
    (show FVec Ideal S256x1024 .f32 from iblk m c 1 t) (ix2 k b) = Yarr m c (ix2 k q) := by
  blk_ext [iblk, V, idx t]

/-- What a point writes out. -/
theorem out_at (c : Dev nD) (t : Fin cfg0.N) (a : Fin 1024) (b : Fin 1024) (p : Fin 1024) (hp : p.val = 0 + a.val)
    (q : Fin 2048) (hq : q.val = t.val * 1024 + b.val) :
    out0_2 (iblk m c 0 t) (iblk m c 1 t) (ix2 a b) = colDot (Xarr m c) (Yarr m c) p q := by
  have e : out0_2 (iblk m c 0 t) (iblk m c 1 t) = k0_pay1 (iblk m c 0 t) (iblk m c 1 t) := by frame_out
  rw [e]
  refine (prod_at _ _ a b).trans (Finset.sum_congr rfl fun k _ => ?_)
  exact congrArg₂ (· * ·) (blk_x m c t a k p hp) (blk_y m c t b k q hq)

/-- After the run the result holds the product. -/
theorem final (c : Dev nD) : (dats m 0 c).arrAt 2 (cfgs 0).N
    = fun i : S1024x2048.Idx => colDot (Xarr m c) (Yarr m c) (i 0) (i 1) := by
  refine (dats m 0 c).arrAt_eq_of_covers 2 _ (by decide +kernel) fun t hfl y => ?_
  have ht : t.val < 2 := lt_of_lt_of_eq t.isLt N_0
  have hy0 : (y 0 : ℕ) < 1024 := (y 0).isLt
  have hy1 : (y 1 : ℕ) < 1024 := (y 1).isLt
  have hp : 0 + (y 0 : ℕ) < 1024 := by omega
  have hq : t.val * 1024 + (y 1 : ℕ) < 2048 := by omega
  blk_simp [idx t]
  rw [after0_2, eq_ix2 y]
  refine (out_at m c t (y 0) (y 1) ⟨_, hp⟩ rfl ⟨_, hq⟩ rfl).trans ?_
  have e0 : (⟨0 + (y 0 : ℕ), hp⟩ : Fin 1024) = (win0_2.blk t).view.emb (ix2 (y 0) (y 1)) 0 :=
    Fin.ext (by blk_simp [idx t])
  have e1 : (⟨t.val * 1024 + (y 1 : ℕ), hq⟩ : Fin 2048) = (win0_2.blk t).view.emb (ix2 (y 0) (y 1)) 1 :=
    Fin.ext (by blk_simp [idx t])
  exact congrArg₂ (colDot (Xarr m c) (Yarr m c)) e0 e1

end Cert.KvWIdeal.Prod

end
-- ==== Proof.KvW.Ref.lean ====
/- The reference of the gradient of the keys' and values' matrix at an index. -/
module

public import proofs.«01_k».proof.Proof.Gen.KvWReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.KvWReferenceIdeal.Prod

open Cert.KvWReferenceIdeal Cert.KvWReferenceIdeal.Gen Cert.KvWReferenceIdeal.Read Cert.Common

/-- The reference's result is the product. -/
theorem meet (X : FVec Ideal S256x1024 .bf16) (Y : FVec Ideal S256x2048 .f32) : val_main_v5 (F := Ideal) X Y
    = fun i : S1024x2048.Idx => colDot (A := 1024) (B := 2048) X Y (i 0) (i 1) := by
  funext i
  rw [eq_ix2 i]
  generalize i 0 = p
  generalize i 1 = q
  show val_main_v5 (F := Ideal) X Y (ix2 p q) = colDot X Y p q
  pointwise [val_main_cst, val_main_v0, val_main_v1, val_main_v2, val_main_v3, val_main_v4, val_main_v5, colDot]
  exact Finset.sum_congr rfl fun k _ => mul_comm (G := EReal) _ _

end Cert.KvWReferenceIdeal.Prod

end
-- ==== Proof.KvX.Arrays.lean ====
/- The result array of the gradient through the keys' and values' product after the run. -/
module

public import proofs.«01_k».proof.Proof.Gen.KvXIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KvXIdeal.Prod

open Cert.KvXIdeal Cert.KvXIdeal.Gen Cert.Common

variable (m : (ℓ : Loc nD τ sig) → Buf (Elt Ideal) ℓ)

section

variable (x : Vec Ideal S256x1024 .f32) (w : Vec Ideal S1024x1024 .bf16) (s : Vec Ideal S256x1024 .f32)

/-- The first block's product. -/
theorem part_first (a : Fin 256) (b : Fin 1024) : k0_pay2 x w (ix2 a b) = ∑ k : Fin 1024, x (ix2 a k) * w (ix2 b k) := by
  pointwise [k0_pay2, k0_pay1]

/-- A later block's product, added. -/
theorem part_step (a : Fin 256) (b : Fin 1024) : k0_pay3 x w s (ix2 a b) = s (ix2 a b) + ∑ k : Fin 1024, x (ix2 a k) * w (ix2 b k) := by
  pointwise [k0_pay3, k0_pay1]

end

/-- At the first block the accumulator holds that block's product. -/
theorem acc_first (c : Dev nD) (t : Fin cfg0.N) (h : t.val % 2 = 0) :
    (outsAt0 m c t.val t.isLt).2 = k0_pay2 (iblk m c 0 t) (iblk m c 1 t) := by
  rw [outsAt0_A m c t h (by omega) (by omega)]; frame_out

/-- At the last block its product is added. -/
theorem acc_last (c : Dev nD) (t : Fin cfg0.N) (h : t.val % 2 = 1) :
    (outsAt0 m c t.val t.isLt).2 = k0_pay3 (iblk m c 0 t) (iblk m c 1 t)
      ((outsAt0 m c (t.val - 1) (Nat.lt_of_le_of_lt (Nat.sub_le _ _) t.isLt)).2) := by
  rw [outsAt0_B m c t (by omega) h h]; frame_out
  exact congrArg _ (read_unread_whole _ _ _)

/-- At the last block the accumulator is written out. -/
theorem sum_last (c : Dev nD) (t : Fin cfg0.N) (h : t.val % 2 = 1) :
    (outsAt0 m c t.val t.isLt).1 = (outsAt0 m c t.val t.isLt).2 := by
  rw [outsAt0_B m c t (by omega) h h]; frame_out

/-- Where every window's block stands. -/
theorem idx : ∀ t : Fin cfg0.N, win0_0.index t = ![0, t.val % 2] ∧ win0_1.index t = ![0, t.val % 2] ∧ win0_2.index t = ![0, 0] :=
  (by decide +kernel : ∀ t : Fin grid0.N, _)

/-- The rows. -/
abbrev Xarr (c : Dev nD) : FVec Ideal S256x2048 .f32 := m ((c : Thread nD τ).loc main_arg0)
/-- The matrix. -/
abbrev Warr (c : Dev nD) : FVec Ideal S1024x2048 .bf16 := m ((c : Thread nD τ).loc main_arg1)
/-- The rows' block. -/
theorem blk_x (c : Dev nD) (t : Fin cfg0.N) (a : Fin 256) (k : Fin 1024) (i : Fin 256) (hi : i.val = 0 + a.val)
    (n : Fin 2048) (hn : n.val = t.val % 2 * 1024 + k.val) :
    (show FVec Ideal S256x1024 .f32 from iblk m c 0 t) (ix2 a k) = Xarr m c (ix2 i n) := by
  blk_ext [iblk, V, idx t]

/-- The matrix's block. -/
theorem blk_w (c : Dev nD) (t : Fin cfg0.N) (k : Fin 1024) (b : Fin 1024) (n : Fin 2048) (hn : n.val = t.val % 2 * 1024 + k.val) :
    (show FVec Ideal S1024x1024 .bf16 from iblk m c 1 t) (ix2 b k) = Warr m c (ix2 b n) := by
  blk_ext [iblk, V, idx t]

/-- The part of the product that comes from block `s`. -/
def piece (c : Dev nD) (s : ℕ) (i : Fin 256) (b : Fin 1024) : EReal :=
  ∑ k : Fin 1024, alongRow (Xarr m c) (Warr m c) i b (s * 1024 + k.val)

/-- The two blocks make up the product. -/
theorem pieces (c : Dev nD) (i : Fin 256) (b : Fin 1024) :
    piece m c 0 i b + piece m c 1 i b = rowProd (Xarr m c) (Warr m c) i b := by
  have h := Fin.sum_univ_two (fun s : Fin 2 => piece m c s.val i b)
  refine h.symm.trans ?_
  unfold rowProd piece
  refine Fin.sum_mul_add_congr (S := 2) (n := 1024) fun s k hl => ?_
  unfold alongRow
  rw [dif_pos hl]

/-- A block of rows against a block of the matrix. -/
theorem piece_at (c : Dev nD) (t : Fin cfg0.N) (a : Fin 256) (b : Fin 1024) (i : Fin 256) (hi : i.val = 0 + a.val) (s : ℕ)
    (hs : t.val % 2 = s) :
    (∑ k : Fin 1024, (show FVec Ideal S256x1024 .f32 from iblk m c 0 t) (ix2 a k)
      * (show FVec Ideal S1024x1024 .bf16 from iblk m c 1 t) (ix2 b k)) = piece m c s i b := by
  unfold piece
  refine Finset.sum_congr rfl fun k _ => ?_
  have hk : s * 1024 + k.val < 2048 := by omega
  unfold alongRow
  rw [dif_pos hk]
  exact congrArg₂ (· * ·) (blk_x m c t a k i hi ⟨_, hk⟩ (by rw [hs])) (blk_w m c t k b ⟨_, hk⟩ (by rw [hs]))

/-- The accumulator at the last block is the product. -/
theorem sum_all (c : Dev nD) (t : Fin cfg0.N) (h : t.val % 2 = 1) (a : Fin 256) (b : Fin 1024) (i : Fin 256) (hi : i.val = 0 + a.val) :
    (outsAt0 m c t.val t.isLt).2 (ix2 a b) = rowProd (Xarr m c) (Warr m c) i b := by
  rw [acc_last m c t h]
  refine (part_step _ _ _ a b).trans ((congrArg₂ (· + ·) ?_ (piece_at m c t a b i hi 1 h)).trans (pieces m c i b))
  have hp : (t.val - 1) % 2 = 0 := by omega
  have hq : i.val = 0 + a.val := by omega
  have e := acc_first m c ⟨t.val - 1, Nat.lt_of_le_of_lt (Nat.sub_le _ _) t.isLt⟩ hp
  refine (congrFun e (ix2 a b)).trans ((part_first _ _ a b).trans ?_)
  exact piece_at m c ⟨t.val - 1, Nat.lt_of_le_of_lt (Nat.sub_le _ _) t.isLt⟩ a b i hq 0 hp

/-- After the run the result holds the product. -/
theorem final (c : Dev nD) : (dats m 0 c).arrAt 2 (cfgs 0).N
    = fun i : S256x1024.Idx => rowProd (Xarr m c) (Warr m c) (i 0) (i 1) := by
  have hf : ∀ t : Fin cfg0.N, (cfg0.win 2).flush t = true → t.val % 2 = 1 := by decide +kernel
  refine (dats m 0 c).arrAt_eq_of_covers 2 _ (by decide +kernel) fun t hfl y => ?_
  have h3 := hf t hfl
  have ht : t.val < 2 := lt_of_lt_of_eq t.isLt N_0
  have hy : (y 0 : ℕ) < 256 := (y 0).isLt
  have hp : 0 + (y 0 : ℕ) < 256 := by omega
  blk_simp [idx t]
  rw [after0_2, sum_last m c t h3, eq_ix2 y]
  refine (sum_all m c t h3 (y 0) (y 1) ⟨_, hp⟩ rfl).trans ?_
  have e0 : (⟨0 + (y 0 : ℕ), hp⟩ : Fin 256) = (win0_2.blk t).view.emb (ix2 (y 0) (y 1)) 0 :=
    Fin.ext (by blk_simp [idx t])
  have e1 : (y 1 : Fin 1024) = (win0_2.blk t).view.emb (ix2 (y 0) (y 1)) 1 := Fin.ext (by blk_simp [idx t])
  exact congrArg₂ (rowProd (Xarr m c) (Warr m c)) e0 e1

end Cert.KvXIdeal.Prod

end
-- ==== Proof.KvX.Ref.lean ====
/- The reference of the gradient through the keys' and values' product at an index. -/
module

public import proofs.«01_k».proof.Proof.Gen.KvXReferenceIdeal.Read
public import proofs.«01_k».proof.Proof.Common.Product
public import Idealize.ShloMosaic.Lib.Pointwise

@[expose] public section

set_option maxRecDepth 16384

noncomputable section

open Idealize.ShloMosaic Idealize.ShloMosaic.TcCoe Idealize.SL.Sem

namespace Cert.KvXReferenceIdeal.Prod

open Cert.KvXReferenceIdeal Cert.KvXReferenceIdeal.Gen Cert.KvXReferenceIdeal.Read Cert.Common

/-- The reference's result is the product. -/
theorem meet (X : FVec Ideal S256x2048 .f32) (Y : FVec Ideal S1024x2048 .bf16) : val_main_v3 (F := Ideal) X Y
    = fun i : S256x1024.Idx => rowProd (M := 256) (N := 1024) X Y (i 0) (i 1) := by
  funext i
  rw [eq_ix2 i]
  generalize i 0 = p
  generalize i 1 = q
  show val_main_v3 (F := Ideal) X Y (ix2 p q) = rowProd X Y p q
  pointwise [val_main_cst, val_main_v0, val_main_v1, val_main_v2, val_main_v3, rowProd]

end Cert.KvXReferenceIdeal.Prod

end
-- ==== Proof.NormF.Arrays.lean ====
/- The result array of the norm of the tokens after the run. -/
module

public import proofs.«01_k».proof.Proof.Gen.NormFIdeal.Value
public import proofs.«01_k».proof.Proof.Common.Residual
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormFIdeal.Prod

open Cert.NormFIdeal Cert.NormFIdeal.Gen Cert.Common

variable (m : (ℓ : Loc nD τ sig) → Buf (Elt Ideal) ℓ)

/-- The normed block. -/
theorem normed_at (x : Vec Ideal S512x1024 .f32) (g : Vec Ideal S1x1024 .f32) (a : Fin 512) (b : Fin 1024) :
    k0_pay1 x g (ix2 a b) = normed (fun d => x (ix2 a d)) (fun d => g (ix2 0 d)) b := by
  unfold normed
  pointwise [k0_pay1, rootInv, square, width, tiny]

/-- Where every window's block stands. -/
theorem idx : ∀ t : Fin cfg0.N, win0_0.index t = ![t.val, 0] ∧ win0_1.index t = ![0, 0] ∧ win0_2.index t = ![t.val, 0] :=
  (by decide +kernel : ∀ t : Fin grid0.N, _)

/-- The rows. -/
abbrev Xarr (c : Dev nD) : FVec Ideal S4096x1024 .f32 := m ((c : Thread nD τ).loc main_arg0)
/-- The gain. -/
abbrev garr (c : Dev nD) : FVec Ideal S1024 .f32 := m ((c : Thread nD τ).loc main_arg1)

/-- The rows' block. -/
theorem blk_x (c : Dev nD) (t : Fin cfg0.N) (a : Fin 512) (b : Fin 1024) (i : Fin 4096) (hi : i.val = t.val * 512 + a.val) :
    (show FVec Ideal S512x1024 .f32 from iblk m c 0 t) (ix2 a b) = Xarr m c (ix2 i b) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 1 t) (ix2 0 d) = garr m c (ix1 d) := by
  have h : (show FVec Ideal S1x1024 .f32 from iblk m c 1 t) (ix2 0 d) = (show FVec Ideal S1x1024 .f32 from V m c main_v0) (ix2 0 d) := by
    blk_ext [iblk, idx t]
  rw [h, gain_row]
  pointwise []

/-- What a point writes out. -/
theorem out_at (c : Dev nD) (t : Fin cfg0.N) (a : Fin 512) (b : Fin 1024) (i : Fin 4096) (hi : i.val = t.val * 512 + a.val) :
    out0_2 (iblk m c 0 t) (iblk m c 1 t) (ix2 a b) = normed (line (Xarr m c) i) (fun d => garr m c (ix1 d)) b := by
  have e : out0_2 (iblk m c 0 t) (iblk m c 1 t) = k0_pay1 (iblk m c 0 t) (iblk m c 1 t) := by frame_out
  rw [e]
  refine (normed_at _ _ a b).trans ?_
  exact congrArg₂ (fun x g => normed x g b) (funext fun d => blk_x m c t a d i hi) (funext fun d => blk_g m c t d)

/-- After the run the result holds the normed rows. -/
theorem final (c : Dev nD) : (dats m 0 c).arrAt 2 (cfgs 0).N
    = fun i : S4096x1024.Idx => normed (line (Xarr m c) (i 0)) (fun d => garr m c (ix1 d)) (i 1) := by
  refine (dats m 0 c).arrAt_eq_of_covers 2 _ (by decide +kernel) fun t hfl y => ?_
  have ht : t.val < 8 := lt_of_lt_of_eq t.isLt N_0
  have hy : (y 0 : ℕ) < 512 := (y 0).isLt
  have hp : t.val * 512 + (y 0 : ℕ) < 4096 := by omega
  blk_simp [idx t]
  rw [after0_2, eq_ix2 y]
  refine (out_at m c t (y 0) (y 1) ⟨_, hp⟩ rfl).trans ?_
  have e0 : (⟨t.val * 512 + (y 0 : ℕ), hp⟩ : Fin 4096) = (win0_2.blk t).view.emb (ix2 (y 0) (y 1)) 0 :=
    Fin.ext (by blk_simp [idx t])
  have e1 : (y 1 : Fin 1024) = (win0_2.blk t).view.emb (ix2 (y 0) (y 1)) 1 := Fin.ext (by blk_simp [idx t])
  exact congrArg₂ (fun i => normed (line (Xarr m c) i) (fun d => garr m c (ix1 d))) e0 e1

end Cert.NormFIdeal.Prod

end
-- ==== Proof.NormF.Ref.lean ====
/- The reference of the norm of the tokens at an index. -/
module

public import proofs.«01_k».proof.Proof.Gen.NormFReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.NormFReferenceIdeal.Prod

open Cert.NormFReferenceIdeal Cert.NormFReferenceIdeal.Gen Cert.NormFReferenceIdeal.Read Cert.Common

/-- The reference's result is the rows, normed. -/
theorem meet (X : FVec Ideal S4096x1024 .f32) (g : FVec Ideal S1024 .f32) : val_main_v13 (F := Ideal) X g
    = fun i : S4096x1024.Idx => normed (line X (i 0)) (fun d => g (ix1 d)) (i 1) := by
  funext i
  rw [eq_ix2 i]
  generalize i 0 = p
  generalize i 1 = q
  show val_main_v13 (F := Ideal) X g (ix2 p q) = normed (line X p) (fun d => g (ix1 d)) q
  pointwise [val_main_cst, val_main_cst_0, val_main_cst_1, val_main_v0, val_main_v1, val_main_v10, val_main_v11, val_main_v12, val_main_v13, val_main_v2, val_main_v3, val_main_v4, val_main_v5, val_main_v6, val_main_v7, val_main_v8, val_main_v9, normed, line, rootInv, square, width, tiny]

end Cert.NormFReferenceIdeal.Prod

end
-- ==== Proof.MemF.Arrays.lean ====
/- The result array of the norm of the memory after the run. -/
module

public import proofs.«01_k».proof.Proof.Gen.MemFIdeal.Value
public import proofs.«01_k».proof.Proof.Common.Residual
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemFIdeal.Prod

open Cert.MemFIdeal Cert.MemFIdeal.Gen Cert.Common

variable (m : (ℓ : Loc nD τ sig) → Buf (Elt Ideal) ℓ)

/-- The normed block. -/
theorem normed_at (x : Vec Ideal S256x1024 .f32) (g : Vec Ideal S1x1024 .f32) (a : Fin 256) (b : Fin 1024) :
    k0_pay1 x g (ix2 a b) = normed (fun d => x (ix2 a d)) (fun d => g (ix2 0 d)) b := by
  unfold normed
  pointwise [k0_pay1, rootInv, square, width, tiny]

/-- Where every window's block stands. -/
theorem idx : ∀ t : Fin cfg0.N, win0_0.index t = ![0, 0] ∧ win0_1.index t = ![0, 0] ∧ win0_2.index t = ![0, 0] :=
  (by decide +kernel : ∀ t : Fin grid0.N, _)

/-- The rows. -/
abbrev Xarr (c : Dev nD) : FVec Ideal S256x1024 .f32 := m ((c : Thread nD τ).loc main_arg0)
/-- The gain. -/
abbrev garr (c : Dev nD) : FVec Ideal S1024 .f32 := m ((c : Thread nD τ).loc main_arg1)

/-- The rows' block. -/
theorem blk_x (c : Dev nD) (t : Fin cfg0.N) (a : Fin 256) (b : Fin 1024) (i : Fin 256) (hi : i.val = 0 + a.val) :
    (show FVec Ideal S256x1024 .f32 from iblk m c 0 t) (ix2 a b) = Xarr m c (ix2 i b) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 1 t) (ix2 0 d) = garr m c (ix1 d) := by
  have h : (show FVec Ideal S1x1024 .f32 from iblk m c 1 t) (ix2 0 d) = (show FVec Ideal S1x1024 .f32 from V m c main_v0) (ix2 0 d) := by
    blk_ext [iblk, idx t]
  rw [h, gain_row]
  pointwise []

/-- What a point writes out. -/
theorem out_at (c : Dev nD) (t : Fin cfg0.N) (a : Fin 256) (b : Fin 1024) (i : Fin 256) (hi : i.val = 0 + a.val) :
    out0_2 (iblk m c 0 t) (iblk m c 1 t) (ix2 a b) = normed (line (Xarr m c) i) (fun d => garr m c (ix1 d)) b := by
  have e : out0_2 (iblk m c 0 t) (iblk m c 1 t) = k0_pay1 (iblk m c 0 t) (iblk m c 1 t) := by frame_out
  rw [e]
  refine (normed_at _ _ a b).trans ?_
  exact congrArg₂ (fun x g => normed x g b) (funext fun d => blk_x m c t a d i hi) (funext fun d => blk_g m c t d)

/-- After the run the result holds the normed rows. -/
theorem final (c : Dev nD) : (dats m 0 c).arrAt 2 (cfgs 0).N
    = fun i : S256x1024.Idx => normed (line (Xarr m c) (i 0)) (fun d => garr m c (ix1 d)) (i 1) := by
  refine (dats m 0 c).arrAt_eq_of_covers 2 _ (by decide +kernel) fun t hfl y => ?_
  have ht : t.val < 1 := lt_of_lt_of_eq t.isLt N_0
  have hy : (y 0 : ℕ) < 256 := (y 0).isLt
  have hp : 0 + (y 0 : ℕ) < 256 := by omega
  blk_simp [idx t]
  rw [after0_2, eq_ix2 y]
  refine (out_at m c t (y 0) (y 1) ⟨_, hp⟩ rfl).trans ?_
  have e0 : (⟨0 + (y 0 : ℕ), hp⟩ : Fin 256) = (win0_2.blk t).view.emb (ix2 (y 0) (y 1)) 0 :=
    Fin.ext (by blk_simp [idx t])
  have e1 : (y 1 : Fin 1024) = (win0_2.blk t).view.emb (ix2 (y 0) (y 1)) 1 := Fin.ext (by blk_simp [idx t])
  exact congrArg₂ (fun i => normed (line (Xarr m c) i) (fun d => garr m c (ix1 d))) e0 e1

end Cert.MemFIdeal.Prod

end
-- ==== Proof.MemF.Ref.lean ====
/- The reference of the norm of the memory at an index. -/
module

public import proofs.«01_k».proof.Proof.Gen.MemFReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.MemFReferenceIdeal.Prod

open Cert.MemFReferenceIdeal Cert.MemFReferenceIdeal.Gen Cert.MemFReferenceIdeal.Read Cert.Common

/-- The reference's result is the rows, normed. -/
theorem meet (X : FVec Ideal S256x1024 .f32) (g : FVec Ideal S1024 .f32) : val_main_v13 (F := Ideal) X g
    = fun i : S256x1024.Idx => normed (line X (i 0)) (fun d => g (ix1 d)) (i 1) := by
  funext i
  rw [eq_ix2 i]
  generalize i 0 = p
  generalize i 1 = q
  show val_main_v13 (F := Ideal) X g (ix2 p q) = normed (line X p) (fun d => g (ix1 d)) q
  pointwise [val_main_cst, val_main_cst_0, val_main_cst_1, val_main_v0, val_main_v1, val_main_v10, val_main_v11, val_main_v12, val_main_v13, val_main_v2, val_main_v3, val_main_v4, val_main_v5, val_main_v6, val_main_v7, val_main_v8, val_main_v9, normed, line, rootInv, square, width, tiny]

end Cert.MemFReferenceIdeal.Prod

end
-- ==== Proof.MemB.Arrays.lean ====
/- The two result arrays of the gradient through the memory's norm after the run. -/
module

public import proofs.«01_k».proof.Proof.Gen.MemBIdeal.Value
public import proofs.«01_k».proof.Proof.Common.Residual
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemBIdeal.Prod

open Cert.MemBIdeal Cert.MemBIdeal.Gen Cert.Common

variable (m : (ℓ : Loc nD τ sig) → Buf (Elt Ideal) ℓ)

section

variable (x h r : Vec Ideal S256x1024 .f32) (g o : Vec Ideal S1x1024 .f32)

/-- One over the root of the rows' mean squares. -/
theorem rootInv_at (a : Fin 256) : k0_pay3 x (ix2 a 0) = rootInv (fun d => x (ix2 a d)) := by
  pointwise [k0_pay3, rootInv, square, width, tiny]

/-- The rows over the root. -/
theorem unit_at (a : Fin 256) (d : Fin 1024) : k0_pay4 x (ix2 a d) = x (ix2 a d) * rootInv (fun d => x (ix2 a d)) := by
  rw [← rootInv_at]
  pointwise [k0_pay4]

/-- The gain's gradient, added to what stood there. -/
theorem gain_at (d : Fin 1024) : k0_pay5 x h o (ix2 0 d)
    = o (ix2 0 d) + ∑ a : Fin 256, h (ix2 a d) * (x (ix2 a d) * rootInv (fun d => x (ix2 a d))) := by
  rw [show (∑ a : Fin 256, h (ix2 a d) * (x (ix2 a d) * rootInv (fun d => x (ix2 a d)))) = ∑ a : Fin 256, h (ix2 a d) * k0_pay4 x (ix2 a d)
    from Finset.sum_congr rfl fun a _ => by rw [unit_at]]
  pointwise [k0_pay5]

/-- What stood there first. -/
theorem zero_at (d : Fin 1024) : (k0_pay2 : FVec Ideal S1x1024 .f32) (ix2 0 d) = 0 := by
  pointwise [k0_pay2]

/-- The rows' gradient. -/
theorem rows_at (a : Fin 256) (d : Fin 1024) : k0_pay1 r (k0_pay6 x h g) (ix2 a d)
    = normGrad (fun d => h (ix2 a d)) (fun d => g (ix2 0 d)) (fun d => x (ix2 a d)) (r (ix2 a d)) d := by
  unfold normGrad
  simp only [← rootInv_at]
  pointwise [k0_pay1, k0_pay6, k0_pay4, width]

end

/-- The first output block. -/
theorem first_blk (c : Dev nD) (t : Fin cfg0.N) :
    (outsAt0 m c t).1 = k0_pay1 (iblk m c 3 t) (k0_pay6 (iblk m c 0 t) (iblk m c 2 t) (iblk m c 1 t)) := by
  unfold outsAt0; frame_out

/-- The second output block. -/
theorem second_blk (c : Dev nD) (t : Fin cfg0.N) :
    (outsAt0 m c t).2 = k0_pay5 (iblk m c 0 t) (iblk m c 2 t) (k0_pay2 (F := Ideal)) := by
  unfold outsAt0; frame_out

/-- Where every window's block stands. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The rows. -/
abbrev Xarr (c : Dev nD) : FVec Ideal S256x1024 .f32 := m ((c : Thread nD τ).loc main_arg0)
/-- The gain. -/
abbrev garr (c : Dev nD) : FVec Ideal S1024 .f32 := m ((c : Thread nD τ).loc main_arg1)
/-- The gradient of the normed rows. -/
abbrev Harr (c : Dev nD) : FVec Ideal S256x1024 .f32 := m ((c : Thread nD τ).loc main_arg2)
/-- What is added. -/
abbrev Rarr (c : Dev nD) : FVec Ideal S256x1024 .f32 := m ((c : Thread nD τ).loc main_arg3)

/-- The rows' block. -/
theorem blk_x (c : Dev nD) (t : Fin cfg0.N) (a : Fin 256) (b : Fin 1024) :
    (show FVec Ideal S256x1024 .f32 from iblk m c 0 t) (ix2 a b) = Xarr m c (ix2 a b) := by
  blk_ext [iblk, V, idx t]

/-- The gradient's block. -/
theorem blk_h (c : Dev nD) (t : Fin cfg0.N) (a : Fin 256) (b : Fin 1024) :
    (show FVec Ideal S256x1024 .f32 from iblk m c 2 t) (ix2 a b) = Harr m c (ix2 a b) := by
  blk_ext [iblk, V, idx t]

/-- What is added, its block. -/
theorem blk_r (c : Dev nD) (t : Fin cfg0.N) (a : Fin 256) (b : Fin 1024) :
    (show FVec Ideal S256x1024 .f32 from iblk m c 3 t) (ix2 a b) = Rarr m c (ix2 a b) := by
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) (d : Fin 1024) :
    (show FVec Ideal S1x1024 .f32 from iblk m c 1 t) (ix2 0 d) = garr m c (ix1 d) := by
  have h : (show FVec Ideal S1x1024 .f32 from iblk m c 1 t) (ix2 0 d) = (show FVec Ideal S1x1024 .f32 from V m c main_v0) (ix2 0 d) := by
    blk_ext [iblk, idx t]
  rw [h, gain_row]
  pointwise []

/-- After the run the first result holds the rows' gradient. -/
theorem final_rows (c : Dev nD) : (dats m 0 c).arrAt 4 (cfgs 0).N
    = fun i : S256x1024.Idx => normGrad (line (Harr m c) (i 0)) (fun d => garr m c (ix1 d)) (line (Xarr m c) (i 0)) (Rarr m c (ix2 (i 0) (i 1))) (i 1) := by
  refine (dats m 0 c).arrAt_eq_of_covers 4 _ (by decide +kernel) fun t hfl y => ?_
  blk_simp [idx t]
  rw [after0_4, first_blk, eq_ix2 y]
  refine (rows_at _ _ _ _ (y 0) (y 1)).trans ?_
  have e0 : (y 0 : Fin 256) = (win0_4.blk t).view.emb (ix2 (y 0) (y 1)) 0 := Fin.ext (by blk_simp [idx t])
  have e1 : (y 1 : Fin 1024) = (win0_4.blk t).view.emb (ix2 (y 0) (y 1)) 1 := Fin.ext (by blk_simp [idx t])
  have e : normGrad (line (Harr m c) (y 0)) (fun d => garr m c (ix1 d)) (line (Xarr m c) (y 0)) (Rarr m c (ix2 (y 0) (y 1))) (y 1)
      = _ := congrArg₂ (fun i d => normGrad (line (Harr m c) i) (fun d => garr m c (ix1 d)) (line (Xarr m c) i) (Rarr m c (ix2 i d)) d) e0 e1
  refine Eq.trans ?_ e
  rw [show (fun d => (show FVec Ideal S256x1024 .f32 from iblk m c 2 t) (ix2 (y 0) d)) = line (Harr m c) (y 0) from funext fun d => blk_h m c t (y 0) d,
    show (fun d => (show FVec Ideal S256x1024 .f32 from iblk m c 0 t) (ix2 (y 0) d)) = line (Xarr m c) (y 0) from funext fun d => blk_x m c t (y 0) d,
    show (fun d => (show FVec Ideal S1x1024 .f32 from iblk m c 1 t) (ix2 0 d)) = (fun d => garr m c (ix1 d)) from funext fun d => blk_g m c t d]
  exact congrArg (fun r => normGrad _ _ _ r _) (blk_r m c t (y 0) (y 1))

/-- After the run the second result holds the gain's gradient. -/
theorem final_gain (c : Dev nD) : (dats m 0 c).arrAt 5 (cfgs 0).N
    = fun i : S1x1024.Idx => ∑ a : Fin 256, Harr m c (ix2 a (i 1)) * (Xarr m c (ix2 a (i 1)) * rootInv (line (Xarr m c) a)) := by
  refine (dats m 0 c).arrAt_eq_of_covers 5 _ (by decide +kernel) fun t hfl y => ?_
  blk_simp [idx t]
  have hy : y = ix2 0 (y 1) := by rw [eq_ix2 y]; exact congrArg (fun a => ix2 a _) (Subsingleton.elim _ _)
  rw [after0_5, second_blk, hy]
  refine (gain_at _ _ _ (y 1)).trans ?_
  have e1 : (y 1 : Fin 1024) = (win0_5.blk t).view.emb (ix2 0 (y 1)) 1 := Fin.ext (by blk_simp [idx t])
  refine (congrArg₂ (· + ·) (zero_at (y 1)) (Finset.sum_congr rfl fun a _ => congrArg₂ (· * ·) (blk_h m c t a (y 1))
    (congrArg₂ (· * ·) (blk_x m c t a (y 1)) (congrArg rootInv (funext fun d => blk_x m c t a d))))).trans ((zero_add _).trans ?_)
  exact congrArg (fun d => ∑ a : Fin 256, Harr m c (ix2 a d) * (Xarr m c (ix2 a d) * rootInv (line (Xarr m c) a))) e1

end Cert.MemBIdeal.Prod

end
-- ==== Proof.MemB.Ref.lean ====
/- The reference of the gradient through the memory's norm at an index. -/
module

public import proofs.«01_k».proof.Proof.Gen.MemBReferenceIdeal.Read
public import proofs.«01_k».proof.Proof.Common.Residual
public import Idealize.ShloMosaic.Lib.Pointwise

@[expose] public section

set_option maxRecDepth 16384

noncomputable section

open Idealize.ShloMosaic Idealize.ShloMosaic.TcCoe Idealize.SL.Sem

namespace Cert.MemBReferenceIdeal.Prod

open Cert.MemBReferenceIdeal Cert.MemBReferenceIdeal.Gen Cert.MemBReferenceIdeal.Read Cert.Common

variable (X : FVec Ideal S256x1024 .f32) (g : FVec Ideal S1024 .f32) (H R : FVec Ideal S256x1024 .f32)

/-- The mean square and a little more. -/
theorem square_at (i : Fin 256) : val_main_v6 (F := Ideal) X (ix2 i 0) = square (line (M := 256) X i) := by
  pointwise [val_main_v6, val_main_v5, val_main_cst_1, val_main_v4, val_main_v3, val_main_cst_0, val_main_v2, val_main_v1, val_main_cst,
    val_main_v0, square, width, tiny, line]

/-- One over its root. -/
theorem rootInv_at (i : Fin 256) : val_main_v7 (F := Ideal) X (ix2 i 0) = rootInv (line (M := 256) X i) := by
  unfold rootInv
  rw [← square_at]
  pointwise [val_main_v7]

/-- The gain's gradient. -/
theorem dg_at (d : Fin 1024) : val_main_v37 (F := Ideal) X H (ix2 0 d)
    = ∑ a : Fin 256, H (ix2 a d) * (X (ix2 a d) * rootInv (line (M := 256) X a)) := by
  simp only [← rootInv_at]
  pointwise [val_main_v37, val_main_v21, val_main_cst_4, val_main_v18, val_main_v17, val_main_cst_3, val_main_v16, val_main_v12, val_main_v11]
  refine (Fin.sum_univ_one _).trans (Finset.sum_congr rfl fun i _ => ?_)
  exact mul_comm (G := EReal) _ _

/-- The gradient through the mean square. -/
theorem through_at (i : Fin 256) (d : Fin 1024) : val_main_v32 (F := Ideal) X g H (ix2 i d)
    = through (line (M := 256) H i) (fun e => g (ix1 e)) (line (M := 256) X i) := by
  unfold through
  simp only [← rootInv_at, ← square_at]
  pointwise [val_main_v32, val_main_v31, val_main_cst_7, val_main_v30, val_main_v29, val_main_cst_6, val_main_v28, val_main_v10, val_main_v9,
    val_main_cst_2, val_main_v8, val_main_v24, val_main_v23, val_main_cst_5, val_main_v22, val_main_v20, val_main_v19, val_main_v13,
    line, width, minusHalf]
  exact Fin.sum_univ_one _

/-- The rows' gradient. -/
theorem dx_at (i : Fin 256) (d : Fin 1024) : val_main_v36 (F := Ideal) X g H R (ix2 i d)
    = normGrad (line (M := 256) H i) (fun e => g (ix1 e)) (line (M := 256) X i) (R (ix2 i d)) d := by
  rw [normGrad_eq]
  unfold normGradRef
  rw [← rootInv_at, ← through_at X g H i d]
  pointwise [val_main_v36, val_main_v35, val_main_v34, val_main_v33, val_main_v27, val_main_v26, val_main_v25, val_main_v20, val_main_v19,
    val_main_v13, line]

/-- The first result: the rows' gradient. -/
theorem dx_meet : val_main_v36 (F := Ideal) X g H R
    = fun i : S256x1024.Idx => normGrad (line (M := 256) H (i 0)) (fun e => g (ix1 e)) (line (M := 256) X (i 0)) (R (ix2 (i 0) (i 1))) (i 1) := by
  funext i
  rw [eq_ix2 i]
  exact dx_at X g H R (i 0) (i 1)

/-- The second result: the gain's gradient. -/
theorem dg_meet : val_main_v37 (F := Ideal) X H
    = fun i : S1x1024.Idx => ∑ a : Fin 256, H (ix2 a (i 1)) * (X (ix2 a (i 1)) * rootInv (line (M := 256) X a)) := by
  funext i
  have e : i = ix2 0 (i 1) := by rw [eq_ix2 i]; exact congrArg (fun a => ix2 a _) (Subsingleton.elim _ _)
  rw [e]
  exact dg_at X H (i 1)

end Cert.MemBReferenceIdeal.Prod

end
-- ==== Proof.XaF.Arrays.lean ====
/- The result array of the attention to the memory after the run. -/
module

public import proofs.«01_k».proof.Proof.Gen.XaFIdeal.Value
public import proofs.«01_k».proof.Proof.XAttn.Arrays
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.XAttn

/-- The attention's output at row `i`, column `n`: the values weighed by the row's probabilities. -/
def outAt {N : ℕ} (Q : Shape.Idx ⟨2, ![N, 1024]⟩ → EReal) (KV : Shape.Idx ⟨2, ![256, 2048]⟩ → EReal) (i : Fin N) (n : ℕ) : EReal :=
  ∑ j : Fin 256, probAt Q KV i (n / 256) j * entry KV j (1024 + n)

end Cert.XAttn

namespace Cert.XaFIdeal.Prod

open Cert.XaFIdeal Cert.XaFIdeal.Gen Cert.XAttn
open Cert.KernelIdeal.XAttn (ld_cols at_ix2 probAt_row)

section

variable (x : Vec Ideal S512x256 .bf16) (k v : Vec Ideal S256x256 .bf16)

/-- Head 0's output. -/
theorem out0 (r : Fin 512) (d : Fin 256) : k0_pay2 x k v (ix2 r d)
    = ∑ j, prob (fun d => x (ix2 r d)) (fun j d => k (ix2 j d)) j * v (ix2 j d) := by
  pointwise [k0_pay1, k0_pay2, k0_pay3, k0_pay4, k0_pay5, k0_pay6, k0_pay7, prob, mass, expo, top, score, scale, low]

/-- Head 1's output. -/
theorem out1 (r : Fin 512) (d : Fin 256) : k0_pay4 v (k0_pay3 x k) (ix2 r d)
    = ∑ j, prob (fun d => x (ix2 r d)) (fun j d => k (ix2 j d)) j * v (ix2 j d) := by
  pointwise [k0_pay1, k0_pay2, k0_pay3, k0_pay4, k0_pay5, k0_pay6, k0_pay7, prob, mass, expo, top, score, scale, low]

/-- Head 2's output. -/
theorem out2 (r : Fin 512) (d : Fin 256) : k0_pay5 x k v (ix2 r d)
    = ∑ j, prob (fun d => x (ix2 r d)) (fun j d => k (ix2 j d)) j * v (ix2 j d) := by
  pointwise [k0_pay1, k0_pay2, k0_pay3, k0_pay4, k0_pay5, k0_pay6, k0_pay7, prob, mass, expo, top, score, scale, low]

/-- Head 3's output. -/
theorem out3 (r : Fin 512) (d : Fin 256) : k0_pay1 (k0_pay6 x k) (k0_pay7 x k) v (ix2 r d)
    = ∑ j, prob (fun d => x (ix2 r d)) (fun j d => k (ix2 j d)) j * v (ix2 j d) := by
  pointwise [k0_pay1, k0_pay2, k0_pay3, k0_pay4, k0_pay5, k0_pay6, k0_pay7, prob, mass, expo, top, score, scale, low]

end

/-- One head's output is the block's at the head's columns. -/
theorem piece (X0 : Shape.Idx ⟨2, ![512, 1024]⟩ → EReal) (X1 : Shape.Idx ⟨2, ![256, 2048]⟩ → EReal)
    (h o1 o2 : ℕ) (ho1 : o1 = 256 * h) (ho2 : o2 = 1024 + 256 * h)
    (x : Fin 512 → Fin 256 → EReal) (k v : Fin 256 → Fin 256 → EReal)
    (hx : ∀ i d, x i d = entry X0 i (o1 + d.val)) (hk : ∀ j d, k j d = entry X1 j (o1 + d.val))
    (hv : ∀ j d, v j d = entry X1 j (o2 + d.val)) (a r : Fin 512) (b : Fin 256) (n : ℕ) (hr : r.val = a.val) (hn : n = o1 + b.val) :
    (∑ j : Fin 256, prob (x a) k j * v j b) = outAt X0 X1 r n := by
  obtain rfl : r = a := Fin.ext hr
  obtain rfl : x = fun i d => entry X0 i (o1 + d.val) := funext fun i => funext (hx i)
  obtain rfl : k = fun i d => entry X1 i (o1 + d.val) := funext fun i => funext (hk i)
  obtain rfl : v = fun i d => entry X1 i (o2 + d.val) := funext fun i => funext (hv i)
  have hq : n / 256 = h := by omega
  have hb : o2 + b.val = 1024 + n := by omega
  subst ho1
  unfold outAt; rw [hq, ← hb]; rfl

section

variable (X0 : Vec Ideal S512x1024 .bf16) (X1 : Vec Ideal S256x2048 .bf16)

/-- Head 0's output over the blocks. -/
theorem head0 (a r : Fin 512) (b : Fin 256) (n : ℕ) (hr : r.val = a.val) (hn : n = 0 + b.val) :
    k0_pay2 (View.ld X0 (Rect.unit ![0, 0] ![512, 256] inb_S512x1024_S512x256_0_0)) (View.ld X1 (Rect.unit ![0, 0] ![256, 256] inb_S256x2048_S256x256_0_0)) (View.ld X1 (Rect.unit ![0, 1024] ![256, 256] inb_S256x2048_S256x256_0_1024)) (ix2 a b) = outAt (N := 512) X0 X1 r n :=
  (out0 _ _ _ a b).trans (piece X0 X1 0 0 1024 rfl rfl _ _ _ (fun i d => ld_cols X0 _ _ i d) (fun i d => ld_cols X1 _ _ i d)
    (fun i d => ld_cols X1 _ _ i d) a r b n hr hn)

/-- Head 1's output over the blocks. -/
theorem head1 (a r : Fin 512) (b : Fin 256) (n : ℕ) (hr : r.val = a.val) (hn : n = 256 + b.val) :
    k0_pay4 (View.ld X1 (Rect.unit ![0, 1280] ![256, 256] inb_S256x2048_S256x256_0_1280)) (k0_pay3 (View.ld X0 (Rect.unit ![0, 256] ![512, 256] inb_S512x1024_S512x256_0_256)) (View.ld X1 (Rect.unit ![0, 256] ![256, 256] inb_S256x2048_S256x256_0_256))) (ix2 a b) = outAt (N := 512) X0 X1 r n :=
  (out1 _ _ _ a b).trans (piece X0 X1 1 256 1280 rfl rfl _ _ _ (fun i d => ld_cols X0 _ _ i d) (fun i d => ld_cols X1 _ _ i d)
    (fun i d => ld_cols X1 _ _ i d) a r b n hr hn)

/-- Head 2's output over the blocks. -/
theorem head2 (a r : Fin 512) (b : Fin 256) (n : ℕ) (hr : r.val = a.val) (hn : n = 512 + b.val) :
    k0_pay5 (View.ld X0 (Rect.unit ![0, 512] ![512, 256] inb_S512x1024_S512x256_0_512)) (View.ld X1 (Rect.unit ![0, 512] ![256, 256] inb_S256x2048_S256x256_0_512)) (View.ld X1 (Rect.unit ![0, 1536] ![256, 256] inb_S256x2048_S256x256_0_1536)) (ix2 a b) = outAt (N := 512) X0 X1 r n :=
  (out2 _ _ _ a b).trans (piece X0 X1 2 512 1536 rfl rfl _ _ _ (fun i d => ld_cols X0 _ _ i d) (fun i d => ld_cols X1 _ _ i d)
    (fun i d => ld_cols X1 _ _ i d) a r b n hr hn)

/-- Head 3's output over the blocks. -/
theorem head3 (a r : Fin 512) (b : Fin 256) (n : ℕ) (hr : r.val = a.val) (hn : n = 768 + b.val) :
    k0_pay1 (k0_pay6 (View.ld X0 (Rect.unit ![0, 768] ![512, 256] inb_S512x1024_S512x256_0_768)) (View.ld X1 (Rect.unit ![0, 768] ![256, 256] inb_S256x2048_S256x256_0_768))) (k0_pay7 (View.ld X0 (Rect.unit ![0, 768] ![512, 256] inb_S512x1024_S512x256_0_768)) (View.ld X1 (Rect.unit ![0, 768] ![256, 256] inb_S256x2048_S256x256_0_768))) (View.ld X1 (Rect.unit ![0, 1792] ![256, 256] inb_S256x2048_S256x256_0_1792)) (ix2 a b) = outAt (N := 512) X0 X1 r n :=
  (out3 _ _ _ a b).trans (piece X0 X1 3 768 1792 rfl rfl _ _ _ (fun i d => ld_cols X0 _ _ i d) (fun i d => ld_cols X1 _ _ i d)
    (fun i d => ld_cols X1 _ _ i d) a r b n hr hn)

end

variable (m : (ℓ : Loc nD τ sig) → Buf (Elt Ideal) ℓ)

/-- What a point leaves in its block: row `r`, column `n`. -/
theorem left (c : Dev nD) (t : Fin cfg0.N) (y : S512x1024.Idx) (r : Fin 512) (n : ℕ) (hy0 : (y 0 : ℕ) = r.val) (hy1 : (y 1 : ℕ) = n) :
    out0_2 (iblk m c 0 t) (iblk m c 1 t) y = outAt (N := 512) (iblk m c 0 t) (iblk m c 1 t) r n := by
  frame_out
  canon_tiles x h
  · exact at_ix2 _ x (head3 _ _ (x 0) _ (x 1) _ (by omega) (by omega))
  · exact at_ix2 _ x (head2 _ _ (x 0) _ (x 1) _ (by omega) (by omega))
  · exact at_ix2 _ x (head1 _ _ (x 0) _ (x 1) _ (by omega) (by omega))
  · exact at_ix2 _ x (head0 _ _ (x 0) _ (x 1) _ (by omega) (by omega))

/-- Where every window's block stands. -/
theorem idx : ∀ t : Fin cfg0.N, win0_0.index t = ![t.val, 0] ∧ win0_1.index t = ![0, 0] ∧ win0_2.index t = ![t.val, 0] :=
  (by decide +kernel : ∀ t : Fin grid0.N, _)

/-- The queries. -/
abbrev Qarr (c : Dev nD) : FVec Ideal S4096x1024 .bf16 := m ((c : Thread nD τ).loc main_arg0)
/-- The keys and values. -/
abbrev KVarr (c : Dev nD) : FVec Ideal S256x2048 .bf16 := m ((c : Thread nD τ).loc main_arg1)

/-- A query block's rows are the array's. -/
theorem blk_q (c : Dev nD) (t : Fin cfg0.N) (r : Fin 512) (i : Fin 4096) (hi : i.val = t.val * 512 + r.val) (n : ℕ) :
    entry (show FVec Ideal S512x1024 .bf16 from iblk m c 0 t) r n = entry (Qarr m c) i n := by
  unfold entry
  blk_ext [iblk, V, idx t]

/-- The key and value block is the array. -/
theorem blk_kv (c : Dev nD) (t : Fin cfg0.N) : (show FVec Ideal S256x2048 .bf16 from iblk m c 1 t) = KVarr m c := by
  funext i
  rw [eq_ix2 i]
  blk_ext [iblk, V, idx t]

/-- After the run the result holds the attention's output. -/
theorem final (c : Dev nD) : (dats m 0 c).arrAt 2 (cfgs 0).N
    = fun i : S4096x1024.Idx => outAt (N := 4096) (Qarr m c) (KVarr m c) (i 0) (i 1).val := by
  refine (dats m 0 c).arrAt_eq_of_covers 2 _ (by decide +kernel) fun t hfl y => ?_
  have ht : t.val < 8 := lt_of_lt_of_eq t.isLt N_0
  have hy : (y 0 : ℕ) < 512 := (y 0).isLt
  have hp : t.val * 512 + (y 0 : ℕ) < 4096 := by omega
  blk_simp [idx t]
  rw [after0_2]
  refine (left m c t y (y 0) (y 1).val rfl rfl).trans ?_
  have e0 : (⟨t.val * 512 + (y 0 : ℕ), hp⟩ : Fin 4096) = (win0_2.blk t).view.emb y 0 := Fin.ext (by blk_simp [idx t])
  refine Eq.trans ?_ (congrArg (fun i => outAt (N := 4096) (Qarr m c) (KVarr m c) i (y 1).val) e0)
  unfold outAt
  refine Finset.sum_congr rfl fun j _ => congrArg₂ (· * ·) ?_ (congrArg (fun K => entry K j _) (blk_kv m c t))
  exact (probAt_row _ _ _ _ _ (blk_q m c t _ _ rfl) _ j).trans (congrArg (fun K => probAt _ K _ _ j) (blk_kv m c t))

end Cert.XaFIdeal.Prod

end
-- ==== Proof.XaF.Ref.lean ====
/- The reference of the attention to the memory at an index. -/
module

public import proofs.«01_k».proof.Proof.Gen.XaFReferenceIdeal.Read
public import proofs.«01_k».proof.Proof.XaF.Arrays
public import Idealize.ShloMosaic.Lib.Pointwise

@[expose] public section

set_option maxRecDepth 16384

noncomputable section

open Idealize.ShloMosaic Idealize.ShloMosaic.TcCoe Idealize.SL.Sem

namespace Cert.XaFReferenceIdeal.Prod

open Cert.XaFReferenceIdeal Cert.XaFReferenceIdeal.Gen Cert.XaFReferenceIdeal.Read Cert.XAttn

variable (Q : FVec Ideal S4096x1024 .bf16) (KV : FVec Ideal S256x2048 .bf16)

/-- The scaled scores. -/
theorem score_at (h : Fin 4) (i : Fin 4096) (j : Fin 256) :
    val_main_v10 (F := Ideal) Q KV (ix4 0 h i j) = score (headRow (N := 4096) Q i h.val) (keys KV h.val) j := by
  pointwise [val_main_v10, val_main_v9, val_main_cst, val_main_v8, val_main_v6, val_main_v4, val_main_v3, val_main_v1,
    val_main_v2, val_main_v0, score, scale]
  exact congrArg (· * _) (Finset.sum_congr rfl fun d _ => congrArg₂ (· * ·) (headRow_eq _ _ _ _ _) (keys_eq _ _ _ _ _))

/-- The rows' largest scores. -/
theorem top_at (h : Fin 4) (i : Fin 4096) :
    val_main_v11 (F := Ideal) Q KV (ix3 0 h i) = top (headRow (N := 4096) Q i h.val) (keys KV h.val) := by
  pointwise [val_main_v11, val_main_cst_0, top, low]
  exact congrArg (fun f => Finset.fold max _ f Finset.univ) (funext fun j => score_at Q KV h i j)

/-- The rows' largest scores once more, after the maximum with minus infinity. -/
theorem capped_at (h : Fin 4) (i : Fin 4096) :
    val_main_v13 (F := Ideal) Q KV (ix3 0 h i) = top (headRow (N := 4096) Q i h.val) (keys KV h.val) := by
  rw [val_main_v13_apply]
  refine (congrArg₂ max ?_ (top_at Q KV h i)).trans (low_le_top _ _)
  rw [low]
  pointwise [val_main_v12, val_main_cst_1]

/-- The exponentials. -/
theorem expo_at (h : Fin 4) (i : Fin 4096) (j : Fin 256) :
    val_main_v17 (F := Ideal) Q KV (ix4 0 h i j) = expo (headRow (N := 4096) Q i h.val) (keys KV h.val) j := by
  rw [expo, ← capped_at, ← score_at]
  pointwise [val_main_v17, val_main_v16, val_main_v15, val_main_v14]

/-- The sums of the exponentials. -/
theorem mass_at (h : Fin 4) (i : Fin 4096) :
    val_main_v19 (F := Ideal) Q KV (ix4 0 h i 0) = mass (headRow (N := 4096) Q i h.val) (keys KV h.val) := by
  pointwise [val_main_v19, val_main_v18, val_main_cst_2, mass]
  exact Finset.sum_congr rfl fun j _ => expo_at Q KV h i j

/-- The probabilities. -/
theorem prob_at (h : Fin 4) (i : Fin 4096) (j : Fin 256) :
    val_main_v21 (F := Ideal) Q KV (ix4 0 h i j) = prob (headRow (N := 4096) Q i h.val) (keys KV h.val) j := by
  rw [prob, ← expo_at, ← mass_at]
  pointwise [val_main_v21, val_main_v20]

/-- The result at an index: the values weighed by the probabilities. -/
theorem out_at (p : Fin 4096) (n : Fin 1024) : val_main_v25 (F := Ideal) Q KV (ix2 p n) = outAt (N := 4096) Q KV p n.val := by
  unfold outAt probAt
  pointwise [val_main_v25, val_main_v24, val_main_v23, val_main_v22, val_main_v7, val_main_v5, val_main_v3, val_main_v1]
  refine Finset.sum_congr rfl fun j _ => ?_
  rw [prob_at, mul_comm]
  refine congrArg (_ * ·) ((congrArg (fun z => KV (ix2 j z)) (Fin.ext ?_)).trans (entry_eq _ _ _ (by omega)).symm)
  rfl

/-- The result. -/
theorem meet : val_main_v25 (F := Ideal) Q KV = fun i : S4096x1024.Idx => outAt (N := 4096) Q KV (i 0) (i 1).val := by
  funext i
  rw [eq_ix2 i]
  exact out_at Q KV (i 0) (i 1)

end Cert.XaFReferenceIdeal.Prod

end
-- ==== Proof.Common.Gelu.lean ====
/- The smooth rectifier, and the logistic function's two spellings. -/
module

public import proofs.«01_k».proof.Proof.Act.Real

@[expose] public section

set_option maxRecDepth 16384

noncomputable section

open Idealize.ShloMosaic

namespace Cert.Common

open Cert.Act

/-- The cube's weight. -/
def cubeBy : EReal := Ideal.ofBits .f32 0x3D372713#32
/-- The argument's weight. -/
def argBy : EReal := Ideal.ofBits .f32 0x3F4C422A#32

/-- The smooth rectifier, as the kernel orders it. -/
def gelu (y : EReal) : EReal := half * y * (1 + Ideal.tanh (argBy * (y + cubeBy * y * y * y)))

/-- The smooth rectifier, as the reference orders it. -/
def geluRef (y : EReal) : EReal := y * (half * (1 + Ideal.tanh (argBy * (y + cubeBy * (y * y * y)))))

/-- The two are one. -/
theorem gelu_eq (y : EReal) : geluRef y = gelu y := by
  unfold gelu geluRef
  rw [show cubeBy * (y * y * y) = cubeBy * y * y * y from by ac_rfl]
  ac_rfl

/-- The logistic function is the same through the tangent and through the exponential, at every argument. -/
theorem sigm_eq (z : EReal) : sigm z = logi z := by
  induction z with
  | bot =>
    unfold sigm logi
    rw [half_eq, EReal.coe_mul_bot_of_pos (by norm_num), Ideal.tanh_bot, EReal.neg_bot, Ideal.exp_top]
    have e : (1 : EReal) + ⊤ = ⊤ := EReal.coe_add_top 1
    rw [e, show Ideal.div 1 ⊤ = 0 from by rw [Ideal.div, if_neg EReal.top_ne_zero, EReal.inv_top, mul_zero],
      show (-1 : EReal) = ((-1 : ℝ) : EReal) from by rw [EReal.coe_neg, EReal.coe_one], ← EReal.coe_mul, ← EReal.coe_add]
    norm_num
  | top =>
    unfold sigm logi
    rw [half_eq, EReal.coe_mul_top_of_pos (by norm_num), Ideal.tanh_top, EReal.neg_top, Ideal.exp_bot, add_zero]
    rw [show (1 : EReal) = ((1 : ℝ) : EReal) from by norm_cast, Ideal.div_coe (by norm_num), ← EReal.coe_mul, ← EReal.coe_mul, ← EReal.coe_add]
    norm_num
  | coe x => rw [sigm_coe, logi_coe]

end Cert.Common

end
-- ==== Proof.GluB.Arrays.lean ====
/- The three result arrays of the gradient of the recurrence's gate after the run. -/
module

public import proofs.«01_k».proof.Proof.Gen.GluBIdeal.Value
public import proofs.«01_k».proof.Proof.Common.Gelu
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Glu

open Cert.Act Cert.Common

/-- The gradient before the gate, from the output's gradient `d`, the recurrence's output `y` and the gate's input `u`. -/
def back (d y u : EReal) : EReal := d * gelu y * sigm u * (1 - sigm u)

variable (D : Shape.Idx ⟨2, ![4096, 1024]⟩ → EReal) (Y Z : Shape.Idx ⟨2, ![4096, 512]⟩ → EReal) (B : Shape.Idx ⟨2, ![1, 512]⟩ → EReal)

/-- A column's place in the second half. -/
def hi (n : Fin 512) : Fin 1024 := ⟨n.val + 512, by omega⟩
/-- The gate's input. -/
def inp (i : Fin 4096) (n : Fin 512) : EReal := Z (ix2 i n) + B (ix2 0 n)
/-- The gradient before the gate. -/
def dzAt (i : Fin 4096) (n : Fin 512) : EReal := back (D (ix2 i (hi n))) (Y (ix2 i n)) (inp Z B i n)
/-- The gradient of the rectified output. -/
def dgAt (i : Fin 4096) (n : Fin 512) : EReal := D (ix2 i (hi n)) * sigm (inp Z B i n)
/-- The gradient of the gate's bias. -/
def dbAt (n : Fin 512) : EReal := ∑ i : Fin 4096, dzAt D Y Z B i n

end Cert.Glu

namespace Cert.GluBIdeal.Prod

open Cert.GluBIdeal Cert.GluBIdeal.Gen Cert.Common Cert.Act Cert.Glu

variable (m : (ℓ : Loc nD τ sig) → Buf (Elt Ideal) ℓ)

section

variable (y z d : Vec Ideal S512x512 .f32) (b o : Vec Ideal S1x512 .f32)

/-- The gate. -/
theorem gate_at (a n : Fin 512) : k0_pay3 z b (ix2 a n) = sigm (z (ix2 a n) + b (ix2 0 n)) := by
  unfold sigm
  pointwise [k0_pay3, half]

/-- The gradient before the gate. -/
theorem dz_at (a n : Fin 512) : k0_pay4 y z b d (ix2 a n) = back (d (ix2 a n)) (y (ix2 a n)) (z (ix2 a n) + b (ix2 0 n)) := by
  unfold back gelu
  rw [← gate_at z b a n]
  pointwise [k0_pay4, half, cubeBy, argBy]

/-- The gradient before the gate, as it is written. -/
theorem dzw_at (a n : Fin 512) : k0_pay5 y z b d (ix2 a n) = back (d (ix2 a n)) (y (ix2 a n)) (z (ix2 a n) + b (ix2 0 n)) := by
  rw [← dz_at]
  pointwise [k0_pay5]

/-- The gradient of the rectified output. -/
theorem dg_at (a n : Fin 512) : k0_pay6 z b d (ix2 a n) = d (ix2 a n) * sigm (z (ix2 a n) + b (ix2 0 n)) := by
  rw [← gate_at]
  pointwise [k0_pay6]

/-- The bias's gradient: what was there and the block's rows' part. -/
theorem db_at (x : FVec Ideal S512x512 .f32) (n : Fin 512) : k0_pay1 x o (ix2 0 n) = o (ix2 0 n) + ∑ a : Fin 512, x (ix2 a n) := by
  pointwise [k0_pay1]

/-- The bias's gradient starts from zero. -/
theorem zeros (j : S1x512.Idx) : k0_pay2 (F := Ideal) j = 0 := by
  pointwise [k0_pay2]

end

/-- The first output block. -/
theorem dz_blk (c : Dev nD) (t : Fin cfg0.N) :
    (outsAt0 m c t.val t.isLt).1 = k0_pay5 (iblk m c 1 t) (iblk m c 2 t) (iblk m c 3 t) (iblk m c 0 t) := by
  by_cases h : t.val % 8 = 0
  · rw [outsAt0_A m c t h]; frame_out
  · rw [outsAt0_B m c t h]; frame_out

/-- The second output block. -/
theorem dg_blk (c : Dev nD) (t : Fin cfg0.N) :
    (outsAt0 m c t.val t.isLt).2.1 = k0_pay6 (iblk m c 2 t) (iblk m c 3 t) (iblk m c 0 t) := by
  by_cases h : t.val % 8 = 0
  · rw [outsAt0_A m c t h]; frame_out
  · rw [outsAt0_B m c t h]; frame_out

/-- At the first point the bias's gradient starts from zero. -/
theorem db_first (c : Dev nD) (t : Fin cfg0.N) (h : t.val % 8 = 0) :
    (outsAt0 m c t.val t.isLt).2.2 = k0_pay1 (k0_pay4 (iblk m c 1 t) (iblk m c 2 t) (iblk m c 3 t) (iblk m c 0 t)) (k0_pay2 (F := Ideal)) := by
  rw [outsAt0_A m c t h]; frame_out

/-- At a later point it is added to. -/
theorem db_step (c : Dev nD) (t : Fin cfg0.N) (h : ¬t.val % 8 = 0) :
    (outsAt0 m c t.val t.isLt).2.2 = k0_pay1 (k0_pay4 (iblk m c 1 t) (iblk m c 2 t) (iblk m c 3 t) (iblk m c 0 t))
      ((outsAt0 m c (t.val - 1) (Nat.lt_of_le_of_lt (Nat.sub_le _ _) t.isLt)).2.2) := by
  rw [outsAt0_B m c t h]; frame_out

/-- Where every window's block stands. -/
theorem idx : ∀ t : Fin cfg0.N, win0_0.index t = ![t.val, 1] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The output's gradient. -/
abbrev Darr (c : Dev nD) : FVec Ideal S4096x1024 .f32 := m ((c : Thread nD τ).loc main_arg0)
/-- The recurrence's output. -/
abbrev Yarr (c : Dev nD) : FVec Ideal S4096x512 .f32 := m ((c : Thread nD τ).loc main_arg1)
/-- The gate's product. -/
abbrev Zarr (c : Dev nD) : FVec Ideal S4096x512 .f32 := m ((c : Thread nD τ).loc main_arg2)
/-- The gate's bias. -/
abbrev Barr (c : Dev nD) : FVec Ideal S1x512 .f32 := m ((c : Thread nD τ).loc main_arg3)

/-- The block of the output's gradient. -/
theorem blk_d (c : Dev nD) (t : Fin cfg0.N) (a n : Fin 512) (i : Fin 4096) (hi : i.val = t.val * 512 + a.val) :
    (show FVec Ideal S512x512 .f32 from iblk m c 0 t) (ix2 a n) = Darr m c (ix2 i (Glu.hi n)) := by
  have hq : (Glu.hi n).val = 1 * 512 + n.val := by show n.val + 512 = _; omega
  generalize Glu.hi n = q at hq ⊢
  blk_ext [iblk, V, idx t]

/-- The block of the recurrence's output. -/
theorem blk_y (c : Dev nD) (t : Fin cfg0.N) (a n : Fin 512) (i : Fin 4096) (hi : i.val = t.val * 512 + a.val) :
    (show FVec Ideal S512x512 .f32 from iblk m c 1 t) (ix2 a n) = Yarr m c (ix2 i n) := by
  blk_ext [iblk, V, idx t]

/-- The block of the gate's product. -/
theorem blk_z (c : Dev nD) (t : Fin cfg0.N) (a n : Fin 512) (i : Fin 4096) (hi : i.val = t.val * 512 + a.val) :
    (show FVec Ideal S512x512 .f32 from iblk m c 2 t) (ix2 a n) = Zarr m c (ix2 i n) := by
  blk_ext [iblk, V, idx t]

/-- The bias's block. -/
theorem blk_b (c : Dev nD) (t : Fin cfg0.N) (n : Fin 512) :
    (show FVec Ideal S1x512 .f32 from iblk m c 3 t) (ix2 0 n) = Barr m c (ix2 0 n) := by
  blk_ext [iblk, V, idx t]

/-- The gradient before the gate in a block. -/
theorem dz_here (c : Dev nD) (t : Fin cfg0.N) (a n : Fin 512) (i : Fin 4096) (hi : i.val = t.val * 512 + a.val) :
    k0_pay4 (iblk m c 1 t) (iblk m c 2 t) (iblk m c 3 t) (iblk m c 0 t) (ix2 a n) = dzAt (Darr m c) (Yarr m c) (Zarr m c) (Barr m c) i n := by
  refine (dz_at _ _ _ _ a n).trans ?_
  unfold dzAt
  refine (congrArg₂ (fun d y => back d y _) (blk_d m c t a n i hi) (blk_y m c t a n i hi)).trans ?_
  exact congrArg (back _ _) (congrArg₂ (· + ·) (blk_z m c t a n i hi) (blk_b m c t n))

/-- After the run the first result holds the gradient before the gate. -/
theorem final_dz (c : Dev nD) : (dats m 0 c).arrAt 4 (cfgs 0).N
    = fun i : S4096x512.Idx => dzAt (Darr m c) (Yarr m c) (Zarr m c) (Barr m c) (i 0) (i 1) := by
  refine (dats m 0 c).arrAt_eq_of_covers 4 _ (by decide +kernel) fun t hfl y => ?_
  have ht : t.val < 8 := lt_of_lt_of_eq t.isLt N_0
  have hy : (y 0 : ℕ) < 512 := (y 0).isLt
  have hp : t.val * 512 + (y 0 : ℕ) < 4096 := by omega
  blk_simp [idx t]
  rw [after0_4, dz_blk, eq_ix2 y]
  refine ((dzw_at _ _ _ _ (y 0) (y 1)).trans (dz_at _ _ _ _ (y 0) (y 1)).symm).trans ((dz_here m c t (y 0) (y 1) ⟨_, hp⟩ rfl).trans ?_)
  have e0 : (⟨t.val * 512 + (y 0 : ℕ), hp⟩ : Fin 4096) = (win0_4.blk t).view.emb (ix2 (y 0) (y 1)) 0 :=
    Fin.ext (by blk_simp [idx t])
  have e1 : (y 1 : Fin 512) = (win0_4.blk t).view.emb (ix2 (y 0) (y 1)) 1 := Fin.ext (by blk_simp [idx t])
  exact congrArg₂ (dzAt (Darr m c) (Yarr m c) (Zarr m c) (Barr m c)) e0 e1

/-- After the run the second result holds the gradient of the rectified output. -/
theorem final_dg (c : Dev nD) : (dats m 0 c).arrAt 5 (cfgs 0).N
    = fun i : S4096x512.Idx => dgAt (Darr m c) (Zarr m c) (Barr m c) (i 0) (i 1) := by
  refine (dats m 0 c).arrAt_eq_of_covers 5 _ (by decide +kernel) fun t hfl y => ?_
  have ht : t.val < 8 := lt_of_lt_of_eq t.isLt N_0
  have hy : (y 0 : ℕ) < 512 := (y 0).isLt
  have hp : t.val * 512 + (y 0 : ℕ) < 4096 := by omega
  blk_simp [idx t]
  rw [after0_5, dg_blk, eq_ix2 y]
  refine (dg_at _ _ _ (y 0) (y 1)).trans ?_
  have e0 : (⟨t.val * 512 + (y 0 : ℕ), hp⟩ : Fin 4096) = (win0_5.blk t).view.emb (ix2 (y 0) (y 1)) 0 :=
    Fin.ext (by blk_simp [idx t])
  have e1 : (y 1 : Fin 512) = (win0_5.blk t).view.emb (ix2 (y 0) (y 1)) 1 := Fin.ext (by blk_simp [idx t])
  refine Eq.trans ?_ (congrArg₂ (dgAt (Darr m c) (Zarr m c) (Barr m c)) e0 e1)
  exact congrArg₂ (· * ·) (blk_d m c t (y 0) (y 1) ⟨_, hp⟩ rfl)
    (congrArg sigm (congrArg₂ (· + ·) (blk_z m c t (y 0) (y 1) ⟨_, hp⟩ rfl) (blk_b m c t (y 1))))

/-- Row `i`'s part of the bias's gradient. -/
def biasRow (c : Dev nD) (n : Fin 512) (i : ℕ) : EReal :=
  if h : i < 4096 then dzAt (Darr m c) (Yarr m c) (Zarr m c) (Barr m c) ⟨i, h⟩ n else 0

/-- Point `p`'s part of the bias's gradient. -/
def biasPart (c : Dev nD) (n : Fin 512) (p : ℕ) : EReal := ∑ r : Fin 512, biasRow m c n (p * 512 + r.val)

/-- A point's rows' part. -/
theorem part_bias (c : Dev nD) (t : Fin cfg0.N) (n : Fin 512) :
    (∑ r : Fin 512, k0_pay4 (iblk m c 1 t) (iblk m c 2 t) (iblk m c 3 t) (iblk m c 0 t) (ix2 r n)) = biasPart m c n t.val := by
  have ht : t.val < 8 := lt_of_lt_of_eq t.isLt N_0
  refine Finset.sum_congr rfl fun r _ => ?_
  have hlt : t.val * 512 + r.val < 4096 := by omega
  unfold biasRow
  rw [dif_pos hlt]
  exact dz_here m c t r n ⟨_, hlt⟩ rfl

/-- All the points' parts together are the sum over all rows. -/
theorem bias_sum (c : Dev nD) (n : Fin 512) :
    (∑ p : Fin 8, biasPart m c n p.val) = dbAt (Darr m c) (Yarr m c) (Zarr m c) (Barr m c) n := by
  unfold dbAt biasPart
  refine Fin.sum_mul_add_congr (S := 8) (n := 512) fun s k hl => ?_
  unfold biasRow
  rw [dif_pos hl]

/-- The last grid point. -/
def lastPt : Fin cfg0.N := ⟨7, lt_of_lt_of_eq (by decide) N_0.symm⟩

/-- After the run the third result holds the bias's gradient. -/
theorem final_db (c : Dev nD) : (dats m 0 c).arrAt 6 (cfgs 0).N
    = fun i : S1x512.Idx => dbAt (Darr m c) (Yarr m c) (Zarr m c) (Barr m c) (i 1) := by
  refine (dats m 0 c).arrAt_eq_of_after_last 6 lastPt (by decide +kernel) _ fun j => ?_
  blk_simp [idx lastPt]
  rw [after0_6, Pipeline.eq_sum_fin_of_reset_step_apply_last (fun n h => (outsAt0 m c n h).2.2) 8 (fun _ => 0)
    (fun p j => biasPart m c (j 1) p.val)
    (fun t h j => by
      rw [db_first m c t h]
      have e : j = ix2 0 (j 1) := by rw [eq_ix2 j]; exact congrArg (fun a => ix2 a _) (Subsingleton.elim _ _)
      rw [e]
      refine (db_at _ _ (j 1)).trans ?_
      rw [zeros, part_bias m c t (j 1)]
      rfl)
    (fun t h j => by
      have e : j = ix2 0 (j 1) := by rw [eq_ix2 j]; exact congrArg (fun a => ix2 a _) (Subsingleton.elim _ _)
      rw [e, db_step m c t h]
      exact (db_at _ _ (j 1)).trans (congrArg _ (part_bias m c t (j 1))))
    (le_of_eq N_0) lastPt rfl j, zero_add]
  exact bias_sum m c (j 1)

end Cert.GluBIdeal.Prod

end
-- ==== Proof.GluB.Ref.lean ====
/- The reference of the gradient of the recurrence's gate at an index. -/
module

public import proofs.«01_k».proof.Proof.Gen.GluBReferenceIdeal.Read
public import proofs.«01_k».proof.Proof.GluB.Arrays
public import Idealize.ShloMosaic.Lib.Pointwise

@[expose] public section

set_option maxRecDepth 16384

noncomputable section

open Idealize.ShloMosaic Idealize.ShloMosaic.TcCoe Idealize.SL.Sem

namespace Cert.GluBReferenceIdeal.Prod

open Cert.GluBReferenceIdeal Cert.GluBReferenceIdeal.Gen Cert.GluBReferenceIdeal.Read Cert.Common Cert.Act Cert.Glu

variable (D : FVec Ideal S4096x1024 .f32) (Y Z : FVec Ideal S4096x512 .f32) (B : FVec Ideal S1x512 .f32)

/-- The rectified output. -/
theorem gelu_at (i : Fin 4096) (n : Fin 512) : val_main_v12 (F := Ideal) Y (ix2 i n) = gelu (Y (ix2 i n)) := by
  rw [← gelu_eq]
  unfold geluRef
  pointwise [val_main_v12, val_main_v11, val_main_v10, val_main_cst_2, val_main_v9, val_main_v8, val_main_cst_1, val_main_v7, val_main_v6,
    val_main_v5, val_main_cst_0, val_main_v4, val_main_v3, val_main_v2, val_main_cst, val_main_v1, val_main_v0, half, cubeBy, argBy]

/-- The gate. -/
theorem gate_at (i : Fin 4096) (n : Fin 512) : val_main_v20 (F := Ideal) Z B (ix2 i n) = sigm (inp Z B i n) := by
  rw [sigm_eq]
  unfold logi inp
  pointwise [val_main_v20, val_main_v19, val_main_cst_4, val_main_v18, val_main_v17, val_main_cst_3, val_main_v16, val_main_v15, val_main_v14,
    val_main_v13]

/-- The output's gradient, its second half. -/
theorem dout_at (i : Fin 4096) (n : Fin 512) : val_main_v25 (F := Ideal) D (ix2 i n) = D (ix2 i (hi n)) := by
  pointwise [val_main_v25]
  exact congrArg (fun q => D (ix2 i q)) (Fin.ext (Nat.add_comm _ _))

/-- The gradient before the gate. -/
theorem dz_at (i : Fin 4096) (n : Fin 512) : val_main_v28 (F := Ideal) D Y Z B (ix2 i n) = dzAt D Y Z B i n := by
  unfold dzAt back
  rw [← gelu_at, ← gate_at, ← dout_at D i n]
  pointwise [val_main_v28, val_main_v26, val_main_v23, val_main_v22, val_main_v21, val_main_cst_5]
  ac_rfl

/-- The first result: the gradient before the gate. -/
theorem dz_meet : val_main_v31 (F := Ideal) D Y Z B = fun i : S4096x512.Idx => dzAt D Y Z B (i 0) (i 1) := by
  funext i
  rw [eq_ix2 i]
  refine Eq.trans ?_ (dz_at D Y Z B (i 0) (i 1))
  generalize i 0 = p
  generalize i 1 = q
  pointwise [val_main_v31]

/-- Each entry of the gradient of the rectified output. -/
theorem dgx_at (p : Fin 4096) (q : Fin 512) : val_main_v27 (F := Ideal) D Z B (ix2 p q) = Glu.dgAt D Z B p q := by
  unfold Glu.dgAt
  rw [← gate_at, ← dout_at D p q]
  pointwise [val_main_v27]

/-- The second result: the gradient of the rectified output. -/
theorem dg_meet : val_main_v27 (F := Ideal) D Z B = fun i : S4096x512.Idx => Glu.dgAt D Z B (i 0) (i 1) := by
  funext i
  rw [eq_ix2 i]
  exact dgx_at D Z B (i 0) (i 1)

/-- The third result: the bias's gradient. -/
theorem db_meet : val_main_v30 (F := Ideal) D Y Z B = fun i : S1x512.Idx => dbAt D Y Z B (i 1) := by
  funext i
  have e : i = ix2 0 (i 1) := by rw [eq_ix2 i]; exact congrArg (fun a => ix2 a _) (Subsingleton.elim _ _)
  rw [e]
  generalize i 1 = q
  show val_main_v30 (F := Ideal) D Y Z B (ix2 0 q) = dbAt D Y Z B q
  unfold dbAt
  pointwise [val_main_v30, val_main_v29, val_main_cst_6]
  exact Finset.sum_congr rfl fun i _ => dz_at D Y Z B i q

end Cert.GluBReferenceIdeal.Prod

end
-- ==== Proof.Common.Head.lean ====
/- The loss of one row after the last norm, the gradient of it, and the two ways of writing the factor of that gradient. -/
module

public import proofs.«01_k».proof.Proof.Common.Residual

@[expose] public section

noncomputable section

open Idealize.ShloMosaic

namespace Cert.Common

/-- One half. -/
def oneHalf : EReal := Ideal.ofBits .f32 0x3F000000#32

/-- One over the width. -/
def share : EReal := Ideal.ofBits .f32 0x3A800000#32

/-- How far the normed row is from its target. -/
def miss (x g t : Fin 1024 → EReal) (d : Fin 1024) : EReal := x d * rootInv x * g d - t d

/-- The gradient of the loss in the normed row. -/
def missGrad (x g t : Fin 1024 → EReal) (d : Fin 1024) : EReal := miss x g t d * share

/-- The mean square of the distance. -/
def missSquare (x g t : Fin 1024 → EReal) : EReal := Ideal.div (∑ e, miss x g t e * miss x g t e) width

theorem oneHalf_eq : oneHalf = ((1 / 2 : ℝ) : EReal) := by
  simp [oneHalf, Ideal.ofBits, Ideal.ieee, -EReal.coe_mul, -EReal.coe_neg]; norm_num

theorem share_eq : share = ((1 / 1024 : ℝ) : EReal) := by
  simp [share, Ideal.ofBits, Ideal.ieee, -EReal.coe_mul, -EReal.coe_neg]; norm_num

/-- Two halves of the factor, one from each side of the square, make the whole. -/
theorem two_halves (e : EReal) :
    e * Ideal.div (oneHalf * 1) width + Ideal.div (oneHalf * 1) width * e = e * share := by
  rw [mul_one, div_width, oneHalf_eq, share_eq, ← EReal.coe_mul, mul_comm _ e]
  have two (y : EReal) : y + y = ((2 : ℝ) : EReal) * y := by
    rw [show ((2 : ℝ) : EReal) = 1 + 1 from by norm_cast, EReal.right_distrib_of_nonneg zero_le_one zero_le_one, one_mul]
  rw [two, mul_left_comm, ← EReal.coe_mul]
  norm_num

variable (X T : Shape.Idx ⟨2, ![4096, 1024]⟩ → EReal) (g : Fin 1024 → EReal)

/-- The loss. -/
def lossAt : EReal := oneHalf * ∑ i : Fin 4096, missSquare (line X i) g (line T i)

/-- The gradient of the rows. -/
def lossRows (i : Fin 4096) (d : Fin 1024) : EReal := normGrad (missGrad (line X i) g (line T i)) g (line X i) 0 d

/-- The gradient of the gain. -/
def lossGain (d : Fin 1024) : EReal := ∑ i : Fin 4096, missGrad (line X i) g (line T i) d * (X (ix2 i d) * rootInv (line X i))

end Cert.Common

end
-- ==== Proof.Loss.Arrays.lean ====
/- The three result arrays of the loss head after the run. -/
module

public import proofs.«01_k».proof.Proof.Gen.LossIdeal.Value
public import proofs.«01_k».proof.Proof.Common.Head
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LossIdeal.Prod

open Cert.LossIdeal Cert.LossIdeal.Gen Cert.Common

variable (m : (ℓ : Loc nD τ sig) → Buf (Elt Ideal) ℓ)

section

variable (x t : Vec Ideal S512x1024 .f32) (g o : Vec Ideal S1x1024 .f32) (l : Vec Ideal S1x128 .f32)

/-- Row `a` of a block. -/
abbrev row (x : Vec Ideal S512x1024 .f32) (a : Fin 512) (d : Fin 1024) : EReal := x (ix2 a d)
/-- The one row of the gain's block. -/
abbrev gain (g : Vec Ideal S1x1024 .f32) (d : Fin 1024) : EReal := g (ix2 0 d)

/-- One over the root of the rows' mean squares. -/
theorem rootInv_at (a : Fin 512) : k0_pay5 x (ix2 a 0) = rootInv (row x a) := by
  pointwise [k0_pay5, rootInv, square, width, tiny]

/-- The rows over the root. -/
theorem unit_at (a : Fin 512) (d : Fin 1024) : k0_pay6 x (ix2 a d) = x (ix2 a d) * rootInv (row x a) := by
  rw [← rootInv_at]
  pointwise [k0_pay6]

/-- The distance from the target. -/
theorem miss_at (a : Fin 512) (d : Fin 1024) : k0_pay7 x g t (ix2 a d) = miss (row x a) (gain g) (row t a) d := by
  unfold miss
  rw [← unit_at x a d]
  pointwise [k0_pay7]

/-- The gradient in the normed rows. -/
theorem missGrad_at (a : Fin 512) (d : Fin 1024) : k0_pay9 x g t (ix2 a d) = missGrad (row x a) (gain g) (row t a) d := by
  unfold missGrad
  rw [← miss_at]
  pointwise [k0_pay9, share]

/-- The loss: what was there and the block's rows' part. -/
theorem loss_at (n : Fin 128) : k0_pay8 x g t l (ix2 0 n)
    = l (ix2 0 n) + oneHalf * ∑ a : Fin 512, missSquare (row x a) (gain g) (row t a) := by
  have e (a : Fin 512) : missSquare (row x a) (gain g) (row t a) = Ideal.div (∑ d, k0_pay7 x g t (ix2 a d) * k0_pay7 x g t (ix2 a d)) width := by
    unfold missSquare
    exact congrArg (Ideal.div · width) (Finset.sum_congr rfl fun d _ => by rw [miss_at])
  rw [Finset.sum_congr rfl fun a _ => e a]
  pointwise [k0_pay8, oneHalf, width]

/-- The gain's gradient: what was there and the block's rows' part. -/
theorem gain_at (d : Fin 1024) : k0_pay1 (k0_pay6 x) (k0_pay9 x g t) o (ix2 0 d)
    = o (ix2 0 d) + ∑ a : Fin 512, missGrad (row x a) (gain g) (row t a) d * (x (ix2 a d) * rootInv (row x a)) := by
  rw [show (∑ a : Fin 512, missGrad (row x a) (gain g) (row t a) d * (x (ix2 a d) * rootInv (row x a)))
    = ∑ a : Fin 512, k0_pay9 x g t (ix2 a d) * k0_pay6 x (ix2 a d)
    from Finset.sum_congr rfl fun a _ => by rw [unit_at, missGrad_at]]
  pointwise [k0_pay1]

/-- The rows' gradient. -/
theorem rows_at (a : Fin 512) (d : Fin 1024) : k0_pay2 (k0_pay5 x) (k0_pay6 x) (k0_pay9 x g t) g (ix2 a d)
    = normGrad (missGrad (row x a) (gain g) (row t a)) (gain g) (row x a) 0 d := by
  unfold normGrad
  rw [zero_add, show (∑ e, missGrad (row x a) (gain g) (row t a) e * gain g e * (row x a e * rootInv (row x a)))
    = ∑ e, k0_pay9 x g t (ix2 a e) * g (ix2 0 e) * k0_pay6 x (ix2 a e)
    from Finset.sum_congr rfl fun e _ => by rw [unit_at, missGrad_at], ← missGrad_at, ← unit_at x a d, ← rootInv_at]
  pointwise [k0_pay2, width]

/-- The loss starts from zero. -/
theorem zeros_l (j : S1x128.Idx) : k0_pay4 (F := Ideal) j = 0 := by
  pointwise [k0_pay4]

/-- The gain's gradient starts from zero. -/
theorem zeros_g (j : S1x1024.Idx) : k0_pay3 (F := Ideal) j = 0 := by
  pointwise [k0_pay3]

end

/-- The block of the rows' gradient. -/
theorem dx_blk (c : Dev nD) (t : Fin cfg0.N) :
    (outsAt0 m c t.val t.isLt).2.1 = k0_pay2 (k0_pay5 (iblk m c 0 t)) (k0_pay6 (iblk m c 0 t))
      (k0_pay9 (iblk m c 0 t) (iblk m c 1 t) (iblk m c 2 t)) (iblk m c 1 t) := by
  by_cases h : t.val % 8 = 0
  · rw [outsAt0_A m c t h]; frame_out
  · rw [outsAt0_B m c t h]; frame_out

/-- At the first point the loss starts from zero. -/
theorem l_first (c : Dev nD) (t : Fin cfg0.N) (h : t.val % 8 = 0) :
    (outsAt0 m c t.val t.isLt).1 = k0_pay8 (iblk m c 0 t) (iblk m c 1 t) (iblk m c 2 t) (k0_pay4 (F := Ideal)) := by
  rw [outsAt0_A m c t h]; frame_out

/-- At a later point it is added to. -/
theorem l_step (c : Dev nD) (t : Fin cfg0.N) (h : ¬t.val % 8 = 0) :
    (outsAt0 m c t.val t.isLt).1 = k0_pay8 (iblk m c 0 t) (iblk m c 1 t) (iblk m c 2 t)
      ((outsAt0 m c (t.val - 1) (Nat.lt_of_le_of_lt (Nat.sub_le _ _) t.isLt)).1) := by
  rw [outsAt0_B m c t h]; frame_out

/-- At the first point the gain's gradient starts from zero. -/
theorem g_first (c : Dev nD) (t : Fin cfg0.N) (h : t.val % 8 = 0) :
    (outsAt0 m c t.val t.isLt).2.2 = k0_pay1 (k0_pay6 (iblk m c 0 t)) (k0_pay9 (iblk m c 0 t) (iblk m c 1 t) (iblk m c 2 t))
      (k0_pay3 (F := Ideal)) := by
  rw [outsAt0_A m c t h]; frame_out

/-- At a later point it is added to. -/
theorem g_step (c : Dev nD) (t : Fin cfg0.N) (h : ¬t.val % 8 = 0) :
    (outsAt0 m c t.val t.isLt).2.2 = k0_pay1 (k0_pay6 (iblk m c 0 t)) (k0_pay9 (iblk m c 0 t) (iblk m c 1 t) (iblk m c 2 t))
      ((outsAt0 m c (t.val - 1) (Nat.lt_of_le_of_lt (Nat.sub_le _ _) t.isLt)).2.2) := by
  rw [outsAt0_B m c t h]; frame_out

/-- Where every window's block stands. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The rows. -/
abbrev Xarr (c : Dev nD) : FVec Ideal S4096x1024 .f32 := m ((c : Thread nD τ).loc main_arg0)
/-- The gain. -/
abbrev garr (c : Dev nD) : FVec Ideal S1024 .f32 := m ((c : Thread nD τ).loc main_arg1)
/-- The targets. -/
abbrev Tarr (c : Dev nD) : FVec Ideal S4096x1024 .f32 := m ((c : Thread nD τ).loc main_arg2)
/-- The gain at a column. -/
def gfun (c : Dev nD) (d : Fin 1024) : EReal := garr m c (ix1 d)

/-- The rows' block. -/
theorem blk_x (c : Dev nD) (t : Fin cfg0.N) (a : Fin 512) (i : Fin 4096) (hi : i.val = t.val * 512 + a.val) :
    row (iblk m c 0 t) a = line (M := 4096) (Xarr m c) i := by
  funext d
  show (show FVec Ideal S512x1024 .f32 from iblk m c 0 t) (ix2 a d) = Xarr m c (ix2 i d)
  blk_ext [iblk, V, idx t]

/-- The targets' block. -/
theorem blk_t (c : Dev nD) (t : Fin cfg0.N) (a : Fin 512) (i : Fin 4096) (hi : i.val = t.val * 512 + a.val) :
    row (iblk m c 2 t) a = line (M := 4096) (Tarr m c) i := by
  funext d
  show (show FVec Ideal S512x1024 .f32 from iblk m c 2 t) (ix2 a d) = Tarr m c (ix2 i d)
  blk_ext [iblk, V, idx t]

/-- The gain's array, as the launch finds it, is the gain as one row. -/
theorem gain_row (c : Dev nD) : V m c main_v0 = shapeCast S1x1024 (garr m c) shapeCasts_S1024_S1x1024 := by
  dsimp only [V, hostOps0]
  rw [StableHlo.after_cons, StableHlo.after_nil]
  exact StableHlo.reshape_result' _ _ _ _ _

/-- The gain's block. -/
theorem blk_g (c : Dev nD) (t : Fin cfg0.N) : gain (iblk m c 1 t) = gfun m c := by
  funext d
  have h : (show FVec Ideal S1x1024 .f32 from iblk m c 1 t) (ix2 0 d) = (show FVec Ideal S1x1024 .f32 from V m c main_v0) (ix2 0 d) := by
    blk_ext [iblk, idx t]
  show (show FVec Ideal S1x1024 .f32 from iblk m c 1 t) (ix2 0 d) = garr m c (ix1 d)
  rw [h, gain_row]
  pointwise []

/-- After the run the second result holds the rows' gradient. -/
theorem final_dx (c : Dev nD) : (dats m 0 c).arrAt 4 (cfgs 0).N
    = fun i : S4096x1024.Idx => lossRows (Xarr m c) (Tarr m c) (gfun m c) (i 0) (i 1) := by
  refine (dats m 0 c).arrAt_eq_of_covers 4 _ (by decide +kernel) fun t hfl y => ?_
  have ht : t.val < 8 := lt_of_lt_of_eq t.isLt N_0
  have hy : (y 0 : ℕ) < 512 := (y 0).isLt
  have hp : t.val * 512 + (y 0 : ℕ) < 4096 := by omega
  blk_simp [idx t]
  rw [after0_4, dx_blk, eq_ix2 y]
  refine (rows_at _ _ _ (y 0) (y 1)).trans ?_
  rw [blk_x m c t (y 0) ⟨_, hp⟩ rfl, blk_t m c t (y 0) ⟨_, hp⟩ rfl, blk_g]
  have e0 : (⟨t.val * 512 + (y 0 : ℕ), hp⟩ : Fin 4096) = (win0_4.blk t).view.emb (ix2 (y 0) (y 1)) 0 :=
    Fin.ext (by blk_simp [idx t])
  have e1 : (y 1 : Fin 1024) = (win0_4.blk t).view.emb (ix2 (y 0) (y 1)) 1 := Fin.ext (by blk_simp [idx t])
  exact congrArg₂ (lossRows (Xarr m c) (Tarr m c) (gfun m c)) e0 e1

/-- Row `i`'s part of the loss. -/
def lossRow (c : Dev nD) (i : ℕ) : EReal :=
  if h : i < 4096 then missSquare (line (M := 4096) (Xarr m c) ⟨i, h⟩) (gfun m c) (line (M := 4096) (Tarr m c) ⟨i, h⟩) else 0

/-- Point `p`'s part of the loss. -/
def lossPart (c : Dev nD) (p : ℕ) : EReal := oneHalf * ∑ r : Fin 512, lossRow m c (p * 512 + r.val)

/-- A point's rows' part of the loss. -/
theorem part_loss (c : Dev nD) (t : Fin cfg0.N) :
    (oneHalf * ∑ a : Fin 512, missSquare (row (iblk m c 0 t) a) (gain (iblk m c 1 t)) (row (iblk m c 2 t) a)) = lossPart m c t.val := by
  have ht : t.val < 8 := lt_of_lt_of_eq t.isLt N_0
  refine congrArg (oneHalf * ·) (Finset.sum_congr rfl fun r _ => ?_)
  have hlt : t.val * 512 + r.val < 4096 := by omega
  unfold lossRow
  rw [dif_pos hlt, blk_x m c t r ⟨_, hlt⟩ rfl, blk_t m c t r ⟨_, hlt⟩ rfl, blk_g]

/-- All the points' parts together are the loss. -/
theorem loss_sum (c : Dev nD) : (∑ p : Fin 8, lossPart m c p.val) = lossAt (Xarr m c) (Tarr m c) (gfun m c) := by
  unfold lossAt lossPart
  rw [oneHalf_eq, ← coe_mul_sum _ (by norm_num)]
  refine congrArg _ (Fin.sum_mul_add_congr (S := 8) (n := 512) fun s k hl => ?_)
  unfold lossRow
  rw [dif_pos hl]

/-- Row `i`'s part of the gain's gradient. -/
def gainRow (c : Dev nD) (d : Fin 1024) (i : ℕ) : EReal :=
  if h : i < 4096 then missGrad (line (M := 4096) (Xarr m c) ⟨i, h⟩) (gfun m c) (line (M := 4096) (Tarr m c) ⟨i, h⟩) d
    * (Xarr m c (ix2 ⟨i, h⟩ d) * rootInv (line (M := 4096) (Xarr m c) ⟨i, h⟩)) else 0

/-- Point `p`'s part of the gain's gradient. -/
def gainPart (c : Dev nD) (d : Fin 1024) (p : ℕ) : EReal := ∑ r : Fin 512, gainRow m c d (p * 512 + r.val)

/-- A point's rows' part of the gain's gradient. -/
theorem part_gain (c : Dev nD) (t : Fin cfg0.N) (d : Fin 1024) :
    (∑ a : Fin 512, missGrad (row (iblk m c 0 t) a) (gain (iblk m c 1 t)) (row (iblk m c 2 t) a) d
      * (row (iblk m c 0 t) a d * rootInv (row (iblk m c 0 t) a))) = gainPart m c d t.val := by
  have ht : t.val < 8 := lt_of_lt_of_eq t.isLt N_0
  refine Finset.sum_congr rfl fun r _ => ?_
  have hlt : t.val * 512 + r.val < 4096 := by omega
  unfold gainRow
  rw [dif_pos hlt, blk_x m c t r ⟨_, hlt⟩ rfl, blk_t m c t r ⟨_, hlt⟩ rfl, blk_g]
  rfl

/-- All the points' parts together are the sum over all rows. -/
theorem gain_sum (c : Dev nD) (d : Fin 1024) :
    (∑ p : Fin 8, gainPart m c d p.val) = lossGain (Xarr m c) (Tarr m c) (gfun m c) d := by
  unfold lossGain gainPart
  refine Fin.sum_mul_add_congr (S := 8) (n := 512) fun s k hl => ?_
  unfold gainRow
  rw [dif_pos hl]

/-- The last grid point. -/
def lastPt : Fin cfg0.N := ⟨7, lt_of_lt_of_eq (by decide) N_0.symm⟩

/-- After the run the first result holds the loss. -/
theorem final_loss (c : Dev nD) : (dats m 0 c).arrAt 3 (cfgs 0).N
    = fun i : S1x128.Idx => lossAt (Xarr m c) (Tarr m c) (gfun m c) := by
  refine (dats m 0 c).arrAt_eq_of_after_last 3 lastPt (by decide +kernel) _ fun j => ?_
  blk_simp [idx lastPt]
  rw [after0_3, Pipeline.eq_sum_fin_of_reset_step_apply_last (fun n h => (outsAt0 m c n h).1) 8 (fun _ => 0)
    (fun p j => lossPart m c p.val)
    (fun t h j => by
      rw [l_first m c t h]
      have e : j = ix2 0 (j 1) := by rw [eq_ix2 j]; exact congrArg (fun a => ix2 a _) (Subsingleton.elim _ _)
      rw [e]
      refine (loss_at _ _ _ _ (j 1)).trans ?_
      rw [zeros_l, part_loss m c t])
    (fun t h j => by
      have e : j = ix2 0 (j 1) := by rw [eq_ix2 j]; exact congrArg (fun a => ix2 a _) (Subsingleton.elim _ _)
      rw [e, l_step m c t h]
      exact (loss_at _ _ _ _ (j 1)).trans (congrArg _ (part_loss m c t)))
    (le_of_eq N_0) lastPt rfl j, zero_add]
  exact loss_sum m c

/-- After the run the third result holds the gain's gradient. -/
theorem final_dg (c : Dev nD) : (dats m 0 c).arrAt 5 (cfgs 0).N
    = fun i : S1x1024.Idx => lossGain (Xarr m c) (Tarr m c) (gfun m c) (i 1) := by
  refine (dats m 0 c).arrAt_eq_of_after_last 5 lastPt (by decide +kernel) _ fun j => ?_
  blk_simp [idx lastPt]
  rw [after0_5, Pipeline.eq_sum_fin_of_reset_step_apply_last (fun n h => (outsAt0 m c n h).2.2) 8 (fun _ => 0)
    (fun p j => gainPart m c (j 1) p.val)
    (fun t h j => by
      rw [g_first m c t h]
      have e : j = ix2 0 (j 1) := by rw [eq_ix2 j]; exact congrArg (fun a => ix2 a _) (Subsingleton.elim _ _)
      rw [e]
      refine (gain_at _ _ _ _ (j 1)).trans ?_
      rw [zeros_g]
      exact congrArg _ (part_gain m c t (j 1)))
    (fun t h j => by
      have e : j = ix2 0 (j 1) := by rw [eq_ix2 j]; exact congrArg (fun a => ix2 a _) (Subsingleton.elim _ _)
      rw [e, g_step m c t h]
      exact (gain_at _ _ _ _ (j 1)).trans (congrArg _ (part_gain m c t (j 1))))
    (le_of_eq N_0) lastPt rfl j, zero_add]
  exact gain_sum m c (j 1)

end Cert.LossIdeal.Prod

end
-- ==== Proof.Loss.Ref.lean ====
/- The reference of the loss head at an index. -/
module

public import proofs.«01_k».proof.Proof.Gen.LossReferenceIdeal.Read
public import proofs.«01_k».proof.Proof.Common.Head
public import Idealize.ShloMosaic.Lib.Pointwise

@[expose] public section

set_option maxRecDepth 16384

noncomputable section

open Idealize.ShloMosaic Idealize.ShloMosaic.TcCoe Idealize.SL.Sem

namespace Cert.LossReferenceIdeal.Prod

open Cert.LossReferenceIdeal Cert.LossReferenceIdeal.Gen Cert.LossReferenceIdeal.Read Cert.Common

variable (X : FVec Ideal S4096x1024 .f32) (g : FVec Ideal S1024 .f32) (T : FVec Ideal S4096x1024 .f32)

/-- The gain at a column. -/
abbrev gfun (g : FVec Ideal S1024 .f32) (d : Fin 1024) : EReal := g (ix1 d)

/-- The mean square and a little more. -/
theorem square_at (i : Fin 4096) : val_main_v6 (F := Ideal) X (ix2 i 0) = square (line (M := 4096) X i) := by
  pointwise [val_main_v6, val_main_v5, val_main_cst_1, val_main_v4, val_main_v3, val_main_cst_0, val_main_v2, val_main_v1, val_main_cst,
    val_main_v0, square, width, tiny, line]

/-- One over its root. -/
theorem rootInv_at (i : Fin 4096) : val_main_v7 (F := Ideal) X (ix2 i 0) = rootInv (line (M := 4096) X i) := by
  unfold rootInv
  rw [← square_at]
  pointwise [val_main_v7]

/-- The rows over the root. -/
theorem unit_at (i : Fin 4096) (d : Fin 1024) : val_main_v12 (F := Ideal) X (ix2 i d) = X (ix2 i d) * rootInv (line (M := 4096) X i) := by
  rw [← rootInv_at]
  pointwise [val_main_v12, val_main_v11]

/-- The distance from the target. -/
theorem miss_at (i : Fin 4096) (d : Fin 1024) : val_main_v16 (F := Ideal) X g T (ix2 i d)
    = miss (line (M := 4096) X i) (gfun g) (line (M := 4096) T i) d := by
  unfold miss
  rw [show line (M := 4096) X i d * rootInv (line (M := 4096) X i) = _ from (unit_at X i d).symm]
  pointwise [val_main_v16, val_main_v15, val_main_v14, val_main_v13, line]

/-- The gradient in the normed rows. -/
theorem missGrad_at (i : Fin 4096) (d : Fin 1024) : val_main_v30 (F := Ideal) X g T (ix2 i d)
    = missGrad (line (M := 4096) X i) (gfun g) (line (M := 4096) T i) d := by
  unfold missGrad
  rw [← two_halves, ← miss_at]
  pointwise [val_main_v30, val_main_v29, val_main_v28, val_main_v27, val_main_v26, val_main_v25, val_main_cst_9, val_main_v24, val_main_v23,
    val_main_cst_7, val_main_cst_8, oneHalf, width]

/-- The rows' mean squares. -/
theorem missSquare_at (i : Fin 4096) : val_main_v20 (F := Ideal) X g T (ix1 i)
    = missSquare (line (M := 4096) X i) (gfun g) (line (M := 4096) T i) := by
  unfold missSquare
  rw [show (∑ e, miss (line (M := 4096) X i) (gfun g) (line (M := 4096) T i) e * miss (line (M := 4096) X i) (gfun g) (line (M := 4096) T i) e)
    = ∑ e, val_main_v16 (F := Ideal) X g T (ix2 i e) * val_main_v16 (F := Ideal) X g T (ix2 i e)
    from Finset.sum_congr rfl fun e _ => by rw [miss_at]]
  pointwise [val_main_v20, val_main_v19, val_main_cst_4, val_main_v18, val_main_cst_3, val_main_v17, width]

/-- The loss. -/
theorem loss_at (n : Fin 128) : val_main_v51 (F := Ideal) X g T (ix2 0 n) = lossAt X T (gfun g) := by
  unfold lossAt
  rw [show (∑ i : Fin 4096, missSquare (line (M := 4096) X i) (gfun g) (line (M := 4096) T i))
    = ∑ i : Fin 4096, val_main_v20 (F := Ideal) X g T (ix1 i)
    from Finset.sum_congr rfl fun i _ => by rw [missSquare_at]]
  pointwise [val_main_v51, val_main_v22, val_main_cst_6, val_main_v21, val_main_cst_5, oneHalf]

/-- The gain's gradient. -/
theorem dg_at (d : Fin 1024) : val_main_v52 (F := Ideal) X g T (ix2 0 d) = lossGain X T (gfun g) d := by
  unfold lossGain
  rw [show (∑ i : Fin 4096, missGrad (line (M := 4096) X i) (gfun g) (line (M := 4096) T i) d * (X (ix2 i d) * rootInv (line (M := 4096) X i)))
    = ∑ i : Fin 4096, val_main_v12 (F := Ideal) X (ix2 i d) * val_main_v30 (F := Ideal) X g T (ix2 i d)
    from Finset.sum_congr rfl fun i _ => by rw [unit_at, missGrad_at]; exact mul_comm (G := EReal) _ _]
  pointwise [val_main_v52, val_main_v36, val_main_cst_11, val_main_v33, val_main_v32, val_main_cst_10, val_main_v31]
  exact Fin.sum_univ_one _

/-- The gradient through the mean square. -/
theorem through_at (i : Fin 4096) (d : Fin 1024) : val_main_v46 (F := Ideal) X g T (ix2 i d)
    = through (missGrad (line (M := 4096) X i) (gfun g) (line (M := 4096) T i)) (gfun g) (line (M := 4096) X i) := by
  unfold through
  rw [show (∑ e, line (M := 4096) X i e * (missGrad (line (M := 4096) X i) (gfun g) (line (M := 4096) T i) e * gfun g e))
    = ∑ e, X (ix2 i e) * (val_main_v30 (F := Ideal) X g T (ix2 i e) * g (ix1 e))
    from Finset.sum_congr rfl fun e _ => by rw [missGrad_at]; rfl, ← rootInv_at, ← square_at]
  pointwise [val_main_v46, val_main_v45, val_main_cst_14, val_main_v44, val_main_v43, val_main_cst_13, val_main_v42, val_main_v10, val_main_v9,
    val_main_cst_2, val_main_v8, val_main_v39, val_main_v38, val_main_cst_12, val_main_v37, val_main_v35, val_main_v34, val_main_v13,
    width, minusHalf]
  exact Fin.sum_univ_one _

/-- The rows' gradient. -/
theorem dx_at (i : Fin 4096) (d : Fin 1024) : val_main_v50 (F := Ideal) X g T (ix2 i d) = lossRows X T (gfun g) i d := by
  unfold lossRows
  rw [normGrad_eq]
  unfold normGradRef
  rw [zero_add, ← rootInv_at, ← missGrad_at, ← through_at X g T i d]
  pointwise [val_main_v50, val_main_v49, val_main_v48, val_main_v47, val_main_v41, val_main_v40, val_main_v35, val_main_v34,
    val_main_v13, line]

/-- The first result: the loss. -/
theorem loss_meet : val_main_v51 (F := Ideal) X g T = fun i : S1x128.Idx => lossAt X T (gfun g) := by
  funext i
  have e : i = ix2 0 (i 1) := by rw [eq_ix2 i]; exact congrArg (fun a => ix2 a _) (Subsingleton.elim _ _)
  rw [e]
  exact loss_at X g T (i 1)

/-- The second result: the rows' gradient. -/
theorem dx_meet : val_main_v50 (F := Ideal) X g T = fun i : S4096x1024.Idx => lossRows X T (gfun g) (i 0) (i 1) := by
  funext i
  rw [eq_ix2 i]
  exact dx_at X g T (i 0) (i 1)

/-- The third result: the gain's gradient. -/
theorem dg_meet : val_main_v52 (F := Ideal) X g T = fun i : S1x1024.Idx => lossGain X T (gfun g) (i 1) := by
  funext i
  have e : i = ix2 0 (i 1) := by rw [eq_ix2 i]; exact congrArg (fun a => ix2 a _) (Subsingleton.elim _ _)
  rw [e]
  exact dg_at X g T (i 1)

end Cert.LossReferenceIdeal.Prod

end
-- ==== Proof.ActF.Spec.lean ====
/- The gated activation behind a causal convolution of three taps, in chunks of 512 rows. -/
module

public import proofs.«01_k».proof.Proof.Act.Spec

@[expose] public section

noncomputable section

open Idealize.ShloMosaic

namespace Cert.Act

/-- The gated activation of a row. -/
def gated (g u : EReal) : EReal := g * sigm g * u

/-- The gated activation in every row of a column. -/
def gatedCol (wu wg : Fin 3 → EReal) (u g : Fin 4096 → EReal) (r : Fin 4096) : EReal := gated (conv wg g r) (conv wu u r)

/-- A chunk of 512 rows with the 16 rows before it, zeros before the first. -/
def ext (x : Fin 4096 → EReal) (k : Fin 8) (j : Fin 528) : EReal :=
  if h : 16 ≤ 512 * k.val + j.val then x ⟨512 * k.val + j.val - 16, by omega⟩ else 0

/-- The convolution of a chunk with the rows before it is the column's. -/
theorem conv_chunk (w : Fin 3 → EReal) (x : Fin 4096 → EReal) (k : Fin 8) (r : Fin 512) (i : Fin 4096) (hi : i.val = 512 * k.val + r.val) :
    w 2 * ext x k ⟨r.val + 16, by omega⟩ + w 0 * ext x k ⟨r.val + 14, by omega⟩ + w 1 * ext x k ⟨r.val + 15, by omega⟩ = conv w x i := by
  have e0 : ext x k ⟨r.val + 16, by omega⟩ = x i := by
    unfold ext
    rw [dif_pos (by dsimp only; omega)]
    exact congrArg x (Fin.ext (by dsimp only; omega))
  have e2 : ext x k ⟨r.val + 14, by omega⟩ = before 2 x i := by
    unfold ext before
    by_cases h : 2 ≤ i.val
    · rw [dif_pos (by dsimp only; omega), dif_pos h]
      exact congrArg x (Fin.ext (by dsimp only; omega))
    · rw [dif_neg (by dsimp only; omega), dif_neg h]
  have e1 : ext x k ⟨r.val + 15, by omega⟩ = before 1 x i := by
    unfold ext before
    by_cases h : 1 ≤ i.val
    · rw [dif_pos (by dsimp only; omega), dif_pos h]
      exact congrArg x (Fin.ext (by dsimp only; omega))
    · rw [dif_neg (by dsimp only; omega), dif_neg h]
  rw [e0, e1, e2]
  unfold conv
  rw [add_assoc, add_comm]

variable (P : Shape.Idx ⟨2, ![4096, 5632]⟩ → EReal) (C : Shape.Idx ⟨2, ![3, 5632]⟩ → EReal)

/-- The activation at a row and a column of the first half. -/
def outAt (i : Fin 4096) (n : Fin 2816) : EReal := gatedCol (uCol C n) (gCol C n) (uCol P n) (gCol P n) i

end Cert.Act

end
-- ==== Proof.ActF.Pay.lean ====
/- What each payload of the gated activation's kernel is at an index. -/
module

public import proofs.«01_k».proof.Proof.Gen.ActFIdeal.Skeleton
public import proofs.«01_k».proof.Proof.ActF.Spec
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ActFIdeal.Prod

open Cert.ActFIdeal Cert.ActFIdeal.Gen Cert.Act

/-- A rotation along the rows at an index. -/
theorem rot (v : FVec Ideal S528x128 .f32) (n : BitVec 32) (k : ℕ) (hk : n.toNat = k) (h : S528x128.Rotates 0 none)
    (r q : Fin 528) (b : Fin 128) (hq : q.val = (r.val + 528 - k % 528) % 528) :
    dynamicRotate 0 n none v h (ix2 r b) = v (ix2 q b) := by
  refine dynamicRotate_apply 0 n v h _ _ fun a => ?_
  match a with
  | ⟨0, _⟩ => subst hk; exact hq
  | ⟨1, _⟩ => rfl

/-- The convolution of a chunk. -/
theorem conv_pay (E : FVec Ideal S528x128 .f32) (w2 w0 w1 : Vec Ideal S1x128 .f32) (r : Fin 512) (b : Fin 128) :
    extractStridedSlice S512x128 ![16, 0] (addf (addf (mulf (broadcastTo S528x128 w2 broadcasts_S1x128_S528x128) E)
      (mulf (broadcastTo S528x128 w0 broadcasts_S1x128_S528x128) (dynamicRotate 0 2#32 none E rotates_S528x128_d0)))
      (mulf (broadcastTo S528x128 w1 broadcasts_S1x128_S528x128) (dynamicRotate 0 1#32 none E rotates_S528x128_d0)))
      slices_S528x128_o16_0_S512x128 (ix2 r b)
    = w2 (ix2 0 b) * E (ix2 ⟨r.val + 16, by omega⟩ b) + w0 (ix2 0 b) * E (ix2 ⟨r.val + 14, by omega⟩ b)
      + w1 (ix2 0 b) * E (ix2 ⟨r.val + 15, by omega⟩ b) := by
  have h2 := rot E 2#32 2 rfl rotates_S528x128_d0 ⟨r.val + 16, by omega⟩ ⟨r.val + 14, by omega⟩ b (by dsimp only; omega)
  have h1 := rot E 1#32 1 rfl rotates_S528x128_d0 ⟨r.val + 16, by omega⟩ ⟨r.val + 15, by omega⟩ b (by dsimp only; omega)
  rw [← h2, ← h1]
  generalize dynamicRotate 0 2#32 none E rotates_S528x128_d0 = R2
  generalize dynamicRotate 0 1#32 none E rotates_S528x128_d0 = R1
  have e : (⟨r.val + 16, by omega⟩ : Fin 528) = ⟨16 + r.val, by omega⟩ := Fin.ext (Nat.add_comm _ _)
  rw [e]
  pointwise []

/-- The chunk with the rows before it. -/
theorem ext_at (x : Fin 4096 → EReal) (k : Fin k0_t1_loop.trips) (k' : Fin 8) (hk : k'.val = k.val) (p : Vec Ideal S16x128 .bf16)
    (q : Vec Ideal S512x128 .bf16) (b : Fin 128)
    (hp : ∀ (h : k'.val ≠ 0) (j : Fin 16), p (ix2 j b) = x ⟨512 * k'.val + j.val - 16, by omega⟩)
    (hq : ∀ j : Fin 512, q (ix2 j b) = x ⟨512 * k'.val + j.val, by omega⟩) (j : Fin 528) :
    k0_pay3 (F := Ideal) 0#32 1#32 k p q (ix2 j b) = ext x k' j := by
  have hs : ∀ (k : Fin k0_t1_loop.trips), Scalar.cmpi .eq (Scf.iv 0#32 1#32 k) 0#32 = if k.val = 0 then 1#1 else 0#1 := by decide +kernel
  have hz : ∀ (i : S16x128.Idx), (Scalar.select (Scalar.cmpi .eq (Scf.iv 0#32 1#32 k) 0#32)
      (broadcast S16x128 (Scalar.ofBits (F := Ideal) .f32 0x00000000#32)) (extf (F := Ideal) .f32 p bitsLt_bf16_f32) : FVec Ideal S16x128 .f32) i
      = if k.val = 0 then 0 else p i := by
    intro i
    rw [hs k]
    by_cases h : k.val = 0
    · rw [if_pos h, if_pos h]
      show broadcast S16x128 (Scalar.ofBits (F := Ideal) .f32 0x00000000#32) i = 0
      pointwise []
    · rw [if_neg h, if_neg h]
      rfl
  unfold k0_pay3
  revert hz
  generalize (Scalar.select (Scalar.cmpi .eq (Scf.iv 0#32 1#32 k) 0#32)
      (broadcast S16x128 (Scalar.ofBits (F := Ideal) .f32 0x00000000#32)) (extf (F := Ideal) .f32 p bitsLt_bf16_f32) : FVec Ideal S16x128 .f32) = Z
  intro hz
  pointwise []
  unfold ext
  by_cases h : j.val < 16
  · rw [dif_pos h, hz]
    by_cases h0 : k.val = 0
    · rw [if_pos h0, dif_neg (by omega)]
    · rw [if_neg h0, dif_pos (by omega), hp (by omega)]
  · rw [dif_neg h, dif_pos (by omega), hq]
    exact congrArg x (Fin.ext (by dsimp only; omega))

/-- The chunk's result at an index. -/
theorem gated_pay (v29 : FVec Ideal S512x128 .f32) (E : FVec Ideal S528x128 .f32) (w2 w0 w1 : Vec Ideal S1x128 .f32) (r : Fin 512) (b : Fin 128) :
    k0_pay1 v29 E w2 w0 w1 (ix2 r b) = gated (w2 (ix2 0 b) * E (ix2 ⟨r.val + 16, by omega⟩ b) + w0 (ix2 0 b) * E (ix2 ⟨r.val + 14, by omega⟩ b)
      + w1 (ix2 0 b) * E (ix2 ⟨r.val + 15, by omega⟩ b)) (v29 (ix2 r b)) := by
  rw [← conv_pay]
  unfold k0_pay1
  dsimp only
  generalize extractStridedSlice S512x128 ![16, 0] (addf (addf (mulf (broadcastTo S528x128 w2 broadcasts_S1x128_S528x128) E)
      (mulf (broadcastTo S528x128 w0 broadcasts_S1x128_S528x128) (dynamicRotate 0 2#32 none E rotates_S528x128_d0)))
      (mulf (broadcastTo S528x128 w1 broadcasts_S1x128_S528x128) (dynamicRotate 0 1#32 none E rotates_S528x128_d0)))
      slices_S528x128_o16_0_S512x128 = C
  pointwise [gated, sigm, half]

end Cert.ActFIdeal.Prod

end
-- ==== Proof.ActF.Arrays.lean ====
/- The result array of the gated activation after the run. -/
module

public import proofs.«01_k».proof.Proof.Gen.ActFIdeal.Value
public import proofs.«01_k».proof.Proof.ActF.Pay
public import Idealize.ShloMosaic.Lib.WholeRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ActFIdeal.Prod

open Cert.ActFIdeal Cert.ActFIdeal.Gen Cert.Act

/-- A chunk's result at an index, out of the rows and taps it loads. -/
theorem chunk (k : Fin k0_t1_loop.trips) (k' : Fin 8) (hk : k'.val = k.val) (u g : Fin 4096 → EReal) (wu wg : Fin 3 → EReal)
    (P0 P1 : Vec Ideal S16x128 .bf16) (Q0 Q1 : Vec Ideal S512x128 .bf16) (a2 a0 a1 c2 c0 c1 : Vec Ideal S1x128 .f32)
    (r : Fin 512) (b : Fin 128) (i : Fin 4096) (hi : i.val = 512 * k'.val + r.val)
    (hP0 : ∀ (h : k'.val ≠ 0) (j : Fin 16), P0 (ix2 j b) = u ⟨512 * k'.val + j.val - 16, by omega⟩)
    (hQ0 : ∀ j : Fin 512, Q0 (ix2 j b) = u ⟨512 * k'.val + j.val, by omega⟩)
    (hP1 : ∀ (h : k'.val ≠ 0) (j : Fin 16), P1 (ix2 j b) = g ⟨512 * k'.val + j.val - 16, by omega⟩)
    (hQ1 : ∀ j : Fin 512, Q1 (ix2 j b) = g ⟨512 * k'.val + j.val, by omega⟩)
    (ha2 : a2 (ix2 0 b) = wu 2) (ha0 : a0 (ix2 0 b) = wu 0) (ha1 : a1 (ix2 0 b) = wu 1)
    (hc2 : c2 (ix2 0 b) = wg 2) (hc0 : c0 (ix2 0 b) = wg 0) (hc1 : c1 (ix2 0 b) = wg 1) :
    k0_pay1 (k0_pay2 0#32 1#32 k P0 Q0 a2 a0 a1) (k0_pay3 0#32 1#32 k P1 Q1) c2 c0 c1 (ix2 r b) = gatedCol wu wg u g i := by
  have hu := conv_pay (k0_pay3 (F := Ideal) 0#32 1#32 k P0 Q0) a2 a0 a1 r b
  rw [gated_pay]
  unfold gatedCol
  refine congrArg₂ gated ?_ (Eq.trans hu ?_)
  · rw [ext_at g k k' hk P1 Q1 b hP1 hQ1, ext_at g k k' hk P1 Q1 b hP1 hQ1, ext_at g k k' hk P1 Q1 b hP1 hQ1, hc2, hc0, hc1]
    exact conv_chunk wg g k' r i hi
  · rw [ext_at u k k' hk P0 Q0 b hP0 hQ0, ext_at u k k' hk P0 Q0 b hP0 hQ0, ext_at u k k' hk P0 Q0 b hP0 hQ0, ha2, ha0, ha1]
    exact conv_chunk wu u k' r i hi

/-- Where a chunk's preceding rows stand. -/
theorem off1 : ∀ k : Fin k0_t1_loop.trips, k0_off1 k = ![512 * k.val - 16, 0] := by decide +kernel

/-- There are eight chunks. -/
theorem trips : k0_t1_loop.trips = 8 := by decide +kernel

/-- A preceding row is a row. -/
theorem at16 (k : Fin k0_t1_loop.trips) (j : Fin 16) : 512 * k.val + j.val - 16 < 4096 := by
  have h : k.val < 8 := lt_of_lt_of_eq k.isLt trips
  omega

/-- A chunk's row is a row. -/
theorem at512 (k : Fin k0_t1_loop.trips) (j : Fin 512) : 512 * k.val + j.val < 4096 := by
  have h : k.val < 8 := lt_of_lt_of_eq k.isLt trips
  omega

/-- A load of the preceding rows. -/
theorem rows16 (X : Vec Ideal S4096x128 .bf16) (k : Fin k0_t1_loop.trips) (k' : Fin 8) (hk : k'.val = k.val) (b : Fin 128) (h : k'.val ≠ 0) (j : Fin 16) :
    View.ld X (Rect.unit (s := S4096x128) (k0_off1 k) S16x128.size (k0_off1_inb k)) (ix2 j b)
      = col (M := 4096) (N := 128) X b ⟨512 * k'.val + j.val - 16, by omega⟩ := by
  refine View.ld_unit_apply_of (i := ix2 ⟨512 * k'.val + j.val - 16, by omega⟩ b) X _ _ _ _ fun a => ?_
  match a with
  | ⟨0, _⟩ => show 512 * k'.val + j.val - 16 = k0_off1 k 0 + j.val; rw [off1]; show _ = 512 * k.val - 16 + j.val; omega
  | ⟨1, _⟩ => show b.val = k0_off1 k 1 + b.val; rw [off1]; exact (Nat.zero_add _).symm

/-- A load of the chunk's rows. -/
theorem rows512 (X : Vec Ideal S4096x128 .bf16) (k : Fin k0_t1_loop.trips) (k' : Fin 8) (hk : k'.val = k.val) (b : Fin 128) (j : Fin 512) :
    View.ld X (Rect.unit (s := S4096x128) (k0_off2 k) S512x128.size (k0_off2_inb k)) (ix2 j b)
      = col (M := 4096) (N := 128) X b ⟨512 * k'.val + j.val, by omega⟩ := by
  refine View.ld_unit_apply_of (i := ix2 ⟨512 * k'.val + j.val, by omega⟩ b) X _ _ _ _ fun a => ?_
  match a with
  | ⟨0, _⟩ => show 512 * k'.val + j.val = k0_off2 k 0 + j.val; rw [k0_off2_eq]; show _ = 512 * k.val + j.val; omega
  | ⟨1, _⟩ => show b.val = k0_off2 k 1 + b.val; rw [k0_off2_eq]; exact (Nat.zero_add _).symm

/-- A load of a tap's row. -/
theorem tap (X : Vec Ideal S3x128 .f32) (j : Fin 3) (inb) (b : Fin 128) :
    View.ld X (Rect.unit (s := S3x128) ![j.val, 0] S1x128.size inb) (ix2 0 b) = col (M := 3) (N := 128) X b j := by
  refine View.ld_unit_apply_of (i := ix2 j b) X _ _ _ _ fun a => ?_
  match a with
  | ⟨0, _⟩ => rfl
  | ⟨1, _⟩ => exact (Nat.zero_add _).symm

section

variable (x0 x1 : Vec Ideal S4096x128 .bf16) (x2 x3 : Vec Ideal S3x128 .f32)

/-- The activation over a point's blocks. -/
def block (y : S4096x128.Idx) : EReal :=
  gatedCol (col (M := 3) (N := 128) x2 (y 1)) (col (M := 3) (N := 128) x3 (y 1)) (col (M := 4096) (N := 128) x0 (y 1))
    (col (M := 4096) (N := 128) x1 (y 1)) (y 0)

/-- What a trip computes from its loads is the activation's rows. -/
theorem stored (k : Fin k0_t1_loop.trips)
    (P0 P1 : Vec Ideal S16x128 .bf16) (Q0 Q1 : Vec Ideal S512x128 .bf16) (a2 a0 a1 c2 c0 c1 : Vec Ideal S1x128 .f32)
    (hP0 : ∀ (j : Fin 16) (b : Fin 128) (h : k.val ≠ 0), P0 (ix2 j b) = col (M := 4096) (N := 128) x0 b ⟨512 * k.val + j.val - 16, at16 k j⟩)
    (hQ0 : ∀ (j : Fin 512) (b : Fin 128), Q0 (ix2 j b) = col (M := 4096) (N := 128) x0 b ⟨512 * k.val + j.val, at512 k j⟩)
    (hP1 : ∀ (j : Fin 16) (b : Fin 128) (h : k.val ≠ 0), P1 (ix2 j b) = col (M := 4096) (N := 128) x1 b ⟨512 * k.val + j.val - 16, at16 k j⟩)
    (hQ1 : ∀ (j : Fin 512) (b : Fin 128), Q1 (ix2 j b) = col (M := 4096) (N := 128) x1 b ⟨512 * k.val + j.val, at512 k j⟩)
    (ha2 : ∀ b : Fin 128, a2 (ix2 0 b) = col (M := 3) (N := 128) x2 b 2) (ha0 : ∀ b : Fin 128, a0 (ix2 0 b) = col (M := 3) (N := 128) x2 b 0)
    (ha1 : ∀ b : Fin 128, a1 (ix2 0 b) = col (M := 3) (N := 128) x2 b 1) (hc2 : ∀ b : Fin 128, c2 (ix2 0 b) = col (M := 3) (N := 128) x3 b 2)
    (hc0 : ∀ b : Fin 128, c0 (ix2 0 b) = col (M := 3) (N := 128) x3 b 0) (hc1 : ∀ b : Fin 128, c1 (ix2 0 b) = col (M := 3) (N := 128) x3 b 1)
    (x : S512x128.Idx) :
    k0_pay1 (k0_pay2 0#32 1#32 k P0 Q0 a2 a0 a1) (k0_pay3 0#32 1#32 k P1 Q1) c2 c0 c1 x
      = block x0 x1 x2 x3 ((Rect.unit (s := S4096x128) (k0_off2 k) S512x128.size (k0_off2_inb k)).emb x) := by
  have h0 : ((Rect.unit (s := S4096x128) (k0_off2 k) S512x128.size (k0_off2_inb k)).emb x 0 : ℕ) = 512 * k.val + (x 0 : ℕ) := by
    show k0_off2 k 0 + 1 * (x 0 : ℕ) = _
    rw [k0_off2_eq, Nat.one_mul]
    rfl
  have h1 : (Rect.unit (s := S4096x128) (k0_off2 k) S512x128.size (k0_off2_inb k)).emb x 1 = x 1 := Fin.ext (by
    show k0_off2 k 1 + 1 * (x 1 : ℕ) = _
    rw [k0_off2_eq, Nat.one_mul]
    exact Nat.zero_add _)
  unfold block
  generalize (Rect.unit (s := S4096x128) (k0_off2 k) S512x128.size (k0_off2_inb k)).emb x = y at h0 h1 ⊢
  refine (congrArg (k0_pay1 (k0_pay2 0#32 1#32 k P0 Q0 a2 a0 a1) (k0_pay3 0#32 1#32 k P1 Q1) c2 c0 c1) (eq_ix2 x)).trans ?_
  rw [h1]
  exact chunk k ⟨k.val, lt_of_lt_of_eq k.isLt trips⟩ rfl _ _ _ _ _ _ _ _ _ _ _ _ _ _ (x 0) (x 1) (y 0) h0
    (fun h j => hP0 j _ h) (fun j => hQ0 j _) (fun h j => hP1 j _ h) (fun j => hQ1 j _)
    (ha2 _) (ha0 _) (ha1 _) (hc2 _) (hc0 _) (hc1 _)

/-- What a trip stores is the activation's rows. -/
theorem trip_piece (c : Dev nD) (i : grid0.Coords) (arg1 : Memref sig .tc .vmem S4096x128 .bf16) (harg1 : arg1.IsWhole) (arg2 : Memref sig .tc .vmem S4096x128 .bf16) (harg2 : arg2.IsWhole)
    (arg3 : Memref sig .tc .vmem S3x128 .f32) (harg3 : arg3.IsWhole) (arg4 : Memref sig .tc .vmem S3x128 .f32) (harg4 : arg4.IsWhole)
    (arg5 : Memref sig .tc .vmem S4096x128 .bf16) (harg5 : arg5.IsWhole)
    (k : Fin k0_t1_loop.trips) : ∀ p ∈ tripL_k0_t1 (F := Ideal) Variants.none c none i arg1 harg1 arg2 harg2 arg3 harg3 arg4 harg4 arg5 harg5 (harg1.unread x0) (harg2.unread x1)
      (harg3.unread x2) (harg4.unread x3) k,
      ∀ x : p.1.shape.Idx, p.2 x = block x0 x1 x2 x3 (p.1.emb x) := by
  unfold tripL_k0_t1 trip_k0_t1
  dsimp only
  intro p hp
  obtain rfl := List.mem_singleton.mp hp
  exact stored x0 x1 x2 x3 k _ _ _ _ _ _ _ _ _ _
    (fun j b h => (harg1.readAt_unread x0 _ _).trans (rows16 x0 k ⟨k.val, lt_of_lt_of_eq k.isLt trips⟩ rfl b h j))
    (fun j b => (harg1.readAt_unread x0 _ _).trans (rows512 x0 k ⟨k.val, lt_of_lt_of_eq k.isLt trips⟩ rfl b j))
    (fun j b h => (harg2.readAt_unread x1 _ _).trans (rows16 x1 k ⟨k.val, lt_of_lt_of_eq k.isLt trips⟩ rfl b h j))
    (fun j b => (harg2.readAt_unread x1 _ _).trans (rows512 x1 k ⟨k.val, lt_of_lt_of_eq k.isLt trips⟩ rfl b j))
    (fun b => (harg3.readAt_unread x2 _ _).trans (tap x2 2 _ b)) (fun b => (harg3.readAt_unread x2 _ _).trans (tap x2 0 _ b))
    (fun b => (harg3.readAt_unread x2 _ _).trans (tap x2 1 _ b)) (fun b => (harg4.readAt_unread x3 _ _).trans (tap x3 2 _ b))
    (fun b => (harg4.readAt_unread x3 _ _).trans (tap x3 0 _ b)) (fun b => (harg4.readAt_unread x3 _ _).trans (tap x3 1 _ b))

/-- What the first trips store is the activation's rows. -/
theorem trips_pieces (c : Dev nD) (i : grid0.Coords) (arg1 : Memref sig .tc .vmem S4096x128 .bf16) (harg1 : arg1.IsWhole) (arg2 : Memref sig .tc .vmem S4096x128 .bf16) (harg2 : arg2.IsWhole)
    (arg3 : Memref sig .tc .vmem S3x128 .f32) (harg3 : arg3.IsWhole) (arg4 : Memref sig .tc .vmem S3x128 .f32) (harg4 : arg4.IsWhole)
    (arg5 : Memref sig .tc .vmem S4096x128 .bf16) (harg5 : arg5.IsWhole) :
    ∀ n : ℕ, n ≤ k0_t1_loop.trips → ∀ p ∈ pb_k0_t1 (F := Ideal) Variants.none c none i arg1 harg1 arg2 harg2 arg3 harg3 arg4 harg4 arg5 harg5 (harg1.unread x0) (harg2.unread x1)
      (harg3.unread x2) (harg4.unread x3) n,
      ∀ x : p.1.shape.Idx, p.2 x = block x0 x1 x2 x3 (p.1.emb x)
  | 0, _, p, hp => by
    rw [pb_k0_t1.eq_1] at hp
    exact absurd hp List.not_mem_nil
  | n + 1, h, p, hp => by
    rw [pb_k0_t1_succ (F := Ideal) Variants.none c none i arg1 harg1 arg2 harg2 arg3 harg3 arg4 harg4 arg5 harg5 (harg1.unread x0) (harg2.unread x1)
      (harg3.unread x2) (harg4.unread x3) ⟨n, h⟩] at hp
    rcases List.mem_append.mp hp with hp | hp
    · exact trip_piece x0 x1 x2 x3 c i arg1 harg1 arg2 harg2 arg3 harg3 arg4 harg4 arg5 harg5 ⟨n, h⟩ p hp
    · exact trips_pieces c i arg1 harg1 arg2 harg2 arg3 harg3 arg4 harg4 arg5 harg5 n (Nat.le_of_succ_le h) p hp

/-- What a point leaves in its block. -/
theorem left (c : Dev nD) (i : grid0.Coords) (arg1 : Memref sig .tc .vmem S4096x128 .bf16) (harg1 : arg1.IsWhole) (arg2 : Memref sig .tc .vmem S4096x128 .bf16) (harg2 : arg2.IsWhole)
    (arg3 : Memref sig .tc .vmem S3x128 .f32) (harg3 : arg3.IsWhole) (arg4 : Memref sig .tc .vmem S3x128 .f32) (harg4 : arg4.IsWhole)
    (arg5 : Memref sig .tc .vmem S4096x128 .bf16) (harg5 : arg5.IsWhole) (y : S4096x128.Idx) :
    out0_A_4 (F := Ideal) c i arg1 harg1 arg2 harg2 arg3 harg3 arg4 harg4 arg5 harg5 x0 x1 x2 x3 y = block x0 x1 x2 x3 y := by
  refine View.read_writes_apply_of_pieces VO0_4 _ _ _ ?_ y (cover0_A_4 (F := Ideal) c i arg1 harg1 arg2 harg2 arg3 harg3 arg4 harg4 arg5 harg5 x0 x1 x2 x3 y)
  unfold kernelRun0_A
  dsimp only
  exact trips_pieces x0 x1 x2 x3 c i arg1 harg1 arg2 harg2 arg3 harg3 arg4 harg4 arg5 harg5 _ le_rfl

end

variable (m : (ℓ : Loc nD τ sig) → Buf (Elt Ideal) ℓ)

/-- Where every window's block stands: 128 columns of the value, and the same columns of the gate, which stands behind it. -/
theorem idx : ∀ t : Fin cfg0.N, win0_0.index t = ![0, t.val] ∧ win0_1.index t = ![0, t.val + 22] ∧ win0_2.index t = ![0, t.val]
    ∧ win0_3.index t = ![0, t.val + 22] ∧ win0_4.index t = ![0, t.val] :=
  (by decide +kernel : ∀ t : Fin grid0.N, _)

/-- The value and the gate before the convolution, side by side. -/
abbrev Parr (c : Dev nD) : FVec Ideal S4096x5632 .bf16 := m ((c : Thread nD τ).loc main_arg0)
/-- The taps of both. -/
abbrev Carr (c : Dev nD) : FVec Ideal S3x5632 .f32 := m ((c : Thread nD τ).loc main_arg1)

/-- A column of the value's block. -/
theorem blk_u (c : Dev nD) (t : Fin cfg0.N) (b : Fin 128) (n : Fin 2816) (hn : n.val = t.val * 128 + b.val) :
    col (M := 4096) (N := 128) (iblk m c 0 t) b = uCol (Parr m c) n := by
  funext r
  show (show FVec Ideal S4096x128 .bf16 from iblk m c 0 t) (ix2 r b) = Parr m c (ix2 r (low n))
  have h : (low n).val = t.val * 128 + b.val := hn
  blk_ext [iblk, V, idx t]

/-- A column of the gate's block. -/
theorem blk_g (c : Dev nD) (t : Fin cfg0.N) (b : Fin 128) (n : Fin 2816) (hn : n.val = t.val * 128 + b.val) :
    col (M := 4096) (N := 128) (iblk m c 1 t) b = gCol (Parr m c) n := by
  funext r
  show (show FVec Ideal S4096x128 .bf16 from iblk m c 1 t) (ix2 r b) = Parr m c (ix2 r (high n))
  have h : (high n).val = (t.val + 22) * 128 + b.val := by show n.val + 2816 = _; omega
  blk_ext [iblk, V, idx t]

/-- The value's taps. -/
theorem blk_wu (c : Dev nD) (t : Fin cfg0.N) (b : Fin 128) (n : Fin 2816) (hn : n.val = t.val * 128 + b.val) :
    col (M := 3) (N := 128) (iblk m c 2 t) b = uCol (Carr m c) n := by
  funext r
  show (show FVec Ideal S3x128 .f32 from iblk m c 2 t) (ix2 r b) = Carr m c (ix2 r (low n))
  have h : (low n).val = t.val * 128 + b.val := hn
  blk_ext [iblk, V, idx t]

/-- The gate's taps. -/
theorem blk_wg (c : Dev nD) (t : Fin cfg0.N) (b : Fin 128) (n : Fin 2816) (hn : n.val = t.val * 128 + b.val) :
    col (M := 3) (N := 128) (iblk m c 3 t) b = gCol (Carr m c) n := by
  funext r
  show (show FVec Ideal S3x128 .f32 from iblk m c 3 t) (ix2 r b) = Carr m c (ix2 r (high n))
  have h : (high n).val = (t.val + 22) * 128 + b.val := by show n.val + 2816 = _; omega
  blk_ext [iblk, V, idx t]

/-- A point's block is the array's columns. -/
theorem block_at (c : Dev nD) (t : Fin cfg0.N) (y : S4096x128.Idx) (n : Fin 2816) (hn : n.val = t.val * 128 + (y 1).val) :
    block (iblk m c 0 t) (iblk m c 1 t) (iblk m c 2 t) (iblk m c 3 t) y = outAt (Parr m c) (Carr m c) (y 0) n := by
  unfold block outAt
  rw [blk_u m c t (y 1) n hn, blk_g m c t (y 1) n hn, blk_wu m c t (y 1) n hn, blk_wg m c t (y 1) n hn]

/-- After the run the result holds the gated activation. -/
theorem final (c : Dev nD) : (dats m 0 c).arrAt 4 (cfgs 0).N
    = fun i : S4096x2816.Idx => outAt (Parr m c) (Carr m c) (i 0) (i 1) := by
  refine (dats m 0 c).arrAt_eq_of_covers 4 _ (by decide +kernel) fun t hfl y => ?_
  have ht : t.val < 22 := lt_of_lt_of_eq t.isLt N_0
  have hy : (y 1 : ℕ) < 128 := (y 1).isLt
  have hp : t.val * 128 + (y 1 : ℕ) < 2816 := by omega
  blk_simp [idx t]
  show outsAt0 m c t y = _
  unfold outsAt0
  refine (left _ _ _ _ c _ _ _ _ _ _ _ _ _ _ _ y).trans ((block_at m c t y ⟨t.val * 128 + (y 1 : ℕ), hp⟩ rfl).trans ?_)
  have e0 : y 0 = (win0_4.blk t).view.emb y 0 := Fin.ext (by blk_simp [idx t])
  have e1 : (⟨t.val * 128 + (y 1 : ℕ), hp⟩ : Fin 2816) = (win0_4.blk t).view.emb y 1 := Fin.ext (by blk_simp [idx t])
  exact congrArg₂ (outAt (Parr m c) (Carr m c)) e0 e1

end Cert.ActFIdeal.Prod

end
-- ==== Proof.ActF.Ref.lean ====
/- The reference of the gated activation at an index. -/
module

public import proofs.«01_k».proof.Proof.Gen.ActFReferenceIdeal.Read
public import proofs.«01_k».proof.Proof.ActF.Spec
public import proofs.«01_k».proof.Proof.Common.Gelu
public import Idealize.ShloMosaic.Lib.Pointwise

@[expose] public section

set_option maxRecDepth 16384

noncomputable section

open Idealize.ShloMosaic Idealize.ShloMosaic.TcCoe Idealize.SL.Sem

namespace Cert.ActFReferenceIdeal.Prod

open Cert.ActFReferenceIdeal Cert.ActFReferenceIdeal.Gen Cert.ActFReferenceIdeal.Read Cert.Act Cert.Common

variable (P : FVec Ideal S4096x5632 .bf16) (C : FVec Ideal S3x5632 .f32)

/-- The rows moved down by two. -/
theorem down2 (i : Fin 4096) (n : Fin 5632) :
    val_main_v3 (F := Ideal) P (ix2 i n) = before 2 (fun r => P (ix2 r n)) i := by
  pointwise [val_main_v3, val_main_v2, val_main_v1, val_main_v0, val_main_cst]
  unfold before
  by_cases h : i.val < 2
  · rw [dif_pos h, dif_neg (by omega)]
  · rw [dif_neg h, dif_pos (by omega)]

/-- The rows moved down by one. -/
theorem down1 (i : Fin 4096) (n : Fin 5632) :
    val_main_v9 (F := Ideal) P (ix2 i n) = before 1 (fun r => P (ix2 r n)) i := by
  pointwise [val_main_v9, val_main_v2, val_main_v1, val_main_v0, val_main_cst]
  unfold before
  by_cases h : 1 ≤ i.val
  · rw [dif_neg (by omega), dif_pos h]
    exact congrArg (fun r => P (ix2 r n)) (Fin.ext (by dsimp only; omega))
  · rw [dif_pos (by omega), dif_neg h]

/-- The rows themselves. -/
theorem down0 (i : Fin 4096) (n : Fin 5632) :
    val_main_v16 (F := Ideal) P (ix2 i n) = P (ix2 i n) := by
  pointwise [val_main_v16, val_main_v2, val_main_v1, val_main_v0, val_main_cst]

/-- The convolution. -/
theorem conv_at (i : Fin 4096) (n : Fin 5632) :
    val_main_v22 (F := Ideal) P C (ix2 i n) = conv (fun k => C (ix2 k n)) (fun r => P (ix2 r n)) i := by
  unfold conv
  rw [← down2, ← down1]
  refine Eq.trans ?_ (congrArg (fun t => C (ix2 0 n) * val_main_v3 (F := Ideal) P (ix2 i n) + C (ix2 1 n) * val_main_v9 (F := Ideal) P (ix2 i n)
    + C (ix2 2 n) * t) (down0 P i n))
  beta_reduce
  pointwise [val_main_v22, val_main_v21, val_main_v20, val_main_v19, val_main_v18, val_main_v17, val_main_v15, val_main_v14,
    val_main_v13, val_main_v12, val_main_v11, val_main_v10, val_main_v8, val_main_v7, val_main_v6, val_main_v5, val_main_v4]
  rw [mul_comm (G := EReal) (C (ix2 0 n)), mul_comm (G := EReal) (C (ix2 1 n)), mul_comm (G := EReal) (C (ix2 2 n))]

/-- The value behind the convolution. -/
theorem up_at (i : Fin 4096) (n : Fin 2816) :
    val_main_v23 (F := Ideal) P C (ix2 i n) = conv (uCol C n) (uCol P n) i := by
  refine Eq.trans ?_ (conv_at P C i (low n))
  pointwise [val_main_v23]
  rfl

/-- The gate behind the convolution. -/
theorem gate_at (i : Fin 4096) (n : Fin 2816) :
    val_main_v24 (F := Ideal) P C (ix2 i n) = conv (gCol C n) (gCol P n) i := by
  refine Eq.trans ?_ (conv_at P C i (high n))
  pointwise [val_main_v24]
  exact congrArg (fun k => val_main_v22 (F := Ideal) P C (ix2 i k)) (Fin.ext (Nat.add_comm _ _))

/-- The result at an index. -/
theorem out_at (i : Fin 4096) (n : Fin 2816) : val_main_v27 (F := Ideal) P C (ix2 i n) = outAt P C i n := by
  unfold outAt gatedCol gated
  rw [sigm_eq, ← up_at, ← gate_at]
  pointwise [val_main_v27, val_main_v26, val_main_v25, val_main_call0_v5, val_main_call0_v4, val_main_call0_cst_0, val_main_call0_v3,
    val_main_call0_v2, val_main_call0_cst, val_main_call0_v1, val_main_call0_v0, logi]

/-- The result. -/
theorem meet : val_main_v27 (F := Ideal) P C = fun i : S4096x2816.Idx => outAt P C (i 0) (i 1) := by
  funext i
  rw [eq_ix2 i]
  exact out_at P C (i 0) (i 1)

end Cert.ActFReferenceIdeal.Prod

end
-- ==== Proof.GateF.Spec.lean ====
/- The gates of the gated delta rule: the logistic function of one column, and a decay rate by the soft plus of another. -/
module

public import proofs.«01_k».proof.Proof.Common.Gelu
public import proofs.«01_k».proof.Proof.XAttn.Spec

@[expose] public section

noncomputable section

open Idealize.ShloMosaic

namespace Cert.GateF

open Cert.Act Cert.XAttn

/-- The soft plus. -/
def soft (z : EReal) : EReal := max z 0 + Ideal.log1p (Ideal.exp (0 - FloatOps.absf (F := Ideal) (φ := .f32) z))

/-- The decay rate. -/
def rate (a z : EReal) : EReal := (0 - Ideal.exp a) * soft z

/-- A head's strength, at a row and a column of the widened result. -/
def betaAt {N : ℕ} (X : Shape.Idx ⟨2, ![N, 128]⟩ → EReal) (i : Fin N) (n : ℕ) : EReal := sigm (entry X i (n / 128))

/-- A head's decay, at a row and a column of the widened result. -/
def decayAt {N : ℕ} (X : Shape.Idx ⟨2, ![N, 128]⟩ → EReal) (A D : Shape.Idx ⟨2, ![1, 1024]⟩ → EReal) (i : Fin N) (n : ℕ) : EReal :=
  rate (entry A 0 n) (entry X i (8 + n / 128) + entry D 0 n)

end Cert.GateF

end
-- ==== Proof.GateF.Arrays.lean ====
/- The two result arrays of the gates after the run. -/
module

public import proofs.«01_k».proof.Proof.Gen.GateFIdeal.Value
public import proofs.«01_k».proof.Proof.GateF.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateFIdeal.Prod

open Cert.GateFIdeal Cert.GateFIdeal.Gen Cert.Act Cert.GateF Cert.XAttn

section

variable (v : Vec Ideal S512x128 .f32) (a d : Vec Ideal S1x128 .f32) (r : Fin 512) (b : Fin 128)

/-- Head 0's strength. -/
theorem beta0 : k0_pay2 v (ix2 r b) = sigm (v (ix2 r 0)) := by
  pointwise [k0_pay2, sigm, half]

/-- Head 1's strength. -/
theorem beta1 : k0_pay7 (k0_pay4 v) (k0_pay6 (F := Ideal)) (ix2 r b) = sigm (v (ix2 r 1)) := by
  pointwise [k0_pay4, k0_pay6, k0_pay7, sigm, half]

/-- Head 2's strength. -/
theorem beta2 : k0_pay10 v (ix2 r b) = sigm (v (ix2 r 2)) := by
  pointwise [k0_pay10, sigm, half]

/-- Head 3's strength. -/
theorem beta3 : k0_pay12 v (ix2 r b) = sigm (v (ix2 r 3)) := by
  pointwise [k0_pay12, sigm, half]

/-- Head 4's strength. -/
theorem beta4 : k0_pay16 v (ix2 r b) = sigm (v (ix2 r 4)) := by
  pointwise [k0_pay16, sigm, half]

/-- Head 5's strength. -/
theorem beta5 : k0_pay18 v (ix2 r b) = sigm (v (ix2 r 5)) := by
  pointwise [k0_pay18, sigm, half]

/-- Head 6's strength. -/
theorem beta6 : k0_pay23 (k0_pay20 v) (k0_pay22 (F := Ideal)) (ix2 r b) = sigm (v (ix2 r 6)) := by
  pointwise [k0_pay20, k0_pay22, k0_pay23, sigm, half]

/-- Head 7's strength. -/
theorem beta7 : k0_pay26 v (ix2 r b) = sigm (v (ix2 r 7)) := by
  pointwise [k0_pay26, sigm, half]

/-- Head 0's decay. -/
theorem decay0 : k0_pay3 v a d (ix2 r b) = rate (a (ix2 0 b)) (v (ix2 r 8) + d (ix2 0 b)) := by
  pointwise [k0_pay3, rate, soft]

/-- Head 1's decay. -/
theorem decay1 : k0_pay8 (k0_pay5 v) a d (ix2 r b) = rate (a (ix2 0 b)) (v (ix2 r 9) + d (ix2 0 b)) := by
  pointwise [k0_pay5, k0_pay8, rate, soft]

/-- Head 2's decay. -/
theorem decay2 : k0_pay11 (k0_pay9 v) a d (ix2 r b) = rate (a (ix2 0 b)) (v (ix2 r 10) + d (ix2 0 b)) := by
  pointwise [k0_pay11, k0_pay9, rate, soft]

/-- Head 3's decay. -/
theorem decay3 : k0_pay15 (k0_pay13 a) (k0_pay14 v d) (ix2 r b) = rate (a (ix2 0 b)) (v (ix2 r 11) + d (ix2 0 b)) := by
  pointwise [k0_pay13, k0_pay14, k0_pay15, rate, soft]

/-- Head 4's decay. -/
theorem decay4 : k0_pay17 v a d (ix2 r b) = rate (a (ix2 0 b)) (v (ix2 r 12) + d (ix2 0 b)) := by
  pointwise [k0_pay17, rate, soft]

/-- Head 5's decay. -/
theorem decay5 : k0_pay19 v a d (ix2 r b) = rate (a (ix2 0 b)) (v (ix2 r 13) + d (ix2 0 b)) := by
  pointwise [k0_pay19, rate, soft]

/-- Head 6's decay. -/
theorem decay6 : k0_pay24 (k0_pay21 v) a d (ix2 r b) = rate (a (ix2 0 b)) (v (ix2 r 14) + d (ix2 0 b)) := by
  pointwise [k0_pay21, k0_pay24, rate, soft]

/-- Head 7's decay. -/
theorem decay7 : k0_pay1 (k0_pay25 v) a d (ix2 r b) = rate (a (ix2 0 b)) (v (ix2 r 15) + d (ix2 0 b)) := by
  pointwise [k0_pay1, k0_pay25, rate, soft]

end

/-- A load of 128 columns of a row. -/
theorem ld_row (A : Vec Ideal S1x1024 .f32) (o : ℕ) (inb) (b : Fin 128) (n : ℕ) (hn : n = o + b.val) (hb : n < 1024) :
    View.ld A (Rect.unit (s := S1x1024) ![0, o] S1x128.size inb) (ix2 0 b) = entry (R := 1) (C := 1024) A 0 n := by
  unfold entry
  refine View.ld_unit_apply_of (i := ix2 0 ⟨n % 1024, Nat.mod_lt _ (by decide)⟩) A _ _ _ _ fun a => ?_
  match a with
  | ⟨0, _⟩ => rfl
  | ⟨1, _⟩ => show n % 1024 = o + b.val; omega

/-- An entry of the block, by its column. -/
theorem entry_at (X : Vec Ideal S512x128 .f32) (r : Fin 512) (q : Fin 128) (n : ℕ) (hq : q.val = n) :
    X (ix2 r q) = entry (R := 512) (C := 128) X r n := by
  subst hq
  exact congrArg (fun k => X (ix2 r k)) (Fin.ext (Nat.mod_eq_of_lt q.isLt).symm)

section

variable (X : Vec Ideal S512x128 .f32) (A D : Vec Ideal S1x1024 .f32)

/-- A head's strength is the block's at the head's columns. -/
theorem beta_piece (f : S512x128.Idx → EReal) (q : Fin 128) (hf : ∀ r b, f (ix2 r b) = sigm (X (ix2 r q)))
    (x : S512x128.Idx) (r : Fin 512) (n : ℕ) (hr : r.val = (x 0).val) (hn : n = 128 * q.val + (x 1).val) (hq : q.val < 8) :
    f x = betaAt X r n := by
  have h1 : (x 1).val < 128 := (x 1).isLt
  obtain rfl : r = x 0 := Fin.ext hr
  refine (congrArg f (eq_ix2 x)).trans ((hf (x 0) (x 1)).trans ?_)
  exact congrArg sigm (entry_at X (x 0) q _ (by omega))

/-- A head's decay is the block's at the head's columns. -/
theorem decay_piece (f : S512x128.Idx → EReal) (q : Fin 128) (o : ℕ) (ho : 128 * q.val = o + 1024) (ia id)
    (hf : ∀ r b, f (ix2 r b) = rate (View.ld A (Rect.unit (s := S1x1024) ![0, o] S1x128.size ia) (ix2 0 b))
      (X (ix2 r q) + View.ld D (Rect.unit (s := S1x1024) ![0, o] S1x128.size id) (ix2 0 b)))
    (x : S512x128.Idx) (r : Fin 512) (n : ℕ) (hr : r.val = (x 0).val) (hn : n = o + (x 1).val) (hq : q.val < 16) :
    f x = decayAt X A D r n := by
  have h1 : (x 1).val < 128 := (x 1).isLt
  obtain rfl : r = x 0 := Fin.ext hr
  refine (congrArg f (eq_ix2 x)).trans ((hf (x 0) (x 1)).trans ?_)
  unfold decayAt
  rw [ld_row A o ia (x 1) n hn (by omega), ld_row D o id (x 1) n hn (by omega), entry_at X (x 0) q (8 + n / 128) (by omega)]

/-- Head 0's piece of the strengths. -/
theorem head_beta0 (x : S512x128.Idx) (r : Fin 512) (n : ℕ) (hr : r.val = (x 0).val) (hn : n = 0 + (x 1).val) :
    (k0_pay2 X) x = betaAt X r n :=
  beta_piece X (k0_pay2 X) 0 (fun r b => beta0 X r b) x r n hr hn (by decide)

/-- Head 0's piece of the decays. -/
theorem head_decay0 (x : S512x128.Idx) (r : Fin 512) (n : ℕ) (hr : r.val = (x 0).val) (hn : n = 0 + (x 1).val) :
    (k0_pay3 X (View.ld A r0_2) (View.ld D r0_2)) x = decayAt X A D r n :=
  decay_piece X A D (k0_pay3 X (View.ld A r0_2) (View.ld D r0_2)) 8 0 rfl _ _
    (fun r b => decay0 X (View.ld A r0_2) (View.ld D r0_2) r b) x r n hr hn (by decide)

/-- Head 1's piece of the strengths. -/
theorem head_beta1 (x : S512x128.Idx) (r : Fin 512) (n : ℕ) (hr : r.val = (x 0).val) (hn : n = 128 + (x 1).val) :
    (k0_pay7 (k0_pay4 X) (k0_pay6 (F := Ideal))) x = betaAt X r n :=
  beta_piece X (k0_pay7 (k0_pay4 X) (k0_pay6 (F := Ideal))) 1 (fun r b => beta1 X r b) x r n hr hn (by decide)

/-- Head 1's piece of the decays. -/
theorem head_decay1 (x : S512x128.Idx) (r : Fin 512) (n : ℕ) (hr : r.val = (x 0).val) (hn : n = 128 + (x 1).val) :
    (k0_pay8 (k0_pay5 X) (View.ld A r0_4) (View.ld D r0_4)) x = decayAt X A D r n :=
  decay_piece X A D (k0_pay8 (k0_pay5 X) (View.ld A r0_4) (View.ld D r0_4)) 9 128 rfl _ _
    (fun r b => decay1 X (View.ld A r0_4) (View.ld D r0_4) r b) x r n hr hn (by decide)

/-- Head 2's piece of the strengths. -/
theorem head_beta2 (x : S512x128.Idx) (r : Fin 512) (n : ℕ) (hr : r.val = (x 0).val) (hn : n = 256 + (x 1).val) :
    (k0_pay10 X) x = betaAt X r n :=
  beta_piece X (k0_pay10 X) 2 (fun r b => beta2 X r b) x r n hr hn (by decide)

/-- Head 2's piece of the decays. -/
theorem head_decay2 (x : S512x128.Idx) (r : Fin 512) (n : ℕ) (hr : r.val = (x 0).val) (hn : n = 256 + (x 1).val) :
    (k0_pay11 (k0_pay9 X) (View.ld A r0_6) (View.ld D r0_6)) x = decayAt X A D r n :=
  decay_piece X A D (k0_pay11 (k0_pay9 X) (View.ld A r0_6) (View.ld D r0_6)) 10 256 rfl _ _
    (fun r b => decay2 X (View.ld A r0_6) (View.ld D r0_6) r b) x r n hr hn (by decide)

/-- Head 3's piece of the strengths. -/
theorem head_beta3 (x : S512x128.Idx) (r : Fin 512) (n : ℕ) (hr : r.val = (x 0).val) (hn : n = 384 + (x 1).val) :
    (k0_pay12 X) x = betaAt X r n :=
  beta_piece X (k0_pay12 X) 3 (fun r b => beta3 X r b) x r n hr hn (by decide)

/-- Head 3's piece of the decays. -/
theorem head_decay3 (x : S512x128.Idx) (r : Fin 512) (n : ℕ) (hr : r.val = (x 0).val) (hn : n = 384 + (x 1).val) :
    (k0_pay15 (k0_pay13 (View.ld A r0_8)) (k0_pay14 X (View.ld D r0_8))) x = decayAt X A D r n :=
  decay_piece X A D (k0_pay15 (k0_pay13 (View.ld A r0_8)) (k0_pay14 X (View.ld D r0_8))) 11 384 rfl _ _
    (fun r b => decay3 X (View.ld A r0_8) (View.ld D r0_8) r b) x r n hr hn (by decide)

/-- Head 4's piece of the strengths. -/
theorem head_beta4 (x : S512x128.Idx) (r : Fin 512) (n : ℕ) (hr : r.val = (x 0).val) (hn : n = 512 + (x 1).val) :
    (k0_pay16 X) x = betaAt X r n :=
  beta_piece X (k0_pay16 X) 4 (fun r b => beta4 X r b) x r n hr hn (by decide)

/-- Head 4's piece of the decays. -/
theorem head_decay4 (x : S512x128.Idx) (r : Fin 512) (n : ℕ) (hr : r.val = (x 0).val) (hn : n = 512 + (x 1).val) :
    (k0_pay17 X (View.ld A r0_10) (View.ld D r0_10)) x = decayAt X A D r n :=
  decay_piece X A D (k0_pay17 X (View.ld A r0_10) (View.ld D r0_10)) 12 512 rfl _ _
    (fun r b => decay4 X (View.ld A r0_10) (View.ld D r0_10) r b) x r n hr hn (by decide)

/-- Head 5's piece of the strengths. -/
theorem head_beta5 (x : S512x128.Idx) (r : Fin 512) (n : ℕ) (hr : r.val = (x 0).val) (hn : n = 640 + (x 1).val) :
    (k0_pay18 X) x = betaAt X r n :=
  beta_piece X (k0_pay18 X) 5 (fun r b => beta5 X r b) x r n hr hn (by decide)

/-- Head 5's piece of the decays. -/
theorem head_decay5 (x : S512x128.Idx) (r : Fin 512) (n : ℕ) (hr : r.val = (x 0).val) (hn : n = 640 + (x 1).val) :
    (k0_pay19 X (View.ld A r0_12) (View.ld D r0_12)) x = decayAt X A D r n :=
  decay_piece X A D (k0_pay19 X (View.ld A r0_12) (View.ld D r0_12)) 13 640 rfl _ _
    (fun r b => decay5 X (View.ld A r0_12) (View.ld D r0_12) r b) x r n hr hn (by decide)

/-- Head 6's piece of the strengths. -/
theorem head_beta6 (x : S512x128.Idx) (r : Fin 512) (n : ℕ) (hr : r.val = (x 0).val) (hn : n = 768 + (x 1).val) :
    (k0_pay23 (k0_pay20 X) (k0_pay22 (F := Ideal))) x = betaAt X r n :=
  beta_piece X (k0_pay23 (k0_pay20 X) (k0_pay22 (F := Ideal))) 6 (fun r b => beta6 X r b) x r n hr hn (by decide)

/-- Head 6's piece of the decays. -/
theorem head_decay6 (x : S512x128.Idx) (r : Fin 512) (n : ℕ) (hr : r.val = (x 0).val) (hn : n = 768 + (x 1).val) :
    (k0_pay24 (k0_pay21 X) (View.ld A r0_14) (View.ld D r0_14)) x = decayAt X A D r n :=
  decay_piece X A D (k0_pay24 (k0_pay21 X) (View.ld A r0_14) (View.ld D r0_14)) 14 768 rfl _ _
    (fun r b => decay6 X (View.ld A r0_14) (View.ld D r0_14) r b) x r n hr hn (by decide)

/-- Head 7's piece of the strengths. -/
theorem head_beta7 (x : S512x128.Idx) (r : Fin 512) (n : ℕ) (hr : r.val = (x 0).val) (hn : n = 896 + (x 1).val) :
    (k0_pay26 X) x = betaAt X r n :=
  beta_piece X (k0_pay26 X) 7 (fun r b => beta7 X r b) x r n hr hn (by decide)

/-- Head 7's piece of the decays. -/
theorem head_decay7 (x : S512x128.Idx) (r : Fin 512) (n : ℕ) (hr : r.val = (x 0).val) (hn : n = 896 + (x 1).val) :
    (k0_pay1 (k0_pay25 X) (View.ld A r0_16) (View.ld D r0_16)) x = decayAt X A D r n :=
  decay_piece X A D (k0_pay1 (k0_pay25 X) (View.ld A r0_16) (View.ld D r0_16)) 15 896 rfl _ _
    (fun r b => decay7 X (View.ld A r0_16) (View.ld D r0_16) r b) x r n hr hn (by decide)

/-- The strengths of a block. -/
theorem tiles_beta (y : S512x1024.Idx) (r : Fin 512) (n : ℕ) (hy0 : (y 0 : ℕ) = r.val) (hy1 : (y 1 : ℕ) = n) :
    out0_3 X A D y = betaAt (N := 512) X r n := by
  frame_out
  canon_tiles x h
  · exact head_beta7 X x r n (by omega) (by omega)
  · exact head_beta6 X x r n (by omega) (by omega)
  · exact head_beta5 X x r n (by omega) (by omega)
  · exact head_beta4 X x r n (by omega) (by omega)
  · exact head_beta3 X x r n (by omega) (by omega)
  · exact head_beta2 X x r n (by omega) (by omega)
  · exact head_beta1 X x r n (by omega) (by omega)
  · exact head_beta0 X x r n (by omega) (by omega)

/-- The decays of a block. -/
theorem tiles_decay (y : S512x1024.Idx) (r : Fin 512) (n : ℕ) (hy0 : (y 0 : ℕ) = r.val) (hy1 : (y 1 : ℕ) = n) :
    out0_4 X A D y = decayAt (N := 512) X A D r n := by
  frame_out
  canon_tiles x h
  · exact head_decay7 X A D x r n (by omega) (by omega)
  · exact head_decay6 X A D x r n (by omega) (by omega)
  · exact head_decay5 X A D x r n (by omega) (by omega)
  · exact head_decay4 X A D x r n (by omega) (by omega)
  · exact head_decay3 X A D x r n (by omega) (by omega)
  · exact head_decay2 X A D x r n (by omega) (by omega)
  · exact head_decay1 X A D x r n (by omega) (by omega)
  · exact head_decay0 X A D x r n (by omega) (by omega)

end

variable (m : (ℓ : Loc nD τ sig) → Buf (Elt Ideal) ℓ)

/-- Where every window's block stands. -/
theorem idx : ∀ t : Fin cfg0.N, win0_0.index t = ![t.val, 32] ∧ win0_1.index t = ![0, 0] ∧ win0_2.index t = ![0, 0]
    ∧ win0_3.index t = ![t.val, 0] ∧ win0_4.index t = ![t.val, 0] :=
  (by decide +kernel : ∀ t : Fin grid0.N, _)

/-- The product before the gates. -/
abbrev Xarr (c : Dev nD) : FVec Ideal S4096x4224 .f32 := m ((c : Thread nD τ).loc main_arg0)
/-- The decay's logarithms. -/
abbrev Aarr (c : Dev nD) : FVec Ideal S1x1024 .f32 := m ((c : Thread nD τ).loc main_arg1)
/-- The decay's biases. -/
abbrev Darr (c : Dev nD) : FVec Ideal S1x1024 .f32 := m ((c : Thread nD τ).loc main_arg2)

/-- An entry of the block is the product's, 4096 columns further on. -/
theorem blk_x (c : Dev nD) (t : Fin cfg0.N) (r : Fin 512) (i : Fin 4096) (hi : i.val = t.val * 512 + r.val) (q : ℕ) (hq : q < 128)
    (k : Fin 4224) (hk : k.val = 4096 + q) :
    entry (show FVec Ideal S512x128 .f32 from iblk m c 0 t) r q = Xarr m c (ix2 i k) := by
  unfold entry
  have h : q % 128 = q := Nat.mod_eq_of_lt hq
  blk_ext [iblk, V, idx t]

/-- An entry of the logarithms' block. -/
theorem blk_a (c : Dev nD) (t : Fin cfg0.N) (n : Fin 1024) :
    entry (show FVec Ideal S1x1024 .f32 from iblk m c 1 t) 0 n.val = Aarr m c (ix2 0 n) := by
  unfold entry
  have h : n.val % 1024 = n.val := Nat.mod_eq_of_lt n.isLt
  blk_ext [iblk, V, idx t]

/-- An entry of the biases' block. -/
theorem blk_d (c : Dev nD) (t : Fin cfg0.N) (n : Fin 1024) :
    entry (show FVec Ideal S1x1024 .f32 from iblk m c 2 t) 0 n.val = Darr m c (ix2 0 n) := by
  unfold entry
  have h : n.val % 1024 = n.val := Nat.mod_eq_of_lt n.isLt
  blk_ext [iblk, V, idx t]

/-- After the run the first result holds the strengths. -/
theorem final_beta (c : Dev nD) : (dats m 0 c).arrAt 3 (cfgs 0).N = fun i : S4096x1024.Idx =>
    sigm (Xarr m c (ix2 (i 0) ⟨4096 + (i 1).val / 128, by have := (i 1).isLt; change (i 1).val < 1024 at this; omega⟩)) := by
  refine (dats m 0 c).arrAt_eq_of_covers 3 _ (by decide +kernel) fun t hfl y => ?_
  have ht : t.val < 8 := lt_of_lt_of_eq t.isLt N_0
  have hy : (y 0 : ℕ) < 512 := (y 0).isLt
  have hy1 : (y 1 : ℕ) < 1024 := (y 1).isLt
  blk_simp [idx t]
  rw [after0_3]
  refine (tiles_beta (iblk m c 0 t) (iblk m c 1 t) (iblk m c 2 t) y (y 0) (y 1).val rfl rfl).trans ?_
  unfold betaAt
  refine congrArg sigm (blk_x m c t _ _ ?_ _ ?_ _ ?_)
  · first | omega | (blk_simp [idx t]; omega) | blk_simp [idx t]
  · omega
  · first | omega | (blk_simp [idx t]; omega) | blk_simp [idx t]

/-- After the run the second result holds the decays. -/
theorem final_decay (c : Dev nD) : (dats m 0 c).arrAt 4 (cfgs 0).N = fun i : S4096x1024.Idx =>
    rate (Aarr m c (ix2 0 (i 1))) (Xarr m c (ix2 (i 0) ⟨4104 + (i 1).val / 128, by have := (i 1).isLt; change (i 1).val < 1024 at this; omega⟩) + Darr m c (ix2 0 (i 1))) := by
  refine (dats m 0 c).arrAt_eq_of_covers 4 _ (by decide +kernel) fun t hfl y => ?_
  have ht : t.val < 8 := lt_of_lt_of_eq t.isLt N_0
  have hy : (y 0 : ℕ) < 512 := (y 0).isLt
  have hy1 : (y 1 : ℕ) < 1024 := (y 1).isLt
  blk_simp [idx t]
  rw [after0_4]
  refine (tiles_decay (iblk m c 0 t) (iblk m c 1 t) (iblk m c 2 t) y (y 0) (y 1).val rfl rfl).trans ?_
  unfold decayAt
  have e1 : (y 1 : Fin 1024) = (win0_4.blk t).view.emb y 1 := Fin.ext (by blk_simp [idx t])
  refine congrArg₂ rate ((blk_a m c t (y 1)).trans (congrArg (fun k => Aarr m c (ix2 0 k)) e1)) (congrArg₂ (· + ·) (blk_x m c t _ _ ?_ _ ?_ _ ?_)
    ((blk_d m c t (y 1)).trans (congrArg (fun k => Darr m c (ix2 0 k)) e1)))
  · first | omega | (blk_simp [idx t]; omega) | blk_simp [idx t]
  · omega
  · exact (Nat.add_assoc 4096 8 ((y 1).val / 128))

end Cert.GateFIdeal.Prod

end
-- ==== Proof.GateF.Ref.lean ====
/- The reference of the gates at an index. -/
module

public import proofs.«01_k».proof.Proof.Gen.GateFReferenceIdeal.Read
public import proofs.«01_k».proof.Proof.GateF.Spec
public import Idealize.ShloMosaic.Lib.Pointwise

@[expose] public section

set_option maxRecDepth 16384

noncomputable section

open Idealize.ShloMosaic Idealize.ShloMosaic.TcCoe Idealize.SL.Sem

namespace Cert.GateFReferenceIdeal.Prod

open Cert.GateFReferenceIdeal Cert.GateFReferenceIdeal.Gen Cert.GateFReferenceIdeal.Read Cert.Act Cert.Common Cert.GateF

variable (X : FVec Ideal S4096x4224 .f32) (A D : FVec Ideal S1x1024 .f32)

/-- The head's first column, for every column of the widened result. -/
theorem b_at (r : Fin 4096) (n : Fin 1024) : val_main_v3 (F := Ideal) X (ix2 r n) = X (ix2 r ⟨4096 + n.val / 128, by omega⟩) := by
  pointwise [val_main_v3, val_main_v2, val_main_v1, val_main_v0]

/-- The head's second column, for every column of the widened result. -/
theorem a_at (r : Fin 4096) (n : Fin 1024) : val_main_v7 (F := Ideal) X (ix2 r n) = X (ix2 r ⟨4104 + n.val / 128, by omega⟩) := by
  pointwise [val_main_v7, val_main_v6, val_main_v5, val_main_v4]

/-- The first result at an index. -/
theorem beta_at (r : Fin 4096) (n : Fin 1024) :
    val_main_v13 (F := Ideal) X (ix2 r n) = sigm (X (ix2 r ⟨4096 + n.val / 128, by omega⟩)) := by
  rw [sigm_eq, ← b_at X r n]
  pointwise [val_main_v13, val_main_v12, val_main_v11, val_main_v10, val_main_v9, val_main_v8, val_main_cst, val_main_cst_0, logi]

/-- The argument of the soft plus. -/
theorem arg_at (r : Fin 4096) (n : Fin 1024) :
    val_main_v16 (F := Ideal) X D (ix2 r n) = X (ix2 r ⟨4104 + n.val / 128, by omega⟩) + D (ix2 0 n) := by
  rw [← a_at X r n]
  pointwise [val_main_v16, val_main_v15]

/-- The second result at an index. -/
theorem decay_at (r : Fin 4096) (n : Fin 1024) :
    val_main_v20 (F := Ideal) X A D (ix2 r n) = rate (A (ix2 0 n)) (X (ix2 r ⟨4104 + n.val / 128, by omega⟩) + D (ix2 0 n)) := by
  rw [← arg_at X D r n]
  pointwise [val_main_v20, val_main_v19, val_main_v18, val_main_v17, val_main_call0_v11, val_main_call0_v10, val_main_call0_v9,
    val_main_call0_v8, val_main_call0_v7, val_main_call0_v6, val_main_call0_v5, val_main_call0_v4, val_main_call0_v3, val_main_call0_v2,
    val_main_call0_v1, val_main_call0_v0, val_main_call0_cst, val_main_v14]
  rw [if_neg (fun h => h rfl)]
  unfold rate soft
  rw [zero_sub, zero_sub, EReal.neg_mul]

/-- The first result. -/
theorem beta_meet : val_main_v13 (F := Ideal) X = fun i : S4096x1024.Idx => sigm (X (ix2 (i 0) ⟨4096 + (i 1).val / 128, by have := (i 1).isLt; change (i 1).val < 1024 at this; omega⟩)) := by
  funext i
  rw [eq_ix2 i]
  exact beta_at X (i 0) (i 1)

/-- The second result. -/
theorem decay_meet : val_main_v20 (F := Ideal) X A D = fun i : S4096x1024.Idx =>
    rate (A (ix2 0 (i 1))) (X (ix2 (i 0) ⟨4104 + (i 1).val / 128, by have := (i 1).isLt; change (i 1).val < 1024 at this; omega⟩) + D (ix2 0 (i 1))) := by
  funext i
  rw [eq_ix2 i]
  exact decay_at X A D (i 0) (i 1)

end Cert.GateFReferenceIdeal.Prod

end
-- ==== Proof.ConvF.Spec.lean ====
/- The queries, keys and values of the gated delta rule: a causal convolution of four taps, its gate, and the heads of the
   queries and keys brought to length one. -/
module

public import proofs.«01_k».proof.Proof.Act.Spec

@[expose] public section

noncomputable section

open Idealize.ShloMosaic

namespace Cert.ConvF

open Cert.Act

/-- The convolution: every row and the three before it, each by its tap. -/
def conv4 (w : Fin 4 → EReal) (x : Fin 4096 → EReal) (r : Fin 4096) : EReal :=
  w 0 * before 3 x r + w 1 * before 2 x r + w 2 * before 1 x r + w 3 * x r

/-- A number by its logistic function. -/
def silu (z : EReal) : EReal := z * sigm z

/-- What keeps the length from zero. -/
def tiny : EReal := Ideal.ofBits .f32 0x358637BD#32
/-- One over the root of a head's width. -/
def size : EReal := Ideal.ofBits .f32 0x3DB504F3#32

/-- A head brought to length one. -/
def unit (f : Fin 128 → EReal) (b : Fin 128) : EReal := f b * Ideal.rsqrt ((∑ k : Fin 128, f k * f k) + tiny)

/-- A head of the result: the first eight brought to length one and scaled, the next eight brought to length one, the others as they are. -/
def headAt (j : ℕ) (f : Fin 128 → EReal) (b : Fin 128) : EReal :=
  if j < 8 then unit f b * size else if j < 16 then unit f b else f b

/-- A column's place in the padded product. -/
def wide (n : Fin 3072) : Fin 4224 := ⟨n.val, by omega⟩

/-- A column of a head. -/
def place (j : Fin 24) (b : Fin 128) : Fin 3072 := ⟨j.val * 128 + b.val, by omega⟩

variable (X : Shape.Idx ⟨2, ![4096, 4224]⟩ → EReal) (C : Shape.Idx ⟨2, ![4, 3072]⟩ → EReal)

/-- The gated convolution at a row and a column. -/
def mixAt (i : Fin 4096) (n : Fin 3072) : EReal := silu (conv4 (fun k => C (ix2 k n)) (fun r => X (ix2 r (wide n))) i)

/-- The result at a row, a head and a column of the head. -/
def outAt (i : Fin 4096) (j : Fin 24) (b : Fin 128) : EReal := headAt j.val (fun k => mixAt X C i (place j k)) b

/-- The result at a row and a column. -/
def resAt (i : Fin 4096) (n : Fin 3072) : EReal := outAt X C i ⟨n.val / 128, by omega⟩ ⟨n.val % 128, by omega⟩

/-- A column of the result by its head and its place in the head. -/
theorem by_head (i : Fin 4096) (n : Fin 3072) (j : Fin 24) (b : Fin 128) (hn : n.val = j.val * 128 + b.val) :
    outAt X C i j b = resAt X C i n :=
  congrArg₂ (outAt X C i) (Fin.ext (by dsimp only; omega)) (Fin.ext (by dsimp only; omega))

end Cert.ConvF

end
-- ==== Proof.ConvF.Pay.lean ====
/- What the payloads of the convolution are at an index. -/
module

public import proofs.«01_k».proof.Proof.Gen.ConvFIdeal.Skeleton
public import proofs.«01_k».proof.Proof.ConvF.Spec
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ConvFIdeal.Prod

open Cert.ConvFIdeal Cert.ConvFIdeal.Gen Cert.Act Cert.ConvF

/-- A rotation along the rows at an index. -/
theorem rot (v : FVec Ideal S4096x128 .f32) (n : BitVec 32) (k : ℕ) (hk : n.toNat = k) (h : S4096x128.Rotates 0 none)
    (r q : Fin 4096) (b : Fin 128) (hq : q.val = (r.val + 4096 - k % 4096) % 4096) :
    dynamicRotate 0 n none v h (ix2 r b) = v (ix2 q b) := by
  refine dynamicRotate_apply 0 n v h _ _ fun a => ?_
  match a with
  | ⟨0, _⟩ => subst hk; exact hq
  | ⟨1, _⟩ => rfl

/-- A selection by a comparison of a row with a small number. -/
theorem sel_ge (k : Fin 4) (r : ℕ) (hr : r < 8) (a b : EReal) :
    Scalar.select (IntOp.cmpi CmpIPredicate.sge (BitVec.ofNat 32 r) (BitVec.ofNat 32 k.val)) a b = if k.val ≤ r then a else b := by
  have h : ∀ (k : Fin 4) (r : Fin 8), IntOp.cmpi CmpIPredicate.sge (BitVec.ofNat 32 r.val) (BitVec.ofNat 32 k.val)
      = if k.val ≤ r.val then 1#1 else 0#1 := by decide
  have h' := h k ⟨r, hr⟩
  dsimp only at h'
  rw [h']
  split <;> rfl

/-- Moving a column down, in two pieces. -/
theorem down_pieces (k : ℕ) (hk3 : k < 4) (x : Fin 4096 → EReal) (R : Fin 4096 → EReal) (r : Fin 4096)
    (hR : ∀ h : k ≤ r.val, R r = x ⟨r.val - k, lt_of_le_of_lt (Nat.sub_le _ _) r.isLt⟩) :
    (if h : r.val < 8 then Scalar.select (IntOp.cmpi CmpIPredicate.sge (BitVec.ofNat 32 r.val) (BitVec.ofNat 32 k)) (R r) 0
      else R r) = before k x r := by
  unfold before
  by_cases h : r.val < 8
  · rw [dif_pos h, sel_ge ⟨k, hk3⟩ r.val h]
    by_cases hk : k ≤ r.val
    · rw [if_pos hk, dif_pos hk, hR hk]
    · rw [if_neg hk, dif_neg hk]
  · have hk : k ≤ r.val := by omega
    rw [dif_neg h, dif_pos hk, hR hk]

/-- The first three taps' part of the convolution. -/
theorem taps_at (v : Vec Ideal S4096x128 .f32) (w0 w1 w2 : Vec Ideal S1x128 .f32) (r : Fin 4096) (b : Fin 128) :
    k0_pay2 v w0 w1 w2 (ix2 r b) = w0 (ix2 0 b) * before 3 (fun i => v (ix2 i b)) r + w1 (ix2 0 b) * before 2 (fun i => v (ix2 i b)) r
      + w2 (ix2 0 b) * before 1 (fun i => v (ix2 i b)) r := by
  unfold k0_pay2
  generalize h3 : dynamicRotate 0 3#32 none v rotates_S4096x128_d0 = R3
  generalize h2 : dynamicRotate 0 2#32 none v rotates_S4096x128_d0 = R2
  generalize h1 : dynamicRotate 0 1#32 none v rotates_S4096x128_d0 = R1
  have q3 : ∀ h : 3 ≤ r.val, R3 (ix2 r b) = v (ix2 ⟨r.val - 3, lt_of_le_of_lt (Nat.sub_le _ _) r.isLt⟩ b) := fun h => by
    rw [← h3, rot _ 3#32 3 rfl _ r ⟨r.val - 3, lt_of_le_of_lt (Nat.sub_le _ _) r.isLt⟩ b (by dsimp only; omega)]
  have q2 : ∀ h : 2 ≤ r.val, R2 (ix2 r b) = v (ix2 ⟨r.val - 2, lt_of_le_of_lt (Nat.sub_le _ _) r.isLt⟩ b) := fun h => by
    rw [← h2, rot _ 2#32 2 rfl _ r ⟨r.val - 2, lt_of_le_of_lt (Nat.sub_le _ _) r.isLt⟩ b (by dsimp only; omega)]
  have q1 : ∀ h : 1 ≤ r.val, R1 (ix2 r b) = v (ix2 ⟨r.val - 1, lt_of_le_of_lt (Nat.sub_le _ _) r.isLt⟩ b) := fun h => by
    rw [← h1, rot _ 1#32 1 rfl _ r ⟨r.val - 1, lt_of_le_of_lt (Nat.sub_le _ _) r.isLt⟩ b (by dsimp only; omega)]
  rw [← down_pieces 3 (by decide) (fun i => v (ix2 i b)) (fun i => R3 (ix2 i b)) r q3,
    ← down_pieces 2 (by decide) (fun i => v (ix2 i b)) (fun i => R2 (ix2 i b)) r q2,
    ← down_pieces 1 (by decide) (fun i => v (ix2 i b)) (fun i => R1 (ix2 i b)) r q1]
  pointwise []
  by_cases h : r.val < 8
  · simp only [dif_pos h]
  · simp only [dif_neg h]
    have e : ∀ p : 8 + (r.val - 8) < 4096, (⟨8 + (r.val - 8), p⟩ : Fin 4096) = r := fun p => Fin.ext (by dsimp only; omega)
    simp only [e]

/-- A selection between two arrays by a comparison of a head with eight. -/
theorem sel8 (j : Fin 24) (a b : FVec Ideal S4096x128 .f32) :
    Scalar.select (Scalar.cmpi .slt (BitVec.ofNat 32 j.val) 8#32) a b = if j.val < 8 then a else b := by
  have h : ∀ j : Fin 24, Scalar.cmpi .slt (BitVec.ofNat 32 j.val) 8#32 = if j.val < 8 then 1#1 else 0#1 := by decide
  rw [h]
  split <;> rfl

/-- A selection between two arrays by a comparison of a head with sixteen. -/
theorem sel16 (j : Fin 24) (a b : FVec Ideal S4096x128 .f32) :
    Scalar.select (Scalar.cmpi .slt (BitVec.ofNat 32 j.val) 16#32) a b = if j.val < 16 then a else b := by
  have h : ∀ j : Fin 24, Scalar.cmpi .slt (BitVec.ofNat 32 j.val) 16#32 = if j.val < 16 then 1#1 else 0#1 := by decide
  rw [h]
  split <;> rfl

/-- A head's block at an index. -/
theorem head_at (j : Fin 24) (v a : FVec Ideal S4096x128 .f32) (w3 : Vec Ideal S1x128 .f32) (r : Fin 4096) (b : Fin 128) :
    k0_pay1 (BitVec.ofNat 32 j.val) v a w3 (ix2 r b)
      = headAt j.val (fun k => silu (a (ix2 r k) + w3 (ix2 0 k) * v (ix2 r k))) b := by
  have hy : ∀ k : Fin 128, mulf (addf a (mulf (broadcastTo S4096x128 w3 broadcasts_S1x128_S4096x128) v))
      (addf (mulf (broadcast S4096x128 (Scalar.ofBits .f32 0x3F000000#32)) (tanh (mulf (broadcast S4096x128 (Scalar.ofBits .f32 0x3F000000#32))
        (addf a (mulf (broadcastTo S4096x128 w3 broadcasts_S1x128_S4096x128) v))))) (broadcast S4096x128 (Scalar.ofBits .f32 0x3F000000#32))) (ix2 r k)
      = silu (a (ix2 r k) + w3 (ix2 0 k) * v (ix2 r k)) := fun k => by
    pointwise [silu, sigm, half]
  have hf := funext hy
  rw [← hf]
  unfold k0_pay1
  rw [sel8, sel16]
  generalize mulf (addf a (mulf (broadcastTo S4096x128 w3 broadcasts_S1x128_S4096x128) v)) _ = y
  unfold headAt
  by_cases h8 : j.val < 8
  · rw [if_pos h8, if_pos h8]
    pointwise [unit, tiny, size]
  · rw [if_neg h8, if_neg h8]
    by_cases h16 : j.val < 16
    · rw [if_pos h16, if_pos h16]
      pointwise [unit, tiny]
    · rw [if_neg h16, if_neg h16]

end Cert.ConvFIdeal.Prod

end
-- ==== Proof.ConvF.Arrays.lean ====
/- The result array of the convolution after the run. -/
module

public import proofs.«01_k».proof.Proof.Gen.ConvFIdeal.Value
public import proofs.«01_k».proof.Proof.ConvF.Pay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvFIdeal.Prod

open Cert.ConvFIdeal Cert.ConvFIdeal.Gen Cert.Act Cert.ConvF

/-- A load of one tap. -/
theorem ld_tap (W : Vec Ideal S4x128 .f32) (o : Fin 4) (inb) (b : Fin 128) :
    View.ld W (Rect.unit (s := S4x128) ![o.val, 0] S1x128.size inb) (ix2 0 b) = W (ix2 o b) := by
  refine View.ld_unit_apply_of (i := ix2 o b) W _ _ _ _ fun a => ?_
  match a with
  | ⟨0, _⟩ => rfl
  | ⟨1, _⟩ => show b.val = 0 + b.val; omega

section

variable (X : Vec Ideal S4096x128 .f32) (W : Vec Ideal S4x128 .f32)

/-- A head's payload at an index, out of the columns it loads. -/
theorem head_piece (j : Fin 24) (r : Fin 4096) (b : Fin 128) :
    k0_pay1 (BitVec.ofNat 32 j.val) X (k0_pay2 X (View.ld W r0_1) (View.ld W r0_2) (View.ld W r0_3)) (View.ld W r0_4) (ix2 r b)
      = headAt j.val (fun k => silu (conv4 (fun q => W (ix2 q k)) (fun i => X (ix2 i k)) r)) b := by
  rw [head_at]
  refine congrArg (fun f => headAt j.val f b) (funext fun k => congrArg silu ?_)
  rw [taps_at]
  unfold conv4
  exact congrArg₂ (· + ·) (congrArg₂ (· + ·) (congrArg₂ (· + ·) (congrArg (· * _) (ld_tap W 0 _ k)) (congrArg (· * _) (ld_tap W 1 _ k)))
    (congrArg (· * _) (ld_tap W 2 _ k))) (congrArg (· * _) (ld_tap W 3 _ k))

/-- What the body leaves in its block. -/
theorem tile (i : grid0.Coords) (j : Fin 24) (hj : (i 0).val = j.val) (y : S4096x128.Idx) :
    out0_2 i X W y = headAt j.val (fun k => silu (conv4 (fun q => W (ix2 q k)) (fun r => X (ix2 r k)) (y 0))) (y 1) := by
  frame_out
  rw [hj]
  exact (congrArg _ (eq_ix2 y)).trans (head_piece X W j (y 0) (y 1))

end

variable (m : (ℓ : Loc nD τ sig) → Buf (Elt Ideal) ℓ)

/-- Where every window's block stands. -/
theorem idx : ∀ t : Fin cfg0.N, win0_0.index t = ![0, t.val] ∧ win0_1.index t = ![0, t.val] ∧ win0_2.index t = ![0, t.val] :=
  (by decide +kernel : ∀ t : Fin grid0.N, _)

/-- A point's only coordinate is its number. -/
theorem coord : ∀ t : Fin cfg0.N, (grid0.coords t 0).val = t.val := (by decide +kernel : ∀ t : Fin grid0.N, _)

/-- The product before the convolution. -/
abbrev Xarr (c : Dev nD) : FVec Ideal S4096x4224 .f32 := m ((c : Thread nD τ).loc main_arg0)
/-- The taps. -/
abbrev Carr (c : Dev nD) : FVec Ideal S4x3072 .f32 := m ((c : Thread nD τ).loc main_arg1)

/-- A column of the block. -/
theorem blk_x (c : Dev nD) (t : Fin cfg0.N) (j : Fin 24) (hj : j.val = t.val) (r : Fin 4096) (b : Fin 128) :
    (show FVec Ideal S4096x128 .f32 from iblk m c 0 t) (ix2 r b) = Xarr m c (ix2 r (wide (place j b))) := by
  have h : (wide (place j b)).val = t.val * 128 + b.val := by show j.val * 128 + b.val = _; rw [hj]
  blk_ext [iblk, V, idx t]

/-- A column of the taps' block. -/
theorem blk_w (c : Dev nD) (t : Fin cfg0.N) (j : Fin 24) (hj : j.val = t.val) (q : Fin 4) (b : Fin 128) :
    (show FVec Ideal S4x128 .f32 from iblk m c 1 t) (ix2 q b) = Carr m c (ix2 q (place j b)) := by
  have h : (place j b).val = t.val * 128 + b.val := by show j.val * 128 + b.val = _; rw [hj]
  blk_ext [iblk, V, idx t]

/-- A point's block is the head's columns of the result. -/
theorem block_at (c : Dev nD) (t : Fin cfg0.N) (j : Fin 24) (hj : j.val = t.val) (y : S4096x128.Idx) :
    out0_2 (grid0.coords t) (iblk m c 0 t) (iblk m c 1 t) y = outAt (Xarr m c) (Carr m c) (y 0) j (y 1) := by
  refine (tile _ _ (grid0.coords t) j ((coord t).trans hj.symm) y).trans ?_
  unfold outAt mixAt
  refine congrArg (fun f => headAt j.val f (y 1)) (funext fun k => congrArg silu ?_)
  exact congrArg₂ (fun w x => conv4 w x (y 0)) (funext fun q => blk_w m c t j hj q k) (funext fun r => blk_x m c t j hj r k)

/-- After the run the result holds the heads. -/
theorem final (c : Dev nD) : (dats m 0 c).arrAt 2 (cfgs 0).N
    = fun i : S4096x3072.Idx => resAt (Xarr m c) (Carr m c) (i 0) (i 1) := by
  refine (dats m 0 c).arrAt_eq_of_covers 2 _ (by decide +kernel) fun t hfl y => ?_
  have ht : t.val < 24 := lt_of_lt_of_eq t.isLt N_0
  have hy : (y 1 : ℕ) < 128 := (y 1).isLt
  have hp : t.val * 128 + (y 1 : ℕ) < 3072 := by omega
  blk_simp [idx t]
  rw [after0_2]
  refine (block_at m c t ⟨t.val, ht⟩ rfl y).trans
    ((by_head (Xarr m c) (Carr m c) (y 0) ⟨t.val * 128 + (y 1 : ℕ), hp⟩ ⟨t.val, ht⟩ (y 1) rfl).trans ?_)
  have e0 : y 0 = (win0_2.blk t).view.emb y 0 := Fin.ext (by blk_simp [idx t])
  have e1 : (⟨t.val * 128 + (y 1 : ℕ), hp⟩ : Fin 3072) = (win0_2.blk t).view.emb y 1 := Fin.ext (by blk_simp [idx t])
  exact congrArg₂ (resAt (Xarr m c) (Carr m c)) e0 e1

end Cert.ConvFIdeal.Prod

end
-- ==== Proof.ConvF.Ref.lean ====
/- The reference of the convolution at an index. -/
module

public import proofs.«01_k».proof.Proof.Gen.ConvFReferenceIdeal.Read
public import proofs.«01_k».proof.Proof.ConvF.Spec
public import proofs.«01_k».proof.Proof.Common.Gelu
public import Idealize.ShloMosaic.Lib.Pointwise

@[expose] public section

set_option maxRecDepth 16384

noncomputable section

open Idealize.ShloMosaic Idealize.ShloMosaic.TcCoe Idealize.SL.Sem

namespace Cert.ConvFReferenceIdeal.Prod

open Cert.ConvFReferenceIdeal Cert.ConvFReferenceIdeal.Gen Cert.ConvFReferenceIdeal.Read Cert.Act Cert.Common Cert.ConvF

variable (X : FVec Ideal S4096x4224 .f32) (C : FVec Ideal S4x3072 .f32)

/-- The rows moved down by three. -/
theorem down3 (i : Fin 4096) (n : Fin 3072) :
    val_main_v3 (F := Ideal) X (ix2 i n) = before 3 (fun r => X (ix2 r (wide n))) i := by
  pointwise [val_main_v3, val_main_v2, val_main_v1, val_main_v0, val_main_cst]
  unfold before
  by_cases h : i.val < 3
  · rw [dif_pos h, dif_neg (by omega)]
  · rw [dif_neg h, dif_pos (by omega)]
    rfl

/-- The rows moved down by two. -/
theorem down2 (i : Fin 4096) (n : Fin 3072) :
    val_main_v9 (F := Ideal) X (ix2 i n) = before 2 (fun r => X (ix2 r (wide n))) i := by
  pointwise [val_main_v9, val_main_v2, val_main_v1, val_main_v0, val_main_cst]
  unfold before
  by_cases h : 2 ≤ i.val
  · rw [dif_neg (by omega), dif_pos h]
    exact congrArg (fun r => X (ix2 r (wide n))) (Fin.ext (by dsimp only; omega))
  · rw [dif_pos (by omega), dif_neg h]

/-- The rows moved down by one. -/
theorem down1 (i : Fin 4096) (n : Fin 3072) :
    val_main_v16 (F := Ideal) X (ix2 i n) = before 1 (fun r => X (ix2 r (wide n))) i := by
  pointwise [val_main_v16, val_main_v2, val_main_v1, val_main_v0, val_main_cst]
  unfold before
  by_cases h : 1 ≤ i.val
  · rw [dif_neg (by omega), dif_pos h]
    exact congrArg (fun r => X (ix2 r (wide n))) (Fin.ext (by dsimp only; omega))
  · rw [dif_pos (by omega), dif_neg h]

/-- The rows themselves. -/
theorem down0 (i : Fin 4096) (n : Fin 3072) :
    val_main_v23 (F := Ideal) X (ix2 i n) = X (ix2 i (wide n)) := by
  pointwise [val_main_v23, val_main_v2, val_main_v1, val_main_v0, val_main_cst]
  rfl

/-- The convolution. -/
theorem conv_at (i : Fin 4096) (n : Fin 3072) :
    val_main_v29 (F := Ideal) X C (ix2 i n) = conv4 (fun k => C (ix2 k n)) (fun r => X (ix2 r (wide n))) i := by
  unfold conv4
  rw [← down3, ← down2, ← down1]
  refine Eq.trans ?_ (congrArg (fun t => C (ix2 0 n) * val_main_v3 (F := Ideal) X (ix2 i n) + C (ix2 1 n) * val_main_v9 (F := Ideal) X (ix2 i n)
    + C (ix2 2 n) * val_main_v16 (F := Ideal) X (ix2 i n) + C (ix2 3 n) * t) (down0 X i n))
  beta_reduce
  pointwise [val_main_v29, val_main_v28, val_main_v27, val_main_v26, val_main_v25, val_main_v24, val_main_v22, val_main_v21, val_main_v20, val_main_v19,
    val_main_v18, val_main_v17, val_main_v15, val_main_v14, val_main_v13, val_main_v12, val_main_v11, val_main_v10, val_main_v8, val_main_v7,
    val_main_v6, val_main_v5, val_main_v4]
  rw [mul_comm (G := EReal) (C (ix2 0 n)), mul_comm (G := EReal) (C (ix2 1 n)), mul_comm (G := EReal) (C (ix2 2 n)), mul_comm (G := EReal) (C (ix2 3 n))]

/-- The gated convolution. -/
theorem mix_at (i : Fin 4096) (n : Fin 3072) : val_main_v30 (F := Ideal) X C (ix2 i n) = mixAt X C i n := by
  unfold mixAt silu
  rw [sigm_eq, ← conv_at]
  pointwise [val_main_v30, val_main_call0_v5, val_main_call0_v4, val_main_call0_cst_0, val_main_call0_v3,
    val_main_call0_v2, val_main_call0_cst, val_main_call0_v1, val_main_call0_v0, logi]

/-- A query head. -/
theorem q_at (i : Fin 4096) (h : Fin 8) (b : Fin 128) :
    val_main_v34 (F := Ideal) X C (ix3 i h b) = mixAt X C i (place ⟨h.val, by omega⟩ b) := by
  rw [← mix_at]
  pointwise [val_main_v34, val_main_v31]
  rfl

/-- A key head. -/
theorem k_at (i : Fin 4096) (h : Fin 8) (b : Fin 128) :
    val_main_v45 (F := Ideal) X C (ix3 i h b) = mixAt X C i (place ⟨h.val + 8, by omega⟩ b) := by
  rw [← mix_at]
  pointwise [val_main_v45, val_main_v32]
  exact congrArg (fun k => val_main_v30 (F := Ideal) X C (ix2 i k)) (Fin.ext (by show _ = (h.val + 8) * 128 + b.val; dsimp only; omega))

/-- A query head, brought to length one and scaled. -/
theorem qn_at (i : Fin 4096) (h : Fin 8) (b : Fin 128) :
    val_main_v44 (F := Ideal) X C (ix3 i h b) = outAt X C i ⟨h.val, by omega⟩ b := by
  unfold outAt headAt
  rw [if_pos h.isLt]
  have hf : (fun k => mixAt X C i (place ⟨h.val, by omega⟩ k)) = fun k => val_main_v34 (F := Ideal) X C (ix3 i h k) := funext fun k => (q_at X C i h k).symm
  rw [hf]
  pointwise [val_main_v44, val_main_v43, val_main_cst_2, val_main_v42, val_main_v41, val_main_v40, val_main_v39, val_main_v38, val_main_cst_1,
    val_main_v37, val_main_v36, val_main_cst_0, val_main_v35, unit, tiny, size]

/-- A key head, brought to length one. -/
theorem kn_at (i : Fin 4096) (h : Fin 8) (b : Fin 128) :
    val_main_v53 (F := Ideal) X C (ix3 i h b) = outAt X C i ⟨h.val + 8, by omega⟩ b := by
  unfold outAt headAt
  rw [if_neg (by dsimp only; omega), if_pos (by dsimp only; omega)]
  have hf : (fun k => mixAt X C i (place ⟨h.val + 8, by omega⟩ k)) = fun k => val_main_v45 (F := Ideal) X C (ix3 i h k) := funext fun k => (k_at X C i h k).symm
  rw [hf]
  pointwise [val_main_v53, val_main_v52, val_main_v51, val_main_v50, val_main_v49, val_main_cst_4,
    val_main_v48, val_main_v47, val_main_cst_3, val_main_v46, unit, tiny]

/-- The result at an index. -/
theorem out_at (i : Fin 4096) (n : Fin 3072) :
    val_main_v56 (F := Ideal) X C (ix2 i n) = outAt X C i ⟨n.val / 128, by omega⟩ ⟨n.val % 128, by omega⟩ := by
  by_cases h8 : n.val < 1024
  · refine Eq.trans ?_ (qn_at X C i ⟨n.val / 128, by omega⟩ ⟨n.val % 128, by omega⟩)
    pointwise [val_main_v56, val_main_v54]
    rw [dif_pos h8]
  · by_cases h16 : n.val < 2048
    · refine Eq.trans ?_ ((kn_at X C i ⟨n.val / 128 - 8, by omega⟩ ⟨n.val % 128, by omega⟩).trans ?_)
      · pointwise [val_main_v56, val_main_v55]
        rw [dif_neg h8, dif_pos (by omega)]
        exact congrArg₂ (fun h b => val_main_v53 (F := Ideal) X C (ix3 i h b)) (Fin.ext (by dsimp only; omega)) (Fin.ext (by dsimp only; omega))
      · exact congrArg (fun j => outAt X C i j ⟨n.val % 128, by omega⟩) (Fin.ext (by dsimp only; omega))
    · unfold outAt headAt
      rw [if_neg (by dsimp only; omega), if_neg (by dsimp only; omega)]
      refine Eq.trans ?_ (mix_at X C i (place ⟨n.val / 128, by omega⟩ ⟨n.val % 128, by omega⟩))
      pointwise [val_main_v56, val_main_v33]
      rw [dif_neg h8, dif_neg (by omega)]
      exact congrArg (fun k => val_main_v30 (F := Ideal) X C (ix2 i k)) (Fin.ext (by show _ = n.val / 128 * 128 + n.val % 128; dsimp only; omega))

/-- The result. -/
theorem meet : val_main_v56 (F := Ideal) X C = fun i : S4096x3072.Idx => resAt X C (i 0) (i 1) := by
  funext i
  rw [eq_ix2 i]
  exact out_at X C (i 0) (i 1)

end Cert.ConvFReferenceIdeal.Prod

end
-- ==== Proof.GluA.Spec.lean ====
/- The gate behind the diagonal recurrence, written into the second half of the merged branches. -/
module

public import proofs.«01_k».proof.Proof.Common.Gelu

@[expose] public section

noncomputable section

open Idealize.ShloMosaic

namespace Cert.GluA

open Cert.Act Cert.Common

variable (Y Z : Shape.Idx ⟨2, ![4096, 512]⟩ → EReal) (B : Shape.Idx ⟨2, ![1, 512]⟩ → EReal) (M : Shape.Idx ⟨2, ![4096, 1024]⟩ → EReal)

/-- The gated output. -/
def gateAt (i : Fin 4096) (n : Fin 512) : EReal := gelu (Y (ix2 i n)) * sigm (Z (ix2 i n) + B (ix2 0 n))

/-- The merged branches: the first half as it was, the gated output in the second. -/
def outAt (i : Fin 4096) (n : Fin 1024) : EReal := if h : n.val < 512 then M (ix2 i n) else gateAt Y Z B i ⟨n.val - 512, by omega⟩

end Cert.GluA

end
-- ==== Proof.GluA.Arrays.lean ====
/- The result array of the gate after the run. -/
module

public import proofs.«01_k».proof.Proof.Gen.GluAIdeal.Value
public import proofs.«01_k».proof.Proof.GluA.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GluAIdeal.Prod

open Cert.GluAIdeal Cert.GluAIdeal.Gen Cert.Common Cert.Act Cert.GluA

/-- The payload at an index. -/
theorem pay_at (y z : Vec Ideal S512x512 .f32) (b : Vec Ideal S1x512 .f32) (a n : Fin 512) :
    k0_pay1 y z b (ix2 a n) = gelu (y (ix2 a n)) * sigm (z (ix2 a n) + b (ix2 0 n)) := by
  unfold gelu sigm
  pointwise [k0_pay1, half, cubeBy, argBy]

variable (m : (ℓ : Loc nD τ sig) → Buf (Elt Ideal) ℓ)

/-- What a point leaves in its block. -/
theorem blk_out (c : Dev nD) (t : Fin cfg0.N) : outsAt0 m c t = k0_pay1 (iblk m c 0 t) (iblk m c 1 t) (iblk m c 2 t) := by
  unfold outsAt0
  frame_out

/-- Where every window's block stands. -/
theorem idx : ∀ t : Fin cfg0.N, win0_0.index t = ![t.val, 0] ∧ win0_1.index t = ![t.val, 0] ∧ win0_2.index t = ![0, 0]
    ∧ win0_3.index t = ![t.val, 1] :=
  (by decide +kernel : ∀ t : Fin grid0.N, _)

/-- The recurrence's output. -/
abbrev Yarr (c : Dev nD) : FVec Ideal S4096x512 .f32 := m ((c : Thread nD τ).loc main_arg0)
/-- The gate's product. -/
abbrev Zarr (c : Dev nD) : FVec Ideal S4096x512 .f32 := m ((c : Thread nD τ).loc main_arg1)
/-- The gate's bias. -/
abbrev Barr (c : Dev nD) : FVec Ideal S1x512 .f32 := m ((c : Thread nD τ).loc main_arg2)
/-- The merged branches before. -/
abbrev Marr (c : Dev nD) : FVec Ideal S4096x1024 .bf16 := m ((c : Thread nD τ).loc main_arg3)

/-- The block of the recurrence's output. -/
theorem blk_y (c : Dev nD) (t : Fin cfg0.N) (a n : Fin 512) (i : Fin 4096) (hi : i.val = t.val * 512 + a.val) :
    (show FVec Ideal S512x512 .f32 from iblk m c 0 t) (ix2 a n) = Yarr m c (ix2 i n) := by
  blk_ext [iblk, V, idx t]

/-- The block of the gate's product. -/
theorem blk_z (c : Dev nD) (t : Fin cfg0.N) (a n : Fin 512) (i : Fin 4096) (hi : i.val = t.val * 512 + a.val) :
    (show FVec Ideal S512x512 .f32 from iblk m c 1 t) (ix2 a n) = Zarr m c (ix2 i n) := by
  blk_ext [iblk, V, idx t]

/-- The bias's block. -/
theorem blk_b (c : Dev nD) (t : Fin cfg0.N) (n : Fin 512) :
    (show FVec Ideal S1x512 .f32 from iblk m c 2 t) (ix2 0 n) = Barr m c (ix2 0 n) := by
  blk_ext [iblk, V, idx t]

/-- A point's block is the gated output's rows. -/
theorem out_here (c : Dev nD) (t : Fin cfg0.N) (y : S512x512.Idx) (i : Fin 4096) (hi : i.val = t.val * 512 + (y 0).val) (n : Fin 1024)
    (hn : n.val = 512 + (y 1).val) :
    outsAt0 m c t y = outAt (Yarr m c) (Zarr m c) (Barr m c) (Marr m c) i n := by
  rw [blk_out]
  refine (congrArg (k0_pay1 (iblk m c 0 t) (iblk m c 1 t) (iblk m c 2 t)) (eq_ix2 y)).trans ((pay_at _ _ _ (y 0) (y 1)).trans ?_)
  unfold outAt
  rw [dif_neg (by omega)]
  have e : (⟨n.val - 512, by omega⟩ : Fin 512) = y 1 := Fin.ext (by dsimp only; omega)
  rw [e]
  exact congrArg₂ (· * ·) (congrArg gelu (blk_y m c t (y 0) (y 1) i hi))
    (congrArg sigm (congrArg₂ (· + ·) (blk_z m c t (y 0) (y 1) i hi) (blk_b m c t (y 1))))

/-- The result enters the region as a copy of the merged branches. -/
theorem entry (c : Dev nD) : V m c main_v0 = Marr m c := by
  unfold V
  after_results
  rfl

/-- After the run the result holds the merged branches. -/
theorem final (c : Dev nD) : (dats m 0 c).arrAt 3 (cfgs 0).N
    = fun i : S4096x1024.Idx => outAt (Yarr m c) (Zarr m c) (Barr m c) (Marr m c) (i 0) (i 1) := by
  refine (dats m 0 c).arrAt_eq_of_coversWhere_of_agree 3 _ (fun β => 1 ≤ β (1 : Fin 2)) (by decide +kernel) (fun t hfl y => ?_) (fun j hj => ?_)
  · have ht : t.val < 8 := lt_of_lt_of_eq t.isLt N_0
    have hy : (y 0 : ℕ) < 512 := (y 0).isLt
    have hy1 : (y 1 : ℕ) < 512 := (y 1).isLt
    blk_simp [idx t]
    rw [after0_3]
    refine out_here m c t y ((win0_3.blk t).view.emb y 0) ?_ ((win0_3.blk t).view.emb y 1) ?_
    · blk_simp [idx t]
    · blk_simp [idx t]
  · blk_simp [Pipeline.Window.cell_apply] at hj
    rw [A_eq]
    have hk : ((cfg0.win 3).arr.view.emb j (1 : Fin 2)).val < 512 := by
      have e : ((cfg0.win 3).arr.view.emb j (1 : Fin 2)).val = (j (1 : Fin 2)).val := by blk_simp []
      rw [e]
      omega
    refine (congrFun (entry m c) _).trans ?_
    unfold outAt
    refine Eq.trans ?_ (dif_pos hk).symm
    exact congrArg (Marr m c) (eq_ix2 _)

end Cert.GluAIdeal.Prod

end
-- ==== Proof.GluA.Ref.lean ====
/- The reference of the gate at an index. -/
module

public import proofs.«01_k».proof.Proof.Gen.GluAReferenceIdeal.Read
public import proofs.«01_k».proof.Proof.GluA.Spec
public import Idealize.ShloMosaic.Lib.Pointwise

@[expose] public section

set_option maxRecDepth 16384

noncomputable section

open Idealize.ShloMosaic Idealize.ShloMosaic.TcCoe Idealize.SL.Sem

namespace Cert.GluAReferenceIdeal.Prod

open Cert.GluAReferenceIdeal Cert.GluAReferenceIdeal.Gen Cert.GluAReferenceIdeal.Read Cert.Common Cert.Act Cert.GluA

variable (Y Z : FVec Ideal S4096x512 .f32) (B : FVec Ideal S1x512 .f32) (M : FVec Ideal S4096x1024 .bf16)

/-- The rectified output. -/
theorem gelu_at (i : Fin 4096) (n : Fin 512) : val_main_v13 (F := Ideal) Y (ix2 i n) = gelu (Y (ix2 i n)) := by
  rw [← gelu_eq]
  unfold geluRef
  pointwise [val_main_v13, val_main_v12, val_main_v11, val_main_v10, val_main_cst_2, val_main_v9, val_main_v8, val_main_cst_1, val_main_v7, val_main_v6,
    val_main_v5, val_main_cst_0, val_main_v4, val_main_v3, val_main_v2, val_main_cst, val_main_v1, half, cubeBy, argBy]

/-- The gate. -/
theorem gate_at (i : Fin 4096) (n : Fin 512) : val_main_v21 (F := Ideal) Z B (ix2 i n) = sigm (Z (ix2 i n) + B (ix2 0 n)) := by
  rw [sigm_eq]
  unfold logi
  pointwise [val_main_v21, val_main_v20, val_main_cst_4, val_main_v19, val_main_v18, val_main_v17, val_main_cst_3, val_main_v16, val_main_v15,
    val_main_v14]

/-- The gated output. -/
theorem gated_at (i : Fin 4096) (n : Fin 512) : val_main_v23 (F := Ideal) Y Z B (ix2 i n) = gateAt Y Z B i n := by
  unfold gateAt
  rw [← gelu_at, ← gate_at]
  pointwise [val_main_v23, val_main_v22]

/-- The result at an index. -/
theorem out_at (i : Fin 4096) (n : Fin 1024) : val_main_v24 (F := Ideal) Y Z B M (ix2 i n) = outAt Y Z B M i n := by
  unfold outAt
  by_cases h : n.val < 512
  · rw [dif_pos h]
    pointwise [val_main_v24, val_main_v0]
    rw [dif_pos h]
  · rw [dif_neg h, ← gated_at]
    pointwise [val_main_v24]
    rw [dif_neg h]

/-- The result. -/
theorem meet : val_main_v24 (F := Ideal) Y Z B M = fun i : S4096x1024.Idx => outAt Y Z B M (i 0) (i 1) := by
  funext i
  rw [eq_ix2 i]
  exact out_at Y Z B M (i 0) (i 1)

end Cert.GluAReferenceIdeal.Prod

end
-- ==== Proof.lean ====
/- The proof of the claim: the frames are the generated runs; the value claim joins the kernel's arrays with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.XAttn.Arrays
public import proofs.«01_k».proof.Proof.XAttn.Meet
public import proofs.«01_k».proof.Proof.XAttn.Finite
public import proofs.«01_k».proof.Proof.Gen.Up.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Up.Arrays
public import proofs.«01_k».proof.Proof.Up.Ref
public import proofs.«01_k».proof.Proof.Gen.Act.Frame
public import proofs.«01_k».proof.Proof.Gen.ActIdeal.Value
public import proofs.«01_k».proof.Proof.Gen.ActReferenceIdeal.Run
public import proofs.«01_k».proof.Proof.Gen.ActReferenceIdeal.Read
public import proofs.«01_k».proof.Proof.Gen.UpW.Frame
public import proofs.«01_k».proof.Proof.Gen.UpWIdeal.Value
public import proofs.«01_k».proof.Proof.Gen.UpWReferenceIdeal.Run
public import proofs.«01_k».proof.Proof.Gen.UpWReferenceIdeal.Read
public import proofs.«01_k».proof.Proof.Gen.DownX.Frame
public import proofs.«01_k».proof.Proof.Gen.DownXIdeal.Value
public import proofs.«01_k».proof.Proof.Gen.DownXReferenceIdeal.Run
public import proofs.«01_k».proof.Proof.Gen.DownXReferenceIdeal.Read
public import proofs.«01_k».proof.Proof.Gen.DownW.Frame
public import proofs.«01_k».proof.Proof.Gen.DownWIdeal.Value
public import proofs.«01_k».proof.Proof.Gen.DownWReferenceIdeal.Run
public import proofs.«01_k».proof.Proof.Gen.DownWReferenceIdeal.Read
public import proofs.«01_k».proof.Proof.Gen.SqW.Frame
public import proofs.«01_k».proof.Proof.Gen.SqWIdeal.Value
public import proofs.«01_k».proof.Proof.Gen.SqWReferenceIdeal.Run
public import proofs.«01_k».proof.Proof.Gen.SqWReferenceIdeal.Read
public import proofs.«01_k».proof.Proof.Gen.QW.Frame
public import proofs.«01_k».proof.Proof.Gen.QWIdeal.Value
public import proofs.«01_k».proof.Proof.Gen.QWReferenceIdeal.Run
public import proofs.«01_k».proof.Proof.Gen.QWReferenceIdeal.Read
public import proofs.«01_k».proof.Proof.Gen.InWb.Frame
public import proofs.«01_k».proof.Proof.Gen.InWbIdeal.Value
public import proofs.«01_k».proof.Proof.Gen.InWbReferenceIdeal.Run
public import proofs.«01_k».proof.Proof.Gen.InWbReferenceIdeal.Read
public import proofs.«01_k».proof.Proof.Gen.InWa.Frame
public import proofs.«01_k».proof.Proof.Gen.InWaIdeal.Value
public import proofs.«01_k».proof.Proof.Gen.InWaReferenceIdeal.Run
public import proofs.«01_k».proof.Proof.Gen.InWaReferenceIdeal.Read
public import proofs.«01_k».proof.Proof.Gen.SqX.Frame
public import proofs.«01_k».proof.Proof.Gen.SqXIdeal.Value
public import proofs.«01_k».proof.Proof.Gen.SqXReferenceIdeal.Run
public import proofs.«01_k».proof.Proof.Gen.SqXReferenceIdeal.Read
public import proofs.«01_k».proof.Proof.Gen.InXb.Frame
public import proofs.«01_k».proof.Proof.Gen.InXbIdeal.Value
public import proofs.«01_k».proof.Proof.Gen.InXbReferenceIdeal.Run
public import proofs.«01_k».proof.Proof.Gen.InXbReferenceIdeal.Read
public import proofs.«01_k».proof.Proof.Gen.InXa.Frame
public import proofs.«01_k».proof.Proof.Gen.InXaIdeal.Value
public import proofs.«01_k».proof.Proof.Gen.InXaReferenceIdeal.Run
public import proofs.«01_k».proof.Proof.Gen.InXaReferenceIdeal.Read
public import proofs.«01_k».proof.Proof.Gen.QX.Frame
public import proofs.«01_k».proof.Proof.Gen.QXIdeal.Value
public import proofs.«01_k».proof.Proof.Gen.QXReferenceIdeal.Run
public import proofs.«01_k».proof.Proof.Gen.QXReferenceIdeal.Read
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.FfnUpReferenceIdeal.Read
public import proofs.«01_k».proof.Proof.Gen.Inb.Frame
public import proofs.«01_k».proof.Proof.Gen.InbIdeal.Value
public import proofs.«01_k».proof.Proof.Gen.InbReferenceIdeal.Run
public import proofs.«01_k».proof.Proof.Gen.InbReferenceIdeal.Read
public import proofs.«01_k».proof.Proof.Gen.Ina.Frame
public import proofs.«01_k».proof.Proof.Gen.InaIdeal.Value
public import proofs.«01_k».proof.Proof.Gen.InaReferenceIdeal.Run
public import proofs.«01_k».proof.Proof.Gen.InaReferenceIdeal.Read
public import proofs.«01_k».proof.Proof.Gen.Qf.Frame
public import proofs.«01_k».proof.Proof.Gen.QfIdeal.Value
public import proofs.«01_k».proof.Proof.Gen.QfReferenceIdeal.Run
public import proofs.«01_k».proof.Proof.Gen.QfReferenceIdeal.Read
public import proofs.«01_k».proof.Proof.Gen.Out.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.Down.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Act.Arrays
public import proofs.«01_k».proof.Proof.Act.Ref
public import proofs.«01_k».proof.Proof.Act.Finite
public import proofs.«01_k».proof.Proof.UpW.Arrays
public import proofs.«01_k».proof.Proof.UpW.Ref
public import proofs.«01_k».proof.Proof.DownX.Arrays
public import proofs.«01_k».proof.Proof.DownX.Ref
public import proofs.«01_k».proof.Proof.DownW.Arrays
public import proofs.«01_k».proof.Proof.DownW.Ref
public import proofs.«01_k».proof.Proof.SqW.Arrays
public import proofs.«01_k».proof.Proof.SqW.Ref
public import proofs.«01_k».proof.Proof.QW.Arrays
public import proofs.«01_k».proof.Proof.QW.Ref
public import proofs.«01_k».proof.Proof.InWb.Arrays
public import proofs.«01_k».proof.Proof.InWb.Ref
public import proofs.«01_k».proof.Proof.InWa.Arrays
public import proofs.«01_k».proof.Proof.InWa.Ref
public import proofs.«01_k».proof.Proof.SqX.Arrays
public import proofs.«01_k».proof.Proof.SqX.Ref
public import proofs.«01_k».proof.Proof.InXb.Arrays
public import proofs.«01_k».proof.Proof.InXb.Ref
public import proofs.«01_k».proof.Proof.InXa.Arrays
public import proofs.«01_k».proof.Proof.InXa.Ref
public import proofs.«01_k».proof.Proof.QX.Arrays
public import proofs.«01_k».proof.Proof.QX.Ref
public import proofs.«01_k».proof.Proof.FfnUp.Arrays
public import proofs.«01_k».proof.Proof.FfnUp.Ref
public import proofs.«01_k».proof.Proof.Inb.Arrays
public import proofs.«01_k».proof.Proof.Inb.Ref
public import proofs.«01_k».proof.Proof.Ina.Arrays
public import proofs.«01_k».proof.Proof.Ina.Ref
public import proofs.«01_k».proof.Proof.Qf.Arrays
public import proofs.«01_k».proof.Proof.Qf.Ref
public import proofs.«01_k».proof.Proof.Out.Arrays
public import proofs.«01_k».proof.Proof.Out.Ref
public import proofs.«01_k».proof.Proof.Down.Arrays
public import proofs.«01_k».proof.Proof.Down.Ref
public import proofs.«01_k».proof.Proof.Gen.DownB.Frame
public import proofs.«01_k».proof.Proof.Gen.DownBIdeal.Value
public import proofs.«01_k».proof.Proof.Gen.DownBReferenceIdeal.Run
public import proofs.«01_k».proof.Proof.Gen.DownBReferenceIdeal.Read
public import proofs.«01_k».proof.Proof.Gen.GluF.Frame
public import proofs.«01_k».proof.Proof.Gen.GluFIdeal.Value
public import proofs.«01_k».proof.Proof.Gen.GluFReferenceIdeal.Run
public import proofs.«01_k».proof.Proof.Gen.GluFReferenceIdeal.Read
public import proofs.«01_k».proof.Proof.Gen.GluW.Frame
public import proofs.«01_k».proof.Proof.Gen.GluWIdeal.Value
public import proofs.«01_k».proof.Proof.Gen.GluWReferenceIdeal.Run
public import proofs.«01_k».proof.Proof.Gen.GluWReferenceIdeal.Read
public import proofs.«01_k».proof.Proof.Gen.GluX.Frame
public import proofs.«01_k».proof.Proof.Gen.GluXIdeal.Value
public import proofs.«01_k».proof.Proof.Gen.GluXReferenceIdeal.Run
public import proofs.«01_k».proof.Proof.Gen.GluXReferenceIdeal.Read
public import proofs.«01_k».proof.Proof.Gen.KvF.Frame
public import proofs.«01_k».proof.Proof.Gen.KvFIdeal.Value
public import proofs.«01_k».proof.Proof.Gen.KvFReferenceIdeal.Run
public import proofs.«01_k».proof.Proof.Gen.KvFReferenceIdeal.Read
public import proofs.«01_k».proof.Proof.Gen.KvW.Frame
public import proofs.«01_k».proof.Proof.Gen.KvWIdeal.Value
public import proofs.«01_k».proof.Proof.Gen.KvWReferenceIdeal.Run
public import proofs.«01_k».proof.Proof.Gen.KvWReferenceIdeal.Read
public import proofs.«01_k».proof.Proof.Gen.KvX.Frame
public import proofs.«01_k».proof.Proof.Gen.KvXIdeal.Value
public import proofs.«01_k».proof.Proof.Gen.KvXReferenceIdeal.Run
public import proofs.«01_k».proof.Proof.Gen.KvXReferenceIdeal.Read
public import proofs.«01_k».proof.Proof.Gen.NormF.Frame
public import proofs.«01_k».proof.Proof.Gen.NormFIdeal.Value
public import proofs.«01_k».proof.Proof.Gen.NormFReferenceIdeal.Run
public import proofs.«01_k».proof.Proof.Gen.NormFReferenceIdeal.Read
public import proofs.«01_k».proof.Proof.Gen.MemF.Frame
public import proofs.«01_k».proof.Proof.Gen.MemFIdeal.Value
public import proofs.«01_k».proof.Proof.Gen.MemFReferenceIdeal.Run
public import proofs.«01_k».proof.Proof.Gen.MemFReferenceIdeal.Read
public import proofs.«01_k».proof.Proof.Gen.MemB.Frame
public import proofs.«01_k».proof.Proof.Gen.MemBIdeal.Value
public import proofs.«01_k».proof.Proof.Gen.MemBReferenceIdeal.Run
public import proofs.«01_k».proof.Proof.Gen.MemBReferenceIdeal.Read
public import proofs.«01_k».proof.Proof.Gen.XaF.Frame
public import proofs.«01_k».proof.Proof.Gen.XaFIdeal.Value
public import proofs.«01_k».proof.Proof.Gen.XaFReferenceIdeal.Run
public import proofs.«01_k».proof.Proof.Gen.XaFReferenceIdeal.Read
public import proofs.«01_k».proof.Proof.Gen.GluB.Frame
public import proofs.«01_k».proof.Proof.Gen.GluBIdeal.Value
public import proofs.«01_k».proof.Proof.Gen.GluBReferenceIdeal.Run
public import proofs.«01_k».proof.Proof.Gen.GluBReferenceIdeal.Read
public import proofs.«01_k».proof.Proof.Gen.Loss.Frame
public import proofs.«01_k».proof.Proof.Gen.LossIdeal.Value
public import proofs.«01_k».proof.Proof.Gen.LossReferenceIdeal.Run
public import proofs.«01_k».proof.Proof.Gen.LossReferenceIdeal.Read
public import proofs.«01_k».proof.Proof.Gen.ActF.Frame
public import proofs.«01_k».proof.Proof.Gen.ActFIdeal.Value
public import proofs.«01_k».proof.Proof.Gen.ActFReferenceIdeal.Run
public import proofs.«01_k».proof.Proof.Gen.ActFReferenceIdeal.Read
public import proofs.«01_k».proof.Proof.Gen.GateF.Frame
public import proofs.«01_k».proof.Proof.Gen.GateFIdeal.Value
public import proofs.«01_k».proof.Proof.Gen.GateFReferenceIdeal.Run
public import proofs.«01_k».proof.Proof.Gen.GateFReferenceIdeal.Read
public import proofs.«01_k».proof.Proof.Gen.ConvF.Frame
public import proofs.«01_k».proof.Proof.Gen.ConvFIdeal.Value
public import proofs.«01_k».proof.Proof.Gen.ConvFReferenceIdeal.Run
public import proofs.«01_k».proof.Proof.Gen.ConvFReferenceIdeal.Read
public import proofs.«01_k».proof.Proof.Gen.GluA.Frame
public import proofs.«01_k».proof.Proof.Gen.GluAIdeal.Value
public import proofs.«01_k».proof.Proof.Gen.GluAReferenceIdeal.Run
public import proofs.«01_k».proof.Proof.Gen.GluAReferenceIdeal.Read
public import proofs.«01_k».proof.Proof.DownB.Arrays
public import proofs.«01_k».proof.Proof.DownB.Ref
public import proofs.«01_k».proof.Proof.GluF.Arrays
public import proofs.«01_k».proof.Proof.GluF.Ref
public import proofs.«01_k».proof.Proof.GluW.Arrays
public import proofs.«01_k».proof.Proof.GluW.Ref
public import proofs.«01_k».proof.Proof.GluX.Arrays
public import proofs.«01_k».proof.Proof.GluX.Ref
public import proofs.«01_k».proof.Proof.KvF.Arrays
public import proofs.«01_k».proof.Proof.KvF.Ref
public import proofs.«01_k».proof.Proof.KvW.Arrays
public import proofs.«01_k».proof.Proof.KvW.Ref
public import proofs.«01_k».proof.Proof.KvX.Arrays
public import proofs.«01_k».proof.Proof.KvX.Ref
public import proofs.«01_k».proof.Proof.NormF.Arrays
public import proofs.«01_k».proof.Proof.NormF.Ref
public import proofs.«01_k».proof.Proof.MemF.Arrays
public import proofs.«01_k».proof.Proof.MemF.Ref
public import proofs.«01_k».proof.Proof.MemB.Arrays
public import proofs.«01_k».proof.Proof.MemB.Ref
public import proofs.«01_k».proof.Proof.XaF.Arrays
public import proofs.«01_k».proof.Proof.XaF.Ref
public import proofs.«01_k».proof.Proof.GluB.Arrays
public import proofs.«01_k».proof.Proof.GluB.Ref
public import proofs.«01_k».proof.Proof.Loss.Arrays
public import proofs.«01_k».proof.Proof.Loss.Ref
public import proofs.«01_k».proof.Proof.ActF.Arrays
public import proofs.«01_k».proof.Proof.ActF.Ref
public import proofs.«01_k».proof.Proof.GateF.Arrays
public import proofs.«01_k».proof.Proof.GateF.Ref
public import proofs.«01_k».proof.Proof.ConvF.Arrays
public import proofs.«01_k».proof.Proof.ConvF.Ref
public import proofs.«01_k».proof.Proof.GluA.Arrays
public import proofs.«01_k».proof.Proof.GluA.Ref
public import Idealize.ShloMosaic.Adequacy
public import Idealize.ShloMosaic.Init

@[expose] public section

noncomputable section

namespace Cert.Proof

open Idealize.ShloMosaic Idealize.SL.Sem

/-- The reference runs, leaves its arguments alone and has no counter to leave open. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- The kernel is the reference, for every memory in which the queries and the keys are finite. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.proven) := by
  pair_intro
  · run_from Cert.KernelIdeal.Gen.run_main m g
  · run_from Cert.ReferenceIdeal.Value.run m' g'
    · rw [Cert.ReferenceIdeal.Read.val_main_v71_eq, (hagree c).1, (hagree c).2.1, (hagree c).2.2]
      obtain ⟨hq, hk⟩ := @Cert.Pre_finite_scores.reals Cert.Pre_finite_scores.proven _ _ _ (hpre c)
      exact (Cert.ReferenceIdeal.XAttn.dq_meet _ _ _ hq hk).trans (Cert.KernelIdeal.XAttn.final_dq m c).symm
    · rw [Cert.ReferenceIdeal.Read.val_main_v69_eq, (hagree c).1, (hagree c).2.1, (hagree c).2.2]
      obtain ⟨hq, hk⟩ := @Cert.Pre_finite_scores.reals Cert.Pre_finite_scores.proven _ _ _ (hpre c)
      exact (Cert.ReferenceIdeal.XAttn.dkv_meet _ _ _ hq hk).trans (Cert.KernelIdeal.XAttn.final_dkv m c).symm

/-- The norm's reference runs, leaves its arguments alone and has no counter to leave open. -/
theorem up_reference_frame (m : (ℓ : Loc Cert.UpReferenceIdeal.nD Cert.UpReferenceIdeal.τ Cert.UpReferenceIdeal.sig) → Buf (Elt Ideal) ℓ)
    (g : Dev Cert.UpReferenceIdeal.nD → PrngReg) :
    θ_run (Cert.UpReferenceIdeal.defs (F := Ideal)) (onTc (τ := Cert.UpReferenceIdeal.τ) (Cert.UpReferenceIdeal.main (F := Ideal))) ⟨m, fun _ => 0, g⟩
      (fun r => (∀ c : Dev Cert.UpReferenceIdeal.nD,
        r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
        ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
        ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
        ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
        ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
        ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
        ∧ r.2.sem = fun _ => 0) :=
  (θ_run Cert.UpReferenceIdeal.defs _ _).mono (fun r h => ⟨fun c => (h c).2.2, sem_eq_zero_of_no_sems (by decide) r.2⟩)
    (Cert.UpReferenceIdeal.Value.run (F := Ideal) m g)

/-- The gradient of the norm before the feed-forward block is its reference, for every memory. -/
theorem up : Cert.algebraic_UpIdeal_UpReferenceIdeal (hUpIdeal := Cert.UpIdeal.Gen.facts)
    (hUpReferenceIdeal := Cert.UpReferenceIdeal.Gen.facts) := by
  pair_intro
  · run_from Cert.UpIdeal.Gen.run_main m g
  · run_from Cert.UpReferenceIdeal.Value.run m' g'
    · rw [Cert.UpReferenceIdeal.Read.val_main_v42_eq, (hagree c).1, (hagree c).2.1, (hagree c).2.2.1, (hagree c).2.2.2.1,
        (hagree c).2.2.2.2.1, (hagree c).2.2.2.2.2]
      exact (Cert.UpReferenceIdeal.Up.dx_meet _ _ _ _ _ _).trans (Cert.UpIdeal.Up.final_dx m c).symm
    · rw [Cert.UpReferenceIdeal.Read.val_main_v43_eq]
      exact (Cert.UpReferenceIdeal.Up.dg_meet _ _ _ _).trans (Cert.UpIdeal.Up.final_dg m c).symm

/-- The gated activation's reference runs, leaves its arguments alone and has no counter to leave open. -/
theorem act_reference_frame (m : (ℓ : Loc Cert.ActReferenceIdeal.nD Cert.ActReferenceIdeal.τ Cert.ActReferenceIdeal.sig) → Buf (Elt Ideal) ℓ)
    (g : Dev Cert.ActReferenceIdeal.nD → PrngReg) :
    θ_run (Cert.ActReferenceIdeal.defs (F := Ideal)) (onTc (τ := Cert.ActReferenceIdeal.τ) (Cert.ActReferenceIdeal.main (F := Ideal))) ⟨m, fun _ => 0, g⟩
      (fun r => (∀ c : Dev Cert.ActReferenceIdeal.nD,
        r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
        ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
        ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
        ∧ r.2.sem = fun _ => 0) :=
  (θ_run Cert.ActReferenceIdeal.defs _ _).mono (fun r h => ⟨fun c => (h c).2.2.2.2, sem_eq_zero_of_no_sems (by decide) r.2⟩)
    (Cert.ActReferenceIdeal.Value.run (F := Ideal) m g)

/-- The gradient of the gated activation is its reference, for every memory whose arguments are finite. -/
theorem act : Cert.algebraic_ActIdeal_ActReferenceIdeal_pre_finite_act (hActIdeal := Cert.ActIdeal.Gen.facts)
    (hActReferenceIdeal := Cert.ActReferenceIdeal.Gen.facts) (hPre_finite_act := Cert.Pre_finite_act.proven) := by
  pair_intro
  · run_from Cert.ActIdeal.Gen.run_main m g
  · run_from Cert.ActReferenceIdeal.Value.run m' g'
    · rw [Cert.ActReferenceIdeal.Read.val_main_v67_eq, (hagree c).1, (hagree c).2.1, (hagree c).2.2]
      obtain ⟨hp, hw, hd⟩ := @Cert.Pre_finite_act.reals Cert.Pre_finite_act.proven _ _ _ (hpre c)
      exact (Cert.ActReferenceIdeal.Act.du_meet _ _ _ hp hw).trans (Cert.ActIdeal.Act.final_du m c).symm
    · rw [Cert.ActReferenceIdeal.Read.val_main_v68_eq, (hagree c).1, (hagree c).2.1, (hagree c).2.2]
      obtain ⟨hp, hw, hd⟩ := @Cert.Pre_finite_act.reals Cert.Pre_finite_act.proven _ _ _ (hpre c)
      exact (Cert.ActReferenceIdeal.Act.dg_meet _ _ _ hp hw hd).trans (Cert.ActIdeal.Act.final_dg m c).symm
    · rw [Cert.ActReferenceIdeal.Read.val_main_v69_eq, (hagree c).1, (hagree c).2.1, (hagree c).2.2]
      obtain ⟨hp, hw, hd⟩ := @Cert.Pre_finite_act.reals Cert.Pre_finite_act.proven _ _ _ (hpre c)
      exact (Cert.ActReferenceIdeal.Act.dwu_meet _ _ _ hp hw).trans (Cert.ActIdeal.Act.final_dwu m c).symm
    · rw [Cert.ActReferenceIdeal.Read.val_main_v70_eq, (hagree c).1, (hagree c).2.1, (hagree c).2.2]
      obtain ⟨hp, hw, hd⟩ := @Cert.Pre_finite_act.reals Cert.Pre_finite_act.proven _ _ _ (hpre c)
      exact (Cert.ActReferenceIdeal.Act.dwg_meet _ _ _ hp hw hd).trans (Cert.ActIdeal.Act.final_dwg m c).symm

/-- The up-projection weights' reference runs, leaves its arguments alone and has no counter to leave open. -/
theorem up_w_reference_frame (m : (ℓ : Loc Cert.UpWReferenceIdeal.nD Cert.UpWReferenceIdeal.τ Cert.UpWReferenceIdeal.sig) → Buf (Elt Ideal) ℓ)
    (g : Dev Cert.UpWReferenceIdeal.nD → PrngReg) :
    θ_run (Cert.UpWReferenceIdeal.defs (F := Ideal)) (onTc (τ := Cert.UpWReferenceIdeal.τ) (Cert.UpWReferenceIdeal.main (F := Ideal))) ⟨m, fun _ => 0, g⟩
      (fun r => (∀ c : Dev Cert.UpWReferenceIdeal.nD,
        r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
        ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1))
        ∧ r.2.sem = fun _ => 0) :=
  (θ_run Cert.UpWReferenceIdeal.defs _ _).mono (fun r h => ⟨fun c => (h c).2, sem_eq_zero_of_no_sems (by decide) r.2⟩)
    (Cert.UpWReferenceIdeal.Value.run (F := Ideal) m g)

/-- The gradient of the up-projection's weights is its reference, for every memory. -/
theorem up_w : Cert.algebraic_UpWIdeal_UpWReferenceIdeal (hUpWIdeal := Cert.UpWIdeal.Gen.facts)
    (hUpWReferenceIdeal := Cert.UpWReferenceIdeal.Gen.facts) := by
  pair_intro
  · run_from Cert.UpWIdeal.Gen.run_main m g
  · run_from Cert.UpWReferenceIdeal.Value.run m' g'
    rw [Cert.UpWReferenceIdeal.Read.val_main_v6_eq]
    exact (Cert.UpWReferenceIdeal.Prod.meet _ _).trans (Cert.UpWIdeal.Prod.final m c).symm

/-- The down-projection input's reference runs, leaves its arguments alone and has no counter to leave open. -/
theorem down_x_reference_frame (m : (ℓ : Loc Cert.DownXReferenceIdeal.nD Cert.DownXReferenceIdeal.τ Cert.DownXReferenceIdeal.sig) → Buf (Elt Ideal) ℓ)
    (g : Dev Cert.DownXReferenceIdeal.nD → PrngReg) :
    θ_run (Cert.DownXReferenceIdeal.defs (F := Ideal)) (onTc (τ := Cert.DownXReferenceIdeal.τ) (Cert.DownXReferenceIdeal.main (F := Ideal))) ⟨m, fun _ => 0, g⟩
      (fun r => (∀ c : Dev Cert.DownXReferenceIdeal.nD,
        r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
        ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1))
        ∧ r.2.sem = fun _ => 0) :=
  (θ_run Cert.DownXReferenceIdeal.defs _ _).mono (fun r h => ⟨fun c => (h c).2, sem_eq_zero_of_no_sems (by decide) r.2⟩)
    (Cert.DownXReferenceIdeal.Value.run (F := Ideal) m g)

/-- The gradient of the down-projection's input is its reference, for every memory. -/
theorem down_x : Cert.algebraic_DownXIdeal_DownXReferenceIdeal (hDownXIdeal := Cert.DownXIdeal.Gen.facts)
    (hDownXReferenceIdeal := Cert.DownXReferenceIdeal.Gen.facts) := by
  pair_intro
  · run_from Cert.DownXIdeal.Gen.run_main m g
  · run_from Cert.DownXReferenceIdeal.Value.run m' g'
    rw [Cert.DownXReferenceIdeal.Read.val_main_v4_eq]
    exact (Cert.DownXReferenceIdeal.Prod.meet _ _).trans (Cert.DownXIdeal.Prod.final m c).symm

/-- The down-projection weights' reference runs, leaves its arguments alone and has no counter to leave open. -/
theorem down_w_reference_frame (m : (ℓ : Loc Cert.DownWReferenceIdeal.nD Cert.DownWReferenceIdeal.τ Cert.DownWReferenceIdeal.sig) → Buf (Elt Ideal) ℓ)
    (g : Dev Cert.DownWReferenceIdeal.nD → PrngReg) :
    θ_run (Cert.DownWReferenceIdeal.defs (F := Ideal)) (onTc (τ := Cert.DownWReferenceIdeal.τ) (Cert.DownWReferenceIdeal.main (F := Ideal))) ⟨m, fun _ => 0, g⟩
      (fun r => (∀ c : Dev Cert.DownWReferenceIdeal.nD,
        r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
        ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
        ∧ r.2.sem = fun _ => 0) :=
  (θ_run Cert.DownWReferenceIdeal.defs _ _).mono (fun r h => ⟨fun c => (h c).2, sem_eq_zero_of_no_sems (by decide) r.2⟩)
    (Cert.DownWReferenceIdeal.Value.run (F := Ideal) m g)

/-- The gradient of the down-projection's weights is its reference, for every memory. -/
theorem down_w : Cert.algebraic_DownWIdeal_DownWReferenceIdeal (hDownWIdeal := Cert.DownWIdeal.Gen.facts)
    (hDownWReferenceIdeal := Cert.DownWReferenceIdeal.Gen.facts) := by
  pair_intro
  · run_from Cert.DownWIdeal.Gen.run_main m g
  · run_from Cert.DownWReferenceIdeal.Value.run m' g'
    rw [Cert.DownWReferenceIdeal.Read.val_main_v5_eq]
    exact (Cert.DownWReferenceIdeal.Prod.meet _ _).trans (Cert.DownWIdeal.Prod.final m c).symm

/-- The square output products' weights' reference runs, leaves its arguments alone and has no counter to leave open. -/
theorem square_w_reference_frame (m : (ℓ : Loc Cert.SqWReferenceIdeal.nD Cert.SqWReferenceIdeal.τ Cert.SqWReferenceIdeal.sig) → Buf (Elt Ideal) ℓ)
    (g : Dev Cert.SqWReferenceIdeal.nD → PrngReg) :
    θ_run (Cert.SqWReferenceIdeal.defs (F := Ideal)) (onTc (τ := Cert.SqWReferenceIdeal.τ) (Cert.SqWReferenceIdeal.main (F := Ideal))) ⟨m, fun _ => 0, g⟩
      (fun r => (∀ c : Dev Cert.SqWReferenceIdeal.nD,
        r.2.mem ((c.tc : Thread Cert.SqWReferenceIdeal.nD Cert.SqWReferenceIdeal.τ).loc Cert.SqWReferenceIdeal.main_arg0) = m ((c.tc : Thread Cert.SqWReferenceIdeal.nD Cert.SqWReferenceIdeal.τ).loc Cert.SqWReferenceIdeal.main_arg0)
        ∧ r.2.mem ((c.tc : Thread Cert.SqWReferenceIdeal.nD Cert.SqWReferenceIdeal.τ).loc Cert.SqWReferenceIdeal.main_arg1) = m ((c.tc : Thread Cert.SqWReferenceIdeal.nD Cert.SqWReferenceIdeal.τ).loc Cert.SqWReferenceIdeal.main_arg1))
        ∧ r.2.sem = fun _ => 0) :=
  (θ_run Cert.SqWReferenceIdeal.defs _ _).mono (fun r h => ⟨fun c => (h c).2, sem_eq_zero_of_no_sems (by decide) r.2⟩)
    (Cert.SqWReferenceIdeal.Value.run (F := Ideal) m g)

/-- The gradient of a square output product's weights is its reference, for every memory. -/
theorem square_w : Cert.algebraic_SqWIdeal_SqWReferenceIdeal (hSqWIdeal := Cert.SqWIdeal.Gen.facts)
    (hSqWReferenceIdeal := Cert.SqWReferenceIdeal.Gen.facts) := by
  pair_intro
  · run_from Cert.SqWIdeal.Gen.run_main m g
  · run_from Cert.SqWReferenceIdeal.Value.run m' g'
    rw [Cert.SqWReferenceIdeal.Read.val_main_v5_eq]
    exact (Cert.SqWReferenceIdeal.Prod.meet _ _).trans (Cert.SqWIdeal.Prod.final m c).symm

/-- The query weights' reference runs, leaves its arguments alone and has no counter to leave open. -/
theorem query_w_reference_frame (m : (ℓ : Loc Cert.QWReferenceIdeal.nD Cert.QWReferenceIdeal.τ Cert.QWReferenceIdeal.sig) → Buf (Elt Ideal) ℓ)
    (g : Dev Cert.QWReferenceIdeal.nD → PrngReg) :
    θ_run (Cert.QWReferenceIdeal.defs (F := Ideal)) (onTc (τ := Cert.QWReferenceIdeal.τ) (Cert.QWReferenceIdeal.main (F := Ideal))) ⟨m, fun _ => 0, g⟩
      (fun r => (∀ c : Dev Cert.QWReferenceIdeal.nD,
        r.2.mem ((c.tc : Thread Cert.QWReferenceIdeal.nD Cert.QWReferenceIdeal.τ).loc Cert.QWReferenceIdeal.main_arg0) = m ((c.tc : Thread Cert.QWReferenceIdeal.nD Cert.QWReferenceIdeal.τ).loc Cert.QWReferenceIdeal.main_arg0)
        ∧ r.2.mem ((c.tc : Thread Cert.QWReferenceIdeal.nD Cert.QWReferenceIdeal.τ).loc Cert.QWReferenceIdeal.main_arg1) = m ((c.tc : Thread Cert.QWReferenceIdeal.nD Cert.QWReferenceIdeal.τ).loc Cert.QWReferenceIdeal.main_arg1))
        ∧ r.2.sem = fun _ => 0) :=
  (θ_run Cert.QWReferenceIdeal.defs _ _).mono (fun r h => ⟨fun c => (h c).2, sem_eq_zero_of_no_sems (by decide) r.2⟩)
    (Cert.QWReferenceIdeal.Value.run (F := Ideal) m g)

/-- The gradient of the query product's weights is its reference, for every memory. -/
theorem query_w : Cert.algebraic_QWIdeal_QWReferenceIdeal (hQWIdeal := Cert.QWIdeal.Gen.facts)
    (hQWReferenceIdeal := Cert.QWReferenceIdeal.Gen.facts) := by
  pair_intro
  · run_from Cert.QWIdeal.Gen.run_main m g
  · run_from Cert.QWReferenceIdeal.Value.run m' g'
    rw [Cert.QWReferenceIdeal.Read.val_main_v6_eq]
    exact (Cert.QWReferenceIdeal.Prod.meet _ _).trans (Cert.QWIdeal.Prod.final m c).symm

/-- The second layer's input weights' reference runs, leaves its arguments alone and has no counter to leave open. -/
theorem in_w_b_reference_frame (m : (ℓ : Loc Cert.InWbReferenceIdeal.nD Cert.InWbReferenceIdeal.τ Cert.InWbReferenceIdeal.sig) → Buf (Elt Ideal) ℓ)
    (g : Dev Cert.InWbReferenceIdeal.nD → PrngReg) :
    θ_run (Cert.InWbReferenceIdeal.defs (F := Ideal)) (onTc (τ := Cert.InWbReferenceIdeal.τ) (Cert.InWbReferenceIdeal.main (F := Ideal))) ⟨m, fun _ => 0, g⟩
      (fun r => (∀ c : Dev Cert.InWbReferenceIdeal.nD,
        r.2.mem ((c.tc : Thread Cert.InWbReferenceIdeal.nD Cert.InWbReferenceIdeal.τ).loc Cert.InWbReferenceIdeal.main_arg0) = m ((c.tc : Thread Cert.InWbReferenceIdeal.nD Cert.InWbReferenceIdeal.τ).loc Cert.InWbReferenceIdeal.main_arg0)
        ∧ r.2.mem ((c.tc : Thread Cert.InWbReferenceIdeal.nD Cert.InWbReferenceIdeal.τ).loc Cert.InWbReferenceIdeal.main_arg1) = m ((c.tc : Thread Cert.InWbReferenceIdeal.nD Cert.InWbReferenceIdeal.τ).loc Cert.InWbReferenceIdeal.main_arg1))
        ∧ r.2.sem = fun _ => 0) :=
  (θ_run Cert.InWbReferenceIdeal.defs _ _).mono (fun r h => ⟨fun c => (h c).2, sem_eq_zero_of_no_sems (by decide) r.2⟩)
    (Cert.InWbReferenceIdeal.Value.run (F := Ideal) m g)

/-- The gradient of the second layer's input weights is its reference, for every memory. -/
theorem in_w_b : Cert.algebraic_InWbIdeal_InWbReferenceIdeal (hInWbIdeal := Cert.InWbIdeal.Gen.facts)
    (hInWbReferenceIdeal := Cert.InWbReferenceIdeal.Gen.facts) := by
  pair_intro
  · run_from Cert.InWbIdeal.Gen.run_main m g
  · run_from Cert.InWbReferenceIdeal.Value.run m' g'
    rw [Cert.InWbReferenceIdeal.Read.val_main_v6_eq]
    exact (Cert.InWbReferenceIdeal.Prod.meet _ _).trans (Cert.InWbIdeal.Prod.final m c).symm

/-- The first layer's input weights' reference runs, leaves its arguments alone and has no counter to leave open. -/
theorem in_w_a_reference_frame (m : (ℓ : Loc Cert.InWaReferenceIdeal.nD Cert.InWaReferenceIdeal.τ Cert.InWaReferenceIdeal.sig) → Buf (Elt Ideal) ℓ)
    (g : Dev Cert.InWaReferenceIdeal.nD → PrngReg) :
    θ_run (Cert.InWaReferenceIdeal.defs (F := Ideal)) (onTc (τ := Cert.InWaReferenceIdeal.τ) (Cert.InWaReferenceIdeal.main (F := Ideal))) ⟨m, fun _ => 0, g⟩
      (fun r => (∀ c : Dev Cert.InWaReferenceIdeal.nD,
        r.2.mem ((c.tc : Thread Cert.InWaReferenceIdeal.nD Cert.InWaReferenceIdeal.τ).loc Cert.InWaReferenceIdeal.main_arg0) = m ((c.tc : Thread Cert.InWaReferenceIdeal.nD Cert.InWaReferenceIdeal.τ).loc Cert.InWaReferenceIdeal.main_arg0)
        ∧ r.2.mem ((c.tc : Thread Cert.InWaReferenceIdeal.nD Cert.InWaReferenceIdeal.τ).loc Cert.InWaReferenceIdeal.main_arg1) = m ((c.tc : Thread Cert.InWaReferenceIdeal.nD Cert.InWaReferenceIdeal.τ).loc Cert.InWaReferenceIdeal.main_arg1)
        ∧ r.2.mem ((c.tc : Thread Cert.InWaReferenceIdeal.nD Cert.InWaReferenceIdeal.τ).loc Cert.InWaReferenceIdeal.main_arg2) = m ((c.tc : Thread Cert.InWaReferenceIdeal.nD Cert.InWaReferenceIdeal.τ).loc Cert.InWaReferenceIdeal.main_arg2))
        ∧ r.2.sem = fun _ => 0) :=
  (θ_run Cert.InWaReferenceIdeal.defs _ _).mono (fun r h => ⟨fun c => (h c).2, sem_eq_zero_of_no_sems (by decide) r.2⟩)
    (Cert.InWaReferenceIdeal.Value.run (F := Ideal) m g)

/-- The gradient of the first layer's input weights is its reference, for every memory. -/
theorem in_w_a : Cert.algebraic_InWaIdeal_InWaReferenceIdeal (hInWaIdeal := Cert.InWaIdeal.Gen.facts)
    (hInWaReferenceIdeal := Cert.InWaReferenceIdeal.Gen.facts) := by
  pair_intro
  · run_from Cert.InWaIdeal.Gen.run_main m g
  · run_from Cert.InWaReferenceIdeal.Value.run m' g'
    rw [Cert.InWaReferenceIdeal.Read.val_main_v6_eq]
    exact (Cert.InWaReferenceIdeal.Prod.meet _ _).trans (Cert.InWaIdeal.Prod.final m c).symm

/-- The square output products' inputs' reference runs, leaves its arguments alone and has no counter to leave open. -/
theorem square_x_reference_frame (m : (ℓ : Loc Cert.SqXReferenceIdeal.nD Cert.SqXReferenceIdeal.τ Cert.SqXReferenceIdeal.sig) → Buf (Elt Ideal) ℓ)
    (g : Dev Cert.SqXReferenceIdeal.nD → PrngReg) :
    θ_run (Cert.SqXReferenceIdeal.defs (F := Ideal)) (onTc (τ := Cert.SqXReferenceIdeal.τ) (Cert.SqXReferenceIdeal.main (F := Ideal))) ⟨m, fun _ => 0, g⟩
      (fun r => (∀ c : Dev Cert.SqXReferenceIdeal.nD,
        r.2.mem ((c.tc : Thread Cert.SqXReferenceIdeal.nD Cert.SqXReferenceIdeal.τ).loc Cert.SqXReferenceIdeal.main_arg0) = m ((c.tc : Thread Cert.SqXReferenceIdeal.nD Cert.SqXReferenceIdeal.τ).loc Cert.SqXReferenceIdeal.main_arg0)
        ∧ r.2.mem ((c.tc : Thread Cert.SqXReferenceIdeal.nD Cert.SqXReferenceIdeal.τ).loc Cert.SqXReferenceIdeal.main_arg1) = m ((c.tc : Thread Cert.SqXReferenceIdeal.nD Cert.SqXReferenceIdeal.τ).loc Cert.SqXReferenceIdeal.main_arg1))
        ∧ r.2.sem = fun _ => 0) :=
  (θ_run Cert.SqXReferenceIdeal.defs _ _).mono (fun r h => ⟨fun c => (h c).2, sem_eq_zero_of_no_sems (by decide) r.2⟩)
    (Cert.SqXReferenceIdeal.Value.run (F := Ideal) m g)

/-- The gradient of a square output product's input is its reference, for every memory. -/
theorem square_x : Cert.algebraic_SqXIdeal_SqXReferenceIdeal (hSqXIdeal := Cert.SqXIdeal.Gen.facts)
    (hSqXReferenceIdeal := Cert.SqXReferenceIdeal.Gen.facts) := by
  pair_intro
  · run_from Cert.SqXIdeal.Gen.run_main m g
  · run_from Cert.SqXReferenceIdeal.Value.run m' g'
    exact (Cert.SqXReferenceIdeal.Prod.meet _ _).trans (Cert.SqXIdeal.Prod.final m c).symm

/-- The second layer's input's reference runs, leaves its arguments alone and has no counter to leave open. -/
theorem in_x_b_reference_frame (m : (ℓ : Loc Cert.InXbReferenceIdeal.nD Cert.InXbReferenceIdeal.τ Cert.InXbReferenceIdeal.sig) → Buf (Elt Ideal) ℓ)
    (g : Dev Cert.InXbReferenceIdeal.nD → PrngReg) :
    θ_run (Cert.InXbReferenceIdeal.defs (F := Ideal)) (onTc (τ := Cert.InXbReferenceIdeal.τ) (Cert.InXbReferenceIdeal.main (F := Ideal))) ⟨m, fun _ => 0, g⟩
      (fun r => (∀ c : Dev Cert.InXbReferenceIdeal.nD,
        r.2.mem ((c.tc : Thread Cert.InXbReferenceIdeal.nD Cert.InXbReferenceIdeal.τ).loc Cert.InXbReferenceIdeal.main_arg0) = m ((c.tc : Thread Cert.InXbReferenceIdeal.nD Cert.InXbReferenceIdeal.τ).loc Cert.InXbReferenceIdeal.main_arg0)
        ∧ r.2.mem ((c.tc : Thread Cert.InXbReferenceIdeal.nD Cert.InXbReferenceIdeal.τ).loc Cert.InXbReferenceIdeal.main_arg1) = m ((c.tc : Thread Cert.InXbReferenceIdeal.nD Cert.InXbReferenceIdeal.τ).loc Cert.InXbReferenceIdeal.main_arg1)
        ∧ r.2.mem ((c.tc : Thread Cert.InXbReferenceIdeal.nD Cert.InXbReferenceIdeal.τ).loc Cert.InXbReferenceIdeal.main_arg2) = m ((c.tc : Thread Cert.InXbReferenceIdeal.nD Cert.InXbReferenceIdeal.τ).loc Cert.InXbReferenceIdeal.main_arg2)
        ∧ r.2.mem ((c.tc : Thread Cert.InXbReferenceIdeal.nD Cert.InXbReferenceIdeal.τ).loc Cert.InXbReferenceIdeal.main_arg3) = m ((c.tc : Thread Cert.InXbReferenceIdeal.nD Cert.InXbReferenceIdeal.τ).loc Cert.InXbReferenceIdeal.main_arg3)
        ∧ r.2.mem ((c.tc : Thread Cert.InXbReferenceIdeal.nD Cert.InXbReferenceIdeal.τ).loc Cert.InXbReferenceIdeal.main_arg4) = m ((c.tc : Thread Cert.InXbReferenceIdeal.nD Cert.InXbReferenceIdeal.τ).loc Cert.InXbReferenceIdeal.main_arg4))
        ∧ r.2.sem = fun _ => 0) :=
  (θ_run Cert.InXbReferenceIdeal.defs _ _).mono (fun r h => ⟨fun c => (h c).2.2, sem_eq_zero_of_no_sems (by decide) r.2⟩)
    (Cert.InXbReferenceIdeal.Value.run (F := Ideal) m g)

/-- The gradient through the second layer's input product and its norm is its reference, for every memory. -/
theorem in_x_b : Cert.algebraic_InXbIdeal_InXbReferenceIdeal (hInXbIdeal := Cert.InXbIdeal.Gen.facts)
    (hInXbReferenceIdeal := Cert.InXbReferenceIdeal.Gen.facts) := by
  pair_intro
  · run_from Cert.InXbIdeal.Gen.run_main m g
  · run_from Cert.InXbReferenceIdeal.Value.run m' g'
    · rw [Cert.InXbReferenceIdeal.Read.val_main_v40_eq, (hagree c).1, (hagree c).2.1, (hagree c).2.2.1, (hagree c).2.2.2.1, (hagree c).2.2.2.2]
      exact (Cert.InXbReferenceIdeal.Prod.dx_meet _ _ _ _ _).trans (Cert.InXbIdeal.Prod.final_dx m c).symm
    · rw [Cert.InXbReferenceIdeal.Read.val_main_v41_eq]
      exact (Cert.InXbReferenceIdeal.Prod.dg_meet _ _ _).trans (Cert.InXbIdeal.Prod.final_dg m c).symm

/-- The first layer's input's reference runs, leaves its arguments alone and has no counter to leave open. -/
theorem in_x_a_reference_frame (m : (ℓ : Loc Cert.InXaReferenceIdeal.nD Cert.InXaReferenceIdeal.τ Cert.InXaReferenceIdeal.sig) → Buf (Elt Ideal) ℓ)
    (g : Dev Cert.InXaReferenceIdeal.nD → PrngReg) :
    θ_run (Cert.InXaReferenceIdeal.defs (F := Ideal)) (onTc (τ := Cert.InXaReferenceIdeal.τ) (Cert.InXaReferenceIdeal.main (F := Ideal))) ⟨m, fun _ => 0, g⟩
      (fun r => (∀ c : Dev Cert.InXaReferenceIdeal.nD,
        r.2.mem ((c.tc : Thread Cert.InXaReferenceIdeal.nD Cert.InXaReferenceIdeal.τ).loc Cert.InXaReferenceIdeal.main_arg0) = m ((c.tc : Thread Cert.InXaReferenceIdeal.nD Cert.InXaReferenceIdeal.τ).loc Cert.InXaReferenceIdeal.main_arg0)
        ∧ r.2.mem ((c.tc : Thread Cert.InXaReferenceIdeal.nD Cert.InXaReferenceIdeal.τ).loc Cert.InXaReferenceIdeal.main_arg1) = m ((c.tc : Thread Cert.InXaReferenceIdeal.nD Cert.InXaReferenceIdeal.τ).loc Cert.InXaReferenceIdeal.main_arg1)
        ∧ r.2.mem ((c.tc : Thread Cert.InXaReferenceIdeal.nD Cert.InXaReferenceIdeal.τ).loc Cert.InXaReferenceIdeal.main_arg2) = m ((c.tc : Thread Cert.InXaReferenceIdeal.nD Cert.InXaReferenceIdeal.τ).loc Cert.InXaReferenceIdeal.main_arg2)
        ∧ r.2.mem ((c.tc : Thread Cert.InXaReferenceIdeal.nD Cert.InXaReferenceIdeal.τ).loc Cert.InXaReferenceIdeal.main_arg3) = m ((c.tc : Thread Cert.InXaReferenceIdeal.nD Cert.InXaReferenceIdeal.τ).loc Cert.InXaReferenceIdeal.main_arg3)
        ∧ r.2.mem ((c.tc : Thread Cert.InXaReferenceIdeal.nD Cert.InXaReferenceIdeal.τ).loc Cert.InXaReferenceIdeal.main_arg4) = m ((c.tc : Thread Cert.InXaReferenceIdeal.nD Cert.InXaReferenceIdeal.τ).loc Cert.InXaReferenceIdeal.main_arg4))
        ∧ r.2.sem = fun _ => 0) :=
  (θ_run Cert.InXaReferenceIdeal.defs _ _).mono (fun r h => ⟨fun c => (h c).2.2, sem_eq_zero_of_no_sems (by decide) r.2⟩)
    (Cert.InXaReferenceIdeal.Value.run (F := Ideal) m g)

/-- The gradient through the first layer's input product and its norm is its reference, for every memory. -/
theorem in_x_a : Cert.algebraic_InXaIdeal_InXaReferenceIdeal (hInXaIdeal := Cert.InXaIdeal.Gen.facts)
    (hInXaReferenceIdeal := Cert.InXaReferenceIdeal.Gen.facts) := by
  pair_intro
  · run_from Cert.InXaIdeal.Gen.run_main m g
  · run_from Cert.InXaReferenceIdeal.Value.run m' g'
    · rw [Cert.InXaReferenceIdeal.Read.val_main_v40_eq, (hagree c).1, (hagree c).2.1, (hagree c).2.2.1, (hagree c).2.2.2.1, (hagree c).2.2.2.2]
      exact (Cert.InXaReferenceIdeal.Prod.dx_meet _ _ _ _ _).trans (Cert.InXaIdeal.Prod.final_dx m c).symm
    · rw [Cert.InXaReferenceIdeal.Read.val_main_v41_eq]
      exact (Cert.InXaReferenceIdeal.Prod.dg_meet _ _ _).trans (Cert.InXaIdeal.Prod.final_dg m c).symm

/-- The query input's reference runs, leaves its arguments alone and has no counter to leave open. -/
theorem query_x_reference_frame (m : (ℓ : Loc Cert.QXReferenceIdeal.nD Cert.QXReferenceIdeal.τ Cert.QXReferenceIdeal.sig) → Buf (Elt Ideal) ℓ)
    (g : Dev Cert.QXReferenceIdeal.nD → PrngReg) :
    θ_run (Cert.QXReferenceIdeal.defs (F := Ideal)) (onTc (τ := Cert.QXReferenceIdeal.τ) (Cert.QXReferenceIdeal.main (F := Ideal))) ⟨m, fun _ => 0, g⟩
      (fun r => (∀ c : Dev Cert.QXReferenceIdeal.nD,
        r.2.mem ((c.tc : Thread Cert.QXReferenceIdeal.nD Cert.QXReferenceIdeal.τ).loc Cert.QXReferenceIdeal.main_arg0) = m ((c.tc : Thread Cert.QXReferenceIdeal.nD Cert.QXReferenceIdeal.τ).loc Cert.QXReferenceIdeal.main_arg0)
        ∧ r.2.mem ((c.tc : Thread Cert.QXReferenceIdeal.nD Cert.QXReferenceIdeal.τ).loc Cert.QXReferenceIdeal.main_arg1) = m ((c.tc : Thread Cert.QXReferenceIdeal.nD Cert.QXReferenceIdeal.τ).loc Cert.QXReferenceIdeal.main_arg1)
        ∧ r.2.mem ((c.tc : Thread Cert.QXReferenceIdeal.nD Cert.QXReferenceIdeal.τ).loc Cert.QXReferenceIdeal.main_arg2) = m ((c.tc : Thread Cert.QXReferenceIdeal.nD Cert.QXReferenceIdeal.τ).loc Cert.QXReferenceIdeal.main_arg2)
        ∧ r.2.mem ((c.tc : Thread Cert.QXReferenceIdeal.nD Cert.QXReferenceIdeal.τ).loc Cert.QXReferenceIdeal.main_arg3) = m ((c.tc : Thread Cert.QXReferenceIdeal.nD Cert.QXReferenceIdeal.τ).loc Cert.QXReferenceIdeal.main_arg3)
        ∧ r.2.mem ((c.tc : Thread Cert.QXReferenceIdeal.nD Cert.QXReferenceIdeal.τ).loc Cert.QXReferenceIdeal.main_arg4) = m ((c.tc : Thread Cert.QXReferenceIdeal.nD Cert.QXReferenceIdeal.τ).loc Cert.QXReferenceIdeal.main_arg4))
        ∧ r.2.sem = fun _ => 0) :=
  (θ_run Cert.QXReferenceIdeal.defs _ _).mono (fun r h => ⟨fun c => (h c).2.2, sem_eq_zero_of_no_sems (by decide) r.2⟩)
    (Cert.QXReferenceIdeal.Value.run (F := Ideal) m g)

/-- The gradient through the query product and its norm is its reference, for every memory. -/
theorem query_x : Cert.algebraic_QXIdeal_QXReferenceIdeal (hQXIdeal := Cert.QXIdeal.Gen.facts)
    (hQXReferenceIdeal := Cert.QXReferenceIdeal.Gen.facts) := by
  pair_intro
  · run_from Cert.QXIdeal.Gen.run_main m g
  · run_from Cert.QXReferenceIdeal.Value.run m' g'
    · rw [Cert.QXReferenceIdeal.Read.val_main_v40_eq, (hagree c).1, (hagree c).2.1, (hagree c).2.2.1, (hagree c).2.2.2.1, (hagree c).2.2.2.2]
      exact (Cert.QXReferenceIdeal.Prod.dx_meet _ _ _ _ _).trans (Cert.QXIdeal.Prod.final_dx m c).symm
    · rw [Cert.QXReferenceIdeal.Read.val_main_v41_eq]
      exact (Cert.QXReferenceIdeal.Prod.dg_meet _ _ _).trans (Cert.QXIdeal.Prod.final_dg m c).symm

/-- The up-projection's reference runs, leaves its arguments alone and has no counter to leave open. -/
theorem ffn_up_reference_frame (m : (ℓ : Loc Cert.FfnUpReferenceIdeal.nD Cert.FfnUpReferenceIdeal.τ Cert.FfnUpReferenceIdeal.sig) → Buf (Elt Ideal) ℓ)
    (g : Dev Cert.FfnUpReferenceIdeal.nD → PrngReg) :
    θ_run (Cert.FfnUpReferenceIdeal.defs (F := Ideal)) (onTc (τ := Cert.FfnUpReferenceIdeal.τ) (Cert.FfnUpReferenceIdeal.main (F := Ideal))) ⟨m, fun _ => 0, g⟩
      (fun r => (∀ c : Dev Cert.FfnUpReferenceIdeal.nD,
        r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
        ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
        ∧ r.2.sem = fun _ => 0) :=
  (θ_run Cert.FfnUpReferenceIdeal.defs _ _).mono (fun r h => ⟨fun c => (h c).2, sem_eq_zero_of_no_sems (by decide) r.2⟩)
    (Cert.FfnUpReferenceIdeal.Value.run (F := Ideal) m g)

/-- The up-projection is its reference, for every memory. -/
theorem ffn_up : Cert.algebraic_FfnUpIdeal_FfnUpReferenceIdeal (hFfnUpIdeal := Cert.FfnUpIdeal.Gen.facts)
    (hFfnUpReferenceIdeal := Cert.FfnUpReferenceIdeal.Gen.facts) := by
  pair_intro
  · run_from Cert.FfnUpIdeal.Gen.run_main m g
  · run_from Cert.FfnUpReferenceIdeal.Value.run m' g'
    rw [Cert.FfnUpReferenceIdeal.Read.val_main_v3_eq]
    exact (Cert.FfnUpReferenceIdeal.Prod.meet _ _).trans (Cert.FfnUpIdeal.Prod.final m c).symm

/-- The second layer's input product's reference runs, leaves its arguments alone and has no counter to leave open. -/
theorem in_b_reference_frame (m : (ℓ : Loc Cert.InbReferenceIdeal.nD Cert.InbReferenceIdeal.τ Cert.InbReferenceIdeal.sig) → Buf (Elt Ideal) ℓ)
    (g : Dev Cert.InbReferenceIdeal.nD → PrngReg) :
    θ_run (Cert.InbReferenceIdeal.defs (F := Ideal)) (onTc (τ := Cert.InbReferenceIdeal.τ) (Cert.InbReferenceIdeal.main (F := Ideal))) ⟨m, fun _ => 0, g⟩
      (fun r => (∀ c : Dev Cert.InbReferenceIdeal.nD,
        r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
        ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1))
        ∧ r.2.sem = fun _ => 0) :=
  (θ_run Cert.InbReferenceIdeal.defs _ _).mono (fun r h => ⟨fun c => (h c).2, sem_eq_zero_of_no_sems (by decide) r.2⟩)
    (Cert.InbReferenceIdeal.Value.run (F := Ideal) m g)

/-- The second layer's input product is its reference, for every memory. -/
theorem in_b : Cert.algebraic_InbIdeal_InbReferenceIdeal (hInbIdeal := Cert.InbIdeal.Gen.facts)
    (hInbReferenceIdeal := Cert.InbReferenceIdeal.Gen.facts) := by
  pair_intro
  · run_from Cert.InbIdeal.Gen.run_main m g
  · run_from Cert.InbReferenceIdeal.Value.run m' g'
    exact (Cert.InbReferenceIdeal.Prod.meet _ _).trans (Cert.InbIdeal.Prod.final m c).symm

/-- The first layer's input product's reference runs, leaves its arguments alone and has no counter to leave open. -/
theorem in_a_reference_frame (m : (ℓ : Loc Cert.InaReferenceIdeal.nD Cert.InaReferenceIdeal.τ Cert.InaReferenceIdeal.sig) → Buf (Elt Ideal) ℓ)
    (g : Dev Cert.InaReferenceIdeal.nD → PrngReg) :
    θ_run (Cert.InaReferenceIdeal.defs (F := Ideal)) (onTc (τ := Cert.InaReferenceIdeal.τ) (Cert.InaReferenceIdeal.main (F := Ideal))) ⟨m, fun _ => 0, g⟩
      (fun r => (∀ c : Dev Cert.InaReferenceIdeal.nD,
        r.2.mem ((c.tc : Thread Cert.InaReferenceIdeal.nD Cert.InaReferenceIdeal.τ).loc Cert.InaReferenceIdeal.main_arg0) = m ((c.tc : Thread Cert.InaReferenceIdeal.nD Cert.InaReferenceIdeal.τ).loc Cert.InaReferenceIdeal.main_arg0)
        ∧ r.2.mem ((c.tc : Thread Cert.InaReferenceIdeal.nD Cert.InaReferenceIdeal.τ).loc Cert.InaReferenceIdeal.main_arg1) = m ((c.tc : Thread Cert.InaReferenceIdeal.nD Cert.InaReferenceIdeal.τ).loc Cert.InaReferenceIdeal.main_arg1))
        ∧ r.2.sem = fun _ => 0) :=
  (θ_run Cert.InaReferenceIdeal.defs _ _).mono (fun r h => ⟨fun c => (h c).2, sem_eq_zero_of_no_sems (by decide) r.2⟩)
    (Cert.InaReferenceIdeal.Value.run (F := Ideal) m g)

/-- The first layer's input product is its reference, for every memory. -/
theorem in_a : Cert.algebraic_InaIdeal_InaReferenceIdeal (hInaIdeal := Cert.InaIdeal.Gen.facts)
    (hInaReferenceIdeal := Cert.InaReferenceIdeal.Gen.facts) := by
  pair_intro
  · run_from Cert.InaIdeal.Gen.run_main m g
  · run_from Cert.InaReferenceIdeal.Value.run m' g'
    exact (Cert.InaReferenceIdeal.Prod.meet _ _).trans (Cert.InaIdeal.Prod.final m c).symm

/-- The query product's reference runs, leaves its arguments alone and has no counter to leave open. -/
theorem query_reference_frame (m : (ℓ : Loc Cert.QfReferenceIdeal.nD Cert.QfReferenceIdeal.τ Cert.QfReferenceIdeal.sig) → Buf (Elt Ideal) ℓ)
    (g : Dev Cert.QfReferenceIdeal.nD → PrngReg) :
    θ_run (Cert.QfReferenceIdeal.defs (F := Ideal)) (onTc (τ := Cert.QfReferenceIdeal.τ) (Cert.QfReferenceIdeal.main (F := Ideal))) ⟨m, fun _ => 0, g⟩
      (fun r => (∀ c : Dev Cert.QfReferenceIdeal.nD,
        r.2.mem ((c.tc : Thread Cert.QfReferenceIdeal.nD Cert.QfReferenceIdeal.τ).loc Cert.QfReferenceIdeal.main_arg0) = m ((c.tc : Thread Cert.QfReferenceIdeal.nD Cert.QfReferenceIdeal.τ).loc Cert.QfReferenceIdeal.main_arg0)
        ∧ r.2.mem ((c.tc : Thread Cert.QfReferenceIdeal.nD Cert.QfReferenceIdeal.τ).loc Cert.QfReferenceIdeal.main_arg1) = m ((c.tc : Thread Cert.QfReferenceIdeal.nD Cert.QfReferenceIdeal.τ).loc Cert.QfReferenceIdeal.main_arg1))
        ∧ r.2.sem = fun _ => 0) :=
  (θ_run Cert.QfReferenceIdeal.defs _ _).mono (fun r h => ⟨fun c => (h c).2, sem_eq_zero_of_no_sems (by decide) r.2⟩)
    (Cert.QfReferenceIdeal.Value.run (F := Ideal) m g)

/-- The query product is its reference, for every memory. -/
theorem query : Cert.algebraic_QfIdeal_QfReferenceIdeal (hQfIdeal := Cert.QfIdeal.Gen.facts)
    (hQfReferenceIdeal := Cert.QfReferenceIdeal.Gen.facts) := by
  pair_intro
  · run_from Cert.QfIdeal.Gen.run_main m g
  · run_from Cert.QfReferenceIdeal.Value.run m' g'
    rw [Cert.QfReferenceIdeal.Read.val_main_v3_eq]
    exact (Cert.QfReferenceIdeal.Prod.meet _ _).trans (Cert.QfIdeal.Prod.final m c).symm

/-- A branch's output product's reference runs, leaves its arguments alone and has no counter to leave open. -/
theorem out_reference_frame (m : (ℓ : Loc Cert.OutReferenceIdeal.nD Cert.OutReferenceIdeal.τ Cert.OutReferenceIdeal.sig) → Buf (Elt Ideal) ℓ)
    (g : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, g⟩
      (fun r => (∀ c : Dev Cert.OutReferenceIdeal.nD,
        r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
        ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
        ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
        ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
        ∧ r.2.sem = fun _ => 0) :=
  (θ_run Cert.OutReferenceIdeal.defs _ _).mono (fun r h => ⟨fun c => (h c).2.2, sem_eq_zero_of_no_sems (by decide) r.2⟩)
    (Cert.OutReferenceIdeal.Value.run (F := Ideal) m g)

/-- A branch's output product with the stream's norm is its reference, for every memory. -/
theorem out : Cert.algebraic_OutIdeal_OutReferenceIdeal (hOutIdeal := Cert.OutIdeal.Gen.facts)
    (hOutReferenceIdeal := Cert.OutReferenceIdeal.Gen.facts) := by
  pair_intro
  · run_from Cert.OutIdeal.Gen.run_main m g
  · run_from Cert.OutReferenceIdeal.Value.run m' g'
    · rw [Cert.OutReferenceIdeal.Read.val_main_v3_eq]
      exact (Cert.OutReferenceIdeal.Prod.sum_meet _ _ _).trans (Cert.OutIdeal.Prod.final_sum m c).symm
    · rw [Cert.OutReferenceIdeal.Read.val_main_v17_eq]
      exact (Cert.OutReferenceIdeal.Prod.normed_meet _ _ _ _).trans (Cert.OutIdeal.Prod.final_normed m c).symm

/-- The down-projection's reference runs, leaves its arguments alone and has no counter to leave open. -/
theorem down_reference_frame (m : (ℓ : Loc Cert.DownReferenceIdeal.nD Cert.DownReferenceIdeal.τ Cert.DownReferenceIdeal.sig) → Buf (Elt Ideal) ℓ)
    (g : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, g⟩
      (fun r => (∀ c : Dev Cert.DownReferenceIdeal.nD,
        r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
        ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
        ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
        ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
        ∧ r.2.sem = fun _ => 0) :=
  (θ_run Cert.DownReferenceIdeal.defs _ _).mono (fun r h => ⟨fun c => (h c).2.2, sem_eq_zero_of_no_sems (by decide) r.2⟩)
    (Cert.DownReferenceIdeal.Value.run (F := Ideal) m g)

/-- The down-projection with the stream's norm is its reference, for every memory. -/
theorem down : Cert.algebraic_DownIdeal_DownReferenceIdeal (hDownIdeal := Cert.DownIdeal.Gen.facts)
    (hDownReferenceIdeal := Cert.DownReferenceIdeal.Gen.facts) := by
  pair_intro
  · run_from Cert.DownIdeal.Gen.run_main m g
  · run_from Cert.DownReferenceIdeal.Value.run m' g'
    · rw [Cert.DownReferenceIdeal.Read.val_main_v3_eq]
      exact (Cert.DownReferenceIdeal.Prod.sum_meet _ _ _).trans (Cert.DownIdeal.Prod.final_sum m c).symm
    · rw [Cert.DownReferenceIdeal.Read.val_main_v17_eq]
      exact (Cert.DownReferenceIdeal.Prod.normed_meet _ _ _ _).trans (Cert.DownIdeal.Prod.final_normed m c).symm

/-- The last down-projection's reference runs, leaves its arguments alone and has no counter to leave open. -/
theorem down_b_reference_frame (m : (ℓ : Loc Cert.DownBReferenceIdeal.nD Cert.DownBReferenceIdeal.τ Cert.DownBReferenceIdeal.sig) → Buf (Elt Ideal) ℓ)
    (g : Dev Cert.DownBReferenceIdeal.nD → PrngReg) :
    θ_run (Cert.DownBReferenceIdeal.defs (F := Ideal)) (onTc (τ := Cert.DownBReferenceIdeal.τ) (Cert.DownBReferenceIdeal.main (F := Ideal))) ⟨m, fun _ => 0, g⟩
      (fun r => (∀ c : Dev Cert.DownBReferenceIdeal.nD,
        r.2.mem ((c.tc : Thread Cert.DownBReferenceIdeal.nD Cert.DownBReferenceIdeal.τ).loc Cert.DownBReferenceIdeal.main_arg0) = m ((c.tc : Thread Cert.DownBReferenceIdeal.nD Cert.DownBReferenceIdeal.τ).loc Cert.DownBReferenceIdeal.main_arg0)
        ∧ r.2.mem ((c.tc : Thread Cert.DownBReferenceIdeal.nD Cert.DownBReferenceIdeal.τ).loc Cert.DownBReferenceIdeal.main_arg1) = m ((c.tc : Thread Cert.DownBReferenceIdeal.nD Cert.DownBReferenceIdeal.τ).loc Cert.DownBReferenceIdeal.main_arg1)
        ∧ r.2.mem ((c.tc : Thread Cert.DownBReferenceIdeal.nD Cert.DownBReferenceIdeal.τ).loc Cert.DownBReferenceIdeal.main_arg2) = m ((c.tc : Thread Cert.DownBReferenceIdeal.nD Cert.DownBReferenceIdeal.τ).loc Cert.DownBReferenceIdeal.main_arg2))
        ∧ r.2.sem = fun _ => 0) :=
  (θ_run Cert.DownBReferenceIdeal.defs _ _).mono (fun r h => ⟨fun c => (h c).2, sem_eq_zero_of_no_sems (by decide) r.2⟩)
    (Cert.DownBReferenceIdeal.Value.run (F := Ideal) m g)

/-- The last layer's down-projection with its residual is its reference, for every memory. -/
theorem down_b : Cert.algebraic_DownBIdeal_DownBReferenceIdeal (hDownBIdeal := Cert.DownBIdeal.Gen.facts)
    (hDownBReferenceIdeal := Cert.DownBReferenceIdeal.Gen.facts) := by
  pair_intro
  · run_from Cert.DownBIdeal.Gen.run_main m g
  · run_from Cert.DownBReferenceIdeal.Value.run m' g'
    rw [Cert.DownBReferenceIdeal.Read.val_main_v3_eq]
    exact (Cert.DownBReferenceIdeal.Prod.meet _ _ _).trans (Cert.DownBIdeal.Prod.final m c).symm

/-- The gate's product's reference runs, leaves its arguments alone and has no counter to leave open. -/
theorem glu_f_reference_frame (m : (ℓ : Loc Cert.GluFReferenceIdeal.nD Cert.GluFReferenceIdeal.τ Cert.GluFReferenceIdeal.sig) → Buf (Elt Ideal) ℓ)
    (g : Dev Cert.GluFReferenceIdeal.nD → PrngReg) :
    θ_run (Cert.GluFReferenceIdeal.defs (F := Ideal)) (onTc (τ := Cert.GluFReferenceIdeal.τ) (Cert.GluFReferenceIdeal.main (F := Ideal))) ⟨m, fun _ => 0, g⟩
      (fun r => (∀ c : Dev Cert.GluFReferenceIdeal.nD,
        r.2.mem ((c.tc : Thread Cert.GluFReferenceIdeal.nD Cert.GluFReferenceIdeal.τ).loc Cert.GluFReferenceIdeal.main_arg0) = m ((c.tc : Thread Cert.GluFReferenceIdeal.nD Cert.GluFReferenceIdeal.τ).loc Cert.GluFReferenceIdeal.main_arg0)
        ∧ r.2.mem ((c.tc : Thread Cert.GluFReferenceIdeal.nD Cert.GluFReferenceIdeal.τ).loc Cert.GluFReferenceIdeal.main_arg1) = m ((c.tc : Thread Cert.GluFReferenceIdeal.nD Cert.GluFReferenceIdeal.τ).loc Cert.GluFReferenceIdeal.main_arg1))
        ∧ r.2.sem = fun _ => 0) :=
  (θ_run Cert.GluFReferenceIdeal.defs _ _).mono (fun r h => ⟨fun c => (h c).2, sem_eq_zero_of_no_sems (by decide) r.2⟩)
    (Cert.GluFReferenceIdeal.Value.run (F := Ideal) m g)

/-- The product before the output gate is its reference, for every memory. -/
theorem glu_f : Cert.algebraic_GluFIdeal_GluFReferenceIdeal (hGluFIdeal := Cert.GluFIdeal.Gen.facts)
    (hGluFReferenceIdeal := Cert.GluFReferenceIdeal.Gen.facts) := by
  pair_intro
  · run_from Cert.GluFIdeal.Gen.run_main m g
  · run_from Cert.GluFReferenceIdeal.Value.run m' g'
    exact (Cert.GluFReferenceIdeal.Prod.meet _ _).trans (Cert.GluFIdeal.Prod.final m c).symm

/-- The gate's weights' reference runs, leaves its arguments alone and has no counter to leave open. -/
theorem glu_w_reference_frame (m : (ℓ : Loc Cert.GluWReferenceIdeal.nD Cert.GluWReferenceIdeal.τ Cert.GluWReferenceIdeal.sig) → Buf (Elt Ideal) ℓ)
    (g : Dev Cert.GluWReferenceIdeal.nD → PrngReg) :
    θ_run (Cert.GluWReferenceIdeal.defs (F := Ideal)) (onTc (τ := Cert.GluWReferenceIdeal.τ) (Cert.GluWReferenceIdeal.main (F := Ideal))) ⟨m, fun _ => 0, g⟩
      (fun r => (∀ c : Dev Cert.GluWReferenceIdeal.nD,
        r.2.mem ((c.tc : Thread Cert.GluWReferenceIdeal.nD Cert.GluWReferenceIdeal.τ).loc Cert.GluWReferenceIdeal.main_arg0) = m ((c.tc : Thread Cert.GluWReferenceIdeal.nD Cert.GluWReferenceIdeal.τ).loc Cert.GluWReferenceIdeal.main_arg0)
        ∧ r.2.mem ((c.tc : Thread Cert.GluWReferenceIdeal.nD Cert.GluWReferenceIdeal.τ).loc Cert.GluWReferenceIdeal.main_arg1) = m ((c.tc : Thread Cert.GluWReferenceIdeal.nD Cert.GluWReferenceIdeal.τ).loc Cert.GluWReferenceIdeal.main_arg1))
        ∧ r.2.sem = fun _ => 0) :=
  (θ_run Cert.GluWReferenceIdeal.defs _ _).mono (fun r h => ⟨fun c => (h c).2, sem_eq_zero_of_no_sems (by decide) r.2⟩)
    (Cert.GluWReferenceIdeal.Value.run (F := Ideal) m g)

/-- The gradient of the output gate's weights is its reference, for every memory. -/
theorem glu_w : Cert.algebraic_GluWIdeal_GluWReferenceIdeal (hGluWIdeal := Cert.GluWIdeal.Gen.facts)
    (hGluWReferenceIdeal := Cert.GluWReferenceIdeal.Gen.facts) := by
  pair_intro
  · run_from Cert.GluWIdeal.Gen.run_main m g
  · run_from Cert.GluWReferenceIdeal.Value.run m' g'
    rw [Cert.GluWReferenceIdeal.Read.val_main_v6_eq]
    exact (Cert.GluWReferenceIdeal.Prod.meet _ _).trans (Cert.GluWIdeal.Prod.final m c).symm

/-- The gate's input's reference runs, leaves its arguments alone and has no counter to leave open. -/
theorem glu_x_reference_frame (m : (ℓ : Loc Cert.GluXReferenceIdeal.nD Cert.GluXReferenceIdeal.τ Cert.GluXReferenceIdeal.sig) → Buf (Elt Ideal) ℓ)
    (g : Dev Cert.GluXReferenceIdeal.nD → PrngReg) :
    θ_run (Cert.GluXReferenceIdeal.defs (F := Ideal)) (onTc (τ := Cert.GluXReferenceIdeal.τ) (Cert.GluXReferenceIdeal.main (F := Ideal))) ⟨m, fun _ => 0, g⟩
      (fun r => (∀ c : Dev Cert.GluXReferenceIdeal.nD,
        r.2.mem ((c.tc : Thread Cert.GluXReferenceIdeal.nD Cert.GluXReferenceIdeal.τ).loc Cert.GluXReferenceIdeal.main_arg0) = m ((c.tc : Thread Cert.GluXReferenceIdeal.nD Cert.GluXReferenceIdeal.τ).loc Cert.GluXReferenceIdeal.main_arg0)
        ∧ r.2.mem ((c.tc : Thread Cert.GluXReferenceIdeal.nD Cert.GluXReferenceIdeal.τ).loc Cert.GluXReferenceIdeal.main_arg1) = m ((c.tc : Thread Cert.GluXReferenceIdeal.nD Cert.GluXReferenceIdeal.τ).loc Cert.GluXReferenceIdeal.main_arg1))
        ∧ r.2.sem = fun _ => 0) :=
  (θ_run Cert.GluXReferenceIdeal.defs _ _).mono (fun r h => ⟨fun c => (h c).2, sem_eq_zero_of_no_sems (by decide) r.2⟩)
    (Cert.GluXReferenceIdeal.Value.run (F := Ideal) m g)

/-- The gradient through the output gate's product is its reference, for every memory. -/
theorem glu_x : Cert.algebraic_GluXIdeal_GluXReferenceIdeal (hGluXIdeal := Cert.GluXIdeal.Gen.facts)
    (hGluXReferenceIdeal := Cert.GluXReferenceIdeal.Gen.facts) := by
  pair_intro
  · run_from Cert.GluXIdeal.Gen.run_main m g
  · run_from Cert.GluXReferenceIdeal.Value.run m' g'
    exact (Cert.GluXReferenceIdeal.Prod.meet _ _).trans (Cert.GluXIdeal.Prod.final m c).symm

/-- The keys' and values' reference runs, leaves its arguments alone and has no counter to leave open. -/
theorem kv_f_reference_frame (m : (ℓ : Loc Cert.KvFReferenceIdeal.nD Cert.KvFReferenceIdeal.τ Cert.KvFReferenceIdeal.sig) → Buf (Elt Ideal) ℓ)
    (g : Dev Cert.KvFReferenceIdeal.nD → PrngReg) :
    θ_run (Cert.KvFReferenceIdeal.defs (F := Ideal)) (onTc (τ := Cert.KvFReferenceIdeal.τ) (Cert.KvFReferenceIdeal.main (F := Ideal))) ⟨m, fun _ => 0, g⟩
      (fun r => (∀ c : Dev Cert.KvFReferenceIdeal.nD,
        r.2.mem ((c.tc : Thread Cert.KvFReferenceIdeal.nD Cert.KvFReferenceIdeal.τ).loc Cert.KvFReferenceIdeal.main_arg0) = m ((c.tc : Thread Cert.KvFReferenceIdeal.nD Cert.KvFReferenceIdeal.τ).loc Cert.KvFReferenceIdeal.main_arg0)
        ∧ r.2.mem ((c.tc : Thread Cert.KvFReferenceIdeal.nD Cert.KvFReferenceIdeal.τ).loc Cert.KvFReferenceIdeal.main_arg1) = m ((c.tc : Thread Cert.KvFReferenceIdeal.nD Cert.KvFReferenceIdeal.τ).loc Cert.KvFReferenceIdeal.main_arg1))
        ∧ r.2.sem = fun _ => 0) :=
  (θ_run Cert.KvFReferenceIdeal.defs _ _).mono (fun r h => ⟨fun c => (h c).2, sem_eq_zero_of_no_sems (by decide) r.2⟩)
    (Cert.KvFReferenceIdeal.Value.run (F := Ideal) m g)

/-- The keys and values are their reference, for every memory. -/
theorem kv_f : Cert.algebraic_KvFIdeal_KvFReferenceIdeal (hKvFIdeal := Cert.KvFIdeal.Gen.facts)
    (hKvFReferenceIdeal := Cert.KvFReferenceIdeal.Gen.facts) := by
  pair_intro
  · run_from Cert.KvFIdeal.Gen.run_main m g
  · run_from Cert.KvFReferenceIdeal.Value.run m' g'
    rw [Cert.KvFReferenceIdeal.Read.val_main_v3_eq]
    exact (Cert.KvFReferenceIdeal.Prod.meet _ _).trans (Cert.KvFIdeal.Prod.final m c).symm

/-- The keys' and values' weights' reference runs, leaves its arguments alone and has no counter to leave open. -/
theorem kv_w_reference_frame (m : (ℓ : Loc Cert.KvWReferenceIdeal.nD Cert.KvWReferenceIdeal.τ Cert.KvWReferenceIdeal.sig) → Buf (Elt Ideal) ℓ)
    (g : Dev Cert.KvWReferenceIdeal.nD → PrngReg) :
    θ_run (Cert.KvWReferenceIdeal.defs (F := Ideal)) (onTc (τ := Cert.KvWReferenceIdeal.τ) (Cert.KvWReferenceIdeal.main (F := Ideal))) ⟨m, fun _ => 0, g⟩
      (fun r => (∀ c : Dev Cert.KvWReferenceIdeal.nD,
        r.2.mem ((c.tc : Thread Cert.KvWReferenceIdeal.nD Cert.KvWReferenceIdeal.τ).loc Cert.KvWReferenceIdeal.main_arg0) = m ((c.tc : Thread Cert.KvWReferenceIdeal.nD Cert.KvWReferenceIdeal.τ).loc Cert.KvWReferenceIdeal.main_arg0)
        ∧ r.2.mem ((c.tc : Thread Cert.KvWReferenceIdeal.nD Cert.KvWReferenceIdeal.τ).loc Cert.KvWReferenceIdeal.main_arg1) = m ((c.tc : Thread Cert.KvWReferenceIdeal.nD Cert.KvWReferenceIdeal.τ).loc Cert.KvWReferenceIdeal.main_arg1))
        ∧ r.2.sem = fun _ => 0) :=
  (θ_run Cert.KvWReferenceIdeal.defs _ _).mono (fun r h => ⟨fun c => (h c).2, sem_eq_zero_of_no_sems (by decide) r.2⟩)
    (Cert.KvWReferenceIdeal.Value.run (F := Ideal) m g)

/-- The gradient of the keys' and values' weights is its reference, for every memory. -/
theorem kv_w : Cert.algebraic_KvWIdeal_KvWReferenceIdeal (hKvWIdeal := Cert.KvWIdeal.Gen.facts)
    (hKvWReferenceIdeal := Cert.KvWReferenceIdeal.Gen.facts) := by
  pair_intro
  · run_from Cert.KvWIdeal.Gen.run_main m g
  · run_from Cert.KvWReferenceIdeal.Value.run m' g'
    rw [Cert.KvWReferenceIdeal.Read.val_main_v5_eq]
    exact (Cert.KvWReferenceIdeal.Prod.meet _ _).trans (Cert.KvWIdeal.Prod.final m c).symm

/-- The keys' and values' input's reference runs, leaves its arguments alone and has no counter to leave open. -/
theorem kv_x_reference_frame (m : (ℓ : Loc Cert.KvXReferenceIdeal.nD Cert.KvXReferenceIdeal.τ Cert.KvXReferenceIdeal.sig) → Buf (Elt Ideal) ℓ)
    (g : Dev Cert.KvXReferenceIdeal.nD → PrngReg) :
    θ_run (Cert.KvXReferenceIdeal.defs (F := Ideal)) (onTc (τ := Cert.KvXReferenceIdeal.τ) (Cert.KvXReferenceIdeal.main (F := Ideal))) ⟨m, fun _ => 0, g⟩
      (fun r => (∀ c : Dev Cert.KvXReferenceIdeal.nD,
        r.2.mem ((c.tc : Thread Cert.KvXReferenceIdeal.nD Cert.KvXReferenceIdeal.τ).loc Cert.KvXReferenceIdeal.main_arg0) = m ((c.tc : Thread Cert.KvXReferenceIdeal.nD Cert.KvXReferenceIdeal.τ).loc Cert.KvXReferenceIdeal.main_arg0)
        ∧ r.2.mem ((c.tc : Thread Cert.KvXReferenceIdeal.nD Cert.KvXReferenceIdeal.τ).loc Cert.KvXReferenceIdeal.main_arg1) = m ((c.tc : Thread Cert.KvXReferenceIdeal.nD Cert.KvXReferenceIdeal.τ).loc Cert.KvXReferenceIdeal.main_arg1))
        ∧ r.2.sem = fun _ => 0) :=
  (θ_run Cert.KvXReferenceIdeal.defs _ _).mono (fun r h => ⟨fun c => (h c).2, sem_eq_zero_of_no_sems (by decide) r.2⟩)
    (Cert.KvXReferenceIdeal.Value.run (F := Ideal) m g)

/-- The gradient through the keys' and values' product is its reference, for every memory. -/
theorem kv_x : Cert.algebraic_KvXIdeal_KvXReferenceIdeal (hKvXIdeal := Cert.KvXIdeal.Gen.facts)
    (hKvXReferenceIdeal := Cert.KvXReferenceIdeal.Gen.facts) := by
  pair_intro
  · run_from Cert.KvXIdeal.Gen.run_main m g
  · run_from Cert.KvXReferenceIdeal.Value.run m' g'
    exact (Cert.KvXReferenceIdeal.Prod.meet _ _).trans (Cert.KvXIdeal.Prod.final m c).symm

/-- The stream's norm's reference runs, leaves its arguments alone and has no counter to leave open. -/
theorem norm_f_reference_frame (m : (ℓ : Loc Cert.NormFReferenceIdeal.nD Cert.NormFReferenceIdeal.τ Cert.NormFReferenceIdeal.sig) → Buf (Elt Ideal) ℓ)
    (g : Dev Cert.NormFReferenceIdeal.nD → PrngReg) :
    θ_run (Cert.NormFReferenceIdeal.defs (F := Ideal)) (onTc (τ := Cert.NormFReferenceIdeal.τ) (Cert.NormFReferenceIdeal.main (F := Ideal))) ⟨m, fun _ => 0, g⟩
      (fun r => (∀ c : Dev Cert.NormFReferenceIdeal.nD,
        r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
        ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1))
        ∧ r.2.sem = fun _ => 0) :=
  (θ_run Cert.NormFReferenceIdeal.defs _ _).mono (fun r h => ⟨fun c => (h c).2, sem_eq_zero_of_no_sems (by decide) r.2⟩)
    (Cert.NormFReferenceIdeal.Value.run (F := Ideal) m g)

/-- The stream's norm is its reference, for every memory. -/
theorem norm_f : Cert.algebraic_NormFIdeal_NormFReferenceIdeal (hNormFIdeal := Cert.NormFIdeal.Gen.facts)
    (hNormFReferenceIdeal := Cert.NormFReferenceIdeal.Gen.facts) := by
  pair_intro
  · run_from Cert.NormFIdeal.Gen.run_main m g
  · run_from Cert.NormFReferenceIdeal.Value.run m' g'
    rw [Cert.NormFReferenceIdeal.Read.val_main_v13_eq]
    exact (Cert.NormFReferenceIdeal.Prod.meet _ _).trans (Cert.NormFIdeal.Prod.final m c).symm

/-- The latents' norm's reference runs, leaves its arguments alone and has no counter to leave open. -/
theorem mem_f_reference_frame (m : (ℓ : Loc Cert.MemFReferenceIdeal.nD Cert.MemFReferenceIdeal.τ Cert.MemFReferenceIdeal.sig) → Buf (Elt Ideal) ℓ)
    (g : Dev Cert.MemFReferenceIdeal.nD → PrngReg) :
    θ_run (Cert.MemFReferenceIdeal.defs (F := Ideal)) (onTc (τ := Cert.MemFReferenceIdeal.τ) (Cert.MemFReferenceIdeal.main (F := Ideal))) ⟨m, fun _ => 0, g⟩
      (fun r => (∀ c : Dev Cert.MemFReferenceIdeal.nD,
        r.2.mem ((c.tc : Thread Cert.MemFReferenceIdeal.nD Cert.MemFReferenceIdeal.τ).loc Cert.MemFReferenceIdeal.main_arg0) = m ((c.tc : Thread Cert.MemFReferenceIdeal.nD Cert.MemFReferenceIdeal.τ).loc Cert.MemFReferenceIdeal.main_arg0)
        ∧ r.2.mem ((c.tc : Thread Cert.MemFReferenceIdeal.nD Cert.MemFReferenceIdeal.τ).loc Cert.MemFReferenceIdeal.main_arg1) = m ((c.tc : Thread Cert.MemFReferenceIdeal.nD Cert.MemFReferenceIdeal.τ).loc Cert.MemFReferenceIdeal.main_arg1))
        ∧ r.2.sem = fun _ => 0) :=
  (θ_run Cert.MemFReferenceIdeal.defs _ _).mono (fun r h => ⟨fun c => (h c).2, sem_eq_zero_of_no_sems (by decide) r.2⟩)
    (Cert.MemFReferenceIdeal.Value.run (F := Ideal) m g)

/-- The latents' norm is its reference, for every memory. -/
theorem mem_f : Cert.algebraic_MemFIdeal_MemFReferenceIdeal (hMemFIdeal := Cert.MemFIdeal.Gen.facts)
    (hMemFReferenceIdeal := Cert.MemFReferenceIdeal.Gen.facts) := by
  pair_intro
  · run_from Cert.MemFIdeal.Gen.run_main m g
  · run_from Cert.MemFReferenceIdeal.Value.run m' g'
    rw [Cert.MemFReferenceIdeal.Read.val_main_v13_eq]
    exact (Cert.MemFReferenceIdeal.Prod.meet _ _).trans (Cert.MemFIdeal.Prod.final m c).symm

/-- The latents' norm's gradient's reference runs, leaves its arguments alone and has no counter to leave open. -/
theorem mem_b_reference_frame (m : (ℓ : Loc Cert.MemBReferenceIdeal.nD Cert.MemBReferenceIdeal.τ Cert.MemBReferenceIdeal.sig) → Buf (Elt Ideal) ℓ)
    (g : Dev Cert.MemBReferenceIdeal.nD → PrngReg) :
    θ_run (Cert.MemBReferenceIdeal.defs (F := Ideal)) (onTc (τ := Cert.MemBReferenceIdeal.τ) (Cert.MemBReferenceIdeal.main (F := Ideal))) ⟨m, fun _ => 0, g⟩
      (fun r => (∀ c : Dev Cert.MemBReferenceIdeal.nD,
        r.2.mem ((c.tc : Thread Cert.MemBReferenceIdeal.nD Cert.MemBReferenceIdeal.τ).loc Cert.MemBReferenceIdeal.main_arg0) = m ((c.tc : Thread Cert.MemBReferenceIdeal.nD Cert.MemBReferenceIdeal.τ).loc Cert.MemBReferenceIdeal.main_arg0)
        ∧ r.2.mem ((c.tc : Thread Cert.MemBReferenceIdeal.nD Cert.MemBReferenceIdeal.τ).loc Cert.MemBReferenceIdeal.main_arg1) = m ((c.tc : Thread Cert.MemBReferenceIdeal.nD Cert.MemBReferenceIdeal.τ).loc Cert.MemBReferenceIdeal.main_arg1)
        ∧ r.2.mem ((c.tc : Thread Cert.MemBReferenceIdeal.nD Cert.MemBReferenceIdeal.τ).loc Cert.MemBReferenceIdeal.main_arg2) = m ((c.tc : Thread Cert.MemBReferenceIdeal.nD Cert.MemBReferenceIdeal.τ).loc Cert.MemBReferenceIdeal.main_arg2)
        ∧ r.2.mem ((c.tc : Thread Cert.MemBReferenceIdeal.nD Cert.MemBReferenceIdeal.τ).loc Cert.MemBReferenceIdeal.main_arg3) = m ((c.tc : Thread Cert.MemBReferenceIdeal.nD Cert.MemBReferenceIdeal.τ).loc Cert.MemBReferenceIdeal.main_arg3))
        ∧ r.2.sem = fun _ => 0) :=
  (θ_run Cert.MemBReferenceIdeal.defs _ _).mono (fun r h => ⟨fun c => (h c).2.2, sem_eq_zero_of_no_sems (by decide) r.2⟩)
    (Cert.MemBReferenceIdeal.Value.run (F := Ideal) m g)

/-- The gradient of the latents' norm is its reference, for every memory. -/
theorem mem_b : Cert.algebraic_MemBIdeal_MemBReferenceIdeal (hMemBIdeal := Cert.MemBIdeal.Gen.facts)
    (hMemBReferenceIdeal := Cert.MemBReferenceIdeal.Gen.facts) := by
  pair_intro
  · run_from Cert.MemBIdeal.Gen.run_main m g
  · run_from Cert.MemBReferenceIdeal.Value.run m' g'
    · rw [Cert.MemBReferenceIdeal.Read.val_main_v36_eq]
      exact (Cert.MemBReferenceIdeal.Prod.dx_meet _ _ _ _).trans (Cert.MemBIdeal.Prod.final_rows m c).symm
    · rw [Cert.MemBReferenceIdeal.Read.val_main_v37_eq]
      exact (Cert.MemBReferenceIdeal.Prod.dg_meet _ _).trans (Cert.MemBIdeal.Prod.final_gain m c).symm

/-- The attention's reference runs, leaves its arguments alone and has no counter to leave open. -/
theorem attend_reference_frame (m : (ℓ : Loc Cert.XaFReferenceIdeal.nD Cert.XaFReferenceIdeal.τ Cert.XaFReferenceIdeal.sig) → Buf (Elt Ideal) ℓ)
    (g : Dev Cert.XaFReferenceIdeal.nD → PrngReg) :
    θ_run (Cert.XaFReferenceIdeal.defs (F := Ideal)) (onTc (τ := Cert.XaFReferenceIdeal.τ) (Cert.XaFReferenceIdeal.main (F := Ideal))) ⟨m, fun _ => 0, g⟩
      (fun r => (∀ c : Dev Cert.XaFReferenceIdeal.nD,
        r.2.mem ((c.tc : Thread Cert.XaFReferenceIdeal.nD Cert.XaFReferenceIdeal.τ).loc Cert.XaFReferenceIdeal.main_arg0) = m ((c.tc : Thread Cert.XaFReferenceIdeal.nD Cert.XaFReferenceIdeal.τ).loc Cert.XaFReferenceIdeal.main_arg0)
        ∧ r.2.mem ((c.tc : Thread Cert.XaFReferenceIdeal.nD Cert.XaFReferenceIdeal.τ).loc Cert.XaFReferenceIdeal.main_arg1) = m ((c.tc : Thread Cert.XaFReferenceIdeal.nD Cert.XaFReferenceIdeal.τ).loc Cert.XaFReferenceIdeal.main_arg1))
        ∧ r.2.sem = fun _ => 0) :=
  (θ_run Cert.XaFReferenceIdeal.defs _ _).mono (fun r h => ⟨fun c => (h c).2, sem_eq_zero_of_no_sems (by decide) r.2⟩)
    (Cert.XaFReferenceIdeal.Value.run (F := Ideal) m g)

/-- The cross-attention's output is its reference, for every memory. -/
theorem attend : Cert.algebraic_XaFIdeal_XaFReferenceIdeal (hXaFIdeal := Cert.XaFIdeal.Gen.facts)
    (hXaFReferenceIdeal := Cert.XaFReferenceIdeal.Gen.facts) := by
  pair_intro
  · run_from Cert.XaFIdeal.Gen.run_main m g
  · run_from Cert.XaFReferenceIdeal.Value.run m' g'
    rw [Cert.XaFReferenceIdeal.Read.val_main_v25_eq]
    exact (Cert.XaFReferenceIdeal.Prod.meet _ _).trans (Cert.XaFIdeal.Prod.final m c).symm

/-- The output gate's gradient's reference runs, leaves its arguments alone and has no counter to leave open. -/
theorem glu_b_reference_frame (m : (ℓ : Loc Cert.GluBReferenceIdeal.nD Cert.GluBReferenceIdeal.τ Cert.GluBReferenceIdeal.sig) → Buf (Elt Ideal) ℓ)
    (g : Dev Cert.GluBReferenceIdeal.nD → PrngReg) :
    θ_run (Cert.GluBReferenceIdeal.defs (F := Ideal)) (onTc (τ := Cert.GluBReferenceIdeal.τ) (Cert.GluBReferenceIdeal.main (F := Ideal))) ⟨m, fun _ => 0, g⟩
      (fun r => (∀ c : Dev Cert.GluBReferenceIdeal.nD,
        r.2.mem ((c.tc : Thread Cert.GluBReferenceIdeal.nD Cert.GluBReferenceIdeal.τ).loc Cert.GluBReferenceIdeal.main_arg0) = m ((c.tc : Thread Cert.GluBReferenceIdeal.nD Cert.GluBReferenceIdeal.τ).loc Cert.GluBReferenceIdeal.main_arg0)
        ∧ r.2.mem ((c.tc : Thread Cert.GluBReferenceIdeal.nD Cert.GluBReferenceIdeal.τ).loc Cert.GluBReferenceIdeal.main_arg1) = m ((c.tc : Thread Cert.GluBReferenceIdeal.nD Cert.GluBReferenceIdeal.τ).loc Cert.GluBReferenceIdeal.main_arg1)
        ∧ r.2.mem ((c.tc : Thread Cert.GluBReferenceIdeal.nD Cert.GluBReferenceIdeal.τ).loc Cert.GluBReferenceIdeal.main_arg2) = m ((c.tc : Thread Cert.GluBReferenceIdeal.nD Cert.GluBReferenceIdeal.τ).loc Cert.GluBReferenceIdeal.main_arg2)
        ∧ r.2.mem ((c.tc : Thread Cert.GluBReferenceIdeal.nD Cert.GluBReferenceIdeal.τ).loc Cert.GluBReferenceIdeal.main_arg3) = m ((c.tc : Thread Cert.GluBReferenceIdeal.nD Cert.GluBReferenceIdeal.τ).loc Cert.GluBReferenceIdeal.main_arg3))
        ∧ r.2.sem = fun _ => 0) :=
  (θ_run Cert.GluBReferenceIdeal.defs _ _).mono (fun r h => ⟨fun c => (h c).2.2.2, sem_eq_zero_of_no_sems (by decide) r.2⟩)
    (Cert.GluBReferenceIdeal.Value.run (F := Ideal) m g)

/-- The gradient of the rectified and gated output is its reference, for every memory. -/
theorem glu_b : Cert.algebraic_GluBIdeal_GluBReferenceIdeal (hGluBIdeal := Cert.GluBIdeal.Gen.facts)
    (hGluBReferenceIdeal := Cert.GluBReferenceIdeal.Gen.facts) := by
  pair_intro
  · run_from Cert.GluBIdeal.Gen.run_main m g
  · refine Idealize.ShloMosaic.θ_run_mono (Cert.GluBReferenceIdeal.Value.run m' g') ?_
    intro r hr c
    obtain ⟨hz, hg, hb, ha⟩ := hr c
    refine ⟨hz.trans ?_, hg.trans ?_, hb.trans ?_, ha⟩
    · rw [Cert.GluBReferenceIdeal.Read.val_main_v31_eq, (hagree c).1, (hagree c).2.1, (hagree c).2.2.1, (hagree c).2.2.2]
      exact (Cert.GluBReferenceIdeal.Prod.dz_meet _ _ _ _).trans (Cert.GluBIdeal.Prod.final_dz m c).symm
    · rw [Cert.GluBReferenceIdeal.Read.val_main_v27_eq, (hagree c).1, (hagree c).2.2.1, (hagree c).2.2.2]
      exact (Cert.GluBReferenceIdeal.Prod.dg_meet _ _ _).trans (Cert.GluBIdeal.Prod.final_dg m c).symm
    · rw [Cert.GluBReferenceIdeal.Read.val_main_v30_eq, (hagree c).1, (hagree c).2.1, (hagree c).2.2.1, (hagree c).2.2.2]
      exact (Cert.GluBReferenceIdeal.Prod.db_meet _ _ _ _).trans (Cert.GluBIdeal.Prod.final_db m c).symm

/-- The loss's reference runs, leaves its arguments alone and has no counter to leave open. -/
theorem loss_reference_frame (m : (ℓ : Loc Cert.LossReferenceIdeal.nD Cert.LossReferenceIdeal.τ Cert.LossReferenceIdeal.sig) → Buf (Elt Ideal) ℓ)
    (g : Dev Cert.LossReferenceIdeal.nD → PrngReg) :
    θ_run (Cert.LossReferenceIdeal.defs (F := Ideal)) (onTc (τ := Cert.LossReferenceIdeal.τ) (Cert.LossReferenceIdeal.main (F := Ideal))) ⟨m, fun _ => 0, g⟩
      (fun r => (∀ c : Dev Cert.LossReferenceIdeal.nD,
        r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
        ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
        ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
        ∧ r.2.sem = fun _ => 0) :=
  (θ_run Cert.LossReferenceIdeal.defs _ _).mono (fun r h => ⟨fun c => (h c).2.2.2, sem_eq_zero_of_no_sems (by decide) r.2⟩)
    (Cert.LossReferenceIdeal.Value.run (F := Ideal) m g)

/-- The loss and its gradients are their reference, for every memory. -/
theorem loss : Cert.algebraic_LossIdeal_LossReferenceIdeal (hLossIdeal := Cert.LossIdeal.Gen.facts)
    (hLossReferenceIdeal := Cert.LossReferenceIdeal.Gen.facts) := by
  pair_intro
  · run_from Cert.LossIdeal.Gen.run_main m g
  · run_from Cert.LossReferenceIdeal.Value.run m' g'
    · rw [Cert.LossReferenceIdeal.Read.val_main_v51_eq]
      exact (Cert.LossReferenceIdeal.Prod.loss_meet _ _ _).trans (Cert.LossIdeal.Prod.final_loss m c).symm
    · rw [Cert.LossReferenceIdeal.Read.val_main_v50_eq, (hagree c).1, (hagree c).2.1, (hagree c).2.2]
      exact (Cert.LossReferenceIdeal.Prod.dx_meet _ _ _).trans (Cert.LossIdeal.Prod.final_dx m c).symm
    · rw [Cert.LossReferenceIdeal.Read.val_main_v52_eq]
      exact (Cert.LossReferenceIdeal.Prod.dg_meet _ _ _).trans (Cert.LossIdeal.Prod.final_dg m c).symm

/-- The feed-forward activation's reference runs, leaves its arguments alone and has no counter to leave open. -/
theorem act_f_reference_frame (m : (ℓ : Loc Cert.ActFReferenceIdeal.nD Cert.ActFReferenceIdeal.τ Cert.ActFReferenceIdeal.sig) → Buf (Elt Ideal) ℓ)
    (g : Dev Cert.ActFReferenceIdeal.nD → PrngReg) :
    θ_run (Cert.ActFReferenceIdeal.defs (F := Ideal)) (onTc (τ := Cert.ActFReferenceIdeal.τ) (Cert.ActFReferenceIdeal.main (F := Ideal))) ⟨m, fun _ => 0, g⟩
      (fun r => (∀ c : Dev Cert.ActFReferenceIdeal.nD,
        r.2.mem ((c.tc : Thread Cert.ActFReferenceIdeal.nD Cert.ActFReferenceIdeal.τ).loc Cert.ActFReferenceIdeal.main_arg0) = m ((c.tc : Thread Cert.ActFReferenceIdeal.nD Cert.ActFReferenceIdeal.τ).loc Cert.ActFReferenceIdeal.main_arg0)
        ∧ r.2.mem ((c.tc : Thread Cert.ActFReferenceIdeal.nD Cert.ActFReferenceIdeal.τ).loc Cert.ActFReferenceIdeal.main_arg1) = m ((c.tc : Thread Cert.ActFReferenceIdeal.nD Cert.ActFReferenceIdeal.τ).loc Cert.ActFReferenceIdeal.main_arg1))
        ∧ r.2.sem = fun _ => 0) :=
  (θ_run Cert.ActFReferenceIdeal.defs _ _).mono (fun r h => ⟨fun c => (h c).2, sem_eq_zero_of_no_sems (by decide) r.2⟩)
    (Cert.ActFReferenceIdeal.Value.run (F := Ideal) m g)

/-- The convolved and gated activation is its reference, for every memory. -/
theorem act_f : Cert.algebraic_ActFIdeal_ActFReferenceIdeal (hActFIdeal := Cert.ActFIdeal.Gen.facts)
    (hActFReferenceIdeal := Cert.ActFReferenceIdeal.Gen.facts) := by
  pair_intro
  · run_from Cert.ActFIdeal.Gen.run_main m g
  · run_from Cert.ActFReferenceIdeal.Value.run m' g'
    rw [Cert.ActFReferenceIdeal.Read.val_main_v27_eq, (hagree c).1, (hagree c).2]
    exact (Cert.ActFReferenceIdeal.Prod.meet _ _).trans (Cert.ActFIdeal.Prod.final m c).symm

/-- The gates' reference runs, leaves its arguments alone and has no counter to leave open. -/
theorem gate_f_reference_frame (m : (ℓ : Loc Cert.GateFReferenceIdeal.nD Cert.GateFReferenceIdeal.τ Cert.GateFReferenceIdeal.sig) → Buf (Elt Ideal) ℓ)
    (g : Dev Cert.GateFReferenceIdeal.nD → PrngReg) :
    θ_run (Cert.GateFReferenceIdeal.defs (F := Ideal)) (onTc (τ := Cert.GateFReferenceIdeal.τ) (Cert.GateFReferenceIdeal.main (F := Ideal))) ⟨m, fun _ => 0, g⟩
      (fun r => (∀ c : Dev Cert.GateFReferenceIdeal.nD,
        r.2.mem ((c.tc : Thread Cert.GateFReferenceIdeal.nD Cert.GateFReferenceIdeal.τ).loc Cert.GateFReferenceIdeal.main_arg0) = m ((c.tc : Thread Cert.GateFReferenceIdeal.nD Cert.GateFReferenceIdeal.τ).loc Cert.GateFReferenceIdeal.main_arg0)
        ∧ r.2.mem ((c.tc : Thread Cert.GateFReferenceIdeal.nD Cert.GateFReferenceIdeal.τ).loc Cert.GateFReferenceIdeal.main_arg1) = m ((c.tc : Thread Cert.GateFReferenceIdeal.nD Cert.GateFReferenceIdeal.τ).loc Cert.GateFReferenceIdeal.main_arg1)
        ∧ r.2.mem ((c.tc : Thread Cert.GateFReferenceIdeal.nD Cert.GateFReferenceIdeal.τ).loc Cert.GateFReferenceIdeal.main_arg2) = m ((c.tc : Thread Cert.GateFReferenceIdeal.nD Cert.GateFReferenceIdeal.τ).loc Cert.GateFReferenceIdeal.main_arg2))
        ∧ r.2.sem = fun _ => 0) :=
  (θ_run Cert.GateFReferenceIdeal.defs _ _).mono (fun r h => ⟨fun c => (h c).2.2, sem_eq_zero_of_no_sems (by decide) r.2⟩)
    (Cert.GateFReferenceIdeal.Value.run (F := Ideal) m g)

/-- The gates are their reference, for every memory. -/
theorem gate_f : Cert.algebraic_GateFIdeal_GateFReferenceIdeal (hGateFIdeal := Cert.GateFIdeal.Gen.facts)
    (hGateFReferenceIdeal := Cert.GateFReferenceIdeal.Gen.facts) := by
  pair_intro
  · run_from Cert.GateFIdeal.Gen.run_main m g
  · run_from Cert.GateFReferenceIdeal.Value.run m' g'
    · rw [Cert.GateFReferenceIdeal.Read.val_main_v13_eq]
      exact (Cert.GateFReferenceIdeal.Prod.beta_meet _).trans (Cert.GateFIdeal.Prod.final_beta m c).symm
    · rw [Cert.GateFReferenceIdeal.Read.val_main_v20_eq]
      exact (Cert.GateFReferenceIdeal.Prod.decay_meet _ _ _).trans (Cert.GateFIdeal.Prod.final_decay m c).symm

/-- The convolution's reference runs, leaves its arguments alone and has no counter to leave open. -/
theorem conv_f_reference_frame (m : (ℓ : Loc Cert.ConvFReferenceIdeal.nD Cert.ConvFReferenceIdeal.τ Cert.ConvFReferenceIdeal.sig) → Buf (Elt Ideal) ℓ)
    (g : Dev Cert.ConvFReferenceIdeal.nD → PrngReg) :
    θ_run (Cert.ConvFReferenceIdeal.defs (F := Ideal)) (onTc (τ := Cert.ConvFReferenceIdeal.τ) (Cert.ConvFReferenceIdeal.main (F := Ideal))) ⟨m, fun _ => 0, g⟩
      (fun r => (∀ c : Dev Cert.ConvFReferenceIdeal.nD,
        r.2.mem ((c.tc : Thread Cert.ConvFReferenceIdeal.nD Cert.ConvFReferenceIdeal.τ).loc Cert.ConvFReferenceIdeal.main_arg0) = m ((c.tc : Thread Cert.ConvFReferenceIdeal.nD Cert.ConvFReferenceIdeal.τ).loc Cert.ConvFReferenceIdeal.main_arg0)
        ∧ r.2.mem ((c.tc : Thread Cert.ConvFReferenceIdeal.nD Cert.ConvFReferenceIdeal.τ).loc Cert.ConvFReferenceIdeal.main_arg1) = m ((c.tc : Thread Cert.ConvFReferenceIdeal.nD Cert.ConvFReferenceIdeal.τ).loc Cert.ConvFReferenceIdeal.main_arg1))
        ∧ r.2.sem = fun _ => 0) :=
  (θ_run Cert.ConvFReferenceIdeal.defs _ _).mono (fun r h => ⟨fun c => (h c).2, sem_eq_zero_of_no_sems (by decide) r.2⟩)
    (Cert.ConvFReferenceIdeal.Value.run (F := Ideal) m g)

/-- The convolved, gated and normed heads are their reference, for every memory. -/
theorem conv_f : Cert.algebraic_ConvFIdeal_ConvFReferenceIdeal (hConvFIdeal := Cert.ConvFIdeal.Gen.facts)
    (hConvFReferenceIdeal := Cert.ConvFReferenceIdeal.Gen.facts) := by
  pair_intro
  · run_from Cert.ConvFIdeal.Gen.run_main m g
  · run_from Cert.ConvFReferenceIdeal.Value.run m' g'
    rw [Cert.ConvFReferenceIdeal.Read.val_main_v56_eq, (hagree c).1, (hagree c).2]
    exact (Cert.ConvFReferenceIdeal.Prod.meet _ _).trans (Cert.ConvFIdeal.Prod.final m c).symm

/-- The output gate's reference runs, leaves its arguments alone and has no counter to leave open. -/
theorem glu_a_reference_frame (m : (ℓ : Loc Cert.GluAReferenceIdeal.nD Cert.GluAReferenceIdeal.τ Cert.GluAReferenceIdeal.sig) → Buf (Elt Ideal) ℓ)
    (g : Dev Cert.GluAReferenceIdeal.nD → PrngReg) :
    θ_run (Cert.GluAReferenceIdeal.defs (F := Ideal)) (onTc (τ := Cert.GluAReferenceIdeal.τ) (Cert.GluAReferenceIdeal.main (F := Ideal))) ⟨m, fun _ => 0, g⟩
      (fun r => (∀ c : Dev Cert.GluAReferenceIdeal.nD,
        r.2.mem ((c.tc : Thread Cert.GluAReferenceIdeal.nD Cert.GluAReferenceIdeal.τ).loc Cert.GluAReferenceIdeal.main_arg0) = m ((c.tc : Thread Cert.GluAReferenceIdeal.nD Cert.GluAReferenceIdeal.τ).loc Cert.GluAReferenceIdeal.main_arg0)
        ∧ r.2.mem ((c.tc : Thread Cert.GluAReferenceIdeal.nD Cert.GluAReferenceIdeal.τ).loc Cert.GluAReferenceIdeal.main_arg1) = m ((c.tc : Thread Cert.GluAReferenceIdeal.nD Cert.GluAReferenceIdeal.τ).loc Cert.GluAReferenceIdeal.main_arg1)
        ∧ r.2.mem ((c.tc : Thread Cert.GluAReferenceIdeal.nD Cert.GluAReferenceIdeal.τ).loc Cert.GluAReferenceIdeal.main_arg2) = m ((c.tc : Thread Cert.GluAReferenceIdeal.nD Cert.GluAReferenceIdeal.τ).loc Cert.GluAReferenceIdeal.main_arg2)
        ∧ r.2.mem ((c.tc : Thread Cert.GluAReferenceIdeal.nD Cert.GluAReferenceIdeal.τ).loc Cert.GluAReferenceIdeal.main_arg3) = m ((c.tc : Thread Cert.GluAReferenceIdeal.nD Cert.GluAReferenceIdeal.τ).loc Cert.GluAReferenceIdeal.main_arg3))
        ∧ r.2.sem = fun _ => 0) :=
  (θ_run Cert.GluAReferenceIdeal.defs _ _).mono (fun r h => ⟨fun c => (h c).2, sem_eq_zero_of_no_sems (by decide) r.2⟩)
    (Cert.GluAReferenceIdeal.Value.run (F := Ideal) m g)

/-- The gated output is its reference, for every memory. -/
theorem glu_a : Cert.algebraic_GluAIdeal_GluAReferenceIdeal (hGluAIdeal := Cert.GluAIdeal.Gen.facts)
    (hGluAReferenceIdeal := Cert.GluAReferenceIdeal.Gen.facts) := by
  pair_intro
  · run_from Cert.GluAIdeal.Gen.run_main m g
  · run_from Cert.GluAReferenceIdeal.Value.run m' g'
    rw [Cert.GluAReferenceIdeal.Read.val_main_v24_eq, (hagree c).2.2.2]
    exact (Cert.GluAReferenceIdeal.Prod.meet _ _ _ _).trans (Cert.GluAIdeal.Prod.final m c).symm

/-- Every claim of the certificate. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Act.Gen.facts, Cert.ActIdeal.Gen.facts, Cert.ActReferenceIdeal.Gen.facts,
  Cert.UpW.Gen.facts, Cert.UpWIdeal.Gen.facts, Cert.UpWReferenceIdeal.Gen.facts,
  Cert.DownX.Gen.facts, Cert.DownXIdeal.Gen.facts, Cert.DownXReferenceIdeal.Gen.facts,
  Cert.DownW.Gen.facts, Cert.DownWIdeal.Gen.facts, Cert.DownWReferenceIdeal.Gen.facts,
  Cert.SqW.Gen.facts, Cert.SqWIdeal.Gen.facts, Cert.SqWReferenceIdeal.Gen.facts,
  Cert.QW.Gen.facts, Cert.QWIdeal.Gen.facts, Cert.QWReferenceIdeal.Gen.facts,
  Cert.InWb.Gen.facts, Cert.InWbIdeal.Gen.facts, Cert.InWbReferenceIdeal.Gen.facts,
  Cert.InWa.Gen.facts, Cert.InWaIdeal.Gen.facts, Cert.InWaReferenceIdeal.Gen.facts,
  Cert.SqX.Gen.facts, Cert.SqXIdeal.Gen.facts, Cert.SqXReferenceIdeal.Gen.facts,
  Cert.InXb.Gen.facts, Cert.InXbIdeal.Gen.facts, Cert.InXbReferenceIdeal.Gen.facts,
  Cert.InXa.Gen.facts, Cert.InXaIdeal.Gen.facts, Cert.InXaReferenceIdeal.Gen.facts,
  Cert.QX.Gen.facts, Cert.QXIdeal.Gen.facts, Cert.QXReferenceIdeal.Gen.facts,
  Cert.FfnUp.Gen.facts, Cert.FfnUpIdeal.Gen.facts, Cert.FfnUpReferenceIdeal.Gen.facts,
  Cert.Inb.Gen.facts, Cert.InbIdeal.Gen.facts, Cert.InbReferenceIdeal.Gen.facts,
  Cert.Ina.Gen.facts, Cert.InaIdeal.Gen.facts, Cert.InaReferenceIdeal.Gen.facts,
  Cert.Qf.Gen.facts, Cert.QfIdeal.Gen.facts, Cert.QfReferenceIdeal.Gen.facts,
  Cert.Out.Gen.facts, Cert.OutIdeal.Gen.facts, Cert.OutReferenceIdeal.Gen.facts,
  Cert.Down.Gen.facts, Cert.DownIdeal.Gen.facts, Cert.DownReferenceIdeal.Gen.facts,
  Cert.DownB.Gen.facts, Cert.DownBIdeal.Gen.facts, Cert.DownBReferenceIdeal.Gen.facts,
  Cert.GluF.Gen.facts, Cert.GluFIdeal.Gen.facts, Cert.GluFReferenceIdeal.Gen.facts,
  Cert.GluW.Gen.facts, Cert.GluWIdeal.Gen.facts, Cert.GluWReferenceIdeal.Gen.facts,
  Cert.GluX.Gen.facts, Cert.GluXIdeal.Gen.facts, Cert.GluXReferenceIdeal.Gen.facts,
  Cert.KvF.Gen.facts, Cert.KvFIdeal.Gen.facts, Cert.KvFReferenceIdeal.Gen.facts,
  Cert.KvW.Gen.facts, Cert.KvWIdeal.Gen.facts, Cert.KvWReferenceIdeal.Gen.facts,
  Cert.KvX.Gen.facts, Cert.KvXIdeal.Gen.facts, Cert.KvXReferenceIdeal.Gen.facts,
  Cert.NormF.Gen.facts, Cert.NormFIdeal.Gen.facts, Cert.NormFReferenceIdeal.Gen.facts,
  Cert.MemF.Gen.facts, Cert.MemFIdeal.Gen.facts, Cert.MemFReferenceIdeal.Gen.facts,
  Cert.MemB.Gen.facts, Cert.MemBIdeal.Gen.facts, Cert.MemBReferenceIdeal.Gen.facts,
  Cert.XaF.Gen.facts, Cert.XaFIdeal.Gen.facts, Cert.XaFReferenceIdeal.Gen.facts,
  Cert.GluB.Gen.facts, Cert.GluBIdeal.Gen.facts, Cert.GluBReferenceIdeal.Gen.facts,
  Cert.Loss.Gen.facts, Cert.LossIdeal.Gen.facts, Cert.LossReferenceIdeal.Gen.facts,
  Cert.ActF.Gen.facts, Cert.ActFIdeal.Gen.facts, Cert.ActFReferenceIdeal.Gen.facts,
  Cert.GateF.Gen.facts, Cert.GateFIdeal.Gen.facts, Cert.GateFReferenceIdeal.Gen.facts,
  Cert.ConvF.Gen.facts, Cert.ConvFIdeal.Gen.facts, Cert.ConvFReferenceIdeal.Gen.facts,
  Cert.GluA.Gen.facts, Cert.GluAIdeal.Gen.facts, Cert.GluAReferenceIdeal.Gen.facts,
  Cert.Pre_finite_scores.proven, Cert.Pre_finite_act.proven,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Up.Gen.frame m ρ, fun m ρ _ => Cert.UpIdeal.Gen.frame m ρ, fun m ρ _ => up_reference_frame m ρ,
  fun m ρ _ => Cert.Act.Gen.frame m ρ, fun m ρ _ => Cert.ActIdeal.Gen.frame m ρ, fun m ρ _ => Cert.ActIdeal.Gen.frame m ρ,
  fun m ρ _ => act_reference_frame m ρ, fun m ρ _ => act_reference_frame m ρ,
  fun m ρ _ => Cert.UpW.Gen.frame m ρ, fun m ρ _ => Cert.UpWIdeal.Gen.frame m ρ, fun m ρ _ => up_w_reference_frame m ρ,
  fun m ρ _ => Cert.DownX.Gen.frame m ρ, fun m ρ _ => Cert.DownXIdeal.Gen.frame m ρ, fun m ρ _ => down_x_reference_frame m ρ,
  fun m ρ _ => Cert.DownW.Gen.frame m ρ, fun m ρ _ => Cert.DownWIdeal.Gen.frame m ρ, fun m ρ _ => down_w_reference_frame m ρ,
  fun m ρ _ => Cert.SqW.Gen.frame m ρ, fun m ρ _ => Cert.SqWIdeal.Gen.frame m ρ, fun m ρ _ => square_w_reference_frame m ρ,
  fun m ρ _ => Cert.QW.Gen.frame m ρ, fun m ρ _ => Cert.QWIdeal.Gen.frame m ρ, fun m ρ _ => query_w_reference_frame m ρ,
  fun m ρ _ => Cert.InWb.Gen.frame m ρ, fun m ρ _ => Cert.InWbIdeal.Gen.frame m ρ, fun m ρ _ => in_w_b_reference_frame m ρ,
  fun m ρ _ => Cert.InWa.Gen.frame m ρ, fun m ρ _ => Cert.InWaIdeal.Gen.frame m ρ, fun m ρ _ => in_w_a_reference_frame m ρ,
  fun m ρ _ => Cert.SqX.Gen.frame m ρ, fun m ρ _ => Cert.SqXIdeal.Gen.frame m ρ, fun m ρ _ => square_x_reference_frame m ρ,
  fun m ρ _ => Cert.InXb.Gen.frame m ρ, fun m ρ _ => Cert.InXbIdeal.Gen.frame m ρ, fun m ρ _ => in_x_b_reference_frame m ρ,
  fun m ρ _ => Cert.InXa.Gen.frame m ρ, fun m ρ _ => Cert.InXaIdeal.Gen.frame m ρ, fun m ρ _ => in_x_a_reference_frame m ρ,
  fun m ρ _ => Cert.QX.Gen.frame m ρ, fun m ρ _ => Cert.QXIdeal.Gen.frame m ρ, fun m ρ _ => query_x_reference_frame m ρ,
  fun m ρ _ => Cert.FfnUp.Gen.frame m ρ, fun m ρ _ => Cert.FfnUpIdeal.Gen.frame m ρ, fun m ρ _ => ffn_up_reference_frame m ρ,
  fun m ρ _ => Cert.Inb.Gen.frame m ρ, fun m ρ _ => Cert.InbIdeal.Gen.frame m ρ, fun m ρ _ => in_b_reference_frame m ρ,
  fun m ρ _ => Cert.Ina.Gen.frame m ρ, fun m ρ _ => Cert.InaIdeal.Gen.frame m ρ, fun m ρ _ => in_a_reference_frame m ρ,
  fun m ρ _ => Cert.Qf.Gen.frame m ρ, fun m ρ _ => Cert.QfIdeal.Gen.frame m ρ, fun m ρ _ => query_reference_frame m ρ,
  fun m ρ _ => Cert.Out.Gen.frame m ρ, fun m ρ _ => Cert.OutIdeal.Gen.frame m ρ, fun m ρ _ => out_reference_frame m ρ,
  fun m ρ _ => Cert.Down.Gen.frame m ρ, fun m ρ _ => Cert.DownIdeal.Gen.frame m ρ, fun m ρ _ => down_reference_frame m ρ,
  fun m ρ _ => Cert.DownB.Gen.frame m ρ, fun m ρ _ => Cert.DownBIdeal.Gen.frame m ρ, fun m ρ _ => down_b_reference_frame m ρ,
  fun m ρ _ => Cert.GluF.Gen.frame m ρ, fun m ρ _ => Cert.GluFIdeal.Gen.frame m ρ, fun m ρ _ => glu_f_reference_frame m ρ,
  fun m ρ _ => Cert.GluW.Gen.frame m ρ, fun m ρ _ => Cert.GluWIdeal.Gen.frame m ρ, fun m ρ _ => glu_w_reference_frame m ρ,
  fun m ρ _ => Cert.GluX.Gen.frame m ρ, fun m ρ _ => Cert.GluXIdeal.Gen.frame m ρ, fun m ρ _ => glu_x_reference_frame m ρ,
  fun m ρ _ => Cert.KvF.Gen.frame m ρ, fun m ρ _ => Cert.KvFIdeal.Gen.frame m ρ, fun m ρ _ => kv_f_reference_frame m ρ,
  fun m ρ _ => Cert.KvW.Gen.frame m ρ, fun m ρ _ => Cert.KvWIdeal.Gen.frame m ρ, fun m ρ _ => kv_w_reference_frame m ρ,
  fun m ρ _ => Cert.KvX.Gen.frame m ρ, fun m ρ _ => Cert.KvXIdeal.Gen.frame m ρ, fun m ρ _ => kv_x_reference_frame m ρ,
  fun m ρ _ => Cert.NormF.Gen.frame m ρ, fun m ρ _ => Cert.NormFIdeal.Gen.frame m ρ, fun m ρ _ => norm_f_reference_frame m ρ,
  fun m ρ _ => Cert.MemF.Gen.frame m ρ, fun m ρ _ => Cert.MemFIdeal.Gen.frame m ρ, fun m ρ _ => mem_f_reference_frame m ρ,
  fun m ρ _ => Cert.MemB.Gen.frame m ρ, fun m ρ _ => Cert.MemBIdeal.Gen.frame m ρ, fun m ρ _ => mem_b_reference_frame m ρ,
  fun m ρ _ => Cert.XaF.Gen.frame m ρ, fun m ρ _ => Cert.XaFIdeal.Gen.frame m ρ, fun m ρ _ => attend_reference_frame m ρ,
  fun m ρ _ => Cert.GluB.Gen.frame m ρ, fun m ρ _ => Cert.GluBIdeal.Gen.frame m ρ, fun m ρ _ => glu_b_reference_frame m ρ,
  fun m ρ _ => Cert.Loss.Gen.frame m ρ, fun m ρ _ => Cert.LossIdeal.Gen.frame m ρ, fun m ρ _ => loss_reference_frame m ρ,
  fun m ρ _ => Cert.ActF.Gen.frame m ρ, fun m ρ _ => Cert.ActFIdeal.Gen.frame m ρ, fun m ρ _ => act_f_reference_frame m ρ,
  fun m ρ _ => Cert.GateF.Gen.frame m ρ, fun m ρ _ => Cert.GateFIdeal.Gen.frame m ρ, fun m ρ _ => gate_f_reference_frame m ρ,
  fun m ρ _ => Cert.ConvF.Gen.frame m ρ, fun m ρ _ => Cert.ConvFIdeal.Gen.frame m ρ, fun m ρ _ => conv_f_reference_frame m ρ,
  fun m ρ _ => Cert.GluA.Gen.frame m ρ, fun m ρ _ => Cert.GluAIdeal.Gen.frame m ρ, fun m ρ _ => glu_a_reference_frame m ρ,
  trivial, attention, trivial, up, trivial, act, trivial, up_w, trivial, down_x, trivial, down_w,
  trivial, square_w, trivial, query_w, trivial, in_w_b, trivial, in_w_a, trivial, square_x, trivial, in_x_b, trivial, in_x_a, trivial, query_x, trivial, ffn_up, trivial, in_b, trivial, in_a, trivial, query, trivial, out, trivial, down,
  trivial, down_b, trivial, glu_f, trivial, glu_w, trivial, glu_x, trivial, kv_f, trivial, kv_w, trivial, kv_x, trivial, norm_f, trivial, mem_f, trivial, mem_b, trivial, attend, trivial, glu_b, trivial, loss, trivial, act_f, trivial, gate_f, trivial, conv_f, trivial, glu_a⟩

end Cert.Proof

end
